-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelWin (m : (ℓ : Loc Cert.KernelWin.nD Cert.KernelWin.τ Cert.KernelWin.sig) → Buf (Elt Bits) ℓ) : Prop :=
  True

def Pre_KernelWinIdeal (m : (ℓ : Loc Cert.KernelWinIdeal.nD Cert.KernelWinIdeal.τ Cert.KernelWinIdeal.sig) → Buf (Elt Ideal) ℓ) : Prop :=
  True

def Pre_ReferenceWinIdeal (m : (ℓ : Loc Cert.ReferenceWinIdeal.nD Cert.ReferenceWinIdeal.τ Cert.ReferenceWinIdeal.sig) → Buf (Elt Ideal) ℓ) : Prop :=
  True

def Pre_KernelWout (m : (ℓ : Loc Cert.KernelWout.nD Cert.KernelWout.τ Cert.KernelWout.sig) → Buf (Elt Bits) ℓ) : Prop :=
  True

def Pre_KernelWoutIdeal (m : (ℓ : Loc Cert.KernelWoutIdeal.nD Cert.KernelWoutIdeal.τ Cert.KernelWoutIdeal.sig) → Buf (Elt Ideal) ℓ) : Prop :=
  True

def Pre_ReferenceWoutIdeal (m : (ℓ : Loc Cert.ReferenceWoutIdeal.nD Cert.ReferenceWoutIdeal.τ Cert.ReferenceWoutIdeal.sig) → Buf (Elt Ideal) ℓ) : Prop :=
  True

def Pre_KernelWgate (m : (ℓ : Loc Cert.KernelWgate.nD Cert.KernelWgate.τ Cert.KernelWgate.sig) → Buf (Elt Bits) ℓ) : Prop :=
  True

def Pre_KernelWgateIdeal (m : (ℓ : Loc Cert.KernelWgateIdeal.nD Cert.KernelWgateIdeal.τ Cert.KernelWgateIdeal.sig) → Buf (Elt Ideal) ℓ) : Prop :=
  True

def Pre_ReferenceWgateIdeal (m : (ℓ : Loc Cert.ReferenceWgateIdeal.nD Cert.ReferenceWgateIdeal.τ Cert.ReferenceWgateIdeal.sig) → Buf (Elt Ideal) ℓ) : Prop :=
  True

def Pre_KernelWproj (m : (ℓ : Loc Cert.KernelWproj.nD Cert.KernelWproj.τ Cert.KernelWproj.sig) → Buf (Elt Bits) ℓ) : Prop :=
  True

def Pre_KernelWprojIdeal (m : (ℓ : Loc Cert.KernelWprojIdeal.nD Cert.KernelWprojIdeal.τ Cert.KernelWprojIdeal.sig) → Buf (Elt Ideal) ℓ) : Prop :=
  True

def Pre_ReferenceWprojIdeal (m : (ℓ : Loc Cert.ReferenceWprojIdeal.nD Cert.ReferenceWprojIdeal.τ Cert.ReferenceWprojIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelBin (m : (ℓ : Loc Cert.KernelBin.nD Cert.KernelBin.τ Cert.KernelBin.sig) → Buf (Elt Bits) ℓ) : Prop :=
  True

def Pre_KernelBinIdeal (m : (ℓ : Loc Cert.KernelBinIdeal.nD Cert.KernelBinIdeal.τ Cert.KernelBinIdeal.sig) → Buf (Elt Ideal) ℓ) : Prop :=
  True

def Pre_ReferenceBinIdeal (m : (ℓ : Loc Cert.ReferenceBinIdeal.nD Cert.ReferenceBinIdeal.τ Cert.ReferenceBinIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelBout (m : (ℓ : Loc Cert.KernelBout.nD Cert.KernelBout.τ Cert.KernelBout.sig) → Buf (Elt Bits) ℓ) : Prop :=
  True

def Pre_KernelBoutIdeal (m : (ℓ : Loc Cert.KernelBoutIdeal.nD Cert.KernelBoutIdeal.τ Cert.KernelBoutIdeal.sig) → Buf (Elt Ideal) ℓ) : Prop :=
  True

def Pre_ReferenceBoutIdeal (m : (ℓ : Loc Cert.ReferenceBoutIdeal.nD Cert.ReferenceBoutIdeal.τ Cert.ReferenceBoutIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelTotal (m : (ℓ : Loc Cert.KernelTotal.nD Cert.KernelTotal.τ Cert.KernelTotal.sig) → Buf (Elt Bits) ℓ) : Prop :=
  True

def Pre_KernelTotalIdeal (m : (ℓ : Loc Cert.KernelTotalIdeal.nD Cert.KernelTotalIdeal.τ Cert.KernelTotalIdeal.sig) → Buf (Elt Ideal) ℓ) : Prop :=
  True

def Pre_ReferenceTotalIdeal (m : (ℓ : Loc Cert.ReferenceTotalIdeal.nD Cert.ReferenceTotalIdeal.τ Cert.ReferenceTotalIdeal.sig) → Buf (Elt Ideal) ℓ) : Prop :=
  True

def Pre_KernelUin (m : (ℓ : Loc Cert.KernelUin.nD Cert.KernelUin.τ Cert.KernelUin.sig) → Buf (Elt Bits) ℓ) : Prop :=
  True

def Pre_KernelUinIdeal (m : (ℓ : Loc Cert.KernelUinIdeal.nD Cert.KernelUinIdeal.τ Cert.KernelUinIdeal.sig) → Buf (Elt Ideal) ℓ) : Prop :=
  True

def Pre_ReferenceUinIdeal (m : (ℓ : Loc Cert.ReferenceUinIdeal.nD Cert.ReferenceUinIdeal.τ Cert.ReferenceUinIdeal.sig) → Buf (Elt Ideal) ℓ) : Prop :=
  True

def Pre_KernelUout (m : (ℓ : Loc Cert.KernelUout.nD Cert.KernelUout.τ Cert.KernelUout.sig) → Buf (Elt Bits) ℓ) : Prop :=
  True

def Pre_KernelUoutIdeal (m : (ℓ : Loc Cert.KernelUoutIdeal.nD Cert.KernelUoutIdeal.τ Cert.KernelUoutIdeal.sig) → Buf (Elt Ideal) ℓ) : Prop :=
  True

def Pre_ReferenceUoutIdeal (m : (ℓ : Loc Cert.ReferenceUoutIdeal.nD Cert.ReferenceUoutIdeal.τ Cert.ReferenceUoutIdeal.sig) → Buf (Elt Ideal) ℓ) : Prop :=
  True

def Pre_KernelUgate (m : (ℓ : Loc Cert.KernelUgate.nD Cert.KernelUgate.τ Cert.KernelUgate.sig) → Buf (Elt Bits) ℓ) : Prop :=
  True

def Pre_KernelUgateIdeal (m : (ℓ : Loc Cert.KernelUgateIdeal.nD Cert.KernelUgateIdeal.τ Cert.KernelUgateIdeal.sig) → Buf (Elt Ideal) ℓ) : Prop :=
  True

def Pre_ReferenceUgateIdeal (m : (ℓ : Loc Cert.ReferenceUgateIdeal.nD Cert.ReferenceUgateIdeal.τ Cert.ReferenceUgateIdeal.sig) → Buf (Elt Ideal) ℓ) : Prop :=
  True

def Pre_KernelUproj (m : (ℓ : Loc Cert.KernelUproj.nD Cert.KernelUproj.τ Cert.KernelUproj.sig) → Buf (Elt Bits) ℓ) : Prop :=
  True

def Pre_KernelUprojIdeal (m : (ℓ : Loc Cert.KernelUprojIdeal.nD Cert.KernelUprojIdeal.τ Cert.KernelUprojIdeal.sig) → Buf (Elt Ideal) ℓ) : Prop :=
  True

def Pre_ReferenceUprojIdeal (m : (ℓ : Loc Cert.ReferenceUprojIdeal.nD Cert.ReferenceUprojIdeal.τ Cert.ReferenceUprojIdeal.sig) → Buf (Elt Ideal) ℓ) : Prop :=
  True

def Pre_KernelUsmall (m : (ℓ : Loc Cert.KernelUsmall.nD Cert.KernelUsmall.τ Cert.KernelUsmall.sig) → Buf (Elt Bits) ℓ) : Prop :=
  True

def Pre_KernelUsmallIdeal (m : (ℓ : Loc Cert.KernelUsmallIdeal.nD Cert.KernelUsmallIdeal.τ Cert.KernelUsmallIdeal.sig) → Buf (Elt Ideal) ℓ) : Prop :=
  True

def Pre_ReferenceUsmallIdeal (m : (ℓ : Loc Cert.ReferenceUsmallIdeal.nD Cert.ReferenceUsmallIdeal.τ Cert.ReferenceUsmallIdeal.sig) → Buf (Elt Ideal) ℓ) : Prop :=
  True

def Pre_KernelPair (m : (ℓ : Loc Cert.KernelPair.nD Cert.KernelPair.τ Cert.KernelPair.sig) → Buf (Elt Bits) ℓ) : Prop :=
  True

def Pre_KernelPairIdeal (m : (ℓ : Loc Cert.KernelPairIdeal.nD Cert.KernelPairIdeal.τ Cert.KernelPairIdeal.sig) → Buf (Elt Ideal) ℓ) : Prop :=
  True

def Pre_ReferencePairIdeal (m : (ℓ : Loc Cert.ReferencePairIdeal.nD Cert.ReferencePairIdeal.τ Cert.ReferencePairIdeal.sig) → Buf (Elt Ideal) ℓ) : Prop :=
  True

def Pre_KernelPairSmall (m : (ℓ : Loc Cert.KernelPairSmall.nD Cert.KernelPairSmall.τ Cert.KernelPairSmall.sig) → Buf (Elt Bits) ℓ) : Prop :=
  True

def Pre_KernelPairSmallIdeal (m : (ℓ : Loc Cert.KernelPairSmallIdeal.nD Cert.KernelPairSmallIdeal.τ Cert.KernelPairSmallIdeal.sig) → Buf (Elt Ideal) ℓ) : Prop :=
  True

def Pre_ReferencePairSmallIdeal (m : (ℓ : Loc Cert.ReferencePairSmallIdeal.nD Cert.ReferencePairSmallIdeal.τ Cert.ReferencePairSmallIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelWin [hKernelWin : Cert.KernelWin.Facts] : Prop :=
  ∀ (m : (ℓ : Loc Cert.KernelWin.nD Cert.KernelWin.τ Cert.KernelWin.sig) → Buf (Elt Bits) ℓ) (g : Dev Cert.KernelWin.nD → PrngReg), Pre_KernelWin m →
    θ_run (Cert.KernelWin.defs (F := Bits)) (onTc (τ := Cert.KernelWin.τ) (Cert.KernelWin.main (F := Bits))) ⟨m, fun _ => 0, g⟩ (fun r => (∀ c : Dev Cert.KernelWin.nD,
      r.2.mem ((c.tc : Thread Cert.KernelWin.nD Cert.KernelWin.τ).loc Cert.KernelWin.main_arg0) = m ((c.tc : Thread Cert.KernelWin.nD Cert.KernelWin.τ).loc Cert.KernelWin.main_arg0)
      ∧ r.2.mem ((c.tc : Thread Cert.KernelWin.nD Cert.KernelWin.τ).loc Cert.KernelWin.main_arg1) = m ((c.tc : Thread Cert.KernelWin.nD Cert.KernelWin.τ).loc Cert.KernelWin.main_arg1))
      ∧ r.2.sem = fun _ => 0)

def quiescent_KernelWinIdeal [hKernelWinIdeal : Cert.KernelWinIdeal.Facts] : Prop :=
  ∀ (m : (ℓ : Loc Cert.KernelWinIdeal.nD Cert.KernelWinIdeal.τ Cert.KernelWinIdeal.sig) → Buf (Elt Ideal) ℓ) (g : Dev Cert.KernelWinIdeal.nD → PrngReg), Pre_KernelWinIdeal m →
    θ_run (Cert.KernelWinIdeal.defs (F := Ideal)) (onTc (τ := Cert.KernelWinIdeal.τ) (Cert.KernelWinIdeal.main (F := Ideal))) ⟨m, fun _ => 0, g⟩ (fun r => (∀ c : Dev Cert.KernelWinIdeal.nD,
      r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
      ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1))
      ∧ r.2.sem = fun _ => 0)

def quiescent_ReferenceWinIdeal [hReferenceWinIdeal : Cert.ReferenceWinIdeal.Facts] : Prop :=
  ∀ (m : (ℓ : Loc Cert.ReferenceWinIdeal.nD Cert.ReferenceWinIdeal.τ Cert.ReferenceWinIdeal.sig) → Buf (Elt Ideal) ℓ) (g : Dev Cert.ReferenceWinIdeal.nD → PrngReg), Pre_ReferenceWinIdeal m →
    θ_run (Cert.ReferenceWinIdeal.defs (F := Ideal)) (onTc (τ := Cert.ReferenceWinIdeal.τ) (Cert.ReferenceWinIdeal.main (F := Ideal))) ⟨m, fun _ => 0, g⟩ (fun r => (∀ c : Dev Cert.ReferenceWinIdeal.nD,
      r.2.mem ((c.tc : Thread Cert.ReferenceWinIdeal.nD Cert.ReferenceWinIdeal.τ).loc Cert.ReferenceWinIdeal.main_arg0) = m ((c.tc : Thread Cert.ReferenceWinIdeal.nD Cert.ReferenceWinIdeal.τ).loc Cert.ReferenceWinIdeal.main_arg0)
      ∧ r.2.mem ((c.tc : Thread Cert.ReferenceWinIdeal.nD Cert.ReferenceWinIdeal.τ).loc Cert.ReferenceWinIdeal.main_arg1) = m ((c.tc : Thread Cert.ReferenceWinIdeal.nD Cert.ReferenceWinIdeal.τ).loc Cert.ReferenceWinIdeal.main_arg1))
      ∧ r.2.sem = fun _ => 0)

def quiescent_KernelWout [hKernelWout : Cert.KernelWout.Facts] : Prop :=
  ∀ (m : (ℓ : Loc Cert.KernelWout.nD Cert.KernelWout.τ Cert.KernelWout.sig) → Buf (Elt Bits) ℓ) (g : Dev Cert.KernelWout.nD → PrngReg), Pre_KernelWout m →
    θ_run (Cert.KernelWout.defs (F := Bits)) (onTc (τ := Cert.KernelWout.τ) (Cert.KernelWout.main (F := Bits))) ⟨m, fun _ => 0, g⟩ (fun r => (∀ c : Dev Cert.KernelWout.nD,
      r.2.mem ((c.tc : Thread Cert.KernelWout.nD Cert.KernelWout.τ).loc Cert.KernelWout.main_arg0) = m ((c.tc : Thread Cert.KernelWout.nD Cert.KernelWout.τ).loc Cert.KernelWout.main_arg0)
      ∧ r.2.mem ((c.tc : Thread Cert.KernelWout.nD Cert.KernelWout.τ).loc Cert.KernelWout.main_arg1) = m ((c.tc : Thread Cert.KernelWout.nD Cert.KernelWout.τ).loc Cert.KernelWout.main_arg1))
      ∧ r.2.sem = fun _ => 0)

def quiescent_KernelWoutIdeal [hKernelWoutIdeal : Cert.KernelWoutIdeal.Facts] : Prop :=
  ∀ (m : (ℓ : Loc Cert.KernelWoutIdeal.nD Cert.KernelWoutIdeal.τ Cert.KernelWoutIdeal.sig) → Buf (Elt Ideal) ℓ) (g : Dev Cert.KernelWoutIdeal.nD → PrngReg), Pre_KernelWoutIdeal m →
    θ_run (Cert.KernelWoutIdeal.defs (F := Ideal)) (onTc (τ := Cert.KernelWoutIdeal.τ) (Cert.KernelWoutIdeal.main (F := Ideal))) ⟨m, fun _ => 0, g⟩ (fun r => (∀ c : Dev Cert.KernelWoutIdeal.nD,
      r.2.mem ((c.tc : Thread Cert.KernelWoutIdeal.nD Cert.KernelWoutIdeal.τ).loc Cert.KernelWoutIdeal.main_arg0) = m ((c.tc : Thread Cert.KernelWoutIdeal.nD Cert.KernelWoutIdeal.τ).loc Cert.KernelWoutIdeal.main_arg0)
      ∧ r.2.mem ((c.tc : Thread Cert.KernelWoutIdeal.nD Cert.KernelWoutIdeal.τ).loc Cert.KernelWoutIdeal.main_arg1) = m ((c.tc : Thread Cert.KernelWoutIdeal.nD Cert.KernelWoutIdeal.τ).loc Cert.KernelWoutIdeal.main_arg1))
      ∧ r.2.sem = fun _ => 0)

def quiescent_ReferenceWoutIdeal [hReferenceWoutIdeal : Cert.ReferenceWoutIdeal.Facts] : Prop :=
  ∀ (m : (ℓ : Loc Cert.ReferenceWoutIdeal.nD Cert.ReferenceWoutIdeal.τ Cert.ReferenceWoutIdeal.sig) → Buf (Elt Ideal) ℓ) (g : Dev Cert.ReferenceWoutIdeal.nD → PrngReg), Pre_ReferenceWoutIdeal m →
    θ_run (Cert.ReferenceWoutIdeal.defs (F := Ideal)) (onTc (τ := Cert.ReferenceWoutIdeal.τ) (Cert.ReferenceWoutIdeal.main (F := Ideal))) ⟨m, fun _ => 0, g⟩ (fun r => (∀ c : Dev Cert.ReferenceWoutIdeal.nD,
      r.2.mem ((c.tc : Thread Cert.ReferenceWoutIdeal.nD Cert.ReferenceWoutIdeal.τ).loc Cert.ReferenceWoutIdeal.main_arg0) = m ((c.tc : Thread Cert.ReferenceWoutIdeal.nD Cert.ReferenceWoutIdeal.τ).loc Cert.ReferenceWoutIdeal.main_arg0)
      ∧ r.2.mem ((c.tc : Thread Cert.ReferenceWoutIdeal.nD Cert.ReferenceWoutIdeal.τ).loc Cert.ReferenceWoutIdeal.main_arg1) = m ((c.tc : Thread Cert.ReferenceWoutIdeal.nD Cert.ReferenceWoutIdeal.τ).loc Cert.ReferenceWoutIdeal.main_arg1))
      ∧ r.2.sem = fun _ => 0)

def quiescent_KernelWgate [hKernelWgate : Cert.KernelWgate.Facts] : Prop :=
  ∀ (m : (ℓ : Loc Cert.KernelWgate.nD Cert.KernelWgate.τ Cert.KernelWgate.sig) → Buf (Elt Bits) ℓ) (g : Dev Cert.KernelWgate.nD → PrngReg), Pre_KernelWgate m →
    θ_run (Cert.KernelWgate.defs (F := Bits)) (onTc (τ := Cert.KernelWgate.τ) (Cert.KernelWgate.main (F := Bits))) ⟨m, fun _ => 0, g⟩ (fun r => (∀ c : Dev Cert.KernelWgate.nD,
      r.2.mem ((c.tc : Thread Cert.KernelWgate.nD Cert.KernelWgate.τ).loc Cert.KernelWgate.main_arg0) = m ((c.tc : Thread Cert.KernelWgate.nD Cert.KernelWgate.τ).loc Cert.KernelWgate.main_arg0)
      ∧ r.2.mem ((c.tc : Thread Cert.KernelWgate.nD Cert.KernelWgate.τ).loc Cert.KernelWgate.main_arg1) = m ((c.tc : Thread Cert.KernelWgate.nD Cert.KernelWgate.τ).loc Cert.KernelWgate.main_arg1))
      ∧ r.2.sem = fun _ => 0)

def quiescent_KernelWgateIdeal [hKernelWgateIdeal : Cert.KernelWgateIdeal.Facts] : Prop :=
  ∀ (m : (ℓ : Loc Cert.KernelWgateIdeal.nD Cert.KernelWgateIdeal.τ Cert.KernelWgateIdeal.sig) → Buf (Elt Ideal) ℓ) (g : Dev Cert.KernelWgateIdeal.nD → PrngReg), Pre_KernelWgateIdeal m →
    θ_run (Cert.KernelWgateIdeal.defs (F := Ideal)) (onTc (τ := Cert.KernelWgateIdeal.τ) (Cert.KernelWgateIdeal.main (F := Ideal))) ⟨m, fun _ => 0, g⟩ (fun r => (∀ c : Dev Cert.KernelWgateIdeal.nD,
      r.2.mem ((c.tc : Thread Cert.KernelWgateIdeal.nD Cert.KernelWgateIdeal.τ).loc Cert.KernelWgateIdeal.main_arg0) = m ((c.tc : Thread Cert.KernelWgateIdeal.nD Cert.KernelWgateIdeal.τ).loc Cert.KernelWgateIdeal.main_arg0)
      ∧ r.2.mem ((c.tc : Thread Cert.KernelWgateIdeal.nD Cert.KernelWgateIdeal.τ).loc Cert.KernelWgateIdeal.main_arg1) = m ((c.tc : Thread Cert.KernelWgateIdeal.nD Cert.KernelWgateIdeal.τ).loc Cert.KernelWgateIdeal.main_arg1))
      ∧ r.2.sem = fun _ => 0)

def quiescent_ReferenceWgateIdeal [hReferenceWgateIdeal : Cert.ReferenceWgateIdeal.Facts] : Prop :=
  ∀ (m : (ℓ : Loc Cert.ReferenceWgateIdeal.nD Cert.ReferenceWgateIdeal.τ Cert.ReferenceWgateIdeal.sig) → Buf (Elt Ideal) ℓ) (g : Dev Cert.ReferenceWgateIdeal.nD → PrngReg), Pre_ReferenceWgateIdeal m →
    θ_run (Cert.ReferenceWgateIdeal.defs (F := Ideal)) (onTc (τ := Cert.ReferenceWgateIdeal.τ) (Cert.ReferenceWgateIdeal.main (F := Ideal))) ⟨m, fun _ => 0, g⟩ (fun r => (∀ c : Dev Cert.ReferenceWgateIdeal.nD,
      r.2.mem ((c.tc : Thread Cert.ReferenceWgateIdeal.nD Cert.ReferenceWgateIdeal.τ).loc Cert.ReferenceWgateIdeal.main_arg0) = m ((c.tc : Thread Cert.ReferenceWgateIdeal.nD Cert.ReferenceWgateIdeal.τ).loc Cert.ReferenceWgateIdeal.main_arg0)
      ∧ r.2.mem ((c.tc : Thread Cert.ReferenceWgateIdeal.nD Cert.ReferenceWgateIdeal.τ).loc Cert.ReferenceWgateIdeal.main_arg1) = m ((c.tc : Thread Cert.ReferenceWgateIdeal.nD Cert.ReferenceWgateIdeal.τ).loc Cert.ReferenceWgateIdeal.main_arg1))
      ∧ r.2.sem = fun _ => 0)

def quiescent_KernelWproj [hKernelWproj : Cert.KernelWproj.Facts] : Prop :=
  ∀ (m : (ℓ : Loc Cert.KernelWproj.nD Cert.KernelWproj.τ Cert.KernelWproj.sig) → Buf (Elt Bits) ℓ) (g : Dev Cert.KernelWproj.nD → PrngReg), Pre_KernelWproj m →
    θ_run (Cert.KernelWproj.defs (F := Bits)) (onTc (τ := Cert.KernelWproj.τ) (Cert.KernelWproj.main (F := Bits))) ⟨m, fun _ => 0, g⟩ (fun r => (∀ c : Dev Cert.KernelWproj.nD,
      r.2.mem ((c.tc : Thread Cert.KernelWproj.nD Cert.KernelWproj.τ).loc Cert.KernelWproj.main_arg0) = m ((c.tc : Thread Cert.KernelWproj.nD Cert.KernelWproj.τ).loc Cert.KernelWproj.main_arg0)
      ∧ r.2.mem ((c.tc : Thread Cert.KernelWproj.nD Cert.KernelWproj.τ).loc Cert.KernelWproj.main_arg1) = m ((c.tc : Thread Cert.KernelWproj.nD Cert.KernelWproj.τ).loc Cert.KernelWproj.main_arg1))
      ∧ r.2.sem = fun _ => 0)

def quiescent_KernelWprojIdeal [hKernelWprojIdeal : Cert.KernelWprojIdeal.Facts] : Prop :=
  ∀ (m : (ℓ : Loc Cert.KernelWprojIdeal.nD Cert.KernelWprojIdeal.τ Cert.KernelWprojIdeal.sig) → Buf (Elt Ideal) ℓ) (g : Dev Cert.KernelWprojIdeal.nD → PrngReg), Pre_KernelWprojIdeal m →
    θ_run (Cert.KernelWprojIdeal.defs (F := Ideal)) (onTc (τ := Cert.KernelWprojIdeal.τ) (Cert.KernelWprojIdeal.main (F := Ideal))) ⟨m, fun _ => 0, g⟩ (fun r => (∀ c : Dev Cert.KernelWprojIdeal.nD,
      r.2.mem ((c.tc : Thread Cert.KernelWprojIdeal.nD Cert.KernelWprojIdeal.τ).loc Cert.KernelWprojIdeal.main_arg0) = m ((c.tc : Thread Cert.KernelWprojIdeal.nD Cert.KernelWprojIdeal.τ).loc Cert.KernelWprojIdeal.main_arg0)
      ∧ r.2.mem ((c.tc : Thread Cert.KernelWprojIdeal.nD Cert.KernelWprojIdeal.τ).loc Cert.KernelWprojIdeal.main_arg1) = m ((c.tc : Thread Cert.KernelWprojIdeal.nD Cert.KernelWprojIdeal.τ).loc Cert.KernelWprojIdeal.main_arg1))
      ∧ r.2.sem = fun _ => 0)

def quiescent_ReferenceWprojIdeal [hReferenceWprojIdeal : Cert.ReferenceWprojIdeal.Facts] : Prop :=
  ∀ (m : (ℓ : Loc Cert.ReferenceWprojIdeal.nD Cert.ReferenceWprojIdeal.τ Cert.ReferenceWprojIdeal.sig) → Buf (Elt Ideal) ℓ) (g : Dev Cert.ReferenceWprojIdeal.nD → PrngReg), Pre_ReferenceWprojIdeal m →
    θ_run (Cert.ReferenceWprojIdeal.defs (F := Ideal)) (onTc (τ := Cert.ReferenceWprojIdeal.τ) (Cert.ReferenceWprojIdeal.main (F := Ideal))) ⟨m, fun _ => 0, g⟩ (fun r => (∀ c : Dev Cert.ReferenceWprojIdeal.nD,
      r.2.mem ((c.tc : Thread Cert.ReferenceWprojIdeal.nD Cert.ReferenceWprojIdeal.τ).loc Cert.ReferenceWprojIdeal.main_arg0) = m ((c.tc : Thread Cert.ReferenceWprojIdeal.nD Cert.ReferenceWprojIdeal.τ).loc Cert.ReferenceWprojIdeal.main_arg0)
      ∧ r.2.mem ((c.tc : Thread Cert.ReferenceWprojIdeal.nD Cert.ReferenceWprojIdeal.τ).loc Cert.ReferenceWprojIdeal.main_arg1) = m ((c.tc : Thread Cert.ReferenceWprojIdeal.nD Cert.ReferenceWprojIdeal.τ).loc Cert.ReferenceWprojIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelBin [hKernelBin : Cert.KernelBin.Facts] : Prop :=
  ∀ (m : (ℓ : Loc Cert.KernelBin.nD Cert.KernelBin.τ Cert.KernelBin.sig) → Buf (Elt Bits) ℓ) (g : Dev Cert.KernelBin.nD → PrngReg), Pre_KernelBin m →
    θ_run (Cert.KernelBin.defs (F := Bits)) (onTc (τ := Cert.KernelBin.τ) (Cert.KernelBin.main (F := Bits))) ⟨m, fun _ => 0, g⟩ (fun r => (∀ c : Dev Cert.KernelBin.nD,
      r.2.mem ((c.tc : Thread Cert.KernelBin.nD Cert.KernelBin.τ).loc Cert.KernelBin.main_arg0) = m ((c.tc : Thread Cert.KernelBin.nD Cert.KernelBin.τ).loc Cert.KernelBin.main_arg0)
      ∧ r.2.mem ((c.tc : Thread Cert.KernelBin.nD Cert.KernelBin.τ).loc Cert.KernelBin.main_arg1) = m ((c.tc : Thread Cert.KernelBin.nD Cert.KernelBin.τ).loc Cert.KernelBin.main_arg1)
      ∧ r.2.mem ((c.tc : Thread Cert.KernelBin.nD Cert.KernelBin.τ).loc Cert.KernelBin.main_arg2) = m ((c.tc : Thread Cert.KernelBin.nD Cert.KernelBin.τ).loc Cert.KernelBin.main_arg2)
      ∧ r.2.mem ((c.tc : Thread Cert.KernelBin.nD Cert.KernelBin.τ).loc Cert.KernelBin.main_arg3) = m ((c.tc : Thread Cert.KernelBin.nD Cert.KernelBin.τ).loc Cert.KernelBin.main_arg3)
      ∧ r.2.mem ((c.tc : Thread Cert.KernelBin.nD Cert.KernelBin.τ).loc Cert.KernelBin.main_arg4) = m ((c.tc : Thread Cert.KernelBin.nD Cert.KernelBin.τ).loc Cert.KernelBin.main_arg4))
      ∧ r.2.sem = fun _ => 0)

def quiescent_KernelBinIdeal [hKernelBinIdeal : Cert.KernelBinIdeal.Facts] : Prop :=
  ∀ (m : (ℓ : Loc Cert.KernelBinIdeal.nD Cert.KernelBinIdeal.τ Cert.KernelBinIdeal.sig) → Buf (Elt Ideal) ℓ) (g : Dev Cert.KernelBinIdeal.nD → PrngReg), Pre_KernelBinIdeal m →
    θ_run (Cert.KernelBinIdeal.defs (F := Ideal)) (onTc (τ := Cert.KernelBinIdeal.τ) (Cert.KernelBinIdeal.main (F := Ideal))) ⟨m, fun _ => 0, g⟩ (fun r => (∀ c : Dev Cert.KernelBinIdeal.nD,
      r.2.mem ((c.tc : Thread Cert.KernelBinIdeal.nD Cert.KernelBinIdeal.τ).loc Cert.KernelBinIdeal.main_arg0) = m ((c.tc : Thread Cert.KernelBinIdeal.nD Cert.KernelBinIdeal.τ).loc Cert.KernelBinIdeal.main_arg0)
      ∧ r.2.mem ((c.tc : Thread Cert.KernelBinIdeal.nD Cert.KernelBinIdeal.τ).loc Cert.KernelBinIdeal.main_arg1) = m ((c.tc : Thread Cert.KernelBinIdeal.nD Cert.KernelBinIdeal.τ).loc Cert.KernelBinIdeal.main_arg1)
      ∧ r.2.mem ((c.tc : Thread Cert.KernelBinIdeal.nD Cert.KernelBinIdeal.τ).loc Cert.KernelBinIdeal.main_arg2) = m ((c.tc : Thread Cert.KernelBinIdeal.nD Cert.KernelBinIdeal.τ).loc Cert.KernelBinIdeal.main_arg2)
      ∧ r.2.mem ((c.tc : Thread Cert.KernelBinIdeal.nD Cert.KernelBinIdeal.τ).loc Cert.KernelBinIdeal.main_arg3) = m ((c.tc : Thread Cert.KernelBinIdeal.nD Cert.KernelBinIdeal.τ).loc Cert.KernelBinIdeal.main_arg3)
      ∧ r.2.mem ((c.tc : Thread Cert.KernelBinIdeal.nD Cert.KernelBinIdeal.τ).loc Cert.KernelBinIdeal.main_arg4) = m ((c.tc : Thread Cert.KernelBinIdeal.nD Cert.KernelBinIdeal.τ).loc Cert.KernelBinIdeal.main_arg4))
      ∧ r.2.sem = fun _ => 0)

def quiescent_ReferenceBinIdeal [hReferenceBinIdeal : Cert.ReferenceBinIdeal.Facts] : Prop :=
  ∀ (m : (ℓ : Loc Cert.ReferenceBinIdeal.nD Cert.ReferenceBinIdeal.τ Cert.ReferenceBinIdeal.sig) → Buf (Elt Ideal) ℓ) (g : Dev Cert.ReferenceBinIdeal.nD → PrngReg), Pre_ReferenceBinIdeal m →
    θ_run (Cert.ReferenceBinIdeal.defs (F := Ideal)) (onTc (τ := Cert.ReferenceBinIdeal.τ) (Cert.ReferenceBinIdeal.main (F := Ideal))) ⟨m, fun _ => 0, g⟩ (fun r => (∀ c : Dev Cert.ReferenceBinIdeal.nD,
      r.2.mem ((c.tc : Thread Cert.ReferenceBinIdeal.nD Cert.ReferenceBinIdeal.τ).loc Cert.ReferenceBinIdeal.main_arg0) = m ((c.tc : Thread Cert.ReferenceBinIdeal.nD Cert.ReferenceBinIdeal.τ).loc Cert.ReferenceBinIdeal.main_arg0)
      ∧ r.2.mem ((c.tc : Thread Cert.ReferenceBinIdeal.nD Cert.ReferenceBinIdeal.τ).loc Cert.ReferenceBinIdeal.main_arg1) = m ((c.tc : Thread Cert.ReferenceBinIdeal.nD Cert.ReferenceBinIdeal.τ).loc Cert.ReferenceBinIdeal.main_arg1)
      ∧ r.2.mem ((c.tc : Thread Cert.ReferenceBinIdeal.nD Cert.ReferenceBinIdeal.τ).loc Cert.ReferenceBinIdeal.main_arg2) = m ((c.tc : Thread Cert.ReferenceBinIdeal.nD Cert.ReferenceBinIdeal.τ).loc Cert.ReferenceBinIdeal.main_arg2)
      ∧ r.2.mem ((c.tc : Thread Cert.ReferenceBinIdeal.nD Cert.ReferenceBinIdeal.τ).loc Cert.ReferenceBinIdeal.main_arg3) = m ((c.tc : Thread Cert.ReferenceBinIdeal.nD Cert.ReferenceBinIdeal.τ).loc Cert.ReferenceBinIdeal.main_arg3)
      ∧ r.2.mem ((c.tc : Thread Cert.ReferenceBinIdeal.nD Cert.ReferenceBinIdeal.τ).loc Cert.ReferenceBinIdeal.main_arg4) = m ((c.tc : Thread Cert.ReferenceBinIdeal.nD Cert.ReferenceBinIdeal.τ).loc Cert.ReferenceBinIdeal.main_arg4))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5)
      ∧ r.2.mem ((c.tc : Thread Cert.KernelOut.nD Cert.KernelOut.τ).loc Cert.KernelOut.main_arg6) = m ((c.tc : Thread Cert.KernelOut.nD Cert.KernelOut.τ).loc Cert.KernelOut.main_arg6))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6))
      ∧ r.2.sem = fun _ => 0)

def quiescent_KernelBout [hKernelBout : Cert.KernelBout.Facts] : Prop :=
  ∀ (m : (ℓ : Loc Cert.KernelBout.nD Cert.KernelBout.τ Cert.KernelBout.sig) → Buf (Elt Bits) ℓ) (g : Dev Cert.KernelBout.nD → PrngReg), Pre_KernelBout m →
    θ_run (Cert.KernelBout.defs (F := Bits)) (onTc (τ := Cert.KernelBout.τ) (Cert.KernelBout.main (F := Bits))) ⟨m, fun _ => 0, g⟩ (fun r => (∀ c : Dev Cert.KernelBout.nD,
      r.2.mem ((c.tc : Thread Cert.KernelBout.nD Cert.KernelBout.τ).loc Cert.KernelBout.main_arg0) = m ((c.tc : Thread Cert.KernelBout.nD Cert.KernelBout.τ).loc Cert.KernelBout.main_arg0)
      ∧ r.2.mem ((c.tc : Thread Cert.KernelBout.nD Cert.KernelBout.τ).loc Cert.KernelBout.main_arg1) = m ((c.tc : Thread Cert.KernelBout.nD Cert.KernelBout.τ).loc Cert.KernelBout.main_arg1)
      ∧ r.2.mem ((c.tc : Thread Cert.KernelBout.nD Cert.KernelBout.τ).loc Cert.KernelBout.main_arg2) = m ((c.tc : Thread Cert.KernelBout.nD Cert.KernelBout.τ).loc Cert.KernelBout.main_arg2)
      ∧ r.2.mem ((c.tc : Thread Cert.KernelBout.nD Cert.KernelBout.τ).loc Cert.KernelBout.main_arg3) = m ((c.tc : Thread Cert.KernelBout.nD Cert.KernelBout.τ).loc Cert.KernelBout.main_arg3)
      ∧ r.2.mem ((c.tc : Thread Cert.KernelBout.nD Cert.KernelBout.τ).loc Cert.KernelBout.main_arg4) = m ((c.tc : Thread Cert.KernelBout.nD Cert.KernelBout.τ).loc Cert.KernelBout.main_arg4)
      ∧ r.2.mem ((c.tc : Thread Cert.KernelBout.nD Cert.KernelBout.τ).loc Cert.KernelBout.main_arg5) = m ((c.tc : Thread Cert.KernelBout.nD Cert.KernelBout.τ).loc Cert.KernelBout.main_arg5)
      ∧ r.2.mem ((c.tc : Thread Cert.KernelBout.nD Cert.KernelBout.τ).loc Cert.KernelBout.main_arg6) = m ((c.tc : Thread Cert.KernelBout.nD Cert.KernelBout.τ).loc Cert.KernelBout.main_arg6))
      ∧ r.2.sem = fun _ => 0)

def quiescent_KernelBoutIdeal [hKernelBoutIdeal : Cert.KernelBoutIdeal.Facts] : Prop :=
  ∀ (m : (ℓ : Loc Cert.KernelBoutIdeal.nD Cert.KernelBoutIdeal.τ Cert.KernelBoutIdeal.sig) → Buf (Elt Ideal) ℓ) (g : Dev Cert.KernelBoutIdeal.nD → PrngReg), Pre_KernelBoutIdeal m →
    θ_run (Cert.KernelBoutIdeal.defs (F := Ideal)) (onTc (τ := Cert.KernelBoutIdeal.τ) (Cert.KernelBoutIdeal.main (F := Ideal))) ⟨m, fun _ => 0, g⟩ (fun r => (∀ c : Dev Cert.KernelBoutIdeal.nD,
      r.2.mem ((c.tc : Thread Cert.KernelBoutIdeal.nD Cert.KernelBoutIdeal.τ).loc Cert.KernelBoutIdeal.main_arg0) = m ((c.tc : Thread Cert.KernelBoutIdeal.nD Cert.KernelBoutIdeal.τ).loc Cert.KernelBoutIdeal.main_arg0)
      ∧ r.2.mem ((c.tc : Thread Cert.KernelBoutIdeal.nD Cert.KernelBoutIdeal.τ).loc Cert.KernelBoutIdeal.main_arg1) = m ((c.tc : Thread Cert.KernelBoutIdeal.nD Cert.KernelBoutIdeal.τ).loc Cert.KernelBoutIdeal.main_arg1)
      ∧ r.2.mem ((c.tc : Thread Cert.KernelBoutIdeal.nD Cert.KernelBoutIdeal.τ).loc Cert.KernelBoutIdeal.main_arg2) = m ((c.tc : Thread Cert.KernelBoutIdeal.nD Cert.KernelBoutIdeal.τ).loc Cert.KernelBoutIdeal.main_arg2)
      ∧ r.2.mem ((c.tc : Thread Cert.KernelBoutIdeal.nD Cert.KernelBoutIdeal.τ).loc Cert.KernelBoutIdeal.main_arg3) = m ((c.tc : Thread Cert.KernelBoutIdeal.nD Cert.KernelBoutIdeal.τ).loc Cert.KernelBoutIdeal.main_arg3)
      ∧ r.2.mem ((c.tc : Thread Cert.KernelBoutIdeal.nD Cert.KernelBoutIdeal.τ).loc Cert.KernelBoutIdeal.main_arg4) = m ((c.tc : Thread Cert.KernelBoutIdeal.nD Cert.KernelBoutIdeal.τ).loc Cert.KernelBoutIdeal.main_arg4)
      ∧ r.2.mem ((c.tc : Thread Cert.KernelBoutIdeal.nD Cert.KernelBoutIdeal.τ).loc Cert.KernelBoutIdeal.main_arg5) = m ((c.tc : Thread Cert.KernelBoutIdeal.nD Cert.KernelBoutIdeal.τ).loc Cert.KernelBoutIdeal.main_arg5)
      ∧ r.2.mem ((c.tc : Thread Cert.KernelBoutIdeal.nD Cert.KernelBoutIdeal.τ).loc Cert.KernelBoutIdeal.main_arg6) = m ((c.tc : Thread Cert.KernelBoutIdeal.nD Cert.KernelBoutIdeal.τ).loc Cert.KernelBoutIdeal.main_arg6))
      ∧ r.2.sem = fun _ => 0)

def quiescent_ReferenceBoutIdeal [hReferenceBoutIdeal : Cert.ReferenceBoutIdeal.Facts] : Prop :=
  ∀ (m : (ℓ : Loc Cert.ReferenceBoutIdeal.nD Cert.ReferenceBoutIdeal.τ Cert.ReferenceBoutIdeal.sig) → Buf (Elt Ideal) ℓ) (g : Dev Cert.ReferenceBoutIdeal.nD → PrngReg), Pre_ReferenceBoutIdeal m →
    θ_run (Cert.ReferenceBoutIdeal.defs (F := Ideal)) (onTc (τ := Cert.ReferenceBoutIdeal.τ) (Cert.ReferenceBoutIdeal.main (F := Ideal))) ⟨m, fun _ => 0, g⟩ (fun r => (∀ c : Dev Cert.ReferenceBoutIdeal.nD,
      r.2.mem ((c.tc : Thread Cert.ReferenceBoutIdeal.nD Cert.ReferenceBoutIdeal.τ).loc Cert.ReferenceBoutIdeal.main_arg0) = m ((c.tc : Thread Cert.ReferenceBoutIdeal.nD Cert.ReferenceBoutIdeal.τ).loc Cert.ReferenceBoutIdeal.main_arg0)
      ∧ r.2.mem ((c.tc : Thread Cert.ReferenceBoutIdeal.nD Cert.ReferenceBoutIdeal.τ).loc Cert.ReferenceBoutIdeal.main_arg1) = m ((c.tc : Thread Cert.ReferenceBoutIdeal.nD Cert.ReferenceBoutIdeal.τ).loc Cert.ReferenceBoutIdeal.main_arg1)
      ∧ r.2.mem ((c.tc : Thread Cert.ReferenceBoutIdeal.nD Cert.ReferenceBoutIdeal.τ).loc Cert.ReferenceBoutIdeal.main_arg2) = m ((c.tc : Thread Cert.ReferenceBoutIdeal.nD Cert.ReferenceBoutIdeal.τ).loc Cert.ReferenceBoutIdeal.main_arg2)
      ∧ r.2.mem ((c.tc : Thread Cert.ReferenceBoutIdeal.nD Cert.ReferenceBoutIdeal.τ).loc Cert.ReferenceBoutIdeal.main_arg3) = m ((c.tc : Thread Cert.ReferenceBoutIdeal.nD Cert.ReferenceBoutIdeal.τ).loc Cert.ReferenceBoutIdeal.main_arg3)
      ∧ r.2.mem ((c.tc : Thread Cert.ReferenceBoutIdeal.nD Cert.ReferenceBoutIdeal.τ).loc Cert.ReferenceBoutIdeal.main_arg4) = m ((c.tc : Thread Cert.ReferenceBoutIdeal.nD Cert.ReferenceBoutIdeal.τ).loc Cert.ReferenceBoutIdeal.main_arg4)
      ∧ r.2.mem ((c.tc : Thread Cert.ReferenceBoutIdeal.nD Cert.ReferenceBoutIdeal.τ).loc Cert.ReferenceBoutIdeal.main_arg5) = m ((c.tc : Thread Cert.ReferenceBoutIdeal.nD Cert.ReferenceBoutIdeal.τ).loc Cert.ReferenceBoutIdeal.main_arg5)
      ∧ r.2.mem ((c.tc : Thread Cert.ReferenceBoutIdeal.nD Cert.ReferenceBoutIdeal.τ).loc Cert.ReferenceBoutIdeal.main_arg6) = m ((c.tc : Thread Cert.ReferenceBoutIdeal.nD Cert.ReferenceBoutIdeal.τ).loc Cert.ReferenceBoutIdeal.main_arg6))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def quiescent_KernelTotal [hKernelTotal : Cert.KernelTotal.Facts] : Prop :=
  ∀ (m : (ℓ : Loc Cert.KernelTotal.nD Cert.KernelTotal.τ Cert.KernelTotal.sig) → Buf (Elt Bits) ℓ) (g : Dev Cert.KernelTotal.nD → PrngReg), Pre_KernelTotal m →
    θ_run (Cert.KernelTotal.defs (F := Bits)) (onTc (τ := Cert.KernelTotal.τ) (Cert.KernelTotal.main (F := Bits))) ⟨m, fun _ => 0, g⟩ (fun r => (∀ c : Dev Cert.KernelTotal.nD,
      r.2.mem ((c.tc : Thread Cert.KernelTotal.nD Cert.KernelTotal.τ).loc Cert.KernelTotal.main_arg0) = m ((c.tc : Thread Cert.KernelTotal.nD Cert.KernelTotal.τ).loc Cert.KernelTotal.main_arg0)
      ∧ r.2.mem ((c.tc : Thread Cert.KernelTotal.nD Cert.KernelTotal.τ).loc Cert.KernelTotal.main_arg1) = m ((c.tc : Thread Cert.KernelTotal.nD Cert.KernelTotal.τ).loc Cert.KernelTotal.main_arg1)
      ∧ r.2.mem ((c.tc : Thread Cert.KernelTotal.nD Cert.KernelTotal.τ).loc Cert.KernelTotal.main_arg2) = m ((c.tc : Thread Cert.KernelTotal.nD Cert.KernelTotal.τ).loc Cert.KernelTotal.main_arg2))
      ∧ r.2.sem = fun _ => 0)

def quiescent_KernelTotalIdeal [hKernelTotalIdeal : Cert.KernelTotalIdeal.Facts] : Prop :=
  ∀ (m : (ℓ : Loc Cert.KernelTotalIdeal.nD Cert.KernelTotalIdeal.τ Cert.KernelTotalIdeal.sig) → Buf (Elt Ideal) ℓ) (g : Dev Cert.KernelTotalIdeal.nD → PrngReg), Pre_KernelTotalIdeal m →
    θ_run (Cert.KernelTotalIdeal.defs (F := Ideal)) (onTc (τ := Cert.KernelTotalIdeal.τ) (Cert.KernelTotalIdeal.main (F := Ideal))) ⟨m, fun _ => 0, g⟩ (fun r => (∀ c : Dev Cert.KernelTotalIdeal.nD,
      r.2.mem ((c.tc : Thread Cert.KernelTotalIdeal.nD Cert.KernelTotalIdeal.τ).loc Cert.KernelTotalIdeal.main_arg0) = m ((c.tc : Thread Cert.KernelTotalIdeal.nD Cert.KernelTotalIdeal.τ).loc Cert.KernelTotalIdeal.main_arg0)
      ∧ r.2.mem ((c.tc : Thread Cert.KernelTotalIdeal.nD Cert.KernelTotalIdeal.τ).loc Cert.KernelTotalIdeal.main_arg1) = m ((c.tc : Thread Cert.KernelTotalIdeal.nD Cert.KernelTotalIdeal.τ).loc Cert.KernelTotalIdeal.main_arg1)
      ∧ r.2.mem ((c.tc : Thread Cert.KernelTotalIdeal.nD Cert.KernelTotalIdeal.τ).loc Cert.KernelTotalIdeal.main_arg2) = m ((c.tc : Thread Cert.KernelTotalIdeal.nD Cert.KernelTotalIdeal.τ).loc Cert.KernelTotalIdeal.main_arg2))
      ∧ r.2.sem = fun _ => 0)

def quiescent_ReferenceTotalIdeal [hReferenceTotalIdeal : Cert.ReferenceTotalIdeal.Facts] : Prop :=
  ∀ (m : (ℓ : Loc Cert.ReferenceTotalIdeal.nD Cert.ReferenceTotalIdeal.τ Cert.ReferenceTotalIdeal.sig) → Buf (Elt Ideal) ℓ) (g : Dev Cert.ReferenceTotalIdeal.nD → PrngReg), Pre_ReferenceTotalIdeal m →
    θ_run (Cert.ReferenceTotalIdeal.defs (F := Ideal)) (onTc (τ := Cert.ReferenceTotalIdeal.τ) (Cert.ReferenceTotalIdeal.main (F := Ideal))) ⟨m, fun _ => 0, g⟩ (fun r => (∀ c : Dev Cert.ReferenceTotalIdeal.nD,
      r.2.mem ((c.tc : Thread Cert.ReferenceTotalIdeal.nD Cert.ReferenceTotalIdeal.τ).loc Cert.ReferenceTotalIdeal.main_arg0) = m ((c.tc : Thread Cert.ReferenceTotalIdeal.nD Cert.ReferenceTotalIdeal.τ).loc Cert.ReferenceTotalIdeal.main_arg0)
      ∧ r.2.mem ((c.tc : Thread Cert.ReferenceTotalIdeal.nD Cert.ReferenceTotalIdeal.τ).loc Cert.ReferenceTotalIdeal.main_arg1) = m ((c.tc : Thread Cert.ReferenceTotalIdeal.nD Cert.ReferenceTotalIdeal.τ).loc Cert.ReferenceTotalIdeal.main_arg1)
      ∧ r.2.mem ((c.tc : Thread Cert.ReferenceTotalIdeal.nD Cert.ReferenceTotalIdeal.τ).loc Cert.ReferenceTotalIdeal.main_arg2) = m ((c.tc : Thread Cert.ReferenceTotalIdeal.nD Cert.ReferenceTotalIdeal.τ).loc Cert.ReferenceTotalIdeal.main_arg2))
      ∧ r.2.sem = fun _ => 0)

def quiescent_KernelUin [hKernelUin : Cert.KernelUin.Facts] : Prop :=
  ∀ (m : (ℓ : Loc Cert.KernelUin.nD Cert.KernelUin.τ Cert.KernelUin.sig) → Buf (Elt Bits) ℓ) (g : Dev Cert.KernelUin.nD → PrngReg), Pre_KernelUin m →
    θ_run (Cert.KernelUin.defs (F := Bits)) (onTc (τ := Cert.KernelUin.τ) (Cert.KernelUin.main (F := Bits))) ⟨m, fun _ => 0, g⟩ (fun r => (∀ c : Dev Cert.KernelUin.nD,
      r.2.mem ((c.tc : Thread Cert.KernelUin.nD Cert.KernelUin.τ).loc Cert.KernelUin.main_arg0) = m ((c.tc : Thread Cert.KernelUin.nD Cert.KernelUin.τ).loc Cert.KernelUin.main_arg0)
      ∧ r.2.mem ((c.tc : Thread Cert.KernelUin.nD Cert.KernelUin.τ).loc Cert.KernelUin.main_arg1) = m ((c.tc : Thread Cert.KernelUin.nD Cert.KernelUin.τ).loc Cert.KernelUin.main_arg1)
      ∧ r.2.mem ((c.tc : Thread Cert.KernelUin.nD Cert.KernelUin.τ).loc Cert.KernelUin.main_arg2) = m ((c.tc : Thread Cert.KernelUin.nD Cert.KernelUin.τ).loc Cert.KernelUin.main_arg2)
      ∧ r.2.mem ((c.tc : Thread Cert.KernelUin.nD Cert.KernelUin.τ).loc Cert.KernelUin.main_arg3) = m ((c.tc : Thread Cert.KernelUin.nD Cert.KernelUin.τ).loc Cert.KernelUin.main_arg3))
      ∧ r.2.sem = fun _ => 0)

def quiescent_KernelUinIdeal [hKernelUinIdeal : Cert.KernelUinIdeal.Facts] : Prop :=
  ∀ (m : (ℓ : Loc Cert.KernelUinIdeal.nD Cert.KernelUinIdeal.τ Cert.KernelUinIdeal.sig) → Buf (Elt Ideal) ℓ) (g : Dev Cert.KernelUinIdeal.nD → PrngReg), Pre_KernelUinIdeal m →
    θ_run (Cert.KernelUinIdeal.defs (F := Ideal)) (onTc (τ := Cert.KernelUinIdeal.τ) (Cert.KernelUinIdeal.main (F := Ideal))) ⟨m, fun _ => 0, g⟩ (fun r => (∀ c : Dev Cert.KernelUinIdeal.nD,
      r.2.mem ((c.tc : Thread Cert.KernelUinIdeal.nD Cert.KernelUinIdeal.τ).loc Cert.KernelUinIdeal.main_arg0) = m ((c.tc : Thread Cert.KernelUinIdeal.nD Cert.KernelUinIdeal.τ).loc Cert.KernelUinIdeal.main_arg0)
      ∧ r.2.mem ((c.tc : Thread Cert.KernelUinIdeal.nD Cert.KernelUinIdeal.τ).loc Cert.KernelUinIdeal.main_arg1) = m ((c.tc : Thread Cert.KernelUinIdeal.nD Cert.KernelUinIdeal.τ).loc Cert.KernelUinIdeal.main_arg1)
      ∧ r.2.mem ((c.tc : Thread Cert.KernelUinIdeal.nD Cert.KernelUinIdeal.τ).loc Cert.KernelUinIdeal.main_arg2) = m ((c.tc : Thread Cert.KernelUinIdeal.nD Cert.KernelUinIdeal.τ).loc Cert.KernelUinIdeal.main_arg2)
      ∧ r.2.mem ((c.tc : Thread Cert.KernelUinIdeal.nD Cert.KernelUinIdeal.τ).loc Cert.KernelUinIdeal.main_arg3) = m ((c.tc : Thread Cert.KernelUinIdeal.nD Cert.KernelUinIdeal.τ).loc Cert.KernelUinIdeal.main_arg3))
      ∧ r.2.sem = fun _ => 0)

def quiescent_ReferenceUinIdeal [hReferenceUinIdeal : Cert.ReferenceUinIdeal.Facts] : Prop :=
  ∀ (m : (ℓ : Loc Cert.ReferenceUinIdeal.nD Cert.ReferenceUinIdeal.τ Cert.ReferenceUinIdeal.sig) → Buf (Elt Ideal) ℓ) (g : Dev Cert.ReferenceUinIdeal.nD → PrngReg), Pre_ReferenceUinIdeal m →
    θ_run (Cert.ReferenceUinIdeal.defs (F := Ideal)) (onTc (τ := Cert.ReferenceUinIdeal.τ) (Cert.ReferenceUinIdeal.main (F := Ideal))) ⟨m, fun _ => 0, g⟩ (fun r => (∀ c : Dev Cert.ReferenceUinIdeal.nD,
      r.2.mem ((c.tc : Thread Cert.ReferenceUinIdeal.nD Cert.ReferenceUinIdeal.τ).loc Cert.ReferenceUinIdeal.main_arg0) = m ((c.tc : Thread Cert.ReferenceUinIdeal.nD Cert.ReferenceUinIdeal.τ).loc Cert.ReferenceUinIdeal.main_arg0)
      ∧ r.2.mem ((c.tc : Thread Cert.ReferenceUinIdeal.nD Cert.ReferenceUinIdeal.τ).loc Cert.ReferenceUinIdeal.main_arg1) = m ((c.tc : Thread Cert.ReferenceUinIdeal.nD Cert.ReferenceUinIdeal.τ).loc Cert.ReferenceUinIdeal.main_arg1)
      ∧ r.2.mem ((c.tc : Thread Cert.ReferenceUinIdeal.nD Cert.ReferenceUinIdeal.τ).loc Cert.ReferenceUinIdeal.main_arg2) = m ((c.tc : Thread Cert.ReferenceUinIdeal.nD Cert.ReferenceUinIdeal.τ).loc Cert.ReferenceUinIdeal.main_arg2)
      ∧ r.2.mem ((c.tc : Thread Cert.ReferenceUinIdeal.nD Cert.ReferenceUinIdeal.τ).loc Cert.ReferenceUinIdeal.main_arg3) = m ((c.tc : Thread Cert.ReferenceUinIdeal.nD Cert.ReferenceUinIdeal.τ).loc Cert.ReferenceUinIdeal.main_arg3))
      ∧ r.2.sem = fun _ => 0)

def quiescent_KernelUout [hKernelUout : Cert.KernelUout.Facts] : Prop :=
  ∀ (m : (ℓ : Loc Cert.KernelUout.nD Cert.KernelUout.τ Cert.KernelUout.sig) → Buf (Elt Bits) ℓ) (g : Dev Cert.KernelUout.nD → PrngReg), Pre_KernelUout m →
    θ_run (Cert.KernelUout.defs (F := Bits)) (onTc (τ := Cert.KernelUout.τ) (Cert.KernelUout.main (F := Bits))) ⟨m, fun _ => 0, g⟩ (fun r => (∀ c : Dev Cert.KernelUout.nD,
      r.2.mem ((c.tc : Thread Cert.KernelUout.nD Cert.KernelUout.τ).loc Cert.KernelUout.main_arg0) = m ((c.tc : Thread Cert.KernelUout.nD Cert.KernelUout.τ).loc Cert.KernelUout.main_arg0)
      ∧ r.2.mem ((c.tc : Thread Cert.KernelUout.nD Cert.KernelUout.τ).loc Cert.KernelUout.main_arg1) = m ((c.tc : Thread Cert.KernelUout.nD Cert.KernelUout.τ).loc Cert.KernelUout.main_arg1)
      ∧ r.2.mem ((c.tc : Thread Cert.KernelUout.nD Cert.KernelUout.τ).loc Cert.KernelUout.main_arg2) = m ((c.tc : Thread Cert.KernelUout.nD Cert.KernelUout.τ).loc Cert.KernelUout.main_arg2)
      ∧ r.2.mem ((c.tc : Thread Cert.KernelUout.nD Cert.KernelUout.τ).loc Cert.KernelUout.main_arg3) = m ((c.tc : Thread Cert.KernelUout.nD Cert.KernelUout.τ).loc Cert.KernelUout.main_arg3))
      ∧ r.2.sem = fun _ => 0)

def quiescent_KernelUoutIdeal [hKernelUoutIdeal : Cert.KernelUoutIdeal.Facts] : Prop :=
  ∀ (m : (ℓ : Loc Cert.KernelUoutIdeal.nD Cert.KernelUoutIdeal.τ Cert.KernelUoutIdeal.sig) → Buf (Elt Ideal) ℓ) (g : Dev Cert.KernelUoutIdeal.nD → PrngReg), Pre_KernelUoutIdeal m →
    θ_run (Cert.KernelUoutIdeal.defs (F := Ideal)) (onTc (τ := Cert.KernelUoutIdeal.τ) (Cert.KernelUoutIdeal.main (F := Ideal))) ⟨m, fun _ => 0, g⟩ (fun r => (∀ c : Dev Cert.KernelUoutIdeal.nD,
      r.2.mem ((c.tc : Thread Cert.KernelUoutIdeal.nD Cert.KernelUoutIdeal.τ).loc Cert.KernelUoutIdeal.main_arg0) = m ((c.tc : Thread Cert.KernelUoutIdeal.nD Cert.KernelUoutIdeal.τ).loc Cert.KernelUoutIdeal.main_arg0)
      ∧ r.2.mem ((c.tc : Thread Cert.KernelUoutIdeal.nD Cert.KernelUoutIdeal.τ).loc Cert.KernelUoutIdeal.main_arg1) = m ((c.tc : Thread Cert.KernelUoutIdeal.nD Cert.KernelUoutIdeal.τ).loc Cert.KernelUoutIdeal.main_arg1)
      ∧ r.2.mem ((c.tc : Thread Cert.KernelUoutIdeal.nD Cert.KernelUoutIdeal.τ).loc Cert.KernelUoutIdeal.main_arg2) = m ((c.tc : Thread Cert.KernelUoutIdeal.nD Cert.KernelUoutIdeal.τ).loc Cert.KernelUoutIdeal.main_arg2)
      ∧ r.2.mem ((c.tc : Thread Cert.KernelUoutIdeal.nD Cert.KernelUoutIdeal.τ).loc Cert.KernelUoutIdeal.main_arg3) = m ((c.tc : Thread Cert.KernelUoutIdeal.nD Cert.KernelUoutIdeal.τ).loc Cert.KernelUoutIdeal.main_arg3))
      ∧ r.2.sem = fun _ => 0)

def quiescent_ReferenceUoutIdeal [hReferenceUoutIdeal : Cert.ReferenceUoutIdeal.Facts] : Prop :=
  ∀ (m : (ℓ : Loc Cert.ReferenceUoutIdeal.nD Cert.ReferenceUoutIdeal.τ Cert.ReferenceUoutIdeal.sig) → Buf (Elt Ideal) ℓ) (g : Dev Cert.ReferenceUoutIdeal.nD → PrngReg), Pre_ReferenceUoutIdeal m →
    θ_run (Cert.ReferenceUoutIdeal.defs (F := Ideal)) (onTc (τ := Cert.ReferenceUoutIdeal.τ) (Cert.ReferenceUoutIdeal.main (F := Ideal))) ⟨m, fun _ => 0, g⟩ (fun r => (∀ c : Dev Cert.ReferenceUoutIdeal.nD,
      r.2.mem ((c.tc : Thread Cert.ReferenceUoutIdeal.nD Cert.ReferenceUoutIdeal.τ).loc Cert.ReferenceUoutIdeal.main_arg0) = m ((c.tc : Thread Cert.ReferenceUoutIdeal.nD Cert.ReferenceUoutIdeal.τ).loc Cert.ReferenceUoutIdeal.main_arg0)
      ∧ r.2.mem ((c.tc : Thread Cert.ReferenceUoutIdeal.nD Cert.ReferenceUoutIdeal.τ).loc Cert.ReferenceUoutIdeal.main_arg1) = m ((c.tc : Thread Cert.ReferenceUoutIdeal.nD Cert.ReferenceUoutIdeal.τ).loc Cert.ReferenceUoutIdeal.main_arg1)
      ∧ r.2.mem ((c.tc : Thread Cert.ReferenceUoutIdeal.nD Cert.ReferenceUoutIdeal.τ).loc Cert.ReferenceUoutIdeal.main_arg2) = m ((c.tc : Thread Cert.ReferenceUoutIdeal.nD Cert.ReferenceUoutIdeal.τ).loc Cert.ReferenceUoutIdeal.main_arg2)
      ∧ r.2.mem ((c.tc : Thread Cert.ReferenceUoutIdeal.nD Cert.ReferenceUoutIdeal.τ).loc Cert.ReferenceUoutIdeal.main_arg3) = m ((c.tc : Thread Cert.ReferenceUoutIdeal.nD Cert.ReferenceUoutIdeal.τ).loc Cert.ReferenceUoutIdeal.main_arg3))
      ∧ r.2.sem = fun _ => 0)

def quiescent_KernelUgate [hKernelUgate : Cert.KernelUgate.Facts] : Prop :=
  ∀ (m : (ℓ : Loc Cert.KernelUgate.nD Cert.KernelUgate.τ Cert.KernelUgate.sig) → Buf (Elt Bits) ℓ) (g : Dev Cert.KernelUgate.nD → PrngReg), Pre_KernelUgate m →
    θ_run (Cert.KernelUgate.defs (F := Bits)) (onTc (τ := Cert.KernelUgate.τ) (Cert.KernelUgate.main (F := Bits))) ⟨m, fun _ => 0, g⟩ (fun r => (∀ c : Dev Cert.KernelUgate.nD,
      r.2.mem ((c.tc : Thread Cert.KernelUgate.nD Cert.KernelUgate.τ).loc Cert.KernelUgate.main_arg0) = m ((c.tc : Thread Cert.KernelUgate.nD Cert.KernelUgate.τ).loc Cert.KernelUgate.main_arg0)
      ∧ r.2.mem ((c.tc : Thread Cert.KernelUgate.nD Cert.KernelUgate.τ).loc Cert.KernelUgate.main_arg1) = m ((c.tc : Thread Cert.KernelUgate.nD Cert.KernelUgate.τ).loc Cert.KernelUgate.main_arg1)
      ∧ r.2.mem ((c.tc : Thread Cert.KernelUgate.nD Cert.KernelUgate.τ).loc Cert.KernelUgate.main_arg2) = m ((c.tc : Thread Cert.KernelUgate.nD Cert.KernelUgate.τ).loc Cert.KernelUgate.main_arg2)
      ∧ r.2.mem ((c.tc : Thread Cert.KernelUgate.nD Cert.KernelUgate.τ).loc Cert.KernelUgate.main_arg3) = m ((c.tc : Thread Cert.KernelUgate.nD Cert.KernelUgate.τ).loc Cert.KernelUgate.main_arg3))
      ∧ r.2.sem = fun _ => 0)

def quiescent_KernelUgateIdeal [hKernelUgateIdeal : Cert.KernelUgateIdeal.Facts] : Prop :=
  ∀ (m : (ℓ : Loc Cert.KernelUgateIdeal.nD Cert.KernelUgateIdeal.τ Cert.KernelUgateIdeal.sig) → Buf (Elt Ideal) ℓ) (g : Dev Cert.KernelUgateIdeal.nD → PrngReg), Pre_KernelUgateIdeal m →
    θ_run (Cert.KernelUgateIdeal.defs (F := Ideal)) (onTc (τ := Cert.KernelUgateIdeal.τ) (Cert.KernelUgateIdeal.main (F := Ideal))) ⟨m, fun _ => 0, g⟩ (fun r => (∀ c : Dev Cert.KernelUgateIdeal.nD,
      r.2.mem ((c.tc : Thread Cert.KernelUgateIdeal.nD Cert.KernelUgateIdeal.τ).loc Cert.KernelUgateIdeal.main_arg0) = m ((c.tc : Thread Cert.KernelUgateIdeal.nD Cert.KernelUgateIdeal.τ).loc Cert.KernelUgateIdeal.main_arg0)
      ∧ r.2.mem ((c.tc : Thread Cert.KernelUgateIdeal.nD Cert.KernelUgateIdeal.τ).loc Cert.KernelUgateIdeal.main_arg1) = m ((c.tc : Thread Cert.KernelUgateIdeal.nD Cert.KernelUgateIdeal.τ).loc Cert.KernelUgateIdeal.main_arg1)
      ∧ r.2.mem ((c.tc : Thread Cert.KernelUgateIdeal.nD Cert.KernelUgateIdeal.τ).loc Cert.KernelUgateIdeal.main_arg2) = m ((c.tc : Thread Cert.KernelUgateIdeal.nD Cert.KernelUgateIdeal.τ).loc Cert.KernelUgateIdeal.main_arg2)
      ∧ r.2.mem ((c.tc : Thread Cert.KernelUgateIdeal.nD Cert.KernelUgateIdeal.τ).loc Cert.KernelUgateIdeal.main_arg3) = m ((c.tc : Thread Cert.KernelUgateIdeal.nD Cert.KernelUgateIdeal.τ).loc Cert.KernelUgateIdeal.main_arg3))
      ∧ r.2.sem = fun _ => 0)

def quiescent_ReferenceUgateIdeal [hReferenceUgateIdeal : Cert.ReferenceUgateIdeal.Facts] : Prop :=
  ∀ (m : (ℓ : Loc Cert.ReferenceUgateIdeal.nD Cert.ReferenceUgateIdeal.τ Cert.ReferenceUgateIdeal.sig) → Buf (Elt Ideal) ℓ) (g : Dev Cert.ReferenceUgateIdeal.nD → PrngReg), Pre_ReferenceUgateIdeal m →
    θ_run (Cert.ReferenceUgateIdeal.defs (F := Ideal)) (onTc (τ := Cert.ReferenceUgateIdeal.τ) (Cert.ReferenceUgateIdeal.main (F := Ideal))) ⟨m, fun _ => 0, g⟩ (fun r => (∀ c : Dev Cert.ReferenceUgateIdeal.nD,
      r.2.mem ((c.tc : Thread Cert.ReferenceUgateIdeal.nD Cert.ReferenceUgateIdeal.τ).loc Cert.ReferenceUgateIdeal.main_arg0) = m ((c.tc : Thread Cert.ReferenceUgateIdeal.nD Cert.ReferenceUgateIdeal.τ).loc Cert.ReferenceUgateIdeal.main_arg0)
      ∧ r.2.mem ((c.tc : Thread Cert.ReferenceUgateIdeal.nD Cert.ReferenceUgateIdeal.τ).loc Cert.ReferenceUgateIdeal.main_arg1) = m ((c.tc : Thread Cert.ReferenceUgateIdeal.nD Cert.ReferenceUgateIdeal.τ).loc Cert.ReferenceUgateIdeal.main_arg1)
      ∧ r.2.mem ((c.tc : Thread Cert.ReferenceUgateIdeal.nD Cert.ReferenceUgateIdeal.τ).loc Cert.ReferenceUgateIdeal.main_arg2) = m ((c.tc : Thread Cert.ReferenceUgateIdeal.nD Cert.ReferenceUgateIdeal.τ).loc Cert.ReferenceUgateIdeal.main_arg2)
      ∧ r.2.mem ((c.tc : Thread Cert.ReferenceUgateIdeal.nD Cert.ReferenceUgateIdeal.τ).loc Cert.ReferenceUgateIdeal.main_arg3) = m ((c.tc : Thread Cert.ReferenceUgateIdeal.nD Cert.ReferenceUgateIdeal.τ).loc Cert.ReferenceUgateIdeal.main_arg3))
      ∧ r.2.sem = fun _ => 0)

def quiescent_KernelUproj [hKernelUproj : Cert.KernelUproj.Facts] : Prop :=
  ∀ (m : (ℓ : Loc Cert.KernelUproj.nD Cert.KernelUproj.τ Cert.KernelUproj.sig) → Buf (Elt Bits) ℓ) (g : Dev Cert.KernelUproj.nD → PrngReg), Pre_KernelUproj m →
    θ_run (Cert.KernelUproj.defs (F := Bits)) (onTc (τ := Cert.KernelUproj.τ) (Cert.KernelUproj.main (F := Bits))) ⟨m, fun _ => 0, g⟩ (fun r => (∀ c : Dev Cert.KernelUproj.nD,
      r.2.mem ((c.tc : Thread Cert.KernelUproj.nD Cert.KernelUproj.τ).loc Cert.KernelUproj.main_arg0) = m ((c.tc : Thread Cert.KernelUproj.nD Cert.KernelUproj.τ).loc Cert.KernelUproj.main_arg0)
      ∧ r.2.mem ((c.tc : Thread Cert.KernelUproj.nD Cert.KernelUproj.τ).loc Cert.KernelUproj.main_arg1) = m ((c.tc : Thread Cert.KernelUproj.nD Cert.KernelUproj.τ).loc Cert.KernelUproj.main_arg1)
      ∧ r.2.mem ((c.tc : Thread Cert.KernelUproj.nD Cert.KernelUproj.τ).loc Cert.KernelUproj.main_arg2) = m ((c.tc : Thread Cert.KernelUproj.nD Cert.KernelUproj.τ).loc Cert.KernelUproj.main_arg2)
      ∧ r.2.mem ((c.tc : Thread Cert.KernelUproj.nD Cert.KernelUproj.τ).loc Cert.KernelUproj.main_arg3) = m ((c.tc : Thread Cert.KernelUproj.nD Cert.KernelUproj.τ).loc Cert.KernelUproj.main_arg3))
      ∧ r.2.sem = fun _ => 0)

def quiescent_KernelUprojIdeal [hKernelUprojIdeal : Cert.KernelUprojIdeal.Facts] : Prop :=
  ∀ (m : (ℓ : Loc Cert.KernelUprojIdeal.nD Cert.KernelUprojIdeal.τ Cert.KernelUprojIdeal.sig) → Buf (Elt Ideal) ℓ) (g : Dev Cert.KernelUprojIdeal.nD → PrngReg), Pre_KernelUprojIdeal m →
    θ_run (Cert.KernelUprojIdeal.defs (F := Ideal)) (onTc (τ := Cert.KernelUprojIdeal.τ) (Cert.KernelUprojIdeal.main (F := Ideal))) ⟨m, fun _ => 0, g⟩ (fun r => (∀ c : Dev Cert.KernelUprojIdeal.nD,
      r.2.mem ((c.tc : Thread Cert.KernelUprojIdeal.nD Cert.KernelUprojIdeal.τ).loc Cert.KernelUprojIdeal.main_arg0) = m ((c.tc : Thread Cert.KernelUprojIdeal.nD Cert.KernelUprojIdeal.τ).loc Cert.KernelUprojIdeal.main_arg0)
      ∧ r.2.mem ((c.tc : Thread Cert.KernelUprojIdeal.nD Cert.KernelUprojIdeal.τ).loc Cert.KernelUprojIdeal.main_arg1) = m ((c.tc : Thread Cert.KernelUprojIdeal.nD Cert.KernelUprojIdeal.τ).loc Cert.KernelUprojIdeal.main_arg1)
      ∧ r.2.mem ((c.tc : Thread Cert.KernelUprojIdeal.nD Cert.KernelUprojIdeal.τ).loc Cert.KernelUprojIdeal.main_arg2) = m ((c.tc : Thread Cert.KernelUprojIdeal.nD Cert.KernelUprojIdeal.τ).loc Cert.KernelUprojIdeal.main_arg2)
      ∧ r.2.mem ((c.tc : Thread Cert.KernelUprojIdeal.nD Cert.KernelUprojIdeal.τ).loc Cert.KernelUprojIdeal.main_arg3) = m ((c.tc : Thread Cert.KernelUprojIdeal.nD Cert.KernelUprojIdeal.τ).loc Cert.KernelUprojIdeal.main_arg3))
      ∧ r.2.sem = fun _ => 0)

def quiescent_ReferenceUprojIdeal [hReferenceUprojIdeal : Cert.ReferenceUprojIdeal.Facts] : Prop :=
  ∀ (m : (ℓ : Loc Cert.ReferenceUprojIdeal.nD Cert.ReferenceUprojIdeal.τ Cert.ReferenceUprojIdeal.sig) → Buf (Elt Ideal) ℓ) (g : Dev Cert.ReferenceUprojIdeal.nD → PrngReg), Pre_ReferenceUprojIdeal m →
    θ_run (Cert.ReferenceUprojIdeal.defs (F := Ideal)) (onTc (τ := Cert.ReferenceUprojIdeal.τ) (Cert.ReferenceUprojIdeal.main (F := Ideal))) ⟨m, fun _ => 0, g⟩ (fun r => (∀ c : Dev Cert.ReferenceUprojIdeal.nD,
      r.2.mem ((c.tc : Thread Cert.ReferenceUprojIdeal.nD Cert.ReferenceUprojIdeal.τ).loc Cert.ReferenceUprojIdeal.main_arg0) = m ((c.tc : Thread Cert.ReferenceUprojIdeal.nD Cert.ReferenceUprojIdeal.τ).loc Cert.ReferenceUprojIdeal.main_arg0)
      ∧ r.2.mem ((c.tc : Thread Cert.ReferenceUprojIdeal.nD Cert.ReferenceUprojIdeal.τ).loc Cert.ReferenceUprojIdeal.main_arg1) = m ((c.tc : Thread Cert.ReferenceUprojIdeal.nD Cert.ReferenceUprojIdeal.τ).loc Cert.ReferenceUprojIdeal.main_arg1)
      ∧ r.2.mem ((c.tc : Thread Cert.ReferenceUprojIdeal.nD Cert.ReferenceUprojIdeal.τ).loc Cert.ReferenceUprojIdeal.main_arg2) = m ((c.tc : Thread Cert.ReferenceUprojIdeal.nD Cert.ReferenceUprojIdeal.τ).loc Cert.ReferenceUprojIdeal.main_arg2)
      ∧ r.2.mem ((c.tc : Thread Cert.ReferenceUprojIdeal.nD Cert.ReferenceUprojIdeal.τ).loc Cert.ReferenceUprojIdeal.main_arg3) = m ((c.tc : Thread Cert.ReferenceUprojIdeal.nD Cert.ReferenceUprojIdeal.τ).loc Cert.ReferenceUprojIdeal.main_arg3))
      ∧ r.2.sem = fun _ => 0)

def quiescent_KernelUsmall [hKernelUsmall : Cert.KernelUsmall.Facts] : Prop :=
  ∀ (m : (ℓ : Loc Cert.KernelUsmall.nD Cert.KernelUsmall.τ Cert.KernelUsmall.sig) → Buf (Elt Bits) ℓ) (g : Dev Cert.KernelUsmall.nD → PrngReg), Pre_KernelUsmall m →
    θ_run (Cert.KernelUsmall.defs (F := Bits)) (onTc (τ := Cert.KernelUsmall.τ) (Cert.KernelUsmall.main (F := Bits))) ⟨m, fun _ => 0, g⟩ (fun r => (∀ c : Dev Cert.KernelUsmall.nD,
      r.2.mem ((c.tc : Thread Cert.KernelUsmall.nD Cert.KernelUsmall.τ).loc Cert.KernelUsmall.main_arg0) = m ((c.tc : Thread Cert.KernelUsmall.nD Cert.KernelUsmall.τ).loc Cert.KernelUsmall.main_arg0)
      ∧ r.2.mem ((c.tc : Thread Cert.KernelUsmall.nD Cert.KernelUsmall.τ).loc Cert.KernelUsmall.main_arg1) = m ((c.tc : Thread Cert.KernelUsmall.nD Cert.KernelUsmall.τ).loc Cert.KernelUsmall.main_arg1)
      ∧ r.2.mem ((c.tc : Thread Cert.KernelUsmall.nD Cert.KernelUsmall.τ).loc Cert.KernelUsmall.main_arg2) = m ((c.tc : Thread Cert.KernelUsmall.nD Cert.KernelUsmall.τ).loc Cert.KernelUsmall.main_arg2)
      ∧ r.2.mem ((c.tc : Thread Cert.KernelUsmall.nD Cert.KernelUsmall.τ).loc Cert.KernelUsmall.main_arg3) = m ((c.tc : Thread Cert.KernelUsmall.nD Cert.KernelUsmall.τ).loc Cert.KernelUsmall.main_arg3)
      ∧ r.2.mem ((c.tc : Thread Cert.KernelUsmall.nD Cert.KernelUsmall.τ).loc Cert.KernelUsmall.main_arg4) = m ((c.tc : Thread Cert.KernelUsmall.nD Cert.KernelUsmall.τ).loc Cert.KernelUsmall.main_arg4)
      ∧ r.2.mem ((c.tc : Thread Cert.KernelUsmall.nD Cert.KernelUsmall.τ).loc Cert.KernelUsmall.main_arg5) = m ((c.tc : Thread Cert.KernelUsmall.nD Cert.KernelUsmall.τ).loc Cert.KernelUsmall.main_arg5)
      ∧ r.2.mem ((c.tc : Thread Cert.KernelUsmall.nD Cert.KernelUsmall.τ).loc Cert.KernelUsmall.main_arg6) = m ((c.tc : Thread Cert.KernelUsmall.nD Cert.KernelUsmall.τ).loc Cert.KernelUsmall.main_arg6)
      ∧ r.2.mem ((c.tc : Thread Cert.KernelUsmall.nD Cert.KernelUsmall.τ).loc Cert.KernelUsmall.main_arg7) = m ((c.tc : Thread Cert.KernelUsmall.nD Cert.KernelUsmall.τ).loc Cert.KernelUsmall.main_arg7)
      ∧ r.2.mem ((c.tc : Thread Cert.KernelUsmall.nD Cert.KernelUsmall.τ).loc Cert.KernelUsmall.main_arg8) = m ((c.tc : Thread Cert.KernelUsmall.nD Cert.KernelUsmall.τ).loc Cert.KernelUsmall.main_arg8)
      ∧ r.2.mem ((c.tc : Thread Cert.KernelUsmall.nD Cert.KernelUsmall.τ).loc Cert.KernelUsmall.main_arg9) = m ((c.tc : Thread Cert.KernelUsmall.nD Cert.KernelUsmall.τ).loc Cert.KernelUsmall.main_arg9)
      ∧ r.2.mem ((c.tc : Thread Cert.KernelUsmall.nD Cert.KernelUsmall.τ).loc Cert.KernelUsmall.main_arg10) = m ((c.tc : Thread Cert.KernelUsmall.nD Cert.KernelUsmall.τ).loc Cert.KernelUsmall.main_arg10)
      ∧ r.2.mem ((c.tc : Thread Cert.KernelUsmall.nD Cert.KernelUsmall.τ).loc Cert.KernelUsmall.main_arg11) = m ((c.tc : Thread Cert.KernelUsmall.nD Cert.KernelUsmall.τ).loc Cert.KernelUsmall.main_arg11)
      ∧ r.2.mem ((c.tc : Thread Cert.KernelUsmall.nD Cert.KernelUsmall.τ).loc Cert.KernelUsmall.main_arg12) = m ((c.tc : Thread Cert.KernelUsmall.nD Cert.KernelUsmall.τ).loc Cert.KernelUsmall.main_arg12)
      ∧ r.2.mem ((c.tc : Thread Cert.KernelUsmall.nD Cert.KernelUsmall.τ).loc Cert.KernelUsmall.main_arg13) = m ((c.tc : Thread Cert.KernelUsmall.nD Cert.KernelUsmall.τ).loc Cert.KernelUsmall.main_arg13)
      ∧ r.2.mem ((c.tc : Thread Cert.KernelUsmall.nD Cert.KernelUsmall.τ).loc Cert.KernelUsmall.main_arg14) = m ((c.tc : Thread Cert.KernelUsmall.nD Cert.KernelUsmall.τ).loc Cert.KernelUsmall.main_arg14)
      ∧ r.2.mem ((c.tc : Thread Cert.KernelUsmall.nD Cert.KernelUsmall.τ).loc Cert.KernelUsmall.main_arg15) = m ((c.tc : Thread Cert.KernelUsmall.nD Cert.KernelUsmall.τ).loc Cert.KernelUsmall.main_arg15)
      ∧ r.2.mem ((c.tc : Thread Cert.KernelUsmall.nD Cert.KernelUsmall.τ).loc Cert.KernelUsmall.main_arg16) = m ((c.tc : Thread Cert.KernelUsmall.nD Cert.KernelUsmall.τ).loc Cert.KernelUsmall.main_arg16)
      ∧ r.2.mem ((c.tc : Thread Cert.KernelUsmall.nD Cert.KernelUsmall.τ).loc Cert.KernelUsmall.main_arg17) = m ((c.tc : Thread Cert.KernelUsmall.nD Cert.KernelUsmall.τ).loc Cert.KernelUsmall.main_arg17)
      ∧ r.2.mem ((c.tc : Thread Cert.KernelUsmall.nD Cert.KernelUsmall.τ).loc Cert.KernelUsmall.main_arg18) = m ((c.tc : Thread Cert.KernelUsmall.nD Cert.KernelUsmall.τ).loc Cert.KernelUsmall.main_arg18)
      ∧ r.2.mem ((c.tc : Thread Cert.KernelUsmall.nD Cert.KernelUsmall.τ).loc Cert.KernelUsmall.main_arg19) = m ((c.tc : Thread Cert.KernelUsmall.nD Cert.KernelUsmall.τ).loc Cert.KernelUsmall.main_arg19)
      ∧ r.2.mem ((c.tc : Thread Cert.KernelUsmall.nD Cert.KernelUsmall.τ).loc Cert.KernelUsmall.main_arg20) = m ((c.tc : Thread Cert.KernelUsmall.nD Cert.KernelUsmall.τ).loc Cert.KernelUsmall.main_arg20)
      ∧ r.2.mem ((c.tc : Thread Cert.KernelUsmall.nD Cert.KernelUsmall.τ).loc Cert.KernelUsmall.main_arg21) = m ((c.tc : Thread Cert.KernelUsmall.nD Cert.KernelUsmall.τ).loc Cert.KernelUsmall.main_arg21)
      ∧ r.2.mem ((c.tc : Thread Cert.KernelUsmall.nD Cert.KernelUsmall.τ).loc Cert.KernelUsmall.main_arg22) = m ((c.tc : Thread Cert.KernelUsmall.nD Cert.KernelUsmall.τ).loc Cert.KernelUsmall.main_arg22)
      ∧ r.2.mem ((c.tc : Thread Cert.KernelUsmall.nD Cert.KernelUsmall.τ).loc Cert.KernelUsmall.main_arg23) = m ((c.tc : Thread Cert.KernelUsmall.nD Cert.KernelUsmall.τ).loc Cert.KernelUsmall.main_arg23)
      ∧ r.2.mem ((c.tc : Thread Cert.KernelUsmall.nD Cert.KernelUsmall.τ).loc Cert.KernelUsmall.main_arg24) = m ((c.tc : Thread Cert.KernelUsmall.nD Cert.KernelUsmall.τ).loc Cert.KernelUsmall.main_arg24)
      ∧ r.2.mem ((c.tc : Thread Cert.KernelUsmall.nD Cert.KernelUsmall.τ).loc Cert.KernelUsmall.main_arg25) = m ((c.tc : Thread Cert.KernelUsmall.nD Cert.KernelUsmall.τ).loc Cert.KernelUsmall.main_arg25)
      ∧ r.2.mem ((c.tc : Thread Cert.KernelUsmall.nD Cert.KernelUsmall.τ).loc Cert.KernelUsmall.main_arg26) = m ((c.tc : Thread Cert.KernelUsmall.nD Cert.KernelUsmall.τ).loc Cert.KernelUsmall.main_arg26)
      ∧ r.2.mem ((c.tc : Thread Cert.KernelUsmall.nD Cert.KernelUsmall.τ).loc Cert.KernelUsmall.main_arg27) = m ((c.tc : Thread Cert.KernelUsmall.nD Cert.KernelUsmall.τ).loc Cert.KernelUsmall.main_arg27)
      ∧ r.2.mem ((c.tc : Thread Cert.KernelUsmall.nD Cert.KernelUsmall.τ).loc Cert.KernelUsmall.main_arg28) = m ((c.tc : Thread Cert.KernelUsmall.nD Cert.KernelUsmall.τ).loc Cert.KernelUsmall.main_arg28)
      ∧ r.2.mem ((c.tc : Thread Cert.KernelUsmall.nD Cert.KernelUsmall.τ).loc Cert.KernelUsmall.main_arg29) = m ((c.tc : Thread Cert.KernelUsmall.nD Cert.KernelUsmall.τ).loc Cert.KernelUsmall.main_arg29)
      ∧ r.2.mem ((c.tc : Thread Cert.KernelUsmall.nD Cert.KernelUsmall.τ).loc Cert.KernelUsmall.main_arg30) = m ((c.tc : Thread Cert.KernelUsmall.nD Cert.KernelUsmall.τ).loc Cert.KernelUsmall.main_arg30)
      ∧ r.2.mem ((c.tc : Thread Cert.KernelUsmall.nD Cert.KernelUsmall.τ).loc Cert.KernelUsmall.main_arg31) = m ((c.tc : Thread Cert.KernelUsmall.nD Cert.KernelUsmall.τ).loc Cert.KernelUsmall.main_arg31)
      ∧ r.2.mem ((c.tc : Thread Cert.KernelUsmall.nD Cert.KernelUsmall.τ).loc Cert.KernelUsmall.main_arg32) = m ((c.tc : Thread Cert.KernelUsmall.nD Cert.KernelUsmall.τ).loc Cert.KernelUsmall.main_arg32)
      ∧ r.2.mem ((c.tc : Thread Cert.KernelUsmall.nD Cert.KernelUsmall.τ).loc Cert.KernelUsmall.main_arg33) = m ((c.tc : Thread Cert.KernelUsmall.nD Cert.KernelUsmall.τ).loc Cert.KernelUsmall.main_arg33)
      ∧ r.2.mem ((c.tc : Thread Cert.KernelUsmall.nD Cert.KernelUsmall.τ).loc Cert.KernelUsmall.main_arg34) = m ((c.tc : Thread Cert.KernelUsmall.nD Cert.KernelUsmall.τ).loc Cert.KernelUsmall.main_arg34)
      ∧ r.2.mem ((c.tc : Thread Cert.KernelUsmall.nD Cert.KernelUsmall.τ).loc Cert.KernelUsmall.main_arg35) = m ((c.tc : Thread Cert.KernelUsmall.nD Cert.KernelUsmall.τ).loc Cert.KernelUsmall.main_arg35)
      ∧ r.2.mem ((c.tc : Thread Cert.KernelUsmall.nD Cert.KernelUsmall.τ).loc Cert.KernelUsmall.main_arg36) = m ((c.tc : Thread Cert.KernelUsmall.nD Cert.KernelUsmall.τ).loc Cert.KernelUsmall.main_arg36)
      ∧ r.2.mem ((c.tc : Thread Cert.KernelUsmall.nD Cert.KernelUsmall.τ).loc Cert.KernelUsmall.main_arg37) = m ((c.tc : Thread Cert.KernelUsmall.nD Cert.KernelUsmall.τ).loc Cert.KernelUsmall.main_arg37)
      ∧ r.2.mem ((c.tc : Thread Cert.KernelUsmall.nD Cert.KernelUsmall.τ).loc Cert.KernelUsmall.main_arg38) = m ((c.tc : Thread Cert.KernelUsmall.nD Cert.KernelUsmall.τ).loc Cert.KernelUsmall.main_arg38)
      ∧ r.2.mem ((c.tc : Thread Cert.KernelUsmall.nD Cert.KernelUsmall.τ).loc Cert.KernelUsmall.main_arg39) = m ((c.tc : Thread Cert.KernelUsmall.nD Cert.KernelUsmall.τ).loc Cert.KernelUsmall.main_arg39)
      ∧ r.2.mem ((c.tc : Thread Cert.KernelUsmall.nD Cert.KernelUsmall.τ).loc Cert.KernelUsmall.main_arg40) = m ((c.tc : Thread Cert.KernelUsmall.nD Cert.KernelUsmall.τ).loc Cert.KernelUsmall.main_arg40)
      ∧ r.2.mem ((c.tc : Thread Cert.KernelUsmall.nD Cert.KernelUsmall.τ).loc Cert.KernelUsmall.main_arg41) = m ((c.tc : Thread Cert.KernelUsmall.nD Cert.KernelUsmall.τ).loc Cert.KernelUsmall.main_arg41)
      ∧ r.2.mem ((c.tc : Thread Cert.KernelUsmall.nD Cert.KernelUsmall.τ).loc Cert.KernelUsmall.main_arg42) = m ((c.tc : Thread Cert.KernelUsmall.nD Cert.KernelUsmall.τ).loc Cert.KernelUsmall.main_arg42)
      ∧ r.2.mem ((c.tc : Thread Cert.KernelUsmall.nD Cert.KernelUsmall.τ).loc Cert.KernelUsmall.main_arg43) = m ((c.tc : Thread Cert.KernelUsmall.nD Cert.KernelUsmall.τ).loc Cert.KernelUsmall.main_arg43))
      ∧ r.2.sem = fun _ => 0)

def quiescent_KernelUsmallIdeal [hKernelUsmallIdeal : Cert.KernelUsmallIdeal.Facts] : Prop :=
  ∀ (m : (ℓ : Loc Cert.KernelUsmallIdeal.nD Cert.KernelUsmallIdeal.τ Cert.KernelUsmallIdeal.sig) → Buf (Elt Ideal) ℓ) (g : Dev Cert.KernelUsmallIdeal.nD → PrngReg), Pre_KernelUsmallIdeal m →
    θ_run (Cert.KernelUsmallIdeal.defs (F := Ideal)) (onTc (τ := Cert.KernelUsmallIdeal.τ) (Cert.KernelUsmallIdeal.main (F := Ideal))) ⟨m, fun _ => 0, g⟩ (fun r => (∀ c : Dev Cert.KernelUsmallIdeal.nD,
      r.2.mem ((c.tc : Thread Cert.KernelUsmallIdeal.nD Cert.KernelUsmallIdeal.τ).loc Cert.KernelUsmallIdeal.main_arg0) = m ((c.tc : Thread Cert.KernelUsmallIdeal.nD Cert.KernelUsmallIdeal.τ).loc Cert.KernelUsmallIdeal.main_arg0)
      ∧ r.2.mem ((c.tc : Thread Cert.KernelUsmallIdeal.nD Cert.KernelUsmallIdeal.τ).loc Cert.KernelUsmallIdeal.main_arg1) = m ((c.tc : Thread Cert.KernelUsmallIdeal.nD Cert.KernelUsmallIdeal.τ).loc Cert.KernelUsmallIdeal.main_arg1)
      ∧ r.2.mem ((c.tc : Thread Cert.KernelUsmallIdeal.nD Cert.KernelUsmallIdeal.τ).loc Cert.KernelUsmallIdeal.main_arg2) = m ((c.tc : Thread Cert.KernelUsmallIdeal.nD Cert.KernelUsmallIdeal.τ).loc Cert.KernelUsmallIdeal.main_arg2)
      ∧ r.2.mem ((c.tc : Thread Cert.KernelUsmallIdeal.nD Cert.KernelUsmallIdeal.τ).loc Cert.KernelUsmallIdeal.main_arg3) = m ((c.tc : Thread Cert.KernelUsmallIdeal.nD Cert.KernelUsmallIdeal.τ).loc Cert.KernelUsmallIdeal.main_arg3)
      ∧ r.2.mem ((c.tc : Thread Cert.KernelUsmallIdeal.nD Cert.KernelUsmallIdeal.τ).loc Cert.KernelUsmallIdeal.main_arg4) = m ((c.tc : Thread Cert.KernelUsmallIdeal.nD Cert.KernelUsmallIdeal.τ).loc Cert.KernelUsmallIdeal.main_arg4)
      ∧ r.2.mem ((c.tc : Thread Cert.KernelUsmallIdeal.nD Cert.KernelUsmallIdeal.τ).loc Cert.KernelUsmallIdeal.main_arg5) = m ((c.tc : Thread Cert.KernelUsmallIdeal.nD Cert.KernelUsmallIdeal.τ).loc Cert.KernelUsmallIdeal.main_arg5)
      ∧ r.2.mem ((c.tc : Thread Cert.KernelUsmallIdeal.nD Cert.KernelUsmallIdeal.τ).loc Cert.KernelUsmallIdeal.main_arg6) = m ((c.tc : Thread Cert.KernelUsmallIdeal.nD Cert.KernelUsmallIdeal.τ).loc Cert.KernelUsmallIdeal.main_arg6)
      ∧ r.2.mem ((c.tc : Thread Cert.KernelUsmallIdeal.nD Cert.KernelUsmallIdeal.τ).loc Cert.KernelUsmallIdeal.main_arg7) = m ((c.tc : Thread Cert.KernelUsmallIdeal.nD Cert.KernelUsmallIdeal.τ).loc Cert.KernelUsmallIdeal.main_arg7)
      ∧ r.2.mem ((c.tc : Thread Cert.KernelUsmallIdeal.nD Cert.KernelUsmallIdeal.τ).loc Cert.KernelUsmallIdeal.main_arg8) = m ((c.tc : Thread Cert.KernelUsmallIdeal.nD Cert.KernelUsmallIdeal.τ).loc Cert.KernelUsmallIdeal.main_arg8)
      ∧ r.2.mem ((c.tc : Thread Cert.KernelUsmallIdeal.nD Cert.KernelUsmallIdeal.τ).loc Cert.KernelUsmallIdeal.main_arg9) = m ((c.tc : Thread Cert.KernelUsmallIdeal.nD Cert.KernelUsmallIdeal.τ).loc Cert.KernelUsmallIdeal.main_arg9)
      ∧ r.2.mem ((c.tc : Thread Cert.KernelUsmallIdeal.nD Cert.KernelUsmallIdeal.τ).loc Cert.KernelUsmallIdeal.main_arg10) = m ((c.tc : Thread Cert.KernelUsmallIdeal.nD Cert.KernelUsmallIdeal.τ).loc Cert.KernelUsmallIdeal.main_arg10)
      ∧ r.2.mem ((c.tc : Thread Cert.KernelUsmallIdeal.nD Cert.KernelUsmallIdeal.τ).loc Cert.KernelUsmallIdeal.main_arg11) = m ((c.tc : Thread Cert.KernelUsmallIdeal.nD Cert.KernelUsmallIdeal.τ).loc Cert.KernelUsmallIdeal.main_arg11)
      ∧ r.2.mem ((c.tc : Thread Cert.KernelUsmallIdeal.nD Cert.KernelUsmallIdeal.τ).loc Cert.KernelUsmallIdeal.main_arg12) = m ((c.tc : Thread Cert.KernelUsmallIdeal.nD Cert.KernelUsmallIdeal.τ).loc Cert.KernelUsmallIdeal.main_arg12)
      ∧ r.2.mem ((c.tc : Thread Cert.KernelUsmallIdeal.nD Cert.KernelUsmallIdeal.τ).loc Cert.KernelUsmallIdeal.main_arg13) = m ((c.tc : Thread Cert.KernelUsmallIdeal.nD Cert.KernelUsmallIdeal.τ).loc Cert.KernelUsmallIdeal.main_arg13)
      ∧ r.2.mem ((c.tc : Thread Cert.KernelUsmallIdeal.nD Cert.KernelUsmallIdeal.τ).loc Cert.KernelUsmallIdeal.main_arg14) = m ((c.tc : Thread Cert.KernelUsmallIdeal.nD Cert.KernelUsmallIdeal.τ).loc Cert.KernelUsmallIdeal.main_arg14)
      ∧ r.2.mem ((c.tc : Thread Cert.KernelUsmallIdeal.nD Cert.KernelUsmallIdeal.τ).loc Cert.KernelUsmallIdeal.main_arg15) = m ((c.tc : Thread Cert.KernelUsmallIdeal.nD Cert.KernelUsmallIdeal.τ).loc Cert.KernelUsmallIdeal.main_arg15)
      ∧ r.2.mem ((c.tc : Thread Cert.KernelUsmallIdeal.nD Cert.KernelUsmallIdeal.τ).loc Cert.KernelUsmallIdeal.main_arg16) = m ((c.tc : Thread Cert.KernelUsmallIdeal.nD Cert.KernelUsmallIdeal.τ).loc Cert.KernelUsmallIdeal.main_arg16)
      ∧ r.2.mem ((c.tc : Thread Cert.KernelUsmallIdeal.nD Cert.KernelUsmallIdeal.τ).loc Cert.KernelUsmallIdeal.main_arg17) = m ((c.tc : Thread Cert.KernelUsmallIdeal.nD Cert.KernelUsmallIdeal.τ).loc Cert.KernelUsmallIdeal.main_arg17)
      ∧ r.2.mem ((c.tc : Thread Cert.KernelUsmallIdeal.nD Cert.KernelUsmallIdeal.τ).loc Cert.KernelUsmallIdeal.main_arg18) = m ((c.tc : Thread Cert.KernelUsmallIdeal.nD Cert.KernelUsmallIdeal.τ).loc Cert.KernelUsmallIdeal.main_arg18)
      ∧ r.2.mem ((c.tc : Thread Cert.KernelUsmallIdeal.nD Cert.KernelUsmallIdeal.τ).loc Cert.KernelUsmallIdeal.main_arg19) = m ((c.tc : Thread Cert.KernelUsmallIdeal.nD Cert.KernelUsmallIdeal.τ).loc Cert.KernelUsmallIdeal.main_arg19)
      ∧ r.2.mem ((c.tc : Thread Cert.KernelUsmallIdeal.nD Cert.KernelUsmallIdeal.τ).loc Cert.KernelUsmallIdeal.main_arg20) = m ((c.tc : Thread Cert.KernelUsmallIdeal.nD Cert.KernelUsmallIdeal.τ).loc Cert.KernelUsmallIdeal.main_arg20)
      ∧ r.2.mem ((c.tc : Thread Cert.KernelUsmallIdeal.nD Cert.KernelUsmallIdeal.τ).loc Cert.KernelUsmallIdeal.main_arg21) = m ((c.tc : Thread Cert.KernelUsmallIdeal.nD Cert.KernelUsmallIdeal.τ).loc Cert.KernelUsmallIdeal.main_arg21)
      ∧ r.2.mem ((c.tc : Thread Cert.KernelUsmallIdeal.nD Cert.KernelUsmallIdeal.τ).loc Cert.KernelUsmallIdeal.main_arg22) = m ((c.tc : Thread Cert.KernelUsmallIdeal.nD Cert.KernelUsmallIdeal.τ).loc Cert.KernelUsmallIdeal.main_arg22)
      ∧ r.2.mem ((c.tc : Thread Cert.KernelUsmallIdeal.nD Cert.KernelUsmallIdeal.τ).loc Cert.KernelUsmallIdeal.main_arg23) = m ((c.tc : Thread Cert.KernelUsmallIdeal.nD Cert.KernelUsmallIdeal.τ).loc Cert.KernelUsmallIdeal.main_arg23)
      ∧ r.2.mem ((c.tc : Thread Cert.KernelUsmallIdeal.nD Cert.KernelUsmallIdeal.τ).loc Cert.KernelUsmallIdeal.main_arg24) = m ((c.tc : Thread Cert.KernelUsmallIdeal.nD Cert.KernelUsmallIdeal.τ).loc Cert.KernelUsmallIdeal.main_arg24)
      ∧ r.2.mem ((c.tc : Thread Cert.KernelUsmallIdeal.nD Cert.KernelUsmallIdeal.τ).loc Cert.KernelUsmallIdeal.main_arg25) = m ((c.tc : Thread Cert.KernelUsmallIdeal.nD Cert.KernelUsmallIdeal.τ).loc Cert.KernelUsmallIdeal.main_arg25)
      ∧ r.2.mem ((c.tc : Thread Cert.KernelUsmallIdeal.nD Cert.KernelUsmallIdeal.τ).loc Cert.KernelUsmallIdeal.main_arg26) = m ((c.tc : Thread Cert.KernelUsmallIdeal.nD Cert.KernelUsmallIdeal.τ).loc Cert.KernelUsmallIdeal.main_arg26)
      ∧ r.2.mem ((c.tc : Thread Cert.KernelUsmallIdeal.nD Cert.KernelUsmallIdeal.τ).loc Cert.KernelUsmallIdeal.main_arg27) = m ((c.tc : Thread Cert.KernelUsmallIdeal.nD Cert.KernelUsmallIdeal.τ).loc Cert.KernelUsmallIdeal.main_arg27)
      ∧ r.2.mem ((c.tc : Thread Cert.KernelUsmallIdeal.nD Cert.KernelUsmallIdeal.τ).loc Cert.KernelUsmallIdeal.main_arg28) = m ((c.tc : Thread Cert.KernelUsmallIdeal.nD Cert.KernelUsmallIdeal.τ).loc Cert.KernelUsmallIdeal.main_arg28)
      ∧ r.2.mem ((c.tc : Thread Cert.KernelUsmallIdeal.nD Cert.KernelUsmallIdeal.τ).loc Cert.KernelUsmallIdeal.main_arg29) = m ((c.tc : Thread Cert.KernelUsmallIdeal.nD Cert.KernelUsmallIdeal.τ).loc Cert.KernelUsmallIdeal.main_arg29)
      ∧ r.2.mem ((c.tc : Thread Cert.KernelUsmallIdeal.nD Cert.KernelUsmallIdeal.τ).loc Cert.KernelUsmallIdeal.main_arg30) = m ((c.tc : Thread Cert.KernelUsmallIdeal.nD Cert.KernelUsmallIdeal.τ).loc Cert.KernelUsmallIdeal.main_arg30)
      ∧ r.2.mem ((c.tc : Thread Cert.KernelUsmallIdeal.nD Cert.KernelUsmallIdeal.τ).loc Cert.KernelUsmallIdeal.main_arg31) = m ((c.tc : Thread Cert.KernelUsmallIdeal.nD Cert.KernelUsmallIdeal.τ).loc Cert.KernelUsmallIdeal.main_arg31)
      ∧ r.2.mem ((c.tc : Thread Cert.KernelUsmallIdeal.nD Cert.KernelUsmallIdeal.τ).loc Cert.KernelUsmallIdeal.main_arg32) = m ((c.tc : Thread Cert.KernelUsmallIdeal.nD Cert.KernelUsmallIdeal.τ).loc Cert.KernelUsmallIdeal.main_arg32)
      ∧ r.2.mem ((c.tc : Thread Cert.KernelUsmallIdeal.nD Cert.KernelUsmallIdeal.τ).loc Cert.KernelUsmallIdeal.main_arg33) = m ((c.tc : Thread Cert.KernelUsmallIdeal.nD Cert.KernelUsmallIdeal.τ).loc Cert.KernelUsmallIdeal.main_arg33)
      ∧ r.2.mem ((c.tc : Thread Cert.KernelUsmallIdeal.nD Cert.KernelUsmallIdeal.τ).loc Cert.KernelUsmallIdeal.main_arg34) = m ((c.tc : Thread Cert.KernelUsmallIdeal.nD Cert.KernelUsmallIdeal.τ).loc Cert.KernelUsmallIdeal.main_arg34)
      ∧ r.2.mem ((c.tc : Thread Cert.KernelUsmallIdeal.nD Cert.KernelUsmallIdeal.τ).loc Cert.KernelUsmallIdeal.main_arg35) = m ((c.tc : Thread Cert.KernelUsmallIdeal.nD Cert.KernelUsmallIdeal.τ).loc Cert.KernelUsmallIdeal.main_arg35)
      ∧ r.2.mem ((c.tc : Thread Cert.KernelUsmallIdeal.nD Cert.KernelUsmallIdeal.τ).loc Cert.KernelUsmallIdeal.main_arg36) = m ((c.tc : Thread Cert.KernelUsmallIdeal.nD Cert.KernelUsmallIdeal.τ).loc Cert.KernelUsmallIdeal.main_arg36)
      ∧ r.2.mem ((c.tc : Thread Cert.KernelUsmallIdeal.nD Cert.KernelUsmallIdeal.τ).loc Cert.KernelUsmallIdeal.main_arg37) = m ((c.tc : Thread Cert.KernelUsmallIdeal.nD Cert.KernelUsmallIdeal.τ).loc Cert.KernelUsmallIdeal.main_arg37)
      ∧ r.2.mem ((c.tc : Thread Cert.KernelUsmallIdeal.nD Cert.KernelUsmallIdeal.τ).loc Cert.KernelUsmallIdeal.main_arg38) = m ((c.tc : Thread Cert.KernelUsmallIdeal.nD Cert.KernelUsmallIdeal.τ).loc Cert.KernelUsmallIdeal.main_arg38)
      ∧ r.2.mem ((c.tc : Thread Cert.KernelUsmallIdeal.nD Cert.KernelUsmallIdeal.τ).loc Cert.KernelUsmallIdeal.main_arg39) = m ((c.tc : Thread Cert.KernelUsmallIdeal.nD Cert.KernelUsmallIdeal.τ).loc Cert.KernelUsmallIdeal.main_arg39)
      ∧ r.2.mem ((c.tc : Thread Cert.KernelUsmallIdeal.nD Cert.KernelUsmallIdeal.τ).loc Cert.KernelUsmallIdeal.main_arg40) = m ((c.tc : Thread Cert.KernelUsmallIdeal.nD Cert.KernelUsmallIdeal.τ).loc Cert.KernelUsmallIdeal.main_arg40)
      ∧ r.2.mem ((c.tc : Thread Cert.KernelUsmallIdeal.nD Cert.KernelUsmallIdeal.τ).loc Cert.KernelUsmallIdeal.main_arg41) = m ((c.tc : Thread Cert.KernelUsmallIdeal.nD Cert.KernelUsmallIdeal.τ).loc Cert.KernelUsmallIdeal.main_arg41)
      ∧ r.2.mem ((c.tc : Thread Cert.KernelUsmallIdeal.nD Cert.KernelUsmallIdeal.τ).loc Cert.KernelUsmallIdeal.main_arg42) = m ((c.tc : Thread Cert.KernelUsmallIdeal.nD Cert.KernelUsmallIdeal.τ).loc Cert.KernelUsmallIdeal.main_arg42)
      ∧ r.2.mem ((c.tc : Thread Cert.KernelUsmallIdeal.nD Cert.KernelUsmallIdeal.τ).loc Cert.KernelUsmallIdeal.main_arg43) = m ((c.tc : Thread Cert.KernelUsmallIdeal.nD Cert.KernelUsmallIdeal.τ).loc Cert.KernelUsmallIdeal.main_arg43))
      ∧ r.2.sem = fun _ => 0)

def quiescent_ReferenceUsmallIdeal [hReferenceUsmallIdeal : Cert.ReferenceUsmallIdeal.Facts] : Prop :=
  ∀ (m : (ℓ : Loc Cert.ReferenceUsmallIdeal.nD Cert.ReferenceUsmallIdeal.τ Cert.ReferenceUsmallIdeal.sig) → Buf (Elt Ideal) ℓ) (g : Dev Cert.ReferenceUsmallIdeal.nD → PrngReg), Pre_ReferenceUsmallIdeal m →
    θ_run (Cert.ReferenceUsmallIdeal.defs (F := Ideal)) (onTc (τ := Cert.ReferenceUsmallIdeal.τ) (Cert.ReferenceUsmallIdeal.main (F := Ideal))) ⟨m, fun _ => 0, g⟩ (fun r => (∀ c : Dev Cert.ReferenceUsmallIdeal.nD,
      r.2.mem ((c.tc : Thread Cert.ReferenceUsmallIdeal.nD Cert.ReferenceUsmallIdeal.τ).loc Cert.ReferenceUsmallIdeal.main_arg0) = m ((c.tc : Thread Cert.ReferenceUsmallIdeal.nD Cert.ReferenceUsmallIdeal.τ).loc Cert.ReferenceUsmallIdeal.main_arg0)
      ∧ r.2.mem ((c.tc : Thread Cert.ReferenceUsmallIdeal.nD Cert.ReferenceUsmallIdeal.τ).loc Cert.ReferenceUsmallIdeal.main_arg1) = m ((c.tc : Thread Cert.ReferenceUsmallIdeal.nD Cert.ReferenceUsmallIdeal.τ).loc Cert.ReferenceUsmallIdeal.main_arg1)
      ∧ r.2.mem ((c.tc : Thread Cert.ReferenceUsmallIdeal.nD Cert.ReferenceUsmallIdeal.τ).loc Cert.ReferenceUsmallIdeal.main_arg2) = m ((c.tc : Thread Cert.ReferenceUsmallIdeal.nD Cert.ReferenceUsmallIdeal.τ).loc Cert.ReferenceUsmallIdeal.main_arg2)
      ∧ r.2.mem ((c.tc : Thread Cert.ReferenceUsmallIdeal.nD Cert.ReferenceUsmallIdeal.τ).loc Cert.ReferenceUsmallIdeal.main_arg3) = m ((c.tc : Thread Cert.ReferenceUsmallIdeal.nD Cert.ReferenceUsmallIdeal.τ).loc Cert.ReferenceUsmallIdeal.main_arg3)
      ∧ r.2.mem ((c.tc : Thread Cert.ReferenceUsmallIdeal.nD Cert.ReferenceUsmallIdeal.τ).loc Cert.ReferenceUsmallIdeal.main_arg4) = m ((c.tc : Thread Cert.ReferenceUsmallIdeal.nD Cert.ReferenceUsmallIdeal.τ).loc Cert.ReferenceUsmallIdeal.main_arg4)
      ∧ r.2.mem ((c.tc : Thread Cert.ReferenceUsmallIdeal.nD Cert.ReferenceUsmallIdeal.τ).loc Cert.ReferenceUsmallIdeal.main_arg5) = m ((c.tc : Thread Cert.ReferenceUsmallIdeal.nD Cert.ReferenceUsmallIdeal.τ).loc Cert.ReferenceUsmallIdeal.main_arg5)
      ∧ r.2.mem ((c.tc : Thread Cert.ReferenceUsmallIdeal.nD Cert.ReferenceUsmallIdeal.τ).loc Cert.ReferenceUsmallIdeal.main_arg6) = m ((c.tc : Thread Cert.ReferenceUsmallIdeal.nD Cert.ReferenceUsmallIdeal.τ).loc Cert.ReferenceUsmallIdeal.main_arg6)
      ∧ r.2.mem ((c.tc : Thread Cert.ReferenceUsmallIdeal.nD Cert.ReferenceUsmallIdeal.τ).loc Cert.ReferenceUsmallIdeal.main_arg7) = m ((c.tc : Thread Cert.ReferenceUsmallIdeal.nD Cert.ReferenceUsmallIdeal.τ).loc Cert.ReferenceUsmallIdeal.main_arg7)
      ∧ r.2.mem ((c.tc : Thread Cert.ReferenceUsmallIdeal.nD Cert.ReferenceUsmallIdeal.τ).loc Cert.ReferenceUsmallIdeal.main_arg8) = m ((c.tc : Thread Cert.ReferenceUsmallIdeal.nD Cert.ReferenceUsmallIdeal.τ).loc Cert.ReferenceUsmallIdeal.main_arg8)
      ∧ r.2.mem ((c.tc : Thread Cert.ReferenceUsmallIdeal.nD Cert.ReferenceUsmallIdeal.τ).loc Cert.ReferenceUsmallIdeal.main_arg9) = m ((c.tc : Thread Cert.ReferenceUsmallIdeal.nD Cert.ReferenceUsmallIdeal.τ).loc Cert.ReferenceUsmallIdeal.main_arg9)
      ∧ r.2.mem ((c.tc : Thread Cert.ReferenceUsmallIdeal.nD Cert.ReferenceUsmallIdeal.τ).loc Cert.ReferenceUsmallIdeal.main_arg10) = m ((c.tc : Thread Cert.ReferenceUsmallIdeal.nD Cert.ReferenceUsmallIdeal.τ).loc Cert.ReferenceUsmallIdeal.main_arg10)
      ∧ r.2.mem ((c.tc : Thread Cert.ReferenceUsmallIdeal.nD Cert.ReferenceUsmallIdeal.τ).loc Cert.ReferenceUsmallIdeal.main_arg11) = m ((c.tc : Thread Cert.ReferenceUsmallIdeal.nD Cert.ReferenceUsmallIdeal.τ).loc Cert.ReferenceUsmallIdeal.main_arg11)
      ∧ r.2.mem ((c.tc : Thread Cert.ReferenceUsmallIdeal.nD Cert.ReferenceUsmallIdeal.τ).loc Cert.ReferenceUsmallIdeal.main_arg12) = m ((c.tc : Thread Cert.ReferenceUsmallIdeal.nD Cert.ReferenceUsmallIdeal.τ).loc Cert.ReferenceUsmallIdeal.main_arg12)
      ∧ r.2.mem ((c.tc : Thread Cert.ReferenceUsmallIdeal.nD Cert.ReferenceUsmallIdeal.τ).loc Cert.ReferenceUsmallIdeal.main_arg13) = m ((c.tc : Thread Cert.ReferenceUsmallIdeal.nD Cert.ReferenceUsmallIdeal.τ).loc Cert.ReferenceUsmallIdeal.main_arg13)
      ∧ r.2.mem ((c.tc : Thread Cert.ReferenceUsmallIdeal.nD Cert.ReferenceUsmallIdeal.τ).loc Cert.ReferenceUsmallIdeal.main_arg14) = m ((c.tc : Thread Cert.ReferenceUsmallIdeal.nD Cert.ReferenceUsmallIdeal.τ).loc Cert.ReferenceUsmallIdeal.main_arg14)
      ∧ r.2.mem ((c.tc : Thread Cert.ReferenceUsmallIdeal.nD Cert.ReferenceUsmallIdeal.τ).loc Cert.ReferenceUsmallIdeal.main_arg15) = m ((c.tc : Thread Cert.ReferenceUsmallIdeal.nD Cert.ReferenceUsmallIdeal.τ).loc Cert.ReferenceUsmallIdeal.main_arg15)
      ∧ r.2.mem ((c.tc : Thread Cert.ReferenceUsmallIdeal.nD Cert.ReferenceUsmallIdeal.τ).loc Cert.ReferenceUsmallIdeal.main_arg16) = m ((c.tc : Thread Cert.ReferenceUsmallIdeal.nD Cert.ReferenceUsmallIdeal.τ).loc Cert.ReferenceUsmallIdeal.main_arg16)
      ∧ r.2.mem ((c.tc : Thread Cert.ReferenceUsmallIdeal.nD Cert.ReferenceUsmallIdeal.τ).loc Cert.ReferenceUsmallIdeal.main_arg17) = m ((c.tc : Thread Cert.ReferenceUsmallIdeal.nD Cert.ReferenceUsmallIdeal.τ).loc Cert.ReferenceUsmallIdeal.main_arg17)
      ∧ r.2.mem ((c.tc : Thread Cert.ReferenceUsmallIdeal.nD Cert.ReferenceUsmallIdeal.τ).loc Cert.ReferenceUsmallIdeal.main_arg18) = m ((c.tc : Thread Cert.ReferenceUsmallIdeal.nD Cert.ReferenceUsmallIdeal.τ).loc Cert.ReferenceUsmallIdeal.main_arg18)
      ∧ r.2.mem ((c.tc : Thread Cert.ReferenceUsmallIdeal.nD Cert.ReferenceUsmallIdeal.τ).loc Cert.ReferenceUsmallIdeal.main_arg19) = m ((c.tc : Thread Cert.ReferenceUsmallIdeal.nD Cert.ReferenceUsmallIdeal.τ).loc Cert.ReferenceUsmallIdeal.main_arg19)
      ∧ r.2.mem ((c.tc : Thread Cert.ReferenceUsmallIdeal.nD Cert.ReferenceUsmallIdeal.τ).loc Cert.ReferenceUsmallIdeal.main_arg20) = m ((c.tc : Thread Cert.ReferenceUsmallIdeal.nD Cert.ReferenceUsmallIdeal.τ).loc Cert.ReferenceUsmallIdeal.main_arg20)
      ∧ r.2.mem ((c.tc : Thread Cert.ReferenceUsmallIdeal.nD Cert.ReferenceUsmallIdeal.τ).loc Cert.ReferenceUsmallIdeal.main_arg21) = m ((c.tc : Thread Cert.ReferenceUsmallIdeal.nD Cert.ReferenceUsmallIdeal.τ).loc Cert.ReferenceUsmallIdeal.main_arg21)
      ∧ r.2.mem ((c.tc : Thread Cert.ReferenceUsmallIdeal.nD Cert.ReferenceUsmallIdeal.τ).loc Cert.ReferenceUsmallIdeal.main_arg22) = m ((c.tc : Thread Cert.ReferenceUsmallIdeal.nD Cert.ReferenceUsmallIdeal.τ).loc Cert.ReferenceUsmallIdeal.main_arg22)
      ∧ r.2.mem ((c.tc : Thread Cert.ReferenceUsmallIdeal.nD Cert.ReferenceUsmallIdeal.τ).loc Cert.ReferenceUsmallIdeal.main_arg23) = m ((c.tc : Thread Cert.ReferenceUsmallIdeal.nD Cert.ReferenceUsmallIdeal.τ).loc Cert.ReferenceUsmallIdeal.main_arg23)
      ∧ r.2.mem ((c.tc : Thread Cert.ReferenceUsmallIdeal.nD Cert.ReferenceUsmallIdeal.τ).loc Cert.ReferenceUsmallIdeal.main_arg24) = m ((c.tc : Thread Cert.ReferenceUsmallIdeal.nD Cert.ReferenceUsmallIdeal.τ).loc Cert.ReferenceUsmallIdeal.main_arg24)
      ∧ r.2.mem ((c.tc : Thread Cert.ReferenceUsmallIdeal.nD Cert.ReferenceUsmallIdeal.τ).loc Cert.ReferenceUsmallIdeal.main_arg25) = m ((c.tc : Thread Cert.ReferenceUsmallIdeal.nD Cert.ReferenceUsmallIdeal.τ).loc Cert.ReferenceUsmallIdeal.main_arg25)
      ∧ r.2.mem ((c.tc : Thread Cert.ReferenceUsmallIdeal.nD Cert.ReferenceUsmallIdeal.τ).loc Cert.ReferenceUsmallIdeal.main_arg26) = m ((c.tc : Thread Cert.ReferenceUsmallIdeal.nD Cert.ReferenceUsmallIdeal.τ).loc Cert.ReferenceUsmallIdeal.main_arg26)
      ∧ r.2.mem ((c.tc : Thread Cert.ReferenceUsmallIdeal.nD Cert.ReferenceUsmallIdeal.τ).loc Cert.ReferenceUsmallIdeal.main_arg27) = m ((c.tc : Thread Cert.ReferenceUsmallIdeal.nD Cert.ReferenceUsmallIdeal.τ).loc Cert.ReferenceUsmallIdeal.main_arg27)
      ∧ r.2.mem ((c.tc : Thread Cert.ReferenceUsmallIdeal.nD Cert.ReferenceUsmallIdeal.τ).loc Cert.ReferenceUsmallIdeal.main_arg28) = m ((c.tc : Thread Cert.ReferenceUsmallIdeal.nD Cert.ReferenceUsmallIdeal.τ).loc Cert.ReferenceUsmallIdeal.main_arg28)
      ∧ r.2.mem ((c.tc : Thread Cert.ReferenceUsmallIdeal.nD Cert.ReferenceUsmallIdeal.τ).loc Cert.ReferenceUsmallIdeal.main_arg29) = m ((c.tc : Thread Cert.ReferenceUsmallIdeal.nD Cert.ReferenceUsmallIdeal.τ).loc Cert.ReferenceUsmallIdeal.main_arg29)
      ∧ r.2.mem ((c.tc : Thread Cert.ReferenceUsmallIdeal.nD Cert.ReferenceUsmallIdeal.τ).loc Cert.ReferenceUsmallIdeal.main_arg30) = m ((c.tc : Thread Cert.ReferenceUsmallIdeal.nD Cert.ReferenceUsmallIdeal.τ).loc Cert.ReferenceUsmallIdeal.main_arg30)
      ∧ r.2.mem ((c.tc : Thread Cert.ReferenceUsmallIdeal.nD Cert.ReferenceUsmallIdeal.τ).loc Cert.ReferenceUsmallIdeal.main_arg31) = m ((c.tc : Thread Cert.ReferenceUsmallIdeal.nD Cert.ReferenceUsmallIdeal.τ).loc Cert.ReferenceUsmallIdeal.main_arg31)
      ∧ r.2.mem ((c.tc : Thread Cert.ReferenceUsmallIdeal.nD Cert.ReferenceUsmallIdeal.τ).loc Cert.ReferenceUsmallIdeal.main_arg32) = m ((c.tc : Thread Cert.ReferenceUsmallIdeal.nD Cert.ReferenceUsmallIdeal.τ).loc Cert.ReferenceUsmallIdeal.main_arg32)
      ∧ r.2.mem ((c.tc : Thread Cert.ReferenceUsmallIdeal.nD Cert.ReferenceUsmallIdeal.τ).loc Cert.ReferenceUsmallIdeal.main_arg33) = m ((c.tc : Thread Cert.ReferenceUsmallIdeal.nD Cert.ReferenceUsmallIdeal.τ).loc Cert.ReferenceUsmallIdeal.main_arg33)
      ∧ r.2.mem ((c.tc : Thread Cert.ReferenceUsmallIdeal.nD Cert.ReferenceUsmallIdeal.τ).loc Cert.ReferenceUsmallIdeal.main_arg34) = m ((c.tc : Thread Cert.ReferenceUsmallIdeal.nD Cert.ReferenceUsmallIdeal.τ).loc Cert.ReferenceUsmallIdeal.main_arg34)
      ∧ r.2.mem ((c.tc : Thread Cert.ReferenceUsmallIdeal.nD Cert.ReferenceUsmallIdeal.τ).loc Cert.ReferenceUsmallIdeal.main_arg35) = m ((c.tc : Thread Cert.ReferenceUsmallIdeal.nD Cert.ReferenceUsmallIdeal.τ).loc Cert.ReferenceUsmallIdeal.main_arg35)
      ∧ r.2.mem ((c.tc : Thread Cert.ReferenceUsmallIdeal.nD Cert.ReferenceUsmallIdeal.τ).loc Cert.ReferenceUsmallIdeal.main_arg36) = m ((c.tc : Thread Cert.ReferenceUsmallIdeal.nD Cert.ReferenceUsmallIdeal.τ).loc Cert.ReferenceUsmallIdeal.main_arg36)
      ∧ r.2.mem ((c.tc : Thread Cert.ReferenceUsmallIdeal.nD Cert.ReferenceUsmallIdeal.τ).loc Cert.ReferenceUsmallIdeal.main_arg37) = m ((c.tc : Thread Cert.ReferenceUsmallIdeal.nD Cert.ReferenceUsmallIdeal.τ).loc Cert.ReferenceUsmallIdeal.main_arg37)
      ∧ r.2.mem ((c.tc : Thread Cert.ReferenceUsmallIdeal.nD Cert.ReferenceUsmallIdeal.τ).loc Cert.ReferenceUsmallIdeal.main_arg38) = m ((c.tc : Thread Cert.ReferenceUsmallIdeal.nD Cert.ReferenceUsmallIdeal.τ).loc Cert.ReferenceUsmallIdeal.main_arg38)
      ∧ r.2.mem ((c.tc : Thread Cert.ReferenceUsmallIdeal.nD Cert.ReferenceUsmallIdeal.τ).loc Cert.ReferenceUsmallIdeal.main_arg39) = m ((c.tc : Thread Cert.ReferenceUsmallIdeal.nD Cert.ReferenceUsmallIdeal.τ).loc Cert.ReferenceUsmallIdeal.main_arg39)
      ∧ r.2.mem ((c.tc : Thread Cert.ReferenceUsmallIdeal.nD Cert.ReferenceUsmallIdeal.τ).loc Cert.ReferenceUsmallIdeal.main_arg40) = m ((c.tc : Thread Cert.ReferenceUsmallIdeal.nD Cert.ReferenceUsmallIdeal.τ).loc Cert.ReferenceUsmallIdeal.main_arg40)
      ∧ r.2.mem ((c.tc : Thread Cert.ReferenceUsmallIdeal.nD Cert.ReferenceUsmallIdeal.τ).loc Cert.ReferenceUsmallIdeal.main_arg41) = m ((c.tc : Thread Cert.ReferenceUsmallIdeal.nD Cert.ReferenceUsmallIdeal.τ).loc Cert.ReferenceUsmallIdeal.main_arg41)
      ∧ r.2.mem ((c.tc : Thread Cert.ReferenceUsmallIdeal.nD Cert.ReferenceUsmallIdeal.τ).loc Cert.ReferenceUsmallIdeal.main_arg42) = m ((c.tc : Thread Cert.ReferenceUsmallIdeal.nD Cert.ReferenceUsmallIdeal.τ).loc Cert.ReferenceUsmallIdeal.main_arg42)
      ∧ r.2.mem ((c.tc : Thread Cert.ReferenceUsmallIdeal.nD Cert.ReferenceUsmallIdeal.τ).loc Cert.ReferenceUsmallIdeal.main_arg43) = m ((c.tc : Thread Cert.ReferenceUsmallIdeal.nD Cert.ReferenceUsmallIdeal.τ).loc Cert.ReferenceUsmallIdeal.main_arg43))
      ∧ r.2.sem = fun _ => 0)

def quiescent_KernelPair [hKernelPair : Cert.KernelPair.Facts] : Prop :=
  ∀ (m : (ℓ : Loc Cert.KernelPair.nD Cert.KernelPair.τ Cert.KernelPair.sig) → Buf (Elt Bits) ℓ) (g : Dev Cert.KernelPair.nD → PrngReg), Pre_KernelPair m →
    θ_run (Cert.KernelPair.defs (F := Bits)) (onTc (τ := Cert.KernelPair.τ) (Cert.KernelPair.main (F := Bits))) ⟨m, fun _ => 0, g⟩ (fun r => (∀ c : Dev Cert.KernelPair.nD,
      r.2.mem ((c.tc : Thread Cert.KernelPair.nD Cert.KernelPair.τ).loc Cert.KernelPair.main_arg0) = m ((c.tc : Thread Cert.KernelPair.nD Cert.KernelPair.τ).loc Cert.KernelPair.main_arg0)
      ∧ r.2.mem ((c.tc : Thread Cert.KernelPair.nD Cert.KernelPair.τ).loc Cert.KernelPair.main_arg1) = m ((c.tc : Thread Cert.KernelPair.nD Cert.KernelPair.τ).loc Cert.KernelPair.main_arg1)
      ∧ r.2.mem ((c.tc : Thread Cert.KernelPair.nD Cert.KernelPair.τ).loc Cert.KernelPair.main_arg2) = m ((c.tc : Thread Cert.KernelPair.nD Cert.KernelPair.τ).loc Cert.KernelPair.main_arg2)
      ∧ r.2.mem ((c.tc : Thread Cert.KernelPair.nD Cert.KernelPair.τ).loc Cert.KernelPair.main_arg3) = m ((c.tc : Thread Cert.KernelPair.nD Cert.KernelPair.τ).loc Cert.KernelPair.main_arg3)
      ∧ r.2.mem ((c.tc : Thread Cert.KernelPair.nD Cert.KernelPair.τ).loc Cert.KernelPair.main_arg4) = m ((c.tc : Thread Cert.KernelPair.nD Cert.KernelPair.τ).loc Cert.KernelPair.main_arg4)
      ∧ r.2.mem ((c.tc : Thread Cert.KernelPair.nD Cert.KernelPair.τ).loc Cert.KernelPair.main_arg5) = m ((c.tc : Thread Cert.KernelPair.nD Cert.KernelPair.τ).loc Cert.KernelPair.main_arg5)
      ∧ r.2.mem ((c.tc : Thread Cert.KernelPair.nD Cert.KernelPair.τ).loc Cert.KernelPair.main_arg6) = m ((c.tc : Thread Cert.KernelPair.nD Cert.KernelPair.τ).loc Cert.KernelPair.main_arg6)
      ∧ r.2.mem ((c.tc : Thread Cert.KernelPair.nD Cert.KernelPair.τ).loc Cert.KernelPair.main_arg7) = m ((c.tc : Thread Cert.KernelPair.nD Cert.KernelPair.τ).loc Cert.KernelPair.main_arg7))
      ∧ r.2.sem = fun _ => 0)

def quiescent_KernelPairIdeal [hKernelPairIdeal : Cert.KernelPairIdeal.Facts] : Prop :=
  ∀ (m : (ℓ : Loc Cert.KernelPairIdeal.nD Cert.KernelPairIdeal.τ Cert.KernelPairIdeal.sig) → Buf (Elt Ideal) ℓ) (g : Dev Cert.KernelPairIdeal.nD → PrngReg), Pre_KernelPairIdeal m →
    θ_run (Cert.KernelPairIdeal.defs (F := Ideal)) (onTc (τ := Cert.KernelPairIdeal.τ) (Cert.KernelPairIdeal.main (F := Ideal))) ⟨m, fun _ => 0, g⟩ (fun r => (∀ c : Dev Cert.KernelPairIdeal.nD,
      r.2.mem ((c.tc : Thread Cert.KernelPairIdeal.nD Cert.KernelPairIdeal.τ).loc Cert.KernelPairIdeal.main_arg0) = m ((c.tc : Thread Cert.KernelPairIdeal.nD Cert.KernelPairIdeal.τ).loc Cert.KernelPairIdeal.main_arg0)
      ∧ r.2.mem ((c.tc : Thread Cert.KernelPairIdeal.nD Cert.KernelPairIdeal.τ).loc Cert.KernelPairIdeal.main_arg1) = m ((c.tc : Thread Cert.KernelPairIdeal.nD Cert.KernelPairIdeal.τ).loc Cert.KernelPairIdeal.main_arg1)
      ∧ r.2.mem ((c.tc : Thread Cert.KernelPairIdeal.nD Cert.KernelPairIdeal.τ).loc Cert.KernelPairIdeal.main_arg2) = m ((c.tc : Thread Cert.KernelPairIdeal.nD Cert.KernelPairIdeal.τ).loc Cert.KernelPairIdeal.main_arg2)
      ∧ r.2.mem ((c.tc : Thread Cert.KernelPairIdeal.nD Cert.KernelPairIdeal.τ).loc Cert.KernelPairIdeal.main_arg3) = m ((c.tc : Thread Cert.KernelPairIdeal.nD Cert.KernelPairIdeal.τ).loc Cert.KernelPairIdeal.main_arg3)
      ∧ r.2.mem ((c.tc : Thread Cert.KernelPairIdeal.nD Cert.KernelPairIdeal.τ).loc Cert.KernelPairIdeal.main_arg4) = m ((c.tc : Thread Cert.KernelPairIdeal.nD Cert.KernelPairIdeal.τ).loc Cert.KernelPairIdeal.main_arg4)
      ∧ r.2.mem ((c.tc : Thread Cert.KernelPairIdeal.nD Cert.KernelPairIdeal.τ).loc Cert.KernelPairIdeal.main_arg5) = m ((c.tc : Thread Cert.KernelPairIdeal.nD Cert.KernelPairIdeal.τ).loc Cert.KernelPairIdeal.main_arg5)
      ∧ r.2.mem ((c.tc : Thread Cert.KernelPairIdeal.nD Cert.KernelPairIdeal.τ).loc Cert.KernelPairIdeal.main_arg6) = m ((c.tc : Thread Cert.KernelPairIdeal.nD Cert.KernelPairIdeal.τ).loc Cert.KernelPairIdeal.main_arg6)
      ∧ r.2.mem ((c.tc : Thread Cert.KernelPairIdeal.nD Cert.KernelPairIdeal.τ).loc Cert.KernelPairIdeal.main_arg7) = m ((c.tc : Thread Cert.KernelPairIdeal.nD Cert.KernelPairIdeal.τ).loc Cert.KernelPairIdeal.main_arg7))
      ∧ r.2.sem = fun _ => 0)

def quiescent_ReferencePairIdeal [hReferencePairIdeal : Cert.ReferencePairIdeal.Facts] : Prop :=
  ∀ (m : (ℓ : Loc Cert.ReferencePairIdeal.nD Cert.ReferencePairIdeal.τ Cert.ReferencePairIdeal.sig) → Buf (Elt Ideal) ℓ) (g : Dev Cert.ReferencePairIdeal.nD → PrngReg), Pre_ReferencePairIdeal m →
    θ_run (Cert.ReferencePairIdeal.defs (F := Ideal)) (onTc (τ := Cert.ReferencePairIdeal.τ) (Cert.ReferencePairIdeal.main (F := Ideal))) ⟨m, fun _ => 0, g⟩ (fun r => (∀ c : Dev Cert.ReferencePairIdeal.nD,
      r.2.mem ((c.tc : Thread Cert.ReferencePairIdeal.nD Cert.ReferencePairIdeal.τ).loc Cert.ReferencePairIdeal.main_arg0) = m ((c.tc : Thread Cert.ReferencePairIdeal.nD Cert.ReferencePairIdeal.τ).loc Cert.ReferencePairIdeal.main_arg0)
      ∧ r.2.mem ((c.tc : Thread Cert.ReferencePairIdeal.nD Cert.ReferencePairIdeal.τ).loc Cert.ReferencePairIdeal.main_arg1) = m ((c.tc : Thread Cert.ReferencePairIdeal.nD Cert.ReferencePairIdeal.τ).loc Cert.ReferencePairIdeal.main_arg1)
      ∧ r.2.mem ((c.tc : Thread Cert.ReferencePairIdeal.nD Cert.ReferencePairIdeal.τ).loc Cert.ReferencePairIdeal.main_arg2) = m ((c.tc : Thread Cert.ReferencePairIdeal.nD Cert.ReferencePairIdeal.τ).loc Cert.ReferencePairIdeal.main_arg2)
      ∧ r.2.mem ((c.tc : Thread Cert.ReferencePairIdeal.nD Cert.ReferencePairIdeal.τ).loc Cert.ReferencePairIdeal.main_arg3) = m ((c.tc : Thread Cert.ReferencePairIdeal.nD Cert.ReferencePairIdeal.τ).loc Cert.ReferencePairIdeal.main_arg3)
      ∧ r.2.mem ((c.tc : Thread Cert.ReferencePairIdeal.nD Cert.ReferencePairIdeal.τ).loc Cert.ReferencePairIdeal.main_arg4) = m ((c.tc : Thread Cert.ReferencePairIdeal.nD Cert.ReferencePairIdeal.τ).loc Cert.ReferencePairIdeal.main_arg4)
      ∧ r.2.mem ((c.tc : Thread Cert.ReferencePairIdeal.nD Cert.ReferencePairIdeal.τ).loc Cert.ReferencePairIdeal.main_arg5) = m ((c.tc : Thread Cert.ReferencePairIdeal.nD Cert.ReferencePairIdeal.τ).loc Cert.ReferencePairIdeal.main_arg5)
      ∧ r.2.mem ((c.tc : Thread Cert.ReferencePairIdeal.nD Cert.ReferencePairIdeal.τ).loc Cert.ReferencePairIdeal.main_arg6) = m ((c.tc : Thread Cert.ReferencePairIdeal.nD Cert.ReferencePairIdeal.τ).loc Cert.ReferencePairIdeal.main_arg6)
      ∧ r.2.mem ((c.tc : Thread Cert.ReferencePairIdeal.nD Cert.ReferencePairIdeal.τ).loc Cert.ReferencePairIdeal.main_arg7) = m ((c.tc : Thread Cert.ReferencePairIdeal.nD Cert.ReferencePairIdeal.τ).loc Cert.ReferencePairIdeal.main_arg7))
      ∧ r.2.sem = fun _ => 0)

def quiescent_KernelPairSmall [hKernelPairSmall : Cert.KernelPairSmall.Facts] : Prop :=
  ∀ (m : (ℓ : Loc Cert.KernelPairSmall.nD Cert.KernelPairSmall.τ Cert.KernelPairSmall.sig) → Buf (Elt Bits) ℓ) (g : Dev Cert.KernelPairSmall.nD → PrngReg), Pre_KernelPairSmall m →
    θ_run (Cert.KernelPairSmall.defs (F := Bits)) (onTc (τ := Cert.KernelPairSmall.τ) (Cert.KernelPairSmall.main (F := Bits))) ⟨m, fun _ => 0, g⟩ (fun r => (∀ c : Dev Cert.KernelPairSmall.nD,
      r.2.mem ((c.tc : Thread Cert.KernelPairSmall.nD Cert.KernelPairSmall.τ).loc Cert.KernelPairSmall.main_arg0) = m ((c.tc : Thread Cert.KernelPairSmall.nD Cert.KernelPairSmall.τ).loc Cert.KernelPairSmall.main_arg0)
      ∧ r.2.mem ((c.tc : Thread Cert.KernelPairSmall.nD Cert.KernelPairSmall.τ).loc Cert.KernelPairSmall.main_arg1) = m ((c.tc : Thread Cert.KernelPairSmall.nD Cert.KernelPairSmall.τ).loc Cert.KernelPairSmall.main_arg1))
      ∧ r.2.sem = fun _ => 0)

def quiescent_KernelPairSmallIdeal [hKernelPairSmallIdeal : Cert.KernelPairSmallIdeal.Facts] : Prop :=
  ∀ (m : (ℓ : Loc Cert.KernelPairSmallIdeal.nD Cert.KernelPairSmallIdeal.τ Cert.KernelPairSmallIdeal.sig) → Buf (Elt Ideal) ℓ) (g : Dev Cert.KernelPairSmallIdeal.nD → PrngReg), Pre_KernelPairSmallIdeal m →
    θ_run (Cert.KernelPairSmallIdeal.defs (F := Ideal)) (onTc (τ := Cert.KernelPairSmallIdeal.τ) (Cert.KernelPairSmallIdeal.main (F := Ideal))) ⟨m, fun _ => 0, g⟩ (fun r => (∀ c : Dev Cert.KernelPairSmallIdeal.nD,
      r.2.mem ((c.tc : Thread Cert.KernelPairSmallIdeal.nD Cert.KernelPairSmallIdeal.τ).loc Cert.KernelPairSmallIdeal.main_arg0) = m ((c.tc : Thread Cert.KernelPairSmallIdeal.nD Cert.KernelPairSmallIdeal.τ).loc Cert.KernelPairSmallIdeal.main_arg0)
      ∧ r.2.mem ((c.tc : Thread Cert.KernelPairSmallIdeal.nD Cert.KernelPairSmallIdeal.τ).loc Cert.KernelPairSmallIdeal.main_arg1) = m ((c.tc : Thread Cert.KernelPairSmallIdeal.nD Cert.KernelPairSmallIdeal.τ).loc Cert.KernelPairSmallIdeal.main_arg1))
      ∧ r.2.sem = fun _ => 0)

def quiescent_ReferencePairSmallIdeal [hReferencePairSmallIdeal : Cert.ReferencePairSmallIdeal.Facts] : Prop :=
  ∀ (m : (ℓ : Loc Cert.ReferencePairSmallIdeal.nD Cert.ReferencePairSmallIdeal.τ Cert.ReferencePairSmallIdeal.sig) → Buf (Elt Ideal) ℓ) (g : Dev Cert.ReferencePairSmallIdeal.nD → PrngReg), Pre_ReferencePairSmallIdeal m →
    θ_run (Cert.ReferencePairSmallIdeal.defs (F := Ideal)) (onTc (τ := Cert.ReferencePairSmallIdeal.τ) (Cert.ReferencePairSmallIdeal.main (F := Ideal))) ⟨m, fun _ => 0, g⟩ (fun r => (∀ c : Dev Cert.ReferencePairSmallIdeal.nD,
      r.2.mem ((c.tc : Thread Cert.ReferencePairSmallIdeal.nD Cert.ReferencePairSmallIdeal.τ).loc Cert.ReferencePairSmallIdeal.main_arg0) = m ((c.tc : Thread Cert.ReferencePairSmallIdeal.nD Cert.ReferencePairSmallIdeal.τ).loc Cert.ReferencePairSmallIdeal.main_arg0)
      ∧ r.2.mem ((c.tc : Thread Cert.ReferencePairSmallIdeal.nD Cert.ReferencePairSmallIdeal.τ).loc Cert.ReferencePairSmallIdeal.main_arg1) = m ((c.tc : Thread Cert.ReferencePairSmallIdeal.nD Cert.ReferencePairSmallIdeal.τ).loc Cert.ReferencePairSmallIdeal.main_arg1))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.named_const.Statement Cert.KernelIdeal.κ "neg_half_log2e" .f32 0xBF38AA3B#32 ((-((2 * (Real.log 2))⁻¹) : ℝ) : EReal)
  ∧ IdealRules.named_const.Statement Cert.KernelIdeal.κ "inv_sqrt_2pi" .f32 0x3ECC422A#32 (((Real.sqrt (2 * Real.pi))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_v155) = v2 c
          ∧ r.2.mem ((c.tc : Thread Cert.ReferenceIdeal.nD Cert.ReferenceIdeal.τ).loc Cert.ReferenceIdeal.main_v156) = v3 c
          ∧ r.2.mem ((c.tc : Thread Cert.ReferenceIdeal.nD Cert.ReferenceIdeal.τ).loc Cert.ReferenceIdeal.main_v157) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelWin_KernelWinIdeal : Prop :=
  True

def algebraic_KernelWinIdeal_ReferenceWinIdeal [hKernelWinIdeal : Cert.KernelWinIdeal.Facts] [hReferenceWinIdeal : Cert.ReferenceWinIdeal.Facts] : Prop :=
  ∀ (m : (ℓ : Loc Cert.KernelWinIdeal.nD Cert.KernelWinIdeal.τ Cert.KernelWinIdeal.sig) → Buf (Elt Ideal) ℓ) (g : Dev Cert.KernelWinIdeal.nD → PrngReg)
    (m' : (ℓ : Loc Cert.ReferenceWinIdeal.nD Cert.ReferenceWinIdeal.τ Cert.ReferenceWinIdeal.sig) → Buf (Elt Ideal) ℓ) (g' : Dev Cert.ReferenceWinIdeal.nD → PrngReg), Pre_KernelWinIdeal m →
    (∀ c : Dev Cert.KernelWinIdeal.nD,
      m' ((c.tc : Thread Cert.ReferenceWinIdeal.nD Cert.ReferenceWinIdeal.τ).loc Cert.ReferenceWinIdeal.main_arg0) = m ((c.tc : Thread Cert.KernelWinIdeal.nD Cert.KernelWinIdeal.τ).loc Cert.KernelWinIdeal.main_arg0)
      ∧ m' ((c.tc : Thread Cert.ReferenceWinIdeal.nD Cert.ReferenceWinIdeal.τ).loc Cert.ReferenceWinIdeal.main_arg1) = m ((c.tc : Thread Cert.KernelWinIdeal.nD Cert.KernelWinIdeal.τ).loc Cert.KernelWinIdeal.main_arg1)) →
    ∃ (v0 : (c : Dev Cert.KernelWinIdeal.nD) → Buf (Elt Ideal) ((c.tc : Thread Cert.KernelWinIdeal.nD Cert.KernelWinIdeal.τ).loc Cert.KernelWinIdeal.main_v0)),
      θ_run (Cert.KernelWinIdeal.defs (F := Ideal)) (onTc (τ := Cert.KernelWinIdeal.τ) (Cert.KernelWinIdeal.main (F := Ideal))) ⟨m, fun _ => 0, g⟩ (fun r => ∀ c : Dev Cert.KernelWinIdeal.nD,
          r.2.mem ((c.tc : Thread Cert.KernelWinIdeal.nD Cert.KernelWinIdeal.τ).loc Cert.KernelWinIdeal.main_v0) = v0 c
          ∧ r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
          ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1))
      ∧ θ_run (Cert.ReferenceWinIdeal.defs (F := Ideal)) (onTc (τ := Cert.ReferenceWinIdeal.τ) (Cert.ReferenceWinIdeal.main (F := Ideal))) ⟨m', fun _ => 0, g'⟩ (fun r => ∀ c : Dev Cert.ReferenceWinIdeal.nD,
          r.2.mem ((c.tc : Thread Cert.ReferenceWinIdeal.nD Cert.ReferenceWinIdeal.τ).loc Cert.ReferenceWinIdeal.main_v8) = v0 c
          ∧ r.2.mem ((c.tc : Thread Cert.ReferenceWinIdeal.nD Cert.ReferenceWinIdeal.τ).loc Cert.ReferenceWinIdeal.main_arg0) = m' ((c.tc : Thread Cert.ReferenceWinIdeal.nD Cert.ReferenceWinIdeal.τ).loc Cert.ReferenceWinIdeal.main_arg0)
          ∧ r.2.mem ((c.tc : Thread Cert.ReferenceWinIdeal.nD Cert.ReferenceWinIdeal.τ).loc Cert.ReferenceWinIdeal.main_arg1) = m' ((c.tc : Thread Cert.ReferenceWinIdeal.nD Cert.ReferenceWinIdeal.τ).loc Cert.ReferenceWinIdeal.main_arg1))

def preserves_KernelWout_KernelWoutIdeal : Prop :=
  True

def algebraic_KernelWoutIdeal_ReferenceWoutIdeal [hKernelWoutIdeal : Cert.KernelWoutIdeal.Facts] [hReferenceWoutIdeal : Cert.ReferenceWoutIdeal.Facts] : Prop :=
  ∀ (m : (ℓ : Loc Cert.KernelWoutIdeal.nD Cert.KernelWoutIdeal.τ Cert.KernelWoutIdeal.sig) → Buf (Elt Ideal) ℓ) (g : Dev Cert.KernelWoutIdeal.nD → PrngReg)
    (m' : (ℓ : Loc Cert.ReferenceWoutIdeal.nD Cert.ReferenceWoutIdeal.τ Cert.ReferenceWoutIdeal.sig) → Buf (Elt Ideal) ℓ) (g' : Dev Cert.ReferenceWoutIdeal.nD → PrngReg), Pre_KernelWoutIdeal m →
    (∀ c : Dev Cert.KernelWoutIdeal.nD,
      m' ((c.tc : Thread Cert.ReferenceWoutIdeal.nD Cert.ReferenceWoutIdeal.τ).loc Cert.ReferenceWoutIdeal.main_arg0) = m ((c.tc : Thread Cert.KernelWoutIdeal.nD Cert.KernelWoutIdeal.τ).loc Cert.KernelWoutIdeal.main_arg0)
      ∧ m' ((c.tc : Thread Cert.ReferenceWoutIdeal.nD Cert.ReferenceWoutIdeal.τ).loc Cert.ReferenceWoutIdeal.main_arg1) = m ((c.tc : Thread Cert.KernelWoutIdeal.nD Cert.KernelWoutIdeal.τ).loc Cert.KernelWoutIdeal.main_arg1)) →
    ∃ (v0 : (c : Dev Cert.KernelWoutIdeal.nD) → Buf (Elt Ideal) ((c.tc : Thread Cert.KernelWoutIdeal.nD Cert.KernelWoutIdeal.τ).loc Cert.KernelWoutIdeal.main_v0)),
      θ_run (Cert.KernelWoutIdeal.defs (F := Ideal)) (onTc (τ := Cert.KernelWoutIdeal.τ) (Cert.KernelWoutIdeal.main (F := Ideal))) ⟨m, fun _ => 0, g⟩ (fun r => ∀ c : Dev Cert.KernelWoutIdeal.nD,
          r.2.mem ((c.tc : Thread Cert.KernelWoutIdeal.nD Cert.KernelWoutIdeal.τ).loc Cert.KernelWoutIdeal.main_v0) = v0 c
          ∧ r.2.mem ((c.tc : Thread Cert.KernelWoutIdeal.nD Cert.KernelWoutIdeal.τ).loc Cert.KernelWoutIdeal.main_arg0) = m ((c.tc : Thread Cert.KernelWoutIdeal.nD Cert.KernelWoutIdeal.τ).loc Cert.KernelWoutIdeal.main_arg0)
          ∧ r.2.mem ((c.tc : Thread Cert.KernelWoutIdeal.nD Cert.KernelWoutIdeal.τ).loc Cert.KernelWoutIdeal.main_arg1) = m ((c.tc : Thread Cert.KernelWoutIdeal.nD Cert.KernelWoutIdeal.τ).loc Cert.KernelWoutIdeal.main_arg1))
      ∧ θ_run (Cert.ReferenceWoutIdeal.defs (F := Ideal)) (onTc (τ := Cert.ReferenceWoutIdeal.τ) (Cert.ReferenceWoutIdeal.main (F := Ideal))) ⟨m', fun _ => 0, g'⟩ (fun r => ∀ c : Dev Cert.ReferenceWoutIdeal.nD,
          r.2.mem ((c.tc : Thread Cert.ReferenceWoutIdeal.nD Cert.ReferenceWoutIdeal.τ).loc Cert.ReferenceWoutIdeal.main_v5) = v0 c
          ∧ r.2.mem ((c.tc : Thread Cert.ReferenceWoutIdeal.nD Cert.ReferenceWoutIdeal.τ).loc Cert.ReferenceWoutIdeal.main_arg0) = m' ((c.tc : Thread Cert.ReferenceWoutIdeal.nD Cert.ReferenceWoutIdeal.τ).loc Cert.ReferenceWoutIdeal.main_arg0)
          ∧ r.2.mem ((c.tc : Thread Cert.ReferenceWoutIdeal.nD Cert.ReferenceWoutIdeal.τ).loc Cert.ReferenceWoutIdeal.main_arg1) = m' ((c.tc : Thread Cert.ReferenceWoutIdeal.nD Cert.ReferenceWoutIdeal.τ).loc Cert.ReferenceWoutIdeal.main_arg1))

def preserves_KernelWgate_KernelWgateIdeal : Prop :=
  True

def algebraic_KernelWgateIdeal_ReferenceWgateIdeal [hKernelWgateIdeal : Cert.KernelWgateIdeal.Facts] [hReferenceWgateIdeal : Cert.ReferenceWgateIdeal.Facts] : Prop :=
  ∀ (m : (ℓ : Loc Cert.KernelWgateIdeal.nD Cert.KernelWgateIdeal.τ Cert.KernelWgateIdeal.sig) → Buf (Elt Ideal) ℓ) (g : Dev Cert.KernelWgateIdeal.nD → PrngReg)
    (m' : (ℓ : Loc Cert.ReferenceWgateIdeal.nD Cert.ReferenceWgateIdeal.τ Cert.ReferenceWgateIdeal.sig) → Buf (Elt Ideal) ℓ) (g' : Dev Cert.ReferenceWgateIdeal.nD → PrngReg), Pre_KernelWgateIdeal m →
    (∀ c : Dev Cert.KernelWgateIdeal.nD,
      m' ((c.tc : Thread Cert.ReferenceWgateIdeal.nD Cert.ReferenceWgateIdeal.τ).loc Cert.ReferenceWgateIdeal.main_arg0) = m ((c.tc : Thread Cert.KernelWgateIdeal.nD Cert.KernelWgateIdeal.τ).loc Cert.KernelWgateIdeal.main_arg0)
      ∧ m' ((c.tc : Thread Cert.ReferenceWgateIdeal.nD Cert.ReferenceWgateIdeal.τ).loc Cert.ReferenceWgateIdeal.main_arg1) = m ((c.tc : Thread Cert.KernelWgateIdeal.nD Cert.KernelWgateIdeal.τ).loc Cert.KernelWgateIdeal.main_arg1)) →
    ∃ (v0 : (c : Dev Cert.KernelWgateIdeal.nD) → Buf (Elt Ideal) ((c.tc : Thread Cert.KernelWgateIdeal.nD Cert.KernelWgateIdeal.τ).loc Cert.KernelWgateIdeal.main_v0)),
      θ_run (Cert.KernelWgateIdeal.defs (F := Ideal)) (onTc (τ := Cert.KernelWgateIdeal.τ) (Cert.KernelWgateIdeal.main (F := Ideal))) ⟨m, fun _ => 0, g⟩ (fun r => ∀ c : Dev Cert.KernelWgateIdeal.nD,
          r.2.mem ((c.tc : Thread Cert.KernelWgateIdeal.nD Cert.KernelWgateIdeal.τ).loc Cert.KernelWgateIdeal.main_v0) = v0 c
          ∧ r.2.mem ((c.tc : Thread Cert.KernelWgateIdeal.nD Cert.KernelWgateIdeal.τ).loc Cert.KernelWgateIdeal.main_arg0) = m ((c.tc : Thread Cert.KernelWgateIdeal.nD Cert.KernelWgateIdeal.τ).loc Cert.KernelWgateIdeal.main_arg0)
          ∧ r.2.mem ((c.tc : Thread Cert.KernelWgateIdeal.nD Cert.KernelWgateIdeal.τ).loc Cert.KernelWgateIdeal.main_arg1) = m ((c.tc : Thread Cert.KernelWgateIdeal.nD Cert.KernelWgateIdeal.τ).loc Cert.KernelWgateIdeal.main_arg1))
      ∧ θ_run (Cert.ReferenceWgateIdeal.defs (F := Ideal)) (onTc (τ := Cert.ReferenceWgateIdeal.τ) (Cert.ReferenceWgateIdeal.main (F := Ideal))) ⟨m', fun _ => 0, g'⟩ (fun r => ∀ c : Dev Cert.ReferenceWgateIdeal.nD,
          r.2.mem ((c.tc : Thread Cert.ReferenceWgateIdeal.nD Cert.ReferenceWgateIdeal.τ).loc Cert.ReferenceWgateIdeal.main_v6) = v0 c
          ∧ r.2.mem ((c.tc : Thread Cert.ReferenceWgateIdeal.nD Cert.ReferenceWgateIdeal.τ).loc Cert.ReferenceWgateIdeal.main_arg0) = m' ((c.tc : Thread Cert.ReferenceWgateIdeal.nD Cert.ReferenceWgateIdeal.τ).loc Cert.ReferenceWgateIdeal.main_arg0)
          ∧ r.2.mem ((c.tc : Thread Cert.ReferenceWgateIdeal.nD Cert.ReferenceWgateIdeal.τ).loc Cert.ReferenceWgateIdeal.main_arg1) = m' ((c.tc : Thread Cert.ReferenceWgateIdeal.nD Cert.ReferenceWgateIdeal.τ).loc Cert.ReferenceWgateIdeal.main_arg1))

def preserves_KernelWproj_KernelWprojIdeal : Prop :=
  True

def algebraic_KernelWprojIdeal_ReferenceWprojIdeal [hKernelWprojIdeal : Cert.KernelWprojIdeal.Facts] [hReferenceWprojIdeal : Cert.ReferenceWprojIdeal.Facts] : Prop :=
  ∀ (m : (ℓ : Loc Cert.KernelWprojIdeal.nD Cert.KernelWprojIdeal.τ Cert.KernelWprojIdeal.sig) → Buf (Elt Ideal) ℓ) (g : Dev Cert.KernelWprojIdeal.nD → PrngReg)
    (m' : (ℓ : Loc Cert.ReferenceWprojIdeal.nD Cert.ReferenceWprojIdeal.τ Cert.ReferenceWprojIdeal.sig) → Buf (Elt Ideal) ℓ) (g' : Dev Cert.ReferenceWprojIdeal.nD → PrngReg), Pre_KernelWprojIdeal m →
    (∀ c : Dev Cert.KernelWprojIdeal.nD,
      m' ((c.tc : Thread Cert.ReferenceWprojIdeal.nD Cert.ReferenceWprojIdeal.τ).loc Cert.ReferenceWprojIdeal.main_arg0) = m ((c.tc : Thread Cert.KernelWprojIdeal.nD Cert.KernelWprojIdeal.τ).loc Cert.KernelWprojIdeal.main_arg0)
      ∧ m' ((c.tc : Thread Cert.ReferenceWprojIdeal.nD Cert.ReferenceWprojIdeal.τ).loc Cert.ReferenceWprojIdeal.main_arg1) = m ((c.tc : Thread Cert.KernelWprojIdeal.nD Cert.KernelWprojIdeal.τ).loc Cert.KernelWprojIdeal.main_arg1)) →
    ∃ (v0 : (c : Dev Cert.KernelWprojIdeal.nD) → Buf (Elt Ideal) ((c.tc : Thread Cert.KernelWprojIdeal.nD Cert.KernelWprojIdeal.τ).loc Cert.KernelWprojIdeal.main_v0)),
      θ_run (Cert.KernelWprojIdeal.defs (F := Ideal)) (onTc (τ := Cert.KernelWprojIdeal.τ) (Cert.KernelWprojIdeal.main (F := Ideal))) ⟨m, fun _ => 0, g⟩ (fun r => ∀ c : Dev Cert.KernelWprojIdeal.nD,
          r.2.mem ((c.tc : Thread Cert.KernelWprojIdeal.nD Cert.KernelWprojIdeal.τ).loc Cert.KernelWprojIdeal.main_v0) = v0 c
          ∧ r.2.mem ((c.tc : Thread Cert.KernelWprojIdeal.nD Cert.KernelWprojIdeal.τ).loc Cert.KernelWprojIdeal.main_arg0) = m ((c.tc : Thread Cert.KernelWprojIdeal.nD Cert.KernelWprojIdeal.τ).loc Cert.KernelWprojIdeal.main_arg0)
          ∧ r.2.mem ((c.tc : Thread Cert.KernelWprojIdeal.nD Cert.KernelWprojIdeal.τ).loc Cert.KernelWprojIdeal.main_arg1) = m ((c.tc : Thread Cert.KernelWprojIdeal.nD Cert.KernelWprojIdeal.τ).loc Cert.KernelWprojIdeal.main_arg1))
      ∧ θ_run (Cert.ReferenceWprojIdeal.defs (F := Ideal)) (onTc (τ := Cert.ReferenceWprojIdeal.τ) (Cert.ReferenceWprojIdeal.main (F := Ideal))) ⟨m', fun _ => 0, g'⟩ (fun r => ∀ c : Dev Cert.ReferenceWprojIdeal.nD,
          r.2.mem ((c.tc : Thread Cert.ReferenceWprojIdeal.nD Cert.ReferenceWprojIdeal.τ).loc Cert.ReferenceWprojIdeal.main_v9) = v0 c
          ∧ r.2.mem ((c.tc : Thread Cert.ReferenceWprojIdeal.nD Cert.ReferenceWprojIdeal.τ).loc Cert.ReferenceWprojIdeal.main_arg0) = m' ((c.tc : Thread Cert.ReferenceWprojIdeal.nD Cert.ReferenceWprojIdeal.τ).loc Cert.ReferenceWprojIdeal.main_arg0)
          ∧ r.2.mem ((c.tc : Thread Cert.ReferenceWprojIdeal.nD Cert.ReferenceWprojIdeal.τ).loc Cert.ReferenceWprojIdeal.main_arg1) = m' ((c.tc : Thread Cert.ReferenceWprojIdeal.nD Cert.ReferenceWprojIdeal.τ).loc Cert.ReferenceWprojIdeal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v7_0)) (v1 : (c : Dev Cert.KernelInIdeal.nD) → Buf (Elt Ideal) ((c.tc : Thread Cert.KernelInIdeal.nD Cert.KernelInIdeal.τ).loc Cert.KernelInIdeal.main_v7_1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v7_0) = v0 c
          ∧ r.2.mem ((c.tc : Thread Cert.KernelInIdeal.nD Cert.KernelInIdeal.τ).loc Cert.KernelInIdeal.main_v7_1) = v1 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v15) = v0 c
          ∧ r.2.mem ((c.tc : Thread Cert.ReferenceInIdeal.nD Cert.ReferenceInIdeal.τ).loc Cert.ReferenceInIdeal.main_v19) = v1 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelBin_KernelBinIdeal : Prop :=
  True

def algebraic_KernelBinIdeal_ReferenceBinIdeal [hKernelBinIdeal : Cert.KernelBinIdeal.Facts] [hReferenceBinIdeal : Cert.ReferenceBinIdeal.Facts] : Prop :=
  ∀ (m : (ℓ : Loc Cert.KernelBinIdeal.nD Cert.KernelBinIdeal.τ Cert.KernelBinIdeal.sig) → Buf (Elt Ideal) ℓ) (g : Dev Cert.KernelBinIdeal.nD → PrngReg)
    (m' : (ℓ : Loc Cert.ReferenceBinIdeal.nD Cert.ReferenceBinIdeal.τ Cert.ReferenceBinIdeal.sig) → Buf (Elt Ideal) ℓ) (g' : Dev Cert.ReferenceBinIdeal.nD → PrngReg), Pre_KernelBinIdeal m →
    (∀ c : Dev Cert.KernelBinIdeal.nD,
      m' ((c.tc : Thread Cert.ReferenceBinIdeal.nD Cert.ReferenceBinIdeal.τ).loc Cert.ReferenceBinIdeal.main_arg0) = m ((c.tc : Thread Cert.KernelBinIdeal.nD Cert.KernelBinIdeal.τ).loc Cert.KernelBinIdeal.main_arg0)
      ∧ m' ((c.tc : Thread Cert.ReferenceBinIdeal.nD Cert.ReferenceBinIdeal.τ).loc Cert.ReferenceBinIdeal.main_arg1) = m ((c.tc : Thread Cert.KernelBinIdeal.nD Cert.KernelBinIdeal.τ).loc Cert.KernelBinIdeal.main_arg1)
      ∧ m' ((c.tc : Thread Cert.ReferenceBinIdeal.nD Cert.ReferenceBinIdeal.τ).loc Cert.ReferenceBinIdeal.main_arg2) = m ((c.tc : Thread Cert.KernelBinIdeal.nD Cert.KernelBinIdeal.τ).loc Cert.KernelBinIdeal.main_arg2)
      ∧ m' ((c.tc : Thread Cert.ReferenceBinIdeal.nD Cert.ReferenceBinIdeal.τ).loc Cert.ReferenceBinIdeal.main_arg3) = m ((c.tc : Thread Cert.KernelBinIdeal.nD Cert.KernelBinIdeal.τ).loc Cert.KernelBinIdeal.main_arg3)
      ∧ m' ((c.tc : Thread Cert.ReferenceBinIdeal.nD Cert.ReferenceBinIdeal.τ).loc Cert.ReferenceBinIdeal.main_arg4) = m ((c.tc : Thread Cert.KernelBinIdeal.nD Cert.KernelBinIdeal.τ).loc Cert.KernelBinIdeal.main_arg4)) →
    ∃ (v0 : (c : Dev Cert.KernelBinIdeal.nD) → Buf (Elt Ideal) ((c.tc : Thread Cert.KernelBinIdeal.nD Cert.KernelBinIdeal.τ).loc Cert.KernelBinIdeal.main_v7_0)) (v1 : (c : Dev Cert.KernelBinIdeal.nD) → Buf (Elt Ideal) ((c.tc : Thread Cert.KernelBinIdeal.nD Cert.KernelBinIdeal.τ).loc Cert.KernelBinIdeal.main_v7_1)),
      θ_run (Cert.KernelBinIdeal.defs (F := Ideal)) (onTc (τ := Cert.KernelBinIdeal.τ) (Cert.KernelBinIdeal.main (F := Ideal))) ⟨m, fun _ => 0, g⟩ (fun r => ∀ c : Dev Cert.KernelBinIdeal.nD,
          r.2.mem ((c.tc : Thread Cert.KernelBinIdeal.nD Cert.KernelBinIdeal.τ).loc Cert.KernelBinIdeal.main_v7_0) = v0 c
          ∧ r.2.mem ((c.tc : Thread Cert.KernelBinIdeal.nD Cert.KernelBinIdeal.τ).loc Cert.KernelBinIdeal.main_v7_1) = v1 c
          ∧ r.2.mem ((c.tc : Thread Cert.KernelBinIdeal.nD Cert.KernelBinIdeal.τ).loc Cert.KernelBinIdeal.main_arg0) = m ((c.tc : Thread Cert.KernelBinIdeal.nD Cert.KernelBinIdeal.τ).loc Cert.KernelBinIdeal.main_arg0)
          ∧ r.2.mem ((c.tc : Thread Cert.KernelBinIdeal.nD Cert.KernelBinIdeal.τ).loc Cert.KernelBinIdeal.main_arg1) = m ((c.tc : Thread Cert.KernelBinIdeal.nD Cert.KernelBinIdeal.τ).loc Cert.KernelBinIdeal.main_arg1)
          ∧ r.2.mem ((c.tc : Thread Cert.KernelBinIdeal.nD Cert.KernelBinIdeal.τ).loc Cert.KernelBinIdeal.main_arg2) = m ((c.tc : Thread Cert.KernelBinIdeal.nD Cert.KernelBinIdeal.τ).loc Cert.KernelBinIdeal.main_arg2)
          ∧ r.2.mem ((c.tc : Thread Cert.KernelBinIdeal.nD Cert.KernelBinIdeal.τ).loc Cert.KernelBinIdeal.main_arg3) = m ((c.tc : Thread Cert.KernelBinIdeal.nD Cert.KernelBinIdeal.τ).loc Cert.KernelBinIdeal.main_arg3)
          ∧ r.2.mem ((c.tc : Thread Cert.KernelBinIdeal.nD Cert.KernelBinIdeal.τ).loc Cert.KernelBinIdeal.main_arg4) = m ((c.tc : Thread Cert.KernelBinIdeal.nD Cert.KernelBinIdeal.τ).loc Cert.KernelBinIdeal.main_arg4))
      ∧ θ_run (Cert.ReferenceBinIdeal.defs (F := Ideal)) (onTc (τ := Cert.ReferenceBinIdeal.τ) (Cert.ReferenceBinIdeal.main (F := Ideal))) ⟨m', fun _ => 0, g'⟩ (fun r => ∀ c : Dev Cert.ReferenceBinIdeal.nD,
          r.2.mem ((c.tc : Thread Cert.ReferenceBinIdeal.nD Cert.ReferenceBinIdeal.τ).loc Cert.ReferenceBinIdeal.main_v43) = v0 c
          ∧ r.2.mem ((c.tc : Thread Cert.ReferenceBinIdeal.nD Cert.ReferenceBinIdeal.τ).loc Cert.ReferenceBinIdeal.main_v44) = v1 c
          ∧ r.2.mem ((c.tc : Thread Cert.ReferenceBinIdeal.nD Cert.ReferenceBinIdeal.τ).loc Cert.ReferenceBinIdeal.main_arg0) = m' ((c.tc : Thread Cert.ReferenceBinIdeal.nD Cert.ReferenceBinIdeal.τ).loc Cert.ReferenceBinIdeal.main_arg0)
          ∧ r.2.mem ((c.tc : Thread Cert.ReferenceBinIdeal.nD Cert.ReferenceBinIdeal.τ).loc Cert.ReferenceBinIdeal.main_arg1) = m' ((c.tc : Thread Cert.ReferenceBinIdeal.nD Cert.ReferenceBinIdeal.τ).loc Cert.ReferenceBinIdeal.main_arg1)
          ∧ r.2.mem ((c.tc : Thread Cert.ReferenceBinIdeal.nD Cert.ReferenceBinIdeal.τ).loc Cert.ReferenceBinIdeal.main_arg2) = m' ((c.tc : Thread Cert.ReferenceBinIdeal.nD Cert.ReferenceBinIdeal.τ).loc Cert.ReferenceBinIdeal.main_arg2)
          ∧ r.2.mem ((c.tc : Thread Cert.ReferenceBinIdeal.nD Cert.ReferenceBinIdeal.τ).loc Cert.ReferenceBinIdeal.main_arg3) = m' ((c.tc : Thread Cert.ReferenceBinIdeal.nD Cert.ReferenceBinIdeal.τ).loc Cert.ReferenceBinIdeal.main_arg3)
          ∧ r.2.mem ((c.tc : Thread Cert.ReferenceBinIdeal.nD Cert.ReferenceBinIdeal.τ).loc Cert.ReferenceBinIdeal.main_arg4) = m' ((c.tc : Thread Cert.ReferenceBinIdeal.nD Cert.ReferenceBinIdeal.τ).loc Cert.ReferenceBinIdeal.main_arg4))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)
      ∧ m' ((c.tc : Thread Cert.ReferenceOutIdeal.nD Cert.ReferenceOutIdeal.τ).loc Cert.ReferenceOutIdeal.main_arg6) = m ((c.tc : Thread Cert.KernelOutIdeal.nD Cert.KernelOutIdeal.τ).loc Cert.KernelOutIdeal.main_arg6)) →
    ∃ (v0 : (c : Dev Cert.KernelOutIdeal.nD) → Buf (Elt Ideal) ((c.tc : Thread Cert.KernelOutIdeal.nD Cert.KernelOutIdeal.τ).loc Cert.KernelOutIdeal.main_v15_0)) (v1 : (c : Dev Cert.KernelOutIdeal.nD) → Buf (Elt Ideal) ((c.tc : Thread Cert.KernelOutIdeal.nD Cert.KernelOutIdeal.τ).loc Cert.KernelOutIdeal.main_v15_1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v15_0) = v0 c
          ∧ r.2.mem ((c.tc : Thread Cert.KernelOutIdeal.nD Cert.KernelOutIdeal.τ).loc Cert.KernelOutIdeal.main_v15_1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
          ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v4) = v0 c
          ∧ r.2.mem ((c.tc : Thread Cert.ReferenceOutIdeal.nD Cert.ReferenceOutIdeal.τ).loc Cert.ReferenceOutIdeal.main_v35) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5)
          ∧ r.2.mem ((c.tc : Thread Cert.ReferenceOutIdeal.nD Cert.ReferenceOutIdeal.τ).loc Cert.ReferenceOutIdeal.main_arg6) = m' ((c.tc : Thread Cert.ReferenceOutIdeal.nD Cert.ReferenceOutIdeal.τ).loc Cert.ReferenceOutIdeal.main_arg6))

def preserves_KernelBout_KernelBoutIdeal : Prop :=
  True

def algebraic_KernelBoutIdeal_ReferenceBoutIdeal [hKernelBoutIdeal : Cert.KernelBoutIdeal.Facts] [hReferenceBoutIdeal : Cert.ReferenceBoutIdeal.Facts] : Prop :=
  ∀ (m : (ℓ : Loc Cert.KernelBoutIdeal.nD Cert.KernelBoutIdeal.τ Cert.KernelBoutIdeal.sig) → Buf (Elt Ideal) ℓ) (g : Dev Cert.KernelBoutIdeal.nD → PrngReg)
    (m' : (ℓ : Loc Cert.ReferenceBoutIdeal.nD Cert.ReferenceBoutIdeal.τ Cert.ReferenceBoutIdeal.sig) → Buf (Elt Ideal) ℓ) (g' : Dev Cert.ReferenceBoutIdeal.nD → PrngReg), Pre_KernelBoutIdeal m →
    (∀ c : Dev Cert.KernelBoutIdeal.nD,
      m' ((c.tc : Thread Cert.ReferenceBoutIdeal.nD Cert.ReferenceBoutIdeal.τ).loc Cert.ReferenceBoutIdeal.main_arg0) = m ((c.tc : Thread Cert.KernelBoutIdeal.nD Cert.KernelBoutIdeal.τ).loc Cert.KernelBoutIdeal.main_arg0)
      ∧ m' ((c.tc : Thread Cert.ReferenceBoutIdeal.nD Cert.ReferenceBoutIdeal.τ).loc Cert.ReferenceBoutIdeal.main_arg1) = m ((c.tc : Thread Cert.KernelBoutIdeal.nD Cert.KernelBoutIdeal.τ).loc Cert.KernelBoutIdeal.main_arg1)
      ∧ m' ((c.tc : Thread Cert.ReferenceBoutIdeal.nD Cert.ReferenceBoutIdeal.τ).loc Cert.ReferenceBoutIdeal.main_arg2) = m ((c.tc : Thread Cert.KernelBoutIdeal.nD Cert.KernelBoutIdeal.τ).loc Cert.KernelBoutIdeal.main_arg2)
      ∧ m' ((c.tc : Thread Cert.ReferenceBoutIdeal.nD Cert.ReferenceBoutIdeal.τ).loc Cert.ReferenceBoutIdeal.main_arg3) = m ((c.tc : Thread Cert.KernelBoutIdeal.nD Cert.KernelBoutIdeal.τ).loc Cert.KernelBoutIdeal.main_arg3)
      ∧ m' ((c.tc : Thread Cert.ReferenceBoutIdeal.nD Cert.ReferenceBoutIdeal.τ).loc Cert.ReferenceBoutIdeal.main_arg4) = m ((c.tc : Thread Cert.KernelBoutIdeal.nD Cert.KernelBoutIdeal.τ).loc Cert.KernelBoutIdeal.main_arg4)
      ∧ m' ((c.tc : Thread Cert.ReferenceBoutIdeal.nD Cert.ReferenceBoutIdeal.τ).loc Cert.ReferenceBoutIdeal.main_arg5) = m ((c.tc : Thread Cert.KernelBoutIdeal.nD Cert.KernelBoutIdeal.τ).loc Cert.KernelBoutIdeal.main_arg5)
      ∧ m' ((c.tc : Thread Cert.ReferenceBoutIdeal.nD Cert.ReferenceBoutIdeal.τ).loc Cert.ReferenceBoutIdeal.main_arg6) = m ((c.tc : Thread Cert.KernelBoutIdeal.nD Cert.KernelBoutIdeal.τ).loc Cert.KernelBoutIdeal.main_arg6)) →
    ∃ (v0 : (c : Dev Cert.KernelBoutIdeal.nD) → Buf (Elt Ideal) ((c.tc : Thread Cert.KernelBoutIdeal.nD Cert.KernelBoutIdeal.τ).loc Cert.KernelBoutIdeal.main_v15_0)) (v1 : (c : Dev Cert.KernelBoutIdeal.nD) → Buf (Elt Ideal) ((c.tc : Thread Cert.KernelBoutIdeal.nD Cert.KernelBoutIdeal.τ).loc Cert.KernelBoutIdeal.main_v15_1)) (v2 : (c : Dev Cert.KernelBoutIdeal.nD) → Buf (Elt Ideal) ((c.tc : Thread Cert.KernelBoutIdeal.nD Cert.KernelBoutIdeal.τ).loc Cert.KernelBoutIdeal.main_v15_2)) (v3 : (c : Dev Cert.KernelBoutIdeal.nD) → Buf (Elt Ideal) ((c.tc : Thread Cert.KernelBoutIdeal.nD Cert.KernelBoutIdeal.τ).loc Cert.KernelBoutIdeal.main_v15_3)) (v4 : (c : Dev Cert.KernelBoutIdeal.nD) → Buf (Elt Ideal) ((c.tc : Thread Cert.KernelBoutIdeal.nD Cert.KernelBoutIdeal.τ).loc Cert.KernelBoutIdeal.main_v15_4)) (v5 : (c : Dev Cert.KernelBoutIdeal.nD) → Buf (Elt Ideal) ((c.tc : Thread Cert.KernelBoutIdeal.nD Cert.KernelBoutIdeal.τ).loc Cert.KernelBoutIdeal.main_v15_5)),
      θ_run (Cert.KernelBoutIdeal.defs (F := Ideal)) (onTc (τ := Cert.KernelBoutIdeal.τ) (Cert.KernelBoutIdeal.main (F := Ideal))) ⟨m, fun _ => 0, g⟩ (fun r => ∀ c : Dev Cert.KernelBoutIdeal.nD,
          r.2.mem ((c.tc : Thread Cert.KernelBoutIdeal.nD Cert.KernelBoutIdeal.τ).loc Cert.KernelBoutIdeal.main_v15_0) = v0 c
          ∧ r.2.mem ((c.tc : Thread Cert.KernelBoutIdeal.nD Cert.KernelBoutIdeal.τ).loc Cert.KernelBoutIdeal.main_v15_1) = v1 c
          ∧ r.2.mem ((c.tc : Thread Cert.KernelBoutIdeal.nD Cert.KernelBoutIdeal.τ).loc Cert.KernelBoutIdeal.main_v15_2) = v2 c
          ∧ r.2.mem ((c.tc : Thread Cert.KernelBoutIdeal.nD Cert.KernelBoutIdeal.τ).loc Cert.KernelBoutIdeal.main_v15_3) = v3 c
          ∧ r.2.mem ((c.tc : Thread Cert.KernelBoutIdeal.nD Cert.KernelBoutIdeal.τ).loc Cert.KernelBoutIdeal.main_v15_4) = v4 c
          ∧ r.2.mem ((c.tc : Thread Cert.KernelBoutIdeal.nD Cert.KernelBoutIdeal.τ).loc Cert.KernelBoutIdeal.main_v15_5) = v5 c
          ∧ r.2.mem ((c.tc : Thread Cert.KernelBoutIdeal.nD Cert.KernelBoutIdeal.τ).loc Cert.KernelBoutIdeal.main_arg0) = m ((c.tc : Thread Cert.KernelBoutIdeal.nD Cert.KernelBoutIdeal.τ).loc Cert.KernelBoutIdeal.main_arg0)
          ∧ r.2.mem ((c.tc : Thread Cert.KernelBoutIdeal.nD Cert.KernelBoutIdeal.τ).loc Cert.KernelBoutIdeal.main_arg1) = m ((c.tc : Thread Cert.KernelBoutIdeal.nD Cert.KernelBoutIdeal.τ).loc Cert.KernelBoutIdeal.main_arg1)
          ∧ r.2.mem ((c.tc : Thread Cert.KernelBoutIdeal.nD Cert.KernelBoutIdeal.τ).loc Cert.KernelBoutIdeal.main_arg2) = m ((c.tc : Thread Cert.KernelBoutIdeal.nD Cert.KernelBoutIdeal.τ).loc Cert.KernelBoutIdeal.main_arg2)
          ∧ r.2.mem ((c.tc : Thread Cert.KernelBoutIdeal.nD Cert.KernelBoutIdeal.τ).loc Cert.KernelBoutIdeal.main_arg3) = m ((c.tc : Thread Cert.KernelBoutIdeal.nD Cert.KernelBoutIdeal.τ).loc Cert.KernelBoutIdeal.main_arg3)
          ∧ r.2.mem ((c.tc : Thread Cert.KernelBoutIdeal.nD Cert.KernelBoutIdeal.τ).loc Cert.KernelBoutIdeal.main_arg4) = m ((c.tc : Thread Cert.KernelBoutIdeal.nD Cert.KernelBoutIdeal.τ).loc Cert.KernelBoutIdeal.main_arg4)
          ∧ r.2.mem ((c.tc : Thread Cert.KernelBoutIdeal.nD Cert.KernelBoutIdeal.τ).loc Cert.KernelBoutIdeal.main_arg5) = m ((c.tc : Thread Cert.KernelBoutIdeal.nD Cert.KernelBoutIdeal.τ).loc Cert.KernelBoutIdeal.main_arg5)
          ∧ r.2.mem ((c.tc : Thread Cert.KernelBoutIdeal.nD Cert.KernelBoutIdeal.τ).loc Cert.KernelBoutIdeal.main_arg6) = m ((c.tc : Thread Cert.KernelBoutIdeal.nD Cert.KernelBoutIdeal.τ).loc Cert.KernelBoutIdeal.main_arg6))
      ∧ θ_run (Cert.ReferenceBoutIdeal.defs (F := Ideal)) (onTc (τ := Cert.ReferenceBoutIdeal.τ) (Cert.ReferenceBoutIdeal.main (F := Ideal))) ⟨m', fun _ => 0, g'⟩ (fun r => ∀ c : Dev Cert.ReferenceBoutIdeal.nD,
          r.2.mem ((c.tc : Thread Cert.ReferenceBoutIdeal.nD Cert.ReferenceBoutIdeal.τ).loc Cert.ReferenceBoutIdeal.main_v71) = v0 c
          ∧ r.2.mem ((c.tc : Thread Cert.ReferenceBoutIdeal.nD Cert.ReferenceBoutIdeal.τ).loc Cert.ReferenceBoutIdeal.main_v73) = v1 c
          ∧ r.2.mem ((c.tc : Thread Cert.ReferenceBoutIdeal.nD Cert.ReferenceBoutIdeal.τ).loc Cert.ReferenceBoutIdeal.main_v89) = v2 c
          ∧ r.2.mem ((c.tc : Thread Cert.ReferenceBoutIdeal.nD Cert.ReferenceBoutIdeal.τ).loc Cert.ReferenceBoutIdeal.main_v90) = v3 c
          ∧ r.2.mem ((c.tc : Thread Cert.ReferenceBoutIdeal.nD Cert.ReferenceBoutIdeal.τ).loc Cert.ReferenceBoutIdeal.main_v91) = v4 c
          ∧ r.2.mem ((c.tc : Thread Cert.ReferenceBoutIdeal.nD Cert.ReferenceBoutIdeal.τ).loc Cert.ReferenceBoutIdeal.main_v92) = v5 c
          ∧ r.2.mem ((c.tc : Thread Cert.ReferenceBoutIdeal.nD Cert.ReferenceBoutIdeal.τ).loc Cert.ReferenceBoutIdeal.main_arg0) = m' ((c.tc : Thread Cert.ReferenceBoutIdeal.nD Cert.ReferenceBoutIdeal.τ).loc Cert.ReferenceBoutIdeal.main_arg0)
          ∧ r.2.mem ((c.tc : Thread Cert.ReferenceBoutIdeal.nD Cert.ReferenceBoutIdeal.τ).loc Cert.ReferenceBoutIdeal.main_arg1) = m' ((c.tc : Thread Cert.ReferenceBoutIdeal.nD Cert.ReferenceBoutIdeal.τ).loc Cert.ReferenceBoutIdeal.main_arg1)
          ∧ r.2.mem ((c.tc : Thread Cert.ReferenceBoutIdeal.nD Cert.ReferenceBoutIdeal.τ).loc Cert.ReferenceBoutIdeal.main_arg2) = m' ((c.tc : Thread Cert.ReferenceBoutIdeal.nD Cert.ReferenceBoutIdeal.τ).loc Cert.ReferenceBoutIdeal.main_arg2)
          ∧ r.2.mem ((c.tc : Thread Cert.ReferenceBoutIdeal.nD Cert.ReferenceBoutIdeal.τ).loc Cert.ReferenceBoutIdeal.main_arg3) = m' ((c.tc : Thread Cert.ReferenceBoutIdeal.nD Cert.ReferenceBoutIdeal.τ).loc Cert.ReferenceBoutIdeal.main_arg3)
          ∧ r.2.mem ((c.tc : Thread Cert.ReferenceBoutIdeal.nD Cert.ReferenceBoutIdeal.τ).loc Cert.ReferenceBoutIdeal.main_arg4) = m' ((c.tc : Thread Cert.ReferenceBoutIdeal.nD Cert.ReferenceBoutIdeal.τ).loc Cert.ReferenceBoutIdeal.main_arg4)
          ∧ r.2.mem ((c.tc : Thread Cert.ReferenceBoutIdeal.nD Cert.ReferenceBoutIdeal.τ).loc Cert.ReferenceBoutIdeal.main_arg5) = m' ((c.tc : Thread Cert.ReferenceBoutIdeal.nD Cert.ReferenceBoutIdeal.τ).loc Cert.ReferenceBoutIdeal.main_arg5)
          ∧ r.2.mem ((c.tc : Thread Cert.ReferenceBoutIdeal.nD Cert.ReferenceBoutIdeal.τ).loc Cert.ReferenceBoutIdeal.main_arg6) = m' ((c.tc : Thread Cert.ReferenceBoutIdeal.nD Cert.ReferenceBoutIdeal.τ).loc Cert.ReferenceBoutIdeal.main_arg6))

def preserves_KernelMix_KernelMixIdeal : Prop :=
  IdealRules.named_const.Statement Cert.KernelMixIdeal.κ "inv_sqrt2" .f32 0x3F3504F3#32 (((Real.sqrt 2)⁻¹ : ℝ) : EReal)

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)) →
    ∃ (v0 : (c : Dev Cert.KernelMixIdeal.nD) → Buf (Elt Ideal) ((c.tc : Thread Cert.KernelMixIdeal.nD Cert.KernelMixIdeal.τ).loc Cert.KernelMixIdeal.main_v3)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v3) = v0 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v67) = v0 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)) →
    ∃ (v0 : (c : Dev Cert.KernelLossIdeal.nD) → Buf (Elt Ideal) ((c.tc : Thread Cert.KernelLossIdeal.nD Cert.KernelLossIdeal.τ).loc Cert.KernelLossIdeal.main_v2_0)) (v1 : (c : Dev Cert.KernelLossIdeal.nD) → Buf (Elt Ideal) ((c.tc : Thread Cert.KernelLossIdeal.nD Cert.KernelLossIdeal.τ).loc Cert.KernelLossIdeal.main_v2_1)) (v2 : (c : Dev Cert.KernelLossIdeal.nD) → Buf (Elt Ideal) ((c.tc : Thread Cert.KernelLossIdeal.nD Cert.KernelLossIdeal.τ).loc Cert.KernelLossIdeal.main_v2_2)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v2_0) = v0 c
          ∧ r.2.mem ((c.tc : Thread Cert.KernelLossIdeal.nD Cert.KernelLossIdeal.τ).loc Cert.KernelLossIdeal.main_v2_1) = v1 c
          ∧ r.2.mem ((c.tc : Thread Cert.KernelLossIdeal.nD Cert.KernelLossIdeal.τ).loc Cert.KernelLossIdeal.main_v2_2) = v2 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v53) = v0 c
          ∧ r.2.mem ((c.tc : Thread Cert.ReferenceLossIdeal.nD Cert.ReferenceLossIdeal.τ).loc Cert.ReferenceLossIdeal.main_v52) = v1 c
          ∧ r.2.mem ((c.tc : Thread Cert.ReferenceLossIdeal.nD Cert.ReferenceLossIdeal.τ).loc Cert.ReferenceLossIdeal.main_v54) = v2 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2))

def preserves_KernelTotal_KernelTotalIdeal : Prop :=
  True

def algebraic_KernelTotalIdeal_ReferenceTotalIdeal [hKernelTotalIdeal : Cert.KernelTotalIdeal.Facts] [hReferenceTotalIdeal : Cert.ReferenceTotalIdeal.Facts] : Prop :=
  ∀ (m : (ℓ : Loc Cert.KernelTotalIdeal.nD Cert.KernelTotalIdeal.τ Cert.KernelTotalIdeal.sig) → Buf (Elt Ideal) ℓ) (g : Dev Cert.KernelTotalIdeal.nD → PrngReg)
    (m' : (ℓ : Loc Cert.ReferenceTotalIdeal.nD Cert.ReferenceTotalIdeal.τ Cert.ReferenceTotalIdeal.sig) → Buf (Elt Ideal) ℓ) (g' : Dev Cert.ReferenceTotalIdeal.nD → PrngReg), Pre_KernelTotalIdeal m →
    (∀ c : Dev Cert.KernelTotalIdeal.nD,
      m ((c.tc : Thread Cert.KernelTotalIdeal.nD Cert.KernelTotalIdeal.τ).loc Cert.KernelTotalIdeal.main_arg0) = Layout.block ⟨2, ![8192, 1024]⟩ ⟨2, ![65536, 1024]⟩ 0 8 c (m' (((0 : Dev Cert.ReferenceTotalIdeal.nD).tc : Thread Cert.ReferenceTotalIdeal.nD Cert.ReferenceTotalIdeal.τ).loc Cert.ReferenceTotalIdeal.main_arg0))
      ∧ m ((c.tc : Thread Cert.KernelTotalIdeal.nD Cert.KernelTotalIdeal.τ).loc Cert.KernelTotalIdeal.main_arg1) = m' (((0 : Dev Cert.ReferenceTotalIdeal.nD).tc : Thread Cert.ReferenceTotalIdeal.nD Cert.ReferenceTotalIdeal.τ).loc Cert.ReferenceTotalIdeal.main_arg1)
      ∧ m ((c.tc : Thread Cert.KernelTotalIdeal.nD Cert.KernelTotalIdeal.τ).loc Cert.KernelTotalIdeal.main_arg2) = Layout.block ⟨3, ![2, 4096, 1024]⟩ ⟨3, ![16, 4096, 1024]⟩ 0 8 c (m' (((0 : Dev Cert.ReferenceTotalIdeal.nD).tc : Thread Cert.ReferenceTotalIdeal.nD Cert.ReferenceTotalIdeal.τ).loc Cert.ReferenceTotalIdeal.main_arg2))) →
    ∃ (v0 : Buf (Elt Ideal) (((0 : Dev Cert.ReferenceTotalIdeal.nD).tc : Thread Cert.ReferenceTotalIdeal.nD Cert.ReferenceTotalIdeal.τ).loc Cert.ReferenceTotalIdeal.main_v20)),
      θ_run (Cert.KernelTotalIdeal.defs (F := Ideal)) (onTc (τ := Cert.KernelTotalIdeal.τ) (Cert.KernelTotalIdeal.main (F := Ideal))) ⟨m, fun _ => 0, g⟩ (fun r => ∀ c : Dev Cert.KernelTotalIdeal.nD,
          r.2.mem ((c.tc : Thread Cert.KernelTotalIdeal.nD Cert.KernelTotalIdeal.τ).loc Cert.KernelTotalIdeal.main_v5) = v0
          ∧ r.2.mem ((c.tc : Thread Cert.KernelTotalIdeal.nD Cert.KernelTotalIdeal.τ).loc Cert.KernelTotalIdeal.main_arg0) = m ((c.tc : Thread Cert.KernelTotalIdeal.nD Cert.KernelTotalIdeal.τ).loc Cert.KernelTotalIdeal.main_arg0)
          ∧ r.2.mem ((c.tc : Thread Cert.KernelTotalIdeal.nD Cert.KernelTotalIdeal.τ).loc Cert.KernelTotalIdeal.main_arg1) = m ((c.tc : Thread Cert.KernelTotalIdeal.nD Cert.KernelTotalIdeal.τ).loc Cert.KernelTotalIdeal.main_arg1)
          ∧ r.2.mem ((c.tc : Thread Cert.KernelTotalIdeal.nD Cert.KernelTotalIdeal.τ).loc Cert.KernelTotalIdeal.main_arg2) = m ((c.tc : Thread Cert.KernelTotalIdeal.nD Cert.KernelTotalIdeal.τ).loc Cert.KernelTotalIdeal.main_arg2))
      ∧ θ_run (Cert.ReferenceTotalIdeal.defs (F := Ideal)) (onTc (τ := Cert.ReferenceTotalIdeal.τ) (Cert.ReferenceTotalIdeal.main (F := Ideal))) ⟨m', fun _ => 0, g'⟩ (fun r =>
          r.2.mem (((0 : Dev Cert.ReferenceTotalIdeal.nD).tc : Thread Cert.ReferenceTotalIdeal.nD Cert.ReferenceTotalIdeal.τ).loc Cert.ReferenceTotalIdeal.main_v20) = v0
          ∧ r.2.mem (((0 : Dev Cert.ReferenceTotalIdeal.nD).tc : Thread Cert.ReferenceTotalIdeal.nD Cert.ReferenceTotalIdeal.τ).loc Cert.ReferenceTotalIdeal.main_arg0) = m' (((0 : Dev Cert.ReferenceTotalIdeal.nD).tc : Thread Cert.ReferenceTotalIdeal.nD Cert.ReferenceTotalIdeal.τ).loc Cert.ReferenceTotalIdeal.main_arg0)
          ∧ r.2.mem (((0 : Dev Cert.ReferenceTotalIdeal.nD).tc : Thread Cert.ReferenceTotalIdeal.nD Cert.ReferenceTotalIdeal.τ).loc Cert.ReferenceTotalIdeal.main_arg1) = m' (((0 : Dev Cert.ReferenceTotalIdeal.nD).tc : Thread Cert.ReferenceTotalIdeal.nD Cert.ReferenceTotalIdeal.τ).loc Cert.ReferenceTotalIdeal.main_arg1)
          ∧ r.2.mem (((0 : Dev Cert.ReferenceTotalIdeal.nD).tc : Thread Cert.ReferenceTotalIdeal.nD Cert.ReferenceTotalIdeal.τ).loc Cert.ReferenceTotalIdeal.main_arg2) = m' (((0 : Dev Cert.ReferenceTotalIdeal.nD).tc : Thread Cert.ReferenceTotalIdeal.nD Cert.ReferenceTotalIdeal.τ).loc Cert.ReferenceTotalIdeal.main_arg2))

def preserves_KernelUin_KernelUinIdeal : Prop :=
  True

def algebraic_KernelUinIdeal_ReferenceUinIdeal [hKernelUinIdeal : Cert.KernelUinIdeal.Facts] [hReferenceUinIdeal : Cert.ReferenceUinIdeal.Facts] : Prop :=
  ∀ (m : (ℓ : Loc Cert.KernelUinIdeal.nD Cert.KernelUinIdeal.τ Cert.KernelUinIdeal.sig) → Buf (Elt Ideal) ℓ) (g : Dev Cert.KernelUinIdeal.nD → PrngReg)
    (m' : (ℓ : Loc Cert.ReferenceUinIdeal.nD Cert.ReferenceUinIdeal.τ Cert.ReferenceUinIdeal.sig) → Buf (Elt Ideal) ℓ) (g' : Dev Cert.ReferenceUinIdeal.nD → PrngReg), Pre_KernelUinIdeal m →
    (∀ c : Dev Cert.KernelUinIdeal.nD,
      m' ((c.tc : Thread Cert.ReferenceUinIdeal.nD Cert.ReferenceUinIdeal.τ).loc Cert.ReferenceUinIdeal.main_arg0) = m ((c.tc : Thread Cert.KernelUinIdeal.nD Cert.KernelUinIdeal.τ).loc Cert.KernelUinIdeal.main_arg0)
      ∧ m' ((c.tc : Thread Cert.ReferenceUinIdeal.nD Cert.ReferenceUinIdeal.τ).loc Cert.ReferenceUinIdeal.main_arg1) = m ((c.tc : Thread Cert.KernelUinIdeal.nD Cert.KernelUinIdeal.τ).loc Cert.KernelUinIdeal.main_arg1)
      ∧ m' ((c.tc : Thread Cert.ReferenceUinIdeal.nD Cert.ReferenceUinIdeal.τ).loc Cert.ReferenceUinIdeal.main_arg2) = m ((c.tc : Thread Cert.KernelUinIdeal.nD Cert.KernelUinIdeal.τ).loc Cert.KernelUinIdeal.main_arg2)
      ∧ m' ((c.tc : Thread Cert.ReferenceUinIdeal.nD Cert.ReferenceUinIdeal.τ).loc Cert.ReferenceUinIdeal.main_arg3) = m ((c.tc : Thread Cert.KernelUinIdeal.nD Cert.KernelUinIdeal.τ).loc Cert.KernelUinIdeal.main_arg3)) →
    ∃ (v0 : (c : Dev Cert.KernelUinIdeal.nD) → Buf (Elt Ideal) ((c.tc : Thread Cert.KernelUinIdeal.nD Cert.KernelUinIdeal.τ).loc Cert.KernelUinIdeal.main_v4_0)) (v1 : (c : Dev Cert.KernelUinIdeal.nD) → Buf (Elt Ideal) ((c.tc : Thread Cert.KernelUinIdeal.nD Cert.KernelUinIdeal.τ).loc Cert.KernelUinIdeal.main_v4_1)) (v2 : (c : Dev Cert.KernelUinIdeal.nD) → Buf (Elt Ideal) ((c.tc : Thread Cert.KernelUinIdeal.nD Cert.KernelUinIdeal.τ).loc Cert.KernelUinIdeal.main_v4_2)) (v3 : (c : Dev Cert.KernelUinIdeal.nD) → Buf (Elt Ideal) ((c.tc : Thread Cert.KernelUinIdeal.nD Cert.KernelUinIdeal.τ).loc Cert.KernelUinIdeal.main_v4_3)),
      θ_run (Cert.KernelUinIdeal.defs (F := Ideal)) (onTc (τ := Cert.KernelUinIdeal.τ) (Cert.KernelUinIdeal.main (F := Ideal))) ⟨m, fun _ => 0, g⟩ (fun r => ∀ c : Dev Cert.KernelUinIdeal.nD,
          r.2.mem ((c.tc : Thread Cert.KernelUinIdeal.nD Cert.KernelUinIdeal.τ).loc Cert.KernelUinIdeal.main_v4_0) = v0 c
          ∧ r.2.mem ((c.tc : Thread Cert.KernelUinIdeal.nD Cert.KernelUinIdeal.τ).loc Cert.KernelUinIdeal.main_v4_1) = v1 c
          ∧ r.2.mem ((c.tc : Thread Cert.KernelUinIdeal.nD Cert.KernelUinIdeal.τ).loc Cert.KernelUinIdeal.main_v4_2) = v2 c
          ∧ r.2.mem ((c.tc : Thread Cert.KernelUinIdeal.nD Cert.KernelUinIdeal.τ).loc Cert.KernelUinIdeal.main_v4_3) = v3 c
          ∧ r.2.mem ((c.tc : Thread Cert.KernelUinIdeal.nD Cert.KernelUinIdeal.τ).loc Cert.KernelUinIdeal.main_arg0) = m ((c.tc : Thread Cert.KernelUinIdeal.nD Cert.KernelUinIdeal.τ).loc Cert.KernelUinIdeal.main_arg0)
          ∧ r.2.mem ((c.tc : Thread Cert.KernelUinIdeal.nD Cert.KernelUinIdeal.τ).loc Cert.KernelUinIdeal.main_arg1) = m ((c.tc : Thread Cert.KernelUinIdeal.nD Cert.KernelUinIdeal.τ).loc Cert.KernelUinIdeal.main_arg1)
          ∧ r.2.mem ((c.tc : Thread Cert.KernelUinIdeal.nD Cert.KernelUinIdeal.τ).loc Cert.KernelUinIdeal.main_arg2) = m ((c.tc : Thread Cert.KernelUinIdeal.nD Cert.KernelUinIdeal.τ).loc Cert.KernelUinIdeal.main_arg2)
          ∧ r.2.mem ((c.tc : Thread Cert.KernelUinIdeal.nD Cert.KernelUinIdeal.τ).loc Cert.KernelUinIdeal.main_arg3) = m ((c.tc : Thread Cert.KernelUinIdeal.nD Cert.KernelUinIdeal.τ).loc Cert.KernelUinIdeal.main_arg3))
      ∧ θ_run (Cert.ReferenceUinIdeal.defs (F := Ideal)) (onTc (τ := Cert.ReferenceUinIdeal.τ) (Cert.ReferenceUinIdeal.main (F := Ideal))) ⟨m', fun _ => 0, g'⟩ (fun r => ∀ c : Dev Cert.ReferenceUinIdeal.nD,
          r.2.mem ((c.tc : Thread Cert.ReferenceUinIdeal.nD Cert.ReferenceUinIdeal.τ).loc Cert.ReferenceUinIdeal.main_v24) = v0 c
          ∧ r.2.mem ((c.tc : Thread Cert.ReferenceUinIdeal.nD Cert.ReferenceUinIdeal.τ).loc Cert.ReferenceUinIdeal.main_v25) = v1 c
          ∧ r.2.mem ((c.tc : Thread Cert.ReferenceUinIdeal.nD Cert.ReferenceUinIdeal.τ).loc Cert.ReferenceUinIdeal.main_v26) = v2 c
          ∧ r.2.mem ((c.tc : Thread Cert.ReferenceUinIdeal.nD Cert.ReferenceUinIdeal.τ).loc Cert.ReferenceUinIdeal.main_v27) = v3 c
          ∧ r.2.mem ((c.tc : Thread Cert.ReferenceUinIdeal.nD Cert.ReferenceUinIdeal.τ).loc Cert.ReferenceUinIdeal.main_arg0) = m' ((c.tc : Thread Cert.ReferenceUinIdeal.nD Cert.ReferenceUinIdeal.τ).loc Cert.ReferenceUinIdeal.main_arg0)
          ∧ r.2.mem ((c.tc : Thread Cert.ReferenceUinIdeal.nD Cert.ReferenceUinIdeal.τ).loc Cert.ReferenceUinIdeal.main_arg1) = m' ((c.tc : Thread Cert.ReferenceUinIdeal.nD Cert.ReferenceUinIdeal.τ).loc Cert.ReferenceUinIdeal.main_arg1)
          ∧ r.2.mem ((c.tc : Thread Cert.ReferenceUinIdeal.nD Cert.ReferenceUinIdeal.τ).loc Cert.ReferenceUinIdeal.main_arg2) = m' ((c.tc : Thread Cert.ReferenceUinIdeal.nD Cert.ReferenceUinIdeal.τ).loc Cert.ReferenceUinIdeal.main_arg2)
          ∧ r.2.mem ((c.tc : Thread Cert.ReferenceUinIdeal.nD Cert.ReferenceUinIdeal.τ).loc Cert.ReferenceUinIdeal.main_arg3) = m' ((c.tc : Thread Cert.ReferenceUinIdeal.nD Cert.ReferenceUinIdeal.τ).loc Cert.ReferenceUinIdeal.main_arg3))

def preserves_KernelUout_KernelUoutIdeal : Prop :=
  True

def algebraic_KernelUoutIdeal_ReferenceUoutIdeal [hKernelUoutIdeal : Cert.KernelUoutIdeal.Facts] [hReferenceUoutIdeal : Cert.ReferenceUoutIdeal.Facts] : Prop :=
  ∀ (m : (ℓ : Loc Cert.KernelUoutIdeal.nD Cert.KernelUoutIdeal.τ Cert.KernelUoutIdeal.sig) → Buf (Elt Ideal) ℓ) (g : Dev Cert.KernelUoutIdeal.nD → PrngReg)
    (m' : (ℓ : Loc Cert.ReferenceUoutIdeal.nD Cert.ReferenceUoutIdeal.τ Cert.ReferenceUoutIdeal.sig) → Buf (Elt Ideal) ℓ) (g' : Dev Cert.ReferenceUoutIdeal.nD → PrngReg), Pre_KernelUoutIdeal m →
    (∀ c : Dev Cert.KernelUoutIdeal.nD,
      m' ((c.tc : Thread Cert.ReferenceUoutIdeal.nD Cert.ReferenceUoutIdeal.τ).loc Cert.ReferenceUoutIdeal.main_arg0) = m ((c.tc : Thread Cert.KernelUoutIdeal.nD Cert.KernelUoutIdeal.τ).loc Cert.KernelUoutIdeal.main_arg0)
      ∧ m' ((c.tc : Thread Cert.ReferenceUoutIdeal.nD Cert.ReferenceUoutIdeal.τ).loc Cert.ReferenceUoutIdeal.main_arg1) = m ((c.tc : Thread Cert.KernelUoutIdeal.nD Cert.KernelUoutIdeal.τ).loc Cert.KernelUoutIdeal.main_arg1)
      ∧ m' ((c.tc : Thread Cert.ReferenceUoutIdeal.nD Cert.ReferenceUoutIdeal.τ).loc Cert.ReferenceUoutIdeal.main_arg2) = m ((c.tc : Thread Cert.KernelUoutIdeal.nD Cert.KernelUoutIdeal.τ).loc Cert.KernelUoutIdeal.main_arg2)
      ∧ m' ((c.tc : Thread Cert.ReferenceUoutIdeal.nD Cert.ReferenceUoutIdeal.τ).loc Cert.ReferenceUoutIdeal.main_arg3) = m ((c.tc : Thread Cert.KernelUoutIdeal.nD Cert.KernelUoutIdeal.τ).loc Cert.KernelUoutIdeal.main_arg3)) →
    ∃ (v0 : (c : Dev Cert.KernelUoutIdeal.nD) → Buf (Elt Ideal) ((c.tc : Thread Cert.KernelUoutIdeal.nD Cert.KernelUoutIdeal.τ).loc Cert.KernelUoutIdeal.main_v4_0)) (v1 : (c : Dev Cert.KernelUoutIdeal.nD) → Buf (Elt Ideal) ((c.tc : Thread Cert.KernelUoutIdeal.nD Cert.KernelUoutIdeal.τ).loc Cert.KernelUoutIdeal.main_v4_1)) (v2 : (c : Dev Cert.KernelUoutIdeal.nD) → Buf (Elt Ideal) ((c.tc : Thread Cert.KernelUoutIdeal.nD Cert.KernelUoutIdeal.τ).loc Cert.KernelUoutIdeal.main_v4_2)) (v3 : (c : Dev Cert.KernelUoutIdeal.nD) → Buf (Elt Ideal) ((c.tc : Thread Cert.KernelUoutIdeal.nD Cert.KernelUoutIdeal.τ).loc Cert.KernelUoutIdeal.main_v4_3)),
      θ_run (Cert.KernelUoutIdeal.defs (F := Ideal)) (onTc (τ := Cert.KernelUoutIdeal.τ) (Cert.KernelUoutIdeal.main (F := Ideal))) ⟨m, fun _ => 0, g⟩ (fun r => ∀ c : Dev Cert.KernelUoutIdeal.nD,
          r.2.mem ((c.tc : Thread Cert.KernelUoutIdeal.nD Cert.KernelUoutIdeal.τ).loc Cert.KernelUoutIdeal.main_v4_0) = v0 c
          ∧ r.2.mem ((c.tc : Thread Cert.KernelUoutIdeal.nD Cert.KernelUoutIdeal.τ).loc Cert.KernelUoutIdeal.main_v4_1) = v1 c
          ∧ r.2.mem ((c.tc : Thread Cert.KernelUoutIdeal.nD Cert.KernelUoutIdeal.τ).loc Cert.KernelUoutIdeal.main_v4_2) = v2 c
          ∧ r.2.mem ((c.tc : Thread Cert.KernelUoutIdeal.nD Cert.KernelUoutIdeal.τ).loc Cert.KernelUoutIdeal.main_v4_3) = v3 c
          ∧ r.2.mem ((c.tc : Thread Cert.KernelUoutIdeal.nD Cert.KernelUoutIdeal.τ).loc Cert.KernelUoutIdeal.main_arg0) = m ((c.tc : Thread Cert.KernelUoutIdeal.nD Cert.KernelUoutIdeal.τ).loc Cert.KernelUoutIdeal.main_arg0)
          ∧ r.2.mem ((c.tc : Thread Cert.KernelUoutIdeal.nD Cert.KernelUoutIdeal.τ).loc Cert.KernelUoutIdeal.main_arg1) = m ((c.tc : Thread Cert.KernelUoutIdeal.nD Cert.KernelUoutIdeal.τ).loc Cert.KernelUoutIdeal.main_arg1)
          ∧ r.2.mem ((c.tc : Thread Cert.KernelUoutIdeal.nD Cert.KernelUoutIdeal.τ).loc Cert.KernelUoutIdeal.main_arg2) = m ((c.tc : Thread Cert.KernelUoutIdeal.nD Cert.KernelUoutIdeal.τ).loc Cert.KernelUoutIdeal.main_arg2)
          ∧ r.2.mem ((c.tc : Thread Cert.KernelUoutIdeal.nD Cert.KernelUoutIdeal.τ).loc Cert.KernelUoutIdeal.main_arg3) = m ((c.tc : Thread Cert.KernelUoutIdeal.nD Cert.KernelUoutIdeal.τ).loc Cert.KernelUoutIdeal.main_arg3))
      ∧ θ_run (Cert.ReferenceUoutIdeal.defs (F := Ideal)) (onTc (τ := Cert.ReferenceUoutIdeal.τ) (Cert.ReferenceUoutIdeal.main (F := Ideal))) ⟨m', fun _ => 0, g'⟩ (fun r => ∀ c : Dev Cert.ReferenceUoutIdeal.nD,
          r.2.mem ((c.tc : Thread Cert.ReferenceUoutIdeal.nD Cert.ReferenceUoutIdeal.τ).loc Cert.ReferenceUoutIdeal.main_v24) = v0 c
          ∧ r.2.mem ((c.tc : Thread Cert.ReferenceUoutIdeal.nD Cert.ReferenceUoutIdeal.τ).loc Cert.ReferenceUoutIdeal.main_v25) = v1 c
          ∧ r.2.mem ((c.tc : Thread Cert.ReferenceUoutIdeal.nD Cert.ReferenceUoutIdeal.τ).loc Cert.ReferenceUoutIdeal.main_v26) = v2 c
          ∧ r.2.mem ((c.tc : Thread Cert.ReferenceUoutIdeal.nD Cert.ReferenceUoutIdeal.τ).loc Cert.ReferenceUoutIdeal.main_v27) = v3 c
          ∧ r.2.mem ((c.tc : Thread Cert.ReferenceUoutIdeal.nD Cert.ReferenceUoutIdeal.τ).loc Cert.ReferenceUoutIdeal.main_arg0) = m' ((c.tc : Thread Cert.ReferenceUoutIdeal.nD Cert.ReferenceUoutIdeal.τ).loc Cert.ReferenceUoutIdeal.main_arg0)
          ∧ r.2.mem ((c.tc : Thread Cert.ReferenceUoutIdeal.nD Cert.ReferenceUoutIdeal.τ).loc Cert.ReferenceUoutIdeal.main_arg1) = m' ((c.tc : Thread Cert.ReferenceUoutIdeal.nD Cert.ReferenceUoutIdeal.τ).loc Cert.ReferenceUoutIdeal.main_arg1)
          ∧ r.2.mem ((c.tc : Thread Cert.ReferenceUoutIdeal.nD Cert.ReferenceUoutIdeal.τ).loc Cert.ReferenceUoutIdeal.main_arg2) = m' ((c.tc : Thread Cert.ReferenceUoutIdeal.nD Cert.ReferenceUoutIdeal.τ).loc Cert.ReferenceUoutIdeal.main_arg2)
          ∧ r.2.mem ((c.tc : Thread Cert.ReferenceUoutIdeal.nD Cert.ReferenceUoutIdeal.τ).loc Cert.ReferenceUoutIdeal.main_arg3) = m' ((c.tc : Thread Cert.ReferenceUoutIdeal.nD Cert.ReferenceUoutIdeal.τ).loc Cert.ReferenceUoutIdeal.main_arg3))

def preserves_KernelUgate_KernelUgateIdeal : Prop :=
  True

def algebraic_KernelUgateIdeal_ReferenceUgateIdeal [hKernelUgateIdeal : Cert.KernelUgateIdeal.Facts] [hReferenceUgateIdeal : Cert.ReferenceUgateIdeal.Facts] : Prop :=
  ∀ (m : (ℓ : Loc Cert.KernelUgateIdeal.nD Cert.KernelUgateIdeal.τ Cert.KernelUgateIdeal.sig) → Buf (Elt Ideal) ℓ) (g : Dev Cert.KernelUgateIdeal.nD → PrngReg)
    (m' : (ℓ : Loc Cert.ReferenceUgateIdeal.nD Cert.ReferenceUgateIdeal.τ Cert.ReferenceUgateIdeal.sig) → Buf (Elt Ideal) ℓ) (g' : Dev Cert.ReferenceUgateIdeal.nD → PrngReg), Pre_KernelUgateIdeal m →
    (∀ c : Dev Cert.KernelUgateIdeal.nD,
      m' ((c.tc : Thread Cert.ReferenceUgateIdeal.nD Cert.ReferenceUgateIdeal.τ).loc Cert.ReferenceUgateIdeal.main_arg0) = m ((c.tc : Thread Cert.KernelUgateIdeal.nD Cert.KernelUgateIdeal.τ).loc Cert.KernelUgateIdeal.main_arg0)
      ∧ m' ((c.tc : Thread Cert.ReferenceUgateIdeal.nD Cert.ReferenceUgateIdeal.τ).loc Cert.ReferenceUgateIdeal.main_arg1) = m ((c.tc : Thread Cert.KernelUgateIdeal.nD Cert.KernelUgateIdeal.τ).loc Cert.KernelUgateIdeal.main_arg1)
      ∧ m' ((c.tc : Thread Cert.ReferenceUgateIdeal.nD Cert.ReferenceUgateIdeal.τ).loc Cert.ReferenceUgateIdeal.main_arg2) = m ((c.tc : Thread Cert.KernelUgateIdeal.nD Cert.KernelUgateIdeal.τ).loc Cert.KernelUgateIdeal.main_arg2)
      ∧ m' ((c.tc : Thread Cert.ReferenceUgateIdeal.nD Cert.ReferenceUgateIdeal.τ).loc Cert.ReferenceUgateIdeal.main_arg3) = m ((c.tc : Thread Cert.KernelUgateIdeal.nD Cert.KernelUgateIdeal.τ).loc Cert.KernelUgateIdeal.main_arg3)) →
    ∃ (v0 : (c : Dev Cert.KernelUgateIdeal.nD) → Buf (Elt Ideal) ((c.tc : Thread Cert.KernelUgateIdeal.nD Cert.KernelUgateIdeal.τ).loc Cert.KernelUgateIdeal.main_v4_0)) (v1 : (c : Dev Cert.KernelUgateIdeal.nD) → Buf (Elt Ideal) ((c.tc : Thread Cert.KernelUgateIdeal.nD Cert.KernelUgateIdeal.τ).loc Cert.KernelUgateIdeal.main_v4_1)) (v2 : (c : Dev Cert.KernelUgateIdeal.nD) → Buf (Elt Ideal) ((c.tc : Thread Cert.KernelUgateIdeal.nD Cert.KernelUgateIdeal.τ).loc Cert.KernelUgateIdeal.main_v4_2)) (v3 : (c : Dev Cert.KernelUgateIdeal.nD) → Buf (Elt Ideal) ((c.tc : Thread Cert.KernelUgateIdeal.nD Cert.KernelUgateIdeal.τ).loc Cert.KernelUgateIdeal.main_v4_3)),
      θ_run (Cert.KernelUgateIdeal.defs (F := Ideal)) (onTc (τ := Cert.KernelUgateIdeal.τ) (Cert.KernelUgateIdeal.main (F := Ideal))) ⟨m, fun _ => 0, g⟩ (fun r => ∀ c : Dev Cert.KernelUgateIdeal.nD,
          r.2.mem ((c.tc : Thread Cert.KernelUgateIdeal.nD Cert.KernelUgateIdeal.τ).loc Cert.KernelUgateIdeal.main_v4_0) = v0 c
          ∧ r.2.mem ((c.tc : Thread Cert.KernelUgateIdeal.nD Cert.KernelUgateIdeal.τ).loc Cert.KernelUgateIdeal.main_v4_1) = v1 c
          ∧ r.2.mem ((c.tc : Thread Cert.KernelUgateIdeal.nD Cert.KernelUgateIdeal.τ).loc Cert.KernelUgateIdeal.main_v4_2) = v2 c
          ∧ r.2.mem ((c.tc : Thread Cert.KernelUgateIdeal.nD Cert.KernelUgateIdeal.τ).loc Cert.KernelUgateIdeal.main_v4_3) = v3 c
          ∧ r.2.mem ((c.tc : Thread Cert.KernelUgateIdeal.nD Cert.KernelUgateIdeal.τ).loc Cert.KernelUgateIdeal.main_arg0) = m ((c.tc : Thread Cert.KernelUgateIdeal.nD Cert.KernelUgateIdeal.τ).loc Cert.KernelUgateIdeal.main_arg0)
          ∧ r.2.mem ((c.tc : Thread Cert.KernelUgateIdeal.nD Cert.KernelUgateIdeal.τ).loc Cert.KernelUgateIdeal.main_arg1) = m ((c.tc : Thread Cert.KernelUgateIdeal.nD Cert.KernelUgateIdeal.τ).loc Cert.KernelUgateIdeal.main_arg1)
          ∧ r.2.mem ((c.tc : Thread Cert.KernelUgateIdeal.nD Cert.KernelUgateIdeal.τ).loc Cert.KernelUgateIdeal.main_arg2) = m ((c.tc : Thread Cert.KernelUgateIdeal.nD Cert.KernelUgateIdeal.τ).loc Cert.KernelUgateIdeal.main_arg2)
          ∧ r.2.mem ((c.tc : Thread Cert.KernelUgateIdeal.nD Cert.KernelUgateIdeal.τ).loc Cert.KernelUgateIdeal.main_arg3) = m ((c.tc : Thread Cert.KernelUgateIdeal.nD Cert.KernelUgateIdeal.τ).loc Cert.KernelUgateIdeal.main_arg3))
      ∧ θ_run (Cert.ReferenceUgateIdeal.defs (F := Ideal)) (onTc (τ := Cert.ReferenceUgateIdeal.τ) (Cert.ReferenceUgateIdeal.main (F := Ideal))) ⟨m', fun _ => 0, g'⟩ (fun r => ∀ c : Dev Cert.ReferenceUgateIdeal.nD,
          r.2.mem ((c.tc : Thread Cert.ReferenceUgateIdeal.nD Cert.ReferenceUgateIdeal.τ).loc Cert.ReferenceUgateIdeal.main_v24) = v0 c
          ∧ r.2.mem ((c.tc : Thread Cert.ReferenceUgateIdeal.nD Cert.ReferenceUgateIdeal.τ).loc Cert.ReferenceUgateIdeal.main_v25) = v1 c
          ∧ r.2.mem ((c.tc : Thread Cert.ReferenceUgateIdeal.nD Cert.ReferenceUgateIdeal.τ).loc Cert.ReferenceUgateIdeal.main_v26) = v2 c
          ∧ r.2.mem ((c.tc : Thread Cert.ReferenceUgateIdeal.nD Cert.ReferenceUgateIdeal.τ).loc Cert.ReferenceUgateIdeal.main_v27) = v3 c
          ∧ r.2.mem ((c.tc : Thread Cert.ReferenceUgateIdeal.nD Cert.ReferenceUgateIdeal.τ).loc Cert.ReferenceUgateIdeal.main_arg0) = m' ((c.tc : Thread Cert.ReferenceUgateIdeal.nD Cert.ReferenceUgateIdeal.τ).loc Cert.ReferenceUgateIdeal.main_arg0)
          ∧ r.2.mem ((c.tc : Thread Cert.ReferenceUgateIdeal.nD Cert.ReferenceUgateIdeal.τ).loc Cert.ReferenceUgateIdeal.main_arg1) = m' ((c.tc : Thread Cert.ReferenceUgateIdeal.nD Cert.ReferenceUgateIdeal.τ).loc Cert.ReferenceUgateIdeal.main_arg1)
          ∧ r.2.mem ((c.tc : Thread Cert.ReferenceUgateIdeal.nD Cert.ReferenceUgateIdeal.τ).loc Cert.ReferenceUgateIdeal.main_arg2) = m' ((c.tc : Thread Cert.ReferenceUgateIdeal.nD Cert.ReferenceUgateIdeal.τ).loc Cert.ReferenceUgateIdeal.main_arg2)
          ∧ r.2.mem ((c.tc : Thread Cert.ReferenceUgateIdeal.nD Cert.ReferenceUgateIdeal.τ).loc Cert.ReferenceUgateIdeal.main_arg3) = m' ((c.tc : Thread Cert.ReferenceUgateIdeal.nD Cert.ReferenceUgateIdeal.τ).loc Cert.ReferenceUgateIdeal.main_arg3))

def preserves_KernelUproj_KernelUprojIdeal : Prop :=
  True

def algebraic_KernelUprojIdeal_ReferenceUprojIdeal [hKernelUprojIdeal : Cert.KernelUprojIdeal.Facts] [hReferenceUprojIdeal : Cert.ReferenceUprojIdeal.Facts] : Prop :=
  ∀ (m : (ℓ : Loc Cert.KernelUprojIdeal.nD Cert.KernelUprojIdeal.τ Cert.KernelUprojIdeal.sig) → Buf (Elt Ideal) ℓ) (g : Dev Cert.KernelUprojIdeal.nD → PrngReg)
    (m' : (ℓ : Loc Cert.ReferenceUprojIdeal.nD Cert.ReferenceUprojIdeal.τ Cert.ReferenceUprojIdeal.sig) → Buf (Elt Ideal) ℓ) (g' : Dev Cert.ReferenceUprojIdeal.nD → PrngReg), Pre_KernelUprojIdeal m →
    (∀ c : Dev Cert.KernelUprojIdeal.nD,
      m' ((c.tc : Thread Cert.ReferenceUprojIdeal.nD Cert.ReferenceUprojIdeal.τ).loc Cert.ReferenceUprojIdeal.main_arg0) = m ((c.tc : Thread Cert.KernelUprojIdeal.nD Cert.KernelUprojIdeal.τ).loc Cert.KernelUprojIdeal.main_arg0)
      ∧ m' ((c.tc : Thread Cert.ReferenceUprojIdeal.nD Cert.ReferenceUprojIdeal.τ).loc Cert.ReferenceUprojIdeal.main_arg1) = m ((c.tc : Thread Cert.KernelUprojIdeal.nD Cert.KernelUprojIdeal.τ).loc Cert.KernelUprojIdeal.main_arg1)
      ∧ m' ((c.tc : Thread Cert.ReferenceUprojIdeal.nD Cert.ReferenceUprojIdeal.τ).loc Cert.ReferenceUprojIdeal.main_arg2) = m ((c.tc : Thread Cert.KernelUprojIdeal.nD Cert.KernelUprojIdeal.τ).loc Cert.KernelUprojIdeal.main_arg2)
      ∧ m' ((c.tc : Thread Cert.ReferenceUprojIdeal.nD Cert.ReferenceUprojIdeal.τ).loc Cert.ReferenceUprojIdeal.main_arg3) = m ((c.tc : Thread Cert.KernelUprojIdeal.nD Cert.KernelUprojIdeal.τ).loc Cert.KernelUprojIdeal.main_arg3)) →
    ∃ (v0 : (c : Dev Cert.KernelUprojIdeal.nD) → Buf (Elt Ideal) ((c.tc : Thread Cert.KernelUprojIdeal.nD Cert.KernelUprojIdeal.τ).loc Cert.KernelUprojIdeal.main_v4_0)) (v1 : (c : Dev Cert.KernelUprojIdeal.nD) → Buf (Elt Ideal) ((c.tc : Thread Cert.KernelUprojIdeal.nD Cert.KernelUprojIdeal.τ).loc Cert.KernelUprojIdeal.main_v4_1)) (v2 : (c : Dev Cert.KernelUprojIdeal.nD) → Buf (Elt Ideal) ((c.tc : Thread Cert.KernelUprojIdeal.nD Cert.KernelUprojIdeal.τ).loc Cert.KernelUprojIdeal.main_v4_2)) (v3 : (c : Dev Cert.KernelUprojIdeal.nD) → Buf (Elt Ideal) ((c.tc : Thread Cert.KernelUprojIdeal.nD Cert.KernelUprojIdeal.τ).loc Cert.KernelUprojIdeal.main_v4_3)),
      θ_run (Cert.KernelUprojIdeal.defs (F := Ideal)) (onTc (τ := Cert.KernelUprojIdeal.τ) (Cert.KernelUprojIdeal.main (F := Ideal))) ⟨m, fun _ => 0, g⟩ (fun r => ∀ c : Dev Cert.KernelUprojIdeal.nD,
          r.2.mem ((c.tc : Thread Cert.KernelUprojIdeal.nD Cert.KernelUprojIdeal.τ).loc Cert.KernelUprojIdeal.main_v4_0) = v0 c
          ∧ r.2.mem ((c.tc : Thread Cert.KernelUprojIdeal.nD Cert.KernelUprojIdeal.τ).loc Cert.KernelUprojIdeal.main_v4_1) = v1 c
          ∧ r.2.mem ((c.tc : Thread Cert.KernelUprojIdeal.nD Cert.KernelUprojIdeal.τ).loc Cert.KernelUprojIdeal.main_v4_2) = v2 c
          ∧ r.2.mem ((c.tc : Thread Cert.KernelUprojIdeal.nD Cert.KernelUprojIdeal.τ).loc Cert.KernelUprojIdeal.main_v4_3) = v3 c
          ∧ r.2.mem ((c.tc : Thread Cert.KernelUprojIdeal.nD Cert.KernelUprojIdeal.τ).loc Cert.KernelUprojIdeal.main_arg0) = m ((c.tc : Thread Cert.KernelUprojIdeal.nD Cert.KernelUprojIdeal.τ).loc Cert.KernelUprojIdeal.main_arg0)
          ∧ r.2.mem ((c.tc : Thread Cert.KernelUprojIdeal.nD Cert.KernelUprojIdeal.τ).loc Cert.KernelUprojIdeal.main_arg1) = m ((c.tc : Thread Cert.KernelUprojIdeal.nD Cert.KernelUprojIdeal.τ).loc Cert.KernelUprojIdeal.main_arg1)
          ∧ r.2.mem ((c.tc : Thread Cert.KernelUprojIdeal.nD Cert.KernelUprojIdeal.τ).loc Cert.KernelUprojIdeal.main_arg2) = m ((c.tc : Thread Cert.KernelUprojIdeal.nD Cert.KernelUprojIdeal.τ).loc Cert.KernelUprojIdeal.main_arg2)
          ∧ r.2.mem ((c.tc : Thread Cert.KernelUprojIdeal.nD Cert.KernelUprojIdeal.τ).loc Cert.KernelUprojIdeal.main_arg3) = m ((c.tc : Thread Cert.KernelUprojIdeal.nD Cert.KernelUprojIdeal.τ).loc Cert.KernelUprojIdeal.main_arg3))
      ∧ θ_run (Cert.ReferenceUprojIdeal.defs (F := Ideal)) (onTc (τ := Cert.ReferenceUprojIdeal.τ) (Cert.ReferenceUprojIdeal.main (F := Ideal))) ⟨m', fun _ => 0, g'⟩ (fun r => ∀ c : Dev Cert.ReferenceUprojIdeal.nD,
          r.2.mem ((c.tc : Thread Cert.ReferenceUprojIdeal.nD Cert.ReferenceUprojIdeal.τ).loc Cert.ReferenceUprojIdeal.main_v24) = v0 c
          ∧ r.2.mem ((c.tc : Thread Cert.ReferenceUprojIdeal.nD Cert.ReferenceUprojIdeal.τ).loc Cert.ReferenceUprojIdeal.main_v25) = v1 c
          ∧ r.2.mem ((c.tc : Thread Cert.ReferenceUprojIdeal.nD Cert.ReferenceUprojIdeal.τ).loc Cert.ReferenceUprojIdeal.main_v26) = v2 c
          ∧ r.2.mem ((c.tc : Thread Cert.ReferenceUprojIdeal.nD Cert.ReferenceUprojIdeal.τ).loc Cert.ReferenceUprojIdeal.main_v27) = v3 c
          ∧ r.2.mem ((c.tc : Thread Cert.ReferenceUprojIdeal.nD Cert.ReferenceUprojIdeal.τ).loc Cert.ReferenceUprojIdeal.main_arg0) = m' ((c.tc : Thread Cert.ReferenceUprojIdeal.nD Cert.ReferenceUprojIdeal.τ).loc Cert.ReferenceUprojIdeal.main_arg0)
          ∧ r.2.mem ((c.tc : Thread Cert.ReferenceUprojIdeal.nD Cert.ReferenceUprojIdeal.τ).loc Cert.ReferenceUprojIdeal.main_arg1) = m' ((c.tc : Thread Cert.ReferenceUprojIdeal.nD Cert.ReferenceUprojIdeal.τ).loc Cert.ReferenceUprojIdeal.main_arg1)
          ∧ r.2.mem ((c.tc : Thread Cert.ReferenceUprojIdeal.nD Cert.ReferenceUprojIdeal.τ).loc Cert.ReferenceUprojIdeal.main_arg2) = m' ((c.tc : Thread Cert.ReferenceUprojIdeal.nD Cert.ReferenceUprojIdeal.τ).loc Cert.ReferenceUprojIdeal.main_arg2)
          ∧ r.2.mem ((c.tc : Thread Cert.ReferenceUprojIdeal.nD Cert.ReferenceUprojIdeal.τ).loc Cert.ReferenceUprojIdeal.main_arg3) = m' ((c.tc : Thread Cert.ReferenceUprojIdeal.nD Cert.ReferenceUprojIdeal.τ).loc Cert.ReferenceUprojIdeal.main_arg3))

def preserves_KernelUsmall_KernelUsmallIdeal : Prop :=
  True

def algebraic_KernelUsmallIdeal_ReferenceUsmallIdeal [hKernelUsmallIdeal : Cert.KernelUsmallIdeal.Facts] [hReferenceUsmallIdeal : Cert.ReferenceUsmallIdeal.Facts] : Prop :=
  ∀ (m : (ℓ : Loc Cert.KernelUsmallIdeal.nD Cert.KernelUsmallIdeal.τ Cert.KernelUsmallIdeal.sig) → Buf (Elt Ideal) ℓ) (g : Dev Cert.KernelUsmallIdeal.nD → PrngReg)
    (m' : (ℓ : Loc Cert.ReferenceUsmallIdeal.nD Cert.ReferenceUsmallIdeal.τ Cert.ReferenceUsmallIdeal.sig) → Buf (Elt Ideal) ℓ) (g' : Dev Cert.ReferenceUsmallIdeal.nD → PrngReg), Pre_KernelUsmallIdeal m →
    (∀ c : Dev Cert.KernelUsmallIdeal.nD,
      m' ((c.tc : Thread Cert.ReferenceUsmallIdeal.nD Cert.ReferenceUsmallIdeal.τ).loc Cert.ReferenceUsmallIdeal.main_arg0) = m ((c.tc : Thread Cert.KernelUsmallIdeal.nD Cert.KernelUsmallIdeal.τ).loc Cert.KernelUsmallIdeal.main_arg0)
      ∧ m' ((c.tc : Thread Cert.ReferenceUsmallIdeal.nD Cert.ReferenceUsmallIdeal.τ).loc Cert.ReferenceUsmallIdeal.main_arg1) = m ((c.tc : Thread Cert.KernelUsmallIdeal.nD Cert.KernelUsmallIdeal.τ).loc Cert.KernelUsmallIdeal.main_arg1)
      ∧ m' ((c.tc : Thread Cert.ReferenceUsmallIdeal.nD Cert.ReferenceUsmallIdeal.τ).loc Cert.ReferenceUsmallIdeal.main_arg2) = m ((c.tc : Thread Cert.KernelUsmallIdeal.nD Cert.KernelUsmallIdeal.τ).loc Cert.KernelUsmallIdeal.main_arg2)
      ∧ m' ((c.tc : Thread Cert.ReferenceUsmallIdeal.nD Cert.ReferenceUsmallIdeal.τ).loc Cert.ReferenceUsmallIdeal.main_arg3) = m ((c.tc : Thread Cert.KernelUsmallIdeal.nD Cert.KernelUsmallIdeal.τ).loc Cert.KernelUsmallIdeal.main_arg3)
      ∧ m' ((c.tc : Thread Cert.ReferenceUsmallIdeal.nD Cert.ReferenceUsmallIdeal.τ).loc Cert.ReferenceUsmallIdeal.main_arg4) = m ((c.tc : Thread Cert.KernelUsmallIdeal.nD Cert.KernelUsmallIdeal.τ).loc Cert.KernelUsmallIdeal.main_arg4)
      ∧ m' ((c.tc : Thread Cert.ReferenceUsmallIdeal.nD Cert.ReferenceUsmallIdeal.τ).loc Cert.ReferenceUsmallIdeal.main_arg5) = m ((c.tc : Thread Cert.KernelUsmallIdeal.nD Cert.KernelUsmallIdeal.τ).loc Cert.KernelUsmallIdeal.main_arg5)
      ∧ m' ((c.tc : Thread Cert.ReferenceUsmallIdeal.nD Cert.ReferenceUsmallIdeal.τ).loc Cert.ReferenceUsmallIdeal.main_arg6) = m ((c.tc : Thread Cert.KernelUsmallIdeal.nD Cert.KernelUsmallIdeal.τ).loc Cert.KernelUsmallIdeal.main_arg6)
      ∧ m' ((c.tc : Thread Cert.ReferenceUsmallIdeal.nD Cert.ReferenceUsmallIdeal.τ).loc Cert.ReferenceUsmallIdeal.main_arg7) = m ((c.tc : Thread Cert.KernelUsmallIdeal.nD Cert.KernelUsmallIdeal.τ).loc Cert.KernelUsmallIdeal.main_arg7)
      ∧ m' ((c.tc : Thread Cert.ReferenceUsmallIdeal.nD Cert.ReferenceUsmallIdeal.τ).loc Cert.ReferenceUsmallIdeal.main_arg8) = m ((c.tc : Thread Cert.KernelUsmallIdeal.nD Cert.KernelUsmallIdeal.τ).loc Cert.KernelUsmallIdeal.main_arg8)
      ∧ m' ((c.tc : Thread Cert.ReferenceUsmallIdeal.nD Cert.ReferenceUsmallIdeal.τ).loc Cert.ReferenceUsmallIdeal.main_arg9) = m ((c.tc : Thread Cert.KernelUsmallIdeal.nD Cert.KernelUsmallIdeal.τ).loc Cert.KernelUsmallIdeal.main_arg9)
      ∧ m' ((c.tc : Thread Cert.ReferenceUsmallIdeal.nD Cert.ReferenceUsmallIdeal.τ).loc Cert.ReferenceUsmallIdeal.main_arg10) = m ((c.tc : Thread Cert.KernelUsmallIdeal.nD Cert.KernelUsmallIdeal.τ).loc Cert.KernelUsmallIdeal.main_arg10)
      ∧ m' ((c.tc : Thread Cert.ReferenceUsmallIdeal.nD Cert.ReferenceUsmallIdeal.τ).loc Cert.ReferenceUsmallIdeal.main_arg11) = m ((c.tc : Thread Cert.KernelUsmallIdeal.nD Cert.KernelUsmallIdeal.τ).loc Cert.KernelUsmallIdeal.main_arg11)
      ∧ m' ((c.tc : Thread Cert.ReferenceUsmallIdeal.nD Cert.ReferenceUsmallIdeal.τ).loc Cert.ReferenceUsmallIdeal.main_arg12) = m ((c.tc : Thread Cert.KernelUsmallIdeal.nD Cert.KernelUsmallIdeal.τ).loc Cert.KernelUsmallIdeal.main_arg12)
      ∧ m' ((c.tc : Thread Cert.ReferenceUsmallIdeal.nD Cert.ReferenceUsmallIdeal.τ).loc Cert.ReferenceUsmallIdeal.main_arg13) = m ((c.tc : Thread Cert.KernelUsmallIdeal.nD Cert.KernelUsmallIdeal.τ).loc Cert.KernelUsmallIdeal.main_arg13)
      ∧ m' ((c.tc : Thread Cert.ReferenceUsmallIdeal.nD Cert.ReferenceUsmallIdeal.τ).loc Cert.ReferenceUsmallIdeal.main_arg14) = m ((c.tc : Thread Cert.KernelUsmallIdeal.nD Cert.KernelUsmallIdeal.τ).loc Cert.KernelUsmallIdeal.main_arg14)
      ∧ m' ((c.tc : Thread Cert.ReferenceUsmallIdeal.nD Cert.ReferenceUsmallIdeal.τ).loc Cert.ReferenceUsmallIdeal.main_arg15) = m ((c.tc : Thread Cert.KernelUsmallIdeal.nD Cert.KernelUsmallIdeal.τ).loc Cert.KernelUsmallIdeal.main_arg15)
      ∧ m' ((c.tc : Thread Cert.ReferenceUsmallIdeal.nD Cert.ReferenceUsmallIdeal.τ).loc Cert.ReferenceUsmallIdeal.main_arg16) = m ((c.tc : Thread Cert.KernelUsmallIdeal.nD Cert.KernelUsmallIdeal.τ).loc Cert.KernelUsmallIdeal.main_arg16)
      ∧ m' ((c.tc : Thread Cert.ReferenceUsmallIdeal.nD Cert.ReferenceUsmallIdeal.τ).loc Cert.ReferenceUsmallIdeal.main_arg17) = m ((c.tc : Thread Cert.KernelUsmallIdeal.nD Cert.KernelUsmallIdeal.τ).loc Cert.KernelUsmallIdeal.main_arg17)
      ∧ m' ((c.tc : Thread Cert.ReferenceUsmallIdeal.nD Cert.ReferenceUsmallIdeal.τ).loc Cert.ReferenceUsmallIdeal.main_arg18) = m ((c.tc : Thread Cert.KernelUsmallIdeal.nD Cert.KernelUsmallIdeal.τ).loc Cert.KernelUsmallIdeal.main_arg18)
      ∧ m' ((c.tc : Thread Cert.ReferenceUsmallIdeal.nD Cert.ReferenceUsmallIdeal.τ).loc Cert.ReferenceUsmallIdeal.main_arg19) = m ((c.tc : Thread Cert.KernelUsmallIdeal.nD Cert.KernelUsmallIdeal.τ).loc Cert.KernelUsmallIdeal.main_arg19)
      ∧ m' ((c.tc : Thread Cert.ReferenceUsmallIdeal.nD Cert.ReferenceUsmallIdeal.τ).loc Cert.ReferenceUsmallIdeal.main_arg20) = m ((c.tc : Thread Cert.KernelUsmallIdeal.nD Cert.KernelUsmallIdeal.τ).loc Cert.KernelUsmallIdeal.main_arg20)
      ∧ m' ((c.tc : Thread Cert.ReferenceUsmallIdeal.nD Cert.ReferenceUsmallIdeal.τ).loc Cert.ReferenceUsmallIdeal.main_arg21) = m ((c.tc : Thread Cert.KernelUsmallIdeal.nD Cert.KernelUsmallIdeal.τ).loc Cert.KernelUsmallIdeal.main_arg21)
      ∧ m' ((c.tc : Thread Cert.ReferenceUsmallIdeal.nD Cert.ReferenceUsmallIdeal.τ).loc Cert.ReferenceUsmallIdeal.main_arg22) = m ((c.tc : Thread Cert.KernelUsmallIdeal.nD Cert.KernelUsmallIdeal.τ).loc Cert.KernelUsmallIdeal.main_arg22)
      ∧ m' ((c.tc : Thread Cert.ReferenceUsmallIdeal.nD Cert.ReferenceUsmallIdeal.τ).loc Cert.ReferenceUsmallIdeal.main_arg23) = m ((c.tc : Thread Cert.KernelUsmallIdeal.nD Cert.KernelUsmallIdeal.τ).loc Cert.KernelUsmallIdeal.main_arg23)
      ∧ m' ((c.tc : Thread Cert.ReferenceUsmallIdeal.nD Cert.ReferenceUsmallIdeal.τ).loc Cert.ReferenceUsmallIdeal.main_arg24) = m ((c.tc : Thread Cert.KernelUsmallIdeal.nD Cert.KernelUsmallIdeal.τ).loc Cert.KernelUsmallIdeal.main_arg24)
      ∧ m' ((c.tc : Thread Cert.ReferenceUsmallIdeal.nD Cert.ReferenceUsmallIdeal.τ).loc Cert.ReferenceUsmallIdeal.main_arg25) = m ((c.tc : Thread Cert.KernelUsmallIdeal.nD Cert.KernelUsmallIdeal.τ).loc Cert.KernelUsmallIdeal.main_arg25)
      ∧ m' ((c.tc : Thread Cert.ReferenceUsmallIdeal.nD Cert.ReferenceUsmallIdeal.τ).loc Cert.ReferenceUsmallIdeal.main_arg26) = m ((c.tc : Thread Cert.KernelUsmallIdeal.nD Cert.KernelUsmallIdeal.τ).loc Cert.KernelUsmallIdeal.main_arg26)
      ∧ m' ((c.tc : Thread Cert.ReferenceUsmallIdeal.nD Cert.ReferenceUsmallIdeal.τ).loc Cert.ReferenceUsmallIdeal.main_arg27) = m ((c.tc : Thread Cert.KernelUsmallIdeal.nD Cert.KernelUsmallIdeal.τ).loc Cert.KernelUsmallIdeal.main_arg27)
      ∧ m' ((c.tc : Thread Cert.ReferenceUsmallIdeal.nD Cert.ReferenceUsmallIdeal.τ).loc Cert.ReferenceUsmallIdeal.main_arg28) = m ((c.tc : Thread Cert.KernelUsmallIdeal.nD Cert.KernelUsmallIdeal.τ).loc Cert.KernelUsmallIdeal.main_arg28)
      ∧ m' ((c.tc : Thread Cert.ReferenceUsmallIdeal.nD Cert.ReferenceUsmallIdeal.τ).loc Cert.ReferenceUsmallIdeal.main_arg29) = m ((c.tc : Thread Cert.KernelUsmallIdeal.nD Cert.KernelUsmallIdeal.τ).loc Cert.KernelUsmallIdeal.main_arg29)
      ∧ m' ((c.tc : Thread Cert.ReferenceUsmallIdeal.nD Cert.ReferenceUsmallIdeal.τ).loc Cert.ReferenceUsmallIdeal.main_arg30) = m ((c.tc : Thread Cert.KernelUsmallIdeal.nD Cert.KernelUsmallIdeal.τ).loc Cert.KernelUsmallIdeal.main_arg30)
      ∧ m' ((c.tc : Thread Cert.ReferenceUsmallIdeal.nD Cert.ReferenceUsmallIdeal.τ).loc Cert.ReferenceUsmallIdeal.main_arg31) = m ((c.tc : Thread Cert.KernelUsmallIdeal.nD Cert.KernelUsmallIdeal.τ).loc Cert.KernelUsmallIdeal.main_arg31)
      ∧ m' ((c.tc : Thread Cert.ReferenceUsmallIdeal.nD Cert.ReferenceUsmallIdeal.τ).loc Cert.ReferenceUsmallIdeal.main_arg32) = m ((c.tc : Thread Cert.KernelUsmallIdeal.nD Cert.KernelUsmallIdeal.τ).loc Cert.KernelUsmallIdeal.main_arg32)
      ∧ m' ((c.tc : Thread Cert.ReferenceUsmallIdeal.nD Cert.ReferenceUsmallIdeal.τ).loc Cert.ReferenceUsmallIdeal.main_arg33) = m ((c.tc : Thread Cert.KernelUsmallIdeal.nD Cert.KernelUsmallIdeal.τ).loc Cert.KernelUsmallIdeal.main_arg33)
      ∧ m' ((c.tc : Thread Cert.ReferenceUsmallIdeal.nD Cert.ReferenceUsmallIdeal.τ).loc Cert.ReferenceUsmallIdeal.main_arg34) = m ((c.tc : Thread Cert.KernelUsmallIdeal.nD Cert.KernelUsmallIdeal.τ).loc Cert.KernelUsmallIdeal.main_arg34)
      ∧ m' ((c.tc : Thread Cert.ReferenceUsmallIdeal.nD Cert.ReferenceUsmallIdeal.τ).loc Cert.ReferenceUsmallIdeal.main_arg35) = m ((c.tc : Thread Cert.KernelUsmallIdeal.nD Cert.KernelUsmallIdeal.τ).loc Cert.KernelUsmallIdeal.main_arg35)
      ∧ m' ((c.tc : Thread Cert.ReferenceUsmallIdeal.nD Cert.ReferenceUsmallIdeal.τ).loc Cert.ReferenceUsmallIdeal.main_arg36) = m ((c.tc : Thread Cert.KernelUsmallIdeal.nD Cert.KernelUsmallIdeal.τ).loc Cert.KernelUsmallIdeal.main_arg36)
      ∧ m' ((c.tc : Thread Cert.ReferenceUsmallIdeal.nD Cert.ReferenceUsmallIdeal.τ).loc Cert.ReferenceUsmallIdeal.main_arg37) = m ((c.tc : Thread Cert.KernelUsmallIdeal.nD Cert.KernelUsmallIdeal.τ).loc Cert.KernelUsmallIdeal.main_arg37)
      ∧ m' ((c.tc : Thread Cert.ReferenceUsmallIdeal.nD Cert.ReferenceUsmallIdeal.τ).loc Cert.ReferenceUsmallIdeal.main_arg38) = m ((c.tc : Thread Cert.KernelUsmallIdeal.nD Cert.KernelUsmallIdeal.τ).loc Cert.KernelUsmallIdeal.main_arg38)
      ∧ m' ((c.tc : Thread Cert.ReferenceUsmallIdeal.nD Cert.ReferenceUsmallIdeal.τ).loc Cert.ReferenceUsmallIdeal.main_arg39) = m ((c.tc : Thread Cert.KernelUsmallIdeal.nD Cert.KernelUsmallIdeal.τ).loc Cert.KernelUsmallIdeal.main_arg39)
      ∧ m' ((c.tc : Thread Cert.ReferenceUsmallIdeal.nD Cert.ReferenceUsmallIdeal.τ).loc Cert.ReferenceUsmallIdeal.main_arg40) = m ((c.tc : Thread Cert.KernelUsmallIdeal.nD Cert.KernelUsmallIdeal.τ).loc Cert.KernelUsmallIdeal.main_arg40)
      ∧ m' ((c.tc : Thread Cert.ReferenceUsmallIdeal.nD Cert.ReferenceUsmallIdeal.τ).loc Cert.ReferenceUsmallIdeal.main_arg41) = m ((c.tc : Thread Cert.KernelUsmallIdeal.nD Cert.KernelUsmallIdeal.τ).loc Cert.KernelUsmallIdeal.main_arg41)
      ∧ m' ((c.tc : Thread Cert.ReferenceUsmallIdeal.nD Cert.ReferenceUsmallIdeal.τ).loc Cert.ReferenceUsmallIdeal.main_arg42) = m ((c.tc : Thread Cert.KernelUsmallIdeal.nD Cert.KernelUsmallIdeal.τ).loc Cert.KernelUsmallIdeal.main_arg42)
      ∧ m' ((c.tc : Thread Cert.ReferenceUsmallIdeal.nD Cert.ReferenceUsmallIdeal.τ).loc Cert.ReferenceUsmallIdeal.main_arg43) = m ((c.tc : Thread Cert.KernelUsmallIdeal.nD Cert.KernelUsmallIdeal.τ).loc Cert.KernelUsmallIdeal.main_arg43)) →
    ∃ (v0 : (c : Dev Cert.KernelUsmallIdeal.nD) → Buf (Elt Ideal) ((c.tc : Thread Cert.KernelUsmallIdeal.nD Cert.KernelUsmallIdeal.τ).loc Cert.KernelUsmallIdeal.main_v60_0)) (v1 : (c : Dev Cert.KernelUsmallIdeal.nD) → Buf (Elt Ideal) ((c.tc : Thread Cert.KernelUsmallIdeal.nD Cert.KernelUsmallIdeal.τ).loc Cert.KernelUsmallIdeal.main_v60_1)) (v2 : (c : Dev Cert.KernelUsmallIdeal.nD) → Buf (Elt Ideal) ((c.tc : Thread Cert.KernelUsmallIdeal.nD Cert.KernelUsmallIdeal.τ).loc Cert.KernelUsmallIdeal.main_v60_2)) (v3 : (c : Dev Cert.KernelUsmallIdeal.nD) → Buf (Elt Ideal) ((c.tc : Thread Cert.KernelUsmallIdeal.nD Cert.KernelUsmallIdeal.τ).loc Cert.KernelUsmallIdeal.main_v60_3)),
      θ_run (Cert.KernelUsmallIdeal.defs (F := Ideal)) (onTc (τ := Cert.KernelUsmallIdeal.τ) (Cert.KernelUsmallIdeal.main (F := Ideal))) ⟨m, fun _ => 0, g⟩ (fun r => ∀ c : Dev Cert.KernelUsmallIdeal.nD,
          r.2.mem ((c.tc : Thread Cert.KernelUsmallIdeal.nD Cert.KernelUsmallIdeal.τ).loc Cert.KernelUsmallIdeal.main_v60_0) = v0 c
          ∧ r.2.mem ((c.tc : Thread Cert.KernelUsmallIdeal.nD Cert.KernelUsmallIdeal.τ).loc Cert.KernelUsmallIdeal.main_v60_1) = v1 c
          ∧ r.2.mem ((c.tc : Thread Cert.KernelUsmallIdeal.nD Cert.KernelUsmallIdeal.τ).loc Cert.KernelUsmallIdeal.main_v60_2) = v2 c
          ∧ r.2.mem ((c.tc : Thread Cert.KernelUsmallIdeal.nD Cert.KernelUsmallIdeal.τ).loc Cert.KernelUsmallIdeal.main_v60_3) = v3 c
          ∧ r.2.mem ((c.tc : Thread Cert.KernelUsmallIdeal.nD Cert.KernelUsmallIdeal.τ).loc Cert.KernelUsmallIdeal.main_arg0) = m ((c.tc : Thread Cert.KernelUsmallIdeal.nD Cert.KernelUsmallIdeal.τ).loc Cert.KernelUsmallIdeal.main_arg0)
          ∧ r.2.mem ((c.tc : Thread Cert.KernelUsmallIdeal.nD Cert.KernelUsmallIdeal.τ).loc Cert.KernelUsmallIdeal.main_arg1) = m ((c.tc : Thread Cert.KernelUsmallIdeal.nD Cert.KernelUsmallIdeal.τ).loc Cert.KernelUsmallIdeal.main_arg1)
          ∧ r.2.mem ((c.tc : Thread Cert.KernelUsmallIdeal.nD Cert.KernelUsmallIdeal.τ).loc Cert.KernelUsmallIdeal.main_arg2) = m ((c.tc : Thread Cert.KernelUsmallIdeal.nD Cert.KernelUsmallIdeal.τ).loc Cert.KernelUsmallIdeal.main_arg2)
          ∧ r.2.mem ((c.tc : Thread Cert.KernelUsmallIdeal.nD Cert.KernelUsmallIdeal.τ).loc Cert.KernelUsmallIdeal.main_arg3) = m ((c.tc : Thread Cert.KernelUsmallIdeal.nD Cert.KernelUsmallIdeal.τ).loc Cert.KernelUsmallIdeal.main_arg3)
          ∧ r.2.mem ((c.tc : Thread Cert.KernelUsmallIdeal.nD Cert.KernelUsmallIdeal.τ).loc Cert.KernelUsmallIdeal.main_arg4) = m ((c.tc : Thread Cert.KernelUsmallIdeal.nD Cert.KernelUsmallIdeal.τ).loc Cert.KernelUsmallIdeal.main_arg4)
          ∧ r.2.mem ((c.tc : Thread Cert.KernelUsmallIdeal.nD Cert.KernelUsmallIdeal.τ).loc Cert.KernelUsmallIdeal.main_arg5) = m ((c.tc : Thread Cert.KernelUsmallIdeal.nD Cert.KernelUsmallIdeal.τ).loc Cert.KernelUsmallIdeal.main_arg5)
          ∧ r.2.mem ((c.tc : Thread Cert.KernelUsmallIdeal.nD Cert.KernelUsmallIdeal.τ).loc Cert.KernelUsmallIdeal.main_arg6) = m ((c.tc : Thread Cert.KernelUsmallIdeal.nD Cert.KernelUsmallIdeal.τ).loc Cert.KernelUsmallIdeal.main_arg6)
          ∧ r.2.mem ((c.tc : Thread Cert.KernelUsmallIdeal.nD Cert.KernelUsmallIdeal.τ).loc Cert.KernelUsmallIdeal.main_arg7) = m ((c.tc : Thread Cert.KernelUsmallIdeal.nD Cert.KernelUsmallIdeal.τ).loc Cert.KernelUsmallIdeal.main_arg7)
          ∧ r.2.mem ((c.tc : Thread Cert.KernelUsmallIdeal.nD Cert.KernelUsmallIdeal.τ).loc Cert.KernelUsmallIdeal.main_arg8) = m ((c.tc : Thread Cert.KernelUsmallIdeal.nD Cert.KernelUsmallIdeal.τ).loc Cert.KernelUsmallIdeal.main_arg8)
          ∧ r.2.mem ((c.tc : Thread Cert.KernelUsmallIdeal.nD Cert.KernelUsmallIdeal.τ).loc Cert.KernelUsmallIdeal.main_arg9) = m ((c.tc : Thread Cert.KernelUsmallIdeal.nD Cert.KernelUsmallIdeal.τ).loc Cert.KernelUsmallIdeal.main_arg9)
          ∧ r.2.mem ((c.tc : Thread Cert.KernelUsmallIdeal.nD Cert.KernelUsmallIdeal.τ).loc Cert.KernelUsmallIdeal.main_arg10) = m ((c.tc : Thread Cert.KernelUsmallIdeal.nD Cert.KernelUsmallIdeal.τ).loc Cert.KernelUsmallIdeal.main_arg10)
          ∧ r.2.mem ((c.tc : Thread Cert.KernelUsmallIdeal.nD Cert.KernelUsmallIdeal.τ).loc Cert.KernelUsmallIdeal.main_arg11) = m ((c.tc : Thread Cert.KernelUsmallIdeal.nD Cert.KernelUsmallIdeal.τ).loc Cert.KernelUsmallIdeal.main_arg11)
          ∧ r.2.mem ((c.tc : Thread Cert.KernelUsmallIdeal.nD Cert.KernelUsmallIdeal.τ).loc Cert.KernelUsmallIdeal.main_arg12) = m ((c.tc : Thread Cert.KernelUsmallIdeal.nD Cert.KernelUsmallIdeal.τ).loc Cert.KernelUsmallIdeal.main_arg12)
          ∧ r.2.mem ((c.tc : Thread Cert.KernelUsmallIdeal.nD Cert.KernelUsmallIdeal.τ).loc Cert.KernelUsmallIdeal.main_arg13) = m ((c.tc : Thread Cert.KernelUsmallIdeal.nD Cert.KernelUsmallIdeal.τ).loc Cert.KernelUsmallIdeal.main_arg13)
          ∧ r.2.mem ((c.tc : Thread Cert.KernelUsmallIdeal.nD Cert.KernelUsmallIdeal.τ).loc Cert.KernelUsmallIdeal.main_arg14) = m ((c.tc : Thread Cert.KernelUsmallIdeal.nD Cert.KernelUsmallIdeal.τ).loc Cert.KernelUsmallIdeal.main_arg14)
          ∧ r.2.mem ((c.tc : Thread Cert.KernelUsmallIdeal.nD Cert.KernelUsmallIdeal.τ).loc Cert.KernelUsmallIdeal.main_arg15) = m ((c.tc : Thread Cert.KernelUsmallIdeal.nD Cert.KernelUsmallIdeal.τ).loc Cert.KernelUsmallIdeal.main_arg15)
          ∧ r.2.mem ((c.tc : Thread Cert.KernelUsmallIdeal.nD Cert.KernelUsmallIdeal.τ).loc Cert.KernelUsmallIdeal.main_arg16) = m ((c.tc : Thread Cert.KernelUsmallIdeal.nD Cert.KernelUsmallIdeal.τ).loc Cert.KernelUsmallIdeal.main_arg16)
          ∧ r.2.mem ((c.tc : Thread Cert.KernelUsmallIdeal.nD Cert.KernelUsmallIdeal.τ).loc Cert.KernelUsmallIdeal.main_arg17) = m ((c.tc : Thread Cert.KernelUsmallIdeal.nD Cert.KernelUsmallIdeal.τ).loc Cert.KernelUsmallIdeal.main_arg17)
          ∧ r.2.mem ((c.tc : Thread Cert.KernelUsmallIdeal.nD Cert.KernelUsmallIdeal.τ).loc Cert.KernelUsmallIdeal.main_arg18) = m ((c.tc : Thread Cert.KernelUsmallIdeal.nD Cert.KernelUsmallIdeal.τ).loc Cert.KernelUsmallIdeal.main_arg18)
          ∧ r.2.mem ((c.tc : Thread Cert.KernelUsmallIdeal.nD Cert.KernelUsmallIdeal.τ).loc Cert.KernelUsmallIdeal.main_arg19) = m ((c.tc : Thread Cert.KernelUsmallIdeal.nD Cert.KernelUsmallIdeal.τ).loc Cert.KernelUsmallIdeal.main_arg19)
          ∧ r.2.mem ((c.tc : Thread Cert.KernelUsmallIdeal.nD Cert.KernelUsmallIdeal.τ).loc Cert.KernelUsmallIdeal.main_arg20) = m ((c.tc : Thread Cert.KernelUsmallIdeal.nD Cert.KernelUsmallIdeal.τ).loc Cert.KernelUsmallIdeal.main_arg20)
          ∧ r.2.mem ((c.tc : Thread Cert.KernelUsmallIdeal.nD Cert.KernelUsmallIdeal.τ).loc Cert.KernelUsmallIdeal.main_arg21) = m ((c.tc : Thread Cert.KernelUsmallIdeal.nD Cert.KernelUsmallIdeal.τ).loc Cert.KernelUsmallIdeal.main_arg21)
          ∧ r.2.mem ((c.tc : Thread Cert.KernelUsmallIdeal.nD Cert.KernelUsmallIdeal.τ).loc Cert.KernelUsmallIdeal.main_arg22) = m ((c.tc : Thread Cert.KernelUsmallIdeal.nD Cert.KernelUsmallIdeal.τ).loc Cert.KernelUsmallIdeal.main_arg22)
          ∧ r.2.mem ((c.tc : Thread Cert.KernelUsmallIdeal.nD Cert.KernelUsmallIdeal.τ).loc Cert.KernelUsmallIdeal.main_arg23) = m ((c.tc : Thread Cert.KernelUsmallIdeal.nD Cert.KernelUsmallIdeal.τ).loc Cert.KernelUsmallIdeal.main_arg23)
          ∧ r.2.mem ((c.tc : Thread Cert.KernelUsmallIdeal.nD Cert.KernelUsmallIdeal.τ).loc Cert.KernelUsmallIdeal.main_arg24) = m ((c.tc : Thread Cert.KernelUsmallIdeal.nD Cert.KernelUsmallIdeal.τ).loc Cert.KernelUsmallIdeal.main_arg24)
          ∧ r.2.mem ((c.tc : Thread Cert.KernelUsmallIdeal.nD Cert.KernelUsmallIdeal.τ).loc Cert.KernelUsmallIdeal.main_arg25) = m ((c.tc : Thread Cert.KernelUsmallIdeal.nD Cert.KernelUsmallIdeal.τ).loc Cert.KernelUsmallIdeal.main_arg25)
          ∧ r.2.mem ((c.tc : Thread Cert.KernelUsmallIdeal.nD Cert.KernelUsmallIdeal.τ).loc Cert.KernelUsmallIdeal.main_arg26) = m ((c.tc : Thread Cert.KernelUsmallIdeal.nD Cert.KernelUsmallIdeal.τ).loc Cert.KernelUsmallIdeal.main_arg26)
          ∧ r.2.mem ((c.tc : Thread Cert.KernelUsmallIdeal.nD Cert.KernelUsmallIdeal.τ).loc Cert.KernelUsmallIdeal.main_arg27) = m ((c.tc : Thread Cert.KernelUsmallIdeal.nD Cert.KernelUsmallIdeal.τ).loc Cert.KernelUsmallIdeal.main_arg27)
          ∧ r.2.mem ((c.tc : Thread Cert.KernelUsmallIdeal.nD Cert.KernelUsmallIdeal.τ).loc Cert.KernelUsmallIdeal.main_arg28) = m ((c.tc : Thread Cert.KernelUsmallIdeal.nD Cert.KernelUsmallIdeal.τ).loc Cert.KernelUsmallIdeal.main_arg28)
          ∧ r.2.mem ((c.tc : Thread Cert.KernelUsmallIdeal.nD Cert.KernelUsmallIdeal.τ).loc Cert.KernelUsmallIdeal.main_arg29) = m ((c.tc : Thread Cert.KernelUsmallIdeal.nD Cert.KernelUsmallIdeal.τ).loc Cert.KernelUsmallIdeal.main_arg29)
          ∧ r.2.mem ((c.tc : Thread Cert.KernelUsmallIdeal.nD Cert.KernelUsmallIdeal.τ).loc Cert.KernelUsmallIdeal.main_arg30) = m ((c.tc : Thread Cert.KernelUsmallIdeal.nD Cert.KernelUsmallIdeal.τ).loc Cert.KernelUsmallIdeal.main_arg30)
          ∧ r.2.mem ((c.tc : Thread Cert.KernelUsmallIdeal.nD Cert.KernelUsmallIdeal.τ).loc Cert.KernelUsmallIdeal.main_arg31) = m ((c.tc : Thread Cert.KernelUsmallIdeal.nD Cert.KernelUsmallIdeal.τ).loc Cert.KernelUsmallIdeal.main_arg31)
          ∧ r.2.mem ((c.tc : Thread Cert.KernelUsmallIdeal.nD Cert.KernelUsmallIdeal.τ).loc Cert.KernelUsmallIdeal.main_arg32) = m ((c.tc : Thread Cert.KernelUsmallIdeal.nD Cert.KernelUsmallIdeal.τ).loc Cert.KernelUsmallIdeal.main_arg32)
          ∧ r.2.mem ((c.tc : Thread Cert.KernelUsmallIdeal.nD Cert.KernelUsmallIdeal.τ).loc Cert.KernelUsmallIdeal.main_arg33) = m ((c.tc : Thread Cert.KernelUsmallIdeal.nD Cert.KernelUsmallIdeal.τ).loc Cert.KernelUsmallIdeal.main_arg33)
          ∧ r.2.mem ((c.tc : Thread Cert.KernelUsmallIdeal.nD Cert.KernelUsmallIdeal.τ).loc Cert.KernelUsmallIdeal.main_arg34) = m ((c.tc : Thread Cert.KernelUsmallIdeal.nD Cert.KernelUsmallIdeal.τ).loc Cert.KernelUsmallIdeal.main_arg34)
          ∧ r.2.mem ((c.tc : Thread Cert.KernelUsmallIdeal.nD Cert.KernelUsmallIdeal.τ).loc Cert.KernelUsmallIdeal.main_arg35) = m ((c.tc : Thread Cert.KernelUsmallIdeal.nD Cert.KernelUsmallIdeal.τ).loc Cert.KernelUsmallIdeal.main_arg35)
          ∧ r.2.mem ((c.tc : Thread Cert.KernelUsmallIdeal.nD Cert.KernelUsmallIdeal.τ).loc Cert.KernelUsmallIdeal.main_arg36) = m ((c.tc : Thread Cert.KernelUsmallIdeal.nD Cert.KernelUsmallIdeal.τ).loc Cert.KernelUsmallIdeal.main_arg36)
          ∧ r.2.mem ((c.tc : Thread Cert.KernelUsmallIdeal.nD Cert.KernelUsmallIdeal.τ).loc Cert.KernelUsmallIdeal.main_arg37) = m ((c.tc : Thread Cert.KernelUsmallIdeal.nD Cert.KernelUsmallIdeal.τ).loc Cert.KernelUsmallIdeal.main_arg37)
          ∧ r.2.mem ((c.tc : Thread Cert.KernelUsmallIdeal.nD Cert.KernelUsmallIdeal.τ).loc Cert.KernelUsmallIdeal.main_arg38) = m ((c.tc : Thread Cert.KernelUsmallIdeal.nD Cert.KernelUsmallIdeal.τ).loc Cert.KernelUsmallIdeal.main_arg38)
          ∧ r.2.mem ((c.tc : Thread Cert.KernelUsmallIdeal.nD Cert.KernelUsmallIdeal.τ).loc Cert.KernelUsmallIdeal.main_arg39) = m ((c.tc : Thread Cert.KernelUsmallIdeal.nD Cert.KernelUsmallIdeal.τ).loc Cert.KernelUsmallIdeal.main_arg39)
          ∧ r.2.mem ((c.tc : Thread Cert.KernelUsmallIdeal.nD Cert.KernelUsmallIdeal.τ).loc Cert.KernelUsmallIdeal.main_arg40) = m ((c.tc : Thread Cert.KernelUsmallIdeal.nD Cert.KernelUsmallIdeal.τ).loc Cert.KernelUsmallIdeal.main_arg40)
          ∧ r.2.mem ((c.tc : Thread Cert.KernelUsmallIdeal.nD Cert.KernelUsmallIdeal.τ).loc Cert.KernelUsmallIdeal.main_arg41) = m ((c.tc : Thread Cert.KernelUsmallIdeal.nD Cert.KernelUsmallIdeal.τ).loc Cert.KernelUsmallIdeal.main_arg41)
          ∧ r.2.mem ((c.tc : Thread Cert.KernelUsmallIdeal.nD Cert.KernelUsmallIdeal.τ).loc Cert.KernelUsmallIdeal.main_arg42) = m ((c.tc : Thread Cert.KernelUsmallIdeal.nD Cert.KernelUsmallIdeal.τ).loc Cert.KernelUsmallIdeal.main_arg42)
          ∧ r.2.mem ((c.tc : Thread Cert.KernelUsmallIdeal.nD Cert.KernelUsmallIdeal.τ).loc Cert.KernelUsmallIdeal.main_arg43) = m ((c.tc : Thread Cert.KernelUsmallIdeal.nD Cert.KernelUsmallIdeal.τ).loc Cert.KernelUsmallIdeal.main_arg43))
      ∧ θ_run (Cert.ReferenceUsmallIdeal.defs (F := Ideal)) (onTc (τ := Cert.ReferenceUsmallIdeal.τ) (Cert.ReferenceUsmallIdeal.main (F := Ideal))) ⟨m', fun _ => 0, g'⟩ (fun r => ∀ c : Dev Cert.ReferenceUsmallIdeal.nD,
          r.2.mem ((c.tc : Thread Cert.ReferenceUsmallIdeal.nD Cert.ReferenceUsmallIdeal.τ).loc Cert.ReferenceUsmallIdeal.main_v311) = v0 c
          ∧ r.2.mem ((c.tc : Thread Cert.ReferenceUsmallIdeal.nD Cert.ReferenceUsmallIdeal.τ).loc Cert.ReferenceUsmallIdeal.main_v323) = v1 c
          ∧ r.2.mem ((c.tc : Thread Cert.ReferenceUsmallIdeal.nD Cert.ReferenceUsmallIdeal.τ).loc Cert.ReferenceUsmallIdeal.main_v335) = v2 c
          ∧ r.2.mem ((c.tc : Thread Cert.ReferenceUsmallIdeal.nD Cert.ReferenceUsmallIdeal.τ).loc Cert.ReferenceUsmallIdeal.main_v347) = v3 c
          ∧ r.2.mem ((c.tc : Thread Cert.ReferenceUsmallIdeal.nD Cert.ReferenceUsmallIdeal.τ).loc Cert.ReferenceUsmallIdeal.main_arg0) = m' ((c.tc : Thread Cert.ReferenceUsmallIdeal.nD Cert.ReferenceUsmallIdeal.τ).loc Cert.ReferenceUsmallIdeal.main_arg0)
          ∧ r.2.mem ((c.tc : Thread Cert.ReferenceUsmallIdeal.nD Cert.ReferenceUsmallIdeal.τ).loc Cert.ReferenceUsmallIdeal.main_arg1) = m' ((c.tc : Thread Cert.ReferenceUsmallIdeal.nD Cert.ReferenceUsmallIdeal.τ).loc Cert.ReferenceUsmallIdeal.main_arg1)
          ∧ r.2.mem ((c.tc : Thread Cert.ReferenceUsmallIdeal.nD Cert.ReferenceUsmallIdeal.τ).loc Cert.ReferenceUsmallIdeal.main_arg2) = m' ((c.tc : Thread Cert.ReferenceUsmallIdeal.nD Cert.ReferenceUsmallIdeal.τ).loc Cert.ReferenceUsmallIdeal.main_arg2)
          ∧ r.2.mem ((c.tc : Thread Cert.ReferenceUsmallIdeal.nD Cert.ReferenceUsmallIdeal.τ).loc Cert.ReferenceUsmallIdeal.main_arg3) = m' ((c.tc : Thread Cert.ReferenceUsmallIdeal.nD Cert.ReferenceUsmallIdeal.τ).loc Cert.ReferenceUsmallIdeal.main_arg3)
          ∧ r.2.mem ((c.tc : Thread Cert.ReferenceUsmallIdeal.nD Cert.ReferenceUsmallIdeal.τ).loc Cert.ReferenceUsmallIdeal.main_arg4) = m' ((c.tc : Thread Cert.ReferenceUsmallIdeal.nD Cert.ReferenceUsmallIdeal.τ).loc Cert.ReferenceUsmallIdeal.main_arg4)
          ∧ r.2.mem ((c.tc : Thread Cert.ReferenceUsmallIdeal.nD Cert.ReferenceUsmallIdeal.τ).loc Cert.ReferenceUsmallIdeal.main_arg5) = m' ((c.tc : Thread Cert.ReferenceUsmallIdeal.nD Cert.ReferenceUsmallIdeal.τ).loc Cert.ReferenceUsmallIdeal.main_arg5)
          ∧ r.2.mem ((c.tc : Thread Cert.ReferenceUsmallIdeal.nD Cert.ReferenceUsmallIdeal.τ).loc Cert.ReferenceUsmallIdeal.main_arg6) = m' ((c.tc : Thread Cert.ReferenceUsmallIdeal.nD Cert.ReferenceUsmallIdeal.τ).loc Cert.ReferenceUsmallIdeal.main_arg6)
          ∧ r.2.mem ((c.tc : Thread Cert.ReferenceUsmallIdeal.nD Cert.ReferenceUsmallIdeal.τ).loc Cert.ReferenceUsmallIdeal.main_arg7) = m' ((c.tc : Thread Cert.ReferenceUsmallIdeal.nD Cert.ReferenceUsmallIdeal.τ).loc Cert.ReferenceUsmallIdeal.main_arg7)
          ∧ r.2.mem ((c.tc : Thread Cert.ReferenceUsmallIdeal.nD Cert.ReferenceUsmallIdeal.τ).loc Cert.ReferenceUsmallIdeal.main_arg8) = m' ((c.tc : Thread Cert.ReferenceUsmallIdeal.nD Cert.ReferenceUsmallIdeal.τ).loc Cert.ReferenceUsmallIdeal.main_arg8)
          ∧ r.2.mem ((c.tc : Thread Cert.ReferenceUsmallIdeal.nD Cert.ReferenceUsmallIdeal.τ).loc Cert.ReferenceUsmallIdeal.main_arg9) = m' ((c.tc : Thread Cert.ReferenceUsmallIdeal.nD Cert.ReferenceUsmallIdeal.τ).loc Cert.ReferenceUsmallIdeal.main_arg9)
          ∧ r.2.mem ((c.tc : Thread Cert.ReferenceUsmallIdeal.nD Cert.ReferenceUsmallIdeal.τ).loc Cert.ReferenceUsmallIdeal.main_arg10) = m' ((c.tc : Thread Cert.ReferenceUsmallIdeal.nD Cert.ReferenceUsmallIdeal.τ).loc Cert.ReferenceUsmallIdeal.main_arg10)
          ∧ r.2.mem ((c.tc : Thread Cert.ReferenceUsmallIdeal.nD Cert.ReferenceUsmallIdeal.τ).loc Cert.ReferenceUsmallIdeal.main_arg11) = m' ((c.tc : Thread Cert.ReferenceUsmallIdeal.nD Cert.ReferenceUsmallIdeal.τ).loc Cert.ReferenceUsmallIdeal.main_arg11)
          ∧ r.2.mem ((c.tc : Thread Cert.ReferenceUsmallIdeal.nD Cert.ReferenceUsmallIdeal.τ).loc Cert.ReferenceUsmallIdeal.main_arg12) = m' ((c.tc : Thread Cert.ReferenceUsmallIdeal.nD Cert.ReferenceUsmallIdeal.τ).loc Cert.ReferenceUsmallIdeal.main_arg12)
          ∧ r.2.mem ((c.tc : Thread Cert.ReferenceUsmallIdeal.nD Cert.ReferenceUsmallIdeal.τ).loc Cert.ReferenceUsmallIdeal.main_arg13) = m' ((c.tc : Thread Cert.ReferenceUsmallIdeal.nD Cert.ReferenceUsmallIdeal.τ).loc Cert.ReferenceUsmallIdeal.main_arg13)
          ∧ r.2.mem ((c.tc : Thread Cert.ReferenceUsmallIdeal.nD Cert.ReferenceUsmallIdeal.τ).loc Cert.ReferenceUsmallIdeal.main_arg14) = m' ((c.tc : Thread Cert.ReferenceUsmallIdeal.nD Cert.ReferenceUsmallIdeal.τ).loc Cert.ReferenceUsmallIdeal.main_arg14)
          ∧ r.2.mem ((c.tc : Thread Cert.ReferenceUsmallIdeal.nD Cert.ReferenceUsmallIdeal.τ).loc Cert.ReferenceUsmallIdeal.main_arg15) = m' ((c.tc : Thread Cert.ReferenceUsmallIdeal.nD Cert.ReferenceUsmallIdeal.τ).loc Cert.ReferenceUsmallIdeal.main_arg15)
          ∧ r.2.mem ((c.tc : Thread Cert.ReferenceUsmallIdeal.nD Cert.ReferenceUsmallIdeal.τ).loc Cert.ReferenceUsmallIdeal.main_arg16) = m' ((c.tc : Thread Cert.ReferenceUsmallIdeal.nD Cert.ReferenceUsmallIdeal.τ).loc Cert.ReferenceUsmallIdeal.main_arg16)
          ∧ r.2.mem ((c.tc : Thread Cert.ReferenceUsmallIdeal.nD Cert.ReferenceUsmallIdeal.τ).loc Cert.ReferenceUsmallIdeal.main_arg17) = m' ((c.tc : Thread Cert.ReferenceUsmallIdeal.nD Cert.ReferenceUsmallIdeal.τ).loc Cert.ReferenceUsmallIdeal.main_arg17)
          ∧ r.2.mem ((c.tc : Thread Cert.ReferenceUsmallIdeal.nD Cert.ReferenceUsmallIdeal.τ).loc Cert.ReferenceUsmallIdeal.main_arg18) = m' ((c.tc : Thread Cert.ReferenceUsmallIdeal.nD Cert.ReferenceUsmallIdeal.τ).loc Cert.ReferenceUsmallIdeal.main_arg18)
          ∧ r.2.mem ((c.tc : Thread Cert.ReferenceUsmallIdeal.nD Cert.ReferenceUsmallIdeal.τ).loc Cert.ReferenceUsmallIdeal.main_arg19) = m' ((c.tc : Thread Cert.ReferenceUsmallIdeal.nD Cert.ReferenceUsmallIdeal.τ).loc Cert.ReferenceUsmallIdeal.main_arg19)
          ∧ r.2.mem ((c.tc : Thread Cert.ReferenceUsmallIdeal.nD Cert.ReferenceUsmallIdeal.τ).loc Cert.ReferenceUsmallIdeal.main_arg20) = m' ((c.tc : Thread Cert.ReferenceUsmallIdeal.nD Cert.ReferenceUsmallIdeal.τ).loc Cert.ReferenceUsmallIdeal.main_arg20)
          ∧ r.2.mem ((c.tc : Thread Cert.ReferenceUsmallIdeal.nD Cert.ReferenceUsmallIdeal.τ).loc Cert.ReferenceUsmallIdeal.main_arg21) = m' ((c.tc : Thread Cert.ReferenceUsmallIdeal.nD Cert.ReferenceUsmallIdeal.τ).loc Cert.ReferenceUsmallIdeal.main_arg21)
          ∧ r.2.mem ((c.tc : Thread Cert.ReferenceUsmallIdeal.nD Cert.ReferenceUsmallIdeal.τ).loc Cert.ReferenceUsmallIdeal.main_arg22) = m' ((c.tc : Thread Cert.ReferenceUsmallIdeal.nD Cert.ReferenceUsmallIdeal.τ).loc Cert.ReferenceUsmallIdeal.main_arg22)
          ∧ r.2.mem ((c.tc : Thread Cert.ReferenceUsmallIdeal.nD Cert.ReferenceUsmallIdeal.τ).loc Cert.ReferenceUsmallIdeal.main_arg23) = m' ((c.tc : Thread Cert.ReferenceUsmallIdeal.nD Cert.ReferenceUsmallIdeal.τ).loc Cert.ReferenceUsmallIdeal.main_arg23)
          ∧ r.2.mem ((c.tc : Thread Cert.ReferenceUsmallIdeal.nD Cert.ReferenceUsmallIdeal.τ).loc Cert.ReferenceUsmallIdeal.main_arg24) = m' ((c.tc : Thread Cert.ReferenceUsmallIdeal.nD Cert.ReferenceUsmallIdeal.τ).loc Cert.ReferenceUsmallIdeal.main_arg24)
          ∧ r.2.mem ((c.tc : Thread Cert.ReferenceUsmallIdeal.nD Cert.ReferenceUsmallIdeal.τ).loc Cert.ReferenceUsmallIdeal.main_arg25) = m' ((c.tc : Thread Cert.ReferenceUsmallIdeal.nD Cert.ReferenceUsmallIdeal.τ).loc Cert.ReferenceUsmallIdeal.main_arg25)
          ∧ r.2.mem ((c.tc : Thread Cert.ReferenceUsmallIdeal.nD Cert.ReferenceUsmallIdeal.τ).loc Cert.ReferenceUsmallIdeal.main_arg26) = m' ((c.tc : Thread Cert.ReferenceUsmallIdeal.nD Cert.ReferenceUsmallIdeal.τ).loc Cert.ReferenceUsmallIdeal.main_arg26)
          ∧ r.2.mem ((c.tc : Thread Cert.ReferenceUsmallIdeal.nD Cert.ReferenceUsmallIdeal.τ).loc Cert.ReferenceUsmallIdeal.main_arg27) = m' ((c.tc : Thread Cert.ReferenceUsmallIdeal.nD Cert.ReferenceUsmallIdeal.τ).loc Cert.ReferenceUsmallIdeal.main_arg27)
          ∧ r.2.mem ((c.tc : Thread Cert.ReferenceUsmallIdeal.nD Cert.ReferenceUsmallIdeal.τ).loc Cert.ReferenceUsmallIdeal.main_arg28) = m' ((c.tc : Thread Cert.ReferenceUsmallIdeal.nD Cert.ReferenceUsmallIdeal.τ).loc Cert.ReferenceUsmallIdeal.main_arg28)
          ∧ r.2.mem ((c.tc : Thread Cert.ReferenceUsmallIdeal.nD Cert.ReferenceUsmallIdeal.τ).loc Cert.ReferenceUsmallIdeal.main_arg29) = m' ((c.tc : Thread Cert.ReferenceUsmallIdeal.nD Cert.ReferenceUsmallIdeal.τ).loc Cert.ReferenceUsmallIdeal.main_arg29)
          ∧ r.2.mem ((c.tc : Thread Cert.ReferenceUsmallIdeal.nD Cert.ReferenceUsmallIdeal.τ).loc Cert.ReferenceUsmallIdeal.main_arg30) = m' ((c.tc : Thread Cert.ReferenceUsmallIdeal.nD Cert.ReferenceUsmallIdeal.τ).loc Cert.ReferenceUsmallIdeal.main_arg30)
          ∧ r.2.mem ((c.tc : Thread Cert.ReferenceUsmallIdeal.nD Cert.ReferenceUsmallIdeal.τ).loc Cert.ReferenceUsmallIdeal.main_arg31) = m' ((c.tc : Thread Cert.ReferenceUsmallIdeal.nD Cert.ReferenceUsmallIdeal.τ).loc Cert.ReferenceUsmallIdeal.main_arg31)
          ∧ r.2.mem ((c.tc : Thread Cert.ReferenceUsmallIdeal.nD Cert.ReferenceUsmallIdeal.τ).loc Cert.ReferenceUsmallIdeal.main_arg32) = m' ((c.tc : Thread Cert.ReferenceUsmallIdeal.nD Cert.ReferenceUsmallIdeal.τ).loc Cert.ReferenceUsmallIdeal.main_arg32)
          ∧ r.2.mem ((c.tc : Thread Cert.ReferenceUsmallIdeal.nD Cert.ReferenceUsmallIdeal.τ).loc Cert.ReferenceUsmallIdeal.main_arg33) = m' ((c.tc : Thread Cert.ReferenceUsmallIdeal.nD Cert.ReferenceUsmallIdeal.τ).loc Cert.ReferenceUsmallIdeal.main_arg33)
          ∧ r.2.mem ((c.tc : Thread Cert.ReferenceUsmallIdeal.nD Cert.ReferenceUsmallIdeal.τ).loc Cert.ReferenceUsmallIdeal.main_arg34) = m' ((c.tc : Thread Cert.ReferenceUsmallIdeal.nD Cert.ReferenceUsmallIdeal.τ).loc Cert.ReferenceUsmallIdeal.main_arg34)
          ∧ r.2.mem ((c.tc : Thread Cert.ReferenceUsmallIdeal.nD Cert.ReferenceUsmallIdeal.τ).loc Cert.ReferenceUsmallIdeal.main_arg35) = m' ((c.tc : Thread Cert.ReferenceUsmallIdeal.nD Cert.ReferenceUsmallIdeal.τ).loc Cert.ReferenceUsmallIdeal.main_arg35)
          ∧ r.2.mem ((c.tc : Thread Cert.ReferenceUsmallIdeal.nD Cert.ReferenceUsmallIdeal.τ).loc Cert.ReferenceUsmallIdeal.main_arg36) = m' ((c.tc : Thread Cert.ReferenceUsmallIdeal.nD Cert.ReferenceUsmallIdeal.τ).loc Cert.ReferenceUsmallIdeal.main_arg36)
          ∧ r.2.mem ((c.tc : Thread Cert.ReferenceUsmallIdeal.nD Cert.ReferenceUsmallIdeal.τ).loc Cert.ReferenceUsmallIdeal.main_arg37) = m' ((c.tc : Thread Cert.ReferenceUsmallIdeal.nD Cert.ReferenceUsmallIdeal.τ).loc Cert.ReferenceUsmallIdeal.main_arg37)
          ∧ r.2.mem ((c.tc : Thread Cert.ReferenceUsmallIdeal.nD Cert.ReferenceUsmallIdeal.τ).loc Cert.ReferenceUsmallIdeal.main_arg38) = m' ((c.tc : Thread Cert.ReferenceUsmallIdeal.nD Cert.ReferenceUsmallIdeal.τ).loc Cert.ReferenceUsmallIdeal.main_arg38)
          ∧ r.2.mem ((c.tc : Thread Cert.ReferenceUsmallIdeal.nD Cert.ReferenceUsmallIdeal.τ).loc Cert.ReferenceUsmallIdeal.main_arg39) = m' ((c.tc : Thread Cert.ReferenceUsmallIdeal.nD Cert.ReferenceUsmallIdeal.τ).loc Cert.ReferenceUsmallIdeal.main_arg39)
          ∧ r.2.mem ((c.tc : Thread Cert.ReferenceUsmallIdeal.nD Cert.ReferenceUsmallIdeal.τ).loc Cert.ReferenceUsmallIdeal.main_arg40) = m' ((c.tc : Thread Cert.ReferenceUsmallIdeal.nD Cert.ReferenceUsmallIdeal.τ).loc Cert.ReferenceUsmallIdeal.main_arg40)
          ∧ r.2.mem ((c.tc : Thread Cert.ReferenceUsmallIdeal.nD Cert.ReferenceUsmallIdeal.τ).loc Cert.ReferenceUsmallIdeal.main_arg41) = m' ((c.tc : Thread Cert.ReferenceUsmallIdeal.nD Cert.ReferenceUsmallIdeal.τ).loc Cert.ReferenceUsmallIdeal.main_arg41)
          ∧ r.2.mem ((c.tc : Thread Cert.ReferenceUsmallIdeal.nD Cert.ReferenceUsmallIdeal.τ).loc Cert.ReferenceUsmallIdeal.main_arg42) = m' ((c.tc : Thread Cert.ReferenceUsmallIdeal.nD Cert.ReferenceUsmallIdeal.τ).loc Cert.ReferenceUsmallIdeal.main_arg42)
          ∧ r.2.mem ((c.tc : Thread Cert.ReferenceUsmallIdeal.nD Cert.ReferenceUsmallIdeal.τ).loc Cert.ReferenceUsmallIdeal.main_arg43) = m' ((c.tc : Thread Cert.ReferenceUsmallIdeal.nD Cert.ReferenceUsmallIdeal.τ).loc Cert.ReferenceUsmallIdeal.main_arg43))

def preserves_KernelPair_KernelPairIdeal : Prop :=
  True

def algebraic_KernelPairIdeal_ReferencePairIdeal [hKernelPairIdeal : Cert.KernelPairIdeal.Facts] [hReferencePairIdeal : Cert.ReferencePairIdeal.Facts] : Prop :=
  ∀ (m : (ℓ : Loc Cert.KernelPairIdeal.nD Cert.KernelPairIdeal.τ Cert.KernelPairIdeal.sig) → Buf (Elt Ideal) ℓ) (g : Dev Cert.KernelPairIdeal.nD → PrngReg)
    (m' : (ℓ : Loc Cert.ReferencePairIdeal.nD Cert.ReferencePairIdeal.τ Cert.ReferencePairIdeal.sig) → Buf (Elt Ideal) ℓ) (g' : Dev Cert.ReferencePairIdeal.nD → PrngReg), Pre_KernelPairIdeal m →
    (∀ c : Dev Cert.KernelPairIdeal.nD,
      m' ((c.tc : Thread Cert.ReferencePairIdeal.nD Cert.ReferencePairIdeal.τ).loc Cert.ReferencePairIdeal.main_arg0) = m ((c.tc : Thread Cert.KernelPairIdeal.nD Cert.KernelPairIdeal.τ).loc Cert.KernelPairIdeal.main_arg0)
      ∧ m' ((c.tc : Thread Cert.ReferencePairIdeal.nD Cert.ReferencePairIdeal.τ).loc Cert.ReferencePairIdeal.main_arg1) = m ((c.tc : Thread Cert.KernelPairIdeal.nD Cert.KernelPairIdeal.τ).loc Cert.KernelPairIdeal.main_arg1)
      ∧ m' ((c.tc : Thread Cert.ReferencePairIdeal.nD Cert.ReferencePairIdeal.τ).loc Cert.ReferencePairIdeal.main_arg2) = m ((c.tc : Thread Cert.KernelPairIdeal.nD Cert.KernelPairIdeal.τ).loc Cert.KernelPairIdeal.main_arg2)
      ∧ m' ((c.tc : Thread Cert.ReferencePairIdeal.nD Cert.ReferencePairIdeal.τ).loc Cert.ReferencePairIdeal.main_arg3) = m ((c.tc : Thread Cert.KernelPairIdeal.nD Cert.KernelPairIdeal.τ).loc Cert.KernelPairIdeal.main_arg3)
      ∧ m' ((c.tc : Thread Cert.ReferencePairIdeal.nD Cert.ReferencePairIdeal.τ).loc Cert.ReferencePairIdeal.main_arg4) = m ((c.tc : Thread Cert.KernelPairIdeal.nD Cert.KernelPairIdeal.τ).loc Cert.KernelPairIdeal.main_arg4)
      ∧ m' ((c.tc : Thread Cert.ReferencePairIdeal.nD Cert.ReferencePairIdeal.τ).loc Cert.ReferencePairIdeal.main_arg5) = m ((c.tc : Thread Cert.KernelPairIdeal.nD Cert.KernelPairIdeal.τ).loc Cert.KernelPairIdeal.main_arg5)
      ∧ m' ((c.tc : Thread Cert.ReferencePairIdeal.nD Cert.ReferencePairIdeal.τ).loc Cert.ReferencePairIdeal.main_arg6) = m ((c.tc : Thread Cert.KernelPairIdeal.nD Cert.KernelPairIdeal.τ).loc Cert.KernelPairIdeal.main_arg6)
      ∧ m' ((c.tc : Thread Cert.ReferencePairIdeal.nD Cert.ReferencePairIdeal.τ).loc Cert.ReferencePairIdeal.main_arg7) = m ((c.tc : Thread Cert.KernelPairIdeal.nD Cert.KernelPairIdeal.τ).loc Cert.KernelPairIdeal.main_arg7)) →
    ∃ (v0 : (c : Dev Cert.KernelPairIdeal.nD) → Buf (Elt Ideal) ((c.tc : Thread Cert.KernelPairIdeal.nD Cert.KernelPairIdeal.τ).loc Cert.KernelPairIdeal.main_v1_0)) (v1 : (c : Dev Cert.KernelPairIdeal.nD) → Buf (Elt Ideal) ((c.tc : Thread Cert.KernelPairIdeal.nD Cert.KernelPairIdeal.τ).loc Cert.KernelPairIdeal.main_v1_1)) (v2 : (c : Dev Cert.KernelPairIdeal.nD) → Buf (Elt Ideal) ((c.tc : Thread Cert.KernelPairIdeal.nD Cert.KernelPairIdeal.τ).loc Cert.KernelPairIdeal.main_v1_2)) (v3 : (c : Dev Cert.KernelPairIdeal.nD) → Buf (Elt Ideal) ((c.tc : Thread Cert.KernelPairIdeal.nD Cert.KernelPairIdeal.τ).loc Cert.KernelPairIdeal.main_v1_3)),
      θ_run (Cert.KernelPairIdeal.defs (F := Ideal)) (onTc (τ := Cert.KernelPairIdeal.τ) (Cert.KernelPairIdeal.main (F := Ideal))) ⟨m, fun _ => 0, g⟩ (fun r => ∀ c : Dev Cert.KernelPairIdeal.nD,
          r.2.mem ((c.tc : Thread Cert.KernelPairIdeal.nD Cert.KernelPairIdeal.τ).loc Cert.KernelPairIdeal.main_v1_0) = v0 c
          ∧ r.2.mem ((c.tc : Thread Cert.KernelPairIdeal.nD Cert.KernelPairIdeal.τ).loc Cert.KernelPairIdeal.main_v1_1) = v1 c
          ∧ r.2.mem ((c.tc : Thread Cert.KernelPairIdeal.nD Cert.KernelPairIdeal.τ).loc Cert.KernelPairIdeal.main_v1_2) = v2 c
          ∧ r.2.mem ((c.tc : Thread Cert.KernelPairIdeal.nD Cert.KernelPairIdeal.τ).loc Cert.KernelPairIdeal.main_v1_3) = v3 c
          ∧ r.2.mem ((c.tc : Thread Cert.KernelPairIdeal.nD Cert.KernelPairIdeal.τ).loc Cert.KernelPairIdeal.main_arg0) = m ((c.tc : Thread Cert.KernelPairIdeal.nD Cert.KernelPairIdeal.τ).loc Cert.KernelPairIdeal.main_arg0)
          ∧ r.2.mem ((c.tc : Thread Cert.KernelPairIdeal.nD Cert.KernelPairIdeal.τ).loc Cert.KernelPairIdeal.main_arg1) = m ((c.tc : Thread Cert.KernelPairIdeal.nD Cert.KernelPairIdeal.τ).loc Cert.KernelPairIdeal.main_arg1)
          ∧ r.2.mem ((c.tc : Thread Cert.KernelPairIdeal.nD Cert.KernelPairIdeal.τ).loc Cert.KernelPairIdeal.main_arg2) = m ((c.tc : Thread Cert.KernelPairIdeal.nD Cert.KernelPairIdeal.τ).loc Cert.KernelPairIdeal.main_arg2)
          ∧ r.2.mem ((c.tc : Thread Cert.KernelPairIdeal.nD Cert.KernelPairIdeal.τ).loc Cert.KernelPairIdeal.main_arg3) = m ((c.tc : Thread Cert.KernelPairIdeal.nD Cert.KernelPairIdeal.τ).loc Cert.KernelPairIdeal.main_arg3)
          ∧ r.2.mem ((c.tc : Thread Cert.KernelPairIdeal.nD Cert.KernelPairIdeal.τ).loc Cert.KernelPairIdeal.main_arg4) = m ((c.tc : Thread Cert.KernelPairIdeal.nD Cert.KernelPairIdeal.τ).loc Cert.KernelPairIdeal.main_arg4)
          ∧ r.2.mem ((c.tc : Thread Cert.KernelPairIdeal.nD Cert.KernelPairIdeal.τ).loc Cert.KernelPairIdeal.main_arg5) = m ((c.tc : Thread Cert.KernelPairIdeal.nD Cert.KernelPairIdeal.τ).loc Cert.KernelPairIdeal.main_arg5)
          ∧ r.2.mem ((c.tc : Thread Cert.KernelPairIdeal.nD Cert.KernelPairIdeal.τ).loc Cert.KernelPairIdeal.main_arg6) = m ((c.tc : Thread Cert.KernelPairIdeal.nD Cert.KernelPairIdeal.τ).loc Cert.KernelPairIdeal.main_arg6)
          ∧ r.2.mem ((c.tc : Thread Cert.KernelPairIdeal.nD Cert.KernelPairIdeal.τ).loc Cert.KernelPairIdeal.main_arg7) = m ((c.tc : Thread Cert.KernelPairIdeal.nD Cert.KernelPairIdeal.τ).loc Cert.KernelPairIdeal.main_arg7))
      ∧ θ_run (Cert.ReferencePairIdeal.defs (F := Ideal)) (onTc (τ := Cert.ReferencePairIdeal.τ) (Cert.ReferencePairIdeal.main (F := Ideal))) ⟨m', fun _ => 0, g'⟩ (fun r => ∀ c : Dev Cert.ReferencePairIdeal.nD,
          r.2.mem ((c.tc : Thread Cert.ReferencePairIdeal.nD Cert.ReferencePairIdeal.τ).loc Cert.ReferencePairIdeal.main_v4) = v0 c
          ∧ r.2.mem ((c.tc : Thread Cert.ReferencePairIdeal.nD Cert.ReferencePairIdeal.τ).loc Cert.ReferencePairIdeal.main_v9) = v1 c
          ∧ r.2.mem ((c.tc : Thread Cert.ReferencePairIdeal.nD Cert.ReferencePairIdeal.τ).loc Cert.ReferencePairIdeal.main_v14) = v2 c
          ∧ r.2.mem ((c.tc : Thread Cert.ReferencePairIdeal.nD Cert.ReferencePairIdeal.τ).loc Cert.ReferencePairIdeal.main_v19) = v3 c
          ∧ r.2.mem ((c.tc : Thread Cert.ReferencePairIdeal.nD Cert.ReferencePairIdeal.τ).loc Cert.ReferencePairIdeal.main_arg0) = m' ((c.tc : Thread Cert.ReferencePairIdeal.nD Cert.ReferencePairIdeal.τ).loc Cert.ReferencePairIdeal.main_arg0)
          ∧ r.2.mem ((c.tc : Thread Cert.ReferencePairIdeal.nD Cert.ReferencePairIdeal.τ).loc Cert.ReferencePairIdeal.main_arg1) = m' ((c.tc : Thread Cert.ReferencePairIdeal.nD Cert.ReferencePairIdeal.τ).loc Cert.ReferencePairIdeal.main_arg1)
          ∧ r.2.mem ((c.tc : Thread Cert.ReferencePairIdeal.nD Cert.ReferencePairIdeal.τ).loc Cert.ReferencePairIdeal.main_arg2) = m' ((c.tc : Thread Cert.ReferencePairIdeal.nD Cert.ReferencePairIdeal.τ).loc Cert.ReferencePairIdeal.main_arg2)
          ∧ r.2.mem ((c.tc : Thread Cert.ReferencePairIdeal.nD Cert.ReferencePairIdeal.τ).loc Cert.ReferencePairIdeal.main_arg3) = m' ((c.tc : Thread Cert.ReferencePairIdeal.nD Cert.ReferencePairIdeal.τ).loc Cert.ReferencePairIdeal.main_arg3)
          ∧ r.2.mem ((c.tc : Thread Cert.ReferencePairIdeal.nD Cert.ReferencePairIdeal.τ).loc Cert.ReferencePairIdeal.main_arg4) = m' ((c.tc : Thread Cert.ReferencePairIdeal.nD Cert.ReferencePairIdeal.τ).loc Cert.ReferencePairIdeal.main_arg4)
          ∧ r.2.mem ((c.tc : Thread Cert.ReferencePairIdeal.nD Cert.ReferencePairIdeal.τ).loc Cert.ReferencePairIdeal.main_arg5) = m' ((c.tc : Thread Cert.ReferencePairIdeal.nD Cert.ReferencePairIdeal.τ).loc Cert.ReferencePairIdeal.main_arg5)
          ∧ r.2.mem ((c.tc : Thread Cert.ReferencePairIdeal.nD Cert.ReferencePairIdeal.τ).loc Cert.ReferencePairIdeal.main_arg6) = m' ((c.tc : Thread Cert.ReferencePairIdeal.nD Cert.ReferencePairIdeal.τ).loc Cert.ReferencePairIdeal.main_arg6)
          ∧ r.2.mem ((c.tc : Thread Cert.ReferencePairIdeal.nD Cert.ReferencePairIdeal.τ).loc Cert.ReferencePairIdeal.main_arg7) = m' ((c.tc : Thread Cert.ReferencePairIdeal.nD Cert.ReferencePairIdeal.τ).loc Cert.ReferencePairIdeal.main_arg7))

def preserves_KernelPairSmall_KernelPairSmallIdeal : Prop :=
  True

def algebraic_KernelPairSmallIdeal_ReferencePairSmallIdeal [hKernelPairSmallIdeal : Cert.KernelPairSmallIdeal.Facts] [hReferencePairSmallIdeal : Cert.ReferencePairSmallIdeal.Facts] : Prop :=
  ∀ (m : (ℓ : Loc Cert.KernelPairSmallIdeal.nD Cert.KernelPairSmallIdeal.τ Cert.KernelPairSmallIdeal.sig) → Buf (Elt Ideal) ℓ) (g : Dev Cert.KernelPairSmallIdeal.nD → PrngReg)
    (m' : (ℓ : Loc Cert.ReferencePairSmallIdeal.nD Cert.ReferencePairSmallIdeal.τ Cert.ReferencePairSmallIdeal.sig) → Buf (Elt Ideal) ℓ) (g' : Dev Cert.ReferencePairSmallIdeal.nD → PrngReg), Pre_KernelPairSmallIdeal m →
    (∀ c : Dev Cert.KernelPairSmallIdeal.nD,
      m' ((c.tc : Thread Cert.ReferencePairSmallIdeal.nD Cert.ReferencePairSmallIdeal.τ).loc Cert.ReferencePairSmallIdeal.main_arg0) = m ((c.tc : Thread Cert.KernelPairSmallIdeal.nD Cert.KernelPairSmallIdeal.τ).loc Cert.KernelPairSmallIdeal.main_arg0)
      ∧ m' ((c.tc : Thread Cert.ReferencePairSmallIdeal.nD Cert.ReferencePairSmallIdeal.τ).loc Cert.ReferencePairSmallIdeal.main_arg1) = m ((c.tc : Thread Cert.KernelPairSmallIdeal.nD Cert.KernelPairSmallIdeal.τ).loc Cert.KernelPairSmallIdeal.main_arg1)) →
    ∃ (v0 : (c : Dev Cert.KernelPairSmallIdeal.nD) → Buf (Elt Ideal) ((c.tc : Thread Cert.KernelPairSmallIdeal.nD Cert.KernelPairSmallIdeal.τ).loc Cert.KernelPairSmallIdeal.main_v1)),
      θ_run (Cert.KernelPairSmallIdeal.defs (F := Ideal)) (onTc (τ := Cert.KernelPairSmallIdeal.τ) (Cert.KernelPairSmallIdeal.main (F := Ideal))) ⟨m, fun _ => 0, g⟩ (fun r => ∀ c : Dev Cert.KernelPairSmallIdeal.nD,
          r.2.mem ((c.tc : Thread Cert.KernelPairSmallIdeal.nD Cert.KernelPairSmallIdeal.τ).loc Cert.KernelPairSmallIdeal.main_v1) = v0 c
          ∧ r.2.mem ((c.tc : Thread Cert.KernelPairSmallIdeal.nD Cert.KernelPairSmallIdeal.τ).loc Cert.KernelPairSmallIdeal.main_arg0) = m ((c.tc : Thread Cert.KernelPairSmallIdeal.nD Cert.KernelPairSmallIdeal.τ).loc Cert.KernelPairSmallIdeal.main_arg0)
          ∧ r.2.mem ((c.tc : Thread Cert.KernelPairSmallIdeal.nD Cert.KernelPairSmallIdeal.τ).loc Cert.KernelPairSmallIdeal.main_arg1) = m ((c.tc : Thread Cert.KernelPairSmallIdeal.nD Cert.KernelPairSmallIdeal.τ).loc Cert.KernelPairSmallIdeal.main_arg1))
      ∧ θ_run (Cert.ReferencePairSmallIdeal.defs (F := Ideal)) (onTc (τ := Cert.ReferencePairSmallIdeal.τ) (Cert.ReferencePairSmallIdeal.main (F := Ideal))) ⟨m', fun _ => 0, g'⟩ (fun r => ∀ c : Dev Cert.ReferencePairSmallIdeal.nD,
          r.2.mem ((c.tc : Thread Cert.ReferencePairSmallIdeal.nD Cert.ReferencePairSmallIdeal.τ).loc Cert.ReferencePairSmallIdeal.main_v3) = v0 c
          ∧ r.2.mem ((c.tc : Thread Cert.ReferencePairSmallIdeal.nD Cert.ReferencePairSmallIdeal.τ).loc Cert.ReferencePairSmallIdeal.main_arg0) = m' ((c.tc : Thread Cert.ReferencePairSmallIdeal.nD Cert.ReferencePairSmallIdeal.τ).loc Cert.ReferencePairSmallIdeal.main_arg0)
          ∧ r.2.mem ((c.tc : Thread Cert.ReferencePairSmallIdeal.nD Cert.ReferencePairSmallIdeal.τ).loc Cert.ReferencePairSmallIdeal.main_arg1) = m' ((c.tc : Thread Cert.ReferencePairSmallIdeal.nD Cert.ReferencePairSmallIdeal.τ).loc Cert.ReferencePairSmallIdeal.main_arg1))

def Claim : Prop :=
  ∃ (hKernel : Cert.Kernel.Facts) (hKernelIdeal : Cert.KernelIdeal.Facts) (hReferenceIdeal : Cert.ReferenceIdeal.Facts) (hKernelWin : Cert.KernelWin.Facts) (hKernelWinIdeal : Cert.KernelWinIdeal.Facts) (hReferenceWinIdeal : Cert.ReferenceWinIdeal.Facts) (hKernelWout : Cert.KernelWout.Facts) (hKernelWoutIdeal : Cert.KernelWoutIdeal.Facts) (hReferenceWoutIdeal : Cert.ReferenceWoutIdeal.Facts) (hKernelWgate : Cert.KernelWgate.Facts) (hKernelWgateIdeal : Cert.KernelWgateIdeal.Facts) (hReferenceWgateIdeal : Cert.ReferenceWgateIdeal.Facts) (hKernelWproj : Cert.KernelWproj.Facts) (hKernelWprojIdeal : Cert.KernelWprojIdeal.Facts) (hReferenceWprojIdeal : Cert.ReferenceWprojIdeal.Facts) (hKernelIn : Cert.KernelIn.Facts) (hKernelInIdeal : Cert.KernelInIdeal.Facts) (hReferenceInIdeal : Cert.ReferenceInIdeal.Facts) (hKernelBin : Cert.KernelBin.Facts) (hKernelBinIdeal : Cert.KernelBinIdeal.Facts) (hReferenceBinIdeal : Cert.ReferenceBinIdeal.Facts) (hKernelOut : Cert.KernelOut.Facts) (hKernelOutIdeal : Cert.KernelOutIdeal.Facts) (hReferenceOutIdeal : Cert.ReferenceOutIdeal.Facts) (hKernelBout : Cert.KernelBout.Facts) (hKernelBoutIdeal : Cert.KernelBoutIdeal.Facts) (hReferenceBoutIdeal : Cert.ReferenceBoutIdeal.Facts) (hKernelMix : Cert.KernelMix.Facts) (hKernelMixIdeal : Cert.KernelMixIdeal.Facts) (hReferenceMixIdeal : Cert.ReferenceMixIdeal.Facts) (hKernelLoss : Cert.KernelLoss.Facts) (hKernelLossIdeal : Cert.KernelLossIdeal.Facts) (hReferenceLossIdeal : Cert.ReferenceLossIdeal.Facts) (hKernelTotal : Cert.KernelTotal.Facts) (hKernelTotalIdeal : Cert.KernelTotalIdeal.Facts) (hReferenceTotalIdeal : Cert.ReferenceTotalIdeal.Facts) (hKernelUin : Cert.KernelUin.Facts) (hKernelUinIdeal : Cert.KernelUinIdeal.Facts) (hReferenceUinIdeal : Cert.ReferenceUinIdeal.Facts) (hKernelUout : Cert.KernelUout.Facts) (hKernelUoutIdeal : Cert.KernelUoutIdeal.Facts) (hReferenceUoutIdeal : Cert.ReferenceUoutIdeal.Facts) (hKernelUgate : Cert.KernelUgate.Facts) (hKernelUgateIdeal : Cert.KernelUgateIdeal.Facts) (hReferenceUgateIdeal : Cert.ReferenceUgateIdeal.Facts) (hKernelUproj : Cert.KernelUproj.Facts) (hKernelUprojIdeal : Cert.KernelUprojIdeal.Facts) (hReferenceUprojIdeal : Cert.ReferenceUprojIdeal.Facts) (hKernelUsmall : Cert.KernelUsmall.Facts) (hKernelUsmallIdeal : Cert.KernelUsmallIdeal.Facts) (hReferenceUsmallIdeal : Cert.ReferenceUsmallIdeal.Facts) (hKernelPair : Cert.KernelPair.Facts) (hKernelPairIdeal : Cert.KernelPairIdeal.Facts) (hReferencePairIdeal : Cert.ReferencePairIdeal.Facts) (hKernelPairSmall : Cert.KernelPairSmall.Facts) (hKernelPairSmallIdeal : Cert.KernelPairSmallIdeal.Facts) (hReferencePairSmallIdeal : Cert.ReferencePairSmallIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelWin (hKernelWin := hKernelWin)
    ∧ quiescent_KernelWinIdeal (hKernelWinIdeal := hKernelWinIdeal)
    ∧ quiescent_ReferenceWinIdeal (hReferenceWinIdeal := hReferenceWinIdeal)
    ∧ quiescent_KernelWout (hKernelWout := hKernelWout)
    ∧ quiescent_KernelWoutIdeal (hKernelWoutIdeal := hKernelWoutIdeal)
    ∧ quiescent_ReferenceWoutIdeal (hReferenceWoutIdeal := hReferenceWoutIdeal)
    ∧ quiescent_KernelWgate (hKernelWgate := hKernelWgate)
    ∧ quiescent_KernelWgateIdeal (hKernelWgateIdeal := hKernelWgateIdeal)
    ∧ quiescent_ReferenceWgateIdeal (hReferenceWgateIdeal := hReferenceWgateIdeal)
    ∧ quiescent_KernelWproj (hKernelWproj := hKernelWproj)
    ∧ quiescent_KernelWprojIdeal (hKernelWprojIdeal := hKernelWprojIdeal)
    ∧ quiescent_ReferenceWprojIdeal (hReferenceWprojIdeal := hReferenceWprojIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelBin (hKernelBin := hKernelBin)
    ∧ quiescent_KernelBinIdeal (hKernelBinIdeal := hKernelBinIdeal)
    ∧ quiescent_ReferenceBinIdeal (hReferenceBinIdeal := hReferenceBinIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelBout (hKernelBout := hKernelBout)
    ∧ quiescent_KernelBoutIdeal (hKernelBoutIdeal := hKernelBoutIdeal)
    ∧ quiescent_ReferenceBoutIdeal (hReferenceBoutIdeal := hReferenceBoutIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelTotal (hKernelTotal := hKernelTotal)
    ∧ quiescent_KernelTotalIdeal (hKernelTotalIdeal := hKernelTotalIdeal)
    ∧ quiescent_ReferenceTotalIdeal (hReferenceTotalIdeal := hReferenceTotalIdeal)
    ∧ quiescent_KernelUin (hKernelUin := hKernelUin)
    ∧ quiescent_KernelUinIdeal (hKernelUinIdeal := hKernelUinIdeal)
    ∧ quiescent_ReferenceUinIdeal (hReferenceUinIdeal := hReferenceUinIdeal)
    ∧ quiescent_KernelUout (hKernelUout := hKernelUout)
    ∧ quiescent_KernelUoutIdeal (hKernelUoutIdeal := hKernelUoutIdeal)
    ∧ quiescent_ReferenceUoutIdeal (hReferenceUoutIdeal := hReferenceUoutIdeal)
    ∧ quiescent_KernelUgate (hKernelUgate := hKernelUgate)
    ∧ quiescent_KernelUgateIdeal (hKernelUgateIdeal := hKernelUgateIdeal)
    ∧ quiescent_ReferenceUgateIdeal (hReferenceUgateIdeal := hReferenceUgateIdeal)
    ∧ quiescent_KernelUproj (hKernelUproj := hKernelUproj)
    ∧ quiescent_KernelUprojIdeal (hKernelUprojIdeal := hKernelUprojIdeal)
    ∧ quiescent_ReferenceUprojIdeal (hReferenceUprojIdeal := hReferenceUprojIdeal)
    ∧ quiescent_KernelUsmall (hKernelUsmall := hKernelUsmall)
    ∧ quiescent_KernelUsmallIdeal (hKernelUsmallIdeal := hKernelUsmallIdeal)
    ∧ quiescent_ReferenceUsmallIdeal (hReferenceUsmallIdeal := hReferenceUsmallIdeal)
    ∧ quiescent_KernelPair (hKernelPair := hKernelPair)
    ∧ quiescent_KernelPairIdeal (hKernelPairIdeal := hKernelPairIdeal)
    ∧ quiescent_ReferencePairIdeal (hReferencePairIdeal := hReferencePairIdeal)
    ∧ quiescent_KernelPairSmall (hKernelPairSmall := hKernelPairSmall)
    ∧ quiescent_KernelPairSmallIdeal (hKernelPairSmallIdeal := hKernelPairSmallIdeal)
    ∧ quiescent_ReferencePairSmallIdeal (hReferencePairSmallIdeal := hReferencePairSmallIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelWin_KernelWinIdeal
    ∧ algebraic_KernelWinIdeal_ReferenceWinIdeal (hKernelWinIdeal := hKernelWinIdeal) (hReferenceWinIdeal := hReferenceWinIdeal)
    ∧ preserves_KernelWout_KernelWoutIdeal
    ∧ algebraic_KernelWoutIdeal_ReferenceWoutIdeal (hKernelWoutIdeal := hKernelWoutIdeal) (hReferenceWoutIdeal := hReferenceWoutIdeal)
    ∧ preserves_KernelWgate_KernelWgateIdeal
    ∧ algebraic_KernelWgateIdeal_ReferenceWgateIdeal (hKernelWgateIdeal := hKernelWgateIdeal) (hReferenceWgateIdeal := hReferenceWgateIdeal)
    ∧ preserves_KernelWproj_KernelWprojIdeal
    ∧ algebraic_KernelWprojIdeal_ReferenceWprojIdeal (hKernelWprojIdeal := hKernelWprojIdeal) (hReferenceWprojIdeal := hReferenceWprojIdeal)
    ∧ preserves_KernelIn_KernelInIdeal
    ∧ algebraic_KernelInIdeal_ReferenceInIdeal (hKernelInIdeal := hKernelInIdeal) (hReferenceInIdeal := hReferenceInIdeal)
    ∧ preserves_KernelBin_KernelBinIdeal
    ∧ algebraic_KernelBinIdeal_ReferenceBinIdeal (hKernelBinIdeal := hKernelBinIdeal) (hReferenceBinIdeal := hReferenceBinIdeal)
    ∧ preserves_KernelOut_KernelOutIdeal
    ∧ algebraic_KernelOutIdeal_ReferenceOutIdeal (hKernelOutIdeal := hKernelOutIdeal) (hReferenceOutIdeal := hReferenceOutIdeal)
    ∧ preserves_KernelBout_KernelBoutIdeal
    ∧ algebraic_KernelBoutIdeal_ReferenceBoutIdeal (hKernelBoutIdeal := hKernelBoutIdeal) (hReferenceBoutIdeal := hReferenceBoutIdeal)
    ∧ preserves_KernelMix_KernelMixIdeal
    ∧ algebraic_KernelMixIdeal_ReferenceMixIdeal (hKernelMixIdeal := hKernelMixIdeal) (hReferenceMixIdeal := hReferenceMixIdeal)
    ∧ preserves_KernelLoss_KernelLossIdeal
    ∧ algebraic_KernelLossIdeal_ReferenceLossIdeal (hKernelLossIdeal := hKernelLossIdeal) (hReferenceLossIdeal := hReferenceLossIdeal)
    ∧ preserves_KernelTotal_KernelTotalIdeal
    ∧ algebraic_KernelTotalIdeal_ReferenceTotalIdeal (hKernelTotalIdeal := hKernelTotalIdeal) (hReferenceTotalIdeal := hReferenceTotalIdeal)
    ∧ preserves_KernelUin_KernelUinIdeal
    ∧ algebraic_KernelUinIdeal_ReferenceUinIdeal (hKernelUinIdeal := hKernelUinIdeal) (hReferenceUinIdeal := hReferenceUinIdeal)
    ∧ preserves_KernelUout_KernelUoutIdeal
    ∧ algebraic_KernelUoutIdeal_ReferenceUoutIdeal (hKernelUoutIdeal := hKernelUoutIdeal) (hReferenceUoutIdeal := hReferenceUoutIdeal)
    ∧ preserves_KernelUgate_KernelUgateIdeal
    ∧ algebraic_KernelUgateIdeal_ReferenceUgateIdeal (hKernelUgateIdeal := hKernelUgateIdeal) (hReferenceUgateIdeal := hReferenceUgateIdeal)
    ∧ preserves_KernelUproj_KernelUprojIdeal
    ∧ algebraic_KernelUprojIdeal_ReferenceUprojIdeal (hKernelUprojIdeal := hKernelUprojIdeal) (hReferenceUprojIdeal := hReferenceUprojIdeal)
    ∧ preserves_KernelUsmall_KernelUsmallIdeal
    ∧ algebraic_KernelUsmallIdeal_ReferenceUsmallIdeal (hKernelUsmallIdeal := hKernelUsmallIdeal) (hReferenceUsmallIdeal := hReferenceUsmallIdeal)
    ∧ preserves_KernelPair_KernelPairIdeal
    ∧ algebraic_KernelPairIdeal_ReferencePairIdeal (hKernelPairIdeal := hKernelPairIdeal) (hReferencePairIdeal := hReferencePairIdeal)
    ∧ preserves_KernelPairSmall_KernelPairSmallIdeal
    ∧ algebraic_KernelPairSmallIdeal_ReferencePairSmallIdeal (hKernelPairSmallIdeal := hKernelPairSmallIdeal) (hReferencePairSmallIdeal := hReferencePairSmallIdeal)
-- ==== Pre_finite.lean ====
abbrev S8192x2048 : Shape := ⟨2, ![8192, 2048]⟩
abbrev S8192x6144 : Shape := ⟨2, ![8192, 6144]⟩
abbrev S2x2048 : Shape := ⟨2, ![2, 2048]⟩
abbrev S2x8x128x128 : Shape := ⟨4, ![2, 8, 128, 128]⟩
abbrev S2x8x128 : Shape := ⟨3, ![2, 8, 128]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x6144 : S_.BroadcastsInDim S8192x6144 (![] : Fin 0 → Fin S8192x6144.rank)
  reducesTo_S8192x6144_S_d0_1 : S8192x6144.ReducesTo [0, 1] S_
  bcast_S_S2x2048 : S_.BroadcastsInDim S2x2048 (![] : Fin 0 → Fin S2x2048.rank)
  reducesTo_S2x2048_S_d0_1 : S2x2048.ReducesTo [0, 1] S_
  bcast_S_S2x8x128x128 : S_.BroadcastsInDim S2x8x128x128 (![] : Fin 0 → Fin S2x8x128x128.rank)
  reducesTo_S2x8x128x128_S_d0_1_2_3 : S2x8x128x128.ReducesTo [0, 1, 2, 3] S_
  bcast_S_S2x8x128 : S_.BroadcastsInDim S2x8x128 (![] : Fin 0 → Fin S2x8x128.rank)
  reducesTo_S2x8x128_S_d0_1_2 : S2x8x128.ReducesTo [0, 1, 2] S_

variable [Facts]

def fn_part1 {F : FTy → Type} [FloatOps F] (main_arg4 : FVec F S2x8x128x128 .f32) (main_arg5 : FVec F S2x8x128 .f32) (main_v15 : IVec S_ 1) (main_v16 : FVec F S2x2048 .f32) (main_cst_4 : FVec F S_ .f32) : IVec S_ 1 :=
  let main_v17 : FVec F S2x2048 .f32 := broadcastInDim S2x2048 ![] bcast_S_S2x2048 main_cst_4
  let main_v18 : IVec S2x2048 1 := cmpf .olt main_v16 main_v17
  let main_c_5 : IVec S_ 1 := constantI S_ 1 1#1
  let main_v19 : IVec S_ 1 := (fun x v => Host.reduce IntOp.andi x v reducesTo_S2x2048_S_d0_1 h_S_) main_v18 main_c_5
  let main_v20 : IVec S_ 1 := andi main_v15 main_v19
  let main_v21 : FVec F S2x8x128x128 .f32 := Host.absf main_arg4
  let main_cst_6 : FVec F S_ .f32 := constant S_ .f32 0x7F800000#32
  let main_v22 : FVec F S2x8x128x128 .f32 := broadcastInDim S2x8x128x128 ![] bcast_S_S2x8x128x128 main_cst_6
  let main_v23 : IVec S2x8x128x128 1 := cmpf .olt main_v21 main_v22
  let main_c_7 : IVec S_ 1 := constantI S_ 1 1#1
  let main_v24 : IVec S_ 1 := (fun x v => Host.reduce IntOp.andi x v reducesTo_S2x8x128x128_S_d0_1_2_3 h_S_) main_v23 main_c_7
  let main_v25 : IVec S_ 1 := andi main_v20 main_v24
  let main_v26 : FVec F S2x8x128 .f32 := Host.absf main_arg5
  let main_cst_8 : FVec F S_ .f32 := constant S_ .f32 0x7F800000#32
  let main_v27 : FVec F S2x8x128 .f32 := broadcastInDim S2x8x128 ![] bcast_S_S2x8x128 main_cst_8
  let main_v28 : IVec S2x8x128 1 := cmpf .olt main_v26 main_v27
  let main_c_9 : IVec S_ 1 := constantI S_ 1 1#1
  let main_v29 : IVec S_ 1 := (fun x v => Host.reduce IntOp.andi x v reducesTo_S2x8x128_S_d0_1_2 h_S_) main_v28 main_c_9
  let main_v30 : IVec S_ 1 := andi main_v25 main_v29
  main_v30

def fn {F : FTy → Type} [FloatOps F] (main_arg0 : FVec F S8192x2048 .bf16) (main_arg1 : FVec F S8192x6144 .bf16) (main_arg2 : FVec F S2x2048 .f32) (main_arg3 : FVec F S2x2048 .f32) (main_arg4 : FVec F S2x8x128x128 .f32) (main_arg5 : FVec F S2x8x128 .f32) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S8192x6144 .f32 := (extf .f32 · bitsLt_bf16_f32) main_arg1
  let main_v6 : FVec F S8192x6144 .f32 := Host.absf main_v5
  let main_cst_0 : FVec F S_ .f32 := constant S_ .f32 0x7F800000#32
  let main_v7 : FVec F S8192x6144 .f32 := broadcastInDim S8192x6144 ![] bcast_S_S8192x6144 main_cst_0
  let main_v8 : IVec S8192x6144 1 := cmpf .olt main_v6 main_v7
  let main_c_1 : IVec S_ 1 := constantI S_ 1 1#1
  let main_v9 : IVec S_ 1 := (fun x v => Host.reduce IntOp.andi x v reducesTo_S8192x6144_S_d0_1 h_S_) main_v8 main_c_1
  let main_v10 : IVec S_ 1 := andi main_v4 main_v9
  let main_v11 : FVec F S2x2048 .f32 := Host.absf main_arg2
  let main_cst_2 : FVec F S_ .f32 := constant S_ .f32 0x7F800000#32
  let main_v12 : FVec F S2x2048 .f32 := broadcastInDim S2x2048 ![] bcast_S_S2x2048 main_cst_2
  let main_v13 : IVec S2x2048 1 := cmpf .olt main_v11 main_v12
  let main_c_3 : IVec S_ 1 := constantI S_ 1 1#1
  let main_v14 : IVec S_ 1 := (fun x v => Host.reduce IntOp.andi x v reducesTo_S2x2048_S_d0_1 h_S_) main_v13 main_c_3
  let main_v15 : IVec S_ 1 := andi main_v10 main_v14
  let main_v16 : FVec F S2x2048 .f32 := Host.absf main_arg3
  let main_cst_4 : FVec F S_ .f32 := constant S_ .f32 0x7F800000#32
  fn_part1 (F := F) main_arg4 main_arg5 main_v15 main_v16 main_cst_4
-- ==== Kernel.lean ====
abbrev S8192x2048 : Shape := ⟨2, ![8192, 2048]⟩
abbrev S8192x6144 : Shape := ⟨2, ![8192, 6144]⟩
abbrev S2x2048 : Shape := ⟨2, ![2, 2048]⟩
abbrev S2x8x128x128 : Shape := ⟨4, ![2, 8, 128, 128]⟩
abbrev S2x8x128 : Shape := ⟨3, ![2, 8, 128]⟩
abbrev S2x1x2048 : Shape := ⟨3, ![2, 1, 2048]⟩
abbrev S2x128x8 : Shape := ⟨3, ![2, 128, 8]⟩
abbrev S8x128x128 : Shape := ⟨3, ![8, 128, 128]⟩
abbrev S128x8 : Shape := ⟨2, ![128, 8]⟩
abbrev S1x2048 : Shape := ⟨2, ![1, 2048]⟩
abbrev S256x2048 : Shape := ⟨2, ![256, 2048]⟩
abbrev S256x6144 : Shape := ⟨2, ![256, 6144]⟩
abbrev S1x1x2048 : Shape := ⟨3, ![1, 1, 2048]⟩
abbrev S1x8x128x128 : Shape := ⟨4, ![1, 8, 128, 128]⟩
abbrev S1x128x8 : Shape := ⟨3, ![1, 128, 8]⟩
abbrev S256 : Shape := ⟨1, ![256]⟩
abbrev S256x1 : Shape := ⟨2, ![256, 1]⟩
abbrev S128x128 : Shape := ⟨2, ![128, 128]⟩
abbrev S1x1x128x128 : Shape := ⟨4, ![1, 1, 128, 128]⟩
abbrev S1x128x1 : Shape := ⟨3, ![1, 128, 1]⟩
abbrev S128x1 : Shape := ⟨2, ![128, 1]⟩
abbrev S128x256 : Shape := ⟨2, ![128, 256]⟩
abbrev S128 : Shape := ⟨1, ![128]⟩
abbrev S1x128x128 : Shape := ⟨3, ![1, 128, 128]⟩
abbrev S2048 : Shape := ⟨1, ![2048]⟩

abbrev nBuf : Space → Nat
  | .hbm => 14
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S2x2048, .f32⟩
  | .hbm, ⟨3, _⟩ => ⟨S2x2048, .f32⟩
  | .hbm, ⟨4, _⟩ => ⟨S2x8x128x128, .f32⟩
  | .hbm, ⟨5, _⟩ => ⟨S2x8x128, .f32⟩
  | .hbm, ⟨6, _⟩ => ⟨S2x1x2048, .f32⟩
  | .hbm, ⟨7, _⟩ => ⟨S2x1x2048, .f32⟩
  | .hbm, ⟨8, _⟩ => ⟨S2x128x8, .f32⟩
  | .hbm, ⟨9, _⟩ => ⟨S8192x6144, .bf16⟩
  | .hbm, ⟨10, _⟩ => ⟨S8x128x128, .f32⟩
  | .hbm, ⟨11, _⟩ => ⟨S128x8, .f32⟩
  | .hbm, ⟨12, _⟩ => ⟨S1x2048, .f32⟩
  | .hbm, ⟨13, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S256x6144, .bf16⟩
  | .local _ .vmem, ⟨3, _⟩ => ⟨S256x6144, .bf16⟩
  | .local _ .vmem, ⟨4, _⟩ => ⟨S1x1x2048, .f32⟩
  | .local _ .vmem, ⟨5, _⟩ => ⟨S1x1x2048, .f32⟩
  | .local _ .vmem, ⟨6, _⟩ => ⟨S1x8x128x128, .f32⟩
  | .local _ .vmem, ⟨7, _⟩ => ⟨S1x128x8, .f32⟩
  | .local _ .vmem, ⟨8, _⟩ => ⟨S256x6144, .bf16⟩
  | .local _ .vmem, ⟨9, _⟩ => ⟨S256x6144, .bf16⟩
  | .local _ .vmem, ⟨10, _⟩ => ⟨S8x128x128, .f32⟩
  | .local _ .vmem, ⟨11, _⟩ => ⟨S128x8, .f32⟩
  | .local _ .vmem, ⟨12, _⟩ => ⟨S1x2048, .f32⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "inv_sqrt2" => some (((Real.sqrt 2)⁻¹ : ℝ) : EReal)
  | "inv_sqrt_2pi" => some (((Real.sqrt (2 * Real.pi))⁻¹ : ℝ) : EReal)
  | "neg_half_log2e" => some ((-((2 * (Real.log 2))⁻¹) : ℝ) : EReal)
  | _ => none
-- ==== ReferenceIdeal.lean ====
abbrev S8192x2048 : Shape := ⟨2, ![8192, 2048]⟩
abbrev S8192x6144 : Shape := ⟨2, ![8192, 6144]⟩
abbrev S2x2048 : Shape := ⟨2, ![2, 2048]⟩
abbrev S2x8x128x128 : Shape := ⟨4, ![2, 8, 128, 128]⟩
abbrev S2x8x128 : Shape := ⟨3, ![2, 8, 128]⟩
abbrev S2x4096x2048 : Shape := ⟨3, ![2, 4096, 2048]⟩
abbrev S2x4096x6144 : Shape := ⟨3, ![2, 4096, 6144]⟩
abbrev S1x2048 : Shape := ⟨2, ![1, 2048]⟩
abbrev S2048 : Shape := ⟨1, ![2048]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x32x128x8x256 : Shape := ⟨5, ![2, 32, 128, 8, 256]⟩
abbrev S128x128 : Shape := ⟨2, ![128, 128]⟩
abbrev S1x128x128 : Shape := ⟨3, ![1, 128, 128]⟩
abbrev S8x2x32x256x128 : Shape := ⟨5, ![8, 2, 32, 256, 128]⟩
abbrev S128x8 : Shape := ⟨2, ![128, 8]⟩
abbrev S1x1x128x8x1 : Shape := ⟨5, ![1, 1, 128, 8, 1]⟩

abbrev nBuf : Space → Nat
  | .hbm => 223
  | .vmem => 0
  | .smem => 0
  | _ => 0

abbrev hbmTy0_0 (i : Nat) : BufTy := match i % 128 with
  | 0 => ⟨S8192x2048, .bf16⟩
  | 1 => ⟨S8192x6144, .bf16⟩
  | 2 => ⟨S2x2048, .f32⟩
  | 3 => ⟨S2x2048, .f32⟩
  | 4 => ⟨S2x8x128x128, .f32⟩
  | 5 => ⟨S2x8x128, .f32⟩
  | 6 => ⟨S8192x2048, .f32⟩
  | 7 => ⟨S2x4096x2048, .f32⟩
  | 8 => ⟨S8192x6144, .f32⟩
  | 9 => ⟨S2x4096x6144, .f32⟩
  | 10 => ⟨S1x2048, .f32⟩
  | 11 => ⟨S2048, .f32⟩
  | 12 => ⟨S1x2048, .f32⟩
  | 13 => ⟨S2048, .f32⟩
  | 14 => ⟨S1x8x128x128, .f32⟩
  | 15 => ⟨S8x128x128, .f32⟩
  | 16 => ⟨S1x8x128, .f32⟩
  | 17 => ⟨S8x128, .f32⟩
  | 18 => ⟨S2x4096x2048, .f32⟩
  | 19 => ⟨S2x4096x2048, .f32⟩
  | 20 => ⟨S2x4096x2048, .f32⟩
  | 21 => ⟨S_, .f32⟩
  | 22 => ⟨S2x4096x2048, .f32⟩
  | 23 => ⟨S2x4096x2048, .f32⟩
  | 24 => ⟨S2x4096x2048, .f32⟩
  | 25 => ⟨S_, .f32⟩
  | 26 => ⟨S_, .f32⟩
  | 27 => ⟨S2x4096x2048, .f32⟩
  | 28 => ⟨S2x4096x2048, .f32⟩
  | 29 => ⟨S2x4096x2048, .f32⟩
  | 30 => ⟨S_, .f32⟩
  | 31 => ⟨S_, .f32⟩
  | 32 => ⟨S_, .f32⟩
  | 33 => ⟨S_, .f32⟩
  | 34 => ⟨S_, .f32⟩
  | 35 => ⟨S2x4096x2048, .f32⟩
  | 36 => ⟨S2x4096x2048, .f32⟩
  | 37 => ⟨S2x4096x2048, .f32⟩
  | 38 => ⟨S2x4096x2048, .f32⟩
  | 39 => ⟨S_, .f32⟩
  | 40 => ⟨S2x4096x2048, .f32⟩
  | 41 => ⟨S2x4096x2048, .f32⟩
  | 42 => ⟨S2x4096x2048, .f32⟩
  | 43 => ⟨S_, .f32⟩
  | 44 => ⟨S_, .f32⟩
  | 45 => ⟨S2x4096x2048, .f32⟩
  | 46 => ⟨S2x4096x2048, .f32⟩
  | 47 => ⟨S2x4096x2048, .f32⟩
  | 48 => ⟨S_, .f32⟩
  | 49 => ⟨S_, .f32⟩
  | 50 => ⟨S_, .f32⟩
  | 51 => ⟨S_, .f32⟩
  | 52 => ⟨S_, .f32⟩
  | 53 => ⟨S2x4096x2048, .f32⟩
  | 54 => ⟨S2x4096x2048, .f32⟩
  | 55 => ⟨S2x4096x2048, .f32⟩
  | 56 => ⟨S2x4096x2048, .f32⟩
  | 57 => ⟨S_, .f32⟩
  | 58 => ⟨S2x4096, .f32⟩
  | 59 => ⟨S2x4096x1, .f32⟩
  | 60 => ⟨S_, .f32⟩
  | 61 => ⟨S2x4096x1, .f32⟩
  | 62 => ⟨S2x4096x1, .f32⟩
  | 63 => ⟨S2x4096x2048, .f32⟩
  | 64 => ⟨S2x4096x2048, .f32⟩
  | 65 => ⟨S2x4096x2048, .f32⟩
  | 66 => ⟨S_, .f32⟩
  | 67 => ⟨S2x4096, .f32⟩
  | 68 => ⟨S2x4096x1, .f32⟩
  | 69 => ⟨S_, .f32⟩
  | 70 => ⟨S2x4096x1, .f32⟩
  | 71 => ⟨S2x4096x1, .f32⟩
  | 72 => ⟨S_, .f32⟩
  | 73 => ⟨S2x4096x1, .f32⟩
  | 74 => ⟨S2x4096x1, .f32⟩
  | 75 => ⟨S2x4096x1, .f32⟩
  | 76 => ⟨S2x4096x1, .f32⟩
  | 77 => ⟨S_, .f32⟩
  | 78 => ⟨S2x4096x1, .f32⟩
  | 79 => ⟨S2x4096x1, .f32⟩
  | 80 => ⟨S2x4096x2048, .f32⟩
  | 81 => ⟨S2x4096x2048, .f32⟩
  | 82 => ⟨S1x1x2048, .f32⟩
  | 83 => ⟨S2x4096x2048, .f32⟩
  | 84 => ⟨S2x4096x2048, .f32⟩
  | 85 => ⟨S1x1x2048, .f32⟩
  | 86 => ⟨S2x4096x2048, .f32⟩
  | 87 => ⟨S2x4096x2048, .f32⟩
  | 88 => ⟨S2x32x128x8x256, .f32⟩
  | 89 => ⟨S_, .i1⟩
  | 90 => ⟨S128x128, .i1⟩
  | 91 => ⟨S128x128, .i32⟩
  | 92 => ⟨S_, .i32⟩
  | 93 => ⟨S128x128, .i32⟩
  | 94 => ⟨S128x128, .i32⟩
  | 95 => ⟨S128x128, .i32⟩
  | 96 => ⟨S128x128, .i1⟩
  | 97 => ⟨S_, .i1⟩
  | 98 => ⟨S128x128, .i1⟩
  | 99 => ⟨S128x128, .i1⟩
  | 100 => ⟨S1x128x128, .i1⟩
  | 101 => ⟨S_, .f32⟩
  | 102 => ⟨S8x128x128, .i1⟩
  | 103 => ⟨S8x128x128, .f32⟩
  | 104 => ⟨S8x128x128, .f32⟩
  | 105 => ⟨S_, .f32⟩
  | 106 => ⟨S8x128x128, .f32⟩
  | 107 => ⟨S8x2x32x256x128, .f32⟩
  | 108 => ⟨S2x32x128x8x256, .f32⟩
  | 109 => ⟨S128x8, .f32⟩
  | 110 => ⟨S1x1x128x8x1, .f32⟩
  | 111 => ⟨S2x32x128x8x256, .f32⟩
  | 112 => ⟨S2x32x128x8x256, .f32⟩
  | 113 => ⟨S2x4096x2048, .f32⟩
  | 114 => ⟨S2x4096x2048, .f32⟩
  | 115 => ⟨S2x4096x2048, .f32⟩
  | 116 => ⟨S2x4096x2048, .f32⟩
  | 117 => ⟨S_, .f32⟩
  | 118 => ⟨S2x4096x2048, .f32⟩
  | 119 => ⟨S2x4096x2048, .f32⟩
  | 120 => ⟨S_, .f32⟩
  | 121 => ⟨S2x4096x2048, .f32⟩
  | 122 => ⟨S2x4096x2048, .f32⟩
  | 123 => ⟨S_, .f32⟩
  | 124 => ⟨S2x4096x2048, .f32⟩
  | 125 => ⟨S2x4096x2048, .f32⟩
  | 126 => ⟨S2x4096x2048, .f32⟩
  | 127 => ⟨S2x4096x2048, .f32⟩
  | _ => ⟨S8192x2048, .bf16⟩

abbrev hbmTy0_1 (i : Nat) : BufTy := match i % 128 with
  | 0 => ⟨S2x4096x2048, .f32⟩
  | 1 => ⟨S2x4096x2048, .f32⟩
  | 2 => ⟨S2x4096x2048, .f32⟩
  | 3 => ⟨S2x4096x2048, .f32⟩
  | 4 => ⟨S2x4096x2048, .f32⟩
  | 5 => ⟨S2x4096x2048, .f32⟩
  | 6 => ⟨S2x4096x2048, .f32⟩
  | 7 => ⟨S2x4096x2048, .f32⟩
  | 8 => ⟨S2x4096x2048, .f32⟩
  | 9 => ⟨S2x32x128x8x256, .f32⟩
  | 10 => ⟨S_, .f32⟩
  | 11 => ⟨S128x8, .f32⟩
  | 12 => ⟨S1x1x128x8x1, .f32⟩
  | 13 => ⟨S_, .f32⟩
  | 14 => ⟨S128x8, .f32⟩
  | 15 => ⟨S8x128, .f32⟩
  | 16 => ⟨S8x2x32x256x128, .f32⟩
  | 17 => ⟨S8x128x128, .f32⟩
  | 18 => ⟨S8x2x32x256x128, .f32⟩
  | 19 => ⟨S2x32x128x8x256, .f32⟩
  | 20 => ⟨S_, .f32⟩
  | 21 => ⟨S8x128x128, .f32⟩
  | 22 => ⟨S8x128x128, .f32⟩
  | 23 => ⟨S2x4096x2048, .f32⟩
  | 24 => ⟨S_, .f32⟩
  | 25 => ⟨S2048, .f32⟩
  | 26 => ⟨S1x1x2048, .f32⟩
  | 27 => ⟨S_, .f32⟩
  | 28 => ⟨S2048, .f32⟩
  | 29 => ⟨S2x4096x2048, .f32⟩
  | 30 => ⟨S_, .f32⟩
  | 31 => ⟨S2048, .f32⟩
  | 32 => ⟨S1x1x2048, .f32⟩
  | 33 => ⟨S2x4096x2048, .f32⟩
  | 34 => ⟨S2x4096x2048, .f32⟩
  | 35 => ⟨S_, .f32⟩
  | 36 => ⟨S2048, .f32⟩
  | 37 => ⟨S2x4096x2048, .f32⟩
  | 38 => ⟨S_, .f32⟩
  | 39 => ⟨S2x4096, .f32⟩
  | 40 => ⟨S2x4096x1, .f32⟩
  | 41 => ⟨S2x4096x2048, .f32⟩
  | 42 => ⟨S2x4096x2048, .f32⟩
  | 43 => ⟨S2x4096x1, .f32⟩
  | 44 => ⟨S_, .f32⟩
  | 45 => ⟨S2x4096x1, .f32⟩
  | 46 => ⟨S2x4096x1, .f32⟩
  | 47 => ⟨S_, .f32⟩
  | 48 => ⟨S2x4096, .f32⟩
  | 49 => ⟨S2x4096x2048, .f32⟩
  | 50 => ⟨S2x4096x2048, .f32⟩
  | 51 => ⟨S2x4096x2048, .f32⟩
  | 52 => ⟨S2x4096x2048, .f32⟩
  | 53 => ⟨S2x4096x2048, .f32⟩
  | 54 => ⟨S2x4096x2048, .f32⟩
  | 55 => ⟨S_, .f32⟩
  | 56 => ⟨S2x4096, .f32⟩
  | 57 => ⟨S2x4096x1, .f32⟩
  | 58 => ⟨S_, .f32⟩
  | 59 => ⟨S2x4096x1, .f32⟩
  | 60 => ⟨S2x4096x1, .f32⟩
  | 61 => ⟨S_, .f32⟩
  | 62 => ⟨S2x4096, .f32⟩
  | 63 => ⟨S2x4096x2048, .f32⟩
  | 64 => ⟨S2x4096x2048, .f32⟩
  | 65 => ⟨S2x4096x2048, .f32⟩
  | 66 => ⟨S2x4096x2048, .f32⟩
  | 67 => ⟨S2x4096x2048, .f32⟩
  | 68 => ⟨S2x4096x2048, .f32⟩
  | 69 => ⟨S2x4096x2048, .f32⟩
  | 70 => ⟨S2x4096x2048, .f32⟩
  | 71 => ⟨S2x4096x2048, .f32⟩
  | 72 => ⟨S2x4096x2048, .f32⟩
  | 73 => ⟨S_, .f32⟩
  | 74 => ⟨S2x4096x2048, .f32⟩
  | 75 => ⟨S2x4096x2048, .f32⟩
  | 76 => ⟨S2x4096x2048, .f32⟩
  | 77 => ⟨S2x4096x2048, .f32⟩
  | 78 => ⟨S2x4096x2048, .f32⟩
  | 79 => ⟨S2x4096x2048, .f32⟩
  | 80 => ⟨S2x4096x2048, .f32⟩
  | 81 => ⟨S2x4096x2048, .f32⟩
  | 82 => ⟨S2x4096x2048, .f32⟩
  | 83 => ⟨S2x4096x2048, .f32⟩
  | 84 => ⟨S2x4096x2048, .f32⟩
  | 85 => ⟨S_, .f32⟩
  | 86 => ⟨S2x4096x2048, .f32⟩
  | 87 => ⟨S2x4096x2048, .f32⟩
  | 88 => ⟨S2x4096x2048, .f32⟩
  | 89 => ⟨S2x4096x6144, .f32⟩
  | 90 => ⟨S8192x6144, .f32⟩
  | 91 => ⟨S8192x6144, .bf16⟩
  | 92 => ⟨S128x8, .f32⟩
  | 93 => ⟨S1x2048, .f32⟩
  | 94 => ⟨S1x2048, .f32⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_c : Ref sig .tc := ⟨.hbm, 89, rfl⟩
abbrev main_v69 : Ref sig .tc := ⟨.hbm, 90, rfl⟩
abbrev main_call0_v0 : Ref sig .tc := ⟨.hbm, 91, rfl⟩
abbrev main_call0_c : Ref sig .tc := ⟨.hbm, 92, rfl⟩
abbrev main_call0_v1 : Ref sig .tc := ⟨.hbm, 93, rfl⟩
abbrev main_call0_v2 : Ref sig .tc := ⟨.hbm, 94, rfl⟩
abbrev main_call0_v3 : Ref sig .tc := ⟨.hbm, 95, rfl⟩
abbrev main_call0_v4 : Ref sig .tc := ⟨.hbm, 96, rfl⟩
abbrev main_call0_c_0 : Ref sig .tc := ⟨.hbm, 97, rfl⟩
abbrev main_call0_v5 : Ref sig .tc := ⟨.hbm, 98, rfl⟩
abbrev main_v70 : Ref sig .tc := ⟨.hbm, 99, rfl⟩
abbrev main_v71 : Ref sig .tc := ⟨.hbm, 100, rfl⟩
abbrev main_cst_13 : Ref sig .tc := ⟨.hbm, 101, rfl⟩
abbrev main_v72_1 : Ref sig .tc := ⟨.hbm, 102, rfl⟩
abbrev main_call1_v1 : Ref sig .tc := ⟨.hbm, 103, rfl⟩
abbrev main_v72_0 : Ref sig .tc := ⟨.hbm, 104, rfl⟩
abbrev main_call1_cst : Ref sig .tc := ⟨.hbm, 105, rfl⟩
abbrev main_v72_2 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_call2_v0 : Ref sig .tc := ⟨.hbm, 115, rfl⟩
abbrev main_call2_v1 : Ref sig .tc := ⟨.hbm, 116, rfl⟩
abbrev main_call2_cst : Ref sig .tc := ⟨.hbm, 117, rfl⟩
abbrev main_call2_v2 : Ref sig .tc := ⟨.hbm, 118, rfl⟩
abbrev main_call2_v3 : Ref sig .tc := ⟨.hbm, 119, rfl⟩
abbrev main_call2_cst_0 : Ref sig .tc := ⟨.hbm, 120, rfl⟩
abbrev main_call2_v4 : Ref sig .tc := ⟨.hbm, 121, rfl⟩
abbrev main_v81_2 : Ref sig .tc := ⟨.hbm, 122, rfl⟩
abbrev main_call2_cst_1 : Ref sig .tc := ⟨.hbm, 123, rfl⟩
abbrev main_call2_v6 : Ref sig .tc := ⟨.hbm, 124, rfl⟩
abbrev main_call2_v7 : Ref sig .tc := ⟨.hbm, 125, rfl⟩
abbrev main_v81_1 : Ref sig .tc := ⟨.hbm, 126, rfl⟩
abbrev main_v81_0 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_14 : Ref sig .tc := ⟨.hbm, 138, rfl⟩
abbrev main_v89 : Ref sig .tc := ⟨.hbm, 139, rfl⟩
abbrev main_v90 : Ref sig .tc := ⟨.hbm, 140, rfl⟩
abbrev main_cst_15 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_call4_cst : Ref sig .tc := ⟨.hbm, 148, rfl⟩
abbrev main_call4_v0 : Ref sig .tc := ⟨.hbm, 149, rfl⟩
abbrev main_v97 : Ref sig .tc := ⟨.hbm, 150, rfl⟩
abbrev main_v98 : Ref sig .tc := ⟨.hbm, 151, rfl⟩
abbrev main_cst_16 : Ref sig .tc := ⟨.hbm, 152, rfl⟩
abbrev main_v99 : Ref sig .tc := ⟨.hbm, 153, rfl⟩
abbrev main_v100 : Ref sig .tc := ⟨.hbm, 154, rfl⟩
abbrev main_cst_17 : Ref sig .tc := ⟨.hbm, 155, rfl⟩
abbrev main_v101 : Ref sig .tc := ⟨.hbm, 156, rfl⟩
abbrev main_v102 : Ref sig .tc := ⟨.hbm, 157, rfl⟩
abbrev main_cst_18 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_cst_19 : Ref sig .tc := ⟨.hbm, 163, rfl⟩
abbrev main_v107 : Ref sig .tc := ⟨.hbm, 164, rfl⟩
abbrev main_v108 : Ref sig .tc := ⟨.hbm, 165, rfl⟩
abbrev main_cst_20 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_cst_21 : Ref sig .tc := ⟨.hbm, 172, rfl⟩
abbrev main_v114 : Ref sig .tc := ⟨.hbm, 173, rfl⟩
abbrev main_v115 : Ref sig .tc := ⟨.hbm, 174, rfl⟩
abbrev main_cst_22 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_cst_23 : Ref sig .tc := ⟨.hbm, 183, rfl⟩
abbrev main_v123 : Ref sig .tc := ⟨.hbm, 184, rfl⟩
abbrev main_v124 : Ref sig .tc := ⟨.hbm, 185, rfl⟩
abbrev main_cst_24 : Ref sig .tc := ⟨.hbm, 186, rfl⟩
abbrev main_v125 : Ref sig .tc := ⟨.hbm, 187, rfl⟩
abbrev main_v126 : Ref sig .tc := ⟨.hbm, 188, rfl⟩
abbrev main_cst_25 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_cst_26 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_cst_27 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩

abbrev nD : Nat := 1
abbrev τ : Topo := Topo.v7x

variable {F : FTy → Type} [FloatOps F]
-- ==== KernelWin.lean ====
abbrev S8192x1024 : Shape := ⟨2, ![8192, 1024]⟩
abbrev S8192x6144 : Shape := ⟨2, ![8192, 6144]⟩
abbrev S1x4x1024x1536 : Shape := ⟨4, ![1, 4, 1024, 1536]⟩
abbrev S2048x1024 : Shape := ⟨2, ![2048, 1024]⟩
abbrev S2048x1536 : Shape := ⟨2, ![2048, 1536]⟩
abbrev S1x1x1024x1536 : Shape := ⟨4, ![1, 1, 1024, 1536]⟩
abbrev S1x1024x1536 : Shape := ⟨3, ![1, 1024, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S1x4x1024x1536, .f32⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1x1x1024x1536, .f32⟩
  | .local _ .vmem, ⟨5, _⟩ => ⟨S1x1x1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWinIdeal.lean ====
abbrev S8192x1024 : Shape := ⟨2, ![8192, 1024]⟩
abbrev S8192x6144 : Shape := ⟨2, ![8192, 6144]⟩
abbrev S_ : Shape := ⟨0, ![]⟩
abbrev S1024x6144 : Shape := ⟨2, ![1024, 6144]⟩
abbrev S6144x1024 : Shape := ⟨2, ![6144, 1024]⟩
abbrev S1024x4x1536 : Shape := ⟨3, ![1024, 4, 1536]⟩
abbrev S4x1024x1536 : Shape := ⟨3, ![4, 1024, 1536]⟩
abbrev S1x4x1024x1536 : Shape := ⟨4, ![1, 4, 1024, 1536]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S8192x1024, .f32⟩
  | .hbm, ⟨3, _⟩ => ⟨S8192x6144, .f32⟩
  | .hbm, ⟨4, _⟩ => ⟨S_, .f32⟩
  | .hbm, ⟨5, _⟩ => ⟨S1024x6144, .f32⟩
  | .hbm, ⟨6, _⟩ => ⟨S8192x6144, .f32⟩
  | .hbm, ⟨7, _⟩ => ⟨S6144x1024, .f32⟩
  | .hbm, ⟨8, _⟩ => ⟨S1024x6144, .f32⟩
  | .hbm, ⟨9, _⟩ => ⟨S1024x4x1536, .f32⟩
  | .hbm, ⟨10, _⟩ => ⟨S4x1024x1536, .f32⟩
  | .hbm, ⟨11, _⟩ => ⟨S1x4x1024x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelWout.lean ====
abbrev S8192x2048 : Shape := ⟨2, ![8192, 2048]⟩
abbrev S8192x1024 : Shape := ⟨2, ![8192, 1024]⟩
abbrev S1x1x2048x1024 : Shape := ⟨4, ![1, 1, 2048, 1024]⟩
abbrev S1024x2048 : Shape := ⟨2, ![1024, 2048]⟩
abbrev S1024x1024 : Shape := ⟨2, ![1024, 1024]⟩
abbrev S1x2048x1024 : Shape := ⟨3, ![1, 2048, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S1x1x2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S1x1x2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceWoutIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩
abbrev S1x1x2048x1024 : Shape := ⟨4, ![1, 1, 2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S8192x2048, .f32⟩
  | .hbm, ⟨3, _⟩ => ⟨S_, .f32⟩
  | .hbm, ⟨4, _⟩ => ⟨S2048x1024, .f32⟩
  | .hbm, ⟨5, _⟩ => ⟨S8192x1024, .f32⟩
  | .hbm, ⟨6, _⟩ => ⟨S1024x2048, .f32⟩
  | .hbm, ⟨7, _⟩ => ⟨S2048x1024, .f32⟩
  | .hbm, ⟨8, _⟩ => ⟨S1x1x2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelWgate.lean ====
abbrev S8192x1024 : Shape := ⟨2, ![8192, 1024]⟩
abbrev S1x1x1024x1024 : Shape := ⟨4, ![1, 1, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x1x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceWgateIdeal.lean ====
abbrev S8192x1024 : Shape := ⟨2, ![8192, 1024]⟩
abbrev S_ : Shape := ⟨0, ![]⟩
abbrev S1024x1024 : Shape := ⟨2, ![1024, 1024]⟩
abbrev S1x1x1024x1024 : Shape := ⟨4, ![1, 1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1x1x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelWproj.lean ====
abbrev S4x8192x256 : Shape := ⟨3, ![4, 8192, 256]⟩
abbrev S8192x1024 : Shape := ⟨2, ![8192, 1024]⟩
abbrev S1x4x256x256 : Shape := ⟨4, ![1, 4, 256, 256]⟩
abbrev S1x2048x256 : Shape := ⟨3, ![1, 2048, 256]⟩
abbrev S2048x1024 : Shape := ⟨2, ![2048, 1024]⟩
abbrev S4x256x256 : Shape := ⟨3, ![4, 256, 256]⟩
abbrev S2048x256 : Shape := ⟨2, ![2048, 256]⟩
abbrev S256x1024 : Shape := ⟨2, ![256, 1024]⟩
abbrev S1x1x256x256 : Shape := ⟨4, ![1, 1, 256, 256]⟩
abbrev S256x256 : Shape := ⟨2, ![256, 256]⟩

abbrev nBuf : Space → Nat
  | .hbm => 3
  | .vmem => 5
  | .smem => 0
  | _ => 0

abbrev bufTy : (tb : Table) → Fin (tcTables nBuf tb) → BufTy
  | .hbm, ⟨0, _⟩ => ⟨S4x8192x256, .f32⟩
  | .hbm, ⟨1, _⟩ => ⟨S8192x1024, .bf16⟩
  | .hbm, ⟨2, _⟩ => ⟨S1x4x256x256, .f32⟩
  | .local _ .vmem, ⟨0, _⟩ => ⟨S1x2048x256, .f32⟩
  | .local _ .vmem, ⟨1, _⟩ => ⟨S1x2048x256, .f32⟩
  | .local _ .vmem, ⟨2, _⟩ => ⟨S2048x1024, .bf16⟩
  | .local _ .vmem, ⟨3, _⟩ => ⟨S2048x1024, .bf16⟩
  | .local _ .vmem, ⟨4, _⟩ => ⟨S1x4x256x256, .f32⟩
  | _, _ => ⟨S4x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x4x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceWprojIdeal.lean ====
abbrev S4x8192x256 : Shape := ⟨3, ![4, 8192, 256]⟩
abbrev S8192x1024 : Shape := ⟨2, ![8192, 1024]⟩
abbrev S1x8192x256 : Shape := ⟨3, ![1, 8192, 256]⟩
abbrev S8192x256 : Shape := ⟨2, ![8192, 256]⟩
abbrev S_ : Shape := ⟨0, ![]⟩
abbrev S256x1024 : Shape := ⟨2, ![256, 1024]⟩
abbrev S1024x256 : Shape := ⟨2, ![1024, 256]⟩
abbrev S256x4x256 : Shape := ⟨3, ![256, 4, 256]⟩
abbrev S4x256x256 : Shape := ⟨3, ![4, 256, 256]⟩
abbrev S1x4x256x256 : Shape := ⟨4, ![1, 4, 256, 256]⟩

abbrev nBuf : Space → Nat
  | .hbm => 13
  | .vmem => 0
  | .smem => 0
  | _ => 0

abbrev bufTy : (tb : Table) → Fin (tcTables nBuf tb) → BufTy
  | .hbm, ⟨0, _⟩ => ⟨S4x8192x256, .f32⟩
  | .hbm, ⟨1, _⟩ => ⟨S8192x1024, .bf16⟩
  | .hbm, ⟨2, _⟩ => ⟨S1x8192x256, .f32⟩
  | .hbm, ⟨3, _⟩ => ⟨S8192x256, .f32⟩
  | .hbm, ⟨4, _⟩ => ⟨S8192x1024, .f32⟩
  | .hbm, ⟨5, _⟩ => ⟨S_, .f32⟩
  | .hbm, ⟨6, _⟩ => ⟨S256x1024, .f32⟩
  | .hbm, ⟨7, _⟩ => ⟨S8192x1024, .f32⟩
  | .hbm, ⟨8, _⟩ => ⟨S1024x256, .f32⟩
  | .hbm, ⟨9, _⟩ => ⟨S256x1024, .f32⟩
  | .hbm, ⟨10, _⟩ => ⟨S256x4x256, .f32⟩
  | .hbm, ⟨11, _⟩ => ⟨S4x256x256, .f32⟩
  | .hbm, ⟨12, _⟩ => ⟨S1x4x256x256, .f32⟩
  | _, _ => ⟨S4x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== KernelIn.lean ====
abbrev S8192x1024 : Shape := ⟨2, ![8192, 1024]⟩
abbrev S4x1024 : Shape := ⟨2, ![4, 1024]⟩
abbrev S4x1024x6144 : Shape := ⟨3, ![4, 1024, 6144]⟩
abbrev S4x1x1024 : Shape := ⟨3, ![4, 1, 1024]⟩
abbrev S1x1024x6144 : Shape := ⟨3, ![1, 1024, 6144]⟩
abbrev S1024x6144 : Shape := ⟨2, ![1024, 6144]⟩
abbrev S1024x4x1536 : Shape := ⟨3, ![1024, 4, 1536]⟩
abbrev S4x1024x1536 : Shape := ⟨3, ![4, 1024, 1536]⟩
abbrev S1x4x1024x1536 : Shape := ⟨4, ![1, 4, 1024, 1536]⟩
abbrev S8192x6144 : Shape := ⟨2, ![8192, 6144]⟩
abbrev S512x1024 : Shape := ⟨2, ![512, 1024]⟩
abbrev S1x1x1024 : Shape := ⟨3, ![1, 1, 1024]⟩
abbrev S512x6144 : Shape := ⟨2, ![512, 6144]⟩
abbrev S512 : Shape := ⟨1, ![512]⟩
abbrev S512x1 : Shape := ⟨2, ![512, 1]⟩
abbrev S1x1024 : Shape := ⟨2, ![1, 1024]⟩
abbrev S1x1x1024x1536 : Shape := ⟨4, ![1, 1, 1024, 1536]⟩
abbrev S1024x1536 : Shape := ⟨2, ![1024, 1536]⟩
abbrev S512x1536 : Shape := ⟨2, ![512, 1536]⟩

abbrev nBuf : Space → Nat
  | .hbm => 12
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S4x1024x6144, .f32⟩
  | .hbm, ⟨3, _⟩ => ⟨S4x1x1024, .f32⟩
  | .hbm, ⟨4, _⟩ => ⟨S1x1024x6144, .f32⟩
  | .hbm, ⟨5, _⟩ => ⟨S1024x6144, .f32⟩
  | .hbm, ⟨6, _⟩ => ⟨S1024x6144, .bf16⟩
  | .hbm, ⟨7, _⟩ => ⟨S1024x4x1536, .bf16⟩
  | .hbm, ⟨8, _⟩ => ⟨S4x1024x1536, .bf16⟩
  | .hbm, ⟨9, _⟩ => ⟨S1x4x1024x1536, .bf16⟩
  | .hbm, ⟨10, _⟩ => ⟨S8192x1024, .bf16⟩
  | .hbm, ⟨11, _⟩ => ⟨S8192x6144, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x4x1024x1536, .bf16⟩
  | .local _ .vmem, ⟨4, _⟩ => ⟨S512x1024, .bf16⟩
  | .local _ .vmem, ⟨5, _⟩ => ⟨S512x1024, .bf16⟩
  | .local _ .vmem, ⟨6, _⟩ => ⟨S512x6144, .bf16⟩
  | .local _ .vmem, ⟨7, _⟩ => ⟨S512x6144, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4x1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x6144 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceInIdeal.lean ====
abbrev S8192x1024 : Shape := ⟨2, ![8192, 1024]⟩
abbrev S4x1024 : Shape := ⟨2, ![4, 1024]⟩
abbrev S4x1024x6144 : Shape := ⟨3, ![4, 1024, 6144]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024x6144 : Shape := ⟨3, ![1, 1024, 6144]⟩
abbrev S1024x6144 : Shape := ⟨2, ![1024, 6144]⟩
abbrev S8192x6144 : Shape := ⟨2, ![8192, 6144]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S4x1024x6144, .f32⟩
  | .hbm, ⟨3, _⟩ => ⟨S1x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S1x1024x6144, .f32⟩
  | .hbm, ⟨23, _⟩ => ⟨S1024x6144, .f32⟩
  | .hbm, ⟨24, _⟩ => ⟨S8192x6144, .f32⟩
  | .hbm, ⟨25, _⟩ => ⟨S8192x6144, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== KernelBin.lean ====
abbrev S8192x6144 : Shape := ⟨2, ![8192, 6144]⟩
abbrev S8192x1024 : Shape := ⟨2, ![8192, 1024]⟩
abbrev S4x1024 : Shape := ⟨2, ![4, 1024]⟩
abbrev S4x1024x6144 : Shape := ⟨3, ![4, 1024, 6144]⟩
abbrev S4x1x1024 : Shape := ⟨3, ![4, 1, 1024]⟩
abbrev S1x1024x6144 : Shape := ⟨3, ![1, 1024, 6144]⟩
abbrev S1024x6144 : Shape := ⟨2, ![1024, 6144]⟩
abbrev S1024x4x1536 : Shape := ⟨3, ![1024, 4, 1536]⟩
abbrev S4x1024x1536 : Shape := ⟨3, ![4, 1024, 1536]⟩
abbrev S1x4x1024x1536 : Shape := ⟨4, ![1, 4, 1024, 1536]⟩
abbrev S1x1024 : Shape := ⟨2, ![1, 1024]⟩
abbrev S512x6144 : Shape := ⟨2, ![512, 6144]⟩
abbrev S512x1024 : Shape := ⟨2, ![512, 1024]⟩
abbrev S1x1x1024 : Shape := ⟨3, ![1, 1, 1024]⟩
abbrev S512x1536 : Shape := ⟨2, ![512, 1536]⟩
abbrev S1x1x1024x1536 : Shape := ⟨4, ![1, 1, 1024, 1536]⟩
abbrev S1024x1536 : Shape := ⟨2, ![1024, 1536]⟩
abbrev S512 : Shape := ⟨1, ![512]⟩
abbrev S512x1 : Shape := ⟨2, ![512, 1]⟩
abbrev S1024 : Shape := ⟨1, ![1024]⟩

abbrev nBuf : Space → Nat
  | .hbm => 14
  | .vmem => 11
  | .smem => 0
  | _ => 0

abbrev bufTy : (tb : Table) → Fin (tcTables nBuf tb) → BufTy
  | .hbm, ⟨0, _⟩ => ⟨S8192x6144, .bf16⟩
  | .hbm, ⟨1, _⟩ => ⟨S8192x1024, .f32⟩
  | .hbm, ⟨2, _⟩ => ⟨S8192x1024, .f32⟩
  | .hbm, ⟨3, _⟩ => ⟨S4x1024, .f32⟩
  | .hbm, ⟨4, _⟩ => ⟨S4x1024x6144, .f32⟩
  | .hbm, ⟨5, _⟩ => ⟨S4x1x1024, .f32⟩
  | .hbm, ⟨6, _⟩ => ⟨S1x1024x6144, .f32⟩
  | .hbm, ⟨7, _⟩ => ⟨S1024x6144, .f32⟩
  | .hbm, ⟨8, _⟩ => ⟨S1024x6144, .bf16⟩
  | .hbm, ⟨9, _⟩ => ⟨S1024x4x1536, .bf16⟩
  | .hbm, ⟨10, _⟩ => ⟨S4x1024x1536, .bf16⟩
  | .hbm, ⟨11, _⟩ => ⟨S1x4x1024x1536, .bf16⟩
  | .hbm, ⟨12, _⟩ => ⟨S8192x1024, .f32⟩
  | .hbm, ⟨13, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x4x1024x1536, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4x1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceBinIdeal.lean ====
abbrev S8192x6144 : Shape := ⟨2, ![8192, 6144]⟩
abbrev S8192x1024 : Shape := ⟨2, ![8192, 1024]⟩
abbrev S4x1024 : Shape := ⟨2, ![4, 1024]⟩
abbrev S4x1024x6144 : Shape := ⟨3, ![4, 1024, 6144]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024x6144 : Shape := ⟨3, ![1, 1024, 6144]⟩
abbrev S1024x6144 : Shape := ⟨2, ![1024, 6144]⟩

abbrev nBuf : Space → Nat
  | .hbm => 59
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x1024, .f32⟩
  | .hbm, ⟨2, _⟩ => ⟨S8192x1024, .f32⟩
  | .hbm, ⟨3, _⟩ => ⟨S4x1024, .f32⟩
  | .hbm, ⟨4, _⟩ => ⟨S4x1024x6144, .f32⟩
  | .hbm, ⟨5, _⟩ => ⟨S1x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S1x1024x6144, .f32⟩
  | .hbm, ⟨28, _⟩ => ⟨S1024x6144, .f32⟩
  | .hbm, ⟨29, _⟩ => ⟨S8192x6144, .f32⟩
  | .hbm, ⟨30, _⟩ => ⟨S8192x6144, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S1x1024, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== KernelOut.lean ====
abbrev S8192x1024 : Shape := ⟨2, ![8192, 1024]⟩
abbrev S8192x2048 : Shape := ⟨2, ![8192, 2048]⟩
abbrev S4x2048x1024 : Shape := ⟨3, ![4, 2048, 1024]⟩
abbrev S4x1024 : Shape := ⟨2, ![4, 1024]⟩
abbrev S4x1024x1024 : Shape := ⟨3, ![4, 1024, 1024]⟩
abbrev S4x8192x256 : Shape := ⟨3, ![4, 8192, 256]⟩
abbrev S4x256x1024 : Shape := ⟨3, ![4, 256, 1024]⟩
abbrev S1x2048x1024 : Shape := ⟨3, ![1, 2048, 1024]⟩
abbrev S2048x1024 : Shape := ⟨2, ![2048, 1024]⟩
abbrev S4x1x1024 : Shape := ⟨3, ![4, 1, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S256x4x256 : Shape := ⟨3, ![256, 4, 256]⟩
abbrev S4x256x256 : Shape := ⟨3, ![4, 256, 256]⟩
abbrev S1x4x256x256 : Shape := ⟨4, ![1, 4, 256, 256]⟩
abbrev S512x1024 : Shape := ⟨2, ![512, 1024]⟩
abbrev S512x2048 : Shape := ⟨2, ![512, 2048]⟩
abbrev S1x1x1024 : Shape := ⟨3, ![1, 1, 1024]⟩
abbrev S1x512x256 : Shape := ⟨3, ![1, 512, 256]⟩
abbrev S512 : Shape := ⟨1, ![512]⟩
abbrev S512x1 : Shape := ⟨2, ![512, 1]⟩
abbrev S1x1024 : Shape := ⟨2, ![1, 1024]⟩
abbrev S512x256 : Shape := ⟨2, ![512, 256]⟩
abbrev S1x1x256x256 : Shape := ⟨4, ![1, 1, 256, 256]⟩
abbrev S256x256 : Shape := ⟨2, ![256, 256]⟩

abbrev nBuf : Space → Nat
  | .hbm => 24
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S4x2048x1024, .f32⟩
  | .hbm, ⟨3, _⟩ => ⟨S4x1024, .f32⟩
  | .hbm, ⟨4, _⟩ => ⟨S4x1024x1024, .f32⟩
  | .hbm, ⟨5, _⟩ => ⟨S4x8192x256, .f32⟩
  | .hbm, ⟨6, _⟩ => ⟨S4x256x1024, .f32⟩
  | .hbm, ⟨7, _⟩ => ⟨S1x2048x1024, .f32⟩
  | .hbm, ⟨8, _⟩ => ⟨S2048x1024, .f32⟩
  | .hbm, ⟨9, _⟩ => ⟨S2048x1024, .bf16⟩
  | .hbm, ⟨10, _⟩ => ⟨S1x2048x1024, .bf16⟩
  | .hbm, ⟨11, _⟩ => ⟨S4x1x1024, .f32⟩
  | .hbm, ⟨12, _⟩ => ⟨S1x1024x1024, .f32⟩
  | .hbm, ⟨13, _⟩ => ⟨S1024x1024, .f32⟩
  | .hbm, ⟨14, _⟩ => ⟨S1024x1024, .bf16⟩
  | .hbm, ⟨15, _⟩ => ⟨S1x1024x1024, .bf16⟩
  | .hbm, ⟨16, _⟩ => ⟨S1x256x1024, .f32⟩
  | .hbm, ⟨17, _⟩ => ⟨S256x1024, .f32⟩
  | .hbm, ⟨18, _⟩ => ⟨S256x1024, .bf16⟩
  | .hbm, ⟨19, _⟩ => ⟨S256x4x256, .bf16⟩
  | .hbm, ⟨20, _⟩ => ⟨S4x256x256, .bf16⟩
  | .hbm, ⟨21, _⟩ => ⟨S1x4x256x256, .bf16⟩
  | .hbm, ⟨22, _⟩ => ⟨S8192x1024, .f32⟩
  | .hbm, ⟨23, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S1x2048x1024, .bf16⟩
  | .local _ .vmem, ⟨5, _⟩ => ⟨S1x1x1024, .f32⟩
  | .local _ .vmem, ⟨6, _⟩ => ⟨S1x1024x1024, .bf16⟩
  | .local _ .vmem, ⟨7, _⟩ => ⟨S1x512x256, .f32⟩
  | .local _ .vmem, ⟨8, _⟩ => ⟨S1x512x256, .f32⟩
  | .local _ .vmem, ⟨9, _⟩ => ⟨S1x4x256x256, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceOutIdeal.lean ====
abbrev S8192x1024 : Shape := ⟨2, ![8192, 1024]⟩
abbrev S8192x2048 : Shape := ⟨2, ![8192, 2048]⟩
abbrev S4x2048x1024 : Shape := ⟨3, ![4, 2048, 1024]⟩
abbrev S4x1024 : Shape := ⟨2, ![4, 1024]⟩
abbrev S4x1024x1024 : Shape := ⟨3, ![4, 1024, 1024]⟩
abbrev S4x8192x256 : Shape := ⟨3, ![4, 8192, 256]⟩
abbrev S4x256x1024 : Shape := ⟨3, ![4, 256, 1024]⟩
abbrev S1x2048x1024 : Shape := ⟨3, ![1, 2048, 1024]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024x1024 : Shape := ⟨3, ![1, 1024, 1024]⟩
abbrev S1024x1024 : Shape := ⟨2, ![1024, 1024]⟩
abbrev S1x8192x256 : Shape := ⟨3, ![1, 8192, 256]⟩
abbrev S8192x256 : Shape := ⟨2, ![8192, 256]⟩
abbrev S1x256x1024 : Shape := ⟨3, ![1, 256, 1024]⟩
abbrev S256x1024 : Shape := ⟨2, ![256, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S4x2048x1024, .f32⟩
  | .hbm, ⟨3, _⟩ => ⟨S4x1024, .f32⟩
  | .hbm, ⟨4, _⟩ => ⟨S4x1024x1024, .f32⟩
  | .hbm, ⟨5, _⟩ => ⟨S4x8192x256, .f32⟩
  | .hbm, ⟨6, _⟩ => ⟨S4x256x1024, .f32⟩
  | .hbm, ⟨7, _⟩ => ⟨S8192x2048, .f32⟩
  | .hbm, ⟨8, _⟩ => ⟨S1x2048x1024, .f32⟩
  | .hbm, ⟨9, _⟩ => ⟨S2048x1024, .f32⟩
  | .hbm, ⟨10, _⟩ => ⟨S8192x1024, .f32⟩
  | .hbm, ⟨11, _⟩ => ⟨S8192x1024, .f32⟩
  | .hbm, ⟨12, _⟩ => ⟨S1x1024, .f32⟩
  | .hbm, ⟨13, _⟩ => ⟨S1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S1x1024x1024, .f32⟩
  | .hbm, ⟨31, _⟩ => ⟨S1024x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S1x8192x256, .f32⟩
  | .hbm, ⟨42, _⟩ => ⟨S8192x256, .f32⟩
  | .hbm, ⟨43, _⟩ => ⟨S1x256x1024, .f32⟩
  | .hbm, ⟨44, _⟩ => ⟨S256x1024, .f32⟩
  | .hbm, ⟨45, _⟩ => ⟨S8192x1024, .f32⟩
  | .hbm, ⟨46, _⟩ => ⟨S8192x1024, .f32⟩
  | .hbm, ⟨47, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== KernelBout.lean ====
abbrev S8192x1024 : Shape := ⟨2, ![8192, 1024]⟩
abbrev S4x8192x256 : Shape := ⟨3, ![4, 8192, 256]⟩
abbrev S4x1024 : Shape := ⟨2, ![4, 1024]⟩
abbrev S4x1024x1024 : Shape := ⟨3, ![4, 1024, 1024]⟩
abbrev S4x256x1024 : Shape := ⟨3, ![4, 256, 1024]⟩
abbrev S4x2048x1024 : Shape := ⟨3, ![4, 2048, 1024]⟩
abbrev S4x1x1024 : Shape := ⟨3, ![4, 1, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S256x4x256 : Shape := ⟨3, ![256, 4, 256]⟩
abbrev S4x256x256 : Shape := ⟨3, ![4, 256, 256]⟩
abbrev S1x4x256x256 : Shape := ⟨4, ![1, 4, 256, 256]⟩
abbrev S1x2048x1024 : Shape := ⟨3, ![1, 2048, 1024]⟩
abbrev S2048x1024 : Shape := ⟨2, ![2048, 1024]⟩
abbrev S8192x2048 : Shape := ⟨2, ![8192, 2048]⟩
abbrev S1x1024 : Shape := ⟨2, ![1, 1024]⟩
abbrev S512x1024 : Shape := ⟨2, ![512, 1024]⟩
abbrev S1x512x256 : Shape := ⟨3, ![1, 512, 256]⟩
abbrev S1x1x1024 : Shape := ⟨3, ![1, 1, 1024]⟩
abbrev S512x2048 : Shape := ⟨2, ![512, 2048]⟩
abbrev S512 : Shape := ⟨1, ![512]⟩
abbrev S512x1 : Shape := ⟨2, ![512, 1]⟩
abbrev S512x256 : Shape := ⟨2, ![512, 256]⟩
abbrev S1x1x256x256 : Shape := ⟨4, ![1, 1, 256, 256]⟩
abbrev S256x256 : Shape := ⟨2, ![256, 256]⟩
abbrev S1024 : Shape := ⟨1, ![1024]⟩

abbrev nBuf : Space → Nat
  | .hbm => 28
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x8192x256, .f32⟩
  | .hbm, ⟨3, _⟩ => ⟨S4x1024, .f32⟩
  | .hbm, ⟨4, _⟩ => ⟨S4x1024x1024, .f32⟩
  | .hbm, ⟨5, _⟩ => ⟨S4x256x1024, .f32⟩
  | .hbm, ⟨6, _⟩ => ⟨S4x2048x1024, .f32⟩
  | .hbm, ⟨7, _⟩ => ⟨S4x1x1024, .f32⟩
  | .hbm, ⟨8, _⟩ => ⟨S1x1024x1024, .f32⟩
  | .hbm, ⟨9, _⟩ => ⟨S1024x1024, .f32⟩
  | .hbm, ⟨10, _⟩ => ⟨S1024x1024, .bf16⟩
  | .hbm, ⟨11, _⟩ => ⟨S1x1024x1024, .bf16⟩
  | .hbm, ⟨12, _⟩ => ⟨S1x256x1024, .f32⟩
  | .hbm, ⟨13, _⟩ => ⟨S256x1024, .f32⟩
  | .hbm, ⟨14, _⟩ => ⟨S256x1024, .bf16⟩
  | .hbm, ⟨15, _⟩ => ⟨S256x4x256, .bf16⟩
  | .hbm, ⟨16, _⟩ => ⟨S4x256x256, .bf16⟩
  | .hbm, ⟨17, _⟩ => ⟨S1x4x256x256, .bf16⟩
  | .hbm, ⟨18, _⟩ => ⟨S1x2048x1024, .f32⟩
  | .hbm, ⟨19, _⟩ => ⟨S2048x1024, .f32⟩
  | .hbm, ⟨20, _⟩ => ⟨S2048x1024, .bf16⟩
  | .hbm, ⟨21, _⟩ => ⟨S1x2048x1024, .bf16⟩
  | .hbm, ⟨22, _⟩ => ⟨S8192x1024, .f32⟩
  | .hbm, ⟨23, _⟩ => ⟨S8192x2048, .bf16⟩
  | .hbm, ⟨24, _⟩ => ⟨S8192x1024, .bf16⟩
  | .hbm, ⟨25, _⟩ => ⟨S8192x1024, .bf16⟩
  | .hbm, ⟨26, _⟩ => ⟨S8192x1024, .bf16⟩
  | .hbm, ⟨27, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x512x256, .f32⟩
  | .local _ .vmem, ⟨5, _⟩ => ⟨S1x512x256, .f32⟩
  | .local _ .vmem, ⟨6, _⟩ => ⟨S1x1x1024, .f32⟩
  | .local _ .vmem, ⟨7, _⟩ => ⟨S1x1024x1024, .bf16⟩
  | .local _ .vmem, ⟨8, _⟩ => ⟨S1x4x256x256, .bf16⟩
  | .local _ .vmem, ⟨9, _⟩ => ⟨S1x2048x1024, .bf16⟩
  | .local _ .vmem, ⟨10, _⟩ => ⟨S512x1024, .f32⟩
  | .local _ .vmem, ⟨11, _⟩ => ⟨S512x1024, .f32⟩
  | .local _ .vmem, ⟨12, _⟩ => ⟨S512x2048, .bf16⟩
  | .local _ .vmem, ⟨13, _⟩ => ⟨S512x2048, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev main_v15_3 : Ref sig .tc := ⟨.hbm, 25, rfl⟩
abbrev main_v15_4 : Ref sig .tc := ⟨.hbm, 26, rfl⟩
abbrev main_v15_5 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceBoutIdeal.lean ====
abbrev S8192x1024 : Shape := ⟨2, ![8192, 1024]⟩
abbrev S4x8192x256 : Shape := ⟨3, ![4, 8192, 256]⟩
abbrev S4x1024 : Shape := ⟨2, ![4, 1024]⟩
abbrev S4x1024x1024 : Shape := ⟨3, ![4, 1024, 1024]⟩
abbrev S4x256x1024 : Shape := ⟨3, ![4, 256, 1024]⟩
abbrev S4x2048x1024 : Shape := ⟨3, ![4, 2048, 1024]⟩
abbrev S_ : Shape := ⟨0, ![]⟩
abbrev S8192x2048 : Shape := ⟨2, ![8192, 2048]⟩
abbrev S1x1024 : Shape := ⟨2, ![1, 1024]⟩
abbrev S1024 : Shape := ⟨1, ![1024]⟩
abbrev S1x2048x1024 : Shape := ⟨3, ![1, 2048, 1024]⟩
abbrev S2048x1024 : Shape := ⟨2, ![2048, 1024]⟩
abbrev S8192 : Shape := ⟨1, ![8192]⟩
abbrev S8192x1 : Shape := ⟨2, ![8192, 1]⟩
abbrev S1x1024x1024 : Shape := ⟨3, ![1, 1024, 1024]⟩
abbrev S1024x1024 : Shape := ⟨2, ![1024, 1024]⟩
abbrev S1x8192x256 : Shape := ⟨3, ![1, 8192, 256]⟩
abbrev S8192x256 : Shape := ⟨2, ![8192, 256]⟩
abbrev S1x256x1024 : Shape := ⟨3, ![1, 256, 1024]⟩
abbrev S256x1024 : Shape := ⟨2, ![256, 1024]⟩

abbrev nBuf : Space → Nat
  | .hbm => 117
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x8192x256, .f32⟩
  | .hbm, ⟨3, _⟩ => ⟨S4x1024, .f32⟩
  | .hbm, ⟨4, _⟩ => ⟨S4x1024x1024, .f32⟩
  | .hbm, ⟨5, _⟩ => ⟨S4x256x1024, .f32⟩
  | .hbm, ⟨6, _⟩ => ⟨S4x2048x1024, .f32⟩
  | .hbm, ⟨7, _⟩ => ⟨S_, .f32⟩
  | .hbm, ⟨8, _⟩ => ⟨S8192x2048, .f32⟩
  | .hbm, ⟨9, _⟩ => ⟨S_, .f32⟩
  | .hbm, ⟨10, _⟩ => ⟨S8192x1024, .f32⟩
  | .hbm, ⟨11, _⟩ => ⟨S1x1024, .f32⟩
  | .hbm, ⟨12, _⟩ => ⟨S1024, .f32⟩
  | .hbm, ⟨13, _⟩ => ⟨S1x2048x1024, .f32⟩
  | .hbm, ⟨14, _⟩ => ⟨S2048x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1x1024x1024, .f32⟩
  | .hbm, ⟨38, _⟩ => ⟨S1024x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x8192x256, .f32⟩
  | .hbm, ⟨54, _⟩ => ⟨S8192x256, .f32⟩
  | .hbm, ⟨55, _⟩ => ⟨S1x256x1024, .f32⟩
  | .hbm, ⟨56, _⟩ => ⟨S256x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S1024, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x2048, .f32⟩
  | .hbm, ⟨94, _⟩ => ⟨S8192x2048, .bf16⟩
  | .hbm, ⟨95, _⟩ => ⟨S1x1024, .f32⟩
  | .hbm, ⟨96, _⟩ => ⟨S1024, .f32⟩
  | .hbm, ⟨97, _⟩ => ⟨S8192x1024, .f32⟩
  | .hbm, ⟨98, _⟩ => ⟨S_, .f32⟩
  | .hbm, ⟨99, _⟩ => ⟨S8192, .f32⟩
  | .hbm, ⟨100, _⟩ => ⟨S8192x1, .f32⟩
  | .hbm, ⟨101, _⟩ => ⟨S_, .f32⟩
  | .hbm, ⟨102, _⟩ => ⟨S8192x1, .f32⟩
  | .hbm, ⟨103, _⟩ => ⟨S8192x1, .f32⟩
  | .hbm, ⟨104, _⟩ => ⟨S_, .f32⟩
  | .hbm, ⟨105, _⟩ => ⟨S8192x1, .f32⟩
  | .hbm, ⟨106, _⟩ => ⟨S8192x1, .f32⟩
  | .hbm, ⟨107, _⟩ => ⟨S8192x1, .f32⟩
  | .hbm, ⟨108, _⟩ => ⟨S8192x1024, .f32⟩
  | .hbm, ⟨109, _⟩ => ⟨S8192x1024, .f32⟩
  | .hbm, ⟨110, _⟩ => ⟨S1x1024, .f32⟩
  | .hbm, ⟨111, _⟩ => ⟨S8192x1024, .f32⟩
  | .hbm, ⟨112, _⟩ => ⟨S8192x1024, .f32⟩
  | .hbm, ⟨113, _⟩ => ⟨S8192x1024, .bf16⟩
  | .hbm, ⟨114, _⟩ => ⟨S8192x1024, .bf16⟩
  | .hbm, ⟨115, _⟩ => ⟨S8192x1024, .bf16⟩
  | .hbm, ⟨116, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_11 : Ref sig .tc := ⟨.hbm, 83, rfl⟩
abbrev main_v64 : Ref sig .tc := ⟨.hbm, 84, rfl⟩
abbrev main_v65 : Ref sig .tc := ⟨.hbm, 85, rfl⟩
abbrev main_cst_12 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_13 : Ref sig .tc := ⟨.hbm, 98, rfl⟩
abbrev main_v77 : Ref sig .tc := ⟨.hbm, 99, rfl⟩
abbrev main_v78 : Ref sig .tc := ⟨.hbm, 100, rfl⟩
abbrev main_cst_14 : Ref sig .tc := ⟨.hbm, 101, rfl⟩
abbrev main_v79 : Ref sig .tc := ⟨.hbm, 102, rfl⟩
abbrev main_v80 : Ref sig .tc := ⟨.hbm, 103, rfl⟩
abbrev main_cst_15 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩

abbrev nD : Nat := 1
abbrev τ : Topo := Topo.v7x

variable {F : FTy → Type} [FloatOps F]
-- ==== KernelMix.lean ====
abbrev S8192x6144 : Shape := ⟨2, ![8192, 6144]⟩
abbrev S2x2048 : Shape := ⟨2, ![2, 2048]⟩
abbrev S2x8x128x128 : Shape := ⟨4, ![2, 8, 128, 128]⟩
abbrev S2x8x128 : Shape := ⟨3, ![2, 8, 128]⟩
abbrev S2x1x2048 : Shape := ⟨3, ![2, 1, 2048]⟩
abbrev S2x128x8 : Shape := ⟨3, ![2, 128, 8]⟩
abbrev S8192x2048 : Shape := ⟨2, ![8192, 2048]⟩
abbrev S256x6144 : Shape := ⟨2, ![256, 6144]⟩
abbrev S1x1x2048 : Shape := ⟨3, ![1, 1, 2048]⟩
abbrev S1x8x128x128 : Shape := ⟨4, ![1, 8, 128, 128]⟩
abbrev S1x128x8 : Shape := ⟨3, ![1, 128, 8]⟩
abbrev S256x2048 : Shape := ⟨2, ![256, 2048]⟩
abbrev S256 : Shape := ⟨1, ![256]⟩
abbrev S256x1 : Shape := ⟨2, ![256, 1]⟩
abbrev S1x2048 : Shape := ⟨2, ![1, 2048]⟩
abbrev S128x128 : Shape := ⟨2, ![128, 128]⟩
abbrev S1x1x128x128 : Shape := ⟨4, ![1, 1, 128, 128]⟩
abbrev S1x128x1 : Shape := ⟨3, ![1, 128, 1]⟩
abbrev S128x1 : Shape := ⟨2, ![128, 1]⟩
abbrev S128x256 : Shape := ⟨2, ![128, 256]⟩

abbrev nBuf : Space → Nat
  | .hbm => 9
  | .vmem => 9
  | .smem => 0
  | _ => 0

abbrev bufTy : (tb : Table) → Fin (tcTables nBuf tb) → BufTy
  | .hbm, ⟨0, _⟩ => ⟨S8192x6144, .bf16⟩
  | .hbm, ⟨1, _⟩ => ⟨S2x2048, .f32⟩
  | .hbm, ⟨2, _⟩ => ⟨S2x2048, .f32⟩
  | .hbm, ⟨3, _⟩ => ⟨S2x8x128x128, .f32⟩
  | .hbm, ⟨4, _⟩ => ⟨S2x8x128, .f32⟩
  | .hbm, ⟨5, _⟩ => ⟨S2x1x2048, .f32⟩
  | .hbm, ⟨6, _⟩ => ⟨S2x1x2048, .f32⟩
  | .hbm, ⟨7, _⟩ => ⟨S2x128x8, .f32⟩
  | .hbm, ⟨8, _⟩ => ⟨S8192x2048, .bf16⟩
  | .local _ .vmem, ⟨0, _⟩ => ⟨S256x6144, .bf16⟩
  | .local _ .vmem, ⟨1, _⟩ => ⟨S256x6144, .bf16⟩
  | .local _ .vmem, ⟨2, _⟩ => ⟨S1x1x2048, .f32⟩
  | .local _ .vmem, ⟨3, _⟩ => ⟨S1x1x2048, .f32⟩
  | .local _ .vmem, ⟨4, _⟩ => ⟨S1x8x128x128, .f32⟩
  | .local _ .vmem, ⟨5, _⟩ => ⟨S1x128x8, .f32⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelMixIdeal.lean ====
variable {F : FTy → Type} [FloatOps F] [Named F]
def κ : String → Option EReal := fun
  | "inv_sqrt2" => some (((Real.sqrt 2)⁻¹ : ℝ) : EReal)
  | _ => none
-- ==== ReferenceMixIdeal.lean ====
abbrev S8192x6144 : Shape := ⟨2, ![8192, 6144]⟩
abbrev S2x2048 : Shape := ⟨2, ![2, 2048]⟩
abbrev S2x8x128x128 : Shape := ⟨4, ![2, 8, 128, 128]⟩
abbrev S2x8x128 : Shape := ⟨3, ![2, 8, 128]⟩
abbrev S2x4096x6144 : Shape := ⟨3, ![2, 4096, 6144]⟩
abbrev S1x2048 : Shape := ⟨2, ![1, 2048]⟩
abbrev S2048 : Shape := ⟨1, ![2048]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S2x4096x2048 : Shape := ⟨3, ![2, 4096, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x32x128x8x256 : Shape := ⟨5, ![2, 32, 128, 8, 256]⟩
abbrev S128x128 : Shape := ⟨2, ![128, 128]⟩
abbrev S1x128x128 : Shape := ⟨3, ![1, 128, 128]⟩
abbrev S8x2x32x256x128 : Shape := ⟨5, ![8, 2, 32, 256, 128]⟩
abbrev S128x8 : Shape := ⟨2, ![128, 8]⟩
abbrev S1x1x128x8x1 : Shape := ⟨5, ![1, 1, 128, 8, 1]⟩
abbrev S8192x2048 : Shape := ⟨2, ![8192, 2048]⟩

abbrev nBuf : Space → Nat
  | .hbm => 102
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S2x2048, .f32⟩
  | .hbm, ⟨2, _⟩ => ⟨S2x2048, .f32⟩
  | .hbm, ⟨3, _⟩ => ⟨S2x8x128x128, .f32⟩
  | .hbm, ⟨4, _⟩ => ⟨S2x8x128, .f32⟩
  | .hbm, ⟨5, _⟩ => ⟨S8192x6144, .f32⟩
  | .hbm, ⟨6, _⟩ => ⟨S2x4096x6144, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S1x8x128x128, .f32⟩
  | .hbm, ⟨12, _⟩ => ⟨S8x128x128, .f32⟩
  | .hbm, ⟨13, _⟩ => ⟨S1x8x128, .f32⟩
  | .hbm, ⟨14, _⟩ => ⟨S8x128, .f32⟩
  | .hbm, ⟨15, _⟩ => ⟨S2x4096x2048, .f32⟩
  | .hbm, ⟨16, _⟩ => ⟨S2x4096x2048, .f32⟩
  | .hbm, ⟨17, _⟩ => ⟨S2x4096x2048, .f32⟩
  | .hbm, ⟨18, _⟩ => ⟨S_, .f32⟩
  | .hbm, ⟨19, _⟩ => ⟨S2x4096x2048, .f32⟩
  | .hbm, ⟨20, _⟩ => ⟨S2x4096x2048, .f32⟩
  | .hbm, ⟨21, _⟩ => ⟨S2x4096x2048, .f32⟩
  | .hbm, ⟨22, _⟩ => ⟨S_, .f32⟩
  | .hbm, ⟨23, _⟩ => ⟨S_, .f32⟩
  | .hbm, ⟨24, _⟩ => ⟨S2x4096x2048, .f32⟩
  | .hbm, ⟨25, _⟩ => ⟨S2x4096x2048, .f32⟩
  | .hbm, ⟨26, _⟩ => ⟨S2x4096x2048, .f32⟩
  | .hbm, ⟨27, _⟩ => ⟨S2x4096x2048, .f32⟩
  | .hbm, ⟨28, _⟩ => ⟨S_, .f32⟩
  | .hbm, ⟨29, _⟩ => ⟨S2x4096x2048, .f32⟩
  | .hbm, ⟨30, _⟩ => ⟨S2x4096x2048, .f32⟩
  | .hbm, ⟨31, _⟩ => ⟨S2x4096x2048, .f32⟩
  | .hbm, ⟨32, _⟩ => ⟨S_, .f32⟩
  | .hbm, ⟨33, _⟩ => ⟨S_, .f32⟩
  | .hbm, ⟨34, _⟩ => ⟨S2x4096x2048, .f32⟩
  | .hbm, ⟨35, _⟩ => ⟨S2x4096x2048, .f32⟩
  | .hbm, ⟨36, _⟩ => ⟨S2x4096x2048, .f32⟩
  | .hbm, ⟨37, _⟩ => ⟨S2x4096x2048, .f32⟩
  | .hbm, ⟨38, _⟩ => ⟨S_, .f32⟩
  | .hbm, ⟨39, _⟩ => ⟨S2x4096, .f32⟩
  | .hbm, ⟨40, _⟩ => ⟨S2x4096x1, .f32⟩
  | .hbm, ⟨41, _⟩ => ⟨S_, .f32⟩
  | .hbm, ⟨42, _⟩ => ⟨S2x4096x1, .f32⟩
  | .hbm, ⟨43, _⟩ => ⟨S2x4096x1, .f32⟩
  | .hbm, ⟨44, _⟩ => ⟨S2x4096x2048, .f32⟩
  | .hbm, ⟨45, _⟩ => ⟨S2x4096x2048, .f32⟩
  | .hbm, ⟨46, _⟩ => ⟨S2x4096x2048, .f32⟩
  | .hbm, ⟨47, _⟩ => ⟨S_, .f32⟩
  | .hbm, ⟨48, _⟩ => ⟨S2x4096, .f32⟩
  | .hbm, ⟨49, _⟩ => ⟨S2x4096x1, .f32⟩
  | .hbm, ⟨50, _⟩ => ⟨S_, .f32⟩
  | .hbm, ⟨51, _⟩ => ⟨S2x4096x1, .f32⟩
  | .hbm, ⟨52, _⟩ => ⟨S2x4096x1, .f32⟩
  | .hbm, ⟨53, _⟩ => ⟨S_, .f32⟩
  | .hbm, ⟨54, _⟩ => ⟨S2x4096x1, .f32⟩
  | .hbm, ⟨55, _⟩ => ⟨S2x4096x1, .f32⟩
  | .hbm, ⟨56, _⟩ => ⟨S2x4096x1, .f32⟩
  | .hbm, ⟨57, _⟩ => ⟨S2x4096x2048, .f32⟩
  | .hbm, ⟨58, _⟩ => ⟨S2x4096x2048, .f32⟩
  | .hbm, ⟨59, _⟩ => ⟨S1x1x2048, .f32⟩
  | .hbm, ⟨60, _⟩ => ⟨S2x4096x2048, .f32⟩
  | .hbm, ⟨61, _⟩ => ⟨S2x4096x2048, .f32⟩
  | .hbm, ⟨62, _⟩ => ⟨S1x1x2048, .f32⟩
  | .hbm, ⟨63, _⟩ => ⟨S2x4096x2048, .f32⟩
  | .hbm, ⟨64, _⟩ => ⟨S2x4096x2048, .f32⟩
  | .hbm, ⟨65, _⟩ => ⟨S2x32x128x8x256, .f32⟩
  | .hbm, ⟨66, _⟩ => ⟨S_, .i1⟩
  | .hbm, ⟨67, _⟩ => ⟨S128x128, .i1⟩
  | .hbm, ⟨68, _⟩ => ⟨S128x128, .i32⟩
  | .hbm, ⟨69, _⟩ => ⟨S_, .i32⟩
  | .hbm, ⟨70, _⟩ => ⟨S128x128, .i32⟩
  | .hbm, ⟨71, _⟩ => ⟨S128x128, .i32⟩
  | .hbm, ⟨72, _⟩ => ⟨S128x128, .i32⟩
  | .hbm, ⟨73, _⟩ => ⟨S128x128, .i1⟩
  | .hbm, ⟨74, _⟩ => ⟨S_, .i1⟩
  | .hbm, ⟨75, _⟩ => ⟨S128x128, .i1⟩
  | .hbm, ⟨76, _⟩ => ⟨S128x128, .i1⟩
  | .hbm, ⟨77, _⟩ => ⟨S1x128x128, .i1⟩
  | .hbm, ⟨78, _⟩ => ⟨S_, .f32⟩
  | .hbm, ⟨79, _⟩ => ⟨S8x128x128, .i1⟩
  | .hbm, ⟨80, _⟩ => ⟨S8x128x128, .f32⟩
  | .hbm, ⟨81, _⟩ => ⟨S8x128x128, .f32⟩
  | .hbm, ⟨82, _⟩ => ⟨S8x2x32x256x128, .f32⟩
  | .hbm, ⟨83, _⟩ => ⟨S2x32x128x8x256, .f32⟩
  | .hbm, ⟨84, _⟩ => ⟨S128x8, .f32⟩
  | .hbm, ⟨85, _⟩ => ⟨S1x1x128x8x1, .f32⟩
  | .hbm, ⟨86, _⟩ => ⟨S2x32x128x8x256, .f32⟩
  | .hbm, ⟨87, _⟩ => ⟨S2x32x128x8x256, .f32⟩
  | .hbm, ⟨88, _⟩ => ⟨S2x4096x2048, .f32⟩
  | .hbm, ⟨89, _⟩ => ⟨S2x4096x2048, .f32⟩
  | .hbm, ⟨90, _⟩ => ⟨S2x4096x2048, .f32⟩
  | .hbm, ⟨91, _⟩ => ⟨S2x4096x2048, .f32⟩
  | .hbm, ⟨92, _⟩ => ⟨S_, .f32⟩
  | .hbm, ⟨93, _⟩ => ⟨S2x4096x2048, .f32⟩
  | .hbm, ⟨94, _⟩ => ⟨S2x4096x2048, .f32⟩
  | .hbm, ⟨95, _⟩ => ⟨S_, .f32⟩
  | .hbm, ⟨96, _⟩ => ⟨S2x4096x2048, .f32⟩
  | .hbm, ⟨97, _⟩ => ⟨S2x4096x2048, .f32⟩
  | .hbm, ⟨98, _⟩ => ⟨S2x4096x2048, .f32⟩
  | .hbm, ⟨99, _⟩ => ⟨S2x4096x2048, .f32⟩
  | .hbm, ⟨100, _⟩ => ⟨S8192x2048, .f32⟩
  | .hbm, ⟨101, _⟩ => ⟨S8192x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c : Ref sig .tc := ⟨.hbm, 66, rfl⟩
abbrev main_v52 : Ref sig .tc := ⟨.hbm, 67, rfl⟩
abbrev main_call0_v0 : Ref sig .tc := ⟨.hbm, 68, rfl⟩
abbrev main_call0_c : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_c_0 : Ref sig .tc := ⟨.hbm, 74, rfl⟩
abbrev main_call0_v5 : Ref sig .tc := ⟨.hbm, 75, rfl⟩
abbrev main_v53 : Ref sig .tc := ⟨.hbm, 76, rfl⟩
abbrev main_v54 : Ref sig .tc := ⟨.hbm, 77, rfl⟩
abbrev main_cst_8 : Ref sig .tc := ⟨.hbm, 78, rfl⟩
abbrev main_call1_v0 : Ref sig .tc := ⟨.hbm, 79, rfl⟩
abbrev main_call1_v1 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call2_v0 : Ref sig .tc := ⟨.hbm, 90, rfl⟩
abbrev main_call2_v1 : Ref sig .tc := ⟨.hbm, 91, rfl⟩
abbrev main_call2_cst : Ref sig .tc := ⟨.hbm, 92, rfl⟩
abbrev main_call2_v2 : Ref sig .tc := ⟨.hbm, 93, rfl⟩
abbrev main_call2_v3 : Ref sig .tc := ⟨.hbm, 94, rfl⟩
abbrev main_call2_cst_0 : Ref sig .tc := ⟨.hbm, 95, rfl⟩
abbrev main_call2_v4 : Ref sig .tc := ⟨.hbm, 96, rfl⟩
abbrev main_call2_v5 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩

abbrev nD : Nat := 1
abbrev τ : Topo := Topo.v7x

variable {F : FTy → Type} [FloatOps F]
-- ==== KernelLoss.lean ====
abbrev S8192x1024 : Shape := ⟨2, ![8192, 1024]⟩
abbrev S1024 : Shape := ⟨1, ![1024]⟩
abbrev S2x4096x1024 : Shape := ⟨3, ![2, 4096, 1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S2x4096x1024, .f32⟩
  | .hbm, ⟨3, _⟩ => ⟨S1x1024, .f32⟩
  | .hbm, ⟨4, _⟩ => ⟨S8192x1024, .f32⟩
  | .hbm, ⟨5, _⟩ => ⟨S1x1, .f32⟩
  | .hbm, ⟨6, _⟩ => ⟨S8192x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v51 : BitVec 1 := Scalar.cmpi .eq arg0 c15_i32
  let v52 : BitVec 32 := Scalar.extui v51
  let c0_i32_23 : BitVec 32 := 0#32
  let v53 : BitVec 1 := Scalar.cmpi .ne v52 c0_i32_23
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceLossIdeal.lean ====
abbrev S8192x1024 : Shape := ⟨2, ![8192, 1024]⟩
abbrev S1024 : Shape := ⟨1, ![1024]⟩
abbrev S2x4096x1024 : Shape := ⟨3, ![2, 4096, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S1x1 : Shape := ⟨2, ![1, 1]⟩
abbrev S1x1024 : Shape := ⟨2, ![1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S2x4096x1024, .f32⟩
  | .hbm, ⟨3, _⟩ => ⟨S2x4096x1024, .f32⟩
  | .hbm, ⟨4, _⟩ => ⟨S2x4096x1024, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S2x4096x1024, .f32⟩
  | .hbm, ⟨20, _⟩ => ⟨S2x4096x1024, .f32⟩
  | .hbm, ⟨21, _⟩ => ⟨S1x1x1024, .f32⟩
  | .hbm, ⟨22, _⟩ => ⟨S2x4096x1024, .f32⟩
  | .hbm, ⟨23, _⟩ => ⟨S2x4096x1024, .f32⟩
  | .hbm, ⟨24, _⟩ => ⟨S2x4096x1024, .f32⟩
  | .hbm, ⟨25, _⟩ => ⟨S2x4096x1024, .f32⟩
  | .hbm, ⟨26, _⟩ => ⟨S_, .f32⟩
  | .hbm, ⟨27, _⟩ => ⟨S2x4096x1024, .f32⟩
  | .hbm, ⟨28, _⟩ => ⟨S2x4096x1024, .f32⟩
  | .hbm, ⟨29, _⟩ => ⟨S_, .f32⟩
  | .hbm, ⟨30, _⟩ => ⟨S2x4096, .f32⟩
  | .hbm, ⟨31, _⟩ => ⟨S_, .f32⟩
  | .hbm, ⟨32, _⟩ => ⟨S2x4096, .f32⟩
  | .hbm, ⟨33, _⟩ => ⟨S2x4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2x4096, .f32⟩
  | .hbm, ⟨42, _⟩ => ⟨S_, .f32⟩
  | .hbm, ⟨43, _⟩ => ⟨S2x4096, .f32⟩
  | .hbm, ⟨44, _⟩ => ⟨S2x4096, .f32⟩
  | .hbm, ⟨45, _⟩ => ⟨S2x4096x1024, .f32⟩
  | .hbm, ⟨46, _⟩ => ⟨S2x4096x1024, .f32⟩
  | .hbm, ⟨47, _⟩ => ⟨S2x4096x1024, .f32⟩
  | .hbm, ⟨48, _⟩ => ⟨S_, .f32⟩
  | .hbm, ⟨49, _⟩ => ⟨S1024, .f32⟩
  | .hbm, ⟨50, _⟩ => ⟨S1x1x1024, .f32⟩
  | .hbm, ⟨51, _⟩ => ⟨S2x4096x1024, .f32⟩
  | .hbm, ⟨52, _⟩ => ⟨S2x4096x1024, .f32⟩
  | .hbm, ⟨53, _⟩ => ⟨S_, .f32⟩
  | .hbm, ⟨54, _⟩ => ⟨S1024, .f32⟩
  | .hbm, ⟨55, _⟩ => ⟨S2x4096x1024, .f32⟩
  | .hbm, ⟨56, _⟩ => ⟨S_, .f32⟩
  | .hbm, ⟨57, _⟩ => ⟨S2x4096, .f32⟩
  | .hbm, ⟨58, _⟩ => ⟨S2x4096x1, .f32⟩
  | .hbm, ⟨59, _⟩ => ⟨S2x4096x1024, .f32⟩
  | .hbm, ⟨60, _⟩ => ⟨S2x4096x1024, .f32⟩
  | .hbm, ⟨61, _⟩ => ⟨S2x4096x1, .f32⟩
  | .hbm, ⟨62, _⟩ => ⟨S_, .f32⟩
  | .hbm, ⟨63, _⟩ => ⟨S2x4096x1, .f32⟩
  | .hbm, ⟨64, _⟩ => ⟨S2x4096x1, .f32⟩
  | .hbm, ⟨65, _⟩ => ⟨S_, .f32⟩
  | .hbm, ⟨66, _⟩ => ⟨S2x4096, .f32⟩
  | .hbm, ⟨67, _⟩ => ⟨S2x4096x1024, .f32⟩
  | .hbm, ⟨68, _⟩ => ⟨S2x4096x1024, .f32⟩
  | .hbm, ⟨69, _⟩ => ⟨S2x4096x1024, .f32⟩
  | .hbm, ⟨70, _⟩ => ⟨S2x4096x1024, .f32⟩
  | .hbm, ⟨71, _⟩ => ⟨S2x4096x1024, .f32⟩
  | .hbm, ⟨72, _⟩ => ⟨S8192x1024, .f32⟩
  | .hbm, ⟨73, _⟩ => ⟨S1x1, .f32⟩
  | .hbm, ⟨74, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== KernelTotal.lean ====
abbrev S8192x1024 : Shape := ⟨2, ![8192, 1024]⟩
abbrev S1024 : Shape := ⟨1, ![1024]⟩
abbrev S2x4096x1024 : Shape := ⟨3, ![2, 4096, 1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 18
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S2x4096x1024, .f32⟩
  | .hbm, ⟨3, _⟩ => ⟨S1x1024, .f32⟩
  | .hbm, ⟨4, _⟩ => ⟨S8192x1024, .f32⟩
  | .hbm, ⟨5, _⟩ => ⟨S1x1, .f32⟩
  | .hbm, ⟨6, _⟩ => ⟨S8192x1024, .f32⟩
  | .hbm, ⟨7, _⟩ => ⟨S1x1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | _ => false

abbrev sig : RefSig :=
  ofTc nBuf bufTy 1 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v4 : Ref sig .tc := ⟨.hbm, 8, rfl⟩
abbrev main_v5 : Ref sig .tc := ⟨.hbm, 9, rfl⟩
abbrev main_v5_s0 : Ref sig .tc := ⟨.hbm, 10, rfl⟩
abbrev main_v5_s1 : Ref sig .tc := ⟨.hbm, 11, rfl⟩
abbrev main_v5_s2 : Ref sig .tc := ⟨.hbm, 12, rfl⟩
abbrev main_v5_s3 : Ref sig .tc := ⟨.hbm, 13, rfl⟩
abbrev main_v5_s4 : Ref sig .tc := ⟨.hbm, 14, rfl⟩
abbrev main_v5_s5 : Ref sig .tc := ⟨.hbm, 15, rfl⟩
abbrev main_v5_s6 : Ref sig .tc := ⟨.hbm, 16, rfl⟩
abbrev main_v5_s7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev ar0_recv : DmaSem sig := 9
abbrev ar0_send : DmaSem sig := 10
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v5_s0 | 1 => main_v5_s1 | 2 => main_v5_s2 | 3 => main_v5_s3 | 4 => main_v5_s4 | 5 => main_v5_s5 | 6 => main_v5_s6 | 7 => main_v5_s7 | ⟨_ + 8, h⟩ => absurd h (Nat.not_lt.2 (Nat.le_add_left _ _))

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v52 : BitVec 1 := Scalar.cmpi .eq arg0 c15_i32
  let v53 : BitVec 32 := Scalar.extui v52
  let c0_i32_23 : BitVec 32 := 0#32
  let v54 : BitVec 1 := Scalar.cmpi .ne v53 c0_i32_23
  v54

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceTotalIdeal.lean ====
abbrev S65536x1024 : Shape := ⟨2, ![65536, 1024]⟩
abbrev S1024 : Shape := ⟨1, ![1024]⟩
abbrev S16x4096x1024 : Shape := ⟨3, ![16, 4096, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S16x4096x1024, .f32⟩
  | .hbm, ⟨3, _⟩ => ⟨S16x4096x1024, .f32⟩
  | .hbm, ⟨4, _⟩ => ⟨S16x4096x1024, .f32⟩
  | .hbm, ⟨5, _⟩ => ⟨S_, .f32⟩
  | .hbm, ⟨6, _⟩ => ⟨S16x4096, .f32⟩
  | .hbm, ⟨7, _⟩ => ⟨S16x4096x1, .f32⟩
  | .hbm, ⟨8, _⟩ => ⟨S_, .f32⟩
  | .hbm, ⟨9, _⟩ => ⟨S16x4096x1, .f32⟩
  | .hbm, ⟨10, _⟩ => ⟨S16x4096x1, .f32⟩
  | .hbm, ⟨11, _⟩ => ⟨S_, .f32⟩
  | .hbm, ⟨12, _⟩ => ⟨S16x4096x1, .f32⟩
  | .hbm, ⟨13, _⟩ => ⟨S16x4096x1, .f32⟩
  | .hbm, ⟨14, _⟩ => ⟨S16x4096x1, .f32⟩
  | .hbm, ⟨15, _⟩ => ⟨S16x4096x1024, .f32⟩
  | .hbm, ⟨16, _⟩ => ⟨S16x4096x1024, .f32⟩
  | .hbm, ⟨17, _⟩ => ⟨S1x1x1024, .f32⟩
  | .hbm, ⟨18, _⟩ => ⟨S16x4096x1024, .f32⟩
  | .hbm, ⟨19, _⟩ => ⟨S16x4096x1024, .f32⟩
  | .hbm, ⟨20, _⟩ => ⟨S16x4096x1024, .f32⟩
  | .hbm, ⟨21, _⟩ => ⟨S16x4096x1024, .f32⟩
  | .hbm, ⟨22, _⟩ => ⟨S_, .f32⟩
  | .hbm, ⟨23, _⟩ => ⟨S16x4096, .f32⟩
  | .hbm, ⟨24, _⟩ => ⟨S_, .f32⟩
  | .hbm, ⟨25, _⟩ => ⟨S16x4096, .f32⟩
  | .hbm, ⟨26, _⟩ => ⟨S16x4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== KernelUin.lean ====
abbrev S4x1024x1536 : Shape := ⟨3, ![4, 1024, 1536]⟩
abbrev S4096x1536 : Shape := ⟨2, ![4096, 1536]⟩
abbrev S256x1536 : Shape := ⟨2, ![256, 1536]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .hbm, ⟨8, _⟩ => ⟨S4096x1536, .f32⟩
  | .hbm, ⟨9, _⟩ => ⟨S4096x1536, .f32⟩
  | .hbm, ⟨10, _⟩ => ⟨S4096x1536, .f32⟩
  | .hbm, ⟨11, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S4x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelUinIdeal.lean ====
abbrev S4x1024x1536 : Shape := ⟨3, ![4, 1024, 1536]⟩
abbrev S4096x1536 : Shape := ⟨2, ![4096, 1536]⟩
abbrev S256x1536 : Shape := ⟨2, ![256, 1536]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .hbm, ⟨8, _⟩ => ⟨S4096x1536, .f32⟩
  | .hbm, ⟨9, _⟩ => ⟨S4096x1536, .f32⟩
  | .hbm, ⟨10, _⟩ => ⟨S4096x1536, .f32⟩
  | .hbm, ⟨11, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S4x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceUinIdeal.lean ====
abbrev S4x1024x1536 : Shape := ⟨3, ![4, 1024, 1536]⟩
abbrev S_ : Shape := ⟨0, ![]⟩
abbrev S4096x1536 : Shape := ⟨2, ![4096, 1536]⟩

abbrev nBuf : Space → Nat
  | .hbm => 41
  | .vmem => 0
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S_, .f32⟩
  | .hbm, ⟨5, _⟩ => ⟨S4x1024x1536, .f32⟩
  | .hbm, ⟨6, _⟩ => ⟨S4x1024x1536, .f32⟩
  | .hbm, ⟨7, _⟩ => ⟨S_, .f32⟩
  | .hbm, ⟨8, _⟩ => ⟨S4x1024x1536, .f32⟩
  | .hbm, ⟨9, _⟩ => ⟨S4x1024x1536, .f32⟩
  | .hbm, ⟨10, _⟩ => ⟨S4x1024x1536, .f32⟩
  | .hbm, ⟨11, _⟩ => ⟨S_, .f32⟩
  | .hbm, ⟨12, _⟩ => ⟨S4x1024x1536, .f32⟩
  | .hbm, ⟨13, _⟩ => ⟨S4x1024x1536, .f32⟩
  | .hbm, ⟨14, _⟩ => ⟨S4x1024x1536, .f32⟩
  | .hbm, ⟨15, _⟩ => ⟨S_, .f32⟩
  | .hbm, ⟨16, _⟩ => ⟨S4x1024x1536, .f32⟩
  | .hbm, ⟨17, _⟩ => ⟨S4x1024x1536, .f32⟩
  | .hbm, ⟨18, _⟩ => ⟨S4x1024x1536, .f32⟩
  | .hbm, ⟨19, _⟩ => ⟨S_, .f32⟩
  | .hbm, ⟨20, _⟩ => ⟨S4x1024x1536, .f32⟩
  | .hbm, ⟨21, _⟩ => ⟨S4x1024x1536, .f32⟩
  | .hbm, ⟨22, _⟩ => ⟨S_, .f32⟩
  | .hbm, ⟨23, _⟩ => ⟨S4x1024x1536, .f32⟩
  | .hbm, ⟨24, _⟩ => ⟨S4x1024x1536, .f32⟩
  | .hbm, ⟨25, _⟩ => ⟨S4x1024x1536, .f32⟩
  | .hbm, ⟨26, _⟩ => ⟨S_, .f32⟩
  | .hbm, ⟨27, _⟩ => ⟨S4x1024x1536, .f32⟩
  | .hbm, ⟨28, _⟩ => ⟨S4x1024x1536, .f32⟩
  | .hbm, ⟨29, _⟩ => ⟨S4x1024x1536, .f32⟩
  | .hbm, ⟨30, _⟩ => ⟨S_, .f32⟩
  | .hbm, ⟨31, _⟩ => ⟨S4x1024x1536, .f32⟩
  | .hbm, ⟨32, _⟩ => ⟨S4x1024x1536, .f32⟩
  | .hbm, ⟨33, _⟩ => ⟨S4x1024x1536, .f32⟩
  | .hbm, ⟨34, _⟩ => ⟨S_, .f32⟩
  | .hbm, ⟨35, _⟩ => ⟨S4x1024x1536, .f32⟩
  | .hbm, ⟨36, _⟩ => ⟨S4x1024x1536, .f32⟩
  | .hbm, ⟨37, _⟩ => ⟨S4096x1536, .f32⟩
  | .hbm, ⟨38, _⟩ => ⟨S4096x1536, .f32⟩
  | .hbm, ⟨39, _⟩ => ⟨S4096x1536, .f32⟩
  | .hbm, ⟨40, _⟩ => ⟨S4096x1536, .f32⟩
  | _, _ => ⟨S4x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== KernelUout.lean ====
abbrev S4x512x1024 : Shape := ⟨3, ![4, 512, 1024]⟩
abbrev S2048x1024 : Shape := ⟨2, ![2048, 1024]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelUoutIdeal.lean ====
abbrev S4x512x1024 : Shape := ⟨3, ![4, 512, 1024]⟩
abbrev S2048x1024 : Shape := ⟨2, ![2048, 1024]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceUoutIdeal.lean ====
abbrev S4x512x1024 : Shape := ⟨3, ![4, 512, 1024]⟩
abbrev S_ : Shape := ⟨0, ![]⟩
abbrev S2048x1024 : Shape := ⟨2, ![2048, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S_, .f32⟩
  | .hbm, ⟨5, _⟩ => ⟨S4x512x1024, .f32⟩
  | .hbm, ⟨6, _⟩ => ⟨S4x512x1024, .f32⟩
  | .hbm, ⟨7, _⟩ => ⟨S_, .f32⟩
  | .hbm, ⟨8, _⟩ => ⟨S4x512x1024, .f32⟩
  | .hbm, ⟨9, _⟩ => ⟨S4x512x1024, .f32⟩
  | .hbm, ⟨10, _⟩ => ⟨S4x512x1024, .f32⟩
  | .hbm, ⟨11, _⟩ => ⟨S_, .f32⟩
  | .hbm, ⟨12, _⟩ => ⟨S4x512x1024, .f32⟩
  | .hbm, ⟨13, _⟩ => ⟨S4x512x1024, .f32⟩
  | .hbm, ⟨14, _⟩ => ⟨S4x512x1024, .f32⟩
  | .hbm, ⟨15, _⟩ => ⟨S_, .f32⟩
  | .hbm, ⟨16, _⟩ => ⟨S4x512x1024, .f32⟩
  | .hbm, ⟨17, _⟩ => ⟨S4x512x1024, .f32⟩
  | .hbm, ⟨18, _⟩ => ⟨S4x512x1024, .f32⟩
  | .hbm, ⟨19, _⟩ => ⟨S_, .f32⟩
  | .hbm, ⟨20, _⟩ => ⟨S4x512x1024, .f32⟩
  | .hbm, ⟨21, _⟩ => ⟨S4x512x1024, .f32⟩
  | .hbm, ⟨22, _⟩ => ⟨S_, .f32⟩
  | .hbm, ⟨23, _⟩ => ⟨S4x512x1024, .f32⟩
  | .hbm, ⟨24, _⟩ => ⟨S4x512x1024, .f32⟩
  | .hbm, ⟨25, _⟩ => ⟨S4x512x1024, .f32⟩
  | .hbm, ⟨26, _⟩ => ⟨S_, .f32⟩
  | .hbm, ⟨27, _⟩ => ⟨S4x512x1024, .f32⟩
  | .hbm, ⟨28, _⟩ => ⟨S4x512x1024, .f32⟩
  | .hbm, ⟨29, _⟩ => ⟨S4x512x1024, .f32⟩
  | .hbm, ⟨30, _⟩ => ⟨S_, .f32⟩
  | .hbm, ⟨31, _⟩ => ⟨S4x512x1024, .f32⟩
  | .hbm, ⟨32, _⟩ => ⟨S4x512x1024, .f32⟩
  | .hbm, ⟨33, _⟩ => ⟨S4x512x1024, .f32⟩
  | .hbm, ⟨34, _⟩ => ⟨S_, .f32⟩
  | .hbm, ⟨35, _⟩ => ⟨S4x512x1024, .f32⟩
  | .hbm, ⟨36, _⟩ => ⟨S4x512x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== KernelUgate.lean ====
abbrev S4x256x1024 : Shape := ⟨3, ![4, 256, 1024]⟩
abbrev S1024x1024 : Shape := ⟨2, ![1024, 1024]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelUgateIdeal.lean ====
abbrev S4x256x1024 : Shape := ⟨3, ![4, 256, 1024]⟩
abbrev S1024x1024 : Shape := ⟨2, ![1024, 1024]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceUgateIdeal.lean ====
abbrev S4x256x1024 : Shape := ⟨3, ![4, 256, 1024]⟩
abbrev S_ : Shape := ⟨0, ![]⟩
abbrev S1024x1024 : Shape := ⟨2, ![1024, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S1024x1024, .f32⟩
  | .hbm, ⟨38, _⟩ => ⟨S1024x1024, .f32⟩
  | .hbm, ⟨39, _⟩ => ⟨S1024x1024, .f32⟩
  | .hbm, ⟨40, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== KernelUproj.lean ====
abbrev S4x256x256 : Shape := ⟨3, ![4, 256, 256]⟩
abbrev S1024x256 : Shape := ⟨2, ![1024, 256]⟩

abbrev nBuf : Space → Nat
  | .hbm => 12
  | .vmem => 8
  | .smem => 0
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S1024x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceUprojIdeal.lean ====
abbrev S4x256x256 : Shape := ⟨3, ![4, 256, 256]⟩
abbrev S_ : Shape := ⟨0, ![]⟩
abbrev S1024x256 : Shape := ⟨2, ![1024, 256]⟩

abbrev nBuf : Space → Nat
  | .hbm => 41
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S_, .f32⟩
  | .hbm, ⟨5, _⟩ => ⟨S4x256x256, .f32⟩
  | .hbm, ⟨6, _⟩ => ⟨S4x256x256, .f32⟩
  | .hbm, ⟨7, _⟩ => ⟨S_, .f32⟩
  | .hbm, ⟨8, _⟩ => ⟨S4x256x256, .f32⟩
  | .hbm, ⟨9, _⟩ => ⟨S4x256x256, .f32⟩
  | .hbm, ⟨10, _⟩ => ⟨S4x256x256, .f32⟩
  | .hbm, ⟨11, _⟩ => ⟨S_, .f32⟩
  | .hbm, ⟨12, _⟩ => ⟨S4x256x256, .f32⟩
  | .hbm, ⟨13, _⟩ => ⟨S4x256x256, .f32⟩
  | .hbm, ⟨14, _⟩ => ⟨S4x256x256, .f32⟩
  | .hbm, ⟨15, _⟩ => ⟨S_, .f32⟩
  | .hbm, ⟨16, _⟩ => ⟨S4x256x256, .f32⟩
  | .hbm, ⟨17, _⟩ => ⟨S4x256x256, .f32⟩
  | .hbm, ⟨18, _⟩ => ⟨S4x256x256, .f32⟩
  | .hbm, ⟨19, _⟩ => ⟨S_, .f32⟩
  | .hbm, ⟨20, _⟩ => ⟨S4x256x256, .f32⟩
  | .hbm, ⟨21, _⟩ => ⟨S4x256x256, .f32⟩
  | .hbm, ⟨22, _⟩ => ⟨S_, .f32⟩
  | .hbm, ⟨23, _⟩ => ⟨S4x256x256, .f32⟩
  | .hbm, ⟨24, _⟩ => ⟨S4x256x256, .f32⟩
  | .hbm, ⟨25, _⟩ => ⟨S4x256x256, .f32⟩
  | .hbm, ⟨26, _⟩ => ⟨S_, .f32⟩
  | .hbm, ⟨27, _⟩ => ⟨S4x256x256, .f32⟩
  | .hbm, ⟨28, _⟩ => ⟨S4x256x256, .f32⟩
  | .hbm, ⟨29, _⟩ => ⟨S4x256x256, .f32⟩
  | .hbm, ⟨30, _⟩ => ⟨S_, .f32⟩
  | .hbm, ⟨31, _⟩ => ⟨S4x256x256, .f32⟩
  | .hbm, ⟨32, _⟩ => ⟨S4x256x256, .f32⟩
  | .hbm, ⟨33, _⟩ => ⟨S4x256x256, .f32⟩
  | .hbm, ⟨34, _⟩ => ⟨S_, .f32⟩
  | .hbm, ⟨35, _⟩ => ⟨S4x256x256, .f32⟩
  | .hbm, ⟨36, _⟩ => ⟨S4x256x256, .f32⟩
  | .hbm, ⟨37, _⟩ => ⟨S1024x256, .f32⟩
  | .hbm, ⟨38, _⟩ => ⟨S1024x256, .f32⟩
  | .hbm, ⟨39, _⟩ => ⟨S1024x256, .f32⟩
  | .hbm, ⟨40, _⟩ => ⟨S1024x256, .f32⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== KernelUsmall.lean ====
abbrev S4x1024 : Shape := ⟨2, ![4, 1024]⟩
abbrev S2x31x512 : Shape := ⟨3, ![2, 31, 512]⟩
abbrev S2x2048 : Shape := ⟨2, ![2, 2048]⟩
abbrev S2x512 : Shape := ⟨2, ![2, 512]⟩
abbrev S2x8x128x128 : Shape := ⟨4, ![2, 8, 128, 128]⟩
abbrev S2x8x128 : Shape := ⟨3, ![2, 8, 128]⟩
abbrev S1024 : Shape := ⟨1, ![1024]⟩
abbrev S8x512 : Shape := ⟨2, ![8, 512]⟩
abbrev S62x512 : Shape := ⟨2, ![62, 512]⟩
abbrev S_ : Shape := ⟨0, ![]⟩
abbrev S64x512 : Shape := ⟨2, ![64, 512]⟩
abbrev S512x512 : Shape := ⟨2, ![512, 512]⟩
abbrev S4x512 : Shape := ⟨2, ![4, 512]⟩
abbrev S648x512 : Shape := ⟨2, ![648, 512]⟩

abbrev nBuf : Space → Nat
  | .hbm => 148
  | .vmem => 8
  | .smem => 0
  | _ => 0

abbrev hbmTy0_0 (i : Nat) : BufTy := match i % 128 with
  | 0 => ⟨S4x1024, .f32⟩
  | 1 => ⟨S2x31x512, .f32⟩
  | 2 => ⟨S2x2048, .f32⟩
  | 3 => ⟨S2x2048, .f32⟩
  | 4 => ⟨S2x2048, .f32⟩
  | 5 => ⟨S2x512, .f32⟩
  | 6 => ⟨S2x512, .f32⟩
  | 7 => ⟨S2x8x128x128, .f32⟩
  | 8 => ⟨S2x8x128, .f32⟩
  | 9 => ⟨S4x1024, .f32⟩
  | 10 => ⟨S1024, .f32⟩
  | 11 => ⟨S4x1024, .f32⟩
  | 12 => ⟨S2x31x512, .f32⟩
  | 13 => ⟨S2x2048, .f32⟩
  | 14 => ⟨S2x2048, .f32⟩
  | 15 => ⟨S2x2048, .f32⟩
  | 16 => ⟨S2x512, .f32⟩
  | 17 => ⟨S2x512, .f32⟩
  | 18 => ⟨S2x8x128x128, .f32⟩
  | 19 => ⟨S2x8x128, .f32⟩
  | 20 => ⟨S4x1024, .f32⟩
  | 21 => ⟨S1024, .f32⟩
  | 22 => ⟨S4x1024, .f32⟩
  | 23 => ⟨S2x31x512, .f32⟩
  | 24 => ⟨S2x2048, .f32⟩
  | 25 => ⟨S2x2048, .f32⟩
  | 26 => ⟨S2x2048, .f32⟩
  | 27 => ⟨S2x512, .f32⟩
  | 28 => ⟨S2x512, .f32⟩
  | 29 => ⟨S2x8x128x128, .f32⟩
  | 30 => ⟨S2x8x128, .f32⟩
  | 31 => ⟨S4x1024, .f32⟩
  | 32 => ⟨S1024, .f32⟩
  | 33 => ⟨S4x1024, .f32⟩
  | 34 => ⟨S2x31x512, .f32⟩
  | 35 => ⟨S2x2048, .f32⟩
  | 36 => ⟨S2x2048, .f32⟩
  | 37 => ⟨S2x2048, .f32⟩
  | 38 => ⟨S2x512, .f32⟩
  | 39 => ⟨S2x512, .f32⟩
  | 40 => ⟨S2x8x128x128, .f32⟩
  | 41 => ⟨S2x8x128, .f32⟩
  | 42 => ⟨S4x1024, .f32⟩
  | 43 => ⟨S1024, .f32⟩
  | 44 => ⟨S8x512, .f32⟩
  | 45 => ⟨S62x512, .f32⟩
  | 46 => ⟨S_, .i32⟩
  | 47 => ⟨S_, .f32⟩
  | 48 => ⟨S64x512, .f32⟩
  | 49 => ⟨S8x512, .f32⟩
  | 50 => ⟨S8x512, .f32⟩
  | 51 => ⟨S8x512, .f32⟩
  | 52 => ⟨S_, .i32⟩
  | 53 => ⟨S_, .f32⟩
  | 54 => ⟨S8x512, .f32⟩
  | 55 => ⟨S_, .i32⟩
  | 56 => ⟨S_, .f32⟩
  | 57 => ⟨S8x512, .f32⟩
  | 58 => ⟨S512x512, .f32⟩
  | 59 => ⟨S4x512, .f32⟩
  | 60 => ⟨S_, .i32⟩
  | 61 => ⟨S_, .f32⟩
  | 62 => ⟨S8x512, .f32⟩
  | 63 => ⟨S8x512, .f32⟩
  | 64 => ⟨S2x512, .f32⟩
  | 65 => ⟨S_, .i32⟩
  | 66 => ⟨S_, .f32⟩
  | 67 => ⟨S8x512, .f32⟩
  | 68 => ⟨S648x512, .f32⟩
  | 69 => ⟨S8x512, .f32⟩
  | 70 => ⟨S62x512, .f32⟩
  | 71 => ⟨S_, .i32⟩
  | 72 => ⟨S_, .f32⟩
  | 73 => ⟨S64x512, .f32⟩
  | 74 => ⟨S8x512, .f32⟩
  | 75 => ⟨S8x512, .f32⟩
  | 76 => ⟨S8x512, .f32⟩
  | 77 => ⟨S_, .i32⟩
  | 78 => ⟨S_, .f32⟩
  | 79 => ⟨S8x512, .f32⟩
  | 80 => ⟨S_, .i32⟩
  | 81 => ⟨S_, .f32⟩
  | 82 => ⟨S8x512, .f32⟩
  | 83 => ⟨S512x512, .f32⟩
  | 84 => ⟨S4x512, .f32⟩
  | 85 => ⟨S_, .i32⟩
  | 86 => ⟨S_, .f32⟩
  | 87 => ⟨S8x512, .f32⟩
  | 88 => ⟨S8x512, .f32⟩
  | 89 => ⟨S2x512, .f32⟩
  | 90 => ⟨S_, .i32⟩
  | 91 => ⟨S_, .f32⟩
  | 92 => ⟨S8x512, .f32⟩
  | 93 => ⟨S648x512, .f32⟩
  | 94 => ⟨S8x512, .f32⟩
  | 95 => ⟨S62x512, .f32⟩
  | 96 => ⟨S_, .i32⟩
  | 97 => ⟨S_, .f32⟩
  | 98 => ⟨S64x512, .f32⟩
  | 99 => ⟨S8x512, .f32⟩
  | 100 => ⟨S8x512, .f32⟩
  | 101 => ⟨S8x512, .f32⟩
  | 102 => ⟨S_, .i32⟩
  | 103 => ⟨S_, .f32⟩
  | 104 => ⟨S8x512, .f32⟩
  | 105 => ⟨S_, .i32⟩
  | 106 => ⟨S_, .f32⟩
  | 107 => ⟨S8x512, .f32⟩
  | 108 => ⟨S512x512, .f32⟩
  | 109 => ⟨S4x512, .f32⟩
  | 110 => ⟨S_, .i32⟩
  | 111 => ⟨S_, .f32⟩
  | 112 => ⟨S8x512, .f32⟩
  | 113 => ⟨S8x512, .f32⟩
  | 114 => ⟨S2x512, .f32⟩
  | 115 => ⟨S_, .i32⟩
  | 116 => ⟨S_, .f32⟩
  | 117 => ⟨S8x512, .f32⟩
  | 118 => ⟨S648x512, .f32⟩
  | 119 => ⟨S8x512, .f32⟩
  | 120 => ⟨S62x512, .f32⟩
  | 121 => ⟨S_, .i32⟩
  | 122 => ⟨S_, .f32⟩
  | 123 => ⟨S64x512, .f32⟩
  | 124 => ⟨S8x512, .f32⟩
  | 125 => ⟨S8x512, .f32⟩
  | 126 => ⟨S8x512, .f32⟩
  | 127 => ⟨S_, .i32⟩
  | _ => ⟨S4x1024, .f32⟩

abbrev hbmTy0_1 (i : Nat) : BufTy := match i % 128 with
  | 0 => ⟨S_, .f32⟩
  | 1 => ⟨S8x512, .f32⟩
  | 2 => ⟨S_, .i32⟩
  | 3 => ⟨S_, .f32⟩
  | 4 => ⟨S8x512, .f32⟩
  | 5 => ⟨S512x512, .f32⟩
  | 6 => ⟨S4x512, .f32⟩
  | 7 => ⟨S_, .i32⟩
  | 8 => ⟨S_, .f32⟩
  | 9 => ⟨S8x512, .f32⟩
  | 10 => ⟨S8x512, .f32⟩
  | 11 => ⟨S2x512, .f32⟩
  | 12 => ⟨S_, .i32⟩
  | 13 => ⟨S_, .f32⟩
  | 14 => ⟨S8x512, .f32⟩
  | 15 => ⟨S648x512, .f32⟩
  | 16 => ⟨S648x512, .f32⟩
  | 17 => ⟨S648x512, .f32⟩
  | 18 => ⟨S648x512, .f32⟩
  | 19 => ⟨S648x512, .f32⟩
  | _ => ⟨S4x1024, .f32⟩

abbrev hbmTy (i : Nat) : BufTy := match i / 128 with
  | 0 => hbmTy0_0 i
  | 1 => hbmTy0_1 i
  | _ => ⟨S4x1024, .f32⟩

abbrev bufTy : (tb : Table) → Fin (tcTables nBuf tb) → BufTy
  | .hbm, ⟨i, _⟩ => hbmTy i
  | .local _ .vmem, ⟨0, _⟩ => ⟨S648x512, .f32⟩
  | .local _ .vmem, ⟨1, _⟩ => ⟨S648x512, .f32⟩
  | .local _ .vmem, ⟨2, _⟩ => ⟨S648x512, .f32⟩
  | .local _ .vmem, ⟨3, _⟩ => ⟨S648x512, .f32⟩
  | .local _ .vmem, ⟨4, _⟩ => ⟨S648x512, .f32⟩
  | .local _ .vmem, ⟨5, _⟩ => ⟨S648x512, .f32⟩
  | .local _ .vmem, ⟨6, _⟩ => ⟨S648x512, .f32⟩
  | .local _ .vmem, ⟨7, _⟩ => ⟨S648x512, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_v0 : Ref sig .tc := ⟨.hbm, 44, rfl⟩
abbrev main_v1 : Ref sig .tc := ⟨.hbm, 45, rfl⟩
abbrev main_c : Ref sig .tc := ⟨.hbm, 46, rfl⟩
abbrev main_call0_v0 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_v5 : Ref sig .tc := ⟨.hbm, 51, rfl⟩
abbrev main_c_0 : Ref sig .tc := ⟨.hbm, 52, rfl⟩
abbrev main_call1_v0 : Ref sig .tc := ⟨.hbm, 53, rfl⟩
abbrev main_v6 : Ref sig .tc := ⟨.hbm, 54, rfl⟩
abbrev main_c_1 : Ref sig .tc := ⟨.hbm, 55, rfl⟩
abbrev main_call2_v0 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_c_2 : Ref sig .tc := ⟨.hbm, 60, rfl⟩
abbrev main_call3_v0 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_c_3 : Ref sig .tc := ⟨.hbm, 65, rfl⟩
abbrev main_call4_v0 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_c_4 : Ref sig .tc := ⟨.hbm, 71, rfl⟩
abbrev main_call5_v0 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_c_5 : Ref sig .tc := ⟨.hbm, 77, rfl⟩
abbrev main_call6_v0 : Ref sig .tc := ⟨.hbm, 78, rfl⟩
abbrev main_v21 : Ref sig .tc := ⟨.hbm, 79, rfl⟩
abbrev main_c_6 : Ref sig .tc := ⟨.hbm, 80, rfl⟩
abbrev main_call7_v0 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_c_7 : Ref sig .tc := ⟨.hbm, 85, rfl⟩
abbrev main_call8_v0 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_c_8 : Ref sig .tc := ⟨.hbm, 90, rfl⟩
abbrev main_call9_v0 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_c_9 : Ref sig .tc := ⟨.hbm, 96, rfl⟩
abbrev main_call10_v0 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_c_10 : Ref sig .tc := ⟨.hbm, 102, rfl⟩
abbrev main_call11_v0 : Ref sig .tc := ⟨.hbm, 103, rfl⟩
abbrev main_v36 : Ref sig .tc := ⟨.hbm, 104, rfl⟩
abbrev main_c_11 : Ref sig .tc := ⟨.hbm, 105, rfl⟩
abbrev main_call12_v0 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_c_12 : Ref sig .tc := ⟨.hbm, 110, rfl⟩
abbrev main_call13_v0 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_c_13 : Ref sig .tc := ⟨.hbm, 115, rfl⟩
abbrev main_call14_v0 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_c_14 : Ref sig .tc := ⟨.hbm, 121, rfl⟩
abbrev main_call15_v0 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_c_15 : Ref sig .tc := ⟨.hbm, 127, rfl⟩
abbrev main_call16_v0 : Ref sig .tc := ⟨.hbm, 128, rfl⟩
abbrev main_v51 : Ref sig .tc := ⟨.hbm, 129, rfl⟩
abbrev main_c_16 : Ref sig .tc := ⟨.hbm, 130, rfl⟩
abbrev main_call17_v0 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_c_17 : Ref sig .tc := ⟨.hbm, 135, rfl⟩
abbrev main_call18_v0 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_c_18 : Ref sig .tc := ⟨.hbm, 140, rfl⟩
abbrev main_call19_v0 : Ref sig .tc := ⟨.hbm, 141, rfl⟩
abbrev main_v58 : Ref sig .tc := ⟨.hbm, 142, rfl⟩
abbrev main_v59 : Ref sig .tc := ⟨.hbm, 143, rfl⟩
abbrev main_v60_0 : Ref sig .tc := ⟨.hbm, 144, rfl⟩
abbrev main_v60_1 : Ref sig .tc := ⟨.hbm, 145, rfl⟩
abbrev main_v60_2 : Ref sig .tc := ⟨.hbm, 146, rfl⟩
abbrev main_v60_3 : Ref sig .tc := ⟨.hbm, 147, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S648x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S648x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S648x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S648x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S648x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S648x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S648x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S648x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceUsmallIdeal.lean ====
abbrev S4x1024 : Shape := ⟨2, ![4, 1024]⟩
abbrev S2x31x512 : Shape := ⟨3, ![2, 31, 512]⟩
abbrev S2x2048 : Shape := ⟨2, ![2, 2048]⟩
abbrev S2x512 : Shape := ⟨2, ![2, 512]⟩
abbrev S2x8x128x128 : Shape := ⟨4, ![2, 8, 128, 128]⟩
abbrev S2x8x128 : Shape := ⟨3, ![2, 8, 128]⟩
abbrev S1024 : Shape := ⟨1, ![1024]⟩
abbrev S_ : Shape := ⟨0, ![]⟩
abbrev S8x512 : Shape := ⟨2, ![8, 512]⟩
abbrev S62x512 : Shape := ⟨2, ![62, 512]⟩
abbrev S512x512 : Shape := ⟨2, ![512, 512]⟩
abbrev S4x512 : Shape := ⟨2, ![4, 512]⟩
abbrev S64x512 : Shape := ⟨2, ![64, 512]⟩
abbrev S648x512 : Shape := ⟨2, ![648, 512]⟩

abbrev nBuf : Space → Nat
  | .hbm => 579
  | .vmem => 0
  | .smem => 0
  | _ => 0

abbrev hbmTy0_0 (i : Nat) : BufTy := match i % 128 with
  | 0 => ⟨S4x1024, .f32⟩
  | 1 => ⟨S2x31x512, .f32⟩
  | 2 => ⟨S2x2048, .f32⟩
  | 3 => ⟨S2x2048, .f32⟩
  | 4 => ⟨S2x2048, .f32⟩
  | 5 => ⟨S2x512, .f32⟩
  | 6 => ⟨S2x512, .f32⟩
  | 7 => ⟨S2x8x128x128, .f32⟩
  | 8 => ⟨S2x8x128, .f32⟩
  | 9 => ⟨S4x1024, .f32⟩
  | 10 => ⟨S1024, .f32⟩
  | 11 => ⟨S4x1024, .f32⟩
  | 12 => ⟨S2x31x512, .f32⟩
  | 13 => ⟨S2x2048, .f32⟩
  | 14 => ⟨S2x2048, .f32⟩
  | 15 => ⟨S2x2048, .f32⟩
  | 16 => ⟨S2x512, .f32⟩
  | 17 => ⟨S2x512, .f32⟩
  | 18 => ⟨S2x8x128x128, .f32⟩
  | 19 => ⟨S2x8x128, .f32⟩
  | 20 => ⟨S4x1024, .f32⟩
  | 21 => ⟨S1024, .f32⟩
  | 22 => ⟨S4x1024, .f32⟩
  | 23 => ⟨S2x31x512, .f32⟩
  | 24 => ⟨S2x2048, .f32⟩
  | 25 => ⟨S2x2048, .f32⟩
  | 26 => ⟨S2x2048, .f32⟩
  | 27 => ⟨S2x512, .f32⟩
  | 28 => ⟨S2x512, .f32⟩
  | 29 => ⟨S2x8x128x128, .f32⟩
  | 30 => ⟨S2x8x128, .f32⟩
  | 31 => ⟨S4x1024, .f32⟩
  | 32 => ⟨S1024, .f32⟩
  | 33 => ⟨S4x1024, .f32⟩
  | 34 => ⟨S2x31x512, .f32⟩
  | 35 => ⟨S2x2048, .f32⟩
  | 36 => ⟨S2x2048, .f32⟩
  | 37 => ⟨S2x2048, .f32⟩
  | 38 => ⟨S2x512, .f32⟩
  | 39 => ⟨S2x512, .f32⟩
  | 40 => ⟨S2x8x128x128, .f32⟩
  | 41 => ⟨S2x8x128, .f32⟩
  | 42 => ⟨S4x1024, .f32⟩
  | 43 => ⟨S1024, .f32⟩
  | 44 => ⟨S_, .f32⟩
  | 45 => ⟨S4x1024, .f32⟩
  | 46 => ⟨S4x1024, .f32⟩
  | 47 => ⟨S_, .f32⟩
  | 48 => ⟨S4x1024, .f32⟩
  | 49 => ⟨S4x1024, .f32⟩
  | 50 => ⟨S4x1024, .f32⟩
  | 51 => ⟨S_, .f32⟩
  | 52 => ⟨S4x1024, .f32⟩
  | 53 => ⟨S4x1024, .f32⟩
  | 54 => ⟨S4x1024, .f32⟩
  | 55 => ⟨S_, .f32⟩
  | 56 => ⟨S4x1024, .f32⟩
  | 57 => ⟨S4x1024, .f32⟩
  | 58 => ⟨S4x1024, .f32⟩
  | 59 => ⟨S_, .f32⟩
  | 60 => ⟨S4x1024, .f32⟩
  | 61 => ⟨S4x1024, .f32⟩
  | 62 => ⟨S_, .f32⟩
  | 63 => ⟨S4x1024, .f32⟩
  | 64 => ⟨S4x1024, .f32⟩
  | 65 => ⟨S4x1024, .f32⟩
  | 66 => ⟨S_, .f32⟩
  | 67 => ⟨S4x1024, .f32⟩
  | 68 => ⟨S4x1024, .f32⟩
  | 69 => ⟨S4x1024, .f32⟩
  | 70 => ⟨S_, .f32⟩
  | 71 => ⟨S4x1024, .f32⟩
  | 72 => ⟨S4x1024, .f32⟩
  | 73 => ⟨S4x1024, .f32⟩
  | 74 => ⟨S_, .f32⟩
  | 75 => ⟨S4x1024, .f32⟩
  | 76 => ⟨S4x1024, .f32⟩
  | 77 => ⟨S_, .f32⟩
  | 78 => ⟨S2x31x512, .f32⟩
  | 79 => ⟨S2x31x512, .f32⟩
  | 80 => ⟨S_, .f32⟩
  | 81 => ⟨S2x31x512, .f32⟩
  | 82 => ⟨S2x31x512, .f32⟩
  | 83 => ⟨S2x31x512, .f32⟩
  | 84 => ⟨S_, .f32⟩
  | 85 => ⟨S2x31x512, .f32⟩
  | 86 => ⟨S2x31x512, .f32⟩
  | 87 => ⟨S2x31x512, .f32⟩
  | 88 => ⟨S_, .f32⟩
  | 89 => ⟨S2x31x512, .f32⟩
  | 90 => ⟨S2x31x512, .f32⟩
  | 91 => ⟨S2x31x512, .f32⟩
  | 92 => ⟨S_, .f32⟩
  | 93 => ⟨S2x31x512, .f32⟩
  | 94 => ⟨S2x31x512, .f32⟩
  | 95 => ⟨S_, .f32⟩
  | 96 => ⟨S2x31x512, .f32⟩
  | 97 => ⟨S2x31x512, .f32⟩
  | 98 => ⟨S2x31x512, .f32⟩
  | 99 => ⟨S_, .f32⟩
  | 100 => ⟨S2x31x512, .f32⟩
  | 101 => ⟨S2x31x512, .f32⟩
  | 102 => ⟨S2x31x512, .f32⟩
  | 103 => ⟨S_, .f32⟩
  | 104 => ⟨S2x31x512, .f32⟩
  | 105 => ⟨S2x31x512, .f32⟩
  | 106 => ⟨S2x31x512, .f32⟩
  | 107 => ⟨S_, .f32⟩
  | 108 => ⟨S2x31x512, .f32⟩
  | 109 => ⟨S2x31x512, .f32⟩
  | 110 => ⟨S_, .f32⟩
  | 111 => ⟨S2x2048, .f32⟩
  | 112 => ⟨S2x2048, .f32⟩
  | 113 => ⟨S_, .f32⟩
  | 114 => ⟨S2x2048, .f32⟩
  | 115 => ⟨S2x2048, .f32⟩
  | 116 => ⟨S2x2048, .f32⟩
  | 117 => ⟨S_, .f32⟩
  | 118 => ⟨S2x2048, .f32⟩
  | 119 => ⟨S2x2048, .f32⟩
  | 120 => ⟨S2x2048, .f32⟩
  | 121 => ⟨S_, .f32⟩
  | 122 => ⟨S2x2048, .f32⟩
  | 123 => ⟨S2x2048, .f32⟩
  | 124 => ⟨S2x2048, .f32⟩
  | 125 => ⟨S_, .f32⟩
  | 126 => ⟨S2x2048, .f32⟩
  | 127 => ⟨S2x2048, .f32⟩
  | _ => ⟨S4x1024, .f32⟩

abbrev hbmTy0_1 (i : Nat) : BufTy := match i % 128 with
  | 0 => ⟨S_, .f32⟩
  | 1 => ⟨S2x2048, .f32⟩
  | 2 => ⟨S2x2048, .f32⟩
  | 3 => ⟨S2x2048, .f32⟩
  | 4 => ⟨S_, .f32⟩
  | 5 => ⟨S2x2048, .f32⟩
  | 6 => ⟨S2x2048, .f32⟩
  | 7 => ⟨S2x2048, .f32⟩
  | 8 => ⟨S_, .f32⟩
  | 9 => ⟨S2x2048, .f32⟩
  | 10 => ⟨S2x2048, .f32⟩
  | 11 => ⟨S2x2048, .f32⟩
  | 12 => ⟨S_, .f32⟩
  | 13 => ⟨S2x2048, .f32⟩
  | 14 => ⟨S2x2048, .f32⟩
  | 15 => ⟨S_, .f32⟩
  | 16 => ⟨S2x2048, .f32⟩
  | 17 => ⟨S2x2048, .f32⟩
  | 18 => ⟨S_, .f32⟩
  | 19 => ⟨S2x2048, .f32⟩
  | 20 => ⟨S2x2048, .f32⟩
  | 21 => ⟨S2x2048, .f32⟩
  | 22 => ⟨S_, .f32⟩
  | 23 => ⟨S2x2048, .f32⟩
  | 24 => ⟨S2x2048, .f32⟩
  | 25 => ⟨S2x2048, .f32⟩
  | 26 => ⟨S_, .f32⟩
  | 27 => ⟨S2x2048, .f32⟩
  | 28 => ⟨S2x2048, .f32⟩
  | 29 => ⟨S2x2048, .f32⟩
  | 30 => ⟨S_, .f32⟩
  | 31 => ⟨S2x2048, .f32⟩
  | 32 => ⟨S2x2048, .f32⟩
  | 33 => ⟨S_, .f32⟩
  | 34 => ⟨S2x2048, .f32⟩
  | 35 => ⟨S2x2048, .f32⟩
  | 36 => ⟨S2x2048, .f32⟩
  | 37 => ⟨S_, .f32⟩
  | 38 => ⟨S2x2048, .f32⟩
  | 39 => ⟨S2x2048, .f32⟩
  | 40 => ⟨S2x2048, .f32⟩
  | 41 => ⟨S_, .f32⟩
  | 42 => ⟨S2x2048, .f32⟩
  | 43 => ⟨S2x2048, .f32⟩
  | 44 => ⟨S2x2048, .f32⟩
  | 45 => ⟨S_, .f32⟩
  | 46 => ⟨S2x2048, .f32⟩
  | 47 => ⟨S2x2048, .f32⟩
  | 48 => ⟨S_, .f32⟩
  | 49 => ⟨S2x2048, .f32⟩
  | 50 => ⟨S2x2048, .f32⟩
  | 51 => ⟨S_, .f32⟩
  | 52 => ⟨S2x2048, .f32⟩
  | 53 => ⟨S2x2048, .f32⟩
  | 54 => ⟨S2x2048, .f32⟩
  | 55 => ⟨S_, .f32⟩
  | 56 => ⟨S2x2048, .f32⟩
  | 57 => ⟨S2x2048, .f32⟩
  | 58 => ⟨S2x2048, .f32⟩
  | 59 => ⟨S_, .f32⟩
  | 60 => ⟨S2x2048, .f32⟩
  | 61 => ⟨S2x2048, .f32⟩
  | 62 => ⟨S2x2048, .f32⟩
  | 63 => ⟨S_, .f32⟩
  | 64 => ⟨S2x2048, .f32⟩
  | 65 => ⟨S2x2048, .f32⟩
  | 66 => ⟨S_, .f32⟩
  | 67 => ⟨S2x2048, .f32⟩
  | 68 => ⟨S2x2048, .f32⟩
  | 69 => ⟨S2x2048, .f32⟩
  | 70 => ⟨S_, .f32⟩
  | 71 => ⟨S2x2048, .f32⟩
  | 72 => ⟨S2x2048, .f32⟩
  | 73 => ⟨S2x2048, .f32⟩
  | 74 => ⟨S_, .f32⟩
  | 75 => ⟨S2x2048, .f32⟩
  | 76 => ⟨S2x2048, .f32⟩
  | 77 => ⟨S2x2048, .f32⟩
  | 78 => ⟨S_, .f32⟩
  | 79 => ⟨S2x2048, .f32⟩
  | 80 => ⟨S2x2048, .f32⟩
  | 81 => ⟨S_, .f32⟩
  | 82 => ⟨S2x512, .f32⟩
  | 83 => ⟨S2x512, .f32⟩
  | 84 => ⟨S_, .f32⟩
  | 85 => ⟨S2x512, .f32⟩
  | 86 => ⟨S2x512, .f32⟩
  | 87 => ⟨S2x512, .f32⟩
  | 88 => ⟨S_, .f32⟩
  | 89 => ⟨S2x512, .f32⟩
  | 90 => ⟨S2x512, .f32⟩
  | 91 => ⟨S2x512, .f32⟩
  | 92 => ⟨S_, .f32⟩
  | 93 => ⟨S2x512, .f32⟩
  | 94 => ⟨S2x512, .f32⟩
  | 95 => ⟨S2x512, .f32⟩
  | 96 => ⟨S_, .f32⟩
  | 97 => ⟨S2x512, .f32⟩
  | 98 => ⟨S2x512, .f32⟩
  | 99 => ⟨S_, .f32⟩
  | 100 => ⟨S2x512, .f32⟩
  | 101 => ⟨S2x512, .f32⟩
  | 102 => ⟨S2x512, .f32⟩
  | 103 => ⟨S_, .f32⟩
  | 104 => ⟨S2x512, .f32⟩
  | 105 => ⟨S2x512, .f32⟩
  | 106 => ⟨S2x512, .f32⟩
  | 107 => ⟨S_, .f32⟩
  | 108 => ⟨S2x512, .f32⟩
  | 109 => ⟨S2x512, .f32⟩
  | 110 => ⟨S2x512, .f32⟩
  | 111 => ⟨S_, .f32⟩
  | 112 => ⟨S2x512, .f32⟩
  | 113 => ⟨S2x512, .f32⟩
  | 114 => ⟨S_, .f32⟩
  | 115 => ⟨S2x512, .f32⟩
  | 116 => ⟨S2x512, .f32⟩
  | 117 => ⟨S_, .f32⟩
  | 118 => ⟨S2x512, .f32⟩
  | 119 => ⟨S2x512, .f32⟩
  | 120 => ⟨S2x512, .f32⟩
  | 121 => ⟨S_, .f32⟩
  | 122 => ⟨S2x512, .f32⟩
  | 123 => ⟨S2x512, .f32⟩
  | 124 => ⟨S2x512, .f32⟩
  | 125 => ⟨S_, .f32⟩
  | 126 => ⟨S2x512, .f32⟩
  | 127 => ⟨S2x512, .f32⟩
  | _ => ⟨S4x1024, .f32⟩

abbrev hbmTy0_2 (i : Nat) : BufTy := match i % 128 with
  | 0 => ⟨S2x512, .f32⟩
  | 1 => ⟨S_, .f32⟩
  | 2 => ⟨S2x512, .f32⟩
  | 3 => ⟨S2x512, .f32⟩
  | 4 => ⟨S_, .f32⟩
  | 5 => ⟨S2x512, .f32⟩
  | 6 => ⟨S2x512, .f32⟩
  | 7 => ⟨S2x512, .f32⟩
  | 8 => ⟨S_, .f32⟩
  | 9 => ⟨S2x512, .f32⟩
  | 10 => ⟨S2x512, .f32⟩
  | 11 => ⟨S2x512, .f32⟩
  | 12 => ⟨S_, .f32⟩
  | 13 => ⟨S2x512, .f32⟩
  | 14 => ⟨S2x512, .f32⟩
  | 15 => ⟨S2x512, .f32⟩
  | 16 => ⟨S_, .f32⟩
  | 17 => ⟨S2x512, .f32⟩
  | 18 => ⟨S2x512, .f32⟩
  | 19 => ⟨S_, .f32⟩
  | 20 => ⟨S2x8x128x128, .f32⟩
  | 21 => ⟨S2x8x128x128, .f32⟩
  | 22 => ⟨S_, .f32⟩
  | 23 => ⟨S2x8x128x128, .f32⟩
  | 24 => ⟨S2x8x128x128, .f32⟩
  | 25 => ⟨S2x8x128x128, .f32⟩
  | 26 => ⟨S_, .f32⟩
  | 27 => ⟨S2x8x128x128, .f32⟩
  | 28 => ⟨S2x8x128x128, .f32⟩
  | 29 => ⟨S2x8x128x128, .f32⟩
  | 30 => ⟨S_, .f32⟩
  | 31 => ⟨S2x8x128x128, .f32⟩
  | 32 => ⟨S2x8x128x128, .f32⟩
  | 33 => ⟨S2x8x128x128, .f32⟩
  | 34 => ⟨S_, .f32⟩
  | 35 => ⟨S2x8x128x128, .f32⟩
  | 36 => ⟨S2x8x128x128, .f32⟩
  | 37 => ⟨S_, .f32⟩
  | 38 => ⟨S2x8x128x128, .f32⟩
  | 39 => ⟨S2x8x128x128, .f32⟩
  | 40 => ⟨S2x8x128x128, .f32⟩
  | 41 => ⟨S_, .f32⟩
  | 42 => ⟨S2x8x128x128, .f32⟩
  | 43 => ⟨S2x8x128x128, .f32⟩
  | 44 => ⟨S2x8x128x128, .f32⟩
  | 45 => ⟨S_, .f32⟩
  | 46 => ⟨S2x8x128x128, .f32⟩
  | 47 => ⟨S2x8x128x128, .f32⟩
  | 48 => ⟨S2x8x128x128, .f32⟩
  | 49 => ⟨S_, .f32⟩
  | 50 => ⟨S2x8x128x128, .f32⟩
  | 51 => ⟨S2x8x128x128, .f32⟩
  | 52 => ⟨S_, .f32⟩
  | 53 => ⟨S2x8x128, .f32⟩
  | 54 => ⟨S2x8x128, .f32⟩
  | 55 => ⟨S_, .f32⟩
  | 56 => ⟨S2x8x128, .f32⟩
  | 57 => ⟨S2x8x128, .f32⟩
  | 58 => ⟨S2x8x128, .f32⟩
  | 59 => ⟨S_, .f32⟩
  | 60 => ⟨S2x8x128, .f32⟩
  | 61 => ⟨S2x8x128, .f32⟩
  | 62 => ⟨S2x8x128, .f32⟩
  | 63 => ⟨S_, .f32⟩
  | 64 => ⟨S2x8x128, .f32⟩
  | 65 => ⟨S2x8x128, .f32⟩
  | 66 => ⟨S2x8x128, .f32⟩
  | 67 => ⟨S_, .f32⟩
  | 68 => ⟨S2x8x128, .f32⟩
  | 69 => ⟨S2x8x128, .f32⟩
  | 70 => ⟨S_, .f32⟩
  | 71 => ⟨S2x8x128, .f32⟩
  | 72 => ⟨S2x8x128, .f32⟩
  | 73 => ⟨S2x8x128, .f32⟩
  | 74 => ⟨S_, .f32⟩
  | 75 => ⟨S2x8x128, .f32⟩
  | 76 => ⟨S2x8x128, .f32⟩
  | 77 => ⟨S2x8x128, .f32⟩
  | 78 => ⟨S_, .f32⟩
  | 79 => ⟨S2x8x128, .f32⟩
  | 80 => ⟨S2x8x128, .f32⟩
  | 81 => ⟨S2x8x128, .f32⟩
  | 82 => ⟨S_, .f32⟩
  | 83 => ⟨S2x8x128, .f32⟩
  | 84 => ⟨S2x8x128, .f32⟩
  | 85 => ⟨S_, .f32⟩
  | 86 => ⟨S4x1024, .f32⟩
  | 87 => ⟨S4x1024, .f32⟩
  | 88 => ⟨S_, .f32⟩
  | 89 => ⟨S4x1024, .f32⟩
  | 90 => ⟨S4x1024, .f32⟩
  | 91 => ⟨S4x1024, .f32⟩
  | 92 => ⟨S_, .f32⟩
  | 93 => ⟨S4x1024, .f32⟩
  | 94 => ⟨S4x1024, .f32⟩
  | 95 => ⟨S4x1024, .f32⟩
  | 96 => ⟨S_, .f32⟩
  | 97 => ⟨S4x1024, .f32⟩
  | 98 => ⟨S4x1024, .f32⟩
  | 99 => ⟨S4x1024, .f32⟩
  | 100 => ⟨S_, .f32⟩
  | 101 => ⟨S4x1024, .f32⟩
  | 102 => ⟨S4x1024, .f32⟩
  | 103 => ⟨S_, .f32⟩
  | 104 => ⟨S4x1024, .f32⟩
  | 105 => ⟨S4x1024, .f32⟩
  | 106 => ⟨S4x1024, .f32⟩
  | 107 => ⟨S_, .f32⟩
  | 108 => ⟨S4x1024, .f32⟩
  | 109 => ⟨S4x1024, .f32⟩
  | 110 => ⟨S4x1024, .f32⟩
  | 111 => ⟨S_, .f32⟩
  | 112 => ⟨S4x1024, .f32⟩
  | 113 => ⟨S4x1024, .f32⟩
  | 114 => ⟨S4x1024, .f32⟩
  | 115 => ⟨S_, .f32⟩
  | 116 => ⟨S4x1024, .f32⟩
  | 117 => ⟨S4x1024, .f32⟩
  | 118 => ⟨S_, .f32⟩
  | 119 => ⟨S1024, .f32⟩
  | 120 => ⟨S1024, .f32⟩
  | 121 => ⟨S_, .f32⟩
  | 122 => ⟨S1024, .f32⟩
  | 123 => ⟨S1024, .f32⟩
  | 124 => ⟨S1024, .f32⟩
  | 125 => ⟨S_, .f32⟩
  | 126 => ⟨S1024, .f32⟩
  | 127 => ⟨S1024, .f32⟩
  | _ => ⟨S4x1024, .f32⟩

abbrev hbmTy0_3 (i : Nat) : BufTy := match i % 128 with
  | 0 => ⟨S1024, .f32⟩
  | 1 => ⟨S_, .f32⟩
  | 2 => ⟨S1024, .f32⟩
  | 3 => ⟨S1024, .f32⟩
  | 4 => ⟨S1024, .f32⟩
  | 5 => ⟨S_, .f32⟩
  | 6 => ⟨S1024, .f32⟩
  | 7 => ⟨S1024, .f32⟩
  | 8 => ⟨S_, .f32⟩
  | 9 => ⟨S1024, .f32⟩
  | 10 => ⟨S1024, .f32⟩
  | 11 => ⟨S1024, .f32⟩
  | 12 => ⟨S_, .f32⟩
  | 13 => ⟨S1024, .f32⟩
  | 14 => ⟨S1024, .f32⟩
  | 15 => ⟨S1024, .f32⟩
  | 16 => ⟨S_, .f32⟩
  | 17 => ⟨S1024, .f32⟩
  | 18 => ⟨S1024, .f32⟩
  | 19 => ⟨S1024, .f32⟩
  | 20 => ⟨S_, .f32⟩
  | 21 => ⟨S1024, .f32⟩
  | 22 => ⟨S1024, .f32⟩
  | 23 => ⟨S8x512, .f32⟩
  | 24 => ⟨S62x512, .f32⟩
  | 25 => ⟨S8x512, .f32⟩
  | 26 => ⟨S8x512, .f32⟩
  | 27 => ⟨S8x512, .f32⟩
  | 28 => ⟨S512x512, .f32⟩
  | 29 => ⟨S4x512, .f32⟩
  | 30 => ⟨S8x512, .f32⟩
  | 31 => ⟨S2x512, .f32⟩
  | 32 => ⟨S8x512, .f32⟩
  | 33 => ⟨S62x512, .f32⟩
  | 34 => ⟨S8x512, .f32⟩
  | 35 => ⟨S8x512, .f32⟩
  | 36 => ⟨S8x512, .f32⟩
  | 37 => ⟨S512x512, .f32⟩
  | 38 => ⟨S4x512, .f32⟩
  | 39 => ⟨S8x512, .f32⟩
  | 40 => ⟨S2x512, .f32⟩
  | 41 => ⟨S8x512, .f32⟩
  | 42 => ⟨S62x512, .f32⟩
  | 43 => ⟨S8x512, .f32⟩
  | 44 => ⟨S8x512, .f32⟩
  | 45 => ⟨S8x512, .f32⟩
  | 46 => ⟨S512x512, .f32⟩
  | 47 => ⟨S4x512, .f32⟩
  | 48 => ⟨S8x512, .f32⟩
  | 49 => ⟨S2x512, .f32⟩
  | 50 => ⟨S8x512, .f32⟩
  | 51 => ⟨S62x512, .f32⟩
  | 52 => ⟨S8x512, .f32⟩
  | 53 => ⟨S8x512, .f32⟩
  | 54 => ⟨S8x512, .f32⟩
  | 55 => ⟨S512x512, .f32⟩
  | 56 => ⟨S4x512, .f32⟩
  | 57 => ⟨S8x512, .f32⟩
  | 58 => ⟨S2x512, .f32⟩
  | 59 => ⟨S_, .i32⟩
  | 60 => ⟨S_, .f32⟩
  | 61 => ⟨S8x512, .f32⟩
  | 62 => ⟨S_, .i32⟩
  | 63 => ⟨S_, .f32⟩
  | 64 => ⟨S64x512, .f32⟩
  | 65 => ⟨S_, .i32⟩
  | 66 => ⟨S_, .f32⟩
  | 67 => ⟨S8x512, .f32⟩
  | 68 => ⟨S_, .i32⟩
  | 69 => ⟨S_, .f32⟩
  | 70 => ⟨S8x512, .f32⟩
  | 71 => ⟨S_, .i32⟩
  | 72 => ⟨S_, .f32⟩
  | 73 => ⟨S8x512, .f32⟩
  | 74 => ⟨S_, .i32⟩
  | 75 => ⟨S_, .f32⟩
  | 76 => ⟨S8x512, .f32⟩
  | 77 => ⟨S_, .i32⟩
  | 78 => ⟨S_, .f32⟩
  | 79 => ⟨S8x512, .f32⟩
  | 80 => ⟨S_, .i32⟩
  | 81 => ⟨S_, .f32⟩
  | 82 => ⟨S512x512, .f32⟩
  | 83 => ⟨S_, .i32⟩
  | 84 => ⟨S_, .f32⟩
  | 85 => ⟨S8x512, .f32⟩
  | 86 => ⟨S_, .i32⟩
  | 87 => ⟨S_, .f32⟩
  | 88 => ⟨S8x512, .f32⟩
  | 89 => ⟨S_, .i32⟩
  | 90 => ⟨S_, .f32⟩
  | 91 => ⟨S8x512, .f32⟩
  | 92 => ⟨S648x512, .f32⟩
  | 93 => ⟨S_, .i32⟩
  | 94 => ⟨S_, .f32⟩
  | 95 => ⟨S8x512, .f32⟩
  | 96 => ⟨S_, .i32⟩
  | 97 => ⟨S_, .f32⟩
  | 98 => ⟨S64x512, .f32⟩
  | 99 => ⟨S_, .i32⟩
  | 100 => ⟨S_, .f32⟩
  | 101 => ⟨S8x512, .f32⟩
  | 102 => ⟨S_, .i32⟩
  | 103 => ⟨S_, .f32⟩
  | 104 => ⟨S8x512, .f32⟩
  | 105 => ⟨S_, .i32⟩
  | 106 => ⟨S_, .f32⟩
  | 107 => ⟨S8x512, .f32⟩
  | 108 => ⟨S_, .i32⟩
  | 109 => ⟨S_, .f32⟩
  | 110 => ⟨S8x512, .f32⟩
  | 111 => ⟨S_, .i32⟩
  | 112 => ⟨S_, .f32⟩
  | 113 => ⟨S8x512, .f32⟩
  | 114 => ⟨S_, .i32⟩
  | 115 => ⟨S_, .f32⟩
  | 116 => ⟨S512x512, .f32⟩
  | 117 => ⟨S_, .i32⟩
  | 118 => ⟨S_, .f32⟩
  | 119 => ⟨S8x512, .f32⟩
  | 120 => ⟨S_, .i32⟩
  | 121 => ⟨S_, .f32⟩
  | 122 => ⟨S8x512, .f32⟩
  | 123 => ⟨S_, .i32⟩
  | 124 => ⟨S_, .f32⟩
  | 125 => ⟨S8x512, .f32⟩
  | 126 => ⟨S648x512, .f32⟩
  | 127 => ⟨S_, .i32⟩
  | _ => ⟨S4x1024, .f32⟩

abbrev hbmTy0_4 (i : Nat) : BufTy := match i % 128 with
  | 0 => ⟨S_, .f32⟩
  | 1 => ⟨S8x512, .f32⟩
  | 2 => ⟨S_, .i32⟩
  | 3 => ⟨S_, .f32⟩
  | 4 => ⟨S64x512, .f32⟩
  | 5 => ⟨S_, .i32⟩
  | 6 => ⟨S_, .f32⟩
  | 7 => ⟨S8x512, .f32⟩
  | 8 => ⟨S_, .i32⟩
  | 9 => ⟨S_, .f32⟩
  | 10 => ⟨S8x512, .f32⟩
  | 11 => ⟨S_, .i32⟩
  | 12 => ⟨S_, .f32⟩
  | 13 => ⟨S8x512, .f32⟩
  | 14 => ⟨S_, .i32⟩
  | 15 => ⟨S_, .f32⟩
  | 16 => ⟨S8x512, .f32⟩
  | 17 => ⟨S_, .i32⟩
  | 18 => ⟨S_, .f32⟩
  | 19 => ⟨S8x512, .f32⟩
  | 20 => ⟨S_, .i32⟩
  | 21 => ⟨S_, .f32⟩
  | 22 => ⟨S512x512, .f32⟩
  | 23 => ⟨S_, .i32⟩
  | 24 => ⟨S_, .f32⟩
  | 25 => ⟨S8x512, .f32⟩
  | 26 => ⟨S_, .i32⟩
  | 27 => ⟨S_, .f32⟩
  | 28 => ⟨S8x512, .f32⟩
  | 29 => ⟨S_, .i32⟩
  | 30 => ⟨S_, .f32⟩
  | 31 => ⟨S8x512, .f32⟩
  | 32 => ⟨S648x512, .f32⟩
  | 33 => ⟨S_, .i32⟩
  | 34 => ⟨S_, .f32⟩
  | 35 => ⟨S8x512, .f32⟩
  | 36 => ⟨S_, .i32⟩
  | 37 => ⟨S_, .f32⟩
  | 38 => ⟨S64x512, .f32⟩
  | 39 => ⟨S_, .i32⟩
  | 40 => ⟨S_, .f32⟩
  | 41 => ⟨S8x512, .f32⟩
  | 42 => ⟨S_, .i32⟩
  | 43 => ⟨S_, .f32⟩
  | 44 => ⟨S8x512, .f32⟩
  | 45 => ⟨S_, .i32⟩
  | 46 => ⟨S_, .f32⟩
  | 47 => ⟨S8x512, .f32⟩
  | 48 => ⟨S_, .i32⟩
  | 49 => ⟨S_, .f32⟩
  | 50 => ⟨S8x512, .f32⟩
  | 51 => ⟨S_, .i32⟩
  | 52 => ⟨S_, .f32⟩
  | 53 => ⟨S8x512, .f32⟩
  | 54 => ⟨S_, .i32⟩
  | 55 => ⟨S_, .f32⟩
  | 56 => ⟨S512x512, .f32⟩
  | 57 => ⟨S_, .i32⟩
  | 58 => ⟨S_, .f32⟩
  | 59 => ⟨S8x512, .f32⟩
  | 60 => ⟨S_, .i32⟩
  | 61 => ⟨S_, .f32⟩
  | 62 => ⟨S8x512, .f32⟩
  | 63 => ⟨S_, .i32⟩
  | 64 => ⟨S_, .f32⟩
  | 65 => ⟨S8x512, .f32⟩
  | 66 => ⟨S648x512, .f32⟩
  | _ => ⟨S4x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x1024, .f32⟩

abbrev bufTy : (tb : Table) → Fin (tcTables nBuf tb) → BufTy
  | .hbm, ⟨i, _⟩ => hbmTy i
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_cst : Ref sig .tc := ⟨.hbm, 44, rfl⟩
abbrev main_v0 : Ref sig .tc := ⟨.hbm, 45, rfl⟩
abbrev main_v1 : Ref sig .tc := ⟨.hbm, 46, rfl⟩
abbrev main_cst_0 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_cst_1 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_cst_2 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_cst_3 : Ref sig .tc := ⟨.hbm, 59, rfl⟩
abbrev main_v11 : Ref sig .tc := ⟨.hbm, 60, rfl⟩
abbrev main_v12 : Ref sig .tc := ⟨.hbm, 61, rfl⟩
abbrev main_cst_4 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_cst_5 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_cst_6 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_cst_7 : Ref sig .tc := ⟨.hbm, 74, rfl⟩
abbrev main_v22 : Ref sig .tc := ⟨.hbm, 75, rfl⟩
abbrev main_v23 : Ref sig .tc := ⟨.hbm, 76, rfl⟩
abbrev main_cst_8 : Ref sig .tc := ⟨.hbm, 77, rfl⟩
abbrev main_v24 : Ref sig .tc := ⟨.hbm, 78, rfl⟩
abbrev main_v25 : Ref sig .tc := ⟨.hbm, 79, rfl⟩
abbrev main_cst_9 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_cst_10 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_cst_11 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_12 : Ref sig .tc := ⟨.hbm, 92, rfl⟩
abbrev main_v35 : Ref sig .tc := ⟨.hbm, 93, rfl⟩
abbrev main_v36 : Ref sig .tc := ⟨.hbm, 94, rfl⟩
abbrev main_cst_13 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_cst_14 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_15 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_cst_16 : Ref sig .tc := ⟨.hbm, 107, rfl⟩
abbrev main_v46 : Ref sig .tc := ⟨.hbm, 108, rfl⟩
abbrev main_v47 : Ref sig .tc := ⟨.hbm, 109, rfl⟩
abbrev main_cst_17 : Ref sig .tc := ⟨.hbm, 110, rfl⟩
abbrev main_v48 : Ref sig .tc := ⟨.hbm, 111, rfl⟩
abbrev main_v49 : Ref sig .tc := ⟨.hbm, 112, rfl⟩
abbrev main_cst_18 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_cst_19 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_cst_20 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_cst_21 : Ref sig .tc := ⟨.hbm, 125, rfl⟩
abbrev main_v59 : Ref sig .tc := ⟨.hbm, 126, rfl⟩
abbrev main_v60 : Ref sig .tc := ⟨.hbm, 127, rfl⟩
abbrev main_cst_22 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_cst_23 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_cst_24 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_cst_25 : Ref sig .tc := ⟨.hbm, 140, rfl⟩
abbrev main_v70 : Ref sig .tc := ⟨.hbm, 141, rfl⟩
abbrev main_v71 : Ref sig .tc := ⟨.hbm, 142, rfl⟩
abbrev main_cst_26 : Ref sig .tc := ⟨.hbm, 143, rfl⟩
abbrev main_v72 : Ref sig .tc := ⟨.hbm, 144, rfl⟩
abbrev main_v73 : Ref sig .tc := ⟨.hbm, 145, rfl⟩
abbrev main_cst_27 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_cst_28 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_cst_29 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_cst_30 : Ref sig .tc := ⟨.hbm, 158, rfl⟩
abbrev main_v83 : Ref sig .tc := ⟨.hbm, 159, rfl⟩
abbrev main_v84 : Ref sig .tc := ⟨.hbm, 160, rfl⟩
abbrev main_cst_31 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_cst_32 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_cst_33 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_cst_34 : Ref sig .tc := ⟨.hbm, 173, rfl⟩
abbrev main_v94 : Ref sig .tc := ⟨.hbm, 174, rfl⟩
abbrev main_v95 : Ref sig .tc := ⟨.hbm, 175, rfl⟩
abbrev main_cst_35 : Ref sig .tc := ⟨.hbm, 176, rfl⟩
abbrev main_v96 : Ref sig .tc := ⟨.hbm, 177, rfl⟩
abbrev main_v97 : Ref sig .tc := ⟨.hbm, 178, rfl⟩
abbrev main_cst_36 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_cst_37 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_cst_38 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_cst_39 : Ref sig .tc := ⟨.hbm, 191, rfl⟩
abbrev main_v107 : Ref sig .tc := ⟨.hbm, 192, rfl⟩
abbrev main_v108 : Ref sig .tc := ⟨.hbm, 193, rfl⟩
abbrev main_cst_40 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_cst_41 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_cst_42 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_cst_43 : Ref sig .tc := ⟨.hbm, 206, rfl⟩
abbrev main_v118 : Ref sig .tc := ⟨.hbm, 207, rfl⟩
abbrev main_v119 : Ref sig .tc := ⟨.hbm, 208, rfl⟩
abbrev main_cst_44 : Ref sig .tc := ⟨.hbm, 209, rfl⟩
abbrev main_v120 : Ref sig .tc := ⟨.hbm, 210, rfl⟩
abbrev main_v121 : Ref sig .tc := ⟨.hbm, 211, rfl⟩
abbrev main_cst_45 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_cst_46 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_cst_47 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_cst_48 : Ref sig .tc := ⟨.hbm, 224, rfl⟩
abbrev main_v131 : Ref sig .tc := ⟨.hbm, 225, rfl⟩
abbrev main_v132 : Ref sig .tc := ⟨.hbm, 226, rfl⟩
abbrev main_cst_49 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_cst_50 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_cst_51 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_cst_52 : Ref sig .tc := ⟨.hbm, 239, rfl⟩
abbrev main_v142 : Ref sig .tc := ⟨.hbm, 240, rfl⟩
abbrev main_v143 : Ref sig .tc := ⟨.hbm, 241, rfl⟩
abbrev main_cst_53 : Ref sig .tc := ⟨.hbm, 242, rfl⟩
abbrev main_v144 : Ref sig .tc := ⟨.hbm, 243, rfl⟩
abbrev main_v145 : Ref sig .tc := ⟨.hbm, 244, rfl⟩
abbrev main_cst_54 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_cst_55 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_cst_56 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_cst_57 : Ref sig .tc := ⟨.hbm, 257, rfl⟩
abbrev main_v155 : Ref sig .tc := ⟨.hbm, 258, rfl⟩
abbrev main_v156 : Ref sig .tc := ⟨.hbm, 259, rfl⟩
abbrev main_cst_58 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_cst_59 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_cst_60 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_cst_61 : Ref sig .tc := ⟨.hbm, 272, rfl⟩
abbrev main_v166 : Ref sig .tc := ⟨.hbm, 273, rfl⟩
abbrev main_v167 : Ref sig .tc := ⟨.hbm, 274, rfl⟩
abbrev main_cst_62 : Ref sig .tc := ⟨.hbm, 275, rfl⟩
abbrev main_v168 : Ref sig .tc := ⟨.hbm, 276, rfl⟩
abbrev main_v169 : Ref sig .tc := ⟨.hbm, 277, rfl⟩
abbrev main_cst_63 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_cst_64 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_cst_65 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_cst_66 : Ref sig .tc := ⟨.hbm, 290, rfl⟩
abbrev main_v179 : Ref sig .tc := ⟨.hbm, 291, rfl⟩
abbrev main_v180 : Ref sig .tc := ⟨.hbm, 292, rfl⟩
abbrev main_cst_67 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_cst_68 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_cst_69 : Ref sig .tc := ⟨.hbm, 301, rfl⟩
abbrev main_v187 : Ref sig .tc := ⟨.hbm, 302, rfl⟩
abbrev main_v188 : Ref sig .tc := ⟨.hbm, 303, rfl⟩
abbrev main_v189 : Ref sig .tc := ⟨.hbm, 304, rfl⟩
abbrev main_cst_70 : Ref sig .tc := ⟨.hbm, 305, rfl⟩
abbrev main_v190 : Ref sig .tc := ⟨.hbm, 306, rfl⟩
abbrev main_v191 : Ref sig .tc := ⟨.hbm, 307, rfl⟩
abbrev main_cst_71 : Ref sig .tc := ⟨.hbm, 308, rfl⟩
abbrev main_v192 : Ref sig .tc := ⟨.hbm, 309, rfl⟩
abbrev main_v193 : Ref sig .tc := ⟨.hbm, 310, rfl⟩
abbrev main_cst_72 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_cst_73 : Ref sig .tc := ⟨.hbm, 315, rfl⟩
abbrev main_v197 : Ref sig .tc := ⟨.hbm, 316, rfl⟩
abbrev main_v198 : Ref sig .tc := ⟨.hbm, 317, rfl⟩
abbrev main_v199 : Ref sig .tc := ⟨.hbm, 318, rfl⟩
abbrev main_cst_74 : Ref sig .tc := ⟨.hbm, 319, rfl⟩
abbrev main_v200 : Ref sig .tc := ⟨.hbm, 320, rfl⟩
abbrev main_v201 : Ref sig .tc := ⟨.hbm, 321, rfl⟩
abbrev main_v202 : Ref sig .tc := ⟨.hbm, 322, rfl⟩
abbrev main_cst_75 : Ref sig .tc := ⟨.hbm, 323, rfl⟩
abbrev main_v203 : Ref sig .tc := ⟨.hbm, 324, rfl⟩
abbrev main_v204 : Ref sig .tc := ⟨.hbm, 325, rfl⟩
abbrev main_cst_76 : Ref sig .tc := ⟨.hbm, 326, rfl⟩
abbrev main_v205 : Ref sig .tc := ⟨.hbm, 327, rfl⟩
abbrev main_v206 : Ref sig .tc := ⟨.hbm, 328, rfl⟩
abbrev main_v207 : Ref sig .tc := ⟨.hbm, 329, rfl⟩
abbrev main_cst_77 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_cst_78 : Ref sig .tc := ⟨.hbm, 334, rfl⟩
abbrev main_v211 : Ref sig .tc := ⟨.hbm, 335, rfl⟩
abbrev main_v212 : Ref sig .tc := ⟨.hbm, 336, rfl⟩
abbrev main_v213 : Ref sig .tc := ⟨.hbm, 337, rfl⟩
abbrev main_cst_79 : Ref sig .tc := ⟨.hbm, 338, rfl⟩
abbrev main_v214 : Ref sig .tc := ⟨.hbm, 339, rfl⟩
abbrev main_v215 : Ref sig .tc := ⟨.hbm, 340, rfl⟩
abbrev main_cst_80 : Ref sig .tc := ⟨.hbm, 341, rfl⟩
abbrev main_v216 : Ref sig .tc := ⟨.hbm, 342, rfl⟩
abbrev main_v217 : Ref sig .tc := ⟨.hbm, 343, rfl⟩
abbrev main_cst_81 : Ref sig .tc := ⟨.hbm, 344, rfl⟩
abbrev main_v218 : Ref sig .tc := ⟨.hbm, 345, rfl⟩
abbrev main_v219 : Ref sig .tc := ⟨.hbm, 346, rfl⟩
abbrev main_v220 : Ref sig .tc := ⟨.hbm, 347, rfl⟩
abbrev main_cst_82 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_cst_83 : Ref sig .tc := ⟨.hbm, 352, rfl⟩
abbrev main_v224 : Ref sig .tc := ⟨.hbm, 353, rfl⟩
abbrev main_v225 : Ref sig .tc := ⟨.hbm, 354, rfl⟩
abbrev main_v226 : Ref sig .tc := ⟨.hbm, 355, rfl⟩
abbrev main_cst_84 : Ref sig .tc := ⟨.hbm, 356, rfl⟩
abbrev main_v227 : Ref sig .tc := ⟨.hbm, 357, rfl⟩
abbrev main_v228 : Ref sig .tc := ⟨.hbm, 358, rfl⟩
abbrev main_cst_85 : Ref sig .tc := ⟨.hbm, 359, rfl⟩
abbrev main_v229 : Ref sig .tc := ⟨.hbm, 360, rfl⟩
abbrev main_v230 : Ref sig .tc := ⟨.hbm, 361, rfl⟩
abbrev main_v231 : Ref sig .tc := ⟨.hbm, 362, rfl⟩
abbrev main_cst_86 : Ref sig .tc := ⟨.hbm, 363, rfl⟩
abbrev main_v232 : Ref sig .tc := ⟨.hbm, 364, rfl⟩
abbrev main_v233 : Ref sig .tc := ⟨.hbm, 365, rfl⟩
abbrev main_v234 : Ref sig .tc := ⟨.hbm, 366, rfl⟩
abbrev main_cst_87 : Ref sig .tc := ⟨.hbm, 367, rfl⟩
abbrev main_v235 : Ref sig .tc := ⟨.hbm, 368, rfl⟩
abbrev main_v236 : Ref sig .tc := ⟨.hbm, 369, rfl⟩
abbrev main_v237 : Ref sig .tc := ⟨.hbm, 370, rfl⟩
abbrev main_cst_88 : Ref sig .tc := ⟨.hbm, 371, rfl⟩
abbrev main_v238 : Ref sig .tc := ⟨.hbm, 372, rfl⟩
abbrev main_v239 : Ref sig .tc := ⟨.hbm, 373, rfl⟩
abbrev main_cst_89 : Ref sig .tc := ⟨.hbm, 374, rfl⟩
abbrev main_v240 : Ref sig .tc := ⟨.hbm, 375, rfl⟩
abbrev main_v241 : Ref sig .tc := ⟨.hbm, 376, rfl⟩
abbrev main_cst_90 : Ref sig .tc := ⟨.hbm, 377, rfl⟩
abbrev main_v242 : Ref sig .tc := ⟨.hbm, 378, rfl⟩
abbrev main_v243 : Ref sig .tc := ⟨.hbm, 379, rfl⟩
abbrev main_v244 : Ref sig .tc := ⟨.hbm, 380, rfl⟩
abbrev main_cst_91 : Ref sig .tc := ⟨.hbm, 381, rfl⟩
abbrev main_v245 : Ref sig .tc := ⟨.hbm, 382, rfl⟩
abbrev main_v246 : Ref sig .tc := ⟨.hbm, 383, rfl⟩
abbrev main_v247 : Ref sig .tc := ⟨.hbm, 384, rfl⟩
abbrev main_cst_92 : Ref sig .tc := ⟨.hbm, 385, rfl⟩
abbrev main_v248 : Ref sig .tc := ⟨.hbm, 386, rfl⟩
abbrev main_v249 : Ref sig .tc := ⟨.hbm, 387, rfl⟩
abbrev main_v250 : Ref sig .tc := ⟨.hbm, 388, rfl⟩
abbrev main_cst_93 : Ref sig .tc := ⟨.hbm, 389, rfl⟩
abbrev main_v251 : Ref sig .tc := ⟨.hbm, 390, rfl⟩
abbrev main_v252 : Ref sig .tc := ⟨.hbm, 391, rfl⟩
abbrev main_cst_94 : Ref sig .tc := ⟨.hbm, 392, rfl⟩
abbrev main_v253 : Ref sig .tc := ⟨.hbm, 393, rfl⟩
abbrev main_v254 : Ref sig .tc := ⟨.hbm, 394, rfl⟩
abbrev main_v255 : Ref sig .tc := ⟨.hbm, 395, rfl⟩
abbrev main_cst_95 : Ref sig .tc := ⟨.hbm, 396, rfl⟩
abbrev main_v256 : Ref sig .tc := ⟨.hbm, 397, rfl⟩
abbrev main_v257 : Ref sig .tc := ⟨.hbm, 398, rfl⟩
abbrev main_v258 : Ref sig .tc := ⟨.hbm, 399, rfl⟩
abbrev main_cst_96 : Ref sig .tc := ⟨.hbm, 400, rfl⟩
abbrev main_v259 : Ref sig .tc := ⟨.hbm, 401, rfl⟩
abbrev main_v260 : Ref sig .tc := ⟨.hbm, 402, rfl⟩
abbrev main_v261 : Ref sig .tc := ⟨.hbm, 403, rfl⟩
abbrev main_cst_97 : Ref sig .tc := ⟨.hbm, 404, rfl⟩
abbrev main_v262 : Ref sig .tc := ⟨.hbm, 405, rfl⟩
abbrev main_v263 : Ref sig .tc := ⟨.hbm, 406, rfl⟩
abbrev main_v264 : Ref sig .tc := ⟨.hbm, 407, rfl⟩
abbrev main_v265 : Ref sig .tc := ⟨.hbm, 408, rfl⟩
abbrev main_v266 : Ref sig .tc := ⟨.hbm, 409, rfl⟩
abbrev main_v267 : Ref sig .tc := ⟨.hbm, 410, rfl⟩
abbrev main_v268 : Ref sig .tc := ⟨.hbm, 411, rfl⟩
abbrev main_v269 : Ref sig .tc := ⟨.hbm, 412, rfl⟩
abbrev main_v270 : Ref sig .tc := ⟨.hbm, 413, rfl⟩
abbrev main_v271 : Ref sig .tc := ⟨.hbm, 414, rfl⟩
abbrev main_v272 : Ref sig .tc := ⟨.hbm, 415, rfl⟩
abbrev main_v273 : Ref sig .tc := ⟨.hbm, 416, rfl⟩
abbrev main_v274 : Ref sig .tc := ⟨.hbm, 417, rfl⟩
abbrev main_v275 : Ref sig .tc := ⟨.hbm, 418, rfl⟩
abbrev main_v276 : Ref sig .tc := ⟨.hbm, 419, rfl⟩
abbrev main_v277 : Ref sig .tc := ⟨.hbm, 420, rfl⟩
abbrev main_v278 : Ref sig .tc := ⟨.hbm, 421, rfl⟩
abbrev main_v279 : Ref sig .tc := ⟨.hbm, 422, rfl⟩
abbrev main_v280 : Ref sig .tc := ⟨.hbm, 423, rfl⟩
abbrev main_v281 : Ref sig .tc := ⟨.hbm, 424, rfl⟩
abbrev main_v282 : Ref sig .tc := ⟨.hbm, 425, rfl⟩
abbrev main_v283 : Ref sig .tc := ⟨.hbm, 426, rfl⟩
abbrev main_v284 : Ref sig .tc := ⟨.hbm, 427, rfl⟩
abbrev main_v285 : Ref sig .tc := ⟨.hbm, 428, rfl⟩
abbrev main_v286 : Ref sig .tc := ⟨.hbm, 429, rfl⟩
abbrev main_v287 : Ref sig .tc := ⟨.hbm, 430, rfl⟩
abbrev main_v288 : Ref sig .tc := ⟨.hbm, 431, rfl⟩
abbrev main_v289 : Ref sig .tc := ⟨.hbm, 432, rfl⟩
abbrev main_v290 : Ref sig .tc := ⟨.hbm, 433, rfl⟩
abbrev main_v291 : Ref sig .tc := ⟨.hbm, 434, rfl⟩
abbrev main_v292 : Ref sig .tc := ⟨.hbm, 435, rfl⟩
abbrev main_v293 : Ref sig .tc := ⟨.hbm, 436, rfl⟩
abbrev main_v294 : Ref sig .tc := ⟨.hbm, 437, rfl⟩
abbrev main_v295 : Ref sig .tc := ⟨.hbm, 438, rfl⟩
abbrev main_v296 : Ref sig .tc := ⟨.hbm, 439, rfl⟩
abbrev main_v297 : Ref sig .tc := ⟨.hbm, 440, rfl⟩
abbrev main_v298 : Ref sig .tc := ⟨.hbm, 441, rfl⟩
abbrev main_v299 : Ref sig .tc := ⟨.hbm, 442, rfl⟩
abbrev main_c : Ref sig .tc := ⟨.hbm, 443, rfl⟩
abbrev main_call0_v0 : Ref sig .tc := ⟨.hbm, 444, rfl⟩
abbrev main_v300 : Ref sig .tc := ⟨.hbm, 445, rfl⟩
abbrev main_c_98 : Ref sig .tc := ⟨.hbm, 446, rfl⟩
abbrev main_call1_v0 : Ref sig .tc := ⟨.hbm, 447, rfl⟩
abbrev main_v301 : Ref sig .tc := ⟨.hbm, 448, rfl⟩
abbrev main_c_99 : Ref sig .tc := ⟨.hbm, 449, rfl⟩
abbrev main_call2_v0 : Ref sig .tc := ⟨.hbm, 450, rfl⟩
abbrev main_v302 : Ref sig .tc := ⟨.hbm, 451, rfl⟩
abbrev main_c_100 : Ref sig .tc := ⟨.hbm, 452, rfl⟩
abbrev main_call3_v0 : Ref sig .tc := ⟨.hbm, 453, rfl⟩
abbrev main_v303 : Ref sig .tc := ⟨.hbm, 454, rfl⟩
abbrev main_c_101 : Ref sig .tc := ⟨.hbm, 455, rfl⟩
abbrev main_call4_v0 : Ref sig .tc := ⟨.hbm, 456, rfl⟩
abbrev main_v304 : Ref sig .tc := ⟨.hbm, 457, rfl⟩
abbrev main_c_102 : Ref sig .tc := ⟨.hbm, 458, rfl⟩
abbrev main_call5_v0 : Ref sig .tc := ⟨.hbm, 459, rfl⟩
abbrev main_v305 : Ref sig .tc := ⟨.hbm, 460, rfl⟩
abbrev main_c_103 : Ref sig .tc := ⟨.hbm, 461, rfl⟩
abbrev main_call6_v0 : Ref sig .tc := ⟨.hbm, 462, rfl⟩
abbrev main_v306 : Ref sig .tc := ⟨.hbm, 463, rfl⟩
abbrev main_c_104 : Ref sig .tc := ⟨.hbm, 464, rfl⟩
abbrev main_call7_v0 : Ref sig .tc := ⟨.hbm, 465, rfl⟩
abbrev main_v307 : Ref sig .tc := ⟨.hbm, 466, rfl⟩
abbrev main_c_105 : Ref sig .tc := ⟨.hbm, 467, rfl⟩
abbrev main_call8_v0 : Ref sig .tc := ⟨.hbm, 468, rfl⟩
abbrev main_v308 : Ref sig .tc := ⟨.hbm, 469, rfl⟩
abbrev main_c_106 : Ref sig .tc := ⟨.hbm, 470, rfl⟩
abbrev main_call9_v0 : Ref sig .tc := ⟨.hbm, 471, rfl⟩
abbrev main_v309 : Ref sig .tc := ⟨.hbm, 472, rfl⟩
abbrev main_c_107 : Ref sig .tc := ⟨.hbm, 473, rfl⟩
abbrev main_call10_v0 : Ref sig .tc := ⟨.hbm, 474, rfl⟩
abbrev main_v310 : Ref sig .tc := ⟨.hbm, 475, rfl⟩
abbrev main_v311 : Ref sig .tc := ⟨.hbm, 476, rfl⟩
abbrev main_c_108 : Ref sig .tc := ⟨.hbm, 477, rfl⟩
abbrev main_call11_v0 : Ref sig .tc := ⟨.hbm, 478, rfl⟩
abbrev main_v312 : Ref sig .tc := ⟨.hbm, 479, rfl⟩
abbrev main_c_109 : Ref sig .tc := ⟨.hbm, 480, rfl⟩
abbrev main_call12_v0 : Ref sig .tc := ⟨.hbm, 481, rfl⟩
abbrev main_v313 : Ref sig .tc := ⟨.hbm, 482, rfl⟩
abbrev main_c_110 : Ref sig .tc := ⟨.hbm, 483, rfl⟩
abbrev main_call13_v0 : Ref sig .tc := ⟨.hbm, 484, rfl⟩
abbrev main_v314 : Ref sig .tc := ⟨.hbm, 485, rfl⟩
abbrev main_c_111 : Ref sig .tc := ⟨.hbm, 486, rfl⟩
abbrev main_call14_v0 : Ref sig .tc := ⟨.hbm, 487, rfl⟩
abbrev main_v315 : Ref sig .tc := ⟨.hbm, 488, rfl⟩
abbrev main_c_112 : Ref sig .tc := ⟨.hbm, 489, rfl⟩
abbrev main_call15_v0 : Ref sig .tc := ⟨.hbm, 490, rfl⟩
abbrev main_v316 : Ref sig .tc := ⟨.hbm, 491, rfl⟩
abbrev main_c_113 : Ref sig .tc := ⟨.hbm, 492, rfl⟩
abbrev main_call16_v0 : Ref sig .tc := ⟨.hbm, 493, rfl⟩
abbrev main_v317 : Ref sig .tc := ⟨.hbm, 494, rfl⟩
abbrev main_c_114 : Ref sig .tc := ⟨.hbm, 495, rfl⟩
abbrev main_call17_v0 : Ref sig .tc := ⟨.hbm, 496, rfl⟩
abbrev main_v318 : Ref sig .tc := ⟨.hbm, 497, rfl⟩
abbrev main_c_115 : Ref sig .tc := ⟨.hbm, 498, rfl⟩
abbrev main_call18_v0 : Ref sig .tc := ⟨.hbm, 499, rfl⟩
abbrev main_v319 : Ref sig .tc := ⟨.hbm, 500, rfl⟩
abbrev main_c_116 : Ref sig .tc := ⟨.hbm, 501, rfl⟩
abbrev main_call19_v0 : Ref sig .tc := ⟨.hbm, 502, rfl⟩
abbrev main_v320 : Ref sig .tc := ⟨.hbm, 503, rfl⟩
abbrev main_c_117 : Ref sig .tc := ⟨.hbm, 504, rfl⟩
abbrev main_call20_v0 : Ref sig .tc := ⟨.hbm, 505, rfl⟩
abbrev main_v321 : Ref sig .tc := ⟨.hbm, 506, rfl⟩
abbrev main_c_118 : Ref sig .tc := ⟨.hbm, 507, rfl⟩
abbrev main_call21_v0 : Ref sig .tc := ⟨.hbm, 508, rfl⟩
abbrev main_v322 : Ref sig .tc := ⟨.hbm, 509, rfl⟩
abbrev main_v323 : Ref sig .tc := ⟨.hbm, 510, rfl⟩
abbrev main_c_119 : Ref sig .tc := ⟨.hbm, 511, rfl⟩
abbrev main_call22_v0 : Ref sig .tc := ⟨.hbm, 512, rfl⟩
abbrev main_v324 : Ref sig .tc := ⟨.hbm, 513, rfl⟩
abbrev main_c_120 : Ref sig .tc := ⟨.hbm, 514, rfl⟩
abbrev main_call23_v0 : Ref sig .tc := ⟨.hbm, 515, rfl⟩
abbrev main_v325 : Ref sig .tc := ⟨.hbm, 516, rfl⟩
abbrev main_c_121 : Ref sig .tc := ⟨.hbm, 517, rfl⟩
abbrev main_call24_v0 : Ref sig .tc := ⟨.hbm, 518, rfl⟩
abbrev main_v326 : Ref sig .tc := ⟨.hbm, 519, rfl⟩
abbrev main_c_122 : Ref sig .tc := ⟨.hbm, 520, rfl⟩
abbrev main_call25_v0 : Ref sig .tc := ⟨.hbm, 521, rfl⟩
abbrev main_v327 : Ref sig .tc := ⟨.hbm, 522, rfl⟩
abbrev main_c_123 : Ref sig .tc := ⟨.hbm, 523, rfl⟩
abbrev main_call26_v0 : Ref sig .tc := ⟨.hbm, 524, rfl⟩
abbrev main_v328 : Ref sig .tc := ⟨.hbm, 525, rfl⟩
abbrev main_c_124 : Ref sig .tc := ⟨.hbm, 526, rfl⟩
abbrev main_call27_v0 : Ref sig .tc := ⟨.hbm, 527, rfl⟩
abbrev main_v329 : Ref sig .tc := ⟨.hbm, 528, rfl⟩
abbrev main_c_125 : Ref sig .tc := ⟨.hbm, 529, rfl⟩
abbrev main_call28_v0 : Ref sig .tc := ⟨.hbm, 530, rfl⟩
abbrev main_v330 : Ref sig .tc := ⟨.hbm, 531, rfl⟩
abbrev main_c_126 : Ref sig .tc := ⟨.hbm, 532, rfl⟩
abbrev main_call29_v0 : Ref sig .tc := ⟨.hbm, 533, rfl⟩
abbrev main_v331 : Ref sig .tc := ⟨.hbm, 534, rfl⟩
abbrev main_c_127 : Ref sig .tc := ⟨.hbm, 535, rfl⟩
abbrev main_call30_v0 : Ref sig .tc := ⟨.hbm, 536, rfl⟩
abbrev main_v332 : Ref sig .tc := ⟨.hbm, 537, rfl⟩
abbrev main_c_128 : Ref sig .tc := ⟨.hbm, 538, rfl⟩
abbrev main_call31_v0 : Ref sig .tc := ⟨.hbm, 539, rfl⟩
abbrev main_v333 : Ref sig .tc := ⟨.hbm, 540, rfl⟩
abbrev main_c_129 : Ref sig .tc := ⟨.hbm, 541, rfl⟩
abbrev main_call32_v0 : Ref sig .tc := ⟨.hbm, 542, rfl⟩
abbrev main_v334 : Ref sig .tc := ⟨.hbm, 543, rfl⟩
abbrev main_v335 : Ref sig .tc := ⟨.hbm, 544, rfl⟩
abbrev main_c_130 : Ref sig .tc := ⟨.hbm, 545, rfl⟩
abbrev main_call33_v0 : Ref sig .tc := ⟨.hbm, 546, rfl⟩
abbrev main_v336 : Ref sig .tc := ⟨.hbm, 547, rfl⟩
abbrev main_c_131 : Ref sig .tc := ⟨.hbm, 548, rfl⟩
abbrev main_call34_v0 : Ref sig .tc := ⟨.hbm, 549, rfl⟩
abbrev main_v337 : Ref sig .tc := ⟨.hbm, 550, rfl⟩
abbrev main_c_132 : Ref sig .tc := ⟨.hbm, 551, rfl⟩
abbrev main_call35_v0 : Ref sig .tc := ⟨.hbm, 552, rfl⟩
abbrev main_v338 : Ref sig .tc := ⟨.hbm, 553, rfl⟩
abbrev main_c_133 : Ref sig .tc := ⟨.hbm, 554, rfl⟩
abbrev main_call36_v0 : Ref sig .tc := ⟨.hbm, 555, rfl⟩
abbrev main_v339 : Ref sig .tc := ⟨.hbm, 556, rfl⟩
abbrev main_c_134 : Ref sig .tc := ⟨.hbm, 557, rfl⟩
abbrev main_call37_v0 : Ref sig .tc := ⟨.hbm, 558, rfl⟩
abbrev main_v340 : Ref sig .tc := ⟨.hbm, 559, rfl⟩
abbrev main_c_135 : Ref sig .tc := ⟨.hbm, 560, rfl⟩
abbrev main_call38_v0 : Ref sig .tc := ⟨.hbm, 561, rfl⟩
abbrev main_v341 : Ref sig .tc := ⟨.hbm, 562, rfl⟩
abbrev main_c_136 : Ref sig .tc := ⟨.hbm, 563, rfl⟩
abbrev main_call39_v0 : Ref sig .tc := ⟨.hbm, 564, rfl⟩
abbrev main_v342 : Ref sig .tc := ⟨.hbm, 565, rfl⟩
abbrev main_c_137 : Ref sig .tc := ⟨.hbm, 566, rfl⟩
abbrev main_call40_v0 : Ref sig .tc := ⟨.hbm, 567, rfl⟩
abbrev main_v343 : Ref sig .tc := ⟨.hbm, 568, rfl⟩
abbrev main_c_138 : Ref sig .tc := ⟨.hbm, 569, rfl⟩
abbrev main_call41_v0 : Ref sig .tc := ⟨.hbm, 570, rfl⟩
abbrev main_v344 : Ref sig .tc := ⟨.hbm, 571, rfl⟩
abbrev main_c_139 : Ref sig .tc := ⟨.hbm, 572, rfl⟩
abbrev main_call42_v0 : Ref sig .tc := ⟨.hbm, 573, rfl⟩
abbrev main_v345 : Ref sig .tc := ⟨.hbm, 574, rfl⟩
abbrev main_c_140 : Ref sig .tc := ⟨.hbm, 575, rfl⟩
abbrev main_call43_v0 : Ref sig .tc := ⟨.hbm, 576, rfl⟩
abbrev main_v346 : Ref sig .tc := ⟨.hbm, 577, rfl⟩
abbrev main_v347 : Ref sig .tc := ⟨.hbm, 578, rfl⟩

abbrev nD : Nat := 1
abbrev τ : Topo := Topo.v7x

variable {F : FTy → Type} [FloatOps F]
-- ==== KernelPair.lean ====
abbrev S4x2x512x1536 : Shape := ⟨4, ![4, 2, 512, 1536]⟩
abbrev S4x2x256x1024 : Shape := ⟨4, ![4, 2, 256, 1024]⟩
abbrev S4x2x128x1024 : Shape := ⟨4, ![4, 2, 128, 1024]⟩
abbrev S4x2x128x256 : Shape := ⟨4, ![4, 2, 128, 256]⟩
abbrev S4x1x512x1536 : Shape := ⟨4, ![4, 1, 512, 1536]⟩
abbrev S4x1x256x1024 : Shape := ⟨4, ![4, 1, 256, 1024]⟩
abbrev S4x1x128x1024 : Shape := ⟨4, ![4, 1, 128, 1024]⟩
abbrev S4x1x128x256 : Shape := ⟨4, ![4, 1, 128, 256]⟩
abbrev S_ : Shape := ⟨0, ![]⟩
abbrev S1 : Shape := ⟨1, ![1]⟩
abbrev S4x512x1536 : Shape := ⟨3, ![4, 512, 1536]⟩
abbrev S4x256x1024 : Shape := ⟨3, ![4, 256, 1024]⟩
abbrev S4x128x1024 : Shape := ⟨3, ![4, 128, 1024]⟩
abbrev S4x128x256 : Shape := ⟨3, ![4, 128, 256]⟩
abbrev S1x1x256x1536 : Shape := ⟨4, ![1, 1, 256, 1536]⟩
abbrev S1x1x128x1024 : Shape := ⟨4, ![1, 1, 128, 1024]⟩
abbrev S1x1x64x1024 : Shape := ⟨4, ![1, 1, 64, 1024]⟩
abbrev S1x1x64x256 : Shape := ⟨4, ![1, 1, 64, 256]⟩
abbrev S1x256x1536 : Shape := ⟨3, ![1, 256, 1536]⟩
abbrev S1x128x1024 : Shape := ⟨3, ![1, 128, 1024]⟩
abbrev S1x64x1024 : Shape := ⟨3, ![1, 64, 1024]⟩
abbrev S1x64x256 : Shape := ⟨3, ![1, 64, 256]⟩
abbrev S256x1536 : Shape := ⟨2, ![256, 1536]⟩
abbrev S128x1024 : Shape := ⟨2, ![128, 1024]⟩
abbrev S64x1024 : Shape := ⟨2, ![64, 1024]⟩
abbrev S64x256 : Shape := ⟨2, ![64, 256]⟩

abbrev nBuf : Space → Nat
  | .hbm => 13
  | .vmem => 24
  | .smem => 1
  | _ => 0

abbrev bufTy : (tb : Table) → Fin (tcTables nBuf tb) → BufTy
  | .hbm, ⟨0, _⟩ => ⟨S4x2x512x1536, .f32⟩
  | .hbm, ⟨1, _⟩ => ⟨S4x2x256x1024, .f32⟩
  | .hbm, ⟨2, _⟩ => ⟨S4x2x128x1024, .f32⟩
  | .hbm, ⟨3, _⟩ => ⟨S4x2x128x256, .f32⟩
  | .hbm, ⟨4, _⟩ => ⟨S4x1x512x1536, .f32⟩
  | .hbm, ⟨5, _⟩ => ⟨S4x1x256x1024, .f32⟩
  | .hbm, ⟨6, _⟩ => ⟨S4x1x128x1024, .f32⟩
  | .hbm, ⟨7, _⟩ => ⟨S4x1x128x256, .f32⟩
  | .hbm, ⟨8, _⟩ => ⟨S_, .i32⟩
  | .hbm, ⟨9, _⟩ => ⟨S4x512x1536, .bf16⟩
  | .hbm, ⟨10, _⟩ => ⟨S4x256x1024, .bf16⟩
  | .hbm, ⟨11, _⟩ => ⟨S4x128x1024, .bf16⟩
  | .hbm, ⟨12, _⟩ => ⟨S4x128x256, .bf16⟩
  | .local _ .vmem, ⟨0, _⟩ => ⟨S1x1x256x1536, .f32⟩
  | .local _ .vmem, ⟨1, _⟩ => ⟨S1x1x256x1536, .f32⟩
  | .local _ .vmem, ⟨2, _⟩ => ⟨S1x1x256x1536, .f32⟩
  | .local _ .vmem, ⟨3, _⟩ => ⟨S1x1x256x1536, .f32⟩
  | .local _ .vmem, ⟨4, _⟩ => ⟨S1x1x128x1024, .f32⟩
  | .local _ .vmem, ⟨5, _⟩ => ⟨S1x1x128x1024, .f32⟩
  | .local _ .vmem, ⟨6, _⟩ => ⟨S1x1x128x1024, .f32⟩
  | .local _ .vmem, ⟨7, _⟩ => ⟨S1x1x128x1024, .f32⟩
  | .local _ .vmem, ⟨8, _⟩ => ⟨S1x1x64x1024, .f32⟩
  | .local _ .vmem, ⟨9, _⟩ => ⟨S1x1x64x1024, .f32⟩
  | .local _ .vmem, ⟨10, _⟩ => ⟨S1x1x64x1024, .f32⟩
  | .local _ .vmem, ⟨11, _⟩ => ⟨S1x1x64x1024, .f32⟩
  | .local _ .vmem, ⟨12, _⟩ => ⟨S1x1x64x256, .f32⟩
  | .local _ .vmem, ⟨13, _⟩ => ⟨S1x1x64x256, .f32⟩
  | .local _ .vmem, ⟨14, _⟩ => ⟨S1x1x64x256, .f32⟩
  | .local _ .vmem, ⟨15, _⟩ => ⟨S1x1x64x256, .f32⟩
  | .local _ .vmem, ⟨16, _⟩ => ⟨S1x256x1536, .bf16⟩
  | .local _ .vmem, ⟨17, _⟩ => ⟨S1x256x1536, .bf16⟩
  | .local _ .vmem, ⟨18, _⟩ => ⟨S1x128x1024, .bf16⟩
  | .local _ .vmem, ⟨19, _⟩ => ⟨S1x128x1024, .bf16⟩
  | .local _ .vmem, ⟨20, _⟩ => ⟨S1x64x1024, .bf16⟩
  | .local _ .vmem, ⟨21, _⟩ => ⟨S1x64x1024, .bf16⟩
  | .local _ .vmem, ⟨22, _⟩ => ⟨S1x64x256, .bf16⟩
  | .local _ .vmem, ⟨23, _⟩ => ⟨S1x64x256, .bf16⟩
  | .local _ .smem, ⟨0, _⟩ => ⟨S1, .i32⟩
  | _, _ => ⟨S4x2x512x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x64x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferencePairIdeal.lean ====
abbrev S4x2x512x1536 : Shape := ⟨4, ![4, 2, 512, 1536]⟩
abbrev S4x2x256x1024 : Shape := ⟨4, ![4, 2, 256, 1024]⟩
abbrev S4x2x128x1024 : Shape := ⟨4, ![4, 2, 128, 1024]⟩
abbrev S4x2x128x256 : Shape := ⟨4, ![4, 2, 128, 256]⟩
abbrev S4x1x512x1536 : Shape := ⟨4, ![4, 1, 512, 1536]⟩
abbrev S4x1x256x1024 : Shape := ⟨4, ![4, 1, 256, 1024]⟩
abbrev S4x1x128x1024 : Shape := ⟨4, ![4, 1, 128, 1024]⟩
abbrev S4x1x128x256 : Shape := ⟨4, ![4, 1, 128, 256]⟩
abbrev S4x512x1536 : Shape := ⟨3, ![4, 512, 1536]⟩
abbrev S4x256x1024 : Shape := ⟨3, ![4, 256, 1024]⟩
abbrev S4x128x1024 : Shape := ⟨3, ![4, 128, 1024]⟩
abbrev S4x128x256 : Shape := ⟨3, ![4, 128, 256]⟩

abbrev nBuf : Space → Nat
  | .hbm => 28
  | .vmem => 0
  | .smem => 0
  | _ => 0

abbrev bufTy : (tb : Table) → Fin (tcTables nBuf tb) → BufTy
  | .hbm, ⟨0, _⟩ => ⟨S4x2x512x1536, .f32⟩
  | .hbm, ⟨1, _⟩ => ⟨S4x2x256x1024, .f32⟩
  | .hbm, ⟨2, _⟩ => ⟨S4x2x128x1024, .f32⟩
  | .hbm, ⟨3, _⟩ => ⟨S4x2x128x256, .f32⟩
  | .hbm, ⟨4, _⟩ => ⟨S4x1x512x1536, .f32⟩
  | .hbm, ⟨5, _⟩ => ⟨S4x1x256x1024, .f32⟩
  | .hbm, ⟨6, _⟩ => ⟨S4x1x128x1024, .f32⟩
  | .hbm, ⟨7, _⟩ => ⟨S4x1x128x256, .f32⟩
  | .hbm, ⟨8, _⟩ => ⟨S4x1x512x1536, .f32⟩
  | .hbm, ⟨9, _⟩ => ⟨S4x512x1536, .f32⟩
  | .hbm, ⟨10, _⟩ => ⟨S4x512x1536, .f32⟩
  | .hbm, ⟨11, _⟩ => ⟨S4x512x1536, .f32⟩
  | .hbm, ⟨12, _⟩ => ⟨S4x512x1536, .bf16⟩
  | .hbm, ⟨13, _⟩ => ⟨S4x1x256x1024, .f32⟩
  | .hbm, ⟨14, _⟩ => ⟨S4x256x1024, .f32⟩
  | .hbm, ⟨15, _⟩ => ⟨S4x256x1024, .f32⟩
  | .hbm, ⟨16, _⟩ => ⟨S4x256x1024, .f32⟩
  | .hbm, ⟨17, _⟩ => ⟨S4x256x1024, .bf16⟩
  | .hbm, ⟨18, _⟩ => ⟨S4x1x128x1024, .f32⟩
  | .hbm, ⟨19, _⟩ => ⟨S4x128x1024, .f32⟩
  | .hbm, ⟨20, _⟩ => ⟨S4x128x1024, .f32⟩
  | .hbm, ⟨21, _⟩ => ⟨S4x128x1024, .f32⟩
  | .hbm, ⟨22, _⟩ => ⟨S4x128x1024, .bf16⟩
  | .hbm, ⟨23, _⟩ => ⟨S4x1x128x256, .f32⟩
  | .hbm, ⟨24, _⟩ => ⟨S4x128x256, .f32⟩
  | .hbm, ⟨25, _⟩ => ⟨S4x128x256, .f32⟩
  | .hbm, ⟨26, _⟩ => ⟨S4x128x256, .f32⟩
  | .hbm, ⟨27, _⟩ => ⟨S4x128x256, .bf16⟩
  | _, _ => ⟨S4x2x512x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== KernelPairSmall.lean ====
abbrev S4x2x64x1024 : Shape := ⟨4, ![4, 2, 64, 1024]⟩
abbrev S4x1x64x1024 : Shape := ⟨4, ![4, 1, 64, 1024]⟩
abbrev S_ : Shape := ⟨0, ![]⟩
abbrev S1 : Shape := ⟨1, ![1]⟩
abbrev S4x64x1024 : Shape := ⟨3, ![4, 64, 1024]⟩
abbrev S1x1x32x1024 : Shape := ⟨4, ![1, 1, 32, 1024]⟩
abbrev S1x32x1024 : Shape := ⟨3, ![1, 32, 1024]⟩
abbrev S32x1024 : Shape := ⟨2, ![32, 1024]⟩

abbrev nBuf : Space → Nat
  | .hbm => 4
  | .vmem => 6
  | .smem => 1
  | _ => 0

abbrev bufTy : (tb : Table) → Fin (tcTables nBuf tb) → BufTy
  | .hbm, ⟨0, _⟩ => ⟨S4x2x64x1024, .f32⟩
  | .hbm, ⟨1, _⟩ => ⟨S4x1x64x1024, .f32⟩
  | .hbm, ⟨2, _⟩ => ⟨S_, .i32⟩
  | .hbm, ⟨3, _⟩ => ⟨S4x64x1024, .f32⟩
  | .local _ .vmem, ⟨0, _⟩ => ⟨S1x1x32x1024, .f32⟩
  | .local _ .vmem, ⟨1, _⟩ => ⟨S1x1x32x1024, .f32⟩
  | .local _ .vmem, ⟨2, _⟩ => ⟨S1x1x32x1024, .f32⟩
  | .local _ .vmem, ⟨3, _⟩ => ⟨S1x1x32x1024, .f32⟩
  | .local _ .vmem, ⟨4, _⟩ => ⟨S1x32x1024, .f32⟩
  | .local _ .vmem, ⟨5, _⟩ => ⟨S1x32x1024, .f32⟩
  | .local _ .smem, ⟨0, _⟩ => ⟨S1, .i32⟩
  | _, _ => ⟨S4x2x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferencePairSmallIdeal.lean ====
abbrev S4x2x64x1024 : Shape := ⟨4, ![4, 2, 64, 1024]⟩
abbrev S4x1x64x1024 : Shape := ⟨4, ![4, 1, 64, 1024]⟩
abbrev S4x64x1024 : Shape := ⟨3, ![4, 64, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x2x64x1024, .f32⟩
  | .hbm, ⟨1, _⟩ => ⟨S4x1x64x1024, .f32⟩
  | .hbm, ⟨2, _⟩ => ⟨S4x1x64x1024, .f32⟩
  | .hbm, ⟨3, _⟩ => ⟨S4x64x1024, .f32⟩
  | .hbm, ⟨4, _⟩ => ⟨S4x64x1024, .f32⟩
  | .hbm, ⟨5, _⟩ => ⟨S4x64x1024, .f32⟩
  | _, _ => ⟨S4x2x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Reals.lean ====
/- Finite extended reals: the operations of the ideal instance on reals seen as extended reals, the float constants of
   the programs as reals, and the derivative of the exact GELU in the two forms in which the programs compute it. -/
module

public import Idealize.ShloMosaic.PureOps.Ideal
public import Idealize.ShloMosaic.Lib.IdealHost
public import Idealize.ShloMosaic.Lib.Pointwise

@[expose] public section

noncomputable section

namespace Cert.Reals

open Idealize.ShloMosaic

/-! ## Operations on reals -/

/-- A quotient of reals with a nonzero divisor. -/
theorem div_real (a : ℝ) {b : ℝ} (h : b ≠ 0) : Ideal.div (a : EReal) (b : EReal) = ((a / b : ℝ) : EReal) := by
  rw [Ideal.div_coe h, ← EReal.coe_mul, div_eq_mul_one_div a b]

/-- The reciprocal square root of a positive real. -/
theorem rsqrt_real {a : ℝ} (h : 0 < a) : Ideal.rsqrt (a : EReal) = (((Real.sqrt a)⁻¹ : ℝ) : EReal) := by
  rw [Ideal.rsqrt_coe, if_neg (not_lt.mpr h.le), if_neg h.ne']

/-- The square root of a nonnegative real. -/
theorem sqrt_real {a : ℝ} (h : 0 ≤ a) : Ideal.sqrt (a : EReal) = ((Real.sqrt a : ℝ) : EReal) := by
  rw [Ideal.sqrt_coe, if_neg (not_lt.mpr h)]

/-- The error function on the reals. -/
def erf (x : ℝ) : ℝ := 2 / Real.sqrt Real.pi * ∫ t in (0 : ℝ)..x, Real.exp (-(t ^ 2))

theorem erf_real (x : ℝ) : Ideal.erf (x : EReal) = ((erf x : ℝ) : EReal) := rfl

theorem erfc_real (x : ℝ) : Ideal.erfc (x : EReal) = ((1 - erf x : ℝ) : EReal) := by
  rw [Ideal.erfc, erf_real, EReal.coe_sub, EReal.coe_one]

theorem erf_neg (x : ℝ) : erf (-x) = -erf x := by
  have h : ∫ t in (0 : ℝ)..(-x), Real.exp (-(t ^ 2)) = -∫ t in (0 : ℝ)..x, Real.exp (-(t ^ 2)) := by
    have := intervalIntegral.integral_comp_neg (a := 0) (b := x) fun t : ℝ => Real.exp (-(t ^ 2))
    simp only [neg_sq, neg_zero] at this
    rw [this, intervalIntegral.integral_symm]
  rw [erf, h, erf]; ring

theorem acos_neg_one : Ideal.acos (((-1 : ℝ)) : EReal) = ((Real.pi : ℝ) : EReal) := by
  rw [Ideal.acos_coe, if_pos ⟨le_refl _, by norm_num⟩, Real.arccos_neg_one]

/-- A finite sum of reals. -/
theorem sum_real {n : ℕ} (f : Fin n → ℝ) : (∑ k, (f k : EReal)) = ((∑ k, f k : ℝ) : EReal) := by
  induction n with
  | zero => simp
  | succ n ih => rw [Fin.sum_univ_castSucc, Fin.sum_univ_castSucc, EReal.coe_add, ih]

/-! ## Constants -/

/-- The small number added to a variance: the f32 number nearest to `1e-6`. -/
def eps : ℝ := 8796093 / 2 ^ 43

theorem eps_pos : 0 < eps := by unfold eps; positivity

theorem bits_zero : Ideal.ofBits .f32 0x00000000#32 = ((0 : ℝ) : EReal) := by simp [Ideal.ofBits, Ideal.ieee]
theorem bits_one : Ideal.ofBits .f32 0x3F800000#32 = ((1 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_neg_half : Ideal.ofBits .f32 0xBF000000#32 = ((-1 / 2 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_neg_two : Ideal.ofBits .f32 0xC0000000#32 = ((-2 : ℝ) : EReal) := by
  simp [Ideal.ofBits, Ideal.ieee, -EReal.coe_mul]; norm_num
theorem bits_neg_one : Ideal.ofBits .f32 0xBF800000#32 = ((-1 : ℝ) : EReal) := by
  simp [Ideal.ofBits, Ideal.ieee, -EReal.coe_mul]; norm_num
theorem bits_2048 : Ideal.ofBits .f32 0x45000000#32 = ((2048 : ℝ) : EReal) := by
  simp [Ideal.ofBits, Ideal.ieee, -EReal.coe_mul]; norm_num
theorem bits_1024 : Ideal.ofBits .f32 0x44800000#32 = ((1024 : ℝ) : EReal) := by
  simp [Ideal.ofBits, Ideal.ieee, -EReal.coe_mul]; norm_num
theorem bits_eps : Ideal.ofBits .f32 0x358637BD#32 = ((eps : ℝ) : EReal) := by
  simp [Ideal.ofBits, Ideal.ieee, -EReal.coe_mul, eps]; norm_num

/-! ## The exact GELU -/

/-- The distribution function of the standard normal law. -/
def cdf (x : ℝ) : ℝ := 1 / 2 * (1 + erf (x * (Real.sqrt 2)⁻¹))

/-- The exact GELU. -/
def gelu (x : ℝ) : ℝ := x * cdf x

/-- Its derivative. -/
def dgelu (x : ℝ) : ℝ := cdf x + x * (Real.exp (-(x * x) / 2) * (Real.sqrt (2 * Real.pi))⁻¹)

/-- The sigmoid. -/
def sg (x : ℝ) : ℝ := (1 + Real.exp (-x))⁻¹

theorem one_add_exp_pos (x : ℝ) : 0 < 1 + Real.exp x := by positivity

/-- The exponential of `-x²/2` as a power of two. -/
theorem exp2_half (x : ℝ) : Real.rpow 2 (x * x * -(2 * Real.log 2)⁻¹) = Real.exp (-(x * x) / 2) := by
  have h : (2 : ℝ) ^ (x * x * -(2 * Real.log 2)⁻¹) = Real.exp (-(x * x) / 2) := by
    rw [Real.rpow_def_of_pos (by norm_num)]
    have h2 : Real.log 2 ≠ 0 := (Real.log_pos (by norm_num)).ne'
    congr 1; field_simp
  exact h

/-- GELU as `x/2 · erfc (-x/√2)`. -/
theorem gelu_erfc (x : ℝ) : 1 / 2 * x * (1 - erf (-x / Real.sqrt 2)) = gelu x := by
  rw [neg_div, erf_neg, gelu, cdf, div_eq_mul_inv x]; ring

theorem one_real : (1 : EReal) = ((1 : ℝ) : EReal) := EReal.coe_one.symm

theorem zero_real : (0 : EReal) = ((0 : ℝ) : EReal) := EReal.coe_zero.symm

/-! ## Layer normalisation of a row of 2048 numbers -/

def mean (f : ℕ → ℝ) : ℝ := (∑ k : Fin 2048, f k) / 2048

theorem mean_real (f : ℕ → ℝ) : Ideal.div ((∑ k : Fin 2048, f k : ℝ) : EReal) ((2048 : ℝ) : EReal) = (mean f : EReal) :=
  div_real _ (by norm_num)

/-- A row less its mean. -/
def cen (f : ℕ → ℝ) (j : ℕ) : ℝ := f j - mean f

/-- The reciprocal of the standard deviation. -/
def inv (f : ℕ → ℝ) : ℝ := (Real.sqrt (mean (fun j => cen f j * cen f j) + eps))⁻¹

/-- The normalised row. -/
def nrm (f : ℕ → ℝ) (j : ℕ) : ℝ := cen f j * inv f

theorem mean_sq_nonneg (f : ℕ → ℝ) : 0 ≤ mean (fun j => f j * f j) :=
  div_nonneg (Finset.sum_nonneg fun _ _ => mul_self_nonneg _) (by norm_num)

theorem var_pos (f : ℕ → ℝ) : 0 < mean (fun j => cen f j * cen f j) + eps := by
  have := mean_sq_nonneg (cen f)
  have := eps_pos
  linarith

/-- The gradient of the normalisation: from the gradient `h` of the normalised row to that of the row. -/
def nrmGrad (f h : ℕ → ℝ) (j : ℕ) : ℝ :=
  inv f * ((h j - mean h) - nrm f j * mean (fun k => h k * nrm f k))

/-! ## The gated mixer of one chunked sequence -/

/-- The gradient of the SiLU. -/
def dsilu (z : ℝ) : ℝ := sg z * (1 + z * (1 - sg z))

/-- The lower triangle of a matrix. -/
def low (W : ℕ → ℕ → ℝ) (t s : ℕ) : ℝ := if s ≤ t then W t s else 0

/-- The normalised gate input. -/
def xh (B : ℕ → ℕ → ℝ) (r j : ℕ) : ℝ := nrm (fun k => gelu (B r k)) j

/-- What the mixer mixes. -/
def vv (B : ℕ → ℕ → ℝ) (g b : ℕ → ℝ) (r j : ℕ) : ℝ := xh B r j * g j + b j

/-- The gradient of the mixed values. -/
def dmx (D A Z : ℕ → ℕ → ℝ) (r j : ℕ) : ℝ := D r j * (Z r j * sg (Z r j)) * gelu (A r j)

/-- The mixed values: in each chunk of 128 rows and each group of 256 columns, the lower triangle of the group's matrix
times the chunk, plus the group's bias. -/
def mx (W : ℕ → ℕ → ℕ → ℝ) (bs : ℕ → ℕ → ℝ) (v : ℕ → ℕ → ℝ) (r j : ℕ) : ℝ :=
  (∑ s : Fin 128, low (W (j / 256)) (r % 128) s * v (r / 128 * 128 + s) j) + bs (j / 256) (r % 128)

/-- The gradient of what is mixed. -/
def dvv (W : ℕ → ℕ → ℕ → ℝ) (dm : ℕ → ℕ → ℝ) (r j : ℕ) : ℝ :=
  ∑ t : Fin 128, low (W (j / 256)) t (r % 128) * dm (r / 128 * 128 + t) j

/-- What one block of two chunks adds to the gradient of a group's matrix … -/
def dwB (dm v : ℕ → ℕ → ℝ) (g t s : ℕ) : ℝ :=
  if s ≤ t then (∑ k : Fin 256, dm t (256 * g + k) * v s (256 * g + k))
    + ∑ k : Fin 256, dm (128 + t) (256 * g + k) * v (128 + s) (256 * g + k) else 0

/-- … and to the gradient of its bias. -/
def dbB (dm : ℕ → ℕ → ℝ) (g t : ℕ) : ℝ :=
  (∑ k : Fin 256, dm t (256 * g + k)) + ∑ k : Fin 256, dm (128 + t) (256 * g + k)

/-- The gradient of the projection: of the value, of the gate input and of the output gate, side by side. -/
def dpr (W : ℕ → ℕ → ℕ → ℝ) (bs : ℕ → ℕ → ℝ) (g b : ℕ → ℝ) (D A B Z : ℕ → ℕ → ℝ) (r j : ℕ) : ℝ :=
  if j < 2048 then D r j * (Z r j * sg (Z r j)) * mx W bs (vv B g b) r j * dgelu (A r j)
  else if j < 4096 then
    nrmGrad (fun k => gelu (B r k)) (fun k => dvv W (dmx D A Z) r k * g k) (j - 2048) * dgelu (B r (j - 2048))
  else D r (j - 4096) * (gelu (A r (j - 4096)) * mx W bs (vv B g b) r (j - 4096)) * dsilu (Z r (j - 4096))

section
variable (W : ℕ → ℕ → ℕ → ℝ) (bs : ℕ → ℕ → ℝ) (g b : ℕ → ℝ) (D A B Z : ℕ → ℕ → ℝ) (r : ℕ) {q : ℕ}

theorem dpr_a (hq : q < 2048) : dpr W bs g b D A B Z r (0 + q)
    = D r q * (Z r q * sg (Z r q)) * mx W bs (vv B g b) r q * dgelu (A r q) := by
  rw [zero_add, dpr, if_pos hq]
theorem dpr_b (hq : q < 2048) : dpr W bs g b D A B Z r (2048 + q)
    = nrmGrad (fun k => gelu (B r k)) (fun k => dvv W (dmx D A Z) r k * g k) q * dgelu (B r q) := by
  rw [dpr, if_neg (by omega), if_pos (by omega), Nat.add_sub_cancel_left]
theorem dpr_z (q : ℕ) : dpr W bs g b D A B Z r (4096 + q)
    = D r q * (gelu (A r q) * mx W bs (vv B g b) r q) * dsilu (Z r q) := by
  rw [dpr, if_neg (by omega), if_neg (by omega), Nat.add_sub_cancel_left]
end

/-! ## Accumulation over the blocks of 256 rows -/

/-- The rows of a block. -/
def sh (n : ℕ) (X : ℕ → ℕ → ℝ) (r j : ℕ) : ℝ := X (256 * n + r) j

/-- A running sum of reals. -/
theorem running_sum {N : ℕ} (f : (n : ℕ) → n < N → EReal) (T : ℕ → ℝ) (h0 : ∀ h, f 0 h = 0 + (T 0 : EReal))
    (hs : ∀ n (h : n + 1 < N), f (n + 1) h = f n (Nat.lt_of_succ_lt h) + (T (n + 1) : EReal)) :
    ∀ n h, f n h = ((∑ i ∈ Finset.range (n + 1), T i : ℝ) : EReal)
  | 0, h => by rw [h0, zero_add]; simp
  | n + 1, h => by rw [hs n h, running_sum f T h0 hs n, ← EReal.coe_add, Finset.sum_range_succ _ (n + 1)]

/-- The six arguments hold real numbers: the gradient that arrives, the three thirds of the projection, and the second
layer's scale, offset, matrices and biases. -/
structure Args (du : (⟨2, ![8192, 2048]⟩ : Shape).Idx → EReal) (pr : (⟨2, ![8192, 6144]⟩ : Shape).Idx → EReal)
    (lg lb : (⟨2, ![2, 2048]⟩ : Shape).Idx → EReal) (w : (⟨4, ![2, 8, 128, 128]⟩ : Shape).Idx → EReal)
    (sb : (⟨3, ![2, 8, 128]⟩ : Shape).Idx → EReal)
    (D A B Z : ℕ → ℕ → ℝ) (g b : ℕ → ℝ) (W : ℕ → ℕ → ℕ → ℝ) (bs : ℕ → ℕ → ℝ) : Prop where
  d : ∀ r j, du (ix2 r j) = (D r j : EReal)
  a : ∀ (r : Fin 8192) (j : Fin 2048), pr (ix2 r ⟨j, by omega⟩) = (A r j : EReal)
  bb : ∀ (r : Fin 8192) (j : Fin 2048), pr (ix2 r ⟨2048 + j, by omega⟩) = (B r j : EReal)
  z : ∀ (r : Fin 8192) (j : Fin 2048), pr (ix2 r ⟨4096 + j, by omega⟩) = (Z r j : EReal)
  g : ∀ j, lg (ix2 1 j) = (g j : EReal)
  o : ∀ j, lb (ix2 1 j) = (b j : EReal)
  w : ∀ g t s, w (ix4 1 g t s) = (W g t s : EReal)
  c : ∀ g t, sb (ix3 1 g t) = (bs g t : EReal)

/-! ## The five results -/

section
variable (D A B Z : ℕ → ℕ → ℝ) (g b : ℕ → ℝ) (W : ℕ → ℕ → ℕ → ℝ)

def dW (e p q : ℕ) : ℝ := ∑ n ∈ Finset.range 32, dwB (dmx (sh n D) (sh n A) (sh n Z)) (vv (sh n B) g b) e p q
def dBt (p e : ℕ) : ℝ := ∑ n ∈ Finset.range 32, dbB (dmx (sh n D) (sh n A) (sh n Z)) e p
def dG (j : ℕ) : ℝ := ∑ n ∈ Finset.range 32, ∑ r : Fin 256, dvv W (dmx (sh n D) (sh n A) (sh n Z)) r j * xh (sh n B) r j
def dB (j : ℕ) : ℝ := ∑ n ∈ Finset.range 32, ∑ r : Fin 256, dvv W (dmx (sh n D) (sh n A) (sh n Z)) r j
end

/-! ## A block of 256 rows is two whole chunks -/

section
variable (D A B Z : ℕ → ℕ → ℝ) (g b : ℕ → ℝ) (W : ℕ → ℕ → ℕ → ℝ) (bs : ℕ → ℕ → ℝ) (n r j : ℕ)

theorem mx_sh (v : ℕ → ℕ → ℝ) : mx W bs (sh n v) r j = mx W bs v (256 * n + r) j := by
  unfold mx sh
  rw [show (256 * n + r) % 128 = r % 128 by omega]
  refine congrArg (· + _) (Finset.sum_congr rfl fun s _ => ?_)
  rw [show (256 * n + r) / 128 * 128 + s = 256 * n + (r / 128 * 128 + s) by omega]

theorem dvv_sh (v : ℕ → ℕ → ℝ) : dvv W (sh n v) r j = dvv W v (256 * n + r) j := by
  unfold dvv sh
  rw [show (256 * n + r) % 128 = r % 128 by omega]
  refine Finset.sum_congr rfl fun s _ => ?_
  rw [show (256 * n + r) / 128 * 128 + s = 256 * n + (r / 128 * 128 + s) by omega]

theorem dpr_sh : dpr W bs g b (sh n D) (sh n A) (sh n B) (sh n Z) r j = dpr W bs g b D A B Z (256 * n + r) j := by
  have hm (j) : mx W bs (vv (sh n B) g b) r j = _ := mx_sh W bs n r j (vv B g b)
  have hd (j) : dvv W (dmx (sh n D) (sh n A) (sh n Z)) r j = _ := dvv_sh W n r j (dmx D A Z)
  unfold dpr
  simp only [hm, hd, sh]
end

/-! ## A comparison of two coordinates, and a selection on it -/

theorem sge_small : ∀ t s : Fin 128, IntOp.cmpi CmpIPredicate.sge (BitVec.ofNat 32 t) (BitVec.ofNat 32 s)
    = if (s : ℕ) ≤ t then 1#1 else 0#1 := by decide +kernel

theorem sel (x : Ideal .f32) (p : Prop) [Decidable p] {a : ℝ} (h : x = (a : EReal)) :
    Scalar.select (if p then 1#1 else 0#1) x (0 : Ideal .f32) = ((if p then a else 0 : ℝ) : EReal) := by
  split
  · exact h
  · exact zero_real

/-! ## Sums over two axes -/

section
variable {n0 n1 n2 n3 n4 : ℕ}

theorem sum_axes01 (h : (⟨3, ![n0, n1, n2]⟩ : Shape).ReducesTo [0, 1] (⟨1, ![n2]⟩ : Shape)) (v : (⟨3, ![n0, n1, n2]⟩ : Shape).Idx → EReal)
    (init : EReal) (j : Fin n2) : Ideal.hostReduceAdd h v init (ix1 j) = init + ∑ q, ∑ r, v (ix3 q r j) := by
  refine congrArg (init + ·) ((Finset.sum_filter_eq_sum_of_fiber _ (fun k : Fin n0 × Fin n1 => ix3 k.1 k.2 j)
    (fun _ _ e => Prod.ext (congrFun e 0) (congrFun e 1)) (fun i => ?_) v).trans (by simp only [Fintype.sum_prod_type]))
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext c; apply Fin.ext
    match c with
    | ⟨0, _⟩ => rfl

theorem sum_axes014 (h : (⟨5, ![n0, n1, n2, n3, n4]⟩ : Shape).ReducesTo [0, 1, 4] (⟨2, ![n2, n3]⟩ : Shape))
    (v : (⟨5, ![n0, n1, n2, n3, n4]⟩ : Shape).Idx → EReal) (init : EReal) (i : Fin n2) (j : Fin n3) :
    Ideal.hostReduceAdd h v init (ix2 i j) = init + ∑ q, ∑ r, ∑ s, v (ix5 q r i j s) := by
  refine congrArg (init + ·) ((Finset.sum_filter_eq_sum_of_fiber _ (fun k : Fin n0 × Fin n1 × Fin n4 => ix5 k.1 k.2.1 i j k.2.2)
    (fun _ _ e => Prod.ext (congrFun e 0) (Prod.ext (congrFun e 1) (congrFun e 4))) (fun l => ?_) v).trans
    (by simp only [Fintype.sum_prod_type]))
  constructor
  · intro e
    refine ⟨(l 0, l 1, l 4), ?_⟩
    funext a; apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
    | ⟨4, _⟩ => rfl
  · rintro ⟨k, rfl⟩
    funext c; apply Fin.ext
    match c with
    | ⟨0, _⟩ => rfl
    | ⟨1, _⟩ => rfl
end

/-! ## Sums over rows, cut in two ways -/

theorem sum_cut (a b : ℕ) (f : ℕ → ℝ) : ∑ n ∈ Finset.range a, ∑ r : Fin b, f (b * n + r) = ∑ i ∈ Finset.range (b * a), f i := by
  induction a with
  | zero => simp
  | succ a ih => rw [Finset.sum_range_succ, ih, Nat.mul_succ, Finset.sum_range_add, Finset.sum_range (n := b)]

theorem sum_cut_fin (a b : ℕ) (f : ℕ → ℝ) : ∑ n : Fin a, ∑ r : Fin b, f (n * b + r) = ∑ i ∈ Finset.range (b * a), f i := by
  rw [← sum_cut, Finset.sum_range]
  simp only [Nat.mul_comm]

section
variable (D A B Z : ℕ → ℕ → ℝ) (g b : ℕ → ℝ) (W : ℕ → ℕ → ℕ → ℝ)

theorem sum_blocks (f : ℕ → ℝ) : ∑ n ∈ Finset.range 32, ∑ r : Fin 256, f (256 * n + r) = ∑ q : Fin 2, ∑ r : Fin 4096, f (q * 4096 + r) :=
  (sum_cut 32 256 f).trans (sum_cut_fin 2 4096 f).symm

theorem sum_chunks (F : ℕ → ℝ) : ∑ n ∈ Finset.range 32, (F (2 * n) + F (2 * n + 1)) = ∑ q : Fin 2, ∑ n : Fin 32, F (q * 32 + n) := by
  refine Eq.trans ?_ ((sum_cut 32 2 F).trans (sum_cut_fin 2 32 F).symm)
  refine Finset.sum_congr rfl fun n _ => ?_
  rw [Fin.sum_univ_two]; rfl

theorem sum_dB (j : ℕ) : dB D A Z W j = ∑ q : Fin 2, ∑ r : Fin 4096, dvv W (dmx D A Z) (q * 4096 + r) j := by
  rw [← sum_blocks fun r => dvv W (dmx D A Z) r j, dB]
  exact Finset.sum_congr rfl fun n _ => Finset.sum_congr rfl fun r _ => dvv_sh W n r j (dmx D A Z)

theorem sum_dG (j : ℕ) : dG D A B Z W j = ∑ q : Fin 2, ∑ r : Fin 4096, xh B (q * 4096 + r) j * dvv W (dmx D A Z) (q * 4096 + r) j := by
  rw [← sum_blocks fun r => xh B r j * dvv W (dmx D A Z) r j, dG]
  refine Finset.sum_congr rfl fun n _ => Finset.sum_congr rfl fun r _ => ?_
  rw [mul_comm]
  exact congrArg (xh B (256 * n + r) j * ·) (dvv_sh W n r j (dmx D A Z))

theorem sum_dbB (p e : ℕ) : dBt D A Z p e
    = ∑ q : Fin 2, ∑ n : Fin 32, ∑ k : Fin 256, dmx D A Z (q * 4096 + (n * 128 + p)) (e * 256 + k) := by
  refine Eq.trans ?_ ((sum_chunks fun c => ∑ k : Fin 256, dmx D A Z (c * 128 + p) (e * 256 + k)).trans ?_)
  · refine Finset.sum_congr rfl fun n _ => congrArg₂ (· + ·) (Finset.sum_congr rfl fun k _ => ?_) (Finset.sum_congr rfl fun k _ => ?_)
    · exact congrArg₂ (dmx D A Z) (by omega) (by omega)
    · exact congrArg₂ (dmx D A Z) (by omega) (by omega)
  · exact Finset.sum_congr rfl fun q _ => Finset.sum_congr rfl fun n _ => Finset.sum_congr rfl fun k _ =>
      congrArg₂ (dmx D A Z) (by omega) rfl

theorem sum_dwB (e p t : ℕ) : dW D A B Z g b e p t = if t ≤ p then ∑ q : Fin 2, ∑ n : Fin 32, ∑ k : Fin 256,
    dmx D A Z (q * 4096 + (n * 128 + p)) (e * 256 + k) * vv B g b (q * 4096 + (n * 128 + t)) (e * 256 + k) else 0 := by
  rw [dW]
  simp only [dwB]
  split
  · refine Eq.trans ?_ ((sum_chunks fun c => ∑ k : Fin 256, dmx D A Z (c * 128 + p) (e * 256 + k) * vv B g b (c * 128 + t) (e * 256 + k)).trans ?_)
    · refine Finset.sum_congr rfl fun n _ => congrArg₂ (· + ·) (Finset.sum_congr rfl fun k _ => ?_) (Finset.sum_congr rfl fun k _ => ?_)
      · exact congrArg₂ (· * ·) (congrArg₂ (dmx D A Z) (by omega) (by omega)) (congrArg₂ (vv B g b) (by omega) (by omega))
      · exact congrArg₂ (· * ·) (congrArg₂ (dmx D A Z) (by omega) (by omega)) (congrArg₂ (vv B g b) (by omega) (by omega))
    · exact Finset.sum_congr rfl fun q _ => Finset.sum_congr rfl fun n _ => Finset.sum_congr rfl fun k _ =>
        congrArg₂ (· * ·) (congrArg₂ (dmx D A Z) (by omega) rfl) (congrArg₂ (vv B g b) (by omega) rfl)
  · exact Finset.sum_const_zero
end

/-! ## The two derivatives as automatic differentiation writes them -/

theorem dgelu_erfc (x u : ℝ) : -(1 / 2 * x * u * Real.exp (-(-x / √2 * (-x / √2))) * (-2 / √Real.pi) / √2)
    + 1 / 2 * (u * (1 - erf (-x / √2))) = u * dgelu x := by
  rw [neg_div, erf_neg, dgelu, cdf, div_eq_mul_inv x, Real.sqrt_mul (by norm_num)]
  have h : -(-(x * (√2)⁻¹) * -(x * (√2)⁻¹)) = -(x * x) / 2 := by
    have : (√2)⁻¹ * (√2)⁻¹ = (1 / 2 : ℝ) := by rw [← mul_inv, Real.mul_self_sqrt (by norm_num)]; norm_num
    linear_combination (-(x * x)) * this
  rw [h]
  have h2 : (√2 : ℝ) ≠ 0 := by positivity
  have hp : √Real.pi ≠ 0 := (Real.sqrt_pos.mpr Real.pi_pos).ne'
  field_simp
  ring

theorem sum_cen (f : ℕ → ℝ) : ∑ k : Fin 2048, cen f k = 0 := by
  simp only [cen, Finset.sum_sub_distrib, Finset.sum_const, Finset.card_univ, Fintype.card_fin, mean, nsmul_eq_mul]
  push_cast; ring

/-- What automatic differentiation has before the gradient goes through the mean. -/
def pre (f h : ℕ → ℝ) (j : ℕ) : ℝ :=
  h j * inv f + cen f j * ((∑ k : Fin 2048, cen f k * h k) * (-1 / 2 * (inv f / (mean (fun j => cen f j * cen f j) + eps))) / 2048)
    + (∑ k : Fin 2048, cen f k * h k) * (-1 / 2 * (inv f / (mean (fun j => cen f j * cen f j) + eps))) / 2048 * cen f j

theorem pre_eq (f h : ℕ → ℝ) (j : ℕ) : pre f h j = inv f * (h j - nrm f j * mean fun k => h k * nrm f k) := by
  have e : inv f / (mean (fun j => cen f j * cen f j) + eps) = inv f * inv f * inv f := by
    have p := var_pos f
    rw [div_eq_mul_inv, mul_assoc]
    congr 1
    rw [inv, ← mul_inv, Real.mul_self_sqrt p.le]
  have e2 : (mean fun k => h k * nrm f k) = inv f * ((∑ k : Fin 2048, cen f k * h k) / 2048) := by
    rw [mean, ← mul_div_assoc, Finset.mul_sum]
    congr 1
    exact Finset.sum_congr rfl fun k _ => by rw [nrm]; ring
  rw [pre, e, e2, nrm]; ring

theorem nrmGrad_pre (f h : ℕ → ℝ) (j : ℕ) : pre f h j + (∑ k : Fin 2048, -pre f h k) / 2048 = nrmGrad f h j := by
  simp only [pre_eq]
  rw [nrmGrad, Finset.sum_neg_distrib, ← Finset.mul_sum, Finset.sum_sub_distrib, ← Finset.sum_mul]
  have : ∑ k : Fin 2048, nrm f k = 0 := by simp only [nrm]; rw [← Finset.sum_mul, sum_cen, zero_mul]
  simp only [this, mean]; ring

end Cert.Reals

end
-- ==== Proof.SguPoint.lean ====
/- One block of 256 rows of the gradient of the spatial gating, on finite numbers: each value the kernel computes from
   the block, at an index, as a real number. -/
module

public import proofs.«01_k».proof.Proof.Gen.KernelIdeal.Frame
public import proofs.«01_k».proof.Proof.Reals
public import Idealize.ShloMosaic.Lib.Pipeline.ValueKit
public import Idealize.ShloMosaic.Lib.Pointwise

@[expose] public section

set_option maxRecDepth 16384

noncomputable section

namespace Cert.KernelIdeal.Gen
open Idealize.ShloMosaic Idealize.ShloMosaic.TcCoe Idealize.SL.Sem Cert.Reals

theorem k_sqrt2 : Named.named (F := Ideal) κ "inv_sqrt2" (φ := .f32) 0x3F3504F3#32 = (((Real.sqrt 2)⁻¹ : ℝ) : EReal) :=
  IdealRules.named_const.ideal_named_scalar _ _ _ _ rfl
theorem k_log2e : Named.named (F := Ideal) κ "neg_half_log2e" (φ := .f32) 0xBF38AA3B#32
    = ((-((2 * (Real.log 2))⁻¹) : ℝ) : EReal) :=
  IdealRules.named_const.ideal_named_scalar _ _ _ _ rfl
theorem k_sqrt2pi : Named.named (F := Ideal) κ "inv_sqrt_2pi" (φ := .f32) 0x3ECC422A#32
    = (((Real.sqrt (2 * Real.pi))⁻¹ : ℝ) : EReal) :=
  IdealRules.named_const.ideal_named_scalar _ _ _ _ rfl

theorem exp2_op (x : Ideal .f32) : FloatOps.exp2 (F := Ideal) x = Ideal.exp2 x := rfl
theorem erf_op (x : Ideal .f32) : FloatOps.erf (F := Ideal) x = Ideal.erf x := rfl
theorem rsqrt_op (x : Ideal .f32) : FloatOps.rsqrt (F := Ideal) x = Ideal.rsqrt x := rfl
theorem logistic_op (x : Ideal .f32) : FloatOps.logistic (F := Ideal) x = Ideal.logistic x := rfl
theorem logistic_real (x : ℝ) : Ideal.logistic (x : EReal) = ((sg x : ℝ) : EReal) := by
  rw [Ideal.logistic_coe]; rfl
/-! ## GELU of a block -/

section
variable {v : Vec Ideal S256x2048 .bf16} {X : ℕ → ℕ → ℝ} (hv : ∀ r j, v (ix2 r j) = (X r j : EReal))
include hv

theorem pay8 (r j) : k0_pay8 v (ix2 r j) = (X r j : EReal) := by pointwise [k0_pay8]; exact hv r j
theorem pay9 (r j) : k0_pay9 v (ix2 r j) = (X r j : EReal) := by pointwise [k0_pay9]; exact hv r j
theorem pay10 (r j) : k0_pay10 v (ix2 r j) = (X r j : EReal) := by pointwise [k0_pay10]; exact hv r j
theorem pay57 (r j) : k0_pay57 v (ix2 r j) = (X r j : EReal) := by pointwise [k0_pay57]; exact hv r j

theorem pay11 (r j) : k0_pay11 v (ix2 r j) = (cdf (X r j) : EReal) := by
  pointwise [k0_pay11]
  simp only [pay8 hv, k_sqrt2, bits_half, one_real, ← EReal.coe_add, ← EReal.coe_mul, erf_op, erf_real]
  rfl
theorem pay14 (r j) : k0_pay14 v (ix2 r j) = (cdf (X r j) : EReal) := by
  pointwise [k0_pay14]
  simp only [pay9 hv, k_sqrt2, bits_half, one_real, ← EReal.coe_add, ← EReal.coe_mul, erf_op, erf_real]
  rfl
theorem pay12 (r j) : k0_pay12 v (ix2 r j) = (gelu (X r j) : EReal) := by
  pointwise [k0_pay12]
  simp only [pay8 hv, pay11 hv, ← EReal.coe_mul]
  rfl
theorem pay13 (r j) : k0_pay13 v (ix2 r j) = (dgelu (X r j) : EReal) := by
  pointwise [k0_pay13]
  simp only [pay8 hv, pay11 hv, k_log2e, k_sqrt2pi, ← EReal.coe_add, ← EReal.coe_mul, exp2_op, Ideal.exp2_coe, exp2_half]
  rfl
end

section
variable {v10 v35 : FVec Ideal S256x2048 .f32} {X : ℕ → ℕ → ℝ} (h10 : ∀ r j, v10 (ix2 r j) = (X r j : EReal))
  (h35 : ∀ r j, v35 (ix2 r j) = (cdf (X r j) : EReal))
include h10 h35

theorem pay15 (r j) : k0_pay15 v10 v35 (ix2 r j) = (dgelu (X r j) : EReal) := by
  pointwise [k0_pay15]
  simp only [h10, h35, k_log2e, k_sqrt2pi, ← EReal.coe_add, ← EReal.coe_mul, exp2_op, Ideal.exp2_coe, exp2_half]
  rfl

/-! ## Layer normalisation of the rows of a block -/

theorem pay16 (r j) : k0_pay16 v10 v35 (ix2 r j) = (cen (fun k => gelu (X r k)) j : EReal) := by
  pointwise [k0_pay16]
  simp only [h10, h35, bits_2048, ← EReal.coe_mul, sum_real]
  refine (congrArg₂ (· - ·) rfl (mean_real (fun k => gelu (X r k)))).trans ?_
  rw [← EReal.coe_sub]; rfl
theorem pay17 (r c) : k0_pay17 v10 v35 (ix2 r c) = (inv (fun k => gelu (X r k)) : EReal) := by
  pointwise [k0_pay17]
  simp only [pay16 h10 h35, bits_2048, bits_eps, ← EReal.coe_mul, sum_real, rsqrt_op]
  rw [mean_real (fun j => cen (fun k => gelu (X r k)) j * cen (fun k => gelu (X r k)) j), ← EReal.coe_add,
    rsqrt_real (var_pos _)]
  rfl
theorem pay18 (r j) : k0_pay18 v10 v35 (ix2 r j) = (xh X r j : EReal) := by
  pointwise [k0_pay18]
  simp only [pay16 h10 h35, pay17 h10 h35, ← EReal.coe_mul]
  rfl
theorem pay19 {v4 v6 : FVec Ideal S1x2048 .f32} {g b : ℕ → ℝ} (h4 : ∀ i j, v4 (ix2 i j) = (g j : EReal))
    (h6 : ∀ i j, v6 (ix2 i j) = (b j : EReal)) (r j) : k0_pay19 v4 v6 v10 v35 (ix2 r j) = (vv X g b r j : EReal) := by
  pointwise [k0_pay19]
  simp only [pay18 h10 h35, h4, h6, ← EReal.coe_mul, ← EReal.coe_add]
  rfl
end

/-! ## The pieces of the gradient of the projection -/

section
variable {vd : Vec Ideal S256x2048 .bf16} {vz : FVec Ideal S256x2048 .f32} {D Z : ℕ → ℕ → ℝ}
  (hd : ∀ r j, vd (ix2 r j) = (D r j : EReal)) (hz : ∀ r j, vz (ix2 r j) = (Z r j : EReal))
include hz

theorem pay56 (r j) : k0_pay56 vz (ix2 r j) = (sg (Z r j) : EReal) := by
  pointwise [k0_pay56]
  simp only [hz, logistic_op, logistic_real]
include hd
theorem pay58 (r j) : k0_pay58 vz vd (ix2 r j) = (D r j * (Z r j * sg (Z r j)) : ℝ) := by
  pointwise [k0_pay58]
  simp only [hz, pay56 hz, pay57 hd, ← EReal.coe_mul]
theorem pay59 {va vm : FVec Ideal S256x2048 .f32} {A M : ℕ → ℕ → ℝ}
    (ha : ∀ r j, va (ix2 r j) = (gelu (A r j) : EReal)) (hm : ∀ r j, vm (ix2 r j) = (M r j : EReal)) (r j) :
    k0_pay59 vz va vm vd (ix2 r j) = (D r j * (gelu (A r j) * M r j) * dsilu (Z r j) : ℝ) := by
  pointwise [k0_pay59]
  simp only [hz, ha, hm, pay56 hz, pay57 hd, one_real, ← EReal.coe_mul, ← EReal.coe_add, ← EReal.coe_sub]
  rfl
end

theorem pay60 {va vm vs : FVec Ideal S256x2048 .f32} {A M S : ℕ → ℕ → ℝ}
    (ha : ∀ r j, va (ix2 r j) = (dgelu (A r j) : EReal)) (hm : ∀ r j, vm (ix2 r j) = (M r j : EReal))
    (hs : ∀ r j, vs (ix2 r j) = (S r j : EReal)) (r j) :
    k0_pay60 va vm vs (ix2 r j) = (S r j * M r j * dgelu (A r j) : ℝ) := by
  pointwise [k0_pay60]
  simp only [ha, hm, hs, ← EReal.coe_mul]
theorem pay61 {va vs : FVec Ideal S256x2048 .f32} {D A Z : ℕ → ℕ → ℝ}
    (ha : ∀ r j, va (ix2 r j) = (gelu (A r j) : EReal))
    (hs : ∀ r j, vs (ix2 r j) = (D r j * (Z r j * sg (Z r j)) : ℝ)) (r j) :
    k0_pay61 va vs (ix2 r j) = (dmx D A Z r j : EReal) := by
  pointwise [k0_pay61]
  simp only [ha, hs, ← EReal.coe_mul]
  rfl

/-! ## The gradient of the layer normalisation -/

section
variable {v4 : FVec Ideal S1x2048 .f32} {g : ℕ → ℝ} (h4 : ∀ i j, v4 (ix2 i j) = (g j : EReal))
  {vv : FVec Ideal S256x2048 .f32} {V : ℕ → ℕ → ℝ} (hV : ∀ r j, vv (ix2 r j) = (V r j : EReal))
include h4 hV
theorem pay135 (r j) : k0_pay135 v4 vv (ix2 r j) = (V r j * g j : ℝ) := by
  pointwise [k0_pay135]
  simp only [h4, hV, ← EReal.coe_mul]
theorem pay136 (r j) : k0_pay136 v4 vv (ix2 r j) = (V r j * g j - mean (fun k => V r k * g k) : ℝ) := by
  pointwise [k0_pay136]
  simp only [pay135 h4 hV, bits_2048, sum_real]
  refine (congrArg₂ (· - ·) rfl (mean_real (fun k => V r k * g k))).trans ?_
  rw [← EReal.coe_sub]
theorem pay137 {v60 : FVec Ideal S256x2048 .f32} {X : ℕ → ℕ → ℝ} (h60 : ∀ r j, v60 (ix2 r j) = (xh X r j : EReal)) (r c) :
    k0_pay137 v4 v60 vv (ix2 r c) = (∑ k : Fin 2048, V r k * g k * xh X r k : ℝ) := by
  pointwise [k0_pay137]
  simp only [pay135 h4 hV, h60, ← EReal.coe_mul, sum_real]
end

theorem pay1 {v44 v60 v595 : FVec Ideal S256x2048 .f32} {v58 v598 : FVec Ideal S256x1 .f32} {X V : ℕ → ℕ → ℝ} {g : ℕ → ℝ}
    (h44 : ∀ r j, v44 (ix2 r j) = (dgelu (X r j) : EReal)) (h58 : ∀ r c, v58 (ix2 r c) = (inv (fun k => gelu (X r k)) : EReal))
    (h60 : ∀ r j, v60 (ix2 r j) = (xh X r j : EReal))
    (h595 : ∀ r j, v595 (ix2 r j) = (V r j * g j - mean (fun k => V r k * g k) : ℝ))
    (h598 : ∀ r c, v598 (ix2 r c) = (∑ k : Fin 2048, V r k * g k * xh X r k : ℝ)) (r j) :
    k0_pay1 v44 v58 v60 v595 v598 (Scalar.ofBits .f32 0x45000000#32) (ix2 r j)
      = (nrmGrad (fun k => gelu (X r k)) (fun k => V r k * g k) j * dgelu (X r j) : ℝ) := by
  pointwise [k0_pay1]
  simp only [h44, h58, h60, h595, h598, bits_2048]
  rw [mean_real (fun k => V r k * g k * xh X r k), ← EReal.coe_mul, ← EReal.coe_sub, ← EReal.coe_mul, ← EReal.coe_mul]
  rfl

/-! ## The accumulated gradients of the scale and the offset -/

theorem pay133 {v60 vv : FVec Ideal S256x2048 .f32} {X V : ℕ → ℕ → ℝ} (h60 : ∀ r j, v60 (ix2 r j) = (X r j : EReal))
    (hV : ∀ r j, vv (ix2 r j) = (V r j : EReal)) (o : Vec Ideal S1x2048 .f32) (i j) :
    k0_pay133 v60 vv o (ix2 i j) = o (ix2 i j) + (∑ r : Fin 256, V r j * X r j : ℝ) := by
  pointwise [k0_pay133]
  simp only [h60, hV, ← EReal.coe_mul, sum_real]
theorem pay134 {vv : FVec Ideal S256x2048 .f32} {V : ℕ → ℕ → ℝ}
    (hV : ∀ r j, vv (ix2 r j) = (V r j : EReal)) (o : Vec Ideal S1x2048 .f32) (i j) :
    k0_pay134 vv o (ix2 i j) = o (ix2 i j) + (∑ r : Fin 256, V r j : ℝ) := by
  pointwise [k0_pay134]
  simp only [hV, sum_real]

end Cert.KernelIdeal.Gen
end
-- ==== Proof.SguTile.lean ====
/- The tiles of one block: the masked matrix of a group, its products with a tile, and the two accumulations per group. -/
module

public import proofs.«01_k».proof.Proof.SguPoint
public import Idealize.ShloMosaic.Lib.Pipeline.ReadBack

@[expose] public section

set_option maxRecDepth 16384

noncomputable section

namespace Cert.KernelIdeal.Gen
open Idealize.ShloMosaic Idealize.ShloMosaic.TcCoe Idealize.SL.Sem Cert.Reals

/-! ## The masked matrix of a group -/

theorem pay20 (t s : Fin 128) : k0_pay20 (ix2 t s) = if (s : ℕ) ≤ t then 1#1 else 0#1 := by
  pointwise [k0_pay20]
  exact sge_small t s

/-- The group's matrix, cut out of the block of matrices and masked. -/
def wG (x4 : Vec Ideal S1x8x128x128 .f32) (g : Fin 8) : FVec Ideal S128x128 .bf16 :=
  k0_pay21 (View.ld x4 (Rect.unit ![0, g, 0, 0] ![1, 1, 128, 128] (fun a => by fin_cases a <;> simp <;> omega)))

theorem wG_at {x4 : Vec Ideal S1x8x128x128 .f32} {W : ℕ → ℕ → ℕ → ℝ} (hw : ∀ a g t s, x4 (ix4 a g t s) = (W g t s : EReal))
    (g : Fin 8) (t s : Fin 128) : wG x4 g (ix2 t s) = (low (W g) t s : EReal) := by
  pointwise [wG, k0_pay21]
  rw [pay20]
  refine sel _ _ ?_
  exact hw 0 g t s

/-! ## The tiles of the mixed values and of the gradient of what is mixed -/

abbrev tR (c : Fin 2) (g : Fin 8) : Rect S256x2048 :=
  Rect.unit ![128 * c.val, 256 * g.val] ![128, 256] (fun a => by fin_cases a <;> simp <;> omega)

/-- The chunks and groups in the order in which the block's stores end up in the list. -/
def tiles : List (Fin 2 × Fin 8) :=
  [(1, 7), (0, 7), (1, 6), (0, 6), (1, 5), (0, 5), (1, 4), (0, 4), (1, 3), (0, 3), (1, 2), (0, 2), (1, 1), (0, 1), (1, 0), (0, 0)]

theorem mem_tiles : ∀ c g, (c, g) ∈ tiles := by decide

theorem tR_emb (c : Fin 2) (g : Fin 8) (t : Fin 128) (j : Fin 256) :
    (tR c g).emb (ix2 t j) = ix2 ⟨128 * c + t, by omega⟩ ⟨256 * g + j, by omega⟩ := by
  blk_ext

/-- Pieces that are tiles of one function of the row and the column, read back whole. -/
theorem canon_tiles_real (P : (c : Fin 2) → (g : Fin 8) → (tR c g).shape.Idx → Ideal .f32) (G : ℕ → ℕ → ℝ)
    (h : ∀ c g (t : Fin 128) (j : Fin 256), P c g (ix2 t j) = (G (128 * c + t) (256 * g + j) : EReal)) (r j) :
    View.canon (Val := Elt Ideal) (s := S256x2048) (e := .f32) (tiles.map fun p => ⟨tR p.1 p.2, P p.1 p.2⟩) (ix2 r j)
      = (G r j : EReal) := by
  refine View.canon_apply_of_pieces (Val := Elt Ideal) (e := .f32) (fun y : S256x2048.Idx => ((G (y 0) (y 1) : ℝ) : EReal)) _ ?_ (ix2 r j) ?_
  · intro p hp x
    obtain ⟨⟨c, g⟩, -, rfl⟩ := List.mem_map.mp hp
    obtain ⟨t, k, rfl⟩ : ∃ (t : Fin 128) (k : Fin 256), x = ix2 t k := ⟨x 0, x 1, by blk_ext⟩
    exact (h c g t k).trans (congrArg (fun y : S256x2048.Idx => ((G (y 0) (y 1) : ℝ) : EReal)) (tR_emb c g t k)).symm
  · refine ⟨_, List.mem_map.mpr ⟨(⟨r / 128, by omega⟩, ⟨j / 256, by omega⟩), mem_tiles _ _, rfl⟩, ?_⟩
    have e : ix2 r j = (tR ⟨r / 128, by omega⟩ ⟨j / 256, by omega⟩).emb (ix2 (⟨r % 128, by omega⟩ : Fin 128) (⟨j % 256, by omega⟩ : Fin 256)) := by
      rw [tR_emb]; congr 1 <;> apply Fin.ext <;> simp <;> omega
    rw [e]
    exact (tR _ _).idx_mem _

/-- The bias of a group, cut out of the block of biases. -/
def bG (x5 : Vec Ideal S1x128x8 .f32) (g : Fin 8) : FVec Ideal S128x1 .f32 :=
  k0_pay22 (View.ld x5 (Rect.unit ![0, 0, g] ![1, 128, 1] (fun a => by fin_cases a <;> simp <;> omega)))

theorem slices : ∀ (c : Fin 2) (g : Fin 8), S256x2048.Slices ![128 * c.val, 256 * g.val] S128x256 := by decide

/-- A tile of the mixed values. -/
def mixTile (v : FVec Ideal S256x2048 .bf16) (x4 : Vec Ideal S1x8x128x128 .f32) (x5 : Vec Ideal S1x128x8 .f32) (c : Fin 2) (g : Fin 8) :
    FVec Ideal S128x256 .f32 :=
  shapeCast S128x256 (addf (matmul dot_S128x128_S128x256_S128x256_1_0_0_1_n_n none (wG x4 g)
      (extractStridedSlice S128x256 ![128 * c.val, 256 * g.val] v (slices c g)) (constant S128x256 .f32 0x00000000#32))
    (broadcastTo S128x256 (bG x5 g) broadcasts_S128x1_S128x256)) shapeCasts_S128x256_S128x256

section
variable {x4 : Vec Ideal S1x8x128x128 .f32} {W : ℕ → ℕ → ℕ → ℝ} (hw : ∀ a g t s, x4 (ix4 a g t s) = (W g t s : EReal))
include hw

theorem mixTile_at {v : FVec Ideal S256x2048 .bf16} {V : ℕ → ℕ → ℝ} (hV : ∀ r j, v (ix2 r j) = (V r j : EReal))
    {x5 : Vec Ideal S1x128x8 .f32} {bs : ℕ → ℕ → ℝ} (hb : ∀ a t g, x5 (ix3 a t g) = (bs g t : EReal))
    (c : Fin 2) (g : Fin 8) (t : Fin 128) (j : Fin 256) :
    mixTile v x4 x5 c g (ix2 t j) = (mx W bs V (128 * c + t) (256 * g + j) : EReal) := by
  have e : mx W bs V (128 * c + t) (256 * g + j) = (∑ s : Fin 128, low (W g) t s * V (128 * c + s) (256 * g + j)) + bs g t := by
    rw [mx, show (256 * (g : ℕ) + j) / 256 = g by omega, show (128 * (c : ℕ) + t) % 128 = t by omega,
      show (128 * (c : ℕ) + t) / 128 * 128 = 128 * c by omega]
  rw [e]
  pointwise [mixTile, bG, k0_pay22]
  simp only [wG_at hw, hV, ← EReal.coe_mul, sum_real]
  rw [EReal.coe_add]
  refine congrArg₂ (· + ·) rfl ?_
  exact hb 0 t g

end

/-! ## What is read of a buffer stored whole -/

/-- The tile of a chunk and a group, read back of the scratch buffer after one store of the whole buffer. -/
def dT (X : FVec Ideal S256x2048 .f32) (c : Fin 2) (g : Fin 8) : Vec Ideal S128x256 .f32 :=
  (View.whole (cc0_scratch1 : Ref sig .tc)).readCov (Val := Elt Ideal) [⟨Rect.unit ![0, 0] ![256, 2048] (by decide), X⟩] (tR c g).toLoadRect

theorem dT_at {X : FVec Ideal S256x2048 .f32} {D : ℕ → ℕ → ℝ} (hX : ∀ r j, X (ix2 r j) = (D r j : EReal))
    (c : Fin 2) (g : Fin 8) (t : Fin 128) (j : Fin 256) : dT X c g (ix2 t j) = (D (128 * c + t) (256 * g + j) : EReal) := by
  have h := View.readCov_fill (Val := Elt Ideal) (View.whole (cc0_scratch1 : Ref sig .tc)) (off := ![0, 0]) (by decide) X [] (tR c g) (by decide)
  refine (congrFun h (ix2 t j)).trans ?_
  refine (congrArg X (tR_emb c g t j)).trans ?_
  exact hX _ _

theorem ldT_at {X : FVec Ideal S256x2048 .f32} {D : ℕ → ℕ → ℝ} (hX : ∀ r j, X (ix2 r j) = (D r j : EReal))
    (c : Fin 2) (g : Fin 8) (t : Fin 128) (j : Fin 256) :
    (View.ld X (tR c g) : Vec Ideal S128x256 .f32) (ix2 t j) = (D (128 * c + t) (256 * g + j) : EReal) :=
  (congrArg X (tR_emb c g t j)).trans (hX _ _)

/-- A tile of the gradient of what is mixed. -/
def dvTile (X : FVec Ideal S256x2048 .f32) (x4 : Vec Ideal S1x8x128x128 .f32) (c : Fin 2) (g : Fin 8) : FVec Ideal S128x256 .f32 :=
  shapeCast S128x256 (matmul dot_S128x128_S128x256_S128x256_0_0_1_1_n_n none (wG x4 g)
      (truncf .bf16 (dT X c g) bitsLt_bf16_f32) (constant S128x256 .f32 0x00000000#32)) shapeCasts_S128x256_S128x256

section
variable {x4 : Vec Ideal S1x8x128x128 .f32} {W : ℕ → ℕ → ℕ → ℝ} (hw : ∀ a g t s, x4 (ix4 a g t s) = (W g t s : EReal))
  {X : FVec Ideal S256x2048 .f32} {D : ℕ → ℕ → ℝ} (hX : ∀ r j, X (ix2 r j) = (D r j : EReal))
include hX

include hw in
theorem dvTile_at (c : Fin 2) (g : Fin 8) (t : Fin 128) (j : Fin 256) :
    dvTile X x4 c g (ix2 t j) = (dvv W D (128 * c + t) (256 * g + j) : EReal) := by
  have e : dvv W D (128 * c + t) (256 * g + j) = ∑ s : Fin 128, low (W g) s t * D (128 * c + s) (256 * g + j) := by
    rw [dvv, show (256 * (g : ℕ) + j) / 256 = g by omega, show (128 * (c : ℕ) + t) % 128 = t by omega,
      show (128 * (c : ℕ) + t) / 128 * 128 = 128 * c by omega]
  rw [e]
  have hT := dT_at hX c g
  unfold dvTile
  generalize dT X c g = T at hT ⊢
  pointwise []
  simp only [wG_at hw, hT, ← EReal.coe_mul, sum_real]

end

/-- What a block adds to the gradient of a group's matrix, added to what was there. -/
def dwTile (T T' : Vec Ideal S128x256 .f32) (v : FVec Ideal S256x2048 .bf16) (g : Fin 8) (o : Vec Ideal S1x128x128 .f32) :
    FVec Ideal S1x128x128 .f32 :=
  shapeCast S1x128x128 (addf (shapeCast S128x128 o shapeCasts_S1x128x128_S128x128)
    (select k0_pay20 (addf
      (matmul dot_S128x256_S128x256_S128x128_1_1_0_0_n_n none (truncf .bf16 T bitsLt_bf16_f32)
        (extractStridedSlice S128x256 ![128 * (0 : Fin 2).val, 256 * g.val] v (slices 0 g)) (constant S128x128 .f32 0x00000000#32))
      (matmul dot_S128x256_S128x256_S128x128_1_1_0_0_n_n none (truncf .bf16 T' bitsLt_bf16_f32)
        (extractStridedSlice S128x256 ![128 * (1 : Fin 2).val, 256 * g.val] v (slices 1 g)) (constant S128x128 .f32 0x00000000#32)))
      (broadcast S128x128 (Scalar.ofBits .f32 0x00000000#32)))) shapeCasts_S128x128_S1x128x128

theorem dwTile_at {D : ℕ → ℕ → ℝ} {T T' : Vec Ideal S128x256 .f32} {g : Fin 8}
    (hT : ∀ t j, T (ix2 t j) = (D (128 * (0 : Fin 2) + t) (256 * g + j) : EReal))
    (hT' : ∀ t j, T' (ix2 t j) = (D (128 * (1 : Fin 2) + t) (256 * g + j) : EReal)) {v : FVec Ideal S256x2048 .bf16} {V : ℕ → ℕ → ℝ} (hV : ∀ r j, v (ix2 r j) = (V r j : EReal))
    (o : Vec Ideal S1x128x128 .f32) (a : Fin 1) (t s : Fin 128) :
    dwTile T T' v g o (ix3 a t s) = o (ix3 0 t s) + (dwB D V g t s : EReal) := by
  unfold dwTile
  pointwise []
  refine congrArg₂ (· + ·) rfl ?_
  rw [pay20]
  refine sel _ _ ?_
  simp only [hT, hT', hV, ← EReal.coe_mul, sum_real]
  rw [← EReal.coe_add]
  simp

/-- What a block adds to the gradient of a group's bias, added to what was there. -/
def dbTile (T T' : Vec Ideal S128x256 .f32) (o : Vec Ideal S128x1 .f32) : FVec Ideal S128x1 .f32 :=
  addf (shapeCast S128x1 o shapeCasts_S128x1_S128x1)
    (addf (shapeCast S128x1 (multiReduction .add [1] S128 T 0x00000000#32 reduces_S128x256_S128 (.inl rfl) rfl) shapeCasts_S128_S128x1)
      (shapeCast S128x1 (multiReduction .add [1] S128 T' 0x00000000#32 reduces_S128x256_S128 (.inl rfl) rfl) shapeCasts_S128_S128x1))

theorem dbTile_at {D : ℕ → ℕ → ℝ} {T T' : Vec Ideal S128x256 .f32} {g : Fin 8}
    (hT : ∀ t j, T (ix2 t j) = (D (128 * (0 : Fin 2) + t) (256 * g + j) : EReal))
    (hT' : ∀ t j, T' (ix2 t j) = (D (128 * (1 : Fin 2) + t) (256 * g + j) : EReal)) (o : Vec Ideal S128x1 .f32) (t : Fin 128) (a : Fin 1) :
    dbTile T T' o (ix2 t a) = o (ix2 t a) + (dbB D g t : EReal) := by
  unfold dbTile
  pointwise []
  refine congrArg₂ (· + ·) rfl ?_
  simp only [hT, hT', sum_real]
  rw [← EReal.coe_add, dbB]
  simp

end Cert.KernelIdeal.Gen
end
-- ==== Proof.SguBlock.lean ====
/- What one grid point leaves in each of the five result blocks, on finite inputs. -/
module

public import proofs.«01_k».proof.Proof.SguTile

@[expose] public section

set_option maxRecDepth 16384

noncomputable section

namespace Cert.KernelIdeal.Gen
open Idealize.ShloMosaic Idealize.ShloMosaic.TcCoe Idealize.SL.Sem Cert.Reals

/-- The blocks of one grid point hold the real numbers named. -/
structure Lift (x0 : Vec Ideal S256x2048 .bf16) (x1 : Vec Ideal S256x6144 .bf16) (x2 x3 : Vec Ideal S1x1x2048 .f32)
    (x4 : Vec Ideal S1x8x128x128 .f32) (x5 : Vec Ideal S1x128x8 .f32)
    (D A B Z : ℕ → ℕ → ℝ) (g b : ℕ → ℝ) (W : ℕ → ℕ → ℕ → ℝ) (bs : ℕ → ℕ → ℝ) : Prop where
  d : ∀ r j, x0 (ix2 r j) = (D r j : EReal)
  a : ∀ (r : Fin 256) (j : Fin 2048), x1 (ix2 r ⟨j, by omega⟩) = (A r j : EReal)
  bb : ∀ (r : Fin 256) (j : Fin 2048), x1 (ix2 r ⟨2048 + j, by omega⟩) = (B r j : EReal)
  z : ∀ (r : Fin 256) (j : Fin 2048), x1 (ix2 r ⟨4096 + j, by omega⟩) = (Z r j : EReal)
  g : ∀ i k j, x2 (ix3 i k j) = (g j : EReal)
  o : ∀ i k j, x3 (ix3 i k j) = (b j : EReal)
  w : ∀ a g t s, x4 (ix4 a g t s) = (W g t s : EReal)
  c : ∀ a t g, x5 (ix3 a t g) = (bs g t : EReal)

def colA (x1 : Vec Ideal S256x6144 .bf16) : Vec Ideal S256x2048 .bf16 :=
  View.ld x1 (Rect.unit ![0, 0] ![256, 2048] inb_S256x6144_S256x2048_0_0)
def colB (x1 : Vec Ideal S256x6144 .bf16) : Vec Ideal S256x2048 .bf16 :=
  View.ld x1 (Rect.unit ![0, 2048] ![256, 2048] inb_S256x6144_S256x2048_0_2048)
def colZ (x1 : Vec Ideal S256x6144 .bf16) : Vec Ideal S256x2048 .bf16 :=
  View.ld x1 (Rect.unit ![0, 4096] ![256, 2048] inb_S256x6144_S256x2048_0_4096)

section
variable (x0 : Vec Ideal S256x2048 .bf16) (x1 : Vec Ideal S256x6144 .bf16) (x2 x3 : Vec Ideal S1x1x2048 .f32)
    (x4 : Vec Ideal S1x8x128x128 .f32) (x5 : Vec Ideal S1x128x8 .f32)

/-- The normalised gate input, what is mixed, and the gradient of the mixed values, of the block. -/
def xhB : FVec Ideal S256x2048 .f32 := k0_pay18 (k0_pay9 (colB x1)) (k0_pay14 (colB x1))
def vB : FVec Ideal S256x2048 .bf16 := k0_pay19 (k0_pay6 x2) (k0_pay7 x3) (k0_pay9 (colB x1)) (k0_pay14 (colB x1))
def dmB : FVec Ideal S256x2048 .f32 := k0_pay61 (k0_pay12 (colA x1)) (k0_pay58 (k0_pay10 (colZ x1)) x0)

/-- The stores of the mixed values and of the gradient of what is mixed, read back whole. -/
def mxB : Vec Ideal S256x2048 .f32 :=
  (View.whole (cc0_scratch0 : Ref sig .tc)).readCov (Val := Elt Ideal) (s := S256x2048) (e := .f32)
    (tiles.map fun p => ⟨tR p.1 p.2, mixTile (vB x1 x2 x3) x4 x5 p.1 p.2⟩) (Rect.unit (s := S256x2048) ![0, 0] ![256, 2048] (by decide)).toLoadRect
def dvB : Vec Ideal S256x2048 .f32 :=
  (View.whole (cc0_scratch2 : Ref sig .tc)).readCov (Val := Elt Ideal) (s := S256x2048) (e := .f32)
    (tiles.map fun p => ⟨tR p.1 p.2, dvTile (dmB x0 x1) x4 p.1 p.2⟩) (Rect.unit (s := S256x2048) ![0, 0] ![256, 2048] (by decide)).toLoadRect
end

theorem canon_whole (L : List (View.Piece (Elt Ideal) S256x2048 .f32)) (r : Fin 256) (j : Fin 2048) :
    View.canon L ((Rect.unit (s := S256x2048) ![0, 0] ![256, 2048] (by decide)).toLoadRect.idx (ix2 r j)) = View.canon L (ix2 r j) :=
  congrArg _ (by
    show (Rect.unit (s := S256x2048) ![0, 0] ![256, 2048] (by decide)).emb (ix2 r j) = _
    blk_ext)

section
variable {x0 : Vec Ideal S256x2048 .bf16} {x1 : Vec Ideal S256x6144 .bf16} {x2 x3 : Vec Ideal S1x1x2048 .f32}
    {x4 : Vec Ideal S1x8x128x128 .f32} {x5 : Vec Ideal S1x128x8 .f32}
    {D A B Z : ℕ → ℕ → ℝ} {g b : ℕ → ℝ} {W : ℕ → ℕ → ℕ → ℝ} {bs : ℕ → ℕ → ℝ}
    (L : Lift x0 x1 x2 x3 x4 x5 D A B Z g b W bs)
include L

theorem colA_at (r j) : colA x1 (ix2 r j) = (A r j : EReal) := by
  refine Eq.trans ?_ (L.a r j); pointwise [colA]; blk_ext
theorem colB_at (r j) : colB x1 (ix2 r j) = (B r j : EReal) := by
  refine Eq.trans ?_ (L.bb r j); pointwise [colB]; blk_ext
theorem colZ_at (r j) : colZ x1 (ix2 r j) = (Z r j : EReal) := by
  refine Eq.trans ?_ (L.z r j); pointwise [colZ]; blk_ext
theorem pay6_at (i j) : k0_pay6 x2 (ix2 i j) = (g j : EReal) := by
  pointwise [k0_pay6]; exact L.g _ _ j
theorem pay7_at (i j) : k0_pay7 x3 (ix2 i j) = (b j : EReal) := by
  pointwise [k0_pay7]; exact L.o _ _ j
theorem xhB_at (r j) : xhB x1 (ix2 r j) = (xh B r j : EReal) := pay18 (pay9 (colB_at L)) (pay14 (colB_at L)) r j
theorem vB_at (r j) : vB x1 x2 x3 (ix2 r j) = (vv B g b r j : EReal) :=
  pay19 (pay9 (colB_at L)) (pay14 (colB_at L)) (pay6_at L) (pay7_at L) r j
theorem dmB_at (r j) : dmB x0 x1 (ix2 r j) = (dmx D A Z r j : EReal) :=
  pay61 (pay12 (colA_at L)) (pay58 L.d (pay10 (colZ_at L))) r j

theorem mxB_at (r j) : mxB x1 x2 x3 x4 x5 (ix2 r j) = (mx W bs (vv B g b) r j : EReal) := by
  unfold mxB
  rw [View.readCov_eq_canon']
  refine (canon_whole _ r j).trans (canon_tiles_real (fun c g => mixTile (vB x1 x2 x3) x4 x5 c g) (mx W bs (vv B g b)) (fun c g t j => ?_) r j)
  exact mixTile_at L.w (vB_at L) L.c c g t j
theorem dvB_at (r j) : dvB x0 x1 x4 (ix2 r j) = (dvv W (dmx D A Z) r j : EReal) := by
  unfold dvB
  rw [View.readCov_eq_canon']
  refine (canon_whole _ r j).trans (canon_tiles_real (fun c g => dvTile (dmB x0 x1) x4 c g) (dvv W (dmx D A Z)) (fun c g t j => ?_) r j)
  exact dvTile_at L.w (dmB_at L) c g t j

end

/-- A real function of the row and the column, as the contents of a block. -/
def rG (f : ℕ → ℕ → ℝ) (y : S256x6144.Idx) : Elt Ideal .bf16 := ((f (y 0) (y 1) : ℝ) : EReal)

theorem rG_at (f : ℕ → ℕ → ℝ) {o : ℕ} (h) (p : Fin 256) (q : Fin 2048) :
    rG f ((Rect.unit (s := S256x6144) ![0, o] ![256, 2048] h).emb (ix2 p q)) = ((f p (o + q) : ℝ) : EReal) := by
  refine congrArg (fun x : ℝ => (x : EReal)) (congrArg₂ f ?_ ?_)
  · show 0 + 1 * (p : ℕ) = p; omega
  · show o + 1 * (q : ℕ) = o + q; omega

/-- Eight stores that are blocks of one function, over one earlier store. -/
theorem canon_eight {S : Shape} {e : EltTy} (G : S.Idx → Elt Ideal e) (p7 p6 p5 p4 p3 p2 p1 p0 f : View.Piece (Elt Ideal) S e)
    (h : View.PiecesOf G [p7, p6, p5, p4, p3, p2, p1, p0]) (y : S.Idx) (hc : ∃ p ∈ [p7, p6, p5, p4, p3, p2, p1, p0], y ∈ p.1.set) :
    View.canon [p7, p6, p5, p4, p3, p2, p1, p0, f] y = G y :=
  View.canon_append_of_piecesOf G [f] [p7, p6, p5, p4, p3, p2, p1, p0] h y hc

/-- The group's slab of a block of eight matrices. -/
abbrev wR (g : Fin 8) : Rect S8x128x128 :=
  Rect.unit ![g.val, 0, 0] ![1, 128, 128] (fun a => by fin_cases a <;> simp <;> omega)

theorem wR_emb (g : Fin 8) (a : Fin 1) (t s : Fin 128) : (wR g).emb (ix3 a t s) = ix3 g t s := by
  blk_ext

/-- What was there, plus what the block adds. -/
def wG7 (o : Vec Ideal S8x128x128 .f32) (f : ℕ → ℕ → ℕ → ℝ) (y : S8x128x128.Idx) : Elt Ideal .f32 :=
  o y + ((f (y 0) (y 1) (y 2) : ℝ) : EReal)

theorem dw_piece {D : ℕ → ℕ → ℝ} {g : Fin 8} {T T' : Vec Ideal S128x256 .f32}
    (hT : ∀ t j, T (ix2 t j) = (D (128 * (0 : Fin 2) + t) (256 * g + j) : EReal))
    (hT' : ∀ t j, T' (ix2 t j) = (D (128 * (1 : Fin 2) + t) (256 * g + j) : EReal))
    {v : FVec Ideal S256x2048 .bf16} {V : ℕ → ℕ → ℝ} (hV : ∀ r j, v (ix2 r j) = (V r j : EReal)) (o : Vec Ideal S8x128x128 .f32)
    (x : (wR g).shape.Idx) : dwTile T T' v g (View.ld o (wR g)) x = wG7 o (dwB D V) ((wR g).emb x) := by
  obtain ⟨a, t, s, rfl⟩ : ∃ (a : Fin 1) (t s : Fin 128), x = ix3 a t s := ⟨x 0, x 1, x 2, by blk_ext⟩
  rw [wR_emb]
  refine (dwTile_at hT hT' hV _ a t s).trans ?_
  refine congrArg₂ (· + ·) ?_ rfl
  exact congrArg o (wR_emb g 0 t s)

/-- The group's column of a block of eight biases. -/
abbrev bR (g : Fin 8) : Rect S128x8 :=
  Rect.unit ![0, g.val] ![128, 1] (fun a => by fin_cases a <;> simp <;> omega)

theorem bR_emb (g : Fin 8) (t : Fin 128) (a : Fin 1) : (bR g).emb (ix2 t a) = ix2 t g := by
  blk_ext

def bG8 (o : Vec Ideal S128x8 .f32) (f : ℕ → ℕ → ℝ) (y : S128x8.Idx) : Elt Ideal .f32 :=
  o y + ((f (y 1) (y 0) : ℝ) : EReal)

theorem db_piece {D : ℕ → ℕ → ℝ} {g : Fin 8} {T T' : Vec Ideal S128x256 .f32}
    (hT : ∀ t j, T (ix2 t j) = (D (128 * (0 : Fin 2) + t) (256 * g + j) : EReal))
    (hT' : ∀ t j, T' (ix2 t j) = (D (128 * (1 : Fin 2) + t) (256 * g + j) : EReal))
    (o : Vec Ideal S128x8 .f32) (x : (bR g).shape.Idx) : dbTile T T' (View.ld o (bR g)) x = bG8 o (dbB D) ((bR g).emb x) := by
  obtain ⟨t, a, rfl⟩ : ∃ (t : Fin 128) (a : Fin 1), x = ix2 t a := ⟨x 0, x 1, by blk_ext⟩
  rw [bR_emb]
  refine (dbTile_at hT hT' _ t a).trans ?_
  refine congrArg₂ (· + ·) ?_ rfl
  exact congrArg o (bR_emb g t a)

variable (m : (ℓ : Loc nD τ sig) → Buf (Elt Ideal) ℓ)

section
variable {c : Dev nD} {t : Fin cfg0.N}
    {D A B Z : ℕ → ℕ → ℝ} {g b : ℕ → ℝ} {W : ℕ → ℕ → ℕ → ℝ} {bs : ℕ → ℕ → ℝ}
    (L : Lift (iblk m c 0 t) (iblk m c 1 t) (iblk m c 2 t) (iblk m c 3 t) (iblk m c 4 t) (iblk m c 5 t) D A B Z g b W bs)
include L

theorem w9_B (h0 : ¬ t.1 % 32 = 0) (i j) : (outsAt0 m c t.1 t.2).2.2.2.1 (ix2 i j)
    = (outsAt0 m c (t.val - 1) (Nat.lt_of_le_of_lt (Nat.sub_le _ _) t.isLt)).2.2.2.1 (ix2 i j)
      + (∑ r : Fin 256, dvv W (dmx D A Z) r j * xh B r j : ℝ) := by
  rw [outsAt0_B m c t h0]
  frame_out
  exact pay133 (xhB_at L) (dvB_at L) _ i j
theorem w9_A (h0 : t.1 % 32 = 0) (i j) : (outsAt0 m c t.1 t.2).2.2.2.1 (ix2 i j)
    = (0 : EReal) + (∑ r : Fin 256, dvv W (dmx D A Z) r j * xh B r j : ℝ) := by
  rw [outsAt0_A m c t h0]
  frame_out
  refine (pay133 (xhB_at L) (dvB_at L) _ i j).trans ?_
  refine congrArg₂ (· + ·) ?_ rfl
  pointwise [k0_pay4]
theorem w10_B (h0 : ¬ t.1 % 32 = 0) (i j) : (outsAt0 m c t.1 t.2).2.2.2.2 (ix2 i j)
    = (outsAt0 m c (t.val - 1) (Nat.lt_of_le_of_lt (Nat.sub_le _ _) t.isLt)).2.2.2.2 (ix2 i j)
      + (∑ r : Fin 256, dvv W (dmx D A Z) r j : ℝ) := by
  rw [outsAt0_B m c t h0]
  frame_out
  exact pay134 (dvB_at L) _ i j
theorem w10_A (h0 : t.1 % 32 = 0) (i j) : (outsAt0 m c t.1 t.2).2.2.2.2 (ix2 i j)
    = (0 : EReal) + (∑ r : Fin 256, dvv W (dmx D A Z) r j : ℝ) := by
  rw [outsAt0_A m c t h0]
  frame_out
  refine (pay134 (dvB_at L) _ i j).trans ?_
  refine congrArg₂ (· + ·) ?_ rfl
  pointwise [k0_pay5]
theorem da_at (r j) : k0_pay60 (k0_pay13 (colA (iblk m c 1 t))) (mxB (iblk m c 1 t) (iblk m c 2 t) (iblk m c 3 t) (iblk m c 4 t) (iblk m c 5 t))
      (k0_pay58 (k0_pay10 (colZ (iblk m c 1 t))) (iblk m c 0 t)) (ix2 r j)
    = (D r j * (Z r j * sg (Z r j)) * mx W bs (vv B g b) r j * dgelu (A r j) : ℝ) :=
  pay60 (S := fun r j => D r j * (Z r j * sg (Z r j))) (pay13 (colA_at L)) (mxB_at L) (pay58 L.d (pay10 (colZ_at L))) r j
theorem dz_at (r j) : k0_pay59 (k0_pay10 (colZ (iblk m c 1 t))) (k0_pay12 (colA (iblk m c 1 t)))
      (mxB (iblk m c 1 t) (iblk m c 2 t) (iblk m c 3 t) (iblk m c 4 t) (iblk m c 5 t)) (iblk m c 0 t) (ix2 r j)
    = (D r j * (gelu (A r j) * mx W bs (vv B g b) r j) * dsilu (Z r j) : ℝ) :=
  pay59 L.d (pay10 (colZ_at L)) (pay12 (colA_at L)) (mxB_at L) r j
theorem db_at (r j) : k0_pay1 (k0_pay15 (k0_pay9 (colB (iblk m c 1 t))) (k0_pay14 (colB (iblk m c 1 t))))
      (k0_pay17 (k0_pay9 (colB (iblk m c 1 t))) (k0_pay14 (colB (iblk m c 1 t)))) (xhB (iblk m c 1 t))
      (k0_pay136 (k0_pay6 (iblk m c 2 t)) (dvB (iblk m c 0 t) (iblk m c 1 t) (iblk m c 4 t)))
      (k0_pay137 (k0_pay6 (iblk m c 2 t)) (xhB (iblk m c 1 t)) (dvB (iblk m c 0 t) (iblk m c 1 t) (iblk m c 4 t)))
      (Scalar.ofBits .f32 0x45000000#32) (ix2 r j)
    = (nrmGrad (fun k => gelu (B r k)) (fun k => dvv W (dmx D A Z) r k * g k) j * dgelu (B r j) : ℝ) :=
  pay1 (pay15 (pay9 (colB_at L)) (pay14 (colB_at L))) (pay17 (pay9 (colB_at L)) (pay14 (colB_at L))) (xhB_at L)
    (pay136 (pay6_at L) (dvB_at L)) (pay137 (pay6_at L) (dvB_at L) (xhB_at L)) r j

theorem w6_A (h0 : t.1 % 32 = 0) (r j) : (outsAt0 m c t.1 t.2).1 (ix2 r j) = (dpr W bs g b D A B Z r j : EReal) := by
  rw [outsAt0_A m c t h0]
  frame_out
  refine View.canon_apply_of_pieces (Val := Elt Ideal) (e := .bf16)
    (rG (dpr W bs g b D A B Z)) _ (View.PiecesOf.mem ?_) (ix2 r j) (View.cover_of_tiled_head _ _ _ rfl _)
  refine ⟨fun x => ?_, fun x => ?_, fun x => ?_, trivial⟩
  all_goals obtain ⟨p, q, rfl⟩ : ∃ (p : Fin 256) (q : Fin 2048), x = ix2 p q := ⟨x 0, x 1, by blk_ext⟩
  · exact (db_at m L p q).trans ((rG_at (o := 2048) _ (by decide) p q).trans (congrArg _ (dpr_b _ _ _ _ _ _ _ _ p q.2))).symm
  · exact (da_at m L p q).trans ((rG_at (o := 0) _ (by decide) p q).trans (congrArg _ (dpr_a _ _ _ _ _ _ _ _ p q.2))).symm
  · exact (dz_at m L p q).trans ((rG_at (o := 4096) _ (by decide) p q).trans (congrArg _ (dpr_z _ _ _ _ _ _ _ _ p q))).symm
theorem w6_B (h0 : ¬ t.1 % 32 = 0) (r j) : (outsAt0 m c t.1 t.2).1 (ix2 r j) = (dpr W bs g b D A B Z r j : EReal) := by
  rw [outsAt0_B m c t h0]
  frame_out
  refine View.canon_apply_of_pieces (Val := Elt Ideal) (e := .bf16)
    (rG (dpr W bs g b D A B Z)) _ (View.PiecesOf.mem ?_) (ix2 r j) (View.cover_of_tiled_head _ _ _ rfl _)
  refine ⟨fun x => ?_, fun x => ?_, fun x => ?_, trivial⟩
  all_goals obtain ⟨p, q, rfl⟩ : ∃ (p : Fin 256) (q : Fin 2048), x = ix2 p q := ⟨x 0, x 1, by blk_ext⟩
  · exact (db_at m L p q).trans ((rG_at (o := 2048) _ (by decide) p q).trans (congrArg _ (dpr_b _ _ _ _ _ _ _ _ p q.2))).symm
  · exact (da_at m L p q).trans ((rG_at (o := 0) _ (by decide) p q).trans (congrArg _ (dpr_a _ _ _ _ _ _ _ _ p q.2))).symm
  · exact (dz_at m L p q).trans ((rG_at (o := 4096) _ (by decide) p q).trans (congrArg _ (dpr_z _ _ _ _ _ _ _ _ p q))).symm

theorem w7_B (h0 : ¬ t.1 % 32 = 0) (e p q) : (outsAt0 m c t.1 t.2).2.1 (ix3 e p q)
    = (outsAt0 m c (t.val - 1) (Nat.lt_of_le_of_lt (Nat.sub_le _ _) t.isLt)).2.1 (ix3 e p q)
      + (dwB (dmx D A Z) (vv B g b) e p q : ℝ) := by
  rw [outsAt0_B m c t h0]
  frame_out
  refine View.canon_apply_of_pieces (Val := Elt Ideal) (e := .f32)
    (wG7 _ (dwB (dmx D A Z) (vv B g b))) _ (View.PiecesOf.mem ?_) (ix3 e p q) (View.cover_of_tiled_head _ _ _ rfl _)
  have h := fun g x => dw_piece (g := g) (dT_at (dmB_at L) 0 g) (dT_at (dmB_at L) 1 g) (vB_at L)
    (outsAt0 m c (t.val - 1) (Nat.lt_of_le_of_lt (Nat.sub_le _ _) t.isLt)).2.1 x
  exact ⟨h 7, h 6, h 5, h 4, h 3, h 2, h 1, h 0, trivial⟩

theorem w7_A (h0 : t.1 % 32 = 0) (e p q) : (outsAt0 m c t.1 t.2).2.1 (ix3 e p q)
    = (0 : EReal) + (dwB (dmx D A Z) (vv B g b) e p q : ℝ) := by
  rw [outsAt0_A m c t h0]
  frame_open
  simp (disch := decide) only [↓ View.readCov_skip, ↓ View.readCov_cons_toLoadRect, ↓ View.readCov_fill]
  frame_out
  refine (canon_eight (wG7 (k0_pay2 (F := Ideal)) (dwB (dmx D A Z) (vv B g b)))
    _ _ _ _ _ _ _ _ _ ?_ (ix3 e p q) (View.cover_of_tiled_head _ _ _ rfl _)).trans ?_
  · have h := fun g x => dw_piece (g := g) (ldT_at (dmB_at L) 0 g) (ldT_at (dmB_at L) 1 g) (vB_at L) (k0_pay2 (F := Ideal)) x
    exact ⟨h 7, h 6, h 5, h 4, h 3, h 2, h 1, h 0, trivial⟩
  · refine congrArg₂ (· + ·) ?_ rfl
    pointwise [k0_pay2]

theorem w8_B (h0 : ¬ t.1 % 32 = 0) (p e) : (outsAt0 m c t.1 t.2).2.2.1 (ix2 p e)
    = (outsAt0 m c (t.val - 1) (Nat.lt_of_le_of_lt (Nat.sub_le _ _) t.isLt)).2.2.1 (ix2 p e)
      + (dbB (dmx D A Z) e p : ℝ) := by
  rw [outsAt0_B m c t h0]
  frame_out
  refine View.canon_apply_of_pieces (Val := Elt Ideal) (e := .f32)
    (bG8 _ (dbB (dmx D A Z))) _ (View.PiecesOf.mem ?_) (ix2 p e) (View.cover_of_tiled_head _ _ _ rfl _)
  have h := fun g x => db_piece (g := g) (dT_at (dmB_at L) 0 g) (dT_at (dmB_at L) 1 g)
    (outsAt0 m c (t.val - 1) (Nat.lt_of_le_of_lt (Nat.sub_le _ _) t.isLt)).2.2.1 x
  exact ⟨h 7, h 6, h 5, h 4, h 3, h 2, h 1, h 0, trivial⟩

theorem w8_A (h0 : t.1 % 32 = 0) (p e) : (outsAt0 m c t.1 t.2).2.2.1 (ix2 p e)
    = (0 : EReal) + (dbB (dmx D A Z) e p : ℝ) := by
  rw [outsAt0_A m c t h0]
  frame_open
  simp (disch := decide) only [↓ View.readCov_skip, ↓ View.readCov_cons_toLoadRect, ↓ View.readCov_fill]
  frame_out
  refine (canon_eight (bG8 (k0_pay3 (F := Ideal)) (dbB (dmx D A Z)))
    _ _ _ _ _ _ _ _ _ ?_ (ix2 p e) (View.cover_of_tiled_head _ _ _ rfl _)).trans ?_
  · have h := fun g x => db_piece (g := g) (ldT_at (dmB_at L) 0 g) (ldT_at (dmB_at L) 1 g) (k0_pay3 (F := Ideal)) x
    exact ⟨h 7, h 6, h 5, h 4, h 3, h 2, h 1, h 0, trivial⟩
  · refine congrArg₂ (· + ·) ?_ rfl
    pointwise [k0_pay3]
end

end Cert.KernelIdeal.Gen
end
-- ==== Proof.SguKernel.lean ====
/- The five result arrays of the kernel, on finite arguments. -/
module

public import proofs.«01_k».proof.Proof.SguBlock
public import proofs.«01_k».proof.Proof.Gen.KernelIdeal.Value

@[expose] public section

set_option maxRecDepth 16384

noncomputable section

namespace Cert.KernelIdeal.Gen
open Idealize.ShloMosaic Idealize.ShloMosaic.TcCoe Idealize.SL.Sem Cert.Reals

variable (m : (ℓ : Loc nD τ sig) → Buf (Elt Ideal) ℓ)

theorem idx : ∀ t : Fin cfg0.N, win0_0.index t = ![t.val, 0] ∧ win0_1.index t = ![t.val, 0] ∧ win0_2.index t = ![1, 0, 0]
    ∧ win0_3.index t = ![1, 0, 0] ∧ win0_4.index t = ![1, 0, 0, 0] ∧ win0_5.index t = ![1, 0, 0] ∧ win0_6.index t = ![t.val, 0]
    ∧ win0_7.index t = ![0, 0, 0] ∧ win0_8.index t = ![0, 0] ∧ win0_9.index t = ![0, 0] ∧ win0_10.index t = ![0, 0] :=
  (by decide +kernel : ∀ t : Fin grid0.N, _)

section
variable {c : Dev nD} {D A B Z : ℕ → ℕ → ℝ} {g b : ℕ → ℝ} {W : ℕ → ℕ → ℕ → ℝ} {bs : ℕ → ℕ → ℝ}
  (H : Args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) D A B Z g b W bs)
include H

theorem lift (t : Fin cfg0.N) : Lift (iblk m c 0 t) (iblk m c 1 t) (iblk m c 2 t) (iblk m c 3 t) (iblk m c 4 t) (iblk m c 5 t)
    (sh t D) (sh t A) (sh t B) (sh t Z) g b W bs where
  d r j := by
    refine Eq.trans ?_ (H.d ⟨256 * t + r, by have := lt_of_lt_of_eq t.isLt N_0; omega⟩ j)
    blk_point [iblk, V, idx t]
  a r j := by
    refine Eq.trans ?_ (H.a ⟨256 * t + r, by have := lt_of_lt_of_eq t.isLt N_0; omega⟩ j)
    blk_point [iblk, V, idx t]
  bb r j := by
    refine Eq.trans ?_ (H.bb ⟨256 * t + r, by have := lt_of_lt_of_eq t.isLt N_0; omega⟩ j)
    blk_point [iblk, V, idx t]
  z r j := by
    refine Eq.trans ?_ (H.z ⟨256 * t + r, by have := lt_of_lt_of_eq t.isLt N_0; omega⟩ j)
    blk_point [iblk, V, idx t]
  g i k j := by
    refine Eq.trans ?_ (H.g j)
    blk_point [iblk, V, idx t]
  o i k j := by
    refine Eq.trans ?_ (H.o j)
    blk_point [iblk, V, idx t]
  w a g p q := by
    refine Eq.trans ?_ (H.w g p q)
    blk_point [iblk, V, idx t]
  c a p g := by
    refine Eq.trans ?_ (H.c g p)
    blk_point [iblk, V, idx t]

theorem acc9 (n) (h : n < cfg0.N) (i j) : (outsAt0 m c n h).2.2.2.1 (ix2 i j)
    = ((∑ k ∈ Finset.range (n + 1), ∑ r : Fin 256, dvv W (dmx (sh k D) (sh k A) (sh k Z)) r j * xh (sh k B) r j : ℝ) : EReal) := by
  refine running_sum (fun n h => (outsAt0 m c n h).2.2.2.1 (ix2 i j)) (fun k => ∑ r : Fin 256, dvv W (dmx (sh k D) (sh k A) (sh k Z)) r j * xh (sh k B) r j)
    (fun h => w9_A m (lift m H ⟨0, h⟩) rfl i j) (fun n h => w9_B m (lift m H ⟨n + 1, h⟩) ?_ i j) n h
  have := lt_of_lt_of_eq h N_0
  show ¬ (n + 1) % 32 = 0
  omega

theorem acc10 (n) (h : n < cfg0.N) (i j) : (outsAt0 m c n h).2.2.2.2 (ix2 i j)
    = ((∑ k ∈ Finset.range (n + 1), ∑ r : Fin 256, dvv W (dmx (sh k D) (sh k A) (sh k Z)) r j : ℝ) : EReal) := by
  refine running_sum (fun n h => (outsAt0 m c n h).2.2.2.2 (ix2 i j)) (fun k => ∑ r : Fin 256, dvv W (dmx (sh k D) (sh k A) (sh k Z)) r j)
    (fun h => w10_A m (lift m H ⟨0, h⟩) rfl i j) (fun n h => w10_B m (lift m H ⟨n + 1, h⟩) ?_ i j) n h
  have := lt_of_lt_of_eq h N_0
  show ¬ (n + 1) % 32 = 0
  omega

theorem acc8 (n) (h : n < cfg0.N) (p e) : (outsAt0 m c n h).2.2.1 (ix2 p e)
    = ((∑ k ∈ Finset.range (n + 1), dbB (dmx (sh k D) (sh k A) (sh k Z)) e p : ℝ) : EReal) := by
  refine running_sum (fun n h => (outsAt0 m c n h).2.2.1 (ix2 p e)) (fun k => dbB (dmx (sh k D) (sh k A) (sh k Z)) e p)
    (fun h => w8_A m (lift m H ⟨0, h⟩) rfl p e) (fun n h => w8_B m (lift m H ⟨n + 1, h⟩) ?_ p e) n h
  have := lt_of_lt_of_eq h N_0
  show ¬ (n + 1) % 32 = 0
  omega

theorem acc7 (n) (h : n < cfg0.N) (e p q) : (outsAt0 m c n h).2.1 (ix3 e p q)
    = ((∑ k ∈ Finset.range (n + 1), dwB (dmx (sh k D) (sh k A) (sh k Z)) (vv (sh k B) g b) e p q : ℝ) : EReal) := by
  refine running_sum (fun n h => (outsAt0 m c n h).2.1 (ix3 e p q)) (fun k => dwB (dmx (sh k D) (sh k A) (sh k Z)) (vv (sh k B) g b) e p q)
    (fun h => w7_A m (lift m H ⟨0, h⟩) rfl e p q) (fun n h => w7_B m (lift m H ⟨n + 1, h⟩) ?_ e p q) n h
  have := lt_of_lt_of_eq h N_0
  show ¬ (n + 1) % 32 = 0
  omega

/-- The gradient of the projection. -/
theorem arr6 (r j) : (dats m 0 c).arrAt 6 cfg0.N (ix2 r j) = (dpr W bs g b D A B Z r j : EReal) := by
  refine congrFun ((dats m 0 c).arrAt_eq_of_covers 6 (fun y : S8192x6144.Idx => (dpr W bs g b D A B Z (y 0).val (y 1).val : EReal))
    (by decide +kernel) fun t hf y => ?_) (ix2 r j)
  blk_simp
  rw [after0_6]
  obtain ⟨r, j, rfl⟩ : ∃ (r : Fin 256) (j : Fin 6144), y = ix2 r j := ⟨y 0, y 1, by funext a; fin_cases a <;> rfl⟩
  have e : (outsAt0 m c t.1 t.2).1 (ix2 r j) = (dpr W bs g b (sh t D) (sh t A) (sh t B) (sh t Z) r j : EReal) := by
    by_cases h : t.1 % 32 = 0
    · exact w6_A m (lift m H t) h r j
    · exact w6_B m (lift m H t) h r j
  refine e.trans ?_
  rw [dpr_sh, (idx t).2.2.2.2.2.2.1]
  show ((dpr W bs g b D A B Z (256 * t.1 + r) j : ℝ) : EReal) = (dpr W bs g b D A B Z (t.1 * 256 + r) (0 * 6144 + j) : ℝ)
  rw [Nat.mul_comm 256, Nat.zero_mul, Nat.zero_add]

/-- The gradient of the matrices. -/
theorem arr7 (e p q) : (dats m 0 c).arrAt 7 cfg0.N (ix3 e p q) = (dW D A B Z g b e p q : EReal) := by
  refine congrFun ((dats m 0 c).arrAt_eq_of_covers 7 (fun y : S8x128x128.Idx => (dW D A B Z g b (y 0).val (y 1).val (y 2).val : EReal))
    (by decide +kernel) fun t hf y => ?_) (ix3 e p q)
  blk_simp
  rw [after0_7]
  obtain ⟨e, p, q, rfl⟩ : ∃ (e : Fin 8) (p : Fin 128) (q : Fin 128), y = ix3 e p q := ⟨y 0, y 1, y 2, by funext a; fin_cases a <;> rfl⟩
  have h := (flush0_7 t).mp hf
  have ht : t.1 + 1 = 32 := by have := lt_of_lt_of_eq t.isLt N_0; omega
  refine (acc7 m H t.1 t.2 e p q).trans ?_
  rw [ht, (idx t).2.2.2.2.2.2.2.1]
  show _ = ((dW D A B Z g b (0 * 8 + e) (0 * 128 + p) (0 * 128 + q) : ℝ) : EReal)
  simp only [Nat.zero_mul, Nat.zero_add]
  rfl

/-- The gradient of the biases. -/
theorem arr8 (p e) : (dats m 0 c).arrAt 8 cfg0.N (ix2 p e) = (dBt D A Z p e : EReal) := by
  refine congrFun ((dats m 0 c).arrAt_eq_of_covers 8 (fun y : S128x8.Idx => (dBt D A Z (y 0).val (y 1).val : EReal))
    (by decide +kernel) fun t hf y => ?_) (ix2 p e)
  blk_simp
  rw [after0_8]
  obtain ⟨p, e, rfl⟩ : ∃ (p : Fin 128) (e : Fin 8), y = ix2 p e := ⟨y 0, y 1, by funext a; fin_cases a <;> rfl⟩
  have h := (flush0_8 t).mp hf
  have ht : t.1 + 1 = 32 := by have := lt_of_lt_of_eq t.isLt N_0; omega
  refine (acc8 m H t.1 t.2 p e).trans ?_
  rw [ht, (idx t).2.2.2.2.2.2.2.2.1]
  show _ = ((dBt D A Z (0 * 128 + p) (0 * 8 + e) : ℝ) : EReal)
  simp only [Nat.zero_mul, Nat.zero_add]
  rfl

/-- The gradient of the scale. -/
theorem arr9 (i j) : (dats m 0 c).arrAt 9 cfg0.N (ix2 i j) = (dG D A B Z W j : EReal) := by
  refine congrFun ((dats m 0 c).arrAt_eq_of_covers 9 (fun y : S1x2048.Idx => (dG D A B Z W (y 1).val : EReal))
    (by decide +kernel) fun t hf y => ?_) (ix2 i j)
  blk_simp
  rw [after0_9]
  obtain ⟨i, j, rfl⟩ : ∃ (i : Fin 1) (j : Fin 2048), y = ix2 i j := ⟨y 0, y 1, by funext a; fin_cases a <;> rfl⟩
  have h := (flush0_9 t).mp hf
  have ht : t.1 + 1 = 32 := by have := lt_of_lt_of_eq t.isLt N_0; omega
  refine (acc9 m H t.1 t.2 i j).trans ?_
  rw [ht, (idx t).2.2.2.2.2.2.2.2.2.1]
  show _ = ((dG D A B Z W (0 * 2048 + j) : ℝ) : EReal)
  simp only [Nat.zero_mul, Nat.zero_add]
  rfl

/-- The gradient of the offset. -/
theorem arr10 (i j) : (dats m 0 c).arrAt 10 cfg0.N (ix2 i j) = (dB D A Z W j : EReal) := by
  refine congrFun ((dats m 0 c).arrAt_eq_of_covers 10 (fun y : S1x2048.Idx => (dB D A Z W (y 1).val : EReal))
    (by decide +kernel) fun t hf y => ?_) (ix2 i j)
  blk_simp
  rw [after0_10]
  obtain ⟨i, j, rfl⟩ : ∃ (i : Fin 1) (j : Fin 2048), y = ix2 i j := ⟨y 0, y 1, by funext a; fin_cases a <;> rfl⟩
  have h := (flush0_10 t).mp hf
  have ht : t.1 + 1 = 32 := by have := lt_of_lt_of_eq t.isLt N_0; omega
  refine (acc10 m H t.1 t.2 i j).trans ?_
  rw [ht, (idx t).2.2.2.2.2.2.2.2.2.2]
  show _ = ((dB D A Z W (0 * 2048 + j) : ℝ) : EReal)
  simp only [Nat.zero_mul, Nat.zero_add]
  rfl

end
end Cert.KernelIdeal.Gen
end
-- ==== Proof.SguRef.lean ====
/- What the reference computes, on finite arguments: each value at an index, as a real number. -/
module

public import proofs.«01_k».proof.Proof.Gen.ReferenceIdeal.Run
public import proofs.«01_k».proof.Proof.Reals
public import Idealize.ShloMosaic.Lib.Pointwise

@[expose] public section

set_option maxRecDepth 16384

noncomputable section

namespace Cert.ReferenceIdeal.Value
open Cert.ReferenceIdeal.Gen Idealize.ShloMosaic Idealize.ShloMosaic.TcCoe Idealize.SL.Sem Cert.Reals

variable {V0 : Valuation τ sig (Elt Ideal)} {D A B Z : ℕ → ℕ → ℝ} {g b : ℕ → ℝ} {W : ℕ → ℕ → ℕ → ℝ} {bs : ℕ → ℕ → ℝ}
  (H : Args (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5)) D A B Z g b W bs)

section
include H
variable (q : Fin 2) (r : Fin 4096) (j : Fin 2048)

theorem v1 : res_main_v1 V0 (ix3 q r j) = (D (q * 4096 + r) j : EReal) := by
  pointwise [res_main_v1]
  exact H.d _ _
theorem v12 : res_main_v12 V0 (ix3 q r j) = (A (q * 4096 + r) j : EReal) := by
  pointwise [res_main_v12, res_main_v3]
  exact H.a _ _
theorem v13 : res_main_v13 V0 (ix3 q r j) = (B (q * 4096 + r) j : EReal) := by
  pointwise [res_main_v13, res_main_v3]
  exact H.bb _ _
theorem v14 : res_main_v14 V0 (ix3 q r j) = (Z (q * 4096 + r) j : EReal) := by
  pointwise [res_main_v14, res_main_v3]
  exact H.z _ _
theorem v16 : res_main_v16 V0 (ix3 q r j) = ((1 / 2 * A (q * 4096 + r) j : ℝ) : EReal) := by
  pointwise [res_main_v16]
  simp only [v12 H, bits_half, ← EReal.coe_mul]
theorem v30 : res_main_v30 V0 (ix3 q r j) = ((1 / 2 * B (q * 4096 + r) j : ℝ) : EReal) := by
  pointwise [res_main_v30]
  simp only [v13 H, bits_half, ← EReal.coe_mul]
omit H in
theorem v18 : res_main_v18 V0 ix0 = ((√2 : ℝ) : EReal) := by
  pointwise [res_main_v18]
  simp only [bits_two]
  exact sqrt_real (by norm_num)
omit H in
theorem v32 : res_main_v32 V0 ix0 = ((√2 : ℝ) : EReal) := v18 (V0 := V0)
theorem v20 : res_main_v20 V0 (ix3 q r j) = ((-A (q * 4096 + r) j / √2 : ℝ) : EReal) := by
  pointwise [res_main_v20]
  simp only [v12 H, v18, ← EReal.coe_neg]
  exact div_real _ (by positivity)
theorem v34 : res_main_v34 V0 (ix3 q r j) = ((-B (q * 4096 + r) j / √2 : ℝ) : EReal) := by
  pointwise [res_main_v34]
  simp only [v13 H, v32, ← EReal.coe_neg]
  exact div_real _ (by positivity)
theorem v21 : res_main_v21 V0 (ix3 q r j) = ((1 - erf (-A (q * 4096 + r) j / √2) : ℝ) : EReal) := by
  pointwise [res_main_v21]
  simp only [v20 H]
  exact erfc_real _
theorem v35 : res_main_v35 V0 (ix3 q r j) = ((1 - erf (-B (q * 4096 + r) j / √2) : ℝ) : EReal) := by
  pointwise [res_main_v35]
  simp only [v34 H]
  exact erfc_real _
theorem v28 : res_main_v28 V0 (ix3 q r j) = (gelu (A (q * 4096 + r) j) : EReal) := by
  pointwise [res_main_v28]
  simp only [v16 H, v21 H, ← EReal.coe_mul, gelu_erfc]
theorem v42 : res_main_v42 V0 (ix3 q r j) = (gelu (B (q * 4096 + r) j) : EReal) := by
  pointwise [res_main_v42]
  simp only [v30 H, v35 H, ← EReal.coe_mul, gelu_erfc]
theorem v48 : res_main_v48 V0 (ix3 q r j) = (cen (fun k => gelu (B (q * 4096 + r) k)) j : EReal) := by
  pointwise [res_main_v48]
  simp only [v42 H, bits_2048, sum_real, zero_add]
  refine (congrArg₂ (· - ·) rfl (mean_real (fun k => gelu (B (q * 4096 + r) k)))).trans ?_
  rw [← EReal.coe_sub]; rfl
theorem v55 (i) : res_main_v55 V0 (ix3 q r i) = ((mean (fun j => cen (fun k => gelu (B (q * 4096 + r) k)) j * cen (fun k => gelu (B (q * 4096 + r) k)) j) + eps : ℝ) : EReal) := by
  pointwise [res_main_v55]
  simp only [v48 H, bits_2048, bits_eps, ← EReal.coe_mul, sum_real, zero_add]
  rw [mean_real (fun j => cen (fun k => gelu (B (q * 4096 + r) k)) j * cen (fun k => gelu (B (q * 4096 + r) k)) j), ← EReal.coe_add]
theorem v56 (i) : res_main_v56 V0 (ix3 q r i) = (inv (fun k => gelu (B (q * 4096 + r) k)) : EReal) := by
  pointwise [res_main_v56]
  simp only [v55 H]
  exact rsqrt_real (var_pos _)
theorem v61 : res_main_v61 V0 (ix3 q r j) = (xh B (q * 4096 + r) j : EReal) := by
  pointwise [res_main_v61]
  simp only [v48 H, v56 H, ← EReal.coe_mul]
  rfl
theorem v62 (q r) : res_main_v62 V0 (ix3 q r j) = (g j : EReal) := by
  pointwise [res_main_v62]
  exact H.g j
theorem v68 (q : Fin 2) (n : Fin 32) (t : Fin 128) (e : Fin 8) (k : Fin 256) :
    res_main_v68 V0 (ix5 q n t e k) = (vv B g b (q * 4096 + (n * 128 + t)) (e * 256 + k) : EReal) := by
  pointwise [res_main_v68]
  simp only [v61 H, v62 H, H.o, ← EReal.coe_mul, ← EReal.coe_add]
  rfl
omit H in
theorem v72_1 (e : Fin 8) (t s : Fin 128) : res_main_v72_1 V0 (ix3 e t s) = if (s : ℕ) ≤ t then 1#1 else 0#1 := by
  pointwise [res_main_v72_1]
  refine (congrArg (Scalar.select · _ _) ((congrArg (IntOp.cmpi _ · _) (BitVec.add_zero _)).trans (sge_small t s))).trans ?_
  split <;> rfl
theorem v72_0 (e : Fin 8) (t s : Fin 128) : res_main_v72_0 V0 (ix3 e t s) = (low (W e) t s : EReal) := by
  pointwise [res_main_v72_0]
  rw [v72_1]
  exact sel _ _ (H.w e t s)
theorem v79 : res_main_v79 V0 (ix3 q r j) = (mx W bs (vv B g b) (q * 4096 + r) j : EReal) := by
  pointwise [res_main_v79]
  simp only [v68 H, v72_0 H, H.c, ← EReal.coe_mul, ← EReal.coe_add, sum_real]
  refine congrArg _ (congrArg₂ (· + ·) (Finset.sum_congr rfl fun x _ => ?_) (congrArg (bs _) (by omega)))
  rw [mul_comm]
  refine congrArg₂ (· * ·) (congrArg (low _ · _) (by omega)) (congrArg₂ (vv B g b) (by omega) (by omega))
theorem v81_2 : res_main_v81_2 V0 (ix3 q r j) = (sg (Z (q * 4096 + r) j) : EReal) := by
  pointwise [res_main_v81_2]
  simp only [v14 H, one_real, ← EReal.coe_neg]
  rw [Ideal.exp_coe, ← EReal.coe_add, div_real _ (one_add_exp_pos _).ne', one_div]
  rfl
theorem v84 : res_main_v84 V0 (ix3 q r j) = ((D (q * 4096 + r) j * (Z (q * 4096 + r) j * sg (Z (q * 4096 + r) j)) : ℝ) : EReal) := by
  pointwise [res_main_v84, res_main_v81_0]
  simp only [v1 H, v14 H, v81_2 H, ← EReal.coe_mul]
theorem v83 : res_main_v83 V0 (ix3 q r j) = ((gelu (A (q * 4096 + r) j) * mx W bs (vv B g b) (q * 4096 + r) j * D (q * 4096 + r) j : ℝ) : EReal) := by
  pointwise [res_main_v83, res_main_v80]
  simp only [v1 H, v28 H, v79 H, ← EReal.coe_mul]
theorem v87 : res_main_v87 V0 (ix3 q r j) = ((D (q * 4096 + r) j * (Z (q * 4096 + r) j * sg (Z (q * 4096 + r) j)) * mx W bs (vv B g b) (q * 4096 + r) j : ℝ) : EReal) := by
  pointwise [res_main_v87]
  simp only [v84 H, v79 H, ← EReal.coe_mul]
theorem v88 (q : Fin 2) (n : Fin 32) (t : Fin 128) (e : Fin 8) (k : Fin 256) :
    res_main_v88 V0 (ix5 q n t e k) = (dmx D A Z (q * 4096 + (n * 128 + t)) (e * 256 + k) : EReal) := by
  pointwise [res_main_v88]
  simp only [v28 H, v84 H, ← EReal.coe_mul]
  exact congrArg _ (mul_comm _ _)
theorem v98 : res_main_v98 V0 (ix3 q r j) = (dvv W (dmx D A Z) (q * 4096 + r) j : EReal) := by
  pointwise [res_main_v98, res_main_v93]
  simp only [v88 H, v72_0 H, ← EReal.coe_mul, sum_real]
  refine congrArg _ (Finset.sum_congr rfl fun x _ => ?_)
  rw [mul_comm]
  refine congrArg₂ (· * ·) (congrArg (low _ _) (by omega)) (congrArg₂ (dmx D A Z) (by omega) (by omega))
theorem v106 : res_main_v106 V0 (ix3 q r j) = ((dvv W (dmx D A Z) (q * 4096 + r) j * g j : ℝ) : EReal) := by
  pointwise [res_main_v106]
  simp only [v98 H, v62 H, ← EReal.coe_mul]
theorem v117 : res_main_v117 V0 (ix3 q r j) = (((∑ k : Fin 2048, cen (fun k => gelu (B (q * 4096 + r) k)) k * (dvv W (dmx D A Z) (q * 4096 + r) k * g k))
    * (-1 / 2 * (inv (fun k => gelu (B (q * 4096 + r) k)) / (mean (fun j => cen (fun k => gelu (B (q * 4096 + r) k)) j * cen (fun k => gelu (B (q * 4096 + r) k)) j) + eps))) / 2048 : ℝ) : EReal) := by
  pointwise [res_main_v117]
  simp only [v48 H, v106 H, v56 H, v55 H, bits_neg_half, bits_2048, ← EReal.coe_mul, sum_real, zero_add]
  rw [Fin.sum_univ_one, div_real _ (var_pos _).ne', ← EReal.coe_mul, ← EReal.coe_mul, div_real _ (by norm_num)]
theorem v121 : res_main_v121 V0 (ix3 q r j) = (pre (fun k => gelu (B (q * 4096 + r) k)) (fun k => dvv W (dmx D A Z) (q * 4096 + r) k * g k) j : EReal) := by
  pointwise [res_main_v121]
  simp only [v48 H, v106 H, v56 H, v117 H, ← EReal.coe_mul, ← EReal.coe_add]
  rfl
theorem v129 : res_main_v129 V0 (ix3 q r j) = (nrmGrad (fun k => gelu (B (q * 4096 + r) k)) (fun k => dvv W (dmx D A Z) (q * 4096 + r) k * g k) j : EReal) := by
  pointwise [res_main_v129]
  simp only [v121 H, bits_2048, ← EReal.coe_neg, sum_real, zero_add]
  rw [Fin.sum_univ_one, div_real _ (by norm_num), ← EReal.coe_add]
  exact congrArg _ (nrmGrad_pre (fun k => gelu (B (q * 4096 + r) k)) (fun k => dvv W (dmx D A Z) (q * 4096 + r) k * g k) j)

theorem da : ((addf (Host.negf (Host.divf (mulf (mulf (mulf (res_main_v16 V0) (res_main_v87 V0)) (Host.exp (Host.negf (mulf (res_main_v20 V0) (res_main_v20 V0))))) (broadcastInDim S2x4096x2048 ![] bcast_S_S2x4096x2048 (Host.divf (constant S_ .f32 0xC0000000#32) (Host.sqrt (Host.acos (constant S_ .f32 0xBF800000#32)))))) (broadcastInDim S2x4096x2048 ![] bcast_S_S2x4096x2048 (res_main_v18 V0)))) (mulf (broadcastInDim S2x4096x2048 ![] bcast_S_S2x4096x2048 (constant S_ .f32 0x3F000000#32)) (mulf (res_main_v87 V0) (res_main_v21 V0)))) : FVec Ideal S2x4096x2048 .f32) (ix3 q r j)
    = ((D (q * 4096 + r) j * (Z (q * 4096 + r) j * sg (Z (q * 4096 + r) j)) * mx W bs (vv B g b) (q * 4096 + r) j * dgelu (A (q * 4096 + r) j) : ℝ) : EReal) := by
  pointwise
  simp only [v16 H, v87 H, v20 H, v18, v21 H, bits_neg_two, bits_neg_one, bits_half, acos_neg_one, ← EReal.coe_mul, ← EReal.coe_neg, Ideal.exp_coe]
  rw [sqrt_real Real.pi_pos.le, div_real _ (Real.sqrt_pos.mpr Real.pi_pos).ne', ← EReal.coe_mul, div_real _ (by positivity), ← EReal.coe_neg, ← EReal.coe_add]
  exact congrArg _ (dgelu_erfc _ _)
theorem db : ((addf (Host.negf (Host.divf (mulf (mulf (mulf (res_main_v30 V0) (res_main_v129 V0)) (Host.exp (Host.negf (mulf (res_main_v34 V0) (res_main_v34 V0))))) (broadcastInDim S2x4096x2048 ![] bcast_S_S2x4096x2048 (Host.divf (constant S_ .f32 0xC0000000#32) (Host.sqrt (Host.acos (constant S_ .f32 0xBF800000#32)))))) (broadcastInDim S2x4096x2048 ![] bcast_S_S2x4096x2048 (res_main_v32 V0)))) (mulf (broadcastInDim S2x4096x2048 ![] bcast_S_S2x4096x2048 (constant S_ .f32 0x3F000000#32)) (mulf (res_main_v129 V0) (res_main_v35 V0)))) : FVec Ideal S2x4096x2048 .f32) (ix3 q r j)
    = ((nrmGrad (fun k => gelu (B (q * 4096 + r) k)) (fun k => dvv W (dmx D A Z) (q * 4096 + r) k * g k) j * dgelu (B (q * 4096 + r) j) : ℝ) : EReal) := by
  pointwise
  simp only [v30 H, v129 H, v34 H, v32, v35 H, bits_neg_two, bits_neg_one, bits_half, acos_neg_one, ← EReal.coe_mul, ← EReal.coe_neg, Ideal.exp_coe]
  rw [sqrt_real Real.pi_pos.le, div_real _ (Real.sqrt_pos.mpr Real.pi_pos).ne', ← EReal.coe_mul, div_real _ (by positivity), ← EReal.coe_neg, ← EReal.coe_add]
  exact congrArg _ (dgelu_erfc _ _)
theorem dz : ((addf (mulf (res_main_v83 V0) (res_main_v81_2 V0)) (mulf (mulf (res_main_v14 V0) (res_main_v83 V0)) (mulf (res_main_v81_2 V0) (subf (broadcastInDim S2x4096x2048 ![] bcast_S_S2x4096x2048 (constant S_ .f32 0x3F800000#32)) (res_main_v81_2 V0))))) : FVec Ideal S2x4096x2048 .f32) (ix3 q r j)
    = ((D (q * 4096 + r) j * (gelu (A (q * 4096 + r) j) * mx W bs (vv B g b) (q * 4096 + r) j) * dsilu (Z (q * 4096 + r) j) : ℝ) : EReal) := by
  pointwise
  simp only [v83 H, v81_2 H, v14 H, one_real, ← EReal.coe_mul, ← EReal.coe_sub, ← EReal.coe_add]
  exact congrArg _ (by rw [dsilu]; ring)

omit H in
/-- The three pieces side by side, the two sequences under each other. -/
theorem cat {X Y U : FVec Ideal S2x4096x2048 .f32} {f : ℕ → ℕ → ℝ}
    (hX : ∀ (q : Fin 2) (r : Fin 4096) (j : Fin 2048), X (ix3 q r j) = (f (q * 4096 + r) (0 + j) : EReal))
    (hY : ∀ (q : Fin 2) (r : Fin 4096) (j : Fin 2048), Y (ix3 q r j) = (f (q * 4096 + r) (2048 + j) : EReal))
    (hU : ∀ (q : Fin 2) (r : Fin 4096) (j : Fin 2048), U (ix3 q r j) = (f (q * 4096 + r) (4096 + j) : EReal))
    (r : Fin 8192) (j : Fin 6144) : (truncf .bf16 (shapeCast _ ((concatenate S2x4096x6144 2 [⟨S2x4096x2048, (X : (⟨S2x4096x2048, .f32⟩ : BufTy).Contents (Elt Ideal))⟩, ⟨S2x4096x2048, (Y : (⟨S2x4096x2048, .f32⟩ : BufTy).Contents (Elt Ideal))⟩, ⟨S2x4096x2048, (U : (⟨S2x4096x2048, .f32⟩ : BufTy).Contents (Elt Ideal))⟩] concatenates_S2x4096x2048_S2x4096x2048_S2x4096x2048_S2x4096x6144_d2 : (⟨S2x4096x6144, .f32⟩ : BufTy).Contents (Elt Ideal))) shapeCasts_S2x4096x6144_S8192x6144) bitsLt_bf16_f32 : FVec Ideal S8192x6144 .bf16) (ix2 r j) = (f r j : EReal) := by
  have hr : (r : ℕ) / 4096 * 4096 + r % 4096 = r := by omega
  pointwise
  split
  · refine (hX _ _ _).trans (congrArg _ (congrArg₂ f hr (Nat.zero_add _)))
  · split
    · refine (hY _ _ _).trans (congrArg _ (congrArg₂ f hr ?_))
      show 2048 + ((j : ℕ) - 2048) = j
      omega
    · refine (hU _ _ _).trans (congrArg _ (congrArg₂ f hr ?_))
      show 4096 + ((j : ℕ) - 2048 - 2048) = j
      omega

/-- The gradient of the projection. -/
theorem out6 (r : Fin 8192) (j : Fin 6144) : (truncf .bf16 (shapeCast _ ((concatenate S2x4096x6144 2 [⟨S2x4096x2048, ((addf (Host.negf (Host.divf (mulf (mulf (mulf (res_main_v16 V0) (res_main_v87 V0)) (Host.exp (Host.negf (mulf (res_main_v20 V0) (res_main_v20 V0))))) (broadcastInDim S2x4096x2048 ![] bcast_S_S2x4096x2048 (Host.divf (constant S_ .f32 0xC0000000#32) (Host.sqrt (Host.acos (constant S_ .f32 0xBF800000#32)))))) (broadcastInDim S2x4096x2048 ![] bcast_S_S2x4096x2048 (res_main_v18 V0)))) (mulf (broadcastInDim S2x4096x2048 ![] bcast_S_S2x4096x2048 (constant S_ .f32 0x3F000000#32)) (mulf (res_main_v87 V0) (res_main_v21 V0)))) : (⟨S2x4096x2048, .f32⟩ : BufTy).Contents (Elt Ideal))⟩, ⟨S2x4096x2048, ((addf (Host.negf (Host.divf (mulf (mulf (mulf (res_main_v30 V0) (res_main_v129 V0)) (Host.exp (Host.negf (mulf (res_main_v34 V0) (res_main_v34 V0))))) (broadcastInDim S2x4096x2048 ![] bcast_S_S2x4096x2048 (Host.divf (constant S_ .f32 0xC0000000#32) (Host.sqrt (Host.acos (constant S_ .f32 0xBF800000#32)))))) (broadcastInDim S2x4096x2048 ![] bcast_S_S2x4096x2048 (res_main_v32 V0)))) (mulf (broadcastInDim S2x4096x2048 ![] bcast_S_S2x4096x2048 (constant S_ .f32 0x3F000000#32)) (mulf (res_main_v129 V0) (res_main_v35 V0)))) : (⟨S2x4096x2048, .f32⟩ : BufTy).Contents (Elt Ideal))⟩, ⟨S2x4096x2048, ((addf (mulf (res_main_v83 V0) (res_main_v81_2 V0)) (mulf (mulf (res_main_v14 V0) (res_main_v83 V0)) (mulf (res_main_v81_2 V0) (subf (broadcastInDim S2x4096x2048 ![] bcast_S_S2x4096x2048 (constant S_ .f32 0x3F800000#32)) (res_main_v81_2 V0))))) : (⟨S2x4096x2048, .f32⟩ : BufTy).Contents (Elt Ideal))⟩] concatenates_S2x4096x2048_S2x4096x2048_S2x4096x2048_S2x4096x6144_d2 : (⟨S2x4096x6144, .f32⟩ : BufTy).Contents (Elt Ideal))) shapeCasts_S2x4096x6144_S8192x6144) bitsLt_bf16_f32 : FVec Ideal S8192x6144 .bf16) (ix2 r j)
    = (dpr W bs g b D A B Z r j : EReal) :=
  cat (f := dpr W bs g b D A B Z)
    (fun q r j => (da H q r j).trans (congrArg _ (dpr_a W bs g b D A B Z (q * 4096 + r) j.isLt).symm))
    (fun q r j => (db H q r j).trans (congrArg _ (dpr_b W bs g b D A B Z (q * 4096 + r) j.isLt).symm))
    (fun q r j => (dz H q r j).trans (congrArg _ (dpr_z W bs g b D A B Z (q * 4096 + r) j).symm)) r j

omit H in
/-- The rows' places in a chunk stay: the contraction runs over the two sequences, the chunks and a group's columns. -/
theorem dot3 (X : FVec Ideal S8x2x32x256x128 .f32) (Y : FVec Ideal S2x32x128x8x256 .f32) (e : Fin 8) (p t : Fin 128) :
    Host.dotGeneral dot_S8x2x32x256x128_S2x32x128x8x256_S8x128x128_123_014_4_2_0_3 none X Y (ix3 e p t)
      = ∑ q : Fin 2, ∑ n : Fin 32, ∑ k : Fin 256, X (ix5 e q n k p) * Y (ix5 q n t e k) := by
  let d := dot_S8x2x32x256x128_S2x32x128x8x256_S8x128x128_123_014_4_2_0_3
  let E : Fin 2 × Fin 32 × Fin 256 ≃ d.contr.Idx :=
    { toFun := fun k a => match a with | ⟨0, _⟩ => k.1 | ⟨1, _⟩ => k.2.1 | ⟨2, _⟩ => k.2.2
      invFun := fun k => (k ⟨0, by decide⟩, k ⟨1, by decide⟩, k ⟨2, by decide⟩)
      left_inv := fun _ => rfl
      right_inv := fun k => by funext a; match a with | ⟨0, _⟩ => rfl | ⟨1, _⟩ => rfl | ⟨2, _⟩ => rfl }
  pointwise
  refine (zero_add _).trans ((Fintype.sum_equiv E (fun k => X (ix5 e k.1 k.2.1 k.2.2 p) * Y (ix5 k.1 k.2.1 t e k.2.2)) _
    fun k => ?_).symm.trans (by simp only [Fintype.sum_prod_type]))
  refine congrArg₂ (fun a b => X a * Y b) ?_ ?_
  · funext a; match a with | ⟨0, _⟩ => rfl | ⟨1, _⟩ => rfl | ⟨2, _⟩ => rfl | ⟨3, _⟩ => rfl | ⟨4, _⟩ => rfl
  · funext a; match a with | ⟨0, _⟩ => rfl | ⟨1, _⟩ => rfl | ⟨2, _⟩ => rfl | ⟨3, _⟩ => rfl | ⟨4, _⟩ => rfl

theorem out7 (e : Fin 8) (p t : Fin 128) : (select (res_main_v72_1 V0) (Host.dotGeneral (φ₁ := .f32) (φ₂ := .f32) dot_S8x2x32x256x128_S2x32x128x8x256_S8x128x128_123_014_4_2_0_3 none (res_main_v93 V0) (res_main_v68 V0)) (broadcastInDim S8x128x128 ![] bcast_S_S8x128x128 (constant S_ .f32 0x00000000#32)) : FVec Ideal S8x128x128 .f32) (ix3 e p t)
    = (dW D A B Z g b e p t : EReal) := by
  refine (congrArg₂ (Scalar.select · · _) (v72_1 e p t) (dot3 _ _ e p t)).trans ?_
  pointwise [res_main_v93]
  simp only [v88 H, v68 H, ← EReal.coe_mul, sum_real]
  exact (sel _ ((t : ℕ) ≤ p) rfl).trans (congrArg _ (sum_dwB D A B Z g b e p t).symm)

theorem out8 (p : Fin 128) (e : Fin 8) : (transpose S128x8 [1, 0] (transpose S8x128 [1, 0] (Host.reduceAdd (shapeCast _ (Host.reduceAdd (res_main_v88 V0) (constant S_ .f32 0x00000000#32) reducesTo_S2x32x128x8x256_S128x8_d0_1_4 h_S_) shapeCasts_S128x8_S1x1x128x8x1) (constant S_ .f32 0x00000000#32) reducesTo_S1x1x128x8x1_S128x8_d0_1_4 h_S_) transposes_S128x8_S8x128_1_0) transposes_S8x128_S128x8_1_0 : FVec Ideal S128x8 .f32) (ix2 p e)
    = (dBt D A Z p e : EReal) := by
  pointwise [sum_axes01, sum_axes014]
  simp only [v88 H, v61 H, v98 H, ← EReal.coe_mul, sum_real, zero_add, Fin.sum_univ_one]
  refine congrArg _ ?_
  exact (sum_dbB D A Z p e).symm
theorem out9 (i : Fin 1) (j : Fin 2048) : (broadcastInDim S1x2048 ![1] bcast_S2048_S1x2048_1 (Host.reduceAdd (shapeCast _ (Host.reduceAdd (mulf (res_main_v61 V0) (res_main_v98 V0)) (constant S_ .f32 0x00000000#32) reducesTo_S2x4096x2048_S2048_d0_1 h_S_) shapeCasts_S2048_S1x1x2048) (constant S_ .f32 0x00000000#32) reducesTo_S1x1x2048_S2048_d0_1 h_S_) : FVec Ideal S1x2048 .f32) (ix2 i j)
    = (dG D A B Z W j : EReal) := by
  pointwise [sum_axes01, sum_axes014]
  simp only [v88 H, v61 H, v98 H, ← EReal.coe_mul, sum_real, zero_add, Fin.sum_univ_one]
  refine congrArg _ ?_
  exact (sum_dG D A B Z W j).symm
theorem out10 (i : Fin 1) (j : Fin 2048) : (broadcastInDim S1x2048 ![1] bcast_S2048_S1x2048_1 (Host.reduceAdd (shapeCast _ (Host.reduceAdd (res_main_v98 V0) (constant S_ .f32 0x00000000#32) reducesTo_S2x4096x2048_S2048_d0_1 h_S_) shapeCasts_S2048_S1x1x2048) (constant S_ .f32 0x00000000#32) reducesTo_S1x1x2048_S2048_d0_1 h_S_) : FVec Ideal S1x2048 .f32) (ix2 i j)
    = (dB D A Z W j : EReal) := by
  pointwise [sum_axes01, sum_axes014]
  simp only [v88 H, v61 H, v98 H, ← EReal.coe_mul, sum_real, zero_add, Fin.sum_univ_one]
  refine congrArg _ ?_
  exact (sum_dB D A Z W j).symm
end

end Cert.ReferenceIdeal.Value
end
-- ==== Proof.Finite.lean ====
/- The precondition: every argument holds real numbers. -/
module

public import proofs.«01_k».proof.Pre_finite
public import proofs.«01_k».proof.Proof.Reals
public import Idealize.ShloMosaic.Lib.ReduceAll
public import Idealize.ShloMosaic.Lib.Pointwise

@[expose] public section

set_option maxRecDepth 16384

noncomputable section

namespace Cert.Finite
open Idealize.ShloMosaic Cert.Reals

theorem bits_inf : Ideal.ofBits .f32 0x7F800000#32 = ⊤ := by simp [Ideal.ofBits, Ideal.ieee]

theorem real_of_abs (x : Ideal .f32) (h : FloatOps.absf x < (⊤ : EReal)) : x = ((x : EReal).toReal : EReal) := by
  refine (EReal.coe_toReal (fun e => ?_) (fun e => ?_)).symm
  · rw [e] at h; exact absurd h (by decide +kernel)
  · rw [e] at h; exact absurd h (by decide +kernel)

/-- A conjunction over all entries of `|x| < ∞` says that every entry is a real number. -/
theorem all_real {s t : Shape} {axes : List (Fin s.rank)} [Subsingleton t.Idx] (x : FVec Ideal s .f32)
    (hb : (⟨0, ![]⟩ : Shape).BroadcastsInDim s (![] : Fin 0 → Fin s.rank)) (init : (⟨0, ![]⟩ : Shape).Idx → BitVec 1) (hr : s.ReducesTo axes t) (hu : 0 < (⟨0, ![]⟩ : Shape).numel) (j : t.Idx)
    (e : Host.reduce IntOp.andi (cmpf .olt (Host.absf x) (broadcastInDim s ![] hb (constant (⟨0, ![]⟩ : Shape) .f32 0x7F800000#32))) init hr hu j = 1#1)
    (i : s.Idx) : x i = ((x i).toReal : EReal) := by
  have h := Host.reduce_andi_all _ _ hr hu j e i
  pointwise at h
  rw [bits_inf] at h
  have h : FloatOps.absf (F := Ideal) (φ := .f32) (x i) < (⊤ : EReal) := by
    by_contra hn
    rw [decide_eq_false hn] at h
    exact absurd h (by decide)
  exact real_of_abs (x i) h

instance : Subsingleton Cert.Pre_finite.S_.Idx := ⟨fun a b => funext fun x => x.elim0⟩

theorem facts : Cert.Pre_finite.Facts :=
  ⟨by decide, by decide, by decide, by decide, by decide, by decide, by decide, by decide, by decide, by decide, by decide, by decide⟩

/-! ## The six arguments of the gradient of the spatial gating -/

section
open Cert.Pre_finite
attribute [local instance] facts

theorem args {du : FVec Ideal S8192x2048 .bf16} {pr : FVec Ideal S8192x6144 .bf16} {lg lb : FVec Ideal S2x2048 .f32}
    {w : FVec Ideal S2x8x128x128 .f32} {sb : FVec Ideal S2x8x128 .f32}
    (h : Cert.Pre_finite.fn (F := Ideal) du pr lg lb w sb = fun _ => 1#1) :
    ∃ D A B Z g b W bs, Args du pr lg lb w sb D A B Z g b W bs := by
  have h := congrFun h ix0
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  have h0 := all_real _ _ _ _ _ _ h0
  have h1 := all_real _ _ _ _ _ _ h1
  have h2 := all_real _ _ _ _ _ _ h2
  have h3 := all_real _ _ _ _ _ _ h3
  have h4 := all_real _ _ _ _ _ _ h4
  have h5 := all_real _ _ _ _ _ _ h5
  refine ⟨fun r j => (du (ix2 ⟨r % 8192, by omega⟩ ⟨j % 2048, by omega⟩)).toReal,
    fun r j => (pr (ix2 ⟨r % 8192, by omega⟩ ⟨j % 2048, by omega⟩)).toReal,
    fun r j => (pr (ix2 ⟨r % 8192, by omega⟩ ⟨2048 + j % 2048, by omega⟩)).toReal,
    fun r j => (pr (ix2 ⟨r % 8192, by omega⟩ ⟨4096 + j % 2048, by omega⟩)).toReal,
    fun j => (lg (ix2 1 ⟨j % 2048, by omega⟩)).toReal, fun j => (lb (ix2 1 ⟨j % 2048, by omega⟩)).toReal,
    fun g t s => (w (ix4 1 ⟨g % 8, by omega⟩ ⟨t % 128, by omega⟩ ⟨s % 128, by omega⟩)).toReal,
    fun g t => (sb (ix3 1 ⟨g % 8, by omega⟩ ⟨t % 128, by omega⟩)).toReal, ?_, ?_, ?_, ?_, ?_, ?_, ?_, ?_⟩
  · intro r j
    refine (h0 _).trans ?_
    simp only [Nat.mod_eq_of_lt r.isLt, Nat.mod_eq_of_lt j.isLt]; rfl
  · intro r j
    refine (h1 _).trans ?_
    simp only [Nat.mod_eq_of_lt r.isLt, Nat.mod_eq_of_lt j.isLt]; rfl
  · intro r j
    refine (h1 _).trans ?_
    simp only [Nat.mod_eq_of_lt r.isLt, Nat.mod_eq_of_lt j.isLt]; rfl
  · intro r j
    refine (h1 _).trans ?_
    simp only [Nat.mod_eq_of_lt r.isLt, Nat.mod_eq_of_lt j.isLt]; rfl
  · intro j
    refine (h2 _).trans ?_
    simp only [Nat.mod_eq_of_lt j.isLt]
  · intro j
    refine (h3 _).trans ?_
    simp only [Nat.mod_eq_of_lt j.isLt]
  · intro g t s
    refine (h4 _).trans ?_
    simp only [Nat.mod_eq_of_lt g.isLt, Nat.mod_eq_of_lt t.isLt, Nat.mod_eq_of_lt s.isLt]
  · intro g t
    refine (h5 _).trans ?_
    simp only [Nat.mod_eq_of_lt g.isLt, Nat.mod_eq_of_lt t.isLt]
end

end Cert.Finite
end
-- ==== Proof.Sgu.lean ====
/- The gradient of the spatial gating: on finite arguments the kernel and the reference end with the same arrays. -/
module

public import proofs.«01_k».proof.Defs
public import proofs.«01_k».proof.Proof.Gen.Kernel
public import proofs.«01_k».proof.Proof.SguKernel
public import proofs.«01_k».proof.Proof.SguRef
public import proofs.«01_k».proof.Proof.Finite

@[expose] public section

set_option maxRecDepth 16384

noncomputable section

namespace Cert.Sgu
open Idealize.ShloMosaic Idealize.ShloMosaic.TcCoe Idealize.SL.Sem Cert.Reals

theorem algebraic : Cert.algebraic_KernelIdeal_ReferenceIdeal_pre_finite (hPre_finite := Cert.Finite.facts) := by
  intro m ρ m' ρ' hpre hagree
  refine ⟨fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    Cert.KernelIdeal.Value.run_blocks m ρ, ?_⟩
  refine (θ_run Cert.ReferenceIdeal.defs _ _).mono (fun r h c => ?_) (Cert.ReferenceIdeal.Value.run (F := Ideal) m' ρ')
  obtain ⟨D, A, B, Z, g, b, W, bs, H⟩ := Cert.Finite.args (hpre c)
  have H' := H
  rw [← (hagree c).1, ← (hagree c).2.1, ← (hagree c).2.2.1, ← (hagree c).2.2.2.1, ← (hagree c).2.2.2.2.1, ← (hagree c).2.2.2.2.2] at H'
  obtain ⟨h0, h1, h2, h3, h4, hk⟩ := h c
  refine ⟨h0.trans ?_, h1.trans ?_, h2.trans ?_, h3.trans ?_, h4.trans ?_, hk⟩
  · funext y
    obtain ⟨r, j, rfl⟩ : ∃ (r : Fin 8192) (j : Fin 6144), y = ix2 r j := ⟨y 0, y 1, by funext a; fin_cases a <;> rfl⟩
    exact (Cert.ReferenceIdeal.Value.out6 H' r j).trans (Cert.KernelIdeal.Gen.arr6 m H r j).symm
  · funext y
    obtain ⟨e, p, q, rfl⟩ : ∃ (e : Fin 8) (p q : Fin 128), y = ix3 e p q := ⟨y 0, y 1, y 2, by funext a; fin_cases a <;> rfl⟩
    exact (Cert.ReferenceIdeal.Value.out7 H' e p q).trans (Cert.KernelIdeal.Gen.arr7 m H e p q).symm
  · funext y
    obtain ⟨p, e, rfl⟩ : ∃ (p : Fin 128) (e : Fin 8), y = ix2 p e := ⟨y 0, y 1, by funext a; fin_cases a <;> rfl⟩
    exact (Cert.ReferenceIdeal.Value.out8 H' p e).trans (Cert.KernelIdeal.Gen.arr8 m H p e).symm
  · funext y
    obtain ⟨i, j, rfl⟩ : ∃ (i : Fin 1) (j : Fin 2048), y = ix2 i j := ⟨y 0, y 1, by funext a; fin_cases a <;> rfl⟩
    exact (Cert.ReferenceIdeal.Value.out9 H' i j).trans (Cert.KernelIdeal.Gen.arr9 m H i j).symm
  · funext y
    obtain ⟨i, j, rfl⟩ : ∃ (i : Fin 1) (j : Fin 2048), y = ix2 i j := ⟨y 0, y 1, by funext a; fin_cases a <;> rfl⟩
    exact (Cert.ReferenceIdeal.Value.out10 H' i j).trans (Cert.KernelIdeal.Gen.arr10 m H i j).symm

end Cert.Sgu
end
-- ==== Proof.WgradIn.lean ====
/- The gradient of the weight of the product that leads into the mixer: four column blocks, each summed over four runs of
   2048 rows. -/
module

public import proofs.«01_k».proof.Defs
public import proofs.«01_k».proof.Proof.Gen.KernelWinIdeal.Value
public import proofs.«01_k».proof.Proof.Gen.ReferenceWinIdeal.Run
public import Idealize.ShloMosaic.Lib.Pointwise
public import Idealize.ShloMosaic.Lib.Pipeline.ValueKit
public import Idealize.ShloMosaic.Lib.IdealHost

@[expose] public section

set_option maxRecDepth 16384

noncomputable section

namespace Cert.KernelWinIdeal.Gen
open Idealize.ShloMosaic Idealize.ShloMosaic.TcCoe Idealize.SL.Sem

theorem zero_at (j) : k0_pay1 (F := Ideal) j = 0 := by pointwise [k0_pay1]

/-- One step adds the product over its 2048 rows. -/
theorem step_at (x : Vec Ideal S2048x1024 .bf16) (d : Vec Ideal S2048x1536 .bf16) (acc : Vec Ideal S1x1x1024x1536 .f32) (j) :
    k0_pay2 x d acc j = acc j + ∑ k : Fin 2048, x (ix2 k (j 2)) * d (ix2 k (j 3)) := by
  pointwise [k0_pay2]

theorem idx : ∀ t : Fin cfg0.N, win0_0.index t = ![t.val % 4, 0] ∧ win0_1.index t = ![t.val % 4, t.val / 4]
    ∧ win0_2.index t = ![0, t.val / 4, 0, 0] := (by decide +kernel : ∀ t : Fin grid0.N, _)

theorem col_lt (y : S1x4x1024x1536.Idx) : 1536 * (y 1 : ℕ) + y 3 < 6144 := by
  have h : (y 1 : ℕ) < 4 := (y 1).isLt
  have h' : (y 3 : ℕ) < 1536 := (y 3).isLt
  omega

/-- Block `b`, row `i`, column `j` of the gradient: column `1536 b + j` of the sum over all rows. -/
def grad (x : FVec Ideal S8192x1024 .bf16) (d : FVec Ideal S8192x6144 .bf16) (y : S1x4x1024x1536.Idx) : EReal :=
  ∑ k : Fin 8192, x (ix2 k (y 2)) * d (ix2 k ⟨1536 * y 1 + y 3, col_lt y⟩)

theorem final (m : (ℓ : Loc nD τ sig) → Buf (Elt Ideal) ℓ) (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [step_at, zero_at]) (fun t h j => by rw [outsAt0_B m c t h]; frame_out; rw [step_at])
    t ((flush0_2 t).mp hf) _, zero_add, grad]
  refine Fin.sum_mul_add_congr fun s k hl => ?_
  blk_point [iblk, V, idx t, idx ⟨_, Pipeline.run_point_lt_of_flush t ((flush0_2 t).mp hf) s⟩]

end Cert.KernelWinIdeal.Gen

namespace Cert.WgradIn
open Idealize.ShloMosaic Idealize.ShloMosaic.TcCoe Idealize.SL.Sem

theorem algebraic : Cert.algebraic_KernelWinIdeal_ReferenceWinIdeal := by
  intro m ρ m' ρ' _ hagree
  refine ⟨fun c => (Cert.KernelWinIdeal.Gen.dats m 0 c).arrAt 2 Cert.KernelWinIdeal.cfg0.N, Cert.KernelWinIdeal.Value.run_blocks m ρ, ?_⟩
  refine (θ_run Cert.ReferenceWinIdeal.defs _ _).mono (fun r h c => ⟨(h c).1.trans ?_, (h c).2⟩) (Cert.ReferenceWinIdeal.Value.run (F := Ideal) m' ρ')
  refine Eq.trans ?_ (Cert.KernelWinIdeal.Gen.final m c).symm
  rw [(hagree c).1, (hagree c).2]
  funext y
  rw [Cert.KernelWinIdeal.Gen.grad]
  pointwise
  refine Fin.sum_fin_congr fun k => ?_
  rw [mul_comm]
  blk_point []

end Cert.WgradIn
end
-- ==== Proof.WgradOut.lean ====
/- The gradient of the weight of the product that leads back to the residual stream: one block, summed over eight runs of
   1024 rows. -/
module

public import proofs.«01_k».proof.Defs
public import proofs.«01_k».proof.Proof.Gen.KernelWoutIdeal.Value
public import proofs.«01_k».proof.Proof.Gen.ReferenceWoutIdeal.Run
public import Idealize.ShloMosaic.Lib.Pointwise
public import Idealize.ShloMosaic.Lib.Pipeline.ValueKit
public import Idealize.ShloMosaic.Lib.IdealHost

@[expose] public section

set_option maxRecDepth 16384

noncomputable section

namespace Cert.KernelWoutIdeal.Gen
open Idealize.ShloMosaic Idealize.ShloMosaic.TcCoe Idealize.SL.Sem

theorem zero_at (j) : k0_pay1 (F := Ideal) j = 0 := by pointwise [k0_pay1]

/-- One step adds the product over its 1024 rows. -/
theorem step_at (x : Vec Ideal S1024x2048 .bf16) (d : Vec Ideal S1024x1024 .f32) (acc : Vec Ideal S1x1x2048x1024 .f32) (j) :
    k0_pay2 x d acc j = acc j + ∑ k : Fin 1024, x (ix2 k (j 2)) * d (ix2 k (j 3)) := by
  pointwise [k0_pay2]

theorem idx : ∀ t : Fin cfg0.N, win0_0.index t = ![t.val, 0] ∧ win0_1.index t = ![t.val, 0] ∧ win0_2.index t = ![0, 0, 0, 0] :=
  (by decide +kernel : ∀ t : Fin grid0.N, _)

/-- Row `i`, column `j` of the gradient: the sum over all rows of the two arguments. -/
def grad (x : FVec Ideal S8192x2048 .bf16) (d : FVec Ideal S8192x1024 .f32) (y : S1x1x2048x1024.Idx) : EReal :=
  ∑ k : Fin 8192, x (ix2 k (y 2)) * d (ix2 k (y 3))

theorem final (m : (ℓ : Loc nD τ sig) → Buf (Elt Ideal) ℓ) (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [outsAt0_A m c t h]; frame_out; rw [step_at, zero_at]) (fun t h j => by rw [outsAt0_B m c t h]; frame_out; rw [step_at])
    t ((flush0_2 t).mp hf) _, zero_add, grad]
  refine Fin.sum_mul_add_congr fun s k hl => ?_
  blk_point [iblk, V, idx t, idx ⟨_, Pipeline.run_point_lt_of_flush t ((flush0_2 t).mp hf) s⟩]

end Cert.KernelWoutIdeal.Gen

namespace Cert.WgradOut
open Idealize.ShloMosaic Idealize.ShloMosaic.TcCoe Idealize.SL.Sem

theorem algebraic : Cert.algebraic_KernelWoutIdeal_ReferenceWoutIdeal := by
  intro m ρ m' ρ' _ hagree
  refine ⟨fun c => (Cert.KernelWoutIdeal.Gen.dats m 0 c).arrAt 2 Cert.KernelWoutIdeal.cfg0.N, Cert.KernelWoutIdeal.Value.run_blocks m ρ, ?_⟩
  refine (θ_run Cert.ReferenceWoutIdeal.defs _ _).mono (fun r h c => ⟨(h c).1.trans ?_, (h c).2⟩) (Cert.ReferenceWoutIdeal.Value.run (F := Ideal) m' ρ')
  refine Eq.trans ?_ (Cert.KernelWoutIdeal.Gen.final m c).symm
  rw [(hagree c).1, (hagree c).2]
  funext y
  rw [Cert.KernelWoutIdeal.Gen.grad]
  pointwise
  refine Fin.sum_fin_congr fun k => ?_
  rw [mul_comm]

end Cert.WgradOut
end
-- ==== Proof.WgradGate.lean ====
/- The gradient of the weight of the gate's product: one block, summed over four runs of 2048 rows. -/
module

public import proofs.«01_k».proof.Defs
public import proofs.«01_k».proof.Proof.Gen.KernelWgateIdeal.Value
public import proofs.«01_k».proof.Proof.Gen.ReferenceWgateIdeal.Run
public import Idealize.ShloMosaic.Lib.Pointwise
public import Idealize.ShloMosaic.Lib.Pipeline.ValueKit
public import Idealize.ShloMosaic.Lib.IdealHost

@[expose] public section

set_option maxRecDepth 16384

noncomputable section

namespace Cert.KernelWgateIdeal.Gen
open Idealize.ShloMosaic Idealize.ShloMosaic.TcCoe Idealize.SL.Sem

theorem zero_at (j) : k0_pay1 (F := Ideal) j = 0 := by pointwise [k0_pay1]

/-- One step adds the product over its 2048 rows. -/
theorem step_at (x : Vec Ideal S2048x1024 .bf16) (d : Vec Ideal S2048x1024 .bf16) (acc : Vec Ideal S1x1x1024x1024 .f32) (j) :
    k0_pay2 x d acc j = acc j + ∑ k : Fin 2048, x (ix2 k (j 2)) * d (ix2 k (j 3)) := by
  pointwise [k0_pay2]

theorem idx : ∀ t : Fin cfg0.N, win0_0.index t = ![t.val, 0] ∧ win0_1.index t = ![t.val, 0] ∧ win0_2.index t = ![0, 0, 0, 0] :=
  (by decide +kernel : ∀ t : Fin grid0.N, _)

/-- Row `i`, column `j` of the gradient: the sum over all rows of the two arguments. -/
def grad (x : FVec Ideal S8192x1024 .bf16) (d : FVec Ideal S8192x1024 .bf16) (y : S1x1x1024x1024.Idx) : EReal :=
  ∑ k : Fin 8192, x (ix2 k (y 2)) * d (ix2 k (y 3))

theorem final (m : (ℓ : Loc nD τ sig) → Buf (Elt Ideal) ℓ) (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [step_at, zero_at]) (fun t h j => by rw [outsAt0_B m c t h]; frame_out; rw [step_at])
    t ((flush0_2 t).mp hf) _, zero_add, grad]
  refine Fin.sum_mul_add_congr fun s k hl => ?_
  blk_point [iblk, V, idx t, idx ⟨_, Pipeline.run_point_lt_of_flush t ((flush0_2 t).mp hf) s⟩]

end Cert.KernelWgateIdeal.Gen

namespace Cert.WgradGate
open Idealize.ShloMosaic Idealize.ShloMosaic.TcCoe Idealize.SL.Sem

theorem algebraic : Cert.algebraic_KernelWgateIdeal_ReferenceWgateIdeal := by
  intro m ρ m' ρ' _ hagree
  refine ⟨fun c => (Cert.KernelWgateIdeal.Gen.dats m 0 c).arrAt 2 Cert.KernelWgateIdeal.cfg0.N, Cert.KernelWgateIdeal.Value.run_blocks m ρ, ?_⟩
  refine (θ_run Cert.ReferenceWgateIdeal.defs _ _).mono (fun r h c => ⟨(h c).1.trans ?_, (h c).2⟩) (Cert.ReferenceWgateIdeal.Value.run (F := Ideal) m' ρ')
  refine Eq.trans ?_ (Cert.KernelWgateIdeal.Gen.final m c).symm
  rw [(hagree c).1, (hagree c).2]
  funext y
  rw [Cert.KernelWgateIdeal.Gen.grad]
  pointwise
  refine Fin.sum_fin_congr fun k => ?_
  rw [mul_comm]

end Cert.WgradGate
end
-- ==== Proof.WgradProj.lean ====
/- The gradient of the weight of the product with the layer's embedding: four column blocks written one by one, summed over four
   runs of 2048 rows. -/
module

public import proofs.«01_k».proof.Defs
public import proofs.«01_k».proof.Proof.Gen.KernelWprojIdeal.Value
public import proofs.«01_k».proof.Proof.Gen.ReferenceWprojIdeal.Run
public import Idealize.ShloMosaic.Lib.Pointwise
public import Idealize.ShloMosaic.Lib.Pipeline.ReadBack
public import Idealize.ShloMosaic.Lib.Pipeline.ValueKit
public import Idealize.ShloMosaic.Lib.IdealHost

@[expose] public section

set_option maxRecDepth 16384

noncomputable section

namespace Cert.KernelWprojIdeal.Gen
open Idealize.ShloMosaic Idealize.ShloMosaic.TcCoe Idealize.SL.Sem

theorem zero_at (j) : k0_pay3 (F := Ideal) j = 0 := by pointwise [k0_pay3]

theorem col_lt (y : S1x4x256x256.Idx) : 256 * (y 1 : ℕ) + y 3 < 1024 := by
  have h : (y 1 : ℕ) < 4 := (y 1).isLt
  have h' : (y 3 : ℕ) < 256 := (y 3).isLt
  omega

/-- What was there, plus the product over the step's 2048 rows. -/
def stepped (x : Vec Ideal S1x2048x256 .f32) (d : Vec Ideal S2048x1024 .bf16) (o : Vec Ideal S1x4x256x256 .f32) (y : S1x4x256x256.Idx) :
    Elt Ideal .f32 :=
  o y + ∑ k : Fin 2048, x (ix3 0 k (y 2)) * d (ix2 k ⟨256 * y 1 + y 3, col_lt y⟩)

/-- One block of 256 columns. -/
abbrev slab (s : Fin 4) : Rect S1x4x256x256 :=
  Rect.unit ![0, s.val, 0, 0] ![1, 1, 256, 256] (fun a => by fin_cases a <;> simp <;> omega)

theorem slab_emb (s : Fin 4) (a b : Fin 1) (i j : Fin 256) : (slab s).emb (ix4 a b i j) = ix4 0 s i j := by
  blk_ext

theorem product_at (x : Vec Ideal S1x2048x256 .f32) (d : Vec Ideal S2048x1024 .bf16) (i : Fin 256) (j : Fin 1024) :
    k0_pay4 x d (ix2 i j) = ∑ k : Fin 2048, x (ix3 0 k i) * d (ix2 k j) := by
  pointwise [k0_pay4]

theorem slices : ∀ s : Fin 4, S256x1024.Slices ![0, 256 * s.val] S256x256 := by decide

/-- What one store writes, over what it read. -/
def tile (s : Fin 4) (T : FVec Ideal S256x1024 .f32) (v : Vec Ideal S1x1x256x256 .f32) : FVec Ideal S1x1x256x256 .f32 :=
  shapeCast S1x1x256x256 (addf (shapeCast S256x256 v shapeCasts_S1x1x256x256_S256x256)
    (extractStridedSlice S256x256 ![0, 256 * s.val] T (slices s))) shapeCasts_S256x256_S1x1x256x256

theorem piece (x : Vec Ideal S1x2048x256 .f32) (d : Vec Ideal S2048x1024 .bf16) (o : Vec Ideal S1x4x256x256 .f32) (s : Fin 4)
    (z : (slab s).shape.Idx) : tile s (k0_pay4 x d) (View.ld o (slab s)) z = stepped x d o ((slab s).emb z) := by
  obtain ⟨a, b, i, j, rfl⟩ : ∃ (a b : Fin 1) (i j : Fin 256), z = ix4 a b i j := ⟨z 0, z 1, z 2, z 3, by blk_ext⟩
  rw [slab_emb, stepped]
  have h : tile s (k0_pay4 x d) (View.ld o (slab s)) (ix4 a b i j)
      = View.ld o (slab s) (ix4 a b i j) + k0_pay4 x d (ix2 i ⟨256 * s + j, by omega⟩) := by
    generalize k0_pay4 x d = T
    pointwise [tile]
  rw [h, product_at]
  exact congrArg₂ (· + ·) (congrArg o (slab_emb s a b i j)) rfl

theorem canon_four {S : Shape} {e : EltTy} (G : S.Idx → Elt Ideal e) (p3 p2 p1 p0 f : View.Piece (Elt Ideal) S e)
    (h : View.PiecesOf G [p3, p2, p1, p0]) (y : S.Idx) (hc : ∃ p ∈ [p3, p2, p1, p0], y ∈ p.1.set) :
    View.canon [p3, p2, p1, p0, f] y = G y :=
  View.canon_append_of_piecesOf G [f] [p3, p2, p1, p0] h y hc

variable (m : (ℓ : Loc nD τ sig) → Buf (Elt Ideal) ℓ)

theorem step_B (c : Dev nD) (t : Fin cfg0.N) (h0 : ¬ t.1 % 4 = 0) (y) : outsAt0 m c t.1 t.2 y
    = stepped (iblk m c 0 t) (iblk m c 1 t) (outsAt0 m c (t.val - 1) (Nat.lt_of_le_of_lt (Nat.sub_le _ _) t.isLt)) y := by
  rw [outsAt0_B m c t h0]
  frame_out
  refine View.canon_apply_of_pieces (Val := Elt Ideal) (e := .f32)
    (stepped (iblk m c 0 t) (iblk m c 1 t) _) _ (View.PiecesOf.mem ?_) y (View.cover_of_tiled_head _ _ _ rfl _)
  have h := piece (iblk m c 0 t) (iblk m c 1 t) (outsAt0 m c (t.val - 1) (Nat.lt_of_le_of_lt (Nat.sub_le _ _) t.isLt))
  exact ⟨h 3, h 2, h 1, h 0, trivial⟩

theorem step_A (c : Dev nD) (t : Fin cfg0.N) (h0 : t.1 % 4 = 0) (y) : outsAt0 m c t.1 t.2 y
    = stepped (iblk m c 0 t) (iblk m c 1 t) (k0_pay3 (F := Ideal)) y := by
  rw [outsAt0_A m c t h0]
  frame_open
  simp (disch := decide) only [↓ View.readCov_skip, ↓ View.readCov_cons_toLoadRect, ↓ View.readCov_fill]
  frame_out
  refine canon_four (stepped (iblk m c 0 t) (iblk m c 1 t) (k0_pay3 (F := Ideal)))
    _ _ _ _ _ ?_ y (View.cover_of_tiled_head _ _ _ rfl _)
  have h := piece (iblk m c 0 t) (iblk m c 1 t) (k0_pay3 (F := Ideal))
  exact ⟨h 3, h 2, h 1, h 0, trivial⟩

theorem idx : ∀ t : Fin cfg0.N, win0_0.index t = ![1, t.val, 0] ∧ win0_1.index t = ![t.val, 0]
    ∧ win0_2.index t = ![0, 0, 0, 0] := (by decide +kernel : ∀ t : Fin grid0.N, _)

/-- Block `b`, row `i`, column `j` of the gradient: column `256 b + j` of the sum over all rows. -/
def grad (x : FVec Ideal S4x8192x256 .f32) (d : FVec Ideal S8192x1024 .bf16) (y : S1x4x256x256.Idx) : EReal :=
  ∑ k : Fin 8192, x (ix3 1 k (y 2)) * d (ix2 k ⟨256 * y 1 + y 3, col_lt y⟩)

theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [step_A m c t h, stepped, zero_at]) (fun t h j => by rw [step_B m c t h, stepped])
    t ((flush0_2 t).mp hf) _, zero_add, grad]
  refine Fin.sum_mul_add_congr fun s k hl => ?_
  blk_point [iblk, V, idx t, idx ⟨_, Pipeline.run_point_lt_of_flush t ((flush0_2 t).mp hf) s⟩]

end Cert.KernelWprojIdeal.Gen

namespace Cert.WgradProj
open Idealize.ShloMosaic Idealize.ShloMosaic.TcCoe Idealize.SL.Sem

theorem algebraic : Cert.algebraic_KernelWprojIdeal_ReferenceWprojIdeal := by
  intro m ρ m' ρ' _ hagree
  refine ⟨fun c => (Cert.KernelWprojIdeal.Gen.dats m 0 c).arrAt 2 Cert.KernelWprojIdeal.cfg0.N, Cert.KernelWprojIdeal.Value.run_blocks m ρ, ?_⟩
  refine (θ_run Cert.ReferenceWprojIdeal.defs _ _).mono (fun r h c => ⟨(h c).1.trans ?_, (h c).2⟩) (Cert.ReferenceWprojIdeal.Value.run (F := Ideal) m' ρ')
  refine Eq.trans ?_ (Cert.KernelWprojIdeal.Gen.final m c).symm
  rw [(hagree c).1, (hagree c).2]
  funext y
  rw [Cert.KernelWprojIdeal.Gen.grad]
  pointwise
  refine Fin.sum_fin_congr fun k => ?_
  rw [mul_comm]
  blk_point []

end Cert.WgradProj
end
-- ==== Proof.Rms.lean ====
/- A row over its root mean square. -/
module

public import Idealize.ShloMosaic.PureOps.Ideal
public import Idealize.ShloMosaic.Lib.IdealHost
public import Idealize.ShloMosaic.Lib.Pointwise
public import Idealize.ShloMosaic.Lib.Pipeline.ValueKit
public import proofs.«01_k».proof.Proof.Reals

@[expose] public section

noncomputable section

namespace Cert.Rms
open Idealize.ShloMosaic Cert.Reals

/-- A row over its root mean square, scaled. -/
def hrow (f g : Fin 1024 → EReal) (j : Fin 1024) : EReal :=
  f j * Ideal.rsqrt (Ideal.div (∑ k, f k * f k) (Ideal.ofBits .f32 0x44800000#32) + Ideal.ofBits .f32 0x358637BD#32) * g j

/-- The reciprocal of a row's root mean square. -/
def rs (f : Fin 1024 → EReal) : EReal :=
  Ideal.rsqrt (Ideal.div (∑ k, f k * f k) (Ideal.ofBits .f32 0x44800000#32) + Ideal.ofBits .f32 0x358637BD#32)

/-- The gradient `h` of the normalised row taken back to the row `f`. -/
def rback (f h : Fin 1024 → EReal) (j : Fin 1024) : EReal :=
  rs f * (h j - f j * rs f * Ideal.div (∑ k, f k * rs f * h k) (Ideal.ofBits .f32 0x44800000#32))

/-- What the mean of the squares passes on, as automatic differentiation writes it. -/
def qback (f h : Fin 1024 → EReal) : EReal :=
  Ideal.div ((∑ k, f k * h k) * (Ideal.ofBits .f32 0xBF000000#32 * Ideal.div (rs f) (Ideal.div (∑ k, f k * f k) (Ideal.ofBits .f32 0x44800000#32)
    + Ideal.ofBits .f32 0x358637BD#32))) (Ideal.ofBits .f32 0x44800000#32)

/-- Four runs of 1536 terms are one run of 6144. -/
theorem sum_four (f : Fin 6144 → EReal) : (∑ k : Fin 1536, f ⟨k, by omega⟩) + (∑ k : Fin 1536, f ⟨1536 + k, by omega⟩)
    + (∑ k : Fin 1536, f ⟨3072 + k, by omega⟩) + (∑ k : Fin 1536, f ⟨4608 + k, by omega⟩) = ∑ k, f k := by
  have h : ∑ s : Fin 4, ∑ k : Fin 1536, f ⟨1536 * s + k, by omega⟩ = ∑ k, f k :=
    Fin.sum_mul_add_congr fun s k hl => congrArg f (Fin.ext (by simp only []; omega))
  rw [← h, Fin.sum_univ_four]
  refine congrArg₂ (· + ·) (congrArg₂ (· + ·) (congrArg₂ (· + ·) ?_ ?_) ?_) ?_ <;>
    refine Fin.sum_fin_congr fun k => congrArg f (Fin.ext ?_)
  · show (k : ℕ) = 1536 * 0 + k; omega
  · rfl
  · rfl
  · rfl

/-! ## Of real rows -/

/-- The reciprocal of the root mean square of a real row. -/
def rinv (f : Fin 1024 → ℝ) : ℝ := (Real.sqrt ((∑ k, f k * f k) / 1024 + eps))⁻¹

theorem ms_pos (f : Fin 1024 → ℝ) : 0 < (∑ k, f k * f k) / 1024 + eps :=
  add_pos_of_nonneg_of_pos (div_nonneg (Finset.sum_nonneg fun _ _ => mul_self_nonneg _) (by norm_num)) eps_pos

theorem ms_real (f : Fin 1024 → ℝ) : Ideal.div (∑ k, (f k : EReal) * (f k : EReal)) (Ideal.ofBits .f32 0x44800000#32)
    + Ideal.ofBits .f32 0x358637BD#32 = (((∑ k, f k * f k) / 1024 + eps : ℝ) : EReal) := by
  simp only [← EReal.coe_mul]
  rw [sum_real, bits_1024, bits_eps, div_real _ (by norm_num), ← EReal.coe_add]

theorem rs_real (f : Fin 1024 → ℝ) : rs (fun k => (f k : EReal)) = (rinv f : EReal) := by
  rw [rs, ms_real, rsqrt_real (ms_pos f), rinv]

theorem rinv_cube (f : Fin 1024 → ℝ) : rinv f / ((∑ k, f k * f k) / 1024 + eps) = rinv f * rinv f * rinv f := by
  rw [div_eq_mul_inv, mul_assoc]
  congr 1
  rw [rinv, ← mul_inv, Real.mul_self_sqrt (ms_pos f).le]

/-! ## Of extended reals

The reciprocal of a root mean square is a real number that is not negative, or zero where an entry of the row is infinite. A
real factor that is not negative passes through sums of extended reals, and any factor through sums that are not negative, so
that none of what follows asks for finite numbers. -/

theorem square_nonneg (a : EReal) : 0 ≤ a * a :=
  EReal.mul_nonneg_iff.mpr ((le_total 0 a).imp (fun h => ⟨h, h⟩) fun h => ⟨h, h⟩)

theorem mul_sum_nonneg {n : ℕ} (k : EReal) {a : Fin n → EReal} (ha : ∀ i, 0 ≤ a i) : k * ∑ i, a i = ∑ i, k * a i := by
  have h : ∀ s : Finset (Fin n), k * ∑ i ∈ s, a i = ∑ i ∈ s, k * a i := fun s => by
    induction s using Finset.cons_induction with
    | empty => simp
    | cons i s hi ih =>
      rw [Finset.sum_cons, Finset.sum_cons, EReal.left_distrib_of_nonneg (ha i) (Finset.sum_nonneg fun j _ => ha j), ih]
  exact h _

/-- A real factor that is not negative comes out of a sum of extended reals. -/
theorem mul_sum_of_real {n : ℕ} {r : ℝ} (hr : 0 ≤ r) (y : Fin n → EReal) : ∑ k, (r : EReal) * y k = r * ∑ k, y k := by
  have h : ∀ s : Finset (Fin n), ∑ k ∈ s, (r : EReal) * y k = r * ∑ k ∈ s, y k := fun s => by
    induction s using Finset.cons_induction with
    | empty => simp
    | cons a s ha ih =>
      rw [Finset.sum_cons, Finset.sum_cons, ih, EReal.left_distrib_of_nonneg_of_ne_top (EReal.coe_nonneg.2 hr) (EReal.coe_ne_top r)]
  exact h _

theorem div_1024 (x : EReal) : Ideal.div x ((1024 : ℝ) : EReal) = x * (((1024 : ℝ)⁻¹ : ℝ) : EReal) := by
  rw [Ideal.div_coe (by norm_num), one_div]

/-- The mean of the squares of a row with an infinite entry is infinite. -/
theorem ms_top {f : Fin 1024 → EReal} {i : Fin 1024} (hi : f i = ⊤ ∨ f i = ⊥) :
    Ideal.div (∑ k, f k * f k) (Ideal.ofBits .f32 0x44800000#32) + Ideal.ofBits .f32 0x358637BD#32 = ⊤ := by
  have s : ∑ k, f k * f k = ⊤ := by
    refine top_le_iff.1 (le_trans ?_ (Finset.single_le_sum (fun k _ => square_nonneg (f k)) (Finset.mem_univ i)))
    rcases hi with h | h <;> simp [h]
  rw [s, bits_1024, bits_eps, div_1024, EReal.top_mul_coe_of_pos (by norm_num), EReal.top_add_coe]

/-- Half a number and half of it again, with real factors. -/
theorem back_factors (S : EReal) (x r : ℝ) : (x : EReal) * (S * ((-1 / 2 * (r * r * r) / 1024 : ℝ) : EReal))
      + S * ((-1 / 2 * (r * r * r) / 1024 : ℝ) : EReal) * x = -((r : EReal) * (x * r * (r * S * (((1024 : ℝ)⁻¹ : ℝ) : EReal)))) := by
  have l : (x : EReal) * (S * ((-1 / 2 * (r * r * r) / 1024 : ℝ) : EReal)) = S * ((x * (-1 / 2 * (r * r * r) / 1024) : ℝ) : EReal) := by
    rw [EReal.coe_mul, mul_left_comm]
  have l' : S * ((-1 / 2 * (r * r * r) / 1024 : ℝ) : EReal) * x = S * ((x * (-1 / 2 * (r * r * r) / 1024) : ℝ) : EReal) := by
    rw [← l, mul_comm]
  have q : (r : EReal) * (x * r * (r * S * (((1024 : ℝ)⁻¹ : ℝ) : EReal))) = S * ((r * (x * r * (r * (1024)⁻¹)) : ℝ) : EReal) := by
    simp only [EReal.coe_mul]
    ac_rfl
  have e : r * (x * r * (r * (1024)⁻¹)) = -(x * (-1 / 2 * (r * r * r) / 1024)) + -(x * (-1 / 2 * (r * r * r) / 1024)) := by ring
  rw [l, l', q, e]
  generalize x * (-1 / 2 * (r * r * r) / 1024) = a
  rw [← mul_neg, ← EReal.coe_neg, show -(-a + -a) = a * 2 by ring, EReal.coe_mul, ← mul_assoc]
  generalize S * (a : EReal) = y
  rw [show ((2 : ℝ) : EReal) = 1 + 1 by norm_cast, EReal.left_distrib_of_nonneg zero_le_one zero_le_one, mul_one]

/-- The two forms of the gradient of the normalisation agree on every row. -/
theorem rback_eq (d : EReal) (f h : Fin 1024 → EReal) (j : Fin 1024) :
    d + h j * rs f + f j * qback f h + qback f h * f j = d + rback f h j := by
  by_cases hi : ∃ i, f i = ⊤ ∨ f i = ⊥
  · obtain ⟨i, hi⟩ := hi
    have z : rs f = 0 := by
      rw [rs, ms_top hi]
      rfl
    have q : qback f h = 0 := by
      rw [qback, ms_top hi, z, bits_1024, div_1024]
      simp [Ideal.div]
    rw [rback, q, z]
    simp
  · push Not at hi
    obtain ⟨F, rfl⟩ : ∃ F : Fin 1024 → ℝ, f = fun k => (F k : EReal) :=
      ⟨fun k => (f k).toReal, funext fun k => (EReal.coe_toReal (hi k).1 (hi k).2).symm⟩
    have r0 : 0 ≤ rinv F := inv_nonneg.2 (Real.sqrt_nonneg _)
    have q : qback (fun k => (F k : EReal)) h
        = (∑ k, (F k : EReal) * h k) * ((-1 / 2 * (rinv F * rinv F * rinv F) / 1024 : ℝ) : EReal) := by
      rw [qback, rs_real, ms_real, div_real _ (ms_pos F).ne', rinv_cube, bits_neg_half, bits_1024, div_1024,
        ← EReal.coe_mul, mul_assoc, ← EReal.coe_mul, div_eq_mul_inv (_ * _) (1024 : ℝ)]
    have e : ∑ k, (F k : EReal) * (rinv F : EReal) * h k = rinv F * ∑ k, (F k : EReal) * h k := by
      rw [← mul_sum_of_real r0]
      exact Finset.sum_congr rfl fun k _ => by ac_rfl
    beta_reduce
    rw [rback, q, rs_real, e, bits_1024, div_1024, sub_eq_add_neg,
      EReal.left_distrib_of_nonneg_of_ne_top (EReal.coe_nonneg.2 r0) (EReal.coe_ne_top _), add_assoc, back_factors, mul_neg,
      add_assoc, mul_comm (h j)]

end Cert.Rms
end
-- ==== Proof.FwdIn.lean ====
/- The product that leads into the mixer: the normalised rows, and their product with a weight held as four column blocks. -/
module

public import proofs.«01_k».proof.Defs
public import proofs.«01_k».proof.Proof.Rms
public import proofs.«01_k».proof.Proof.Gen.KernelInIdeal.Value
public import proofs.«01_k».proof.Proof.Gen.ReferenceInIdeal.Run
public import Idealize.ShloMosaic.Lib.Pointwise
public import Idealize.ShloMosaic.Lib.Pipeline.ReadBack
public import Idealize.ShloMosaic.Lib.Pipeline.ValueKit
public import Idealize.ShloMosaic.Lib.IdealHost

@[expose] public section

set_option maxRecDepth 16384

noncomputable section

namespace Cert.KernelInIdeal.Gen
open Idealize.ShloMosaic Idealize.ShloMosaic.TcCoe Idealize.SL.Sem Cert.Rms

theorem h_at (x : Vec Ideal S512x1024 .f32) (g : Vec Ideal S1x1x1024 .f32) (r : Fin 512) (j : Fin 1024) :
    k0_pay3 x g (ix2 r j) = hrow (fun k => x (ix2 r k)) (fun k => g (ix3 0 0 k)) j := by
  pointwise [k0_pay3, hrow]

theorem p1_at (h : FVec Ideal S512x1024 .bf16) (w : Vec Ideal S1x1x1024x1536 .bf16) (r : Fin 512) (j : Fin 1536) :
    k0_pay1 h w (ix2 r j) = ∑ k : Fin 1024, h (ix2 r k) * w (ix4 0 0 k j) := by pointwise [k0_pay1]

/-- One block of 1536 columns of the product. -/
abbrev slab (s : Fin 4) : Rect S512x6144 :=
  Rect.unit ![0, 1536 * s.val] ![512, 1536] (fun a => by fin_cases a <;> simp <;> omega)

/-- One block of the weight's columns. -/
abbrev wslab (s : Fin 4) : Rect S1x4x1024x1536 :=
  Rect.unit ![0, s.val, 0, 0] ![1, 1, 1024, 1536] (fun a => by fin_cases a <;> simp <;> omega)

theorem slab_emb (s : Fin 4) (i : Fin 512) (j : Fin 1536) : (slab s).emb (ix2 i j) = ix2 i ⟨1536 * s + j, by omega⟩ := by
  blk_ext

theorem wslab_emb (s : Fin 4) (a b : Fin 1) (i : Fin 1024) (j : Fin 1536) : (wslab s).emb (ix4 a b i j) = ix4 0 s i j := by
  blk_ext

theorem div_lt (j : Fin 6144) : j.val / 1536 < 4 := by omega
theorem mod_lt (j : Fin 6144) : j.val % 1536 < 1536 := by omega

/-- The product with the four column blocks side by side. -/
def proj (h : Fin 512 → Fin 1024 → EReal) (w : Vec Ideal S1x4x1024x1536 .bf16) (y : S512x6144.Idx) : Elt Ideal .bf16 :=
  ∑ k : Fin 1024, h (y 0) k * w (ix4 0 ⟨(y 1 : Fin 6144).val / 1536, div_lt _⟩ k ⟨(y 1 : Fin 6144).val % 1536, mod_lt _⟩)

theorem proj_at (h : Fin 512 → Fin 1024 → EReal) (w : Vec Ideal S1x4x1024x1536 .bf16) (r : Fin 512) (j : Fin 6144) : proj h w (ix2 r j)
    = ∑ k : Fin 1024, h r k * w (ix4 0 ⟨j.val / 1536, div_lt _⟩ k ⟨j.val % 1536, mod_lt _⟩) := rfl

/-- A tile's normalised rows. -/
def hs (x : Vec Ideal S512x1024 .f32) (g : Vec Ideal S1x1x1024 .f32) (r : Fin 512) : Fin 1024 → EReal :=
  hrow (fun k => x (ix2 r k)) (fun k => g (ix3 0 0 k))

theorem piece (x : Vec Ideal S512x1024 .f32) (g : Vec Ideal S1x1x1024 .f32) (w : Vec Ideal S1x4x1024x1536 .bf16) (s : Fin 4)
    (z : (slab s).shape.Idx) : k0_pay1 (k0_pay3 x g) (View.ld w (wslab s)) z = proj (hs x g) w ((slab s).emb z) := by
  obtain ⟨i, j, rfl⟩ : ∃ (i : Fin 512) (j : Fin 1536), z = ix2 i j := ⟨z 0, z 1, by blk_ext⟩
  rw [slab_emb, proj, p1_at]
  refine Fin.sum_fin_congr fun k => ?_
  rw [h_at]
  refine congrArg₂ (· * ·) rfl ((congrArg w (wslab_emb s 0 0 k j)).trans ?_)
  congr 2 <;> apply Fin.ext
  · show (s : ℕ) = (1536 * s + j) / 1536; omega
  · show (j : ℕ) = (1536 * s + j) % 1536; omega

theorem out4 (x : Vec Ideal S512x1024 .f32) (g : Vec Ideal S1x1x1024 .f32) (w : Vec Ideal S1x4x1024x1536 .bf16) (y : S512x6144.Idx) :
    out0_4 x g w y = proj (hs x g) w y := by
  have e : k0_pay6 x g w = k0_pay3 x g := by
    unfold k0_pay6
    frame_out
  unfold out0_4
  rw [e]
  frame_out
  refine View.canon_apply_of_pieces (Val := Elt Ideal) (e := .bf16)
    (proj (hs x g) w) _ (View.PiecesOf.mem ?_) y (View.cover_of_tiled_head _ _ _ rfl _)
  have h := piece x g w
  exact ⟨h 3, h 2, h 1, h 0, trivial⟩

theorem out3 (x : Vec Ideal S512x1024 .f32) (g : Vec Ideal S1x1x1024 .f32) (w : Vec Ideal S1x4x1024x1536 .bf16) (r : Fin 512) (j : Fin 1024) :
    out0_3 x g w (ix2 r j) = hs x g r j := by
  frame_out
  exact h_at x g r j

variable (m : (ℓ : Loc nD τ sig) → Buf (Elt Ideal) ℓ)

theorem idx : ∀ t : Fin cfg0.N, win0_0.index t = ![t.val, 0] ∧ win0_1.index t = ![0, 0, 0]
    ∧ win0_2.index t = ![0, 0, 0, 0] ∧ win0_3.index t = ![t.val, 0] ∧ win0_4.index t = ![t.val, 0] := (by decide +kernel : ∀ t : Fin grid0.N, _)

/-- The normalised rows. -/
def hall (x : FVec Ideal S8192x1024 .f32) (g : FVec Ideal S4x1024 .f32) (r : Fin 8192) : Fin 1024 → EReal :=
  hrow (fun k => x (ix2 r k)) (fun k => g (ix2 0 k))

theorem hs_at (c : Dev nD) (t : Fin cfg0.N) (r : Fin 512) : hs (iblk m c 0 t) (iblk m c 1 t) r
    = hall (m ((c : Thread nD τ).loc main_arg0)) (m ((c : Thread nD τ).loc main_arg1)) ⟨512 * t + r, by have := lt_of_lt_of_eq t.isLt N_0; omega⟩ := by
  refine congrArg₂ hrow (funext fun k => ?_) (funext fun k => ?_) <;> blk_point [iblk, V, idx t]

theorem final3 (c : Dev nD) : (dats m 0 c).arrAt 3 cfg0.N
    = fun y : S8192x1024.Idx => hall (m ((c : Thread nD τ).loc main_arg0)) (m ((c : Thread nD τ).loc main_arg1)) (y 0) (y 1) := by
  refine (dats m 0 c).arrAt_eq_of_covers 3 _ (by decide +kernel) fun t hf y => ?_
  blk_simp
  rw [after0_3]
  obtain ⟨r, j, rfl⟩ : ∃ (r : Fin 512) (j : Fin 1024), y = ix2 r j := ⟨y 0, y 1, by blk_ext⟩
  rw [out3, hs_at]
  blk_point [idx t]

theorem w_at (c : Dev nD) (t : Fin cfg0.N) (s : Fin 4) (k : Fin 1024) (j : Fin 1536) : iblk m c 2 t (ix4 0 s k j)
    = m ((c : Thread nD τ).loc main_arg2) (ix3 0 k ⟨1536 * s + j, by omega⟩) := by
  blk_point [iblk, V, idx t]

theorem final4 (c : Dev nD) : (dats m 0 c).arrAt 4 cfg0.N
    = fun y : S8192x6144.Idx => ∑ k : Fin 1024, hall (m ((c : Thread nD τ).loc main_arg0)) (m ((c : Thread nD τ).loc main_arg1)) (y 0) k
      * m ((c : Thread nD τ).loc main_arg2) (ix3 0 k (y 1)) := by
  refine (dats m 0 c).arrAt_eq_of_covers 4 _ (by decide +kernel) fun t hf y => ?_
  blk_simp
  rw [after0_4]
  obtain ⟨r, j, rfl⟩ : ∃ (r : Fin 512) (j : Fin 6144), y = ix2 r j := ⟨y 0, y 1, by blk_ext⟩
  rw [out4, proj_at, hs_at]
  refine Fin.sum_fin_congr fun k => ?_
  rw [w_at]
  refine congrArg₂ (· * ·) ?_ ?_
  · blk_point [idx t]
  · blk_point [idx t]

end Cert.KernelInIdeal.Gen

namespace Cert.FwdIn
open Idealize.ShloMosaic Idealize.ShloMosaic.TcCoe Idealize.SL.Sem Cert.Rms

theorem algebraic : Cert.algebraic_KernelInIdeal_ReferenceInIdeal := by
  intro m ρ m' ρ' _ hagree
  refine ⟨fun c => (Cert.KernelInIdeal.Gen.dats m 0 c).arrAt 3 Cert.KernelInIdeal.cfg0.N,
    fun c => (Cert.KernelInIdeal.Gen.dats m 0 c).arrAt 4 Cert.KernelInIdeal.cfg0.N, Cert.KernelInIdeal.Value.run_blocks m ρ, ?_⟩
  refine (θ_run Cert.ReferenceInIdeal.defs _ _).mono (fun r h c => ⟨(h c).1.trans ?_, (h c).2.1.trans ?_, (h c).2.2⟩)
    (Cert.ReferenceInIdeal.Value.run (F := Ideal) m' ρ')
  · refine Eq.trans ?_ (Cert.KernelInIdeal.Gen.final3 m c).symm
    rw [(hagree c).1, (hagree c).2.1]
    funext y
    obtain ⟨r, j, rfl⟩ : ∃ (r : Fin 8192) (j : Fin 1024), y = ix2 r j := ⟨y 0, y 1, by blk_ext⟩
    generalize m _ = x
    generalize m _ = g
    pointwise [Cert.KernelInIdeal.Gen.hall, hrow]
  · refine Eq.trans ?_ (Cert.KernelInIdeal.Gen.final4 m c).symm
    rw [(hagree c).1, (hagree c).2.1, (hagree c).2.2]
    funext y
    obtain ⟨r, j, rfl⟩ : ∃ (r : Fin 8192) (j : Fin 6144), y = ix2 r j := ⟨y 0, y 1, by blk_ext⟩
    generalize m _ = x
    generalize m _ = g
    generalize m _ = w
    pointwise [Cert.KernelInIdeal.Gen.hall, hrow]

end Cert.FwdIn
end
-- ==== Proof.BwdIn.lean ====
/- The gradient of the product that leads into the mixer and of the normalisation before it. -/
module

public import proofs.«01_k».proof.Defs
public import proofs.«01_k».proof.Proof.Rms
public import proofs.«01_k».proof.Proof.Gen.KernelBinIdeal.Value
public import proofs.«01_k».proof.Proof.Gen.ReferenceBinIdeal.Run
public import Idealize.ShloMosaic.Lib.Pointwise
public import Idealize.ShloMosaic.Lib.Pipeline.ReadBack
public import Idealize.ShloMosaic.Lib.Pipeline.ValueKit
public import Idealize.ShloMosaic.Lib.IdealHost

@[expose] public section

set_option maxRecDepth 16384

noncomputable section

namespace Cert.KernelBinIdeal.Gen
open Idealize.ShloMosaic Idealize.ShloMosaic.TcCoe Idealize.SL.Sem Cert.Rms

theorem zero_at (i j) : k0_pay5 (F := Ideal) (ix2 i j) = 0 := by pointwise [k0_pay5]

theorem dx_at (H x d : FVec Ideal S512x1024 .f32) (g : Vec Ideal S1x1x1024 .f32) (r : Fin 512) (j : Fin 1024) :
    k0_pay4 H x (k0_pay7 x) d g (ix2 r j)
      = d (ix2 r j) + rback (fun k => x (ix2 r k)) (fun k => H (ix2 r k) * g (ix3 0 0 k)) j := by
  pointwise [k0_pay4, k0_pay2, k0_pay1, k0_pay7, rback, rs]

theorem dg_at (H x : FVec Ideal S512x1024 .f32) (o : Vec Ideal S1x1024 .f32) (i : Fin 1) (j : Fin 1024) :
    k0_pay3 H x (k0_pay7 x) o (ix2 i j)
      = o (ix2 i j) + ∑ r : Fin 512, H (ix2 r j) * (x (ix2 r j) * rs (fun k => x (ix2 r k))) := by
  pointwise [k0_pay3, k0_pay2, k0_pay1, k0_pay7, rs]

/-- One block of 1536 columns of the gradient that arrives. -/
abbrev slab (s : Fin 4) : Rect S512x6144 :=
  Rect.unit ![0, 1536 * s.val] ![512, 1536] (fun a => by fin_cases a <;> simp <;> omega)

/-- One block of the weight's columns. -/
abbrev wslab (s : Fin 4) : Rect S1x4x1024x1536 :=
  Rect.unit ![0, s.val, 0, 0] ![1, 1, 1024, 1536] (fun a => by fin_cases a <;> simp <;> omega)

theorem slab_emb (s : Fin 4) (i : Fin 512) (j : Fin 1536) : (slab s).emb (ix2 i j) = ix2 i ⟨1536 * s + j, by omega⟩ := by
  blk_ext

theorem wslab_emb (s : Fin 4) (a b : Fin 1) (i : Fin 1024) (j : Fin 1536) : (wslab s).emb (ix4 a b i j) = ix4 0 s i j := by
  blk_ext

theorem ld_at (w : Vec Ideal S1x4x1024x1536 .bf16) (s : Fin 4) (a b : Fin 1) (i : Fin 1024) (j : Fin 1536) :
    View.ld w (wslab s) (ix4 a b i j) = w (ix4 0 s i j) := congrArg w (wslab_emb s a b i j)

theorem ldd_at (d : Vec Ideal S512x6144 .bf16) (s : Fin 4) (i : Fin 512) (j : Fin 1536) :
    View.ld d (slab s) (ix2 i j) = d (ix2 i ⟨1536 * s + j, by omega⟩) := congrArg d (slab_emb s i j)

/-- The gradient of the tile's normalised rows. -/
def dht (d : Vec Ideal S512x6144 .bf16) (w : Vec Ideal S1x4x1024x1536 .bf16) (r : Fin 512) (j : Fin 1024) : EReal :=
  ∑ k : Fin 6144, d (ix2 r k) * w (ix4 0 ⟨k / 1536, by omega⟩ j ⟨k % 1536, by omega⟩)

theorem dh_at (d : Vec Ideal S512x6144 .bf16) (w : Vec Ideal S1x4x1024x1536 .bf16) (r : Fin 512) (j : Fin 1024) :
    k0_pay6 (View.ld d (slab 0)) (View.ld w (wslab 0)) (View.ld d (slab 1)) (View.ld w (wslab 1))
      (View.ld d (slab 2)) (View.ld w (wslab 2)) (View.ld d (slab 3)) (View.ld w (wslab 3)) (ix2 r j)
      = dht d w r j := by
  rw [dht, ← sum_four]
  have e0 := ld_at w 0
  have e1 := ld_at w 1
  have e2 := ld_at w 2
  have e3 := ld_at w 3
  have d0 := ldd_at d 0
  have d1 := ldd_at d 1
  have d2 := ldd_at d 2
  have d3 := ldd_at d 3
  generalize View.ld w (wslab 0) = w0 at *
  generalize View.ld w (wslab 1) = w1 at *
  generalize View.ld w (wslab 2) = w2 at *
  generalize View.ld w (wslab 3) = w3 at *
  generalize View.ld d (slab 0) = v0 at *
  generalize View.ld d (slab 1) = v1 at *
  generalize View.ld d (slab 2) = v2 at *
  generalize View.ld d (slab 3) = v3 at *
  have h : k0_pay6 v0 w0 v1 w1 v2 w2 v3 w3 (ix2 r j)
      = (∑ k : Fin 1536, v0 (ix2 r k) * w0 (ix4 0 0 j k)) + (∑ k : Fin 1536, v1 (ix2 r k) * w1 (ix4 0 0 j k))
        + (∑ k : Fin 1536, v2 (ix2 r k) * w2 (ix4 0 0 j k)) + (∑ k : Fin 1536, v3 (ix2 r k) * w3 (ix4 0 0 j k)) := by
    pointwise [k0_pay6]
  rw [h]
  refine congrArg₂ (· + ·) (congrArg₂ (· + ·) (congrArg₂ (· + ·) ?_ ?_) ?_) ?_ <;>
    refine Fin.sum_fin_congr fun k => ?_
  · rw [d0, e0]
    refine congrArg₂ (· * ·) ?_ ?_ <;> blk_point []
  · rw [d1, e1]
    refine congrArg₂ (· * ·) ?_ ?_ <;> blk_point []
  · rw [d2, e2]
    refine congrArg₂ (· * ·) ?_ ?_ <;> blk_point []
  · rw [d3, e3]
    refine congrArg₂ (· * ·) ?_ ?_ <;> blk_point []

/-- The gradient of one tile of the layer's input. -/
def dxt (d : Vec Ideal S512x6144 .bf16) (d1 x : Vec Ideal S512x1024 .f32) (g : Vec Ideal S1x1x1024 .f32) (w : Vec Ideal S1x4x1024x1536 .bf16)
    (r : Fin 512) (j : Fin 1024) : EReal :=
  d1 (ix2 r j) + rback (fun k => x (ix2 r k)) (fun k => dht d w r k * g (ix3 0 0 k)) j

/-- One tile's part of the gradient of the normalisation's scale. -/
def dgt (d : Vec Ideal S512x6144 .bf16) (x : Vec Ideal S512x1024 .f32) (w : Vec Ideal S1x4x1024x1536 .bf16) (j : Fin 1024) : EReal :=
  ∑ r : Fin 512, dht d w r j * (x (ix2 r j) * rs (fun k => x (ix2 r k)))

theorem dh_eq (d : Vec Ideal S512x6144 .bf16) (w : Vec Ideal S1x4x1024x1536 .bf16) (r : Fin 512) (j : Fin 1024) :
    (k0_pay6 (View.ld d (Rect.unit ![0, 0] ![512, 1536] inb_S512x6144_S512x1536_0_0)) (View.ld w (Rect.unit ![0, 0, 0, 0] ![1, 1, 1024, 1536] inb_S1x4x1024x1536_S1x1x1024x1536_0_0_0_0))
      (View.ld d (Rect.unit ![0, 1536] ![512, 1536] inb_S512x6144_S512x1536_0_1536)) (View.ld w (Rect.unit ![0, 1, 0, 0] ![1, 1, 1024, 1536] inb_S1x4x1024x1536_S1x1x1024x1536_0_1_0_0))
      (View.ld d (Rect.unit ![0, 3072] ![512, 1536] inb_S512x6144_S512x1536_0_3072)) (View.ld w (Rect.unit ![0, 2, 0, 0] ![1, 1, 1024, 1536] inb_S1x4x1024x1536_S1x1x1024x1536_0_2_0_0))
      (View.ld d (Rect.unit ![0, 4608] ![512, 1536] inb_S512x6144_S512x1536_0_4608)) (View.ld w (Rect.unit ![0, 3, 0, 0] ![1, 1, 1024, 1536] inb_S1x4x1024x1536_S1x1x1024x1536_0_3_0_0))) (ix2 r j) = dht d w r j := dh_at d w r j

theorem dx_out (d : Vec Ideal S512x6144 .bf16) (d1 x : Vec Ideal S512x1024 .f32) (g : Vec Ideal S1x1x1024 .f32) (w : Vec Ideal S1x4x1024x1536 .bf16)
    (r : Fin 512) (j : Fin 1024) : k0_pay4 (k0_pay6 (View.ld d (Rect.unit ![0, 0] ![512, 1536] inb_S512x6144_S512x1536_0_0)) (View.ld w (Rect.unit ![0, 0, 0, 0] ![1, 1, 1024, 1536] inb_S1x4x1024x1536_S1x1x1024x1536_0_0_0_0))
      (View.ld d (Rect.unit ![0, 1536] ![512, 1536] inb_S512x6144_S512x1536_0_1536)) (View.ld w (Rect.unit ![0, 1, 0, 0] ![1, 1, 1024, 1536] inb_S1x4x1024x1536_S1x1x1024x1536_0_1_0_0))
      (View.ld d (Rect.unit ![0, 3072] ![512, 1536] inb_S512x6144_S512x1536_0_3072)) (View.ld w (Rect.unit ![0, 2, 0, 0] ![1, 1, 1024, 1536] inb_S1x4x1024x1536_S1x1x1024x1536_0_2_0_0))
      (View.ld d (Rect.unit ![0, 4608] ![512, 1536] inb_S512x6144_S512x1536_0_4608)) (View.ld w (Rect.unit ![0, 3, 0, 0] ![1, 1, 1024, 1536] inb_S1x4x1024x1536_S1x1x1024x1536_0_3_0_0)))
      x (k0_pay7 x) d1 g (ix2 r j) = dxt d d1 x g w r j := by
  rw [dx_at, dxt]
  simp only [dh_eq]

theorem dg_out (d : Vec Ideal S512x6144 .bf16) (x : Vec Ideal S512x1024 .f32) (w : Vec Ideal S1x4x1024x1536 .bf16) (o : Vec Ideal S1x1024 .f32)
    (i : Fin 1) (j : Fin 1024) : k0_pay3 (k0_pay6 (View.ld d (Rect.unit ![0, 0] ![512, 1536] inb_S512x6144_S512x1536_0_0)) (View.ld w (Rect.unit ![0, 0, 0, 0] ![1, 1, 1024, 1536] inb_S1x4x1024x1536_S1x1x1024x1536_0_0_0_0))
      (View.ld d (Rect.unit ![0, 1536] ![512, 1536] inb_S512x6144_S512x1536_0_1536)) (View.ld w (Rect.unit ![0, 1, 0, 0] ![1, 1, 1024, 1536] inb_S1x4x1024x1536_S1x1x1024x1536_0_1_0_0))
      (View.ld d (Rect.unit ![0, 3072] ![512, 1536] inb_S512x6144_S512x1536_0_3072)) (View.ld w (Rect.unit ![0, 2, 0, 0] ![1, 1, 1024, 1536] inb_S1x4x1024x1536_S1x1x1024x1536_0_2_0_0))
      (View.ld d (Rect.unit ![0, 4608] ![512, 1536] inb_S512x6144_S512x1536_0_4608)) (View.ld w (Rect.unit ![0, 3, 0, 0] ![1, 1, 1024, 1536] inb_S1x4x1024x1536_S1x1x1024x1536_0_3_0_0)))
      x (k0_pay7 x) o (ix2 i j) = o (ix2 i j) + dgt d x w j := by
  rw [dg_at, dgt]
  simp only [dh_eq]

variable (m : (ℓ : Loc nD τ sig) → Buf (Elt Ideal) ℓ)

theorem dx_tile (c : Dev nD) (t : Fin cfg0.N) (r : Fin 512) (j : Fin 1024) : (outsAt0 m c t.1 t.2).1 (ix2 r j)
    = dxt (iblk m c 0 t) (iblk m c 1 t) (iblk m c 2 t) (iblk m c 3 t) (iblk m c 4 t) r j := by
  by_cases h0 : t.1 % 16 = 0
  · rw [outsAt0_A m c t h0]
    generalize iblk m c 0 t = d, iblk m c 1 t = d1, iblk m c 2 t = x, iblk m c 3 t = g, iblk m c 4 t = w
    frame_out
    exact dx_out d d1 x g w r j
  · rw [outsAt0_B m c t h0]
    generalize iblk m c 0 t = d, iblk m c 1 t = d1, iblk m c 2 t = x, iblk m c 3 t = g, iblk m c 4 t = w
    frame_out
    exact dx_out d d1 x g w r j

theorem dg_A (c : Dev nD) (t : Fin cfg0.N) (h0 : t.1 % 16 = 0) (i : Fin 1) (j : Fin 1024) : (outsAt0 m c t.1 t.2).2 (ix2 i j)
    = 0 + dgt (iblk m c 0 t) (iblk m c 2 t) (iblk m c 4 t) j := by
  rw [outsAt0_A m c t h0]
  generalize iblk m c 0 t = d, iblk m c 1 t = d1, iblk m c 2 t = x, iblk m c 3 t = g, iblk m c 4 t = w
  frame_out
  refine (dg_out d x w _ i j).trans ?_
  rw [zero_at]

theorem dg_B (c : Dev nD) (t : Fin cfg0.N) (h0 : ¬ t.1 % 16 = 0) (i : Fin 1) (j : Fin 1024) : (outsAt0 m c t.1 t.2).2 (ix2 i j)
    = (outsAt0 m c (t.val - 1) (Nat.lt_of_le_of_lt (Nat.sub_le _ _) t.isLt)).2 (ix2 i j)
      + dgt (iblk m c 0 t) (iblk m c 2 t) (iblk m c 4 t) j := by
  rw [outsAt0_B m c t h0]
  generalize iblk m c 0 t = d, iblk m c 1 t = d1, iblk m c 2 t = x, iblk m c 3 t = g, iblk m c 4 t = w
  generalize (outsAt0 m c (t.val - 1) (Nat.lt_of_le_of_lt (Nat.sub_le _ _) t.isLt)).2 = o
  frame_out
  exact dg_out d x w o i j

theorem idx : ∀ t : Fin cfg0.N, win0_0.index t = ![t.val, 0] ∧ win0_1.index t = ![t.val, 0] ∧ win0_2.index t = ![t.val, 0]
    ∧ win0_3.index t = ![0, 0, 0] ∧ win0_4.index t = ![0, 0, 0, 0] ∧ win0_5.index t = ![t.val, 0] ∧ win0_6.index t = ![0, 0] :=
  (by decide +kernel : ∀ t : Fin grid0.N, _)

/-- The gradient of the normalised rows. -/
def dhall (d : FVec Ideal S8192x6144 .bf16) (w : FVec Ideal S4x1024x6144 .f32) (r : Fin 8192) (j : Fin 1024) : EReal :=
  ∑ k : Fin 6144, d (ix2 r k) * w (ix3 0 j k)

/-- The gradient of the layer's input. -/
def dxall (d : FVec Ideal S8192x6144 .bf16) (d1 x : FVec Ideal S8192x1024 .f32) (g : FVec Ideal S4x1024 .f32) (w : FVec Ideal S4x1024x6144 .f32)
    (r : Fin 8192) (j : Fin 1024) : EReal :=
  d1 (ix2 r j) + rback (fun k => x (ix2 r k)) (fun k => dhall d w r k * g (ix2 0 k)) j

/-- The gradient of the normalisation's scale. -/
def dgall (d : FVec Ideal S8192x6144 .bf16) (x : FVec Ideal S8192x1024 .f32) (w : FVec Ideal S4x1024x6144 .f32) (j : Fin 1024) : EReal :=
  ∑ r : Fin 8192, dhall d w r j * (x (ix2 r j) * rs (fun k => x (ix2 r k)))

theorem dh_blk (c : Dev nD) (t : Fin cfg0.N) (r : Fin 512) (j : Fin 1024) : dht (iblk m c 0 t) (iblk m c 4 t) r j
    = dhall (m ((c : Thread nD τ).loc main_arg0)) (m ((c : Thread nD τ).loc main_arg4))
      ⟨512 * t + r, by have := lt_of_lt_of_eq t.isLt N_0; omega⟩ j := by
  refine Fin.sum_fin_congr fun k => ?_
  refine congrArg₂ (· * ·) ?_ ?_
  · blk_point [iblk, V, idx t]
  · blk_point [iblk, V, idx t]

theorem x_blk (c : Dev nD) (t : Fin cfg0.N) (r : Fin 512) (j : Fin 1024) : iblk m c 2 t (ix2 r j)
    = m ((c : Thread nD τ).loc main_arg2) (ix2 ⟨512 * t + r, by have := lt_of_lt_of_eq t.isLt N_0; omega⟩ j) := by
  blk_point [iblk, V, idx t]

theorem d1_blk (c : Dev nD) (t : Fin cfg0.N) (r : Fin 512) (j : Fin 1024) : iblk m c 1 t (ix2 r j)
    = m ((c : Thread nD τ).loc main_arg1) (ix2 ⟨512 * t + r, by have := lt_of_lt_of_eq t.isLt N_0; omega⟩ j) := by
  blk_point [iblk, V, idx t]

theorem g_blk (c : Dev nD) (t : Fin cfg0.N) (j : Fin 1024) : iblk m c 3 t (ix3 0 0 j)
    = m ((c : Thread nD τ).loc main_arg3) (ix2 0 j) := by
  blk_point [iblk, V, idx t]

theorem final5 (c : Dev nD) : (dats m 0 c).arrAt 5 cfg0.N
    = fun y : S8192x1024.Idx => dxall (m ((c : Thread nD τ).loc main_arg0)) (m ((c : Thread nD τ).loc main_arg1))
      (m ((c : Thread nD τ).loc main_arg2)) (m ((c : Thread nD τ).loc main_arg3)) (m ((c : Thread nD τ).loc main_arg4)) (y 0) (y 1) := by
  refine (dats m 0 c).arrAt_eq_of_covers 5 _ (by decide +kernel) fun t hf y => ?_
  blk_simp
  rw [after0_5]
  obtain ⟨r, j, rfl⟩ : ∃ (r : Fin 512) (j : Fin 1024), y = ix2 r j := ⟨y 0, y 1, by blk_ext⟩
  rw [dx_tile, dxt]
  simp only [dh_blk, x_blk, d1_blk, g_blk]
  have e : (win0_5.blk t).view.emb (ix2 r j) = ix2 ⟨512 * t + r, by have := lt_of_lt_of_eq t.isLt N_0; omega⟩ j := by blk_ext [idx t]
  rw [e]
  rfl

theorem final6 (c : Dev nD) : (dats m 0 c).arrAt 6 cfg0.N
    = fun y : S1x1024.Idx => dgall (m ((c : Thread nD τ).loc main_arg0)) (m ((c : Thread nD τ).loc main_arg2))
      (m ((c : Thread nD τ).loc main_arg4)) (y 1) := by
  refine (dats m 0 c).arrAt_eq_of_covers 6 _ (by decide +kernel) fun t hf y => ?_
  blk_simp
  rw [after0_6]
  obtain ⟨i, j, rfl⟩ : ∃ (i : Fin 1) (j : Fin 1024), y = ix2 i j := ⟨y 0, y 1, by blk_ext⟩
  have e : (win0_6.blk t).view.emb (ix2 i j) = ix2 0 j := by blk_ext [idx t]
  rw [e, Pipeline.eq_sum_fin_of_reset_step_apply_of_flush (fun n h => (outsAt0 m c n h).2) 16 (fun _ => 0)
    (fun t y => dgt (iblk m c 0 t) (iblk m c 2 t) (iblk m c 4 t) (y 1))
    (fun t h y => by obtain ⟨i, j, rfl⟩ : ∃ (i : Fin 1) (j : Fin 1024), y = ix2 i j := ⟨y 0, y 1, by blk_ext⟩
                     exact dg_A m c t h i j)
    (fun t h y => by obtain ⟨i, j, rfl⟩ : ∃ (i : Fin 1) (j : Fin 1024), y = ix2 i j := ⟨y 0, y 1, by blk_ext⟩
                     exact dg_B m c t h i j)
    t ((flush0_6 t).mp hf) _, zero_add]
  refine Fin.sum_mul_add_congr fun s k hl => ?_
  have q : ∀ h, (⟨512 * (16 * (t.val / 16) + s.val) + k.val, h⟩ : Fin 8192) = ⟨s.val * 512 + k.val, hl⟩ := fun h =>
    Fin.ext (by have := lt_of_lt_of_eq t.isLt N_0; simp only; omega)
  change dht _ _ k j * (HMul.hMul (α := EReal) (β := EReal) (iblk m c 2 _ (ix2 k j)) (rs fun l => iblk m c 2 _ (ix2 k l))) = _
  simp only [dh_blk, x_blk, q]
  rfl

end Cert.KernelBinIdeal.Gen

namespace Cert.BwdIn
open Idealize.ShloMosaic Idealize.ShloMosaic.TcCoe Idealize.SL.Sem Cert.Rms

open Cert.KernelBinIdeal Cert.KernelBinIdeal.Gen in
/-- The kernel's gradient of the input is the one automatic differentiation writes. -/
theorem dx_eq (d : FVec Ideal S8192x6144 .bf16) (d1 x : FVec Ideal S8192x1024 .f32) (g : FVec Ideal S4x1024 .f32) (w : FVec Ideal S4x1024x6144 .f32)
    (r : Fin 8192) (j : Fin 1024) :
    dxall d d1 x g w r j = (d1 (ix2 r j) : EReal) + (dhall d w r j * g (ix2 0 j)) * rs (fun k => x (ix2 r k))
      + (x (ix2 r j) : EReal) * qback (fun k => x (ix2 r k)) (fun k => dhall d w r k * g (ix2 0 k))
      + qback (fun k => x (ix2 r k)) (fun k => dhall d w r k * g (ix2 0 k)) * (x (ix2 r j) : EReal) := by
  exact (rback_eq _ _ _ j).symm

theorem algebraic : Cert.algebraic_KernelBinIdeal_ReferenceBinIdeal := by
  intro m ρ m' ρ' _ hagree
  refine ⟨fun c => (Cert.KernelBinIdeal.Gen.dats m 0 c).arrAt 5 Cert.KernelBinIdeal.cfg0.N,
    fun c => (Cert.KernelBinIdeal.Gen.dats m 0 c).arrAt 6 Cert.KernelBinIdeal.cfg0.N, Cert.KernelBinIdeal.Value.run_blocks m ρ, ?_⟩
  refine (θ_run Cert.ReferenceBinIdeal.defs _ _).mono (fun r h c => ⟨(h c).1.trans ?_, (h c).2.1.trans ?_, (h c).2.2⟩)
    (Cert.ReferenceBinIdeal.Value.run (F := Ideal) m' ρ')
  · refine Eq.trans ?_ (Cert.KernelBinIdeal.Gen.final5 m c).symm
    unfold Cert.ReferenceBinIdeal.Value.res_main_v43
    rw [(hagree c).1, (hagree c).2.1, (hagree c).2.2.1, (hagree c).2.2.2.1, (hagree c).2.2.2.2]
    funext y
    obtain ⟨r, j, rfl⟩ : ∃ (r : Fin 8192) (j : Fin 1024), y = ix2 r j := ⟨y 0, y 1, by blk_ext⟩
    refine Eq.trans ?_ (dx_eq _ _ _ _ _ r j).symm
    generalize m _ = d
    generalize m _ = d1
    generalize m _ = x
    generalize m _ = g
    generalize m _ = w
    pointwise [Cert.KernelBinIdeal.Gen.dhall, rs, qback]
    simp only [Fintype.sum_unique]
  · refine Eq.trans ?_ (Cert.KernelBinIdeal.Gen.final6 m c).symm
    rw [(hagree c).1, (hagree c).2.2.1, (hagree c).2.2.2.2]
    funext y
    obtain ⟨i, j, rfl⟩ : ∃ (i : Fin 1) (j : Fin 1024), y = ix2 i j := ⟨y 0, y 1, by blk_ext⟩
    generalize m _ = d
    generalize m _ = x
    generalize m _ = w
    pointwise [Cert.KernelBinIdeal.Gen.dgall, Cert.KernelBinIdeal.Gen.dhall, rs]
    rw [Fintype.sum_unique]
    exact Fin.sum_fin_congr fun k => mul_comm _ _

end Cert.BwdIn
end
-- ==== Proof.FwdOut.lean ====
/- The product that leads back onto the residual, and the gated embedding of the layer. -/
module

public import proofs.«01_k».proof.Defs
public import proofs.«01_k».proof.Proof.Rms
public import proofs.«01_k».proof.Proof.Gen.KernelOutIdeal.Value
public import proofs.«01_k».proof.Proof.Gen.ReferenceOutIdeal.Run
public import Idealize.ShloMosaic.Lib.Pointwise
public import Idealize.ShloMosaic.Lib.Pipeline.ReadBack
public import Idealize.ShloMosaic.Lib.Pipeline.ValueKit
public import Idealize.ShloMosaic.Lib.IdealHost

@[expose] public section

set_option maxRecDepth 16384

noncomputable section

namespace Cert.FwdOut
open Idealize.ShloMosaic Cert.Rms

/-- The residual with the product added. -/
def x1 (x : Fin 1024 → EReal) (u : Fin 2048 → EReal) (w : Fin 2048 → Fin 1024 → EReal) (j : Fin 1024) : EReal :=
  x j + ∑ k, u k * w k j

/-- The gate. -/
def gate (x g : Fin 1024 → EReal) (w : Fin 1024 → Fin 1024 → EReal) (j : Fin 1024) : EReal :=
  Ideal.logistic (∑ k, hrow x g k * w k j)

end Cert.FwdOut

namespace Cert.KernelOutIdeal.Gen
open Idealize.ShloMosaic Idealize.ShloMosaic.TcCoe Idealize.SL.Sem Cert.Rms Cert.FwdOut

theorem x1_at (x : Vec Ideal S512x1024 .f32) (u : Vec Ideal S512x2048 .bf16) (w : Vec Ideal S1x2048x1024 .bf16) (r : Fin 512) (j : Fin 1024) :
    k0_pay2 x u w (ix2 r j) = x1 (fun j => x (ix2 r j)) (fun k => u (ix2 r k)) (fun k j => w (ix3 0 k j)) j := by
  pointwise [k0_pay2, x1]

theorem gate_at (x : Vec Ideal S512x1024 .f32) (u : Vec Ideal S512x2048 .bf16) (w : Vec Ideal S1x2048x1024 .bf16) (g : Vec Ideal S1x1x1024 .f32)
    (gw : Vec Ideal S1x1024x1024 .bf16) (r : Fin 512) (j : Fin 1024) : k0_pay3 x u w g gw (ix2 r j)
      = gate (fun k => k0_pay2 x u w (ix2 r k)) (fun k => g (ix3 0 0 k)) (fun k j => gw (ix3 0 k j)) j := by
  unfold k0_pay3
  generalize k0_pay2 x u w = X
  pointwise [gate, hrow]

/-- One block of the embedding's columns. -/
abbrev wslab (s : Fin 4) : Rect S1x4x256x256 :=
  Rect.unit ![0, s.val, 0, 0] ![1, 1, 256, 256] (fun a => by fin_cases a <;> simp <;> omega)

theorem wslab_emb (s : Fin 4) (a b : Fin 1) (i : Fin 256) (j : Fin 256) : (wslab s).emb (ix4 a b i j) = ix4 0 s i j := by
  blk_ext

theorem ld_at (w : Vec Ideal S1x4x256x256 .bf16) (s : Fin 4) (a b : Fin 1) (i j : Fin 256) : View.ld w (wslab s) (ix4 a b i j) = w (ix4 0 s i j) :=
  congrArg w (wslab_emb s a b i j)

theorem x2_at (X G : FVec Ideal S512x1024 .f32) (p : Vec Ideal S1x512x256 .f32) (w : Vec Ideal S1x4x256x256 .bf16) (r : Fin 512) (j : Fin 1024) :
    k0_pay1 X G (k0_pay4 p) (k0_pay5 (View.ld w (wslab 0))) (View.ld w (wslab 1)) (View.ld w (wslab 2)) (View.ld w (wslab 3)) (ix2 r j)
      = X (ix2 r j) + G (ix2 r j) * ∑ k : Fin 256, p (ix3 0 r k) * w (ix4 0 ⟨j / 256, by omega⟩ k ⟨j % 256, by omega⟩) := by
  have e0 := ld_at w 0
  have e1 := ld_at w 1
  have e2 := ld_at w 2
  have e3 := ld_at w 3
  generalize View.ld w (wslab 0) = w0 at *
  generalize View.ld w (wslab 1) = w1 at *
  generalize View.ld w (wslab 2) = w2 at *
  generalize View.ld w (wslab 3) = w3 at *
  pointwise [k0_pay1, k0_pay4, k0_pay5]
  refine congrArg (fun e => X (ix2 r j) + G (ix2 r j) * e) ?_
  have hj := j.isLt
  split
  · refine Fin.sum_fin_congr fun k => congrArg (p (ix3 0 r k) * ·) ((e0 _ _ _ _).trans ?_)
    blk_point []
  split
  · refine Fin.sum_fin_congr fun k => congrArg (p (ix3 0 r k) * ·) ((e1 _ _ _ _).trans ?_)
    blk_point []
  split
  · refine Fin.sum_fin_congr fun k => congrArg (p (ix3 0 r k) * ·) ((e2 _ _ _ _).trans ?_)
    blk_point []
  · refine Fin.sum_fin_congr fun k => congrArg (p (ix3 0 r k) * ·) ((e3 _ _ _ _).trans ?_)
    blk_point []

/-- The layer's result, of one row. -/
def x2 (x g : Fin 1024 → EReal) (gw : Fin 1024 → Fin 1024 → EReal) (p : Fin 256 → EReal) (pw : Fin 256 → Fin 1024 → EReal) (j : Fin 1024) : EReal :=
  x j + gate x g gw j * ∑ k, p k * pw k j

theorem out7 (x u w g gw p pw) (r : Fin 512) (j : Fin 1024) : out0_7 (F := Ideal) x u w g gw p pw (ix2 r j)
    = x1 (fun j => x (ix2 r j)) (fun k => u (ix2 r k)) (fun k j => w (ix3 0 k j)) j := by
  frame_out
  exact x1_at x u w r j

theorem out8 (x u w g gw p pw) (r : Fin 512) (j : Fin 1024) : out0_8 (F := Ideal) x u w g gw p pw (ix2 r j)
    = x2 (x1 (fun j => x (ix2 r j)) (fun k => u (ix2 r k)) (fun k j => w (ix3 0 k j))) (fun k => g (ix3 0 0 k)) (fun k j => gw (ix3 0 k j))
      (fun k => p (ix3 0 r k)) (fun k j => pw (ix4 0 ⟨j / 256, by omega⟩ k ⟨j % 256, by omega⟩)) j := by
  frame_out
  refine (x2_at (k0_pay2 x u w) (k0_pay3 x u w g gw) p pw r j).trans ?_
  rw [gate_at, x2, x1_at]
  simp only [x1_at]

variable (m : (ℓ : Loc nD τ sig) → Buf (Elt Ideal) ℓ)

theorem idx : ∀ t : Fin cfg0.N, win0_0.index t = ![t.val, 0] ∧ win0_1.index t = ![t.val, 0] ∧ win0_2.index t = ![0, 0, 0]
    ∧ win0_3.index t = ![1, 0, 0] ∧ win0_4.index t = ![0, 0, 0] ∧ win0_5.index t = ![1, t.val, 0] ∧ win0_6.index t = ![0, 0, 0, 0]
    ∧ win0_7.index t = ![t.val, 0] ∧ win0_8.index t = ![t.val, 0] := (by decide +kernel : ∀ t : Fin grid0.N, _)

/-- Row `r` of the residual with the product added. -/
def x1r (x : FVec Ideal S8192x1024 .f32) (u : FVec Ideal S8192x2048 .bf16) (w : FVec Ideal S4x2048x1024 .f32) (r : Fin 8192) : Fin 1024 → EReal :=
  x1 (fun j => x (ix2 r j)) (fun k => u (ix2 r k)) (fun k j => w (ix3 1 k j))

theorem row_lt (t : Fin cfg0.N) (r : Fin 512) : 512 * t.val + r < 8192 := by have := lt_of_lt_of_eq t.isLt N_0; omega

theorem x1_blk (c : Dev nD) (t : Fin cfg0.N) (r : Fin 512) :
    x1 (fun j => iblk m c 0 t (ix2 r j)) (fun k => iblk m c 1 t (ix2 r k)) (fun k j => iblk m c 2 t (ix3 0 k j))
    = x1r (m ((c : Thread nD τ).loc main_arg0)) (m ((c : Thread nD τ).loc main_arg1)) (m ((c : Thread nD τ).loc main_arg2)) ⟨512 * t + r, row_lt t r⟩ := by
  have h0 : (fun j => iblk m c 0 t (ix2 r j)) = fun j => m ((c : Thread nD τ).loc main_arg0) (ix2 ⟨512 * t + r, row_lt t r⟩ j) := by
    funext j; blk_point [iblk, V, idx t]
  have h1 : (fun j => iblk m c 1 t (ix2 r j)) = fun j => m ((c : Thread nD τ).loc main_arg1) (ix2 ⟨512 * t + r, row_lt t r⟩ j) := by
    funext j; blk_point [iblk, V, idx t]
  have h2 : (fun k j => iblk m c 2 t (ix3 0 k j)) = fun k j => m ((c : Thread nD τ).loc main_arg2) (ix3 1 k j) := by
    funext k j; blk_point [iblk, V, idx t]
  exact congr (congrArg₂ x1 h0 h1) h2

theorem final7 (c : Dev nD) : (dats m 0 c).arrAt 7 cfg0.N
    = fun y : S8192x1024.Idx => x1r (m ((c : Thread nD τ).loc main_arg0)) (m ((c : Thread nD τ).loc main_arg1)) (m ((c : Thread nD τ).loc main_arg2)) (y 0) (y 1) := by
  refine (dats m 0 c).arrAt_eq_of_covers 7 _ (by decide +kernel) fun t hf y => ?_
  blk_simp
  rw [after0_7]
  obtain ⟨r, j, rfl⟩ : ∃ (r : Fin 512) (j : Fin 1024), y = ix2 r j := ⟨y 0, y 1, by blk_ext⟩
  rw [out7, x1_blk]
  blk_point [idx t]

theorem final8 (c : Dev nD) : (dats m 0 c).arrAt 8 cfg0.N
    = fun y : S8192x1024.Idx => x2 (x1r (m ((c : Thread nD τ).loc main_arg0)) (m ((c : Thread nD τ).loc main_arg1)) (m ((c : Thread nD τ).loc main_arg2)) (y 0))
        (fun k => m ((c : Thread nD τ).loc main_arg3) (ix2 1 k)) (fun k j => m ((c : Thread nD τ).loc main_arg4) (ix3 1 k j))
        (fun k => m ((c : Thread nD τ).loc main_arg5) (ix3 1 (y 0) k)) (fun k j => m ((c : Thread nD τ).loc main_arg6) (ix3 1 k j)) (y 1) := by
  refine (dats m 0 c).arrAt_eq_of_covers 8 _ (by decide +kernel) fun t hf y => ?_
  blk_simp
  rw [after0_8]
  obtain ⟨r, j, rfl⟩ : ∃ (r : Fin 512) (j : Fin 1024), y = ix2 r j := ⟨y 0, y 1, by blk_ext⟩
  rw [out8, x1_blk]
  have h3 : (fun k => iblk m c 3 t (ix3 0 0 k)) = fun k => m ((c : Thread nD τ).loc main_arg3) (ix2 1 k) := by
    funext k; blk_point [iblk, V, idx t]
  have h4 : (fun k j => iblk m c 4 t (ix3 0 k j)) = fun k j => m ((c : Thread nD τ).loc main_arg4) (ix3 1 k j) := by
    funext k j; blk_point [iblk, V, idx t]
  have h5 : (fun k => iblk m c 5 t (ix3 0 r k)) = fun k => m ((c : Thread nD τ).loc main_arg5) (ix3 1 ⟨512 * t + r, row_lt t r⟩ k) := by
    funext k; blk_point [iblk, V, idx t]
  have h6 : (fun (k : Fin 256) (j : Fin 1024) => iblk m c 6 t (ix4 0 ⟨j / 256, by omega⟩ k ⟨j % 256, by omega⟩)) = fun k j => m ((c : Thread nD τ).loc main_arg6) (ix3 1 k j) := by
    funext k j; blk_point [iblk, V, idx t]
  rw [h3, h4, h5, h6]
  have e : (win0_8.blk t).view.emb (ix2 r j) = ix2 ⟨512 * t + r, row_lt t r⟩ j := by blk_ext [idx t]
  rw [e]
  rfl

end Cert.KernelOutIdeal.Gen

namespace Cert.FwdOut
open Idealize.ShloMosaic Idealize.ShloMosaic.TcCoe Idealize.SL.Sem Cert.Rms Cert.KernelOutIdeal.Gen

theorem algebraic : Cert.algebraic_KernelOutIdeal_ReferenceOutIdeal := by
  intro m ρ m' ρ' _ hagree
  refine ⟨fun c => (Cert.KernelOutIdeal.Gen.dats m 0 c).arrAt 7 Cert.KernelOutIdeal.cfg0.N,
    fun c => (Cert.KernelOutIdeal.Gen.dats m 0 c).arrAt 8 Cert.KernelOutIdeal.cfg0.N, Cert.KernelOutIdeal.Value.run_blocks m ρ, ?_⟩
  refine (θ_run Cert.ReferenceOutIdeal.defs _ _).mono (fun r h c => ⟨(h c).1.trans ?_, (h c).2.1.trans ?_, (h c).2.2⟩)
    (Cert.ReferenceOutIdeal.Value.run (F := Ideal) m' ρ')
  · refine Eq.trans ?_ (final7 m c).symm
    rw [(hagree c).1, (hagree c).2.1, (hagree c).2.2.1]
    funext y
    obtain ⟨r, j, rfl⟩ : ∃ (r : Fin 8192) (j : Fin 1024), y = ix2 r j := ⟨y 0, y 1, by blk_ext⟩
    generalize m _ = x
    generalize m _ = u
    generalize m _ = w
    pointwise [x1r, x1]
  · refine Eq.trans ?_ (final8 m c).symm
    rw [(hagree c).1, (hagree c).2.1, (hagree c).2.2.1, (hagree c).2.2.2.1, (hagree c).2.2.2.2.1, (hagree c).2.2.2.2.2.1, (hagree c).2.2.2.2.2.2]
    funext y
    obtain ⟨r, j, rfl⟩ : ∃ (r : Fin 8192) (j : Fin 1024), y = ix2 r j := ⟨y 0, y 1, by blk_ext⟩
    generalize m _ = x
    generalize m _ = u
    generalize m _ = w
    generalize m _ = g
    generalize m _ = gw
    generalize m _ = p
    generalize m _ = pw
    pointwise [x2, gate, hrow, x1r, x1]
    rfl

end Cert.FwdOut
end
-- ==== Proof.BwdOutRow.lean ====
/- One row of the gradient of the embedding's gate and of the output product. -/
module

public import proofs.«01_k».proof.Proof.Rms
public import proofs.«01_k».proof.Proof.FwdOut

@[expose] public section

noncomputable section

namespace Cert.BwdOut
open Idealize.ShloMosaic Cert.Reals Cert.Rms Cert.FwdOut

/-- The embedding of the layer. -/
def emb (p : Fin 256 → EReal) (pw : Fin 256 → Fin 1024 → EReal) (j : Fin 1024) : EReal := ∑ k, p k * pw k j

/-- The gradient before the gate's sigmoid, of the gate `G` and the embedding `Q`. -/
def back (d G Q : Fin 1024 → EReal) (j : Fin 1024) : EReal := d j * Q j * G j * (Ideal.ofBits .f32 0x3F800000#32 - G j)

/-- The same, of the row `x` of the residual. -/
def ds (d x g : Fin 1024 → EReal) (W : Fin 1024 → Fin 1024 → EReal) (p : Fin 256 → EReal) (pw : Fin 256 → Fin 1024 → EReal) (j : Fin 1024) : EReal :=
  back d (gate x g W) (emb p pw) j

/-- The gradient of the normalised row. -/
def dh (d x g : Fin 1024 → EReal) (W : Fin 1024 → Fin 1024 → EReal) (p : Fin 256 → EReal) (pw : Fin 256 → Fin 1024 → EReal) (j : Fin 1024) : EReal :=
  ∑ k, ds d x g W p pw k * W j k

/-- The gradient of the residual. -/
def dx (d x g : Fin 1024 → EReal) (W : Fin 1024 → Fin 1024 → EReal) (p : Fin 256 → EReal) (pw : Fin 256 → Fin 1024 → EReal) (j : Fin 1024) : EReal :=
  d j + rback x (fun k => dh d x g W p pw k * g k) j

/-- The gradient of the mixer's output. -/
def du (d x g : Fin 1024 → EReal) (W : Fin 1024 → Fin 1024 → EReal) (p : Fin 256 → EReal) (pw : Fin 256 → Fin 1024 → EReal)
    (wo : Fin 2048 → Fin 1024 → EReal) (e : Fin 2048) : EReal := ∑ k, dx d x g W p pw k * wo e k

/-- One row's part of the gradient of the normalisation's scale. -/
def dg (d x g : Fin 1024 → EReal) (W : Fin 1024 → Fin 1024 → EReal) (p : Fin 256 → EReal) (pw : Fin 256 → Fin 1024 → EReal) (j : Fin 1024) : EReal :=
  dh d x g W p pw j * (x j * rs x)

/-- The gradient of the residual is the one automatic differentiation writes. -/
theorem dx_auto {d x g : Fin 1024 → EReal} {W : Fin 1024 → Fin 1024 → EReal} {p : Fin 256 → EReal} {pw : Fin 256 → Fin 1024 → EReal} (j : Fin 1024) :
    d j + dh d x g W p pw j * g j * rs x + x j * qback x (fun k => dh d x g W p pw k * g k) + qback x (fun k => dh d x g W p pw k * g k) * x j
      = dx d x g W p pw j :=
  rback_eq (d j) x (fun k => dh d x g W p pw k * g k) j

end Cert.BwdOut
end
-- ==== Proof.BwdOutRef.lean ====
/- What automatic differentiation writes for the output product and the embedding's gate, read at an index. -/
module

public import proofs.«01_k».proof.Defs
public import proofs.«01_k».proof.Proof.BwdOutRow
public import proofs.«01_k».proof.Proof.Gen.ReferenceBoutIdeal.Run
public import Idealize.ShloMosaic.Lib.Pointwise
public import Idealize.ShloMosaic.Lib.IdealHost

@[expose] public section

set_option maxRecDepth 16384

noncomputable section

namespace Cert.ReferenceBoutIdeal.Gen
open Idealize.ShloMosaic Idealize.ShloMosaic.TcCoe Idealize.SL.Sem Idealize.ShloMosaic.StableHlo Cert.Rms Cert.FwdOut Cert.BwdOut

variable (d x : FVec Ideal S8192x1024 .f32) (p : FVec Ideal S4x8192x256 .f32) (g : FVec Ideal S4x1024 .f32) (gw : FVec Ideal S4x1024x1024 .f32)
  (pw : FVec Ideal S4x256x1024 .f32) (wo : FVec Ideal S4x2048x1024 .f32)

/-- The layer's block of the output weight. -/
def wout : FVec Ideal S2048x1024 .f32 :=
  shapeCast _ (extractStridedSlice S1x2048x1024 ![1, 0, 0] wo slices_S4x2048x1024_S1x2048x1024_1_0_0) shapeCasts_S1x2048x1024_S2048x1024

/-- The layer's block of the gate's weight. -/
def wgate : FVec Ideal S1024x1024 .f32 :=
  shapeCast _ (extractStridedSlice S1x1024x1024 ![1, 0, 0] gw slices_S4x1024x1024_S1x1024x1024_1_0_0) shapeCasts_S1x1024x1024_S1024x1024

/-- The layer's scale, repeated over the rows. -/
def scale : FVec Ideal S8192x1024 .f32 :=
  broadcastInDim S8192x1024 ![0, 1] bcast_S1x1024_S8192x1024_0_1 (broadcastInDim S1x1024 ![1] bcast_S1024_S1x1024_1
    (shapeCast _ (extractStridedSlice S1x1024 ![1, 0] g slices_S4x1024_S1x1024_1_0) shapeCasts_S1x1024_S1024))

/-- The residual with a zero product added. -/
def res : FVec Ideal S8192x1024 .f32 :=
  addf x (Host.dotGeneral dot_S8192x2048_S2048x1024_S8192x1024_1_0_0_1_n_n none
    (broadcastInDim S8192x2048 ![] bcast_S_S8192x2048 (constant S_ .f32 0x00000000#32)) (wout wo))

/-- The mean of the squares, with the small number. -/
def ms : FVec Ideal S8192x1 .f32 :=
  addf (Host.divf (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))

/-- The normalised rows. -/
def unit : FVec Ideal S8192x1024 .f32 := mulf x (broadcastInDim S8192x1024 ![0, 1] bcast_S8192x1_S8192x1024_0_1 (Host.rsqrt (ms x)))

/-- The gate. -/
def gates : FVec Ideal S8192x1024 .f32 :=
  Host.divf (broadcastInDim S8192x1024 ![] bcast_S_S8192x1024 (constant S_ .f32 0x3F800000#32))
    (addf (broadcastInDim S8192x1024 ![] bcast_S_S8192x1024 (constant S_ .f32 0x3F800000#32)) (Host.exp (Host.negf
      (addf (Host.dotGeneral dot_S8192x1024_S1024x1024_S8192x1024_1_0_0_1_n_n none (mulf (unit x) (scale g)) (wgate gw))
        (broadcastInDim S8192x1024 ![] bcast_S_S8192x1024 (constant S_ .f32 0x00000000#32))))))

/-- The embedding. -/
def embs : FVec Ideal S8192x1024 .f32 :=
  addf (Host.dotGeneral dot_S8192x256_S256x1024_S8192x1024_1_0_0_1_n_n none
      (shapeCast _ (extractStridedSlice S1x8192x256 ![1, 0, 0] p slices_S4x8192x256_S1x8192x256_1_0_0) shapeCasts_S1x8192x256_S8192x256)
      (shapeCast _ (extractStridedSlice S1x256x1024 ![1, 0, 0] pw slices_S4x256x1024_S1x256x1024_1_0_0) shapeCasts_S1x256x1024_S256x1024))
    (broadcastInDim S8192x1024 ![] bcast_S_S8192x1024 (constant S_ .f32 0x00000000#32))

/-- The gradient before the sigmoid. -/
def dss : FVec Ideal S8192x1024 .f32 :=
  mulf (mulf (shapeCast _ d shapeCasts_S8192x1024_S8192x1024) (embs p pw))
    (mulf (gates x g gw) (subf (broadcastInDim S8192x1024 ![] bcast_S_S8192x1024 (constant S_ .f32 0x3F800000#32)) (gates x g gw)))

/-- The gradient of the scaled normalised rows. -/
def dhs : FVec Ideal S8192x1024 .f32 :=
  Host.dotGeneral dot_S8192x1024_S1024x1024_S8192x1024_1_1_0_0_n_n none (dss d x p g gw pw) (wgate gw)

/-- What the mean of the squares passes on to each entry of a row `x`, of the gradient `D` of the scaled row. -/
def pass (D : FVec Ideal S8192x1024 .f32) : FVec Ideal S8192x1024 .f32 :=
  broadcastInDim S8192x1024 ![0] bcast_S8192_S8192x1024_0 (Host.reduceAdd (Host.divf (mulf (shapeCast _ (Host.reduceAdd (mulf x (mulf D (scale g)))
    (constant S_ .f32 0x00000000#32) reducesTo_S8192x1024_S8192_d1 h_S_) shapeCasts_S8192_S8192x1)
    (mulf (broadcastInDim S8192x1 ![] bcast_S_S8192x1 (constant S_ .f32 0xBF000000#32)) (Host.divf (Host.rsqrt (ms x)) (ms x))))
    (broadcastInDim S8192x1 ![] bcast_S_S8192x1 (constant S_ .f32 0x44800000#32))) (constant S_ .f32 0x00000000#32) reducesTo_S8192x1_S8192_d1 h_S_)

/-- The gradient of the residual, of the gradient `D` of the scaled row. -/
def dxs (D : FVec Ideal S8192x1024 .f32) : FVec Ideal S8192x1024 .f32 :=
  addf (addf (addf (shapeCast _ d shapeCasts_S8192x1024_S8192x1024) (mulf (mulf D (scale g))
    (broadcastInDim S8192x1024 ![0, 1] bcast_S8192x1_S8192x1024_0_1 (Host.rsqrt (ms x))))) (mulf x (pass x g D))) (mulf (pass x g D) x)

/-- The gradient of the scale, of the gradient `D` of the scaled row. -/
def dgs (D : FVec Ideal S8192x1024 .f32) : FVec Ideal S1x1024 .f32 :=
  broadcastInDim S1x1024 ![1] bcast_S1024_S1x1024_1 (Host.reduceAdd (shapeCast _ (Host.reduceAdd (mulf (unit x) D)
    (constant S_ .f32 0x00000000#32) reducesTo_S8192x1024_S1024_d0 h_S_) shapeCasts_S1024_S1x1024) (constant S_ .f32 0x00000000#32) reducesTo_S1x1024_S1024_d0 h_S_)

theorem wout_at (e : Fin 2048) (j : Fin 1024) : wout wo (ix2 e j) = wo (ix3 1 e j) := by pointwise [wout]
theorem wgate_at (i j : Fin 1024) : wgate gw (ix2 i j) = gw (ix3 1 i j) := by pointwise [wgate]
theorem scale_at (r : Fin 8192) (j : Fin 1024) : scale g (ix2 r j) = g (ix2 1 j) := by pointwise [scale]

theorem res_eq : res x wo = x := by
  funext y
  obtain ⟨r, j, rfl⟩ : ∃ (r : Fin 8192) (j : Fin 1024), y = ix2 r j := ⟨y 0, y 1, by blk_ext⟩
  unfold res
  generalize wout wo = w
  pointwise []
  try simp only [zero_mul, Finset.sum_const_zero, add_zero]

theorem unit_at (r : Fin 8192) (j : Fin 1024) : unit x (ix2 r j) = (x (ix2 r j) : EReal) * rs (fun k => x (ix2 r k)) := by
  pointwise [unit, ms, rs]

theorem gates_at (r : Fin 8192) (j : Fin 1024) : gates x g gw (ix2 r j)
    = gate (fun k => x (ix2 r k)) (fun k => g (ix2 1 k)) (fun k j => gw (ix3 1 k j)) j := by
  have e : ∀ k, (unit x (ix2 r k) : EReal) * scale g (ix2 r k) = hrow (fun k => x (ix2 r k)) (fun k => g (ix2 1 k)) k := fun k => by
    rw [unit_at, scale_at]; rfl
  have w := fun k => wgate_at gw k j
  unfold gates
  generalize unit x = u at *
  generalize scale g = s at *
  generalize wgate gw = v at *
  pointwise [gate]
  simp only [e, w]
  try rfl

theorem embs_at (r : Fin 8192) (j : Fin 1024) : embs p pw (ix2 r j) = emb (fun k => p (ix3 1 r k)) (fun k j => pw (ix3 1 k j)) j := by
  pointwise [embs, emb]

theorem dss_at (r : Fin 8192) (j : Fin 1024) : dss d x p g gw pw (ix2 r j)
    = ds (fun k => d (ix2 r k)) (fun k => x (ix2 r k)) (fun k => g (ix2 1 k)) (fun k j => gw (ix3 1 k j)) (fun k => p (ix3 1 r k)) (fun k j => pw (ix3 1 k j)) j := by
  rw [ds, back, ← gates_at x g gw r j, ← embs_at p pw r j]
  unfold dss
  generalize gates x g gw = G
  generalize embs p pw = Q
  pointwise []
  exact (mul_assoc _ _ _).symm

theorem dhs_at (r : Fin 8192) (j : Fin 1024) : dhs d x p g gw pw (ix2 r j)
    = dh (fun k => d (ix2 r k)) (fun k => x (ix2 r k)) (fun k => g (ix2 1 k)) (fun k j => gw (ix3 1 k j)) (fun k => p (ix3 1 r k)) (fun k j => pw (ix3 1 k j)) j := by
  have e := dss_at d x p g gw pw r
  have w := wgate_at gw j
  unfold dhs dh
  generalize dss d x p g gw pw = s at *
  generalize wgate gw = v at *
  pointwise []
  exact Fin.sum_fin_congr fun k => congrArg₂ (· * ·) (e k) (w k)

theorem dxs_at (D : FVec Ideal S8192x1024 .f32) (r : Fin 8192) (j : Fin 1024) : dxs d x g D (ix2 r j)
    = (d (ix2 r j) : EReal) + D (ix2 r j) * g (ix2 1 j) * rs (fun k => x (ix2 r k))
      + x (ix2 r j) * qback (fun k => x (ix2 r k)) (fun k => D (ix2 r k) * g (ix2 1 k))
      + qback (fun k => x (ix2 r k)) (fun k => D (ix2 r k) * g (ix2 1 k)) * x (ix2 r j) := by
  pointwise [dxs, pass, ms, scale, rs, qback]
  simp only [Fintype.sum_unique]

theorem dgs_at (D : FVec Ideal S8192x1024 .f32) (i : Fin 1) (j : Fin 1024) : dgs x D (ix2 i j)
    = ∑ r : Fin 8192, (D (ix2 r j) : EReal) * (x (ix2 r j) * rs (fun k => x (ix2 r k))) := by
  have e := fun r => unit_at x r j
  unfold dgs
  generalize unit x = u at *
  pointwise []
  rw [Fintype.sum_unique]
  exact Fin.sum_fin_congr fun k => (congrArg (· * D (ix2 k j)) (e k)).trans (mul_comm _ _)

/-- The gradient of the mixer's output, of the gradient `X` of the residual. -/
def dus (X : FVec Ideal S8192x1024 .f32) : FVec Ideal S8192x2048 .bf16 :=
  truncf .bf16 (Host.dotGeneral dot_S8192x1024_S2048x1024_S8192x2048_1_1_0_0_n_n none X (wout wo)) bitsLt_bf16_f32

theorem dus_at (X : FVec Ideal S8192x1024 .f32) (r : Fin 8192) (e : Fin 2048) :
    dus wo X (ix2 r e) = ∑ k : Fin 1024, (X (ix2 r k) : EReal) * wo (ix3 1 e k) := by
  have h := wout_at wo e
  unfold dus
  generalize wout wo = w at *
  pointwise []
  exact Fin.sum_fin_congr fun k => congrArg (HMul.hMul (α := EReal) (X (ix2 r k))) (h k)

/-- The normalised, scaled rows. -/
def rns : FVec Ideal S8192x1024 .bf16 := truncf .bf16 (mulf (unit x) (scale g)) bitsLt_bf16_f32

theorem rns_at (r : Fin 8192) (j : Fin 1024) : rns x g (ix2 r j) = hrow (fun k => x (ix2 r k)) (fun k => g (ix2 1 k)) j := by
  refine (congrArg₂ (HMul.hMul (α := EReal)) (unit_at x r j) (scale_at g r j)).trans ?_
  rfl

/-- The gradient of the embedding. -/
def dqs : FVec Ideal S8192x1024 .bf16 := truncf .bf16 (mulf (gates x g gw) (shapeCast _ d shapeCasts_S8192x1024_S8192x1024)) bitsLt_bf16_f32

theorem dqs_at (r : Fin 8192) (j : Fin 1024) : dqs d x g gw (ix2 r j)
    = (d (ix2 r j) : EReal) * gate (fun k => x (ix2 r k)) (fun k => g (ix2 1 k)) (fun k j => gw (ix3 1 k j)) j := by
  rw [← gates_at x g gw r j]
  unfold dqs
  generalize gates x g gw = G
  pointwise []
  exact mul_comm _ _

/-- The gradient before the sigmoid, rounded. -/
def dsb : FVec Ideal S8192x1024 .bf16 := truncf .bf16 (dss d x p g gw pw) bitsLt_bf16_f32

theorem dsb_at (r : Fin 8192) (j : Fin 1024) : dsb d x p g gw pw (ix2 r j)
    = ds (fun k => d (ix2 r k)) (fun k => x (ix2 r k)) (fun k => g (ix2 1 k)) (fun k j => gw (ix3 1 k j)) (fun k => p (ix3 1 r k)) (fun k j => pw (ix3 1 k j)) j := by
  rw [← dss_at]
  unfold dsb
  generalize dss d x p g gw pw = s
  pointwise []

/-! ## The reference's results -/

variable (m : (ℓ : Loc nD τ sig) → Buf (Elt Ideal) ℓ) (c : Dev nD)

/-- The gradient of the scaled normalised rows, of the arguments in memory. -/
abbrev dhm : FVec Ideal S8192x1024 .f32 :=
  dhs (m ((c.tc : Thread nD τ).loc main_arg0)) (res (m ((c.tc : Thread nD τ).loc main_arg1)) (m ((c.tc : Thread nD τ).loc main_arg6)))
    (m ((c.tc : Thread nD τ).loc main_arg2)) (m ((c.tc : Thread nD τ).loc main_arg3)) (m ((c.tc : Thread nD τ).loc main_arg4))
    (m ((c.tc : Thread nD τ).loc main_arg5))

theorem out0 : Value.res_out0 m c = dxs (m ((c.tc : Thread nD τ).loc main_arg0))
    (res (m ((c.tc : Thread nD τ).loc main_arg1)) (m ((c.tc : Thread nD τ).loc main_arg6))) (m ((c.tc : Thread nD τ).loc main_arg3)) (dhm m c) := by
  unfold Value.res_out0 Value.res_main_v71 dhm dxs pass dhs dss gates embs unit ms scale res wgate wout
  rfl

theorem out1 : Value.res_out1 m c = dus (m ((c.tc : Thread nD τ).loc main_arg6)) (dxs (m ((c.tc : Thread nD τ).loc main_arg0))
    (res (m ((c.tc : Thread nD τ).loc main_arg1)) (m ((c.tc : Thread nD τ).loc main_arg6))) (m ((c.tc : Thread nD τ).loc main_arg3)) (dhm m c)) := by
  unfold Value.res_out1 Value.res_main_v73 dus dhm dxs pass dhs dss gates embs unit ms scale res wgate wout
  rfl

theorem out3 : Value.res_out3 m c = dsb (m ((c.tc : Thread nD τ).loc main_arg0))
    (res (m ((c.tc : Thread nD τ).loc main_arg1)) (m ((c.tc : Thread nD τ).loc main_arg6))) (m ((c.tc : Thread nD τ).loc main_arg2))
    (m ((c.tc : Thread nD τ).loc main_arg3)) (m ((c.tc : Thread nD τ).loc main_arg4)) (m ((c.tc : Thread nD τ).loc main_arg5)) := by
  unfold Value.res_out3 Value.res_main_v90 dsb dss gates embs unit ms scale res wgate wout
  rfl

theorem out5 : Value.res_out5 m c = dgs (res (m ((c.tc : Thread nD τ).loc main_arg1)) (m ((c.tc : Thread nD τ).loc main_arg6))) (dhm m c) := by
  unfold Value.res_out5 Value.res_main_v92 dgs dhm dhs dss gates embs unit ms scale res wgate wout
  rfl

end Cert.ReferenceBoutIdeal.Gen
end
-- ==== Proof.BwdOut.lean ====
/- The gradient of the output product and of the embedding's gate. -/
module

public import proofs.«01_k».proof.Defs
public import proofs.«01_k».proof.Proof.BwdOutRow
public import proofs.«01_k».proof.Proof.BwdOutRef
public import proofs.«01_k».proof.Proof.Gen.KernelBoutIdeal.Value
public import Idealize.ShloMosaic.Lib.Pointwise
public import Idealize.ShloMosaic.Lib.Pipeline.ReadBack
public import Idealize.ShloMosaic.Lib.Pipeline.ValueKit
public import Idealize.ShloMosaic.Lib.IdealHost

@[expose] public section

set_option maxRecDepth 16384

noncomputable section

namespace Cert.KernelBoutIdeal.Gen
open Idealize.ShloMosaic Idealize.ShloMosaic.TcCoe Idealize.SL.Sem Cert.Rms Cert.FwdOut Cert.BwdOut

/-! ## One tile -/

theorem zero_at (i j) : k0_pay3 (F := Ideal) (ix2 i j) = 0 := by pointwise [k0_pay3]

theorem rs_at (x : Vec Ideal S512x1024 .f32) (r : Fin 512) (j : Fin 1) : k0_pay4 x (ix2 r j) = rs (fun k => x (ix2 r k)) := by
  pointwise [k0_pay4, rs]

theorem unit_at (x : Vec Ideal S512x1024 .f32) (r : Fin 512) (j : Fin 1024) : k0_pay5 x (ix2 r j) = x (ix2 r j) * rs (fun k => x (ix2 r k)) := by
  pointwise [k0_pay5, k0_pay4, rs]

theorem rn_at (x : Vec Ideal S512x1024 .f32) (g : Vec Ideal S1x1x1024 .f32) (r : Fin 512) (j : Fin 1024) :
    k0_pay6 x g (ix2 r j) = hrow (fun k => x (ix2 r k)) (fun k => g (ix3 0 0 k)) j := by
  pointwise [k0_pay6, k0_pay5, k0_pay4, hrow]

theorem gate_at (x : Vec Ideal S512x1024 .f32) (g : Vec Ideal S1x1x1024 .f32) (gw : Vec Ideal S1x1024x1024 .bf16) (r : Fin 512) (j : Fin 1024) :
    k0_pay7 x g gw (ix2 r j) = gate (fun k => x (ix2 r k)) (fun k => g (ix3 0 0 k)) (fun k j => gw (ix3 0 k j)) j := by
  have e := rn_at x g r
  unfold k0_pay7 gate
  simp only [← e]
  generalize k0_pay6 x g = R
  pointwise []

theorem dq_at (d G : FVec Ideal S512x1024 .f32) (r : Fin 512) (j : Fin 1024) : k0_pay10 d G (ix2 r j) = d (ix2 r j) * G (ix2 r j) := by
  pointwise [k0_pay10]

/-- One block of the embedding's columns. -/
abbrev wslab (s : Fin 4) : Rect S1x4x256x256 :=
  Rect.unit ![0, s.val, 0, 0] ![1, 1, 256, 256] (fun a => by fin_cases a <;> simp <;> omega)

theorem wslab_emb (s : Fin 4) (a b : Fin 1) (i : Fin 256) (j : Fin 256) : (wslab s).emb (ix4 a b i j) = ix4 0 s i j := by
  blk_ext

theorem ld_at (w : Vec Ideal S1x4x256x256 .bf16) (s : Fin 4) (a b : Fin 1) (i j : Fin 256) : View.ld w (wslab s) (ix4 a b i j) = w (ix4 0 s i j) :=
  congrArg w (wslab_emb s a b i j)

theorem back_at (d G : FVec Ideal S512x1024 .f32) (p : Vec Ideal S1x512x256 .f32) (w : Vec Ideal S1x4x256x256 .bf16) (r : Fin 512) (j : Fin 1024) :
    k0_pay11 d G (k0_pay8 p) (k0_pay9 p (View.ld w (wslab 0))) (View.ld w (wslab 1)) (View.ld w (wslab 2)) (View.ld w (wslab 3)) (ix2 r j)
      = back (fun k => d (ix2 r k)) (fun k => G (ix2 r k)) (emb (fun k => p (ix3 0 r k)) (fun k j => w (ix4 0 ⟨j / 256, by omega⟩ k ⟨j % 256, by omega⟩))) j := by
  have e0 := ld_at w 0
  have e1 := ld_at w 1
  have e2 := ld_at w 2
  have e3 := ld_at w 3
  generalize View.ld w (wslab 0) = w0 at *
  generalize View.ld w (wslab 1) = w1 at *
  generalize View.ld w (wslab 2) = w2 at *
  generalize View.ld w (wslab 3) = w3 at *
  pointwise [k0_pay11, k0_pay8, k0_pay9, back, emb]
  refine congrArg (fun e => d (ix2 r j) * e * G (ix2 r j) * (_ - G (ix2 r j))) ?_
  have hj := j.isLt
  split
  · refine Fin.sum_fin_congr fun k => congrArg (p (ix3 0 r k) * ·) ((e0 _ _ _ _).trans ?_)
    blk_point []
  split
  · refine Fin.sum_fin_congr fun k => congrArg (p (ix3 0 r k) * ·) ((e1 _ _ _ _).trans ?_)
    blk_point []
  split
  · refine Fin.sum_fin_congr fun k => congrArg (p (ix3 0 r k) * ·) ((e2 _ _ _ _).trans ?_)
    blk_point []
  · refine Fin.sum_fin_congr fun k => congrArg (p (ix3 0 r k) * ·) ((e3 _ _ _ _).trans ?_)
    blk_point []

section
variable (d x : Vec Ideal S512x1024 .f32) (p : Vec Ideal S1x512x256 .f32) (g : Vec Ideal S1x1x1024 .f32) (gw : Vec Ideal S1x1024x1024 .bf16) (w : Vec Ideal S1x4x256x256 .bf16)

/-- The tile's gradient before the sigmoid, as the body writes it. -/
abbrev dsv : FVec Ideal S512x1024 .bf16 :=
  k0_pay11 d (k0_pay7 x g gw) (k0_pay8 p) (k0_pay9 p (View.ld w (Rect.unit ![0, 0, 0, 0] ![1, 1, 256, 256] inb_S1x4x256x256_S1x1x256x256_0_0_0_0)))
    (View.ld w (Rect.unit ![0, 1, 0, 0] ![1, 1, 256, 256] inb_S1x4x256x256_S1x1x256x256_0_1_0_0))
    (View.ld w (Rect.unit ![0, 2, 0, 0] ![1, 1, 256, 256] inb_S1x4x256x256_S1x1x256x256_0_2_0_0))
    (View.ld w (Rect.unit ![0, 3, 0, 0] ![1, 1, 256, 256] inb_S1x4x256x256_S1x1x256x256_0_3_0_0))

/-- The tile's gradient of the normalised rows, as the body writes it. -/
abbrev dhv : FVec Ideal S512x1024 .f32 :=
  k0_pay12 d (k0_pay7 x g gw) (k0_pay8 p) (k0_pay9 p (View.ld w (Rect.unit ![0, 0, 0, 0] ![1, 1, 256, 256] inb_S1x4x256x256_S1x1x256x256_0_0_0_0)))
    (View.ld w (Rect.unit ![0, 1, 0, 0] ![1, 1, 256, 256] inb_S1x4x256x256_S1x1x256x256_0_1_0_0))
    (View.ld w (Rect.unit ![0, 2, 0, 0] ![1, 1, 256, 256] inb_S1x4x256x256_S1x1x256x256_0_2_0_0))
    (View.ld w (Rect.unit ![0, 3, 0, 0] ![1, 1, 256, 256] inb_S1x4x256x256_S1x1x256x256_0_3_0_0)) gw

/-- The body's new scale gradient. -/
abbrev dgv (o : Vec Ideal S1x1024 .f32) : FVec Ideal S1x1024 .f32 :=
  k0_pay13 d (k0_pay5 x) (k0_pay7 x g gw) (k0_pay8 p) (k0_pay9 p (View.ld w (Rect.unit ![0, 0, 0, 0] ![1, 1, 256, 256] inb_S1x4x256x256_S1x1x256x256_0_0_0_0)))
    (View.ld w (Rect.unit ![0, 1, 0, 0] ![1, 1, 256, 256] inb_S1x4x256x256_S1x1x256x256_0_1_0_0))
    (View.ld w (Rect.unit ![0, 2, 0, 0] ![1, 1, 256, 256] inb_S1x4x256x256_S1x1x256x256_0_2_0_0))
    (View.ld w (Rect.unit ![0, 3, 0, 0] ![1, 1, 256, 256] inb_S1x4x256x256_S1x1x256x256_0_3_0_0)) gw o

/-- Row `r` of the tile under a function of rows. -/
abbrev onrow {α : Sort _} (f : (Fin 1024 → EReal) → (Fin 1024 → EReal) → (Fin 1024 → EReal) → (Fin 1024 → Fin 1024 → EReal) → (Fin 256 → EReal)
    → (Fin 256 → Fin 1024 → EReal) → α) (r : Fin 512) : α :=
  f (fun k => d (ix2 r k)) (fun k => x (ix2 r k)) (fun k => g (ix3 0 0 k)) (fun k j => gw (ix3 0 k j)) (fun k => p (ix3 0 r k))
    (fun k j => w (ix4 0 ⟨j / 256, by omega⟩ k ⟨j % 256, by omega⟩))

theorem ds_at (r : Fin 512) (j : Fin 1024) : dsv d x p g gw w (ix2 r j) = onrow d x p g gw w ds r j := by
  refine (back_at d (k0_pay7 x g gw) p w r j).trans ?_
  simp only [gate_at]
  rfl

theorem dh_at (r : Fin 512) (j : Fin 1024) : dhv d x p g gw w (ix2 r j) = onrow d x p g gw w dh r j := by
  have e := ds_at d x p g gw w r
  simp only [onrow, dh] at e ⊢
  simp only [← e]
  unfold dhv dsv k0_pay12
  generalize k0_pay11 (F := Ideal) _ _ _ _ _ _ _ = s
  pointwise []

theorem dx_at (r : Fin 512) (j : Fin 1024) : k0_pay1 d (k0_pay4 x) (k0_pay5 x) (dhv d x p g gw w) g (ix2 r j) = onrow d x p g gw w dx r j := by
  have e := dh_at d x p g gw w r
  simp only [onrow, dx] at e ⊢
  simp only [← e]
  generalize dhv d x p g gw w = s
  pointwise [k0_pay1, k0_pay4, k0_pay5, rback, rs]

theorem du_at (wo : Vec Ideal S1x2048x1024 .bf16) (r : Fin 512) (e : Fin 2048) :
    k0_pay2 d (k0_pay4 x) (k0_pay5 x) (dhv d x p g gw w) g wo (ix2 r e) = onrow d x p g gw w du r (fun e k => wo (ix3 0 e k)) e := by
  have h := dx_at d x p g gw w r
  simp only [onrow, du] at h ⊢
  simp only [← h]
  unfold k0_pay2
  generalize k0_pay1 (F := Ideal) _ _ _ _ _ = s
  pointwise []

theorem dg_at (o : Vec Ideal S1x1024 .f32) (i : Fin 1) (j : Fin 1024) :
    dgv d x p g gw w o (ix2 i j) = o (ix2 i j) + ∑ r : Fin 512, onrow d x p g gw w dg r j := by
  have e := fun r => dh_at d x p g gw w r j
  have u := fun r => unit_at x r j
  simp only [onrow, dg] at e ⊢
  simp only [← e, ← u]
  unfold dgv dhv k0_pay13
  generalize k0_pay12 (F := Ideal) _ _ _ _ _ _ _ _ = s
  generalize k0_pay5 x = v
  pointwise []

end

variable (m : (ℓ : Loc nD τ sig) → Buf (Elt Ideal) ℓ)

theorem dx_tile (c : Dev nD) (t : Fin cfg0.N) (r : Fin 512) (j : Fin 1024) : (outsAt0 m c t.1 t.2).1 (ix2 r j)
    = onrow (iblk m c 0 t) (iblk m c 1 t) (iblk m c 2 t) (iblk m c 3 t) (iblk m c 4 t) (iblk m c 5 t) dx r j := by
  by_cases h0 : t.1 % 16 = 0
  · rw [outsAt0_A m c t h0]
    generalize iblk m c 0 t = d, iblk m c 1 t = x, iblk m c 2 t = p, iblk m c 3 t = g, iblk m c 4 t = gw, iblk m c 5 t = w, iblk m c 6 t = wo
    frame_out
    exact dx_at d x p g gw w r j
  · rw [outsAt0_B m c t h0]
    generalize iblk m c 0 t = d, iblk m c 1 t = x, iblk m c 2 t = p, iblk m c 3 t = g, iblk m c 4 t = gw, iblk m c 5 t = w, iblk m c 6 t = wo
    frame_out
    exact dx_at d x p g gw w r j

theorem du_tile (c : Dev nD) (t : Fin cfg0.N) (r : Fin 512) (e : Fin 2048) : (outsAt0 m c t.1 t.2).2.1 (ix2 r e)
    = onrow (iblk m c 0 t) (iblk m c 1 t) (iblk m c 2 t) (iblk m c 3 t) (iblk m c 4 t) (iblk m c 5 t) du r (fun e k => iblk m c 6 t (ix3 0 e k)) e := by
  by_cases h0 : t.1 % 16 = 0
  · rw [outsAt0_A m c t h0]
    generalize iblk m c 0 t = d, iblk m c 1 t = x, iblk m c 2 t = p, iblk m c 3 t = g, iblk m c 4 t = gw, iblk m c 5 t = w, iblk m c 6 t = wo
    frame_out
    exact du_at d x p g gw w wo r e
  · rw [outsAt0_B m c t h0]
    generalize iblk m c 0 t = d, iblk m c 1 t = x, iblk m c 2 t = p, iblk m c 3 t = g, iblk m c 4 t = gw, iblk m c 5 t = w, iblk m c 6 t = wo
    frame_out
    exact du_at d x p g gw w wo r e

theorem rn_tile (c : Dev nD) (t : Fin cfg0.N) (r : Fin 512) (j : Fin 1024) : (outsAt0 m c t.1 t.2).2.2.1 (ix2 r j)
    = hrow (fun k => iblk m c 1 t (ix2 r k)) (fun k => iblk m c 3 t (ix3 0 0 k)) j := by
  by_cases h0 : t.1 % 16 = 0
  · rw [outsAt0_A m c t h0]
    generalize iblk m c 0 t = d, iblk m c 1 t = x, iblk m c 2 t = p, iblk m c 3 t = g, iblk m c 4 t = gw, iblk m c 5 t = w, iblk m c 6 t = wo
    frame_out
    exact rn_at x g r j
  · rw [outsAt0_B m c t h0]
    generalize iblk m c 0 t = d, iblk m c 1 t = x, iblk m c 2 t = p, iblk m c 3 t = g, iblk m c 4 t = gw, iblk m c 5 t = w, iblk m c 6 t = wo
    frame_out
    exact rn_at x g r j

theorem ds_tile (c : Dev nD) (t : Fin cfg0.N) (r : Fin 512) (j : Fin 1024) : (outsAt0 m c t.1 t.2).2.2.2.1 (ix2 r j)
    = onrow (iblk m c 0 t) (iblk m c 1 t) (iblk m c 2 t) (iblk m c 3 t) (iblk m c 4 t) (iblk m c 5 t) ds r j := by
  by_cases h0 : t.1 % 16 = 0
  · rw [outsAt0_A m c t h0]
    generalize iblk m c 0 t = d, iblk m c 1 t = x, iblk m c 2 t = p, iblk m c 3 t = g, iblk m c 4 t = gw, iblk m c 5 t = w, iblk m c 6 t = wo
    frame_out
    exact ds_at d x p g gw w r j
  · rw [outsAt0_B m c t h0]
    generalize iblk m c 0 t = d, iblk m c 1 t = x, iblk m c 2 t = p, iblk m c 3 t = g, iblk m c 4 t = gw, iblk m c 5 t = w, iblk m c 6 t = wo
    frame_out
    exact ds_at d x p g gw w r j

theorem dq_tile (c : Dev nD) (t : Fin cfg0.N) (r : Fin 512) (j : Fin 1024) : (outsAt0 m c t.1 t.2).2.2.2.2.1 (ix2 r j)
    = HMul.hMul (α := EReal) (iblk m c 0 t (ix2 r j)) (gate (fun k => iblk m c 1 t (ix2 r k)) (fun k => iblk m c 3 t (ix3 0 0 k)) (fun k j => iblk m c 4 t (ix3 0 k j)) j) := by
  by_cases h0 : t.1 % 16 = 0
  · rw [outsAt0_A m c t h0]
    generalize iblk m c 0 t = d, iblk m c 1 t = x, iblk m c 2 t = p, iblk m c 3 t = g, iblk m c 4 t = gw, iblk m c 5 t = w, iblk m c 6 t = wo
    frame_out
    exact (dq_at d (k0_pay7 x g gw) r j).trans (congrArg (HMul.hMul (α := EReal) (d (ix2 r j))) (gate_at x g gw r j))
  · rw [outsAt0_B m c t h0]
    generalize iblk m c 0 t = d, iblk m c 1 t = x, iblk m c 2 t = p, iblk m c 3 t = g, iblk m c 4 t = gw, iblk m c 5 t = w, iblk m c 6 t = wo
    frame_out
    exact (dq_at d (k0_pay7 x g gw) r j).trans (congrArg (HMul.hMul (α := EReal) (d (ix2 r j))) (gate_at x g gw r j))

/-- One tile's part of the gradient of the normalisation's scale. -/
def dgt (c : Dev nD) (t : Fin cfg0.N) (j : Fin 1024) : EReal := ∑ r : Fin 512, onrow (iblk m c 0 t) (iblk m c 1 t) (iblk m c 2 t) (iblk m c 3 t) (iblk m c 4 t) (iblk m c 5 t) dg r j

theorem dg_A (c : Dev nD) (t : Fin cfg0.N) (h0 : t.1 % 16 = 0) (i : Fin 1) (j : Fin 1024) : (outsAt0 m c t.1 t.2).2.2.2.2.2 (ix2 i j)
    = 0 + dgt m c t j := by
  rw [outsAt0_A m c t h0, dgt]
  generalize iblk m c 0 t = d, iblk m c 1 t = x, iblk m c 2 t = p, iblk m c 3 t = g, iblk m c 4 t = gw, iblk m c 5 t = w, iblk m c 6 t = wo
  frame_out
  refine (dg_at d x p g gw w _ i j).trans ?_
  rw [zero_at]

theorem dg_B (c : Dev nD) (t : Fin cfg0.N) (h0 : ¬ t.1 % 16 = 0) (i : Fin 1) (j : Fin 1024) : (outsAt0 m c t.1 t.2).2.2.2.2.2 (ix2 i j)
    = (outsAt0 m c (t.val - 1) (Nat.lt_of_le_of_lt (Nat.sub_le _ _) t.isLt)).2.2.2.2.2 (ix2 i j) + dgt m c t j := by
  rw [outsAt0_B m c t h0, dgt]
  generalize iblk m c 0 t = d, iblk m c 1 t = x, iblk m c 2 t = p, iblk m c 3 t = g, iblk m c 4 t = gw, iblk m c 5 t = w, iblk m c 6 t = wo
  generalize (outsAt0 m c (t.val - 1) (Nat.lt_of_le_of_lt (Nat.sub_le _ _) t.isLt)).2.2.2.2.2 = o
  frame_out
  exact dg_at d x p g gw w o i j

/-! ## The whole arrays -/

theorem idx : ∀ t : Fin cfg0.N, win0_0.index t = ![t.val, 0] ∧ win0_1.index t = ![t.val, 0] ∧ win0_2.index t = ![1, t.val, 0]
    ∧ win0_3.index t = ![1, 0, 0] ∧ win0_4.index t = ![0, 0, 0] ∧ win0_5.index t = ![0, 0, 0, 0] ∧ win0_6.index t = ![0, 0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![0, 0] := (by decide +kernel : ∀ t : Fin grid0.N, _)

theorem row_lt (t : Fin cfg0.N) (r : Fin 512) : 512 * t.val + r < 8192 := by have := lt_of_lt_of_eq t.isLt N_0; omega

/-- Row `r` of the arguments under a function of rows. -/
abbrev ofrow {α : Sort _} (f : (Fin 1024 → EReal) → (Fin 1024 → EReal) → (Fin 1024 → EReal) → (Fin 1024 → Fin 1024 → EReal) → (Fin 256 → EReal)
    → (Fin 256 → Fin 1024 → EReal) → α) (d x : FVec Ideal S8192x1024 .f32) (p : FVec Ideal S4x8192x256 .f32) (g : FVec Ideal S4x1024 .f32)
    (gw : FVec Ideal S4x1024x1024 .f32) (pw : FVec Ideal S4x256x1024 .f32) (r : Fin 8192) : α :=
  f (fun k => d (ix2 r k)) (fun k => x (ix2 r k)) (fun k => g (ix2 1 k)) (fun k j => gw (ix3 1 k j)) (fun k => p (ix3 1 r k)) (fun k j => pw (ix3 1 k j))

theorem b0 (c : Dev nD) (t : Fin cfg0.N) (r : Fin 512) : (fun k : Fin 1024 => iblk m c 0 t (ix2 r k)) = fun k : Fin 1024 => m ((c : Thread nD τ).loc main_arg0) (ix2 ⟨512 * t + r, row_lt t r⟩ k) := by
  funext k
  blk_point [iblk, V, idx t]

theorem b1 (c : Dev nD) (t : Fin cfg0.N) (r : Fin 512) : (fun k : Fin 1024 => iblk m c 1 t (ix2 r k)) = fun k : Fin 1024 => m ((c : Thread nD τ).loc main_arg1) (ix2 ⟨512 * t + r, row_lt t r⟩ k) := by
  funext k
  blk_point [iblk, V, idx t]

theorem b2 (c : Dev nD) (t : Fin cfg0.N) (r : Fin 512) : (fun k : Fin 256 => iblk m c 2 t (ix3 0 r k)) = fun k : Fin 256 => m ((c : Thread nD τ).loc main_arg2) (ix3 1 ⟨512 * t + r, row_lt t r⟩ k) := by
  funext k
  blk_point [iblk, V, idx t]

theorem b3 (c : Dev nD) (t : Fin cfg0.N) : (fun k : Fin 1024 => iblk m c 3 t (ix3 0 0 k)) = fun k : Fin 1024 => m ((c : Thread nD τ).loc main_arg3) (ix2 1 k) := by
  funext k
  blk_point [iblk, V, idx t]

theorem b4 (c : Dev nD) (t : Fin cfg0.N) : (fun (k j : Fin 1024) => iblk m c 4 t (ix3 0 k j)) = fun (k j : Fin 1024) => m ((c : Thread nD τ).loc main_arg4) (ix3 1 k j) := by
  funext k j
  blk_point [iblk, V, idx t]

theorem b5 (c : Dev nD) (t : Fin cfg0.N) : (fun (k : Fin 256) (j : Fin 1024) => iblk m c 5 t (ix4 0 ⟨j / 256, by omega⟩ k ⟨j % 256, by omega⟩)) = fun (k : Fin 256) (j : Fin 1024) => m ((c : Thread nD τ).loc main_arg5) (ix3 1 k j) := by
  funext k j
  blk_point [iblk, V, idx t]

theorem b6 (c : Dev nD) (t : Fin cfg0.N) : (fun (e : Fin 2048) (k : Fin 1024) => iblk m c 6 t (ix3 0 e k)) = fun (e : Fin 2048) (k : Fin 1024) => m ((c : Thread nD τ).loc main_arg6) (ix3 1 e k) := by
  funext e k
  blk_point [iblk, V, idx t]

theorem onrow_eq {α : Sort _} (f : (Fin 1024 → EReal) → (Fin 1024 → EReal) → (Fin 1024 → EReal) → (Fin 1024 → Fin 1024 → EReal) → (Fin 256 → EReal)
    → (Fin 256 → Fin 1024 → EReal) → α) (c : Dev nD) (t : Fin cfg0.N) (r : Fin 512) :
    onrow (iblk m c 0 t) (iblk m c 1 t) (iblk m c 2 t) (iblk m c 3 t) (iblk m c 4 t) (iblk m c 5 t) f r = ofrow f (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨512 * t + r, row_lt t r⟩ :=
  congr (congr (congr (congr (congrArg₂ f (b0 m c t r) (b1 m c t r)) (b3 m c t)) (b4 m c t)) (b2 m c t r)) (b5 m c t)

theorem final7 (c : Dev nD) : (dats m 0 c).arrAt 7 cfg0.N
    = fun y : S8192x1024.Idx => ofrow dx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 0) (y 1) := by
  refine (dats m 0 c).arrAt_eq_of_covers 7 _ (by decide +kernel) fun t hf y => ?_
  blk_simp
  rw [after0_7]
  obtain ⟨r, j, rfl⟩ : ∃ (r : Fin 512) (j : Fin 1024), y = ix2 r j := ⟨y 0, y 1, by blk_ext⟩
  have e : (win0_7.blk t).view.emb (ix2 r j) = ix2 ⟨512 * t + r, row_lt t r⟩ j := by blk_ext [idx t]
  rw [e, dx_tile, onrow_eq]
  rfl

theorem final8 (c : Dev nD) : (dats m 0 c).arrAt 8 cfg0.N
    = fun y : S8192x2048.Idx => ofrow du (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 0) (fun e k => m ((c : Thread nD τ).loc main_arg6) (ix3 1 e k)) (y 1) := by
  refine (dats m 0 c).arrAt_eq_of_covers 8 _ (by decide +kernel) fun t hf y => ?_
  blk_simp
  rw [after0_8]
  obtain ⟨r, e, rfl⟩ : ∃ (r : Fin 512) (e : Fin 2048), y = ix2 r e := ⟨y 0, y 1, by blk_ext⟩
  have h : (win0_8.blk t).view.emb (ix2 r e) = ix2 ⟨512 * t + r, row_lt t r⟩ e := by blk_ext [idx t]
  rw [h, du_tile, onrow_eq, b6]
  rfl

theorem final9 (c : Dev nD) : (dats m 0 c).arrAt 9 cfg0.N
    = fun y : S8192x1024.Idx => hrow (fun k => m ((c : Thread nD τ).loc main_arg1) (ix2 (y 0) k)) (fun k => m ((c : Thread nD τ).loc main_arg3) (ix2 1 k)) (y 1) := by
  refine (dats m 0 c).arrAt_eq_of_covers 9 _ (by decide +kernel) fun t hf y => ?_
  blk_simp
  rw [after0_9]
  obtain ⟨r, j, rfl⟩ : ∃ (r : Fin 512) (j : Fin 1024), y = ix2 r j := ⟨y 0, y 1, by blk_ext⟩
  have e : (win0_9.blk t).view.emb (ix2 r j) = ix2 ⟨512 * t + r, row_lt t r⟩ j := by blk_ext [idx t]
  rw [e, rn_tile, b1, b3]
  rfl

theorem final10 (c : Dev nD) : (dats m 0 c).arrAt 10 cfg0.N
    = fun y : S8192x1024.Idx => ofrow ds (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 0) (y 1) := by
  refine (dats m 0 c).arrAt_eq_of_covers 10 _ (by decide +kernel) fun t hf y => ?_
  blk_simp
  rw [after0_10]
  obtain ⟨r, j, rfl⟩ : ∃ (r : Fin 512) (j : Fin 1024), y = ix2 r j := ⟨y 0, y 1, by blk_ext⟩
  have e : (win0_10.blk t).view.emb (ix2 r j) = ix2 ⟨512 * t + r, row_lt t r⟩ j := by blk_ext [idx t]
  rw [e, ds_tile, onrow_eq]
  rfl

theorem final11 (c : Dev nD) : (dats m 0 c).arrAt 11 cfg0.N
    = fun y : S8192x1024.Idx => HMul.hMul (α := EReal) (m ((c : Thread nD τ).loc main_arg0) (ix2 (y 0) (y 1))) (gate (fun k => m ((c : Thread nD τ).loc main_arg1) (ix2 (y 0) k)) (fun k => m ((c : Thread nD τ).loc main_arg3) (ix2 1 k)) (fun k j => m ((c : Thread nD τ).loc main_arg4) (ix3 1 k j)) (y 1)) := by
  refine (dats m 0 c).arrAt_eq_of_covers 11 _ (by decide +kernel) fun t hf y => ?_
  blk_simp
  rw [after0_11]
  obtain ⟨r, j, rfl⟩ : ∃ (r : Fin 512) (j : Fin 1024), y = ix2 r j := ⟨y 0, y 1, by blk_ext⟩
  have e : (win0_11.blk t).view.emb (ix2 r j) = ix2 ⟨512 * t + r, row_lt t r⟩ j := by blk_ext [idx t]
  rw [e, dq_tile, b1, b3, b4, congrFun (b0 m c t r) j]
  rfl

theorem final12 (c : Dev nD) : (dats m 0 c).arrAt 12 cfg0.N
    = fun y : S1x1024.Idx => ∑ r : Fin 8192, ofrow dg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r (y 1) := by
  refine (dats m 0 c).arrAt_eq_of_covers 12 _ (by decide +kernel) fun t hf y => ?_
  blk_simp
  rw [after0_12]
  obtain ⟨i, j, rfl⟩ : ∃ (i : Fin 1) (j : Fin 1024), y = ix2 i j := ⟨y 0, y 1, by blk_ext⟩
  have e : (win0_12.blk t).view.emb (ix2 i j) = ix2 0 j := by blk_ext [idx t]
  rw [e, Pipeline.eq_sum_fin_of_reset_step_apply_of_flush (fun n h => (outsAt0 m c n h).2.2.2.2.2) 16 (fun _ => 0)
    (fun t y => dgt m c t (y 1))
    (fun t h y => by obtain ⟨i, j, rfl⟩ : ∃ (i : Fin 1) (j : Fin 1024), y = ix2 i j := ⟨y 0, y 1, by blk_ext⟩
                     exact dg_A m c t h i j)
    (fun t h y => by obtain ⟨i, j, rfl⟩ : ∃ (i : Fin 1) (j : Fin 1024), y = ix2 i j := ⟨y 0, y 1, by blk_ext⟩
                     exact dg_B m c t h i j)
    t ((flush0_12 t).mp hf) _, zero_add]
  refine Fin.sum_mul_add_congr fun s k hl => ?_
  have q : ∀ h, (⟨512 * (16 * (t.val / 16) + s.val) + k.val, h⟩ : Fin 8192) = ⟨s.val * 512 + k.val, hl⟩ := fun h =>
    Fin.ext (by have := lt_of_lt_of_eq t.isLt N_0; simp only; omega)
  refine (congrFun (onrow_eq m dg c _ k) j).trans ?_
  simp only [q]
  rfl

end Cert.KernelBoutIdeal.Gen

namespace Cert.BwdOut
open Idealize.ShloMosaic Idealize.ShloMosaic.TcCoe Idealize.SL.Sem Cert.Rms Cert.KernelBoutIdeal.Gen

/-! ## The reference's results as the kernel's -/

section
open Cert.ReferenceBoutIdeal Cert.ReferenceBoutIdeal.Gen

variable (d x : FVec Ideal S8192x1024 .f32) (p : FVec Ideal S4x8192x256 .f32) (g : FVec Ideal S4x1024 .f32) (gw : FVec Ideal S4x1024x1024 .f32)
  (pw : FVec Ideal S4x256x1024 .f32) (wo : FVec Ideal S4x2048x1024 .f32)

theorem dx_eq (r : Fin 8192) (j : Fin 1024) :
    dxs d (res x wo) g (dhs d (res x wo) p g gw pw) (ix2 r j) = ofrow dx d x p g gw pw r j := by
  rw [res_eq, dxs_at]
  simp only [dhs_at]
  exact dx_auto (d := fun k => d (ix2 r k)) (x := fun k => x (ix2 r k)) (g := fun k => g (ix2 1 k)) (W := fun k j => gw (ix3 1 k j))
    (p := fun k => p (ix3 1 r k)) (pw := fun k j => pw (ix3 1 k j)) j

theorem dg_eq (i : Fin 1) (j : Fin 1024) : dgs (res x wo) (dhs d (res x wo) p g gw pw) (ix2 i j) = ∑ r : Fin 8192, ofrow dg d x p g gw pw r j := by
  rw [res_eq, dgs_at]
  simp only [dhs_at]
  rfl

theorem dsb_eq (r : Fin 8192) (j : Fin 1024) : dsb d (res x wo) p g gw pw (ix2 r j) = ofrow ds d x p g gw pw r j := by
  rw [res_eq]
  exact dsb_at d x p g gw pw r j

theorem dq_eq (r : Fin 8192) (j : Fin 1024) : dqs d (res x wo) g gw (ix2 r j)
      = (d (ix2 r j) : EReal) * FwdOut.gate (fun k => x (ix2 r k)) (fun k => g (ix2 1 k)) (fun k j => gw (ix3 1 k j)) j := by
  rw [res_eq]
  exact dqs_at d x g gw r j
end

set_option maxHeartbeats 1000000 in
theorem algebraic : Cert.algebraic_KernelBoutIdeal_ReferenceBoutIdeal := by
  intro m ρ m' ρ' _ hagree
  refine ⟨fun c => (dats m 0 c).arrAt 7 Cert.KernelBoutIdeal.cfg0.N, fun c => (dats m 0 c).arrAt 8 Cert.KernelBoutIdeal.cfg0.N,
    fun c => (dats m 0 c).arrAt 9 Cert.KernelBoutIdeal.cfg0.N, fun c => (dats m 0 c).arrAt 10 Cert.KernelBoutIdeal.cfg0.N,
    fun c => (dats m 0 c).arrAt 11 Cert.KernelBoutIdeal.cfg0.N, fun c => (dats m 0 c).arrAt 12 Cert.KernelBoutIdeal.cfg0.N,
    Cert.KernelBoutIdeal.Value.run_blocks m ρ, ?_⟩
  refine (θ_run Cert.ReferenceBoutIdeal.defs _ _).mono (fun r h c => ⟨(h c).1.trans ?_, (h c).2.1.trans ?_, (h c).2.2.1.trans ?_,
    (h c).2.2.2.1.trans ?_, (h c).2.2.2.2.1.trans ?_, (h c).2.2.2.2.2.1.trans ?_, (h c).2.2.2.2.2.2⟩)
    (Cert.ReferenceBoutIdeal.Value.run (F := Ideal) m' ρ')
  · refine Eq.trans ?_ (final7 m c).symm
    refine (Cert.ReferenceBoutIdeal.Gen.out0 m' c).trans ?_
    unfold Cert.ReferenceBoutIdeal.Gen.dhm
    rw [(hagree c).1, (hagree c).2.1, (hagree c).2.2.1, (hagree c).2.2.2.1, (hagree c).2.2.2.2.1, (hagree c).2.2.2.2.2.1, (hagree c).2.2.2.2.2.2]
    funext y
    obtain ⟨r, j, rfl⟩ : ∃ (r : Fin 8192) (j : Fin 1024), y = ix2 r j := ⟨y 0, y 1, by blk_ext⟩
    exact dx_eq _ _ _ _ _ _ _ r j
  · refine Eq.trans ?_ (final8 m c).symm
    refine (Cert.ReferenceBoutIdeal.Gen.out1 m' c).trans ?_
    unfold Cert.ReferenceBoutIdeal.Gen.dhm
    rw [(hagree c).1, (hagree c).2.1, (hagree c).2.2.1, (hagree c).2.2.2.1, (hagree c).2.2.2.2.1, (hagree c).2.2.2.2.2.1, (hagree c).2.2.2.2.2.2]
    funext y
    obtain ⟨r, e, rfl⟩ : ∃ (r : Fin 8192) (e : Fin 2048), y = ix2 r e := ⟨y 0, y 1, by blk_ext⟩
    refine (Cert.ReferenceBoutIdeal.Gen.dus_at (m ((c : Thread Cert.KernelBoutIdeal.nD Cert.KernelBoutIdeal.τ).loc Cert.KernelBoutIdeal.main_arg6)) _ r e).trans ?_
    exact Fin.sum_fin_congr fun k => congrArg (HMul.hMul (α := EReal) · _) (dx_eq _ _ _ _ _ _ _ r k)
  · refine Eq.trans ?_ (final9 m c).symm
    rw [(hagree c).2.1, (hagree c).2.2.2.1]
    funext y
    obtain ⟨r, j, rfl⟩ : ∃ (r : Fin 8192) (j : Fin 1024), y = ix2 r j := ⟨y 0, y 1, by blk_ext⟩
    exact Cert.ReferenceBoutIdeal.Gen.rns_at _ _ r j
  · refine Eq.trans ?_ (final10 m c).symm
    refine (Cert.ReferenceBoutIdeal.Gen.out3 m' c).trans ?_
    rw [(hagree c).1, (hagree c).2.1, (hagree c).2.2.1, (hagree c).2.2.2.1, (hagree c).2.2.2.2.1, (hagree c).2.2.2.2.2.1, (hagree c).2.2.2.2.2.2]
    funext y
    obtain ⟨r, j, rfl⟩ : ∃ (r : Fin 8192) (j : Fin 1024), y = ix2 r j := ⟨y 0, y 1, by blk_ext⟩
    exact dsb_eq _ _ _ _ _ _ _ r j
  · refine Eq.trans ?_ (final11 m c).symm
    rw [(hagree c).1, (hagree c).2.1, (hagree c).2.2.2.1, (hagree c).2.2.2.2.1, (hagree c).2.2.2.2.2.2]
    funext y
    obtain ⟨r, j, rfl⟩ : ∃ (r : Fin 8192) (j : Fin 1024), y = ix2 r j := ⟨y 0, y 1, by blk_ext⟩
    exact dq_eq _ _ _ _ _ r j
  · refine Eq.trans ?_ (final12 m c).symm
    refine (Cert.ReferenceBoutIdeal.Gen.out5 m' c).trans ?_
    unfold Cert.ReferenceBoutIdeal.Gen.dhm
    rw [(hagree c).1, (hagree c).2.1, (hagree c).2.2.1, (hagree c).2.2.2.1, (hagree c).2.2.2.2.1, (hagree c).2.2.2.2.2.1, (hagree c).2.2.2.2.2.2]
    funext y
    obtain ⟨r, j, rfl⟩ : ∃ (r : Fin 1) (j : Fin 1024), y = ix2 r j := ⟨y 0, y 1, by blk_ext⟩
    exact dg_eq _ _ _ _ _ _ _ r j

end Cert.BwdOut
end
-- ==== Proof.FwdSguRow.lean ====
/- The gated mixer of one sequence cut into chunks of 128 rows, number by number. -/
module

public import Idealize.ShloMosaic.PureOps.Ideal
public import Idealize.ShloMosaic.Lib.IdealHost
public import Idealize.ShloMosaic.Lib.Pointwise
public import proofs.«01_k».proof.Proof.Reals

@[expose] public section

noncomputable section

namespace Cert.FwdSgu
open Idealize.ShloMosaic Cert.Reals

/-- The exact GELU. -/
def gel (x : EReal) : EReal := Ideal.ofBits .f32 0x3F000000#32 * x * (1 + Ideal.erf (x * (((Real.sqrt 2)⁻¹ : ℝ) : EReal)))

/-- GELU as `x/2 · erfc (-x/√2)`. -/
theorem gel_erfc (x : EReal) :
    Ideal.ofBits .f32 0x3F000000#32 * x * Ideal.erfc (Ideal.div (-x) (Ideal.sqrt (Ideal.ofBits .f32 0x40000000#32))) = gel x := by
  rw [bits_two, sqrt_real (by norm_num), Ideal.div_coe (by positivity), EReal.neg_mul, Ideal.erfc_neg, one_div]; rfl

/-- A row less its mean. -/
def dev (f : Fin 2048 → EReal) (j : Fin 2048) : EReal := f j - Ideal.div (∑ k, f k) (Ideal.ofBits .f32 0x45000000#32)

/-- The normalised row, scaled and shifted. -/
def lnorm (f g b : Fin 2048 → EReal) (j : Fin 2048) : EReal :=
  dev f j * Ideal.rsqrt (Ideal.div (∑ k, dev f k * dev f k) (Ideal.ofBits .f32 0x45000000#32) + Ideal.ofBits .f32 0x358637BD#32) * g j + b j

/-- One mixed number: a row of the lower triangle of a group's matrix against a column of a chunk, and the row's bias. -/
def mixed (w v : Fin 128 → EReal) (t : Fin 128) (b : EReal) : EReal :=
  (∑ s : Fin 128, (if (s : ℕ) ≤ t then w s else 0) * v s) + b

/-- One number of the result. -/
def gated (a mx z : EReal) : EReal := gel a * mx * (z * Ideal.logistic z)

/-- Row `r`, column `j` of the result, from the three parts of the projection, the scale and shift, the groups' matrices and biases. -/
def out {n : ℕ} (A B Z : Fin n → Fin 2048 → EReal) (g b : Fin 2048 → EReal) (W : Fin 8 → Fin 128 → Fin 128 → EReal) (c : Fin 8 → Fin 128 → EReal)
    (h : 128 ∣ n) (r : Fin n) (j : Fin 2048) : EReal :=
  gated (A r j) (mixed (W ⟨j / 256, by omega⟩ ⟨r % 128, by omega⟩)
    (fun s => lnorm (fun k => gel (B ⟨r / 128 * 128 + s, by omega⟩ k)) g b j) ⟨r % 128, by omega⟩ (c ⟨j / 256, by omega⟩ ⟨r % 128, by omega⟩)) (Z r j)

end Cert.FwdSgu
end
-- ==== Proof.FwdSguRef.lean ====
/- The gated mixer as the reference writes it, read at an index. -/
module

public import proofs.«01_k».proof.Defs
public import proofs.«01_k».proof.Proof.FwdSguRow
public import proofs.«01_k».proof.Proof.Gen.ReferenceMixIdeal.Run
public import Idealize.ShloMosaic.Lib.Pointwise
public import Idealize.ShloMosaic.Lib.IdealHost

@[expose] public section

set_option maxRecDepth 16384

noncomputable section

namespace Cert.ReferenceMixIdeal.Gen
open Idealize.ShloMosaic Idealize.ShloMosaic.TcCoe Idealize.SL.Sem Idealize.ShloMosaic.StableHlo Cert.Reals Cert.FwdSgu

/-- Columns 0 to 2047 of the projection. -/
def colA (pr : FVec Ideal S8192x6144 .bf16) : FVec Ideal S2x4096x2048 .f32 :=
  extractStridedSlice S2x4096x2048 ![0, 0, 0] (shapeCast _ (extf .f32 pr bitsLt_bf16_f32) shapeCasts_S8192x6144_S2x4096x6144) slices_S2x4096x6144_S2x4096x2048_0_0_0

/-- Columns 2048 to 4095 of the projection. -/
def colB (pr : FVec Ideal S8192x6144 .bf16) : FVec Ideal S2x4096x2048 .f32 :=
  extractStridedSlice S2x4096x2048 ![0, 0, 2048] (shapeCast _ (extf .f32 pr bitsLt_bf16_f32) shapeCasts_S8192x6144_S2x4096x6144) slices_S2x4096x6144_S2x4096x2048_0_0_2048

/-- Columns 4096 to 6143 of the projection. -/
def colZ (pr : FVec Ideal S8192x6144 .bf16) : FVec Ideal S2x4096x2048 .f32 :=
  extractStridedSlice S2x4096x2048 ![0, 0, 4096] (shapeCast _ (extf .f32 pr bitsLt_bf16_f32) shapeCasts_S8192x6144_S2x4096x6144) slices_S2x4096x6144_S2x4096x2048_0_0_4096

/-- GELU. -/
def gels (x : FVec Ideal S2x4096x2048 .f32) : FVec Ideal S2x4096x2048 .f32 :=
  mulf (mulf (broadcastInDim S2x4096x2048 ![] bcast_S_S2x4096x2048 (constant S_ .f32 0x3F000000#32)) x) (Host.erfc (Host.divf (Host.negf x) (broadcastInDim S2x4096x2048 ![] bcast_S_S2x4096x2048 (Host.sqrt (constant S_ .f32 0x40000000#32)))))

/-- The rows less their means. -/
def devs (x : FVec Ideal S2x4096x2048 .f32) : FVec Ideal S2x4096x2048 .f32 :=
  subf x (broadcastInDim S2x4096x2048 ![0, 1, 2] bcast_S2x4096x1_S2x4096x2048_0_1_2 (Host.divf (broadcastInDim S2x4096x1 ![0, 1] bcast_S2x4096_S2x4096x1_0_1 (Host.reduceAdd x (constant S_ .f32 0x00000000#32) reducesTo_S2x4096x2048_S2x4096_d2 h_S_)) (broadcastInDim S2x4096x1 ![] bcast_S_S2x4096x1 (constant S_ .f32 0x45000000#32))))

/-- The reciprocals of the rows' standard deviations. -/
def rsds (x : FVec Ideal S2x4096x2048 .f32) : FVec Ideal S2x4096x1 .f32 :=
  Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))

/-- The layer's row of a parameter, repeated. -/
def rows (x : FVec Ideal S2x2048 .f32) : FVec Ideal S2x4096x2048 .f32 :=
  broadcastInDim S2x4096x2048 ![0, 1, 2] bcast_S1x1x2048_S2x4096x2048_0_1_2 (broadcastInDim S1x1x2048 ![2] bcast_S2048_S1x1x2048_2 (shapeCast _ (extractStridedSlice S1x2048 ![1, 0] x slices_S2x2048_S1x2048_1_0) shapeCasts_S1x2048_S2048))

/-- The normalised rows, scaled and shifted. -/
def norms (x : FVec Ideal S2x4096x2048 .f32) (lg lb : FVec Ideal S2x2048 .f32) : FVec Ideal S2x4096x2048 .f32 :=
  addf (mulf (mulf x (broadcastInDim S2x4096x2048 ![0, 1, 2] bcast_S2x4096x1_S2x4096x2048_0_1_2 (rsds x))) (rows lg)) (rows lb)

/-- The lower triangles of the layer's matrices. -/
def lows (w : FVec Ideal S2x8x128x128 .f32) : FVec Ideal S8x128x128 .f32 :=
  select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (shapeCast _ (extractStridedSlice S1x8x128x128 ![1, 0, 0, 0] w slices_S2x8x128x128_S1x8x128x128_1_0_0_0) shapeCasts_S1x8x128x128_S8x128x128) (broadcastInDim S8x128x128 ![] bcast_S_S8x128x128 (constant S_ .f32 0x00000000#32))

/-- The layer's biases, repeated. -/
def biases (sb : FVec Ideal S2x8x128 .f32) : FVec Ideal S2x32x128x8x256 .f32 :=
  broadcastInDim S2x32x128x8x256 ![0, 1, 2, 3, 4] bcast_S1x1x128x8x1_S2x32x128x8x256_0_1_2_3_4 (broadcastInDim S1x1x128x8x1 ![2, 3] bcast_S128x8_S1x1x128x8x1_2_3 (transpose S128x8 [1, 0] (shapeCast _ (extractStridedSlice S1x8x128 ![1, 0, 0] sb slices_S2x8x128_S1x8x128_1_0_0) shapeCasts_S1x8x128_S8x128) transposes_S8x128_S128x8_1_0))

/-- The mixed values. -/
def mixes (v : FVec Ideal S2x4096x2048 .f32) (l : FVec Ideal S8x128x128 .f32) (b : FVec Ideal S2x32x128x8x256 .f32) : FVec Ideal S2x4096x2048 .f32 :=
  shapeCast _ (addf (transpose S2x32x128x8x256 [1, 2, 4, 0, 3] (Host.dotGeneral dot_S2x32x128x8x256_S8x128x128_S8x2x32x256x128_2_2_014_1_3_0 none (shapeCast _ v shapeCasts_S2x4096x2048_S2x32x128x8x256) l) transposes_S8x2x32x256x128_S2x32x128x8x256_1_2_4_0_3) b) shapeCasts_S2x32x128x8x256_S2x4096x2048

/-- SiLU. -/
def silus (x : FVec Ideal S2x4096x2048 .f32) : FVec Ideal S2x4096x2048 .f32 :=
  mulf x (Host.divf (broadcastInDim S2x4096x2048 ![] bcast_S_S2x4096x2048 (constant S_ .f32 0x3F800000#32)) (addf (broadcastInDim S2x4096x2048 ![] bcast_S_S2x4096x2048 (constant S_ .f32 0x3F800000#32)) (Host.exp (Host.negf x))))

/-- The result. -/
def result (pr : FVec Ideal S8192x6144 .bf16) (lg lb : FVec Ideal S2x2048 .f32) (w : FVec Ideal S2x8x128x128 .f32)
    (sb : FVec Ideal S2x8x128 .f32) : FVec Ideal S8192x2048 .bf16 :=
  truncf .bf16 (shapeCast _ (mulf (mulf (gels (colA pr)) (mixes (norms (devs (gels (colB pr))) lg lb) (lows w) (biases sb))) (silus (colZ pr))) shapeCasts_S2x4096x2048_S8192x2048) bitsLt_bf16_f32

/-! ## At an index -/

section
variable (pr : FVec Ideal S8192x6144 .bf16) (q : Fin 2) (r : Fin 4096) (j : Fin 2048)

theorem colA_at : colA pr (ix3 q r j) = pr (ix2 ⟨q * 4096 + r, by omega⟩ ⟨j, by omega⟩) := by
  pointwise [colA]
theorem colB_at : colB pr (ix3 q r j) = pr (ix2 ⟨q * 4096 + r, by omega⟩ ⟨2048 + j, by omega⟩) := by
  pointwise [colB]
theorem colZ_at : colZ pr (ix3 q r j) = pr (ix2 ⟨q * 4096 + r, by omega⟩ ⟨4096 + j, by omega⟩) := by
  pointwise [colZ]

variable (x : FVec Ideal S2x4096x2048 .f32)

theorem gels_at : gels x (ix3 q r j) = gel (x (ix3 q r j)) := by
  pointwise [gels]
  exact gel_erfc _
theorem devs_at : devs x (ix3 q r j) = dev (fun k => x (ix3 q r k)) j := by
  pointwise [devs, dev]
theorem rsds_at (i : Fin 1) : rsds x (ix3 q r i) = Ideal.rsqrt (Ideal.div (∑ k : Fin 2048, x (ix3 q r k) * x (ix3 q r k)) (Ideal.ofBits .f32 0x45000000#32)
    + Ideal.ofBits .f32 0x358637BD#32) := by
  pointwise [rsds]
theorem rows_at (g : FVec Ideal S2x2048 .f32) : rows g (ix3 q r j) = g (ix2 1 j) := by
  pointwise [rows]
theorem norms_at (g b : FVec Ideal S2x2048 .f32) : norms (devs x) g b (ix3 q r j)
    = lnorm (fun k => x (ix3 q r k)) (fun k => g (ix2 1 k)) (fun k => b (ix2 1 k)) j := by
  have e := devs_at q r (x := x)
  generalize devs x = y at *
  pointwise [norms]
  rw [rsds_at, rows_at, rows_at]
  simp only [e]
  rfl
theorem lows_at (w : FVec Ideal S2x8x128x128 .f32) (e : Fin 8) (t s : Fin 128) :
    lows w (ix3 e t s) = if (s : ℕ) ≤ t then w (ix4 1 e t s) else 0 := by
  pointwise [lows]
  rw [show IntOp.addi (BitVec.ofNat 32 t) 0#32 = BitVec.ofNat 32 t from BitVec.add_zero _, sge_small]
  split <;> rfl
theorem biases_at (b : FVec Ideal S2x8x128 .f32) (n : Fin 32) (t : Fin 128) (e : Fin 8) (k : Fin 256) :
    biases b (ix5 q n t e k) = b (ix3 1 e t) := by
  pointwise [biases]
theorem mixes_at (l : FVec Ideal S8x128x128 .f32) (b : FVec Ideal S2x32x128x8x256 .f32) : mixes x l b (ix3 q r j)
    = (∑ s : Fin 128, l (ix3 ⟨j / 256, by omega⟩ ⟨r % 128, by omega⟩ s) * x (ix3 q ⟨r / 128 * 128 + s, by omega⟩ j))
      + b (ix5 q ⟨r / 128, by omega⟩ ⟨r % 128, by omega⟩ ⟨j / 256, by omega⟩ ⟨j % 256, by omega⟩) := by
  pointwise [mixes]
  exact congrArg (· + _) (Finset.sum_congr rfl fun s _ => mul_comm _ _)
theorem silus_at : silus x (ix3 q r j) = x (ix3 q r j) * Ideal.logistic (x (ix3 q r j)) := by
  pointwise [silus]
  rfl
end

theorem result_at (pr : FVec Ideal S8192x6144 .bf16) (lg lb : FVec Ideal S2x2048 .f32) (w : FVec Ideal S2x8x128x128 .f32)
    (sb : FVec Ideal S2x8x128 .f32) (r : Fin 8192) (j : Fin 2048) : result pr lg lb w sb (ix2 r j)
      = out (fun r j => pr (ix2 r ⟨j, by omega⟩)) (fun r j => pr (ix2 r ⟨2048 + j, by omega⟩)) (fun r j => pr (ix2 r ⟨4096 + j, by omega⟩))
        (fun k => lg (ix2 1 k)) (fun k => lb (ix2 1 k)) (fun e t s => w (ix4 1 e t s)) (fun e t => sb (ix3 1 e t)) (by decide) r j := by
  have hA := gels_at (x := colA pr)
  have hB := norms_at (x := gels (colB pr)) (g := lg) (b := lb)
  have hm := mixes_at (x := norms (devs (gels (colB pr))) lg lb) (l := lows w) (b := biases sb)
  have hz := silus_at (x := colZ pr)
  unfold result
  generalize gels (colA pr) = a at *
  generalize silus (colZ pr) = z at *
  generalize norms (devs (gels (colB pr))) lg lb = n at *
  generalize mixes n (lows w) (biases sb) = x at *
  pointwise []
  have e0 : (r : ℕ) / 4096 * 4096 + r % 4096 = r := by omega
  have e1 (s : Fin 128) : (r : ℕ) / 4096 * 4096 + (r % 4096 / 128 * 128 + s) = r / 128 * 128 + s := by omega
  have e2 : (r : ℕ) % 4096 % 128 = r % 128 := by omega
  rw [hA, hm, hz, biases_at, colA_at, colZ_at]
  simp only [hB, lows_at, gels_at, colB_at, e0, e1, e2]
  rfl

theorem out0 (m : (ℓ : Loc nD τ sig) → Buf (Elt Ideal) ℓ) (c : Dev nD) : Value.res_out0 m c
    = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_out0 Value.res_main_v67
  rfl

end Cert.ReferenceMixIdeal.Gen
end
-- ==== Proof.FwdSgu.lean ====
/- The gated mixer of layer 1: 256 rows of the projection at a time, mixed in tiles of 128 rows and 256 columns. -/
module

public import proofs.«01_k».proof.Proof.FwdSguRef
public import proofs.«01_k».proof.Proof.Gen.KernelMixIdeal.Value
public import Idealize.ShloMosaic.Lib.Pipeline.ReadBack
public import Idealize.ShloMosaic.Lib.Pipeline.ValueKit

@[expose] public section

set_option maxRecDepth 16384

noncomputable section

namespace Cert.KernelMixIdeal.Gen
open Idealize.ShloMosaic Idealize.ShloMosaic.TcCoe Idealize.SL.Sem Cert.Reals Cert.FwdSgu

theorem k_sqrt2 : Named.named (F := Ideal) κ "inv_sqrt2" (φ := .f32) 0x3F3504F3#32 = (((Real.sqrt 2)⁻¹ : ℝ) : EReal) :=
  IdealRules.named_const.ideal_named_scalar _ _ _ _ rfl

/-! ## One block -/

theorem norm_at (x : Vec Ideal S256x2048 .bf16) (g b : Vec Ideal S1x1x2048 .f32) (r : Fin 256) (j : Fin 2048) : k0_pay4 x g b (ix2 r j)
    = lnorm (fun k => gel (x (ix2 r k))) (fun k => g (ix3 0 0 k)) (fun k => b (ix3 0 0 k)) j := by
  pointwise [k0_pay4]
  simp only [k_sqrt2]
  rfl

theorem mask_at (t s : Fin 128) : k0_pay5 (ix2 t s) = if (s : ℕ) ≤ t then 1#1 else 0#1 := by
  pointwise [k0_pay5]
  exact sge_small t s

/-- The group's matrix, cut out of the block of matrices and masked. -/
def lowG (w : Vec Ideal S1x8x128x128 .f32) (e : Fin 8) : FVec Ideal S128x128 .bf16 :=
  k0_pay6 (View.ld w (Rect.unit ![0, e, 0, 0] ![1, 1, 128, 128] (fun a => by fin_cases a <;> simp <;> omega)))

theorem lowG_at (w : Vec Ideal S1x8x128x128 .f32) (e : Fin 8) (t s : Fin 128) :
    lowG w e (ix2 t s) = if (s : ℕ) ≤ t then w (ix4 0 e t s) else 0 := by
  pointwise [lowG, k0_pay6]
  rw [mask_at]
  split <;> rfl

/-- The bias of a group, cut out of the block of biases. -/
def biasG (b : Vec Ideal S1x128x8 .f32) (e : Fin 8) : FVec Ideal S128x1 .f32 :=
  k0_pay7 (View.ld b (Rect.unit ![0, 0, e] ![1, 128, 1] (fun a => by fin_cases a <;> simp <;> omega)))

theorem biasG_at (b : Vec Ideal S1x128x8 .f32) (e : Fin 8) (t : Fin 128) (i : Fin 1) : biasG b e (ix2 t i) = b (ix3 0 t e) := by
  pointwise [biasG, k0_pay7]

theorem cuts : ∀ (c : Fin 2) (e : Fin 8), S256x2048.Slices ![128 * c.val, 256 * e.val] S128x256 := by decide

/-- A tile of the mixed values. -/
def tile (v : FVec Ideal S256x2048 .bf16) (w : Vec Ideal S1x8x128x128 .f32) (b : Vec Ideal S1x128x8 .f32) (c : Fin 2) (e : Fin 8) :
    FVec Ideal S128x256 .f32 :=
  shapeCast S128x256 (addf (matmul dot_S128x128_S128x256_S128x256_1_0_0_1_n_n none (lowG w e)
      (extractStridedSlice S128x256 ![128 * c.val, 256 * e.val] v (cuts c e)) (constant S128x256 .f32 0x00000000#32))
    (broadcastTo S128x256 (biasG b e) broadcasts_S128x1_S128x256)) shapeCasts_S128x256_S128x256

theorem tile_at (v : FVec Ideal S256x2048 .bf16) (w : Vec Ideal S1x8x128x128 .f32) (b : Vec Ideal S1x128x8 .f32) (c : Fin 2) (e : Fin 8)
    (t : Fin 128) (j : Fin 256) : tile v w b c e (ix2 t j)
      = mixed (fun s => w (ix4 0 e t s)) (fun s => v (ix2 ⟨128 * c + s, by omega⟩ ⟨256 * e + j, by omega⟩)) t (b (ix3 0 t e)) := by
  have h1 := lowG_at w e
  have h2 := biasG_at b e
  unfold tile
  generalize lowG w e = l at *
  generalize biasG b e = d at *
  pointwise [mixed]
  simp only [h1, h2]

/-- The place of a tile. -/
abbrev place (c : Fin 2) (e : Fin 8) : Rect S256x2048 :=
  Rect.unit ![128 * c.val, 256 * e.val] ![128, 256] (fun a => by fin_cases a <;> simp <;> omega)

theorem place_emb (c : Fin 2) (e : Fin 8) (t : Fin 128) (j : Fin 256) :
    (place c e).emb (ix2 t j) = ix2 ⟨128 * c + t, by omega⟩ ⟨256 * e + j, by omega⟩ := by
  blk_ext

/-- The tiles, the last stored first. -/
def order : List (Fin 2 × Fin 8) :=
  [(1, 7), (0, 7), (1, 6), (0, 6), (1, 5), (0, 5), (1, 4), (0, 4), (1, 3), (0, 3), (1, 2), (0, 2), (1, 1), (0, 1), (1, 0), (0, 0)]

theorem mem_order : ∀ c e, (c, e) ∈ order := by decide

/-- The block of the mixed values: its tiles, read back whole. -/
def mixB (v : FVec Ideal S256x2048 .bf16) (w : Vec Ideal S1x8x128x128 .f32) (b : Vec Ideal S1x128x8 .f32) : Vec Ideal S256x2048 .f32 :=
  (View.whole (cc0_scratch0 : Ref sig .tc)).readCov (Val := Elt Ideal) (s := S256x2048) (e := .f32)
    (order.map fun p => ⟨place p.1 p.2, tile v w b p.1 p.2⟩) (Rect.unit (s := S256x2048) ![0, 0] ![256, 2048] (by decide)).toLoadRect

theorem whole_idx (r : Fin 256) (j : Fin 2048) : (Rect.unit (s := S256x2048) ![0, 0] ![256, 2048] (by decide)).toLoadRect.idx (ix2 r j) = ix2 r j := by
  show (Rect.unit (s := S256x2048) ![0, 0] ![256, 2048] (by decide)).emb (ix2 r j) = _
  blk_ext

/-- One number of the mixed values of a block. -/
def mixN (v : FVec Ideal S256x2048 .bf16) (w : Vec Ideal S1x8x128x128 .f32) (b : Vec Ideal S1x128x8 .f32) (r : Fin 256) (j : Fin 2048) : EReal :=
  mixed (fun s => w (ix4 0 ⟨j / 256, by omega⟩ ⟨r % 128, by omega⟩ s)) (fun s => v (ix2 ⟨r / 128 * 128 + s, by omega⟩ j))
    ⟨r % 128, by omega⟩ (b (ix3 0 ⟨r % 128, by omega⟩ ⟨j / 256, by omega⟩))

theorem tile_mixN (v : FVec Ideal S256x2048 .bf16) (w : Vec Ideal S1x8x128x128 .f32) (b : Vec Ideal S1x128x8 .f32) (c : Fin 2) (e : Fin 8)
    (t : Fin 128) (j : Fin 256) : tile v w b c e (ix2 t j) = mixN v w b ⟨128 * c + t, by omega⟩ ⟨256 * e + j, by omega⟩ := by
  have h1 : (128 * (c : ℕ) + t) % 128 = t := by omega
  have h2 : (256 * (e : ℕ) + j) / 256 = e := by omega
  have h3 : (128 * (c : ℕ) + t) / 128 * 128 = 128 * c := by omega
  rw [tile_at, mixN]
  simp only [h1, h2, h3]

theorem mixB_at (v : FVec Ideal S256x2048 .bf16) (w : Vec Ideal S1x8x128x128 .f32) (b : Vec Ideal S1x128x8 .f32) (r : Fin 256) (j : Fin 2048) :
    mixB v w b (ix2 r j) = mixN v w b r j := by
  unfold mixB
  rw [View.readCov_eq_canon']
  refine (congrArg _ (whole_idx r j)).trans ?_
  refine View.canon_apply_of_pieces (Val := Elt Ideal) (e := .f32) (fun y : S256x2048.Idx => mixN v w b (y 0) (y 1)) _ ?_ (ix2 r j) ?_
  · intro p hp x
    obtain ⟨⟨c, e⟩, -, rfl⟩ := List.mem_map.mp hp
    obtain ⟨t, k, rfl⟩ : ∃ (t : Fin 128) (k : Fin 256), x = ix2 t k := ⟨x 0, x 1, by blk_ext⟩
    exact (tile_mixN v w b c e t k).trans (congrArg (fun y : S256x2048.Idx => mixN v w b (y 0) (y 1)) (place_emb c e t k)).symm
  · refine ⟨_, List.mem_map.mpr ⟨(⟨r / 128, by omega⟩, ⟨j / 256, by omega⟩), mem_order _ _, rfl⟩, ?_⟩
    have e : ix2 r j = (place ⟨r / 128, by omega⟩ ⟨j / 256, by omega⟩).emb (ix2 (⟨r % 128, by omega⟩ : Fin 128) (⟨j % 256, by omega⟩ : Fin 256)) := by
      rw [place_emb]; congr 1 <;> apply Fin.ext <;> simp <;> omega
    rw [e]
    exact (place _ _).idx_mem _

/-- The three parts of a block of the projection. -/
def partA (x : Vec Ideal S256x6144 .bf16) : Vec Ideal S256x2048 .bf16 :=
  View.ld x (Rect.unit ![0, 0] ![256, 2048] inb_S256x6144_S256x2048_0_0)
def partB (x : Vec Ideal S256x6144 .bf16) : Vec Ideal S256x2048 .bf16 :=
  View.ld x (Rect.unit ![0, 2048] ![256, 2048] inb_S256x6144_S256x2048_0_2048)
def partZ (x : Vec Ideal S256x6144 .bf16) : Vec Ideal S256x2048 .bf16 :=
  View.ld x (Rect.unit ![0, 4096] ![256, 2048] inb_S256x6144_S256x2048_0_4096)

theorem partA_at (x : Vec Ideal S256x6144 .bf16) (r : Fin 256) (j : Fin 2048) : partA x (ix2 r j) = x (ix2 r ⟨j, by omega⟩) := by
  pointwise [partA]; blk_ext
theorem partB_at (x : Vec Ideal S256x6144 .bf16) (r : Fin 256) (j : Fin 2048) : partB x (ix2 r j) = x (ix2 r ⟨2048 + j, by omega⟩) := by
  pointwise [partB]; blk_ext
theorem partZ_at (x : Vec Ideal S256x6144 .bf16) (r : Fin 256) (j : Fin 2048) : partZ x (ix2 r j) = x (ix2 r ⟨4096 + j, by omega⟩) := by
  pointwise [partZ]; blk_ext

theorem gate_at (a z : Vec Ideal S256x2048 .bf16) (mx : Vec Ideal S256x2048 .f32) (r : Fin 256) (j : Fin 2048) :
    k0_pay1 (k0_pay2 a) (k0_pay3 z) (Scalar.ofBits .f32 0x3F000000#32) mx (ix2 r j) = gated (a (ix2 r j)) (mx (ix2 r j)) (z (ix2 r j)) := by
  pointwise [k0_pay1, k0_pay2, k0_pay3]
  simp only [k_sqrt2]
  rfl

theorem block_at (x : Vec Ideal S256x6144 .bf16) (g b : Vec Ideal S1x1x2048 .f32) (w : Vec Ideal S1x8x128x128 .f32) (d : Vec Ideal S1x128x8 .f32)
    (r : Fin 256) (j : Fin 2048) :
    k0_pay1 (k0_pay2 (partA x)) (k0_pay3 (partZ x)) (Scalar.ofBits .f32 0x3F000000#32) (mixB (k0_pay4 (partB x) g b) w d) (ix2 r j)
      = out (fun r j => x (ix2 r ⟨j, by omega⟩)) (fun r j => x (ix2 r ⟨2048 + j, by omega⟩)) (fun r j => x (ix2 r ⟨4096 + j, by omega⟩))
        (fun k => g (ix3 0 0 k)) (fun k => b (ix3 0 0 k)) (fun e t s => w (ix4 0 e t s)) (fun e t => d (ix3 0 t e)) (by decide) r j := by
  rw [gate_at, mixB_at, partA_at, partZ_at]
  unfold mixN
  simp only [norm_at, partB_at]
  rfl

variable (m : (ℓ : Loc nD τ sig) → Buf (Elt Ideal) ℓ)

theorem outs_at (c : Dev nD) (t : Fin cfg0.N) (r : Fin 256) (j : Fin 2048) : outsAt0 m c t (ix2 r j)
    = out (fun r j => iblk m c 0 t (ix2 r ⟨j, by omega⟩)) (fun r j => iblk m c 0 t (ix2 r ⟨2048 + j, by omega⟩))
      (fun r j => iblk m c 0 t (ix2 r ⟨4096 + j, by omega⟩)) (fun k => iblk m c 1 t (ix3 0 0 k)) (fun k => iblk m c 2 t (ix3 0 0 k))
      (fun e p s => iblk m c 3 t (ix4 0 e p s)) (fun e p => iblk m c 4 t (ix3 0 p e)) (by decide) r j := by
  unfold outsAt0
  generalize iblk m c 0 t = x
  generalize iblk m c 1 t = g
  generalize iblk m c 2 t = b
  generalize iblk m c 3 t = w
  generalize iblk m c 4 t = d
  frame_out
  exact block_at x g b w d r j

theorem idx : ∀ t : Fin cfg0.N, win0_0.index t = ![t.val, 0] ∧ win0_1.index t = ![1, 0, 0] ∧ win0_2.index t = ![1, 0, 0]
    ∧ win0_3.index t = ![1, 0, 0, 0] ∧ win0_4.index t = ![1, 0, 0] ∧ win0_5.index t = ![t.val, 0] :=
  (by decide +kernel : ∀ t : Fin grid0.N, _)

theorem row_lt (t : Fin cfg0.N) (r : Fin 256) : 256 * t.val + r < 8192 := by have := lt_of_lt_of_eq t.isLt N_0; omega

/-- Row `r`, column `j` of the result, from the arguments. -/
def res (pr : FVec Ideal S8192x6144 .bf16) (lg lb : FVec Ideal S2x2048 .f32) (w : FVec Ideal S2x8x128x128 .f32)
    (sb : FVec Ideal S2x8x128 .f32) (r : Fin 8192) (j : Fin 2048) : EReal :=
  out (fun r j => pr (ix2 r ⟨j, by omega⟩)) (fun r j => pr (ix2 r ⟨2048 + j, by omega⟩)) (fun r j => pr (ix2 r ⟨4096 + j, by omega⟩))
    (fun k => lg (ix2 1 k)) (fun k => lb (ix2 1 k)) (fun e t s => w (ix4 1 e t s)) (fun e t => sb (ix3 1 e t)) (by decide) r j

theorem block_res (c : Dev nD) (t : Fin cfg0.N) (r : Fin 256) (j : Fin 2048) : outsAt0 m c t (ix2 r j)
    = res (m ((c : Thread nD τ).loc main_arg0)) (m ((c : Thread nD τ).loc main_arg1)) (m ((c : Thread nD τ).loc main_arg2))
      (m ((c : Thread nD τ).loc main_arg3)) (m ((c : Thread nD τ).loc main_arg4)) ⟨256 * t + r, row_lt t r⟩ j := by
  rw [outs_at]
  have hx (r : Fin 256) (k : Fin 6144) : iblk m c 0 t (ix2 r k) = m ((c : Thread nD τ).loc main_arg0) (ix2 ⟨256 * t + r, row_lt t r⟩ k) := by
    blk_point [iblk, V, idx t]
  have hg (k : Fin 2048) : iblk m c 1 t (ix3 0 0 k) = m ((c : Thread nD τ).loc main_arg1) (ix2 1 k) := by
    blk_point [iblk, V, idx t]
  have hb (k : Fin 2048) : iblk m c 2 t (ix3 0 0 k) = m ((c : Thread nD τ).loc main_arg2) (ix2 1 k) := by
    blk_point [iblk, V, idx t]
  have hw (e : Fin 8) (p s : Fin 128) : iblk m c 3 t (ix4 0 e p s) = m ((c : Thread nD τ).loc main_arg3) (ix4 1 e p s) := by
    blk_point [iblk, V, idx t]
  have hd (e : Fin 8) (p : Fin 128) : iblk m c 4 t (ix3 0 p e) = m ((c : Thread nD τ).loc main_arg4) (ix3 1 e p) := by
    blk_point [iblk, V, idx t]
  generalize iblk m c 0 t = x at *
  generalize iblk m c 1 t = g at *
  generalize iblk m c 2 t = b at *
  generalize iblk m c 3 t = w at *
  generalize iblk m c 4 t = d at *
  generalize m _ = pr at *
  generalize m _ = lg at *
  generalize m _ = lb at *
  generalize m _ = sw at *
  generalize m _ = sb at *
  have e1 : (256 * (t : ℕ) + r) % 128 = r % 128 := by omega
  have e2 (s : ℕ) : (256 * (t : ℕ) + r) / 128 * 128 + s = 256 * t + (r / 128 * 128 + s) := by omega
  unfold res out
  simp only [hx, hg, hb, hw, hd, e1, e2]

/-- The result array. -/
theorem final5 (c : Dev nD) : (dats m 0 c).arrAt 5 cfg0.N
    = fun y : S8192x2048.Idx => res (m ((c : Thread nD τ).loc main_arg0)) (m ((c : Thread nD τ).loc main_arg1)) (m ((c : Thread nD τ).loc main_arg2))
      (m ((c : Thread nD τ).loc main_arg3)) (m ((c : Thread nD τ).loc main_arg4)) (y 0) (y 1) := by
  refine (dats m 0 c).arrAt_eq_of_covers 5 _ (by decide +kernel) fun t hf y => ?_
  blk_simp
  rw [after0_5]
  obtain ⟨r, j, rfl⟩ : ∃ (r : Fin 256) (j : Fin 2048), y = ix2 r j := ⟨y 0, y 1, by blk_ext⟩
  rw [block_res]
  have e : (win0_5.blk t).view.emb (ix2 r j) = ix2 ⟨256 * t + r, row_lt t r⟩ j := by blk_ext [idx t]
  rw [e]
  rfl

end Cert.KernelMixIdeal.Gen

namespace Cert.FwdSgu
open Idealize.ShloMosaic Idealize.ShloMosaic.TcCoe Idealize.SL.Sem Cert.KernelMixIdeal.Gen

theorem algebraic : Cert.algebraic_KernelMixIdeal_ReferenceMixIdeal := by
  intro m ρ m' ρ' _ hagree
  refine ⟨fun c => (Cert.KernelMixIdeal.Gen.dats m 0 c).arrAt 5 Cert.KernelMixIdeal.cfg0.N, Cert.KernelMixIdeal.Value.run_blocks m ρ, ?_⟩
  refine (θ_run Cert.ReferenceMixIdeal.defs _ _).mono (fun r h c => ⟨(h c).1.trans ?_, (h c).2⟩)
    (Cert.ReferenceMixIdeal.Value.run (F := Ideal) m' ρ')
  refine Eq.trans ?_ (final5 m c).symm
  refine (Cert.ReferenceMixIdeal.Gen.out0 m' c).trans ?_
  rw [(hagree c).1, (hagree c).2.1, (hagree c).2.2.1, (hagree c).2.2.2.1, (hagree c).2.2.2.2]
  funext y
  obtain ⟨r, j, rfl⟩ : ∃ (r : Fin 8192) (j : Fin 2048), y = ix2 r j := ⟨y 0, y 1, by blk_ext⟩
  exact Cert.ReferenceMixIdeal.Gen.result_at _ _ _ _ _ r j

end Cert.FwdSgu
end
-- ==== Proof.LossHead.lean ====
/- The loss head: the mean of the squared differences, and its gradient back through the last normalisation. -/
module

public import proofs.«01_k».proof.Defs
public import proofs.«01_k».proof.Proof.Rms
public import proofs.«01_k».proof.Proof.Gen.KernelLossIdeal.Value
public import Idealize.ShloMosaic.Lib.Pointwise
public import Idealize.ShloMosaic.Lib.Pipeline.ReadBack
public import Idealize.ShloMosaic.Lib.Pipeline.ValueKit
public import Idealize.ShloMosaic.Lib.IdealHost

@[expose] public section

set_option maxRecDepth 16384

noncomputable section

namespace Cert.KernelLossIdeal.Gen
open Idealize.ShloMosaic Idealize.ShloMosaic.TcCoe Idealize.SL.Sem Cert.Rms

/-- How far a normalised and scaled row is from its target. -/
def diff (f g s : Fin 1024 → EReal) (j : Fin 1024) : EReal := f j * rs f * g j - s j

/-- A row's gradient before the scale: the difference over the row's length. -/
def dout (f g s : Fin 1024 → EReal) (j : Fin 1024) : EReal := diff f g s j * Ideal.ofBits .f32 0x3A800000#32

theorem zero_sq (i j) : k0_pay3 (F := Ideal) (ix2 i j) = 0 := by pointwise [k0_pay3]

theorem zero_dg (i j) : k0_pay4 (F := Ideal) (ix2 i j) = 0 := by pointwise [k0_pay4]

theorem pay10_at (g : Vec Ideal S1x1024 .f32) (x s : Vec Ideal S512x1024 .f32) (r : Fin 512) (j : Fin 1024) : k0_pay10 g x s (ix2 r j)
    = dout (fun k => x (ix2 r k)) (fun k => g (ix2 0 k)) (fun k => s (ix2 r k)) j := by
  pointwise [k0_pay10, k0_pay8, k0_pay7, k0_pay6, k0_pay5, dout, diff, rs]

theorem sq_at (g : Vec Ideal S1x1024 .f32) (x s : Vec Ideal S512x1024 .f32) (o : Vec Ideal S1x1024 .f32) (i : Fin 1) (j : Fin 1024) :
    k0_pay9 g x s o (ix2 i j) = o (ix2 i j) + ∑ r : Fin 512,
      diff (fun k => x (ix2 r k)) (fun k => g (ix2 0 k)) (fun k => s (ix2 r k)) j * diff (fun k => x (ix2 r k)) (fun k => g (ix2 0 k)) (fun k => s (ix2 r k)) j := by
  pointwise [k0_pay9, k0_pay8, k0_pay7, k0_pay6, k0_pay5, diff, rs]

theorem dg_at (g : Vec Ideal S1x1024 .f32) (x s : Vec Ideal S512x1024 .f32) (o : Vec Ideal S1x1024 .f32) (i : Fin 1) (j : Fin 1024) :
    k0_pay11 g x s o (ix2 i j) = o (ix2 i j) + ∑ r : Fin 512,
      dout (fun k => x (ix2 r k)) (fun k => g (ix2 0 k)) (fun k => s (ix2 r k)) j * (x (ix2 r j) * rs (fun k => x (ix2 r k))) := by
  pointwise [k0_pay11, k0_pay10, k0_pay8, k0_pay7, k0_pay6, k0_pay5, dout, diff, rs]

theorem dx_at (g : FVec Ideal S1x1024 .f32) (x h : FVec Ideal S512x1024 .f32) (r : Fin 512) (j : Fin 1024) :
    k0_pay1 g (k0_pay6 x) (k0_pay7 x) h (ix2 r j) = rback (fun k => x (ix2 r k)) (fun k => h (ix2 r k) * g (ix2 0 k)) j := by
  pointwise [k0_pay1, k0_pay7, k0_pay6, rback, rs]

theorem loss_at (o : Vec Ideal S1x1024 .f32) (i j : Fin 1) : k0_pay2 o (ix2 i j) = (∑ k : Fin 1024, o (ix2 0 k)) * Ideal.ofBits .f32 0x3A000000#32 := by
  pointwise [k0_pay2]

theorem pay5_eq (g : Vec Ideal S1x1024 .f32) (j : Fin 1024) : k0_pay5 g (ix2 0 j) = g (ix2 0 j) := by pointwise [k0_pay5]

variable (m : (ℓ : Loc nD τ sig) → Buf (Elt Ideal) ℓ)

/-- The gradient of one tile of the input. -/
def dxt (x : Vec Ideal S512x1024 .f32) (g : Vec Ideal S1x1024 .f32) (s : Vec Ideal S512x1024 .f32) (r : Fin 512) (j : Fin 1024) : EReal :=
  rback (fun k => x (ix2 r k)) (fun k => dout (fun k => x (ix2 r k)) (fun k => g (ix2 0 k)) (fun k => s (ix2 r k)) k * g (ix2 0 k)) j

/-- One tile's part of the gradient of the scale. -/
def dgt (x : Vec Ideal S512x1024 .f32) (g : Vec Ideal S1x1024 .f32) (s : Vec Ideal S512x1024 .f32) (j : Fin 1024) : EReal :=
  ∑ r : Fin 512, dout (fun k => x (ix2 r k)) (fun k => g (ix2 0 k)) (fun k => s (ix2 r k)) j * (x (ix2 r j) * rs (fun k => x (ix2 r k)))

/-- One tile's part of a column's squared differences. -/
def sqt (x : Vec Ideal S512x1024 .f32) (g : Vec Ideal S1x1024 .f32) (s : Vec Ideal S512x1024 .f32) (j : Fin 1024) : EReal :=
  ∑ r : Fin 512, diff (fun k => x (ix2 r k)) (fun k => g (ix2 0 k)) (fun k => s (ix2 r k)) j * diff (fun k => x (ix2 r k)) (fun k => g (ix2 0 k)) (fun k => s (ix2 r k)) j

theorem dx_out (x : Vec Ideal S512x1024 .f32) (g : Vec Ideal S1x1024 .f32) (s : Vec Ideal S512x1024 .f32) (r : Fin 512) (j : Fin 1024) :
    k0_pay1 (k0_pay5 g) (k0_pay6 x) (k0_pay7 x) (k0_pay10 g x s) (ix2 r j) = dxt x g s r j := by
  rw [dx_at, dxt]
  simp only [pay10_at, pay5_eq]

theorem dx_tile (c : Dev nD) (t : Fin cfg0.N) (r : Fin 512) (j : Fin 1024) : (outsAt0 m c t.1 t.2).2.1 (ix2 r j)
    = dxt (iblk m c 0 t) (iblk m c 1 t) (iblk m c 2 t) r j := by
  by_cases h0 : t.1 % 16 = 0
  · have h1 : ¬ t.1 % 16 = 15 := by omega
    rw [outsAt0_A m c t h0 h1]
    generalize iblk m c 0 t = x, iblk m c 1 t = g, iblk m c 2 t = s
    frame_out
    exact dx_out x g s r j
  · by_cases h1 : t.1 % 16 = 15
    · rw [outsAt0_C m c t h0 h1]
      generalize iblk m c 0 t = x, iblk m c 1 t = g, iblk m c 2 t = s
      frame_out
      exact dx_out x g s r j
    · rw [outsAt0_B m c t h0 h1]
      generalize iblk m c 0 t = x, iblk m c 1 t = g, iblk m c 2 t = s
      frame_out
      exact dx_out x g s r j

theorem dg_A (c : Dev nD) (t : Fin cfg0.N) (h0 : t.1 % 16 = 0) (i : Fin 1) (j : Fin 1024) : (outsAt0 m c t.1 t.2).2.2.1 (ix2 i j)
    = 0 + dgt (iblk m c 0 t) (iblk m c 1 t) (iblk m c 2 t) j := by
  have h1 : ¬ t.1 % 16 = 15 := by omega
  rw [outsAt0_A m c t h0 h1]
  generalize iblk m c 0 t = x, iblk m c 1 t = g, iblk m c 2 t = s
  frame_out
  refine (dg_at g x s _ i j).trans ?_
  rw [zero_dg, dgt]

theorem dg_B (c : Dev nD) (t : Fin cfg0.N) (h0 : ¬ t.1 % 16 = 0) (i : Fin 1) (j : Fin 1024) : (outsAt0 m c t.1 t.2).2.2.1 (ix2 i j)
    = (outsAt0 m c (t.val - 1) (Nat.lt_of_le_of_lt (Nat.sub_le _ _) t.isLt)).2.2.1 (ix2 i j)
      + dgt (iblk m c 0 t) (iblk m c 1 t) (iblk m c 2 t) j := by
  by_cases h1 : t.1 % 16 = 15
  · rw [outsAt0_C m c t h0 h1]
    generalize iblk m c 0 t = x, iblk m c 1 t = g, iblk m c 2 t = s
    generalize (outsAt0 m c (t.val - 1) (Nat.lt_of_le_of_lt (Nat.sub_le _ _) t.isLt)).2.2.1 = o
    frame_out
    exact dg_at g x s o i j
  · rw [outsAt0_B m c t h0 h1]
    generalize iblk m c 0 t = x, iblk m c 1 t = g, iblk m c 2 t = s
    generalize (outsAt0 m c (t.val - 1) (Nat.lt_of_le_of_lt (Nat.sub_le _ _) t.isLt)).2.2.1 = o
    frame_out
    exact dg_at g x s o i j

theorem sq_A (c : Dev nD) (t : Fin cfg0.N) (h0 : t.1 % 16 = 0) (i : Fin 1) (j : Fin 1024) : (outsAt0 m c t.1 t.2).2.2.2 (ix2 i j)
    = 0 + sqt (iblk m c 0 t) (iblk m c 1 t) (iblk m c 2 t) j := by
  have h1 : ¬ t.1 % 16 = 15 := by omega
  rw [outsAt0_A m c t h0 h1]
  generalize iblk m c 0 t = x, iblk m c 1 t = g, iblk m c 2 t = s
  frame_out
  refine (sq_at g x s _ i j).trans ?_
  rw [zero_sq, sqt]

theorem sq_B (c : Dev nD) (t : Fin cfg0.N) (h0 : ¬ t.1 % 16 = 0) (i : Fin 1) (j : Fin 1024) : (outsAt0 m c t.1 t.2).2.2.2 (ix2 i j)
    = (outsAt0 m c (t.val - 1) (Nat.lt_of_le_of_lt (Nat.sub_le _ _) t.isLt)).2.2.2 (ix2 i j)
      + sqt (iblk m c 0 t) (iblk m c 1 t) (iblk m c 2 t) j := by
  by_cases h1 : t.1 % 16 = 15
  · rw [outsAt0_C m c t h0 h1]
    generalize iblk m c 0 t = x, iblk m c 1 t = g, iblk m c 2 t = s
    generalize (outsAt0 m c (t.val - 1) (Nat.lt_of_le_of_lt (Nat.sub_le _ _) t.isLt)).2.2.2 = o
    frame_out
    refine (congrArg (fun o => k0_pay9 g x s o (ix2 i j)) ((Memref.isWhole_whole cc0_scratch0).read_unread o)).trans ?_
    exact sq_at g x s o i j
  · rw [outsAt0_B m c t h0 h1]
    generalize iblk m c 0 t = x, iblk m c 1 t = g, iblk m c 2 t = s
    generalize (outsAt0 m c (t.val - 1) (Nat.lt_of_le_of_lt (Nat.sub_le _ _) t.isLt)).2.2.2 = o
    frame_out
    refine (congrArg (fun o => k0_pay9 g x s o (ix2 i j)) ((Memref.isWhole_whole cc0_scratch0).read_unread o)).trans ?_
    exact sq_at g x s o i j

/-- The last point writes the columns' squared differences, added up and scaled. -/
theorem loss_C (c : Dev nD) (t : Fin cfg0.N) (h1 : t.1 % 16 = 15) (i j : Fin 1) : (outsAt0 m c t.1 t.2).1 (ix2 i j)
    = (∑ k : Fin 1024, (outsAt0 m c t.1 t.2).2.2.2 (ix2 0 k)) * Ideal.ofBits .f32 0x3A000000#32 := by
  have h0 : ¬ t.1 % 16 = 0 := by omega
  rw [outsAt0_C m c t h0 h1]
  generalize iblk m c 0 t = x, iblk m c 1 t = g, iblk m c 2 t = s
  generalize (outsAt0 m c (t.val - 1) (Nat.lt_of_le_of_lt (Nat.sub_le _ _) t.isLt)).2.2.2 = o
  frame_out
  exact loss_at _ i j

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

section
variable (x : FVec Ideal S8192x1024 .f32) (g : FVec Ideal S1024 .f32) (s : FVec Ideal S2x4096x1024 .f32)

/-- A row of the input. -/
def xr (r : Fin 8192) (j : Fin 1024) : EReal := x (ix2 r j)

/-- The scale. -/
def gr (j : Fin 1024) : EReal := g (ix1 j)

/-- A row of the target. -/
def sr (r : Fin 8192) (j : Fin 1024) : EReal := s (ix3 ⟨r / 4096, by omega⟩ ⟨r % 4096, by omega⟩ j)

/-- The gradient of the input. -/
def dxall (r : Fin 8192) (j : Fin 1024) : EReal := rback (xr x r) (fun k => dout (xr x r) (gr g) (sr s r) k * gr g k) j

/-- The gradient of the scale. -/
def dgall (j : Fin 1024) : EReal := ∑ r : Fin 8192, dout (xr x r) (gr g) (sr s r) j * (xr x r j * rs (xr x r))

/-- A column's squared differences. -/
def sqall (j : Fin 1024) : EReal := ∑ r : Fin 8192, diff (xr x r) (gr g) (sr s r) j * diff (xr x r) (gr g) (sr s r) j

/-- Half the mean of the squared differences. -/
def lossall : EReal := (∑ j, sqall x g s j) * Ideal.ofBits .f32 0x3A000000#32
end

theorem x_blk (c : Dev nD) (t : Fin cfg0.N) (r : Fin 512) : (fun j : Fin 1024 => (iblk m c 0 t (ix2 r j) : EReal))
    = xr (m ((c : Thread nD τ).loc main_arg0)) ⟨512 * t + r, by have := lt_of_lt_of_eq t.isLt N_0; omega⟩ := by
  funext j
  unfold xr
  blk_point [iblk, V, idx t]

theorem g_blk (c : Dev nD) (t : Fin cfg0.N) : (fun j : Fin 1024 => (iblk m c 1 t (ix2 0 j) : EReal)) = gr (m ((c : Thread nD τ).loc main_arg1)) := by
  funext j
  unfold gr
  blk_point [iblk, V, idx t]

theorem s_blk (c : Dev nD) (t : Fin cfg0.N) (r : Fin 512) : (fun j : Fin 1024 => (iblk m c 2 t (ix2 r j) : EReal))
    = sr (m ((c : Thread nD τ).loc main_arg2)) ⟨512 * t + r, by have := lt_of_lt_of_eq t.isLt N_0; omega⟩ := by
  funext j
  unfold sr
  blk_point [iblk, V, idx t]

theorem dx_blk (c : Dev nD) (t : Fin cfg0.N) (r : Fin 512) (j : Fin 1024) : dxt (iblk m c 0 t) (iblk m c 1 t) (iblk m c 2 t) r j
    = dxall (m ((c : Thread nD τ).loc main_arg0)) (m ((c : Thread nD τ).loc main_arg1)) (m ((c : Thread nD τ).loc main_arg2))
      ⟨512 * t + r, by have := lt_of_lt_of_eq t.isLt N_0; omega⟩ j := by
  unfold dxt dxall
  rw [x_blk, g_blk, s_blk]
  exact congrArg (fun h => rback _ h j) (funext fun k => congrArg _ (congrFun (g_blk m c t) k))

/-- Row `r` of tile `n` is row `512 n + r`: the tiles' sums are one sum over all rows. -/
theorem dg_sum (c : Dev nD) (t : Fin cfg0.N) (j : Fin 1024) (h : ∀ s : Fin 16, 16 * (t.val / 16) + s.val < cfg0.N) :
    ∑ s : Fin 16, dgt (iblk m c 0 ⟨16 * (t.val / 16) + s.val, h s⟩) (iblk m c 1 ⟨16 * (t.val / 16) + s.val, h s⟩) (iblk m c 2 ⟨16 * (t.val / 16) + s.val, h s⟩) j
    = dgall (m ((c : Thread nD τ).loc main_arg0)) (m ((c : Thread nD τ).loc main_arg1)) (m ((c : Thread nD τ).loc main_arg2)) j := by
  refine Fin.sum_mul_add_congr fun s k hl => ?_
  have q : ∀ h, (⟨512 * (16 * (t.val / 16) + s.val) + k.val, h⟩ : Fin 8192) = ⟨s.val * 512 + k.val, hl⟩ := fun h =>
    Fin.ext (by have := lt_of_lt_of_eq t.isLt N_0; simp only; omega)
  have e := congrFun (x_blk m c ⟨16 * (t.val / 16) + s.val, h s⟩ k) j
  rw [x_blk, g_blk, s_blk]
  simp only [q] at e ⊢
  exact congrArg (fun a : EReal => _ * (a * _)) e

theorem sq_sum (c : Dev nD) (t : Fin cfg0.N) (j : Fin 1024) (h : ∀ s : Fin 16, 16 * (t.val / 16) + s.val < cfg0.N) :
    ∑ s : Fin 16, sqt (iblk m c 0 ⟨16 * (t.val / 16) + s.val, h s⟩) (iblk m c 1 ⟨16 * (t.val / 16) + s.val, h s⟩) (iblk m c 2 ⟨16 * (t.val / 16) + s.val, h s⟩) j
    = sqall (m ((c : Thread nD τ).loc main_arg0)) (m ((c : Thread nD τ).loc main_arg1)) (m ((c : Thread nD τ).loc main_arg2)) j := by
  refine Fin.sum_mul_add_congr fun s k hl => ?_
  have q : ∀ h, (⟨512 * (16 * (t.val / 16) + s.val) + k.val, h⟩ : Fin 8192) = ⟨s.val * 512 + k.val, hl⟩ := fun h =>
    Fin.ext (by have := lt_of_lt_of_eq t.isLt N_0; simp only; omega)
  rw [x_blk, g_blk, s_blk]
  simp only [q]

theorem sq_last (c : Dev nD) (t : Fin cfg0.N) (h1 : t.1 % 16 = 15) (j : Fin 1024) : (outsAt0 m c t.1 t.2).2.2.2 (ix2 0 j)
    = sqall (m ((c : Thread nD τ).loc main_arg0)) (m ((c : Thread nD τ).loc main_arg1)) (m ((c : Thread nD τ).loc main_arg2)) j := by
  rw [Pipeline.eq_sum_fin_of_reset_step_apply_of_flush (fun n h => (outsAt0 m c n h).2.2.2) 16 (fun _ => 0)
    (fun t y => sqt (iblk m c 0 t) (iblk m c 1 t) (iblk m c 2 t) (y 1))
    (fun t h y => by obtain ⟨i, j, rfl⟩ : ∃ (i : Fin 1) (j : Fin 1024), y = ix2 i j := ⟨y 0, y 1, by blk_ext⟩
                     exact sq_A m c t h i j)
    (fun t h y => by obtain ⟨i, j, rfl⟩ : ∃ (i : Fin 1) (j : Fin 1024), y = ix2 i j := ⟨y 0, y 1, by blk_ext⟩
                     exact sq_B m c t h i j)
    t h1 _, zero_add]
  exact sq_sum m c t j _

theorem final3 (c : Dev nD) : (dats m 0 c).arrAt 3 cfg0.N
    = fun _ : S1x1.Idx => lossall (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨i, j, rfl⟩ : ∃ (i : Fin 1) (j : Fin 1), y = ix2 i j := ⟨y 0, y 1, by blk_ext⟩
  have h1 := (flush0_3 t).mp hf
  rw [loss_C m c t h1, lossall]
  exact congrArg (· * _) (Fin.sum_fin_congr fun k => sq_last m c t h1 k)

theorem final4 (c : Dev nD) : (dats m 0 c).arrAt 4 cfg0.N
    = fun y : S8192x1024.Idx => dxall (m ((c : Thread nD τ).loc main_arg0)) (m ((c : Thread nD τ).loc main_arg1)) (m ((c : Thread nD τ).loc main_arg2)) (y 0) (y 1) := by
  refine (dats m 0 c).arrAt_eq_of_covers 4 _ (by decide +kernel) fun t hf y => ?_
  blk_simp
  rw [after0_4]
  obtain ⟨r, j, rfl⟩ : ∃ (r : Fin 512) (j : Fin 1024), y = ix2 r j := ⟨y 0, y 1, by blk_ext⟩
  rw [dx_tile, dx_blk]
  have e : (win0_4.blk t).view.emb (ix2 r j) = ix2 ⟨512 * t + r, by have := lt_of_lt_of_eq t.isLt N_0; omega⟩ j := by blk_ext [idx t]
  rw [e]
  rfl

theorem final5 (c : Dev nD) : (dats m 0 c).arrAt 5 cfg0.N
    = fun y : S1x1024.Idx => dgall (m ((c : Thread nD τ).loc main_arg0)) (m ((c : Thread nD τ).loc main_arg1)) (m ((c : Thread nD τ).loc main_arg2)) (y 1) := by
  refine (dats m 0 c).arrAt_eq_of_covers 5 _ (by decide +kernel) fun t hf y => ?_
  blk_simp
  rw [after0_5]
  obtain ⟨i, j, rfl⟩ : ∃ (i : Fin 1) (j : Fin 1024), y = ix2 i j := ⟨y 0, y 1, by blk_ext⟩
  have e : (win0_5.blk t).view.emb (ix2 i j) = ix2 0 j := by blk_ext [idx t]
  rw [e, Pipeline.eq_sum_fin_of_reset_step_apply_of_flush (fun n h => (outsAt0 m c n h).2.2.1) 16 (fun _ => 0)
    (fun t y => dgt (iblk m c 0 t) (iblk m c 1 t) (iblk m c 2 t) (y 1))
    (fun t h y => by obtain ⟨i, j, rfl⟩ : ∃ (i : Fin 1) (j : Fin 1024), y = ix2 i j := ⟨y 0, y 1, by blk_ext⟩
                     exact dg_A m c t h i j)
    (fun t h y => by obtain ⟨i, j, rfl⟩ : ∃ (i : Fin 1) (j : Fin 1024), y = ix2 i j := ⟨y 0, y 1, by blk_ext⟩
                     exact dg_B m c t h i j)
    t ((flush0_5 t).mp hf) _, zero_add]
  exact dg_sum m c t j _

end Cert.KernelLossIdeal.Gen
end
-- ==== Proof.LossHeadRef.lean ====
/- The loss head's reference, read number by number. -/
module

public import proofs.«01_k».proof.Proof.LossHead
public import proofs.«01_k».proof.Proof.Gen.ReferenceLossIdeal.Run

@[expose] public section

set_option maxRecDepth 16384

noncomputable section

namespace Cert.LossHead
open Idealize.ShloMosaic Idealize.ShloMosaic.TcCoe Idealize.SL.Sem Cert.Rms Cert.Reals Cert.ReferenceLossIdeal
open Cert.ReferenceLossIdeal.Facts₀
open Cert.KernelLossIdeal.Gen (diff dout xr gr sr)

variable (x : FVec Ideal S8192x1024 .f32) (g : FVec Ideal S1024 .f32) (s : FVec Ideal S2x4096x1024 .f32)

/-! ## The reference's arrays -/

def X : FVec Ideal S2x4096x1024 .f32 := shapeCast _ x shapeCasts_S8192x1024_S2x4096x1024

def ms : FVec Ideal S2x4096x1 .f32 :=
  addf (Host.divf (broadcastInDim S2x4096x1 ![0, 1] bcast_S2x4096_S2x4096x1_0_1
      (Host.reduceAdd (mulf (X x) (X x)) (constant S_ .f32 0x00000000#32) reducesTo_S2x4096x1024_S2x4096_d2 h_S_))
      (broadcastInDim S2x4096x1 ![] bcast_S_S2x4096x1 (constant S_ .f32 0x44800000#32)))
    (broadcastInDim S2x4096x1 ![] bcast_S_S2x4096x1 (constant S_ .f32 0x358637BD#32))

def rq : FVec Ideal S2x4096x1 .f32 := Host.rsqrt (ms x)

def xn : FVec Ideal S2x4096x1024 .f32 := mulf (X x) (broadcastInDim S2x4096x1024 ![0, 1, 2] bcast_S2x4096x1_S2x4096x1024_0_1_2 (rq x))

def gs : FVec Ideal S2x4096x1024 .f32 :=
  broadcastInDim S2x4096x1024 ![0, 1, 2] bcast_S1x1x1024_S2x4096x1024_0_1_2 (broadcastInDim S1x1x1024 ![2] bcast_S1024_S1x1x1024_2 g)

def df : FVec Ideal S2x4096x1024 .f32 := subf (mulf (xn x) (gs g)) s

def dy : FVec Ideal S2x4096x1024 .f32 :=
  mulf (broadcastInDim S2x4096x1024 ![0, 1] bcast_S2x4096_S2x4096x1024_0_1
      (Host.divf (broadcastInDim S2x4096 ![] bcast_S_S2x4096 (mulf (constant S_ .f32 0x3F000000#32) (constant S_ .f32 0x3F800000#32)))
        (broadcastInDim S2x4096 ![] bcast_S_S2x4096 (constant S_ .f32 0x44800000#32))))
    (mulf (broadcastInDim S2x4096x1024 ![] bcast_S_S2x4096x1024 (constant S_ .f32 0x40000000#32)) (df x g s))

def dh : FVec Ideal S2x4096x1024 .f32 := mulf (dy x g s) (gs g)

def qr : FVec Ideal S2x4096 .f32 :=
  Host.reduceAdd (Host.divf (mulf (shapeCast _ (Host.reduceAdd (mulf (X x) (dh x g s)) (constant S_ .f32 0x00000000#32) reducesTo_S2x4096x1024_S2x4096_d2 h_S_) shapeCasts_S2x4096_S2x4096x1)
      (mulf (broadcastInDim S2x4096x1 ![] bcast_S_S2x4096x1 (constant S_ .f32 0xBF000000#32)) (Host.divf (rq x) (ms x))))
    (broadcastInDim S2x4096x1 ![] bcast_S_S2x4096x1 (constant S_ .f32 0x44800000#32))) (constant S_ .f32 0x00000000#32) reducesTo_S2x4096x1_S2x4096_d2 h_S_

def qb : FVec Ideal S2x4096x1024 .f32 := broadcastInDim S2x4096x1024 ![0, 1] bcast_S2x4096_S2x4096x1024_0_1 (qr x g s)

def dxr : FVec Ideal S8192x1024 .f32 :=
  shapeCast _ (addf (addf (mulf (dh x g s) (broadcastInDim S2x4096x1024 ![0, 1, 2] bcast_S2x4096x1_S2x4096x1024_0_1_2 (rq x))) (mulf (X x) (qb x g s)))
    (mulf (qb x g s) (X x))) shapeCasts_S2x4096x1024_S8192x1024

def er : FVec Ideal S2x4096 .f32 :=
  Host.divf (Host.reduceAdd (mulf (df x g s) (df x g s)) (constant S_ .f32 0x00000000#32) reducesTo_S2x4096x1024_S2x4096_d2 h_S_)
    (broadcastInDim S2x4096 ![] bcast_S_S2x4096 (constant S_ .f32 0x44800000#32))

def lossr : FVec Ideal S1x1 .f32 :=
  shapeCast _ (mulf (constant S_ .f32 0x3F000000#32) (Host.reduceAdd (er x g s) (constant S_ .f32 0x00000000#32) reducesTo_S2x4096_S_d0_1 h_S_)) shapeCasts_S_S1x1

def dgr : FVec Ideal S1x1024 .f32 :=
  broadcastInDim S1x1024 ![1] bcast_S1024_S1x1024_1 (Host.reduceAdd (shapeCast _ (Host.reduceAdd (mulf (xn x) (dy x g s)) (constant S_ .f32 0x00000000#32)
    reducesTo_S2x4096x1024_S1024_d0_1 h_S_) shapeCasts_S1024_S1x1x1024) (constant S_ .f32 0x00000000#32) reducesTo_S1x1x1024_S1024_d0_1 h_S_)

/-! ## Number by number -/

/-- Row `r` of sequence `q` among all rows. -/
abbrev row (q : Fin 2) (r : Fin 4096) : Fin 8192 := ⟨q * 4096 + r, by omega⟩

theorem X_at (q : Fin 2) (r : Fin 4096) (j : Fin 1024) : X x (ix3 q r j) = xr x (row q r) j := by
  unfold xr
  pointwise [X]

theorem ms_at (q : Fin 2) (r : Fin 4096) (i : Fin 1) : ms x (ix3 q r i)
    = Ideal.div (∑ k, xr x (row q r) k * xr x (row q r) k) (Ideal.ofBits .f32 0x44800000#32) + Ideal.ofBits .f32 0x358637BD#32 := by
  pointwise [ms, X_at]

theorem rq_at (q : Fin 2) (r : Fin 4096) (i : Fin 1) : rq x (ix3 q r i) = rs (xr x (row q r)) := by
  pointwise [rq, ms_at, rs]

theorem xn_at (q : Fin 2) (r : Fin 4096) (j : Fin 1024) : xn x (ix3 q r j) = xr x (row q r) j * rs (xr x (row q r)) := by
  pointwise [xn, X_at, rq_at]

theorem gs_at (q : Fin 2) (r : Fin 4096) (j : Fin 1024) : gs g (ix3 q r j) = gr g j := by
  unfold gr
  pointwise [gs]

theorem s_at (q : Fin 2) (r : Fin 4096) (j : Fin 1024) : s (ix3 q r j) = sr s (row q r) j := by
  unfold sr
  blk_point []

theorem df_at (q : Fin 2) (r : Fin 4096) (j : Fin 1024) : df x g s (ix3 q r j) = diff (xr x (row q r)) (gr g) (sr s (row q r)) j := by
  refine (congrArg₂ (fun a b : EReal => a - b) (congrArg₂ (fun a b : EReal => a * b) (xn_at x q r j) (gs_at g q r j)) (s_at s q r j)).trans ?_
  rfl

theorem bits_inv_1024 : Ideal.ofBits .f32 0x3A800000#32 = ((1 / 1024 : ℝ) : EReal) := by
  simp [Ideal.ofBits, Ideal.ieee, -EReal.coe_mul]; norm_num

theorem bits_inv_2048 : Ideal.ofBits .f32 0x3A000000#32 = ((1 / 2048 : ℝ) : EReal) := by
  simp [Ideal.ofBits, Ideal.ieee, -EReal.coe_mul]; norm_num

theorem half_mean : Ideal.div (Ideal.ofBits .f32 0x3F000000#32 * Ideal.ofBits .f32 0x3F800000#32) (Ideal.ofBits .f32 0x44800000#32) * Ideal.ofBits .f32 0x40000000#32
    = Ideal.ofBits .f32 0x3A800000#32 := by
  rw [bits_half, bits_one, bits_1024, bits_two, bits_inv_1024, ← EReal.coe_mul, div_real _ (by norm_num), ← EReal.coe_mul]
  norm_num

theorem dy_at (q : Fin 2) (r : Fin 4096) (j : Fin 1024) : dy x g s (ix3 q r j) = dout (xr x (row q r)) (gr g) (sr s (row q r)) j := by
  have h : dy x g s (ix3 q r j) = Ideal.div (Ideal.ofBits .f32 0x3F000000#32 * Ideal.ofBits .f32 0x3F800000#32) (Ideal.ofBits .f32 0x44800000#32)
      * (Ideal.ofBits .f32 0x40000000#32 * diff (xr x (row q r)) (gr g) (sr s (row q r)) j) := by
    pointwise [dy, df_at]
  rw [h, ← mul_assoc, half_mean, mul_comm]
  rfl

theorem dh_at (q : Fin 2) (r : Fin 4096) (j : Fin 1024) : dh x g s (ix3 q r j) = dout (xr x (row q r)) (gr g) (sr s (row q r)) j * gr g j := by
  pointwise [dh, dy_at, gs_at]

theorem qr_at (q : Fin 2) (r : Fin 4096) : qr x g s (ix2 q r)
    = qback (xr x (row q r)) (fun k => dout (xr x (row q r)) (gr g) (sr s (row q r)) k * gr g k) := by
  pointwise [qr, dh_at, X_at, rq_at, ms_at, qback]
  simp only [Fintype.sum_unique]

theorem dxr_at (r : Fin 8192) (j : Fin 1024) : dxr x g s (ix2 r j)
    = dout (xr x r) (gr g) (sr s r) j * gr g j * rs (xr x r)
      + xr x r j * qback (xr x r) (fun k => dout (xr x r) (gr g) (sr s r) k * gr g k)
      + qback (xr x r) (fun k => dout (xr x r) (gr g) (sr s r) k * gr g k) * xr x r j := by
  have e : row ⟨r / 4096, by omega⟩ ⟨r % 4096, by omega⟩ = r := Fin.ext (by simp only; omega)
  have h : dxr x g s (ix2 r j) = dh x g s (ix3 ⟨r / 4096, by omega⟩ ⟨r % 4096, by omega⟩ j) * rq x (ix3 ⟨r / 4096, by omega⟩ ⟨r % 4096, by omega⟩ 0)
      + X x (ix3 ⟨r / 4096, by omega⟩ ⟨r % 4096, by omega⟩ j) * qr x g s (ix2 ⟨r / 4096, by omega⟩ ⟨r % 4096, by omega⟩)
      + qr x g s (ix2 ⟨r / 4096, by omega⟩ ⟨r % 4096, by omega⟩) * X x (ix3 ⟨r / 4096, by omega⟩ ⟨r % 4096, by omega⟩ j) := by
    unfold dxr qb
    generalize dh x g s = a
    generalize rq x = b
    generalize X x = c
    generalize qr x g s = d
    pointwise []
  rw [h, dh_at, rq_at, X_at, qr_at, e]

theorem er_at (q : Fin 2) (r : Fin 4096) : er x g s (ix2 q r)
    = Ideal.div (∑ j, diff (xr x (row q r)) (gr g) (sr s (row q r)) j * diff (xr x (row q r)) (gr g) (sr s (row q r)) j) (Ideal.ofBits .f32 0x44800000#32) := by
  pointwise [er, df_at]

theorem dgr_at (i : Fin 1) (j : Fin 1024) : dgr x g s (ix2 i j)
    = ∑ q : Fin 2, ∑ r : Fin 4096, xr x (row q r) j * rs (xr x (row q r)) * dout (xr x (row q r)) (gr g) (sr s (row q r)) j := by
  pointwise [dgr, sum_axes01, xn_at, dy_at]
  simp only [Fintype.sum_unique]

theorem lossr_at (i j : Fin 1) : lossr x g s (ix2 i j) = Ideal.ofBits .f32 0x3F000000#32 * ∑ q : Fin 2, ∑ r : Fin 4096, er x g s (ix2 q r) := by
  unfold lossr
  generalize er x g s = e
  pointwise []

/-! ## The reference's results as the kernel's -/

/-- Half the sum of the rows' means, and the scaled sum of all squares. -/
theorem half_means {n : ℕ} {d : Fin n → Fin 1024 → EReal} :
    Ideal.ofBits .f32 0x3F000000#32 * ∑ r, Ideal.div (∑ j, d r j * d r j) (Ideal.ofBits .f32 0x44800000#32)
    = Ideal.ofBits .f32 0x3A000000#32 * ∑ r, ∑ j, d r j * d r j := by
  have hd : ∀ r, 0 ≤ ∑ j, d r j * d r j := fun r => Finset.sum_nonneg fun j _ => square_nonneg _
  have e : ∀ r, Ideal.div (∑ j, d r j * d r j) (Ideal.ofBits .f32 0x44800000#32) = ((1 / 1024 : ℝ) : EReal) * ∑ j, d r j * d r j := fun r => by
    rw [bits_1024, Ideal.div_coe (by norm_num), mul_comm]
  simp only [e]
  rw [← mul_sum_nonneg _ hd, ← mul_assoc, bits_half, Cert.LossHead.bits_inv_2048, ← EReal.coe_mul]
  norm_num

theorem dx_eq : dxr x g s = fun y => Cert.KernelLossIdeal.Gen.dxall x g s (y 0) (y 1) := by
  funext y
  obtain ⟨r, j, rfl⟩ : ∃ (r : Fin 8192) (j : Fin 1024), y = ix2 r j := ⟨y 0, y 1, by blk_ext⟩
  rw [dxr_at]
  have h := rback_eq 0 (xr x r) (fun k => dout (xr x r) (gr g) (sr s r) k * gr g k) j
  rw [zero_add, zero_add] at h
  exact h

theorem loss_eq : lossr x g s = fun _ => Cert.KernelLossIdeal.Gen.lossall x g s := by
  funext y
  obtain ⟨i, j, rfl⟩ : ∃ (i j : Fin 1), y = ix2 i j := ⟨y 0, y 1, by blk_ext⟩
  rw [lossr_at]
  simp only [er_at]
  refine (congrArg (_ * ·) (Fin.sum_mul_add_congr fun q r hl => rfl)).trans
    ((half_means (d := fun r j => diff (xr x r) (gr g) (sr s r) j)).trans ((mul_comm _ _).trans (congrArg (· * _) ?_)))
  exact Finset.sum_comm

theorem dg_eq : dgr x g s = fun y => Cert.KernelLossIdeal.Gen.dgall x g s (y 1) := by
  funext y
  obtain ⟨i, j, rfl⟩ : ∃ (i : Fin 1) (j : Fin 1024), y = ix2 i j := ⟨y 0, y 1, by blk_ext⟩
  rw [dgr_at]
  exact Fin.sum_mul_add_congr fun q r hl => mul_comm _ _

end Cert.LossHead

namespace Cert.LossHead
open Idealize.ShloMosaic Idealize.ShloMosaic.TcCoe Idealize.SL.Sem

theorem algebraic : Cert.algebraic_KernelLossIdeal_ReferenceLossIdeal := by
  intro m ρ m' ρ' _ hagree
  refine ⟨fun c => (Cert.KernelLossIdeal.Gen.dats m 0 c).arrAt 3 Cert.KernelLossIdeal.cfg0.N,
    fun c => (Cert.KernelLossIdeal.Gen.dats m 0 c).arrAt 4 Cert.KernelLossIdeal.cfg0.N,
    fun c => (Cert.KernelLossIdeal.Gen.dats m 0 c).arrAt 5 Cert.KernelLossIdeal.cfg0.N, Cert.KernelLossIdeal.Value.run_blocks m ρ, ?_⟩
  refine (θ_run Cert.ReferenceLossIdeal.defs _ _).mono (fun r h c => ⟨(h c).1.trans ?_, (h c).2.1.trans ?_, (h c).2.2.1.trans ?_, (h c).2.2.2⟩)
    (Cert.ReferenceLossIdeal.Value.run (F := Ideal) m' ρ')
  · rw [(hagree c).1, (hagree c).2.1, (hagree c).2.2]
    exact (loss_eq _ _ _).trans (Cert.KernelLossIdeal.Gen.final3 m c).symm
  · unfold Cert.ReferenceLossIdeal.Value.res_main_v52
    rw [(hagree c).1, (hagree c).2.1, (hagree c).2.2]
    exact (dx_eq _ _ _).trans (Cert.KernelLossIdeal.Gen.final4 m c).symm
  · rw [(hagree c).1, (hagree c).2.1, (hagree c).2.2]
    exact (dg_eq _ _ _).trans (Cert.KernelLossIdeal.Gen.final5 m c).symm

end Cert.LossHead
end
-- ==== Proof.TotalRun.lean ====
/- The loss head on one device, whatever the device owes besides: the three runs of the kernel's body. -/
module

public import proofs.«01_k».proof.Proof.Gen.KernelTotalIdeal.Launch
public import proofs.«01_k».proof.Proof.Gen.KernelTotalIdeal.Skeleton
public import proofs.«01_k».proof.Proof.Gen.KernelTotalIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.TotalRun
open Cert.KernelTotalIdeal Cert.KernelTotalIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

/-- The algebra of a run whose indices, names and levels are numbers. -/
abbrev Mo (F : FTy → Type) (U : Type) [URA U] := MT nD τ sig ℕ (Elt F) ℕ U ℕ

/-! ## Which points start and end the sum -/

abbrev cond0 (i : grid0.Coords) : Prop := (Scalar.cmpi .ne (Scalar.extui (Scalar.cmpi .eq (BitVec.ofNat 32 (i 0).val) 0#32)) 0#32) = 1#1
abbrev cond1 (i : grid0.Coords) : Prop := k0_cond2 i = 1#1

theorem hcond0 : ∀ t : Fin grid0.N, cond0 (grid0.coords t) ↔ t.val % 16 = 0 := fun t => by
  have ht : t.val < 16 := Nat.lt_of_lt_of_eq t.isLt N_0
  have e0 : (grid0.coords t 0).val = t.val / 1 % 16 := Pipeline.Grid.coords_val t 0 (by decide) rfl
  simp only [cond0, e0]
  word_cmp

theorem hcond1 : ∀ t : Fin grid0.N, cond1 (grid0.coords t) ↔ t.val % 16 = 15 := fun t => by
  have ht : t.val < 16 := Nat.lt_of_lt_of_eq t.isLt N_0
  have e0 : (grid0.coords t 0).val = t.val / 1 % 16 := Pipeline.Grid.coords_val t 0 (by decide) rfl
  simp only [cond1, k0_cond2, e0]
  word_cmp

/-- The loss is written at the last point only; elsewhere its block is neither touched nor written back. -/
theorem idle3 : ∀ t : Fin cfg0.N, ¬ t.val % 16 = 15 → cfg0.idle 3 (grid0.coords t) = true := by decide +kernel
theorem noFlush3 : ∀ t : Fin cfg0.N, ¬ t.val % 16 = 15 → (cfg0.win 3).flush t = false := by decide +kernel
theorem live3 : ∀ t : Fin cfg0.N, t.val % 16 = 15 → cfg0.idle 3 (grid0.coords t) = false := by decide +kernel

/-! ## The body's three runs -/

/-- What stores leave in a buffer they cover, read back. -/
def rb {S : Shape} (V : View sig .tc .vmem S .f32) (L : List (View.Piece (Elt F) S .f32)) : Vec F S .f32 := V.read (Elt F) (V.writes (Elt F) V.junk L)

abbrev VO3 : View sig .tc .vmem S1x1 .f32 := (Memref.whole cc0_stg3_0 : Memref sig .tc .vmem S1x1 .f32).view
abbrev VO4 : View sig .tc .vmem S512x1024 .f32 := (Memref.whole cc0_stg4_0 : Memref sig .tc .vmem S512x1024 .f32).view
abbrev VO5 : View sig .tc .vmem S1x1024 .f32 := (Memref.whole cc0_stg5_0 : Memref sig .tc .vmem S1x1024 .f32).view
abbrev scM : Memref sig .tc .vmem S1x1024 .f32 := Memref.whole cc0_scratch0

/-- What a point leaves: the loss, the input's gradient, the scale's gradient so far, the squares so far. -/
abbrev Outs (F : FTy → Type) := Vec F S1x1 .f32 × Vec F S512x1024 .f32 × Vec F S1x1024 .f32 × Vec F S1x1024 .f32

set_option maxHeartbeats 1000000 in
/-- The first point starts both sums. -/
def runA (U : Type) [URA U] (c : Dev nD) (i : grid0.Coords) {arg1 : Memref sig .tc .vmem S512x1024 .f32} (harg1 : arg1.IsWhole) {arg2 : Memref sig .tc .vmem S1x1024 .f32} (harg2 : arg2.IsWhole) {arg3 : Memref sig .tc .vmem S512x1024 .f32} (harg3 : arg3.IsWhole) {arg4 : Memref sig .tc .vmem S1x1 .f32} (harg4 : arg4.IsWhole) {arg5 : Memref sig .tc .vmem S512x1024 .f32} (harg5 : arg5.IsWhole) {arg6 : Memref sig .tc .vmem S1x1024 .f32} (harg6 : arg6.IsWhole) {arg7 : Memref sig .tc .vmem S1x1024 .f32} (harg7 : arg7.IsWhole) (hc0 : cond0 i) (hc1 : ¬cond1 i)
    (x0 : Vec F S512x1024 .f32) (x1 : Vec F S1x1024 .f32) (x2 : Vec F S512x1024 .f32) :
    Σ' (L3 : List (View.Piece (Elt F) S1x1 .f32)), Σ' (L4 : List (View.Piece (Elt F) S512x1024 .f32)), Σ' (L5 : List (View.Piece (Elt F) S1x1024 .f32)),
      { L6 : List (View.Piece (Elt F) S1x1024 .f32) // ∀ (x3 : Vec F S1x1 .f32) (E : Set ℕ) (K : PUnit → sProp (Mo F U)),
      iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
          ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
        ⊢ wp frame (wpE (defs₀ (F := F)) Variants.none c none) E (cc0_loss_head i arg1 harg1 arg2 harg2 arg3 harg3 arg4 harg4 arg5 harg5 arg6 harg6 arg7 harg7) K } := by
  refine ⟨[], ?_, ?_, ?_, fun x3 E K => ?run⟩
  case run =>
    simp only [cc0_loss_head_eq_skeleton]; unfold cc0_loss_head_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

set_option maxHeartbeats 1000000 in
/-- A point between adds to them. -/
def runB (U : Type) [URA U] (c : Dev nD) (i : grid0.Coords) {arg1 : Memref sig .tc .vmem S512x1024 .f32} (harg1 : arg1.IsWhole) {arg2 : Memref sig .tc .vmem S1x1024 .f32} (harg2 : arg2.IsWhole) {arg3 : Memref sig .tc .vmem S512x1024 .f32} (harg3 : arg3.IsWhole) {arg4 : Memref sig .tc .vmem S1x1 .f32} (harg4 : arg4.IsWhole) {arg5 : Memref sig .tc .vmem S512x1024 .f32} (harg5 : arg5.IsWhole) {arg6 : Memref sig .tc .vmem S1x1024 .f32} (harg6 : arg6.IsWhole) {arg7 : Memref sig .tc .vmem S1x1024 .f32} (harg7 : arg7.IsWhole) (hc0 : ¬cond0 i) (hc1 : ¬cond1 i)
    (x0 : Vec F S512x1024 .f32) (x1 : Vec F S1x1024 .f32) (x2 : Vec F S512x1024 .f32) (xo xs : Vec F S1x1024 .f32) :
    Σ' (L3 : List (View.Piece (Elt F) S1x1 .f32)), Σ' (L4 : List (View.Piece (Elt F) S512x1024 .f32)), Σ' (L5 : List (View.Piece (Elt F) S1x1024 .f32)),
      { L6 : List (View.Piece (Elt F) S1x1024 .f32) // ∀ (x3 : Vec F S1x1 .f32) (E : Set ℕ) (K : PUnit → sProp (Mo F U)),
      iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xo ∗ owns (c : Thread nD τ) arg7 fullShare xs
          ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
        ⊢ wp frame (wpE (defs₀ (F := F)) Variants.none c none) E (cc0_loss_head i arg1 harg1 arg2 harg2 arg3 harg3 arg4 harg4 arg5 harg5 arg6 harg6 arg7 harg7) K } := by
  refine ⟨[], ?_, ?_, ?_, fun x3 E K => ?run⟩
  case run =>
    simp only [cc0_loss_head_eq_skeleton]; unfold cc0_loss_head_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

set_option maxHeartbeats 1000000 in
/-- The last point adds to them and writes the loss. -/
def runC (U : Type) [URA U] (c : Dev nD) (i : grid0.Coords) {arg1 : Memref sig .tc .vmem S512x1024 .f32} (harg1 : arg1.IsWhole) {arg2 : Memref sig .tc .vmem S1x1024 .f32} (harg2 : arg2.IsWhole) {arg3 : Memref sig .tc .vmem S512x1024 .f32} (harg3 : arg3.IsWhole) {arg4 : Memref sig .tc .vmem S1x1 .f32} (harg4 : arg4.IsWhole) {arg5 : Memref sig .tc .vmem S512x1024 .f32} (harg5 : arg5.IsWhole) {arg6 : Memref sig .tc .vmem S1x1024 .f32} (harg6 : arg6.IsWhole) {arg7 : Memref sig .tc .vmem S1x1024 .f32} (harg7 : arg7.IsWhole) (hc0 : ¬cond0 i) (hc1 : cond1 i)
    (x0 : Vec F S512x1024 .f32) (x1 : Vec F S1x1024 .f32) (x2 : Vec F S512x1024 .f32) (xo xs : Vec F S1x1024 .f32) :
    Σ' (L3 : List (View.Piece (Elt F) S1x1 .f32)), Σ' (L4 : List (View.Piece (Elt F) S512x1024 .f32)), Σ' (L5 : List (View.Piece (Elt F) S1x1024 .f32)),
      { L6 : List (View.Piece (Elt F) S1x1024 .f32) // ∀ (E : Set ℕ) (K : PUnit → sProp (Mo F U)),
      iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xo ∗ owns (c : Thread nD τ) arg7 fullShare xs
          ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
        ⊢ wp frame (wpE (defs₀ (F := F)) Variants.none c none) E (cc0_loss_head i arg1 harg1 arg2 harg2 arg3 harg3 arg4 harg4 arg5 harg5 arg6 harg6 arg7 harg7) K } := by
  refine ⟨?_, ?_, ?_, ?_, fun E K => ?run⟩
  case run =>
    simp only [cc0_loss_head_eq_skeleton]; unfold cc0_loss_head_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    iexists _; iexact H6

/-- What a run's stores leave. -/
def left (L3 : List (View.Piece (Elt F) S1x1 .f32)) (L4 : List (View.Piece (Elt F) S512x1024 .f32)) (L5 L6 : List (View.Piece (Elt F) S1x1024 .f32)) : Outs F :=
  (rb VO3 L3, rb VO4 L4, rb VO5 L5, rb scM.view L6)

/-- Stores that cover a buffer leave in it what they leave in any. -/
theorem owns_rb {c : Dev nD} {S : Shape} {a : Memref sig .tc .vmem S .f32} (V : View sig .tc .vmem S .f32) (L : List (View.Piece (Elt F) S .f32))
    (h : ∀ y, ∃ p ∈ L, y ∈ p.1.set) :
    iprop(∃ f, a.view.loc (c : Thread nD τ) ↦[a.view.set]{fullShare} a.view.writes (Elt F) f L) ⊢ (owns (c : Thread nD τ) a fullShare (rb V L) : sProp (Mo F U)) := by
  unfold owns rb
  iintro ⟨%f, H⟩
  iexists _; isplitr
  swap; · iexact H
  ipureintro; exact View.read_writes_of_cover _ _ _ _ _ h

/-! ## What each point leaves -/

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)

variable (V : (c : Dev nD) → (b : Ref sig .tc) → Buf (Elt F) ((c : Thread nD τ).loc b)) (O : Dev nD → CellTallies nD τ sig ℕ)

/-- An input's block at a point. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev atA (U : Type) [URA U] (c : Dev nD) (t : Fin cfg0.N) (h0 : t.val % 16 = 0) (h1 : ¬ t.val % 16 = 15) :=
  runA (F := F) U c (grid0.coords t) (hs0 t) (hs1 t) (hs2 t) (hs3 t) (hs4 t) (hs5 t) (Memref.isWhole_whole cc0_scratch0) ((hcond0 t).mpr h0) (fun h => h1 ((hcond1 t).mp h)) (iblk V c 0 t) (iblk V c 1 t) (iblk V c 2 t)
abbrev atB (U : Type) [URA U] (c : Dev nD) (t : Fin cfg0.N) (h0 : ¬ t.val % 16 = 0) (h1 : ¬ t.val % 16 = 15) (o : Outs F) :=
  runB (F := F) U c (grid0.coords t) (hs0 t) (hs1 t) (hs2 t) (hs3 t) (hs4 t) (hs5 t) (Memref.isWhole_whole cc0_scratch0) (fun h => h0 ((hcond0 t).mp h)) (fun h => h1 ((hcond1 t).mp h)) (iblk V c 0 t) (iblk V c 1 t) (iblk V c 2 t) o.2.2.1 o.2.2.2
abbrev atC (U : Type) [URA U] (c : Dev nD) (t : Fin cfg0.N) (h0 : ¬ t.val % 16 = 0) (h1 : t.val % 16 = 15) (o : Outs F) :=
  runC (F := F) U c (grid0.coords t) (hs0 t) (hs1 t) (hs2 t) (hs3 t) (hs4 t) (hs5 t) (Memref.isWhole_whole cc0_scratch0) (fun h => h0 ((hcond0 t).mp h)) ((hcond1 t).mpr h1) (iblk V c 0 t) (iblk V c 1 t) (iblk V c 2 t) o.2.2.1 o.2.2.2

def outsA (U : Type) [URA U] (c : Dev nD) (t : Fin cfg0.N) (h0 : t.val % 16 = 0) (h1 : ¬ t.val % 16 = 15) : Outs F :=
  left (atA V U c t h0 h1).1 (atA V U c t h0 h1).2.1 (atA V U c t h0 h1).2.2.1 (atA V U c t h0 h1).2.2.2.1

def outsB (U : Type) [URA U] (c : Dev nD) (t : Fin cfg0.N) (h0 : ¬ t.val % 16 = 0) (h1 : ¬ t.val % 16 = 15) (o : Outs F) : Outs F :=
  left (atB V U c t h0 h1 o).1 (atB V U c t h0 h1 o).2.1 (atB V U c t h0 h1 o).2.2.1 (atB V U c t h0 h1 o).2.2.2.1

def outsC (U : Type) [URA U] (c : Dev nD) (t : Fin cfg0.N) (h0 : ¬ t.val % 16 = 0) (h1 : t.val % 16 = 15) (o : Outs F) : Outs F :=
  left (atC V U c t h0 h1 o).1 (atC V U c t h0 h1 o).2.1 (atC V U c t h0 h1 o).2.2.1 (atC V U c t h0 h1 o).2.2.2.1

theorem no_both {n : ℕ} (h0 : n % 16 = 0) (h1 : n % 16 = 15) : False := by omega

end Cert.TotalRun

end
-- ==== Proof.TotalBody.lean ====
/- The loss head on one device, whatever the device owes besides: the pipeline's proof data and its body at each point. -/
module

public import proofs.«01_k».proof.Proof.TotalRun

@[expose] public section

set_option maxRecDepth 16384

noncomputable section

namespace Cert.TotalRun
open Cert.KernelTotalIdeal Cert.KernelTotalIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (U : Type) [URA U]

variable (V : (c : Dev nD) → (b : Ref sig .tc) → Buf (Elt F) ((c : Thread nD τ).loc b)) (O : Dev nD → CellTallies nD τ sig ℕ)

/-- What point `t` leaves when the point before left `o`. -/
def step (c : Dev nD) (t : Fin cfg0.N) (o : Outs F) : Outs F :=
  if h0 : t.val % 16 = 0 then if h1 : t.val % 16 = 15 then (no_both h0 h1).elim else (outsA V U c t h0 h1)
  else if h1 : t.val % 16 = 15 then (outsC V U c t h0 h1 o) else (outsB V U c t h0 h1 o)

/-- What the points up to `n` leave. -/
def outsAt (c : Dev nD) : (n : ℕ) → n < cfg0.N → Outs F
  | 0, h => step U V c ⟨0, h⟩ (rb VO3 [], rb VO4 [], rb VO5 [], rb scM.view [])
  | n + 1, h => step U V c ⟨n + 1, h⟩ (outsAt c n (Nat.lt_of_succ_lt h))

/-- What the point before `t` left. -/
abbrev prev (c : Dev nD) (t : Fin cfg0.N) : Outs F := outsAt U V c (t.val - 1) (Nat.lt_of_le_of_lt (Nat.sub_le _ _) t.isLt)

theorem step_B (c : Dev nD) (t : Fin cfg0.N) (h0 : ¬ t.val % 16 = 0) (h1 : ¬ t.val % 16 = 15) (o : Outs F) : step U V c t o = outsB V U c t h0 h1 o := by
  unfold step; rw [dif_neg h0, dif_neg h1]

theorem step_C (c : Dev nD) (t : Fin cfg0.N) (h0 : ¬ t.val % 16 = 0) (h1 : t.val % 16 = 15) (o : Outs F) : step U V c t o = outsC V U c t h0 h1 o := by
  unfold step; rw [dif_neg h0, dif_pos h1]

theorem outsAt_A (c : Dev nD) (t : Fin cfg0.N) (h0 : t.val % 16 = 0) (h1 : ¬ t.val % 16 = 15) : outsAt U V c t.val t.isLt = (outsA V U c t h0 h1) := by
  obtain ⟨n, hn⟩ := t
  cases n <;> (unfold outsAt step; rw [dif_pos h0, dif_neg h1])

theorem outsAt_B (c : Dev nD) (t : Fin cfg0.N) (h0 : ¬ t.val % 16 = 0) (h1 : ¬ t.val % 16 = 15) :
    outsAt U V c t.val t.isLt = (outsB V U c t h0 h1 (prev U V c t)) := by
  obtain ⟨n, hn⟩ := t
  cases n with
  | zero => exact absurd rfl h0
  | succ n => exact step_B U V c ⟨n + 1, hn⟩ h0 h1 (outsAt U V c n (Nat.lt_of_succ_lt hn))

theorem outsAt_C (c : Dev nD) (t : Fin cfg0.N) (h0 : ¬ t.val % 16 = 0) (h1 : t.val % 16 = 15) :
    outsAt U V c t.val t.isLt = (outsC V U c t h0 h1 (prev U V c t)) := by
  obtain ⟨n, hn⟩ := t
  cases n with
  | zero => exact absurd rfl h0
  | succ n => exact step_C U V c ⟨n + 1, hn⟩ h0 h1 (outsAt U V c n (Nat.lt_of_succ_lt hn))

/-! ## The pipeline's proof data -/

/-- The scratch at some contents and the generator register at some state. -/
abbrev free (c : Dev nD) : sProp (Mo F U) := iprop(Pipeline.scopedRest (Ix := ℕ) (Name := ℕ) (U := U) (Lvl := ℕ) (Val := Elt F) spec0 c ∗ ∃ r, prngReg c r)

/-- Before the first point the scratch holds anything, afterwards what the point before left. -/
def Phi (c : Dev nD) : (n : ℕ) → n ≤ cfg0.N → sProp (Mo F U)
  | 0, _ => free U c
  | n + 1, hn => iprop(owns (c : Thread nD τ) scM fullShare (outsAt U V c n hn).2.2.2 ∗ (∃ r, prngReg c r))

theorem Phi_zero (c : Dev nD) (n : ℕ) (h : n ≤ cfg0.N) (hz : n = 0) : Phi U V c n h = free U c := by subst hz; rfl

theorem Phi_pos (c : Dev nD) (n : ℕ) (h : n ≤ cfg0.N) (hz : n ≠ 0) :
    Phi U V c n h = iprop(owns (c : Thread nD τ) scM fullShare (outsAt U V c (n - 1) (by omega)).2.2.2 ∗ (∃ r, prngReg c r)) := by
  cases n with
  | zero => exact absurd rfl hz
  | succ n => rfl

theorem PhiA_eq (c : Dev nD) :
    free (F := F) U c = iprop((∃ d, owns (c : Thread nD τ) scM fullShare d) ∗ (∃ r, prngReg c r)) := by
  unfold free; rw [scopedRest0_eq]; simp only [scM, owns_whole]; try rfl

def dat (c : Dev nD) : Dat τ (Elt F) ℕ ℕ U ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt U V c t.val t.isLt).1
    | ⟨4, _⟩ => (outsAt U V c t.val t.isLt).2.1
    | ⟨5, _⟩ => (outsAt U V c t.val t.isLt).2.2.1
  Φ t := Phi U V c t.val (Nat.le_of_lt_succ t.isLt)
  q _ := fullShare
  owed _ := O c

theorem A_eq (c : Dev nD) (w : Fin cfg0.W) : (dat U V O c).A w = V c (Pipeline.arrRef spec0 w) := by dsimp only [dat]

theorem Phi_castSucc (c : Dev nD) (t : Fin cfg0.N) : (dat U V O c).Φ t.castSucc = Phi U V c t.val (Nat.le_of_lt t.isLt) := by
  dsimp only [dat]; exact Pipeline.Dat.Φ_castSucc (Phi U V c) t

theorem after_0 (c : Dev nD) (t : Fin cfg0.N) : (dat U V O c).after 0 t = iblk V c 0 t := by dsimp only [dat]
theorem after_1 (c : Dev nD) (t : Fin cfg0.N) : (dat U V O c).after 1 t = iblk V c 1 t := by dsimp only [dat]
theorem after_2 (c : Dev nD) (t : Fin cfg0.N) : (dat U V O c).after 2 t = iblk V c 2 t := by dsimp only [dat]
theorem after_3 (c : Dev nD) (t : Fin cfg0.N) : (dat U V O c).after 3 t = (outsAt U V c t.val t.isLt).1 := by dsimp only [dat]
theorem after_4 (c : Dev nD) (t : Fin cfg0.N) : (dat U V O c).after 4 t = (outsAt U V c t.val t.isLt).2.1 := by dsimp only [dat]
theorem after_5 (c : Dev nD) (t : Fin cfg0.N) : (dat U V O c).after 5 t = (outsAt U V c t.val t.isLt).2.2.1 := by dsimp only [dat]

theorem before_0 (c : Dev nD) (t : Fin cfg0.N) (d) : (dat U V O c).before 0 t d = iblk V c 0 t :=
  ((dat U V O c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat U V O c).before 1 t d = iblk V c 1 t :=
  ((dat U V O c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat U V O c).before 2 t d = iblk V c 2 t :=
  ((dat U V O c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

theorem before_5 (c : Dev nD) (t : Fin cfg0.N) (h0 : ¬ t.val % 16 = 0) (d) : (dat U V O c).before 5 t d = (prev U V c t).2.2.1 := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dat]

/-! ## The body at a point -/

def bodyPre (c : Dev nD) (t : Fin cfg0.N) : sProp (Mo F U) :=
  iprop((dat U V O c).Φ t.castSucc ∗ (dat U V O c).owesAt 0 t.castSucc
    ∗ (∃ d, owns (c : Thread nD τ) (ms0 t) fullShare ((dat U V O c).before 0 t d))
    ∗ (∃ d, owns (c : Thread nD τ) (ms1 t) fullShare ((dat U V O c).before 1 t d))
    ∗ (∃ d, owns (c : Thread nD τ) (ms2 t) fullShare ((dat U V O c).before 2 t d))
    ∗ (∃ d, owns (c : Thread nD τ) (ms3 t) fullShare ((dat U V O c).before 3 t d))
    ∗ (∃ d, owns (c : Thread nD τ) (ms4 t) fullShare ((dat U V O c).before 4 t d))
    ∗ (∃ d, owns (c : Thread nD τ) (ms5 t) fullShare ((dat U V O c).before 5 t d)))

def bodyPost (c : Dev nD) (t : Fin cfg0.N) : sProp (Mo F U) :=
  iprop((dat U V O c).Φ t.succ ∗ (dat U V O c).owesAt 0 t.succ
    ∗ (dat U V O c).leavesExact 0 t
    ∗ (dat U V O c).leavesExact 1 t
    ∗ (dat U V O c).leavesExact 2 t
    ∗ (dat U V O c).leavesExact 3 t
    ∗ (dat U V O c).leavesExact 4 t
    ∗ (dat U V O c).leavesExact 5 t)

theorem leaves {c : Dev nD} (w : Fin cfg0.W) (t : Fin cfg0.N) (h : cfg0.idle w (grid0.coords t) = false) :
    (dat U V O c).leavesExact w t = owns (c : Thread nD τ) ((cfg0.win w).stage (cfg0.slots t w)) fullShare ((dat U V O c).after w t) := by
  unfold Dat.leavesExact; rw [h]

set_option maxHeartbeats 4800000 in
/-- The point's run, whichever it is: it takes the blocks and what the point before left, and leaves what the proof data say. -/
theorem sound_body (c : Dev nD) (t : Fin cfg0.N) :
    bodyPre U V O c t ⊢ wp frame (wpE (defs₀ (F := F)) Variants.none c none) Set.univ (bodyAt0 t) (fun _ => bodyPost U V O c t) := by
  unfold bodyPre bodyPost bodyAt0
  simp only [before_0, before_1, before_2]
  rw [show (dat U V O c).owesAt 0 t.succ = (dat U V O c).owesAt 0 t.castSucc from rfl]
  rw [show (dat U V O c).Φ t.succ = iprop(owns (c : Thread nD τ) scM fullShare (outsAt U V c t.val t.isLt).2.2.2 ∗ (∃ r, prngReg c r)) from rfl]
  rw [leaves U V O 0 t rfl, leaves U V O 1 t rfl, leaves U V O 2 t rfl, leaves U V O 4 t rfl, leaves U V O 5 t rfl, after_0, after_1, after_2, after_4, after_5, Phi_castSucc]
  have hN : t.val < 16 := lt_of_lt_of_eq t.isLt (show cfg0.N = 16 from N_0)
  by_cases h0 : t.val % 16 = 0
  · have h1 : ¬ t.val % 16 = 15 := by omega
    rw [Dat.leavesExact_idle (dat U V O c) 3 t (idle3 t h1) (noFlush3 t h1), outsAt_A U V c t h0 h1, Phi_zero U V c _ _ (by omega), PhiA_eq]
    dsimp only [outsA, left]
    iintro ⟨⟨HS, Hg⟩, Ho, ⟨%d0, H0⟩, ⟨%d1, H1⟩, ⟨%d2, H2⟩, ⟨%d3, H3⟩, ⟨%d4, H4⟩, ⟨%d5, H5⟩⟩
    iapply ((atA V U c t h0 h1).2.2.2.2 _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iapply (owns_rb scM.view (atA V U c t h0 h1).2.2.2.1 (View.cover_of_tiledL (atA V U c t h0 h1).2.2.2.1 S1x1024.size (by sl_kernel_rfl))); iexact HS
      iexact Hg
    isplitl [Ho]; · iexact Ho
    isplitl [H0]; · iexact H0
    isplitl [H1]; · iexact H1
    isplitl [H2]; · iexact H2
    isplitl [H3]; · iexists _; iexact H3
    isplitl [H4]; · iapply (owns_rb VO4 (atA V U c t h0 h1).2.1 (View.cover_of_tiledL (atA V U c t h0 h1).2.1 S512x1024.size (by sl_kernel_rfl))); iexact H4
    iapply (owns_rb VO5 (atA V U c t h0 h1).2.2.1 (View.cover_of_tiledL (atA V U c t h0 h1).2.2.1 S1x1024.size (by sl_kernel_rfl))); iexact H5
  · by_cases h1 : t.val % 16 = 15
    · rw [leaves U V O 3 t (live3 t h1), after_3, outsAt_C U V c t h0 h1, Phi_pos U V c _ _ (by omega)]
      dsimp only [outsC, left]
      simp only [before_5 U V O c t h0]
      iintro ⟨⟨HS, Hg⟩, Ho, ⟨%d0, H0⟩, ⟨%d1, H1⟩, ⟨%d2, H2⟩, ⟨%d3, H3⟩, ⟨%d4, H4⟩, ⟨%d5, H5⟩⟩
      iapply ((atC V U c t h0 h1 (prev U V c t)).2.2.2.2 Set.univ _)
      isplitl [H0]; · iexact H0
      isplitl [H1]; · iexact H1
      isplitl [H2]; · iexact H2
      isplitl [H3]; · iexists _; iexact H3
      isplitl [H4]; · iexists _; iexact H4
      isplitl [H5]; · iexact H5
      isplitl [HS]; · iexact HS
      iintro ⟨H0, H1, H2, H3, H4, H5, HS⟩
      isplitl [HS Hg]
      · isplitl [HS]; · iapply (owns_rb scM.view (atC V U c t h0 h1 (prev U V c t)).2.2.2.1 (View.cover_of_tiledL (atC V U c t h0 h1 (prev U V c t)).2.2.2.1 S1x1024.size (by sl_kernel_rfl))); iexact HS
        iexact Hg
      isplitl [Ho]; · iexact Ho
      isplitl [H0]; · iexact H0
      isplitl [H1]; · iexact H1
      isplitl [H2]; · iexact H2
      isplitl [H3]; · iapply (owns_rb VO3 (atC V U c t h0 h1 (prev U V c t)).1 (View.cover_of_tiledL (atC V U c t h0 h1 (prev U V c t)).1 S1x1.size (by sl_kernel_rfl))); iexact H3
      isplitl [H4]; · iapply (owns_rb VO4 (atC V U c t h0 h1 (prev U V c t)).2.1 (View.cover_of_tiledL (atC V U c t h0 h1 (prev U V c t)).2.1 S512x1024.size (by sl_kernel_rfl))); iexact H4
      iapply (owns_rb VO5 (atC V U c t h0 h1 (prev U V c t)).2.2.1 (View.cover_of_tiledL (atC V U c t h0 h1 (prev U V c t)).2.2.1 S1x1024.size (by sl_kernel_rfl))); iexact H5
    · rw [Dat.leavesExact_idle (dat U V O c) 3 t (idle3 t h1) (noFlush3 t h1), outsAt_B U V c t h0 h1, Phi_pos U V c _ _ (by omega)]
      dsimp only [outsB, left]
      simp only [before_5 U V O c t h0]
      iintro ⟨⟨HS, Hg⟩, Ho, ⟨%d0, H0⟩, ⟨%d1, H1⟩, ⟨%d2, H2⟩, ⟨%d3, H3⟩, ⟨%d4, H4⟩, ⟨%d5, H5⟩⟩
      iapply ((atB V U c t h0 h1 (prev U V c t)).2.2.2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, H4, H5, HS⟩
      isplitl [HS Hg]
      · isplitl [HS]; · iapply (owns_rb scM.view (atB V U c t h0 h1 (prev U V c t)).2.2.2.1 (View.cover_of_tiledL (atB V U c t h0 h1 (prev U V c t)).2.2.2.1 S1x1024.size (by sl_kernel_rfl))); iexact HS
        iexact Hg
      isplitl [Ho]; · iexact Ho
      isplitl [H0]; · iexact H0
      isplitl [H1]; · iexact H1
      isplitl [H2]; · iexact H2
      isplitl [H3]; · iexists _; iexact H3
      isplitl [H4]; · iapply (owns_rb VO4 (atB V U c t h0 h1 (prev U V c t)).2.1 (View.cover_of_tiledL (atB V U c t h0 h1 (prev U V c t)).2.1 S512x1024.size (by sl_kernel_rfl))); iexact H4
      iapply (owns_rb VO5 (atB V U c t h0 h1 (prev U V c t)).2.2.1 (View.cover_of_tiledL (atB V U c t h0 h1 (prev U V c t)).2.2.1 S1x1024.size (by sl_kernel_rfl))); iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dat U V O c) (defs₀ (F := F)) Variants.none 0 Set.univ := fun t => by
  rw [bigSep_W0, bigSep_W0, defs₀_row]
  exact triple_restated (sound_body U V O c t) rfl .rfl fun _ => .rfl

theorem hin (c : Dev nD) : free U c ⊢ (dat U V O c).Φ 0 := by
  rw [show (dat U V O c).Φ 0 = Phi U V c 0 (Nat.zero_le _) from rfl, Phi_zero U V c 0 _ rfl]
  try exact Idealize.SL.BI.Entails.refl _

theorem hout (c : Dev nD) : (dat U V O c).Φ (Fin.last cfg0.N) ⊢ free U c := by
  rw [show (dat U V O c).Φ (Fin.last cfg0.N) = Phi U V c cfg0.N (Nat.le_refl _) from rfl,
    Phi_pos U V c _ _ (by have : cfg0.N = 16 := N_0; omega), PhiA_eq]
  iintro ⟨HS, Hg⟩
  isplitl [HS]
  · iexists _; iexact HS
  iexact Hg

end Cert.TotalRun

end
-- ==== Proof.TotalLaunch.lean ====
/- The whole program on the eight devices: the two host operations, the loss head's region, the reshape and the sum over the
   devices, run once at any float values; what every unscoped buffer holds afterwards, and every semaphore at zero. -/
module

public import proofs.«01_k».proof.Proof.TotalBody
public import Idealize.ShloMosaic.Lib.StableHlo.CollectiveRules
public import Idealize.ShloMosaic.Lib.Pipeline.CollectiveSegs
public import Idealize.ShloMosaic.Lib.Pipeline.RegionArraysS

@[expose] public section

noncomputable section

namespace Cert.TotalRun
open Cert.KernelTotalIdeal Cert.KernelTotalIdeal.Gen
open Cert.KernelTotalIdeal.Gen.Sites (L lv)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline library's component beside the sum's. -/
abbrev UU : Type := UR sig nD τ × Sites.UC
abbrev EP : Emb (UR sig nD τ) (Mo F UU) := embL
abbrev EC : Emb Sites.UC (Mo F UU) := embR

abbrev adm : (p : Fin 1) → (pcfgs (F := F) p).Adm := fun p => (cfgs p).toPCfg_adm
abbrev 𝒱₀ : Variants := Variants.none

variable (m : (ℓ : Loc nD τ sig) → Buf (Elt F) ℓ) (ρ : Dev nD → PrngReg)

/-- A device's buffers at launch, at the region's entry, and at the sum. -/
abbrev V₀ (c : Dev nD) : Valuation τ sig (Elt F) := fun b => m ((c : Dev nD), b)
abbrev V₁ (c : Dev nD) : Valuation τ sig (Elt F) := StableHlo.after (hostOps0 (F := F)) (V₀ m c)
abbrev E₁ (c : Dev nD) (b : Ref sig .tc) : Buf (Elt F) ((c : Thread nD τ).loc b) := V₁ m c (Proc.devRef .tc b)
abbrev pdats : (p : Fin 1) → (c : Dev nD) → Pipeline.Dat τ (Elt F) ℕ ℕ UU ℕ (Pipeline.pin (pcfgs (F := F)) adm p) c :=
  fun | 0 => fun c => dat UU (E₁ m) (Sites.O0 (F := F)) c | ⟨_ + 1, h⟩ => absurd h (Nat.not_lt.2 (Nat.le_add_left _ _))
abbrev Vr (c : Dev nD) : Valuation τ sig (Elt F) := Pipeline.afterRegion (pdats m 0 c) (V₁ m c)
abbrev V₂ (c : Dev nD) : Valuation τ sig (Elt F) := StableHlo.after (hostOps1 (F := F)) (Vr m c)

theorem ops0_sub : ∀ op ∈ (hostOps0 : List (HloOp τ sig (Elt F))), op.bufs ⊆ Pipeline.ucRefs τ sig := fun op h =>
  Pipeline.sub_ucRefs op ((List.forall_iff_forall_mem.mp hostOps0_sub) op h)
theorem ops1_sub : ∀ op ∈ (hostOps1 : List (HloOp τ sig (Elt F))), op.bufs ⊆ Pipeline.ucRefs τ sig := fun op h =>
  Pipeline.sub_ucRefs op ((List.forall_iff_forall_mem.mp hostOps1_sub) op h)
theorem ops0_fresh : ∀ op ∈ (hostOps0 : List (HloOp τ sig (Elt F))), op.fresh = ∅ := by
  intro _ h; (repeat (cases h with | head => rfl | tail _ h => ?_)); exact nomatch h
theorem ops1_fresh : ∀ op ∈ (hostOps1 : List (HloOp τ sig (Elt F))), op.fresh = ∅ := by
  intro _ h; (repeat (cases h with | head => rfl | tail _ h => ?_)); exact nomatch h

theorem arrs_sub : Pipeline.arrRefs (τ := τ) (pcfgs (F := F) 0).spec ⊆ Pipeline.ucRefs τ sig :=
  Pipeline.arrRefs_sub_ucRefs spec0 (by decide)

theorem cut0 : Pipeline.LevelCut (pcfgs (F := F)) adm 0 L lv 0 (Sites.O0 (F := F)) fun _ => 0 :=
  ⟨fun _ _ _ => Sites.mem_L _ _ (by decide), fun _ _ _ => le_refl _, fun _ _ _ hg => ⟨(Sites.O0_pos hg).1, (Sites.O0_pos hg).2⟩⟩

/-- The record that the sum's cells are under their invariants. -/
abbrev invs : sProp (Mo F UU) := iprop(∃ κ, (AllReduce.Dat.once (ar0 (F := F)) (V₂ m)).cellInvs (Sites.E0 EC) κ)

abbrev reg (c : Dev nD) : sProp (Mo F UU) := iprop(∃ r, prngReg c r)

/-- The four statements of @main. -/
def H0 : Pipeline.HostSeg (Ix := ℕ) (Name := ℕ) (U := UU) (Lvl := ℕ) (pcfgs (F := F)) defs₀ 𝒱₀ L lv :=
  Pipeline.HostSeg.ofOps _ _ _ _ _ (Pipeline.ucRefs τ sig) hostOps0 ops0_sub ops0_fresh (V₀ m) (Sites.Es EC (V₂ m) 0)
def H1 : Pipeline.HostSeg (Ix := ℕ) (Name := ℕ) (U := UU) (Lvl := ℕ) (pcfgs (F := F)) defs₀ 𝒱₀ L lv :=
  Pipeline.HostSeg.ofOps _ _ _ _ _ (Pipeline.ucRefs τ sig) hostOps1 ops1_sub ops1_fresh (Vr m) (Sites.Es EC (V₂ m) 0)
def HC0 : Pipeline.HostSeg (Ix := ℕ) (Name := ℕ) (U := UU) (Lvl := ℕ) (pcfgs (F := F)) defs₀ 𝒱₀ L lv :=
  Sites.seg0 EC 𝒱₀ (V₂ m) (Sites.Rest0 (V₂ m) fun _ => invs m)
def R0 : Pipeline.RegionSeg (pcfgs (F := F)) adm (pdats m) 0 defs₀ 𝒱₀ L lv 0 :=
  Pipeline.RegionSeg.ofHeldIn (pcfgs (F := F)) adm (pdats m) 0 defs₀ 𝒱₀ L lv 0 (Sites.O0 (F := F)) (Pipeline.ucRefs τ sig) reg reg
    launch0.toP rfl (fun c => (body_obligation UU (E₁ m) (Sites.O0 (F := F)) c).loose) (fun _ _ => rfl) (fun _ => rfl)
    (fun c => (pdats m 0 c).share_full fun _ => rfl)
    (fun c => hin UU (E₁ m) (Sites.O0 (F := F)) c) (fun c => hout UU (E₁ m) (Sites.O0 (F := F)) c)
    (fun _ => 0) cut0 (Sites.rides0 EC (V₂ m)) (V₁ m) (fun _ _ => rfl)

def segs : List (Pipeline.Seg (pcfgs (F := F)) adm (pdats m) 0 defs₀ 𝒱₀ L lv) := [.host (H0 m), .region (R0 m), .host (H1 m), .host (HC0 m)]

theorem main_eq (c : Dev nD) : main (F := F) c = Pipeline.Seg.run (segs m) :=
  main_segs adm (pdats m) 0 𝒱₀ L lv (H0 m) (H1 m) (HC0 m) (R0 m) rfl rfl rfl c

theorem H0_R0 (c : Dev nD) : (H0 (F := F) m).post c ⊢ (R0 m).pre c := by
  refine BIBase.Entails.trans ?_ (Pipeline.RegionSeg.ofHeldIn_pre arrs_sub c)
  show iprop(StableHlo.held (c : Thread nD τ) (Pipeline.ucRefs τ sig) (V₁ m c) ∗ Sites.Es EC (V₂ m) 0 c) ⊢ _
  rw [Sites.Es_0]

theorem R0_H1 (c : Dev nD) : (R0 (F := F) m).post c ⊢ (H1 m).pre c := by
  refine BIBase.Entails.trans (Pipeline.RegionSeg.ofHeldIn_post arrs_sub c) ?_
  show _ ⊢ iprop(StableHlo.held (c : Thread nD τ) (Pipeline.ucRefs τ sig) (Vr m c) ∗ Sites.Es EC (V₂ m) 0 c)
  rw [Sites.Es_0]

theorem H1_HC0 (c : Dev nD) : (H1 (F := F) m).post c ⊢ (HC0 m).pre c := by
  refine BIBase.Entails.trans ?_ (Sites.pre0 EC 𝒱₀ (V₂ m) (fun _ => invs m) c)
  show iprop(StableHlo.held (c : Thread nD τ) (Pipeline.ucRefs τ sig) (V₂ m c) ∗ Sites.Es EC (V₂ m) 0 c) ⊢ _
  rw [Sites.Es_0]
  iintro ⟨Hh, HO, Hp, Hr⟩
  ihave #Hi := (show (AllReduce.Dat.once (ar0 (F := F)) (V₂ m)).rides (Sites.E0 EC) c 1 2 ⊢ invs m from by
    unfold AllReduce.Dat.rides; iintro ⟨Hi, -⟩; iexact Hi) $$ Hr
  isplitl [Hh]; · iexact Hh
  isplitl [HO Hp Hr]
  · isplitl [HO]; · iexact HO
    isplitl [Hp] <;> iassumption
  iexact Hi

/-- What a device ends with: its unscoped buffers, and the sum's cells past their use. -/
abbrev Tₙ (c : Dev nD) : sProp (Mo F UU) :=
  iprop(StableHlo.held (c : Thread nD τ) (Pipeline.ucRefs τ sig) ((ar0 (F := F)).after₀ (V₂ m) c) ∗ (invs m ∗ Sites.Ghost0 EC c))

theorem HC0_end (c : Dev nD) : (HC0 (F := F) m).post c ⊢ iprop(Tₙ m c ∗ ∃ W, owes (c : Thread nD τ) (0 : CellTallies nD τ sig ℕ) W) := by
  refine BIBase.Entails.trans (Sites.post0 EC 𝒱₀ (V₂ m) (fun _ => invs m) c) ?_
  iintro ⟨Hh, He, Hg, Hi⟩
  ihave HO := (Sites.hE_last EC (V₂ m) c) $$ He
  isplitr [HO]
  · isplitl [Hh]; · iexact Hh
    isplitl [Hi] <;> iassumption
  iexact HO

abbrev T₀ (c : Dev nD) : sProp (Mo F UU) :=
  iprop(StableHlo.held (c : Thread nD τ) (Pipeline.ucRefs τ sig) (V₀ m c) ∗ Sites.Es EC (V₂ m) 0 c)

theorem init :
    iprop((bigSep Finset.univ fun c : Dev nD => iprop(unscopedBufs c (fun b => m ((c : Thread nD τ).loc b)) ∗ unscopedSems0 c
          ∗ owes (c : Thread nD τ) (Sites.O0 (F := F) c) ∅ ∗ Pipeline.launchCred (Sites.O0 (F := F)) c ∗ prngReg c (ρ c) ∗ Sites.G EC (V₂ m) c)) ∗ levAts L lv)
      ⊢ (|={Set.univ}=> bigSep Finset.univ (T₀ m) : sProp (Mo F UU)) := by
  have hb : ∀ c : Dev nD, (unscopedBufs c (fun b => m ((c : Thread nD τ).loc b)) : sProp (Mo F UU))
      = StableHlo.held (c : Thread nD τ) (Pipeline.ucRefs τ sig) (V₀ m c) := fun c => Pipeline.unscopedBufs_held c (V₀ m c)
  rw [bigSep_sep']
  iintro ⟨⟨Hb, Hr⟩, Hl⟩
  imod (Sites.hE0 EC (V₂ m) ρ) $$ [Hr Hl] with He
  · isplitl [Hr] <;> iassumption
  imodintro
  iapply (show iprop((bigSep Finset.univ fun c : Dev nD => StableHlo.held (c : Thread nD τ) (Pipeline.ucRefs τ sig) (V₀ m c))
      ∗ bigSep Finset.univ (Sites.Es EC (V₂ m) 0)) ⊢ (bigSep Finset.univ (T₀ m) : sProp (Mo F UU)) from by rw [← bigSep_sep'])
  isplitl [Hb]
  · iapply (show (bigSep Finset.univ fun c : Dev nD => (unscopedBufs c (fun b => m ((c : Thread nD τ).loc b)) : sProp (Mo F UU)))
        ⊢ bigSep Finset.univ fun c : Dev nD => StableHlo.held (c : Thread nD τ) (Pipeline.ucRefs τ sig) (V₀ m c) from
      bigSep_mono fun c _ => Entails.of_eq (hb c))
    iexact Hb
  iexact He

set_option backward.isDefEq.respectTransparency.types false in
/-- THE RUN: every weakly fair execution on the eight devices ends, every unscoped buffer of a device holds what the four
    statements make of the launch contents, and every semaphore counter is zero. -/
theorem run_main : θ_run defs (onTc (τ := τ) (main (F := F))) ⟨m, fun _ => 0, ρ⟩
    (fun r => (∀ (c : Dev nD) (b : Ref sig .tc), b.isScoped = false →
      r.2.mem ((c : Thread nD τ).loc b) = (ar0 (F := F)).after₀ (V₂ m) c (Proc.devRef .tc b)) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := Sites.O0 (F := F)) (hL := Sites.hL) (G := Sites.G EC (V₂ m))
    (u₀ := (initOf (Pipeline.cells (Pipeline.pin (pcfgs (F := F)) adm) cellOf_inj) (Pipeline.launchToks (Pipeline.pin (pcfgs (F := F)) adm) cellOf_inj),
      Sites.uC (U := UU) (V₂ m)))
    (hu₀ := by
      iintro Hu
      ihave H := (ownU_pair _ _) $$ Hu
      icases H with ⟨HP, HX⟩
      imodintro
      isplitl [HP]; · iexact HP
      rw [Sites.bigSep_G]; iexact HX)
    (T₀ := T₀ m) (Tₙ := Tₙ m)
    (hch := ⟨fun _ => BI.Entails.refl _, H0_R0 m, R0_H1 m, H1_HC0 m, HC0_end m⟩)
    (hinit := init m ρ)
    (QY := fun c s => (∀ b ∈ Pipeline.ucRefs τ sig, s.mem ((c : Thread nD τ).1, b) = (ar0 (F := F)).after₀ (V₂ m) c b)
      ∧ s.sem ((ar0 (F := F)).barrierCell c) = 0 ∧ s.sem ((ar0 (F := F)).recvCell c) = 0 ∧ s.sem ((ar0 (F := F)).sendCell c) = 0)
    (hfin := fun c s' => by
      iintro ⟨⟨Hh, Hg⟩, HSI⟩
      imod ((AllReduce.Dat.once (ar0 (F := F)) (V₂ m)).ghostAfter_read (Sites.E0 EC) c (k := 0) le_rfl s') $$ [Hg HSI] with ⟨%ha, HSI⟩
      · isplitl [Hg] <;> iassumption
      ihave Hr := (pointsTo_read_all (Pipeline.ucRefs τ sig) (fun b => ((c : Thread nD τ).1, b)) ((ar0 (F := F)).after₀ (V₂ m) c) s') $$ [Hh HSI]
      · isplitl [Hh]
        · unfold StableHlo.held; iexact Hh
        iexact HSI
      icases Hr with ⟨%hr, HSI⟩
      imodintro
      isplitr; · ipureintro; exact ⟨hr, ha⟩
      iexact HSI)
    (hQ := fun s h hs => ⟨fun c b hb => (h c).1 (Proc.devRef .tc b) (Pipeline.devRef_mem_ucRefs hb), sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

end Cert.TotalRun

end
-- ==== Proof.TotalValue.lean ====
/- What the program's sum over the devices is: each device's loss, then their sum. -/
module

public import proofs.«01_k».proof.Proof.TotalLaunch
public import proofs.«01_k».proof.Proof.LossHead

@[expose] public section

set_option maxRecDepth 16384

noncomputable section

namespace Cert.TotalRun
open Cert.KernelTotalIdeal Cert.KernelTotalIdeal.Gen
open Idealize.ShloMosaic Idealize.ShloMosaic.TcCoe Idealize.SL.Sem Cert.Rms
open Cert.KernelLossIdeal.Gen (diff xr gr sr sqall lossall)

theorem zero_sq (i j) : k0_pay4 (F := Ideal) (ix2 i j) = 0 := by pointwise [k0_pay4]

/-- One tile's part of a column's squared differences. -/
def sqt (x : Vec Ideal S512x1024 .f32) (g : Vec Ideal S1x1024 .f32) (s : Vec Ideal S512x1024 .f32) (j : Fin 1024) : EReal :=
  ∑ r : Fin 512, diff (fun k => x (ix2 r k)) (fun k => g (ix2 0 k)) (fun k => s (ix2 r k)) j * diff (fun k => x (ix2 r k)) (fun k => g (ix2 0 k)) (fun k => s (ix2 r k)) j

theorem sq_at (g : Vec Ideal S1x1024 .f32) (x s : Vec Ideal S512x1024 .f32) (o : Vec Ideal S1x1024 .f32) (i : Fin 1) (j : Fin 1024) :
    k0_pay11 g x s o (ix2 i j) = o (ix2 i j) + sqt x g s j := by
  unfold sqt
  pointwise [k0_pay11, k0_pay10, k0_pay9, k0_pay8, k0_pay7, k0_pay6, diff, rs]

theorem loss_at (o : Vec Ideal S1x1024 .f32) (i j : Fin 1) : k0_pay3 o (ix2 i j) = (∑ k : Fin 1024, o (ix2 0 k)) * Ideal.ofBits .f32 0x3A000000#32 := by
  pointwise [k0_pay3]

variable (m : (ℓ : Loc nD τ sig) → Buf (Elt Ideal) ℓ)

/-- What point `n` leaves on device `c`. -/
abbrev outs (c : Dev nD) (n : ℕ) (h : n < cfg0.N) : Outs Ideal := outsAt UU (E₁ m) c n h

section
variable (c : Dev nD) (i : grid0.Coords) {arg1 : Memref sig .tc .vmem S512x1024 .f32} (harg1 : arg1.IsWhole) {arg2 : Memref sig .tc .vmem S1x1024 .f32} (harg2 : arg2.IsWhole)
  {arg3 : Memref sig .tc .vmem S512x1024 .f32} (harg3 : arg3.IsWhole) {arg4 : Memref sig .tc .vmem S1x1 .f32} (harg4 : arg4.IsWhole) {arg5 : Memref sig .tc .vmem S512x1024 .f32} (harg5 : arg5.IsWhole)
  {arg6 : Memref sig .tc .vmem S1x1024 .f32} (harg6 : arg6.IsWhole) (x : Vec Ideal S512x1024 .f32) (g : Vec Ideal S1x1024 .f32) (s : Vec Ideal S512x1024 .f32) (o3 o : Vec Ideal S1x1024 .f32)

/-- The first point's squares. -/
theorem left_A (hc0 : cond0 i) (hc1 : ¬cond1 i) (a : Fin 1) (j : Fin 1024) :
    rb scM.view (runA UU c i harg1 harg2 harg3 harg4 harg5 harg6 (Memref.isWhole_whole cc0_scratch0) hc0 hc1 x g s).2.2.2.1 (ix2 a j) = 0 + sqt x g s j := by
  frame_out
  refine (sq_at g x s _ a j).trans ?_
  rw [zero_sq]

/-- A middle point adds its squares. -/
theorem left_B (hc0 : ¬cond0 i) (hc1 : ¬cond1 i) (a : Fin 1) (j : Fin 1024) :
    rb scM.view (runB UU c i harg1 harg2 harg3 harg4 harg5 harg6 (Memref.isWhole_whole cc0_scratch0) hc0 hc1 x g s o3 o).2.2.2.1 (ix2 a j) = o (ix2 a j) + sqt x g s j := by
  frame_out
  refine (congrArg (fun o => k0_pay11 g x s o (ix2 a j)) ((Memref.isWhole_whole cc0_scratch0).read_unread o)).trans ?_
  exact sq_at g x s _ a j

/-- So does the last. -/
theorem left_C (hc0 : ¬cond0 i) (hc1 : cond1 i) (a : Fin 1) (j : Fin 1024) :
    rb scM.view (runC UU c i harg1 harg2 harg3 harg4 harg5 harg6 (Memref.isWhole_whole cc0_scratch0) hc0 hc1 x g s o3 o).2.2.2.1 (ix2 a j) = o (ix2 a j) + sqt x g s j := by
  frame_out
  refine (congrArg (fun o => k0_pay11 g x s o (ix2 a j)) ((Memref.isWhole_whole cc0_scratch0).read_unread o)).trans ?_
  exact sq_at g x s _ a j

/-- It writes the squares, added up and scaled. -/
theorem loss_left (hc0 : ¬cond0 i) (hc1 : cond1 i) (a b : Fin 1) :
    rb VO3 (runC UU c i harg1 harg2 harg3 harg4 harg5 harg6 (Memref.isWhole_whole cc0_scratch0) hc0 hc1 x g s o3 o).1 (ix2 a b) = (∑ k : Fin 1024, rb scM.view (runC UU c i harg1 harg2 harg3 harg4 harg5 harg6 (Memref.isWhole_whole cc0_scratch0) hc0 hc1 x g s o3 o).2.2.2.1 (ix2 0 k)) * Ideal.ofBits .f32 0x3A000000#32 := by
  frame_out
  exact loss_at _ a b

end

theorem left_sq (L3 : List (View.Piece (Elt Ideal) S1x1 .f32)) (L4 : List (View.Piece (Elt Ideal) S512x1024 .f32)) (L5 L6 : List (View.Piece (Elt Ideal) S1x1024 .f32)) :
    (left L3 L4 L5 L6).2.2.2 = rb scM.view L6 := rfl

theorem outsA_sq (c : Dev nD) (t : Fin cfg0.N) (h0 : t.1 % 16 = 0) (h1 : ¬ t.1 % 16 = 15) :
    (outsA (E₁ m) UU c t h0 h1).2.2.2 = rb scM.view (atA (E₁ m) UU c t h0 h1).2.2.2.1 := by rw [outsA, left_sq]

theorem outsB_sq (c : Dev nD) (t : Fin cfg0.N) (h0 : ¬ t.1 % 16 = 0) (h1 : ¬ t.1 % 16 = 15) (o : Outs Ideal) :
    (outsB (E₁ m) UU c t h0 h1 o).2.2.2 = rb scM.view (atB (E₁ m) UU c t h0 h1 o).2.2.2.1 := by rw [outsB, left_sq]

theorem outsC_sq (c : Dev nD) (t : Fin cfg0.N) (h0 : ¬ t.1 % 16 = 0) (h1 : t.1 % 16 = 15) (o : Outs Ideal) :
    (outsC (E₁ m) UU c t h0 h1 o).2.2.2 = rb scM.view (atC (E₁ m) UU c t h0 h1 o).2.2.2.1 := by rw [outsC, left_sq]

theorem outsC_loss (c : Dev nD) (t : Fin cfg0.N) (h0 : ¬ t.1 % 16 = 0) (h1 : t.1 % 16 = 15) (o : Outs Ideal) :
    (outsC (E₁ m) UU c t h0 h1 o).1 = rb VO3 (atC (E₁ m) UU c t h0 h1 o).1 := by unfold outsC left; rfl

theorem sq_A (c : Dev nD) (t : Fin cfg0.N) (h0 : t.1 % 16 = 0) (i : Fin 1) (j : Fin 1024) : (outs m c t.1 t.2).2.2.2 (ix2 i j)
    = 0 + sqt (iblk (E₁ m) c 0 t) (iblk (E₁ m) c 1 t) (iblk (E₁ m) c 2 t) j := by
  have h1 : ¬ t.1 % 16 = 15 := by omega
  rw [outs, outsAt_A UU (E₁ m) c t h0 h1, outsA_sq]
  apply left_A

theorem sq_B (c : Dev nD) (t : Fin cfg0.N) (h0 : ¬ t.1 % 16 = 0) (i : Fin 1) (j : Fin 1024) : (outs m c t.1 t.2).2.2.2 (ix2 i j)
    = (outs m c (t.val - 1) (Nat.lt_of_le_of_lt (Nat.sub_le _ _) t.isLt)).2.2.2 (ix2 i j)
      + sqt (iblk (E₁ m) c 0 t) (iblk (E₁ m) c 1 t) (iblk (E₁ m) c 2 t) j := by
  by_cases h1 : t.1 % 16 = 15
  · rw [outs, outsAt_C UU (E₁ m) c t h0 h1, outsC_sq]
    apply left_C
  · rw [outs, outsAt_B UU (E₁ m) c t h0 h1, outsB_sq]
    apply left_B

/-- The last point writes the columns' squared differences, added up and scaled. -/
theorem loss_C (c : Dev nD) (t : Fin cfg0.N) (h1 : t.1 % 16 = 15) (i j : Fin 1) : (outs m c t.1 t.2).1 (ix2 i j)
    = (∑ k : Fin 1024, (outs m c t.1 t.2).2.2.2 (ix2 0 k)) * Ideal.ofBits .f32 0x3A000000#32 := by
  have h0 : ¬ t.1 % 16 = 0 := by omega
  rw [outs, outsAt_C UU (E₁ m) c t h0 h1, outsC_sq, outsC_loss]
  apply loss_left

theorem idx : ∀ t : Fin cfg0.N, win0_0.index t = ![t.val, 0] ∧ win0_1.index t = ![0, 0] ∧ win0_2.index t = ![t.val, 0] ∧ win0_3.index t = ![0, 0] :=
  (by decide +kernel : ∀ t : Fin grid0.N, _)

/-- The scale as the line lays it out, and the target as the line reshapes it. -/
theorem in1 (c : Dev nD) : E₁ m c main_v1 = (broadcastInDim S1x1024 ![1] bcast_S1024_S1x1024_1 (m ((c : Thread nD τ).loc main_arg1)) : Vec Ideal S1x1024 .f32) := by
  show StableHlo.after (hostOps0 (F := Ideal)) (V₀ m c) (Proc.devRef .tc main_v1) = _
  unfold hostOps0
  after_results

theorem in2 (c : Dev nD) : E₁ m c main_v2 = shapeCast S8192x1024 (m ((c : Thread nD τ).loc main_arg2)) shapeCasts_S2x4096x1024_S8192x1024 := by
  show StableHlo.after (hostOps0 (F := Ideal)) (V₀ m c) (Proc.devRef .tc main_v2) = _
  unfold hostOps0
  after_results
  rfl

theorem x_blk (c : Dev nD) (t : Fin cfg0.N) (r : Fin 512) : (fun j : Fin 1024 => (iblk (E₁ m) c 0 t (ix2 r j) : EReal))
    = xr (m ((c : Thread nD τ).loc main_arg0)) ⟨512 * t + r, by have := lt_of_lt_of_eq t.isLt N_0; omega⟩ := by
  funext j
  unfold xr
  blk_point [iblk, idx t]

theorem g_blk (c : Dev nD) (t : Fin cfg0.N) : (fun j : Fin 1024 => (iblk (E₁ m) c 1 t (ix2 0 j) : EReal)) = gr (m ((c : Thread nD τ).loc main_arg1)) := by
  funext j
  unfold gr
  rw [iblk]
  have e : E₁ m c (Pipeline.arrRef spec0 1) = _ := in1 m c
  have q : (win0_1.blk t).view.emb (ix2 (0 : Fin 1) j) = ix2 (0 : Fin 1) j := by blk_ext [idx t]
  rw [e]
  show broadcastInDim S1x1024 ![1] bcast_S1024_S1x1024_1 (m ((c : Thread nD τ).loc main_arg1)) ((win0_1.blk t).view.emb (ix2 (0 : Fin 1) j)) = _
  rw [q]
  pointwise []

theorem reshape_at (w : FVec Ideal S2x4096x1024 .f32) (n : Fin 8192) (j : Fin 1024) :
    shapeCast S8192x1024 w shapeCasts_S2x4096x1024_S8192x1024 (ix2 n j) = w (ix3 ⟨n / 4096, by omega⟩ ⟨n % 4096, by omega⟩ j) := by
  refine shapeCast_apply _ _ _ _ ?_
  rw [Shape.rowMajor_val_three, Shape.rowMajor_val_two]
  show ((n.val / 4096) * 4096 + n.val % 4096) * 1024 + j.val = n.val * 1024 + j.val
  omega

theorem s_blk (c : Dev nD) (t : Fin cfg0.N) (r : Fin 512) : (fun j : Fin 1024 => (iblk (E₁ m) c 2 t (ix2 r j) : EReal))
    = sr (m ((c : Thread nD τ).loc main_arg2)) ⟨512 * t + r, by have := lt_of_lt_of_eq t.isLt N_0; omega⟩ := by
  funext j
  unfold sr
  rw [iblk]
  have e : E₁ m c (Pipeline.arrRef spec0 2) = _ := in2 m c
  have hr : 512 * t.val + r.val < 8192 := by have := lt_of_lt_of_eq t.isLt N_0; omega
  have q : (win0_2.blk t).view.emb (ix2 r j) = ix2 (⟨512 * t + r, hr⟩ : Fin 8192) j := by blk_ext [idx t]
  rw [e]
  show shapeCast S8192x1024 (m ((c : Thread nD τ).loc main_arg2)) shapeCasts_S2x4096x1024_S8192x1024 ((win0_2.blk t).view.emb (ix2 r j)) = _
  rw [q]
  exact reshape_at _ _ j

theorem sq_sum (c : Dev nD) (t : Fin cfg0.N) (j : Fin 1024) (h : ∀ s : Fin 16, 16 * (t.val / 16) + s.val < cfg0.N) :
    ∑ s : Fin 16, sqt (iblk (E₁ m) c 0 ⟨16 * (t.val / 16) + s.val, h s⟩) (iblk (E₁ m) c 1 ⟨16 * (t.val / 16) + s.val, h s⟩) (iblk (E₁ m) c 2 ⟨16 * (t.val / 16) + s.val, h s⟩) j
    = sqall (m ((c : Thread nD τ).loc main_arg0)) (m ((c : Thread nD τ).loc main_arg1)) (m ((c : Thread nD τ).loc main_arg2)) j := by
  refine Fin.sum_mul_add_congr fun s k hl => ?_
  have q : ∀ h, (⟨512 * (16 * (t.val / 16) + s.val) + k.val, h⟩ : Fin 8192) = ⟨s.val * 512 + k.val, hl⟩ := fun h =>
    Fin.ext (by have := lt_of_lt_of_eq t.isLt N_0; simp only; omega)
  rw [x_blk, g_blk, s_blk]
  simp only [q]

theorem sq_last (c : Dev nD) (t : Fin cfg0.N) (h1 : t.1 % 16 = 15) (j : Fin 1024) : (outs m c t.1 t.2).2.2.2 (ix2 0 j)
    = sqall (m ((c : Thread nD τ).loc main_arg0)) (m ((c : Thread nD τ).loc main_arg1)) (m ((c : Thread nD τ).loc main_arg2)) j := by
  rw [Pipeline.eq_sum_fin_of_reset_step_apply_of_flush (fun n h => (outs m c n h).2.2.2) 16 (fun _ => 0)
    (fun t y => sqt (iblk (E₁ m) c 0 t) (iblk (E₁ m) c 1 t) (iblk (E₁ m) c 2 t) (y 1))
    (fun t h y => by obtain ⟨i, j, rfl⟩ : ∃ (i : Fin 1) (j : Fin 1024), y = ix2 i j := ⟨y 0, y 1, by blk_ext⟩
                     exact sq_A m c t h i j)
    (fun t h y => by obtain ⟨i, j, rfl⟩ : ∃ (i : Fin 1) (j : Fin 1024), y = ix2 i j := ⟨y 0, y 1, by blk_ext⟩
                     exact sq_B m c t h i j)
    t h1 _, zero_add]
  exact sq_sum m c t j _

/-- A device's own loss. -/
abbrev own (c : Dev nD) : EReal := lossall (m ((c : Thread nD τ).loc main_arg0)) (m ((c : Thread nD τ).loc main_arg1)) (m ((c : Thread nD τ).loc main_arg2))

theorem flush3 : ∀ t : Fin cfg0.N, (cfg0.win 3).flush t = true → t.val % 16 = 15 := by decide +kernel

theorem final3 (c : Dev nD) : (dat UU (E₁ m) (Sites.O0 (F := Ideal)) c).arrAt 3 cfg0.N = fun _ : S1x1.Idx => own m c := by
  refine (dat UU (E₁ m) (Sites.O0 (F := Ideal)) c).arrAt_eq_of_covers 3 _ (by decide +kernel) fun t hf y => ?_
  blk_simp
  rw [after_3]
  obtain ⟨i, j, rfl⟩ : ∃ (i : Fin 1) (j : Fin 1), y = ix2 i j := ⟨y 0, y 1, by blk_ext⟩
  have h1 := flush3 t hf
  refine (loss_C m c t h1 i j).trans ?_
  rw [own, lossall]
  exact congrArg (· * _) (Fin.sum_fin_congr fun k => sq_last m c t h1 k)

/-- The sum's operand is the loss as a single number. -/
theorem operand (c : Dev nD) : V₂ m c (Proc.devRef .tc main_v4) = fun _ : S_.Idx => own m c := by
  have h := (Pipeline.afterRegion_arr (pdats m 0 c) (V₁ m c) launch0.win.arr_inj 3).trans (final3 m c)
  show StableHlo.after (hostOps1 (F := Ideal)) (Vr m c) (Proc.devRef .tc main_v4) = _
  unfold hostOps1
  after_results
  funext i
  have h' : Vr m c (Proc.devRef .tc main_v3_0) = fun _ : S1x1.Idx => own m c := h
  show shapeCast S_ (Vr m c (Proc.devRef .tc main_v3_0)) shapeCasts_S1x1_S_ i = _
  rw [h']
  rfl

theorem result (c : Dev nD) : (ar0 (F := Ideal)).after₀ (V₂ m) c (Proc.devRef .tc main_v5) = fun _ : S_.Idx => ∑ d : Dev nD, own m d := by
  refine ((ar0 (F := Ideal)).after₀_result (V₂ m) c).trans ?_
  have h : (fun j => V₂ m ((ar0 (F := Ideal)).peer c j) (Proc.devRef .tc (ar0 (F := Ideal)).operand)) = fun j => (fun _ : S_.Idx => own m ((ar0 (F := Ideal)).peer c j)) :=
    funext fun j => operand m _
  rw [h]
  have hp : ∀ c : Dev nD, ∀ j : Fin 8, (ar0 (F := Ideal)).peer c j = (j : Fin 8) := by decide +kernel
  funext i
  show own m ((ar0 (F := Ideal)).peer c 0) + own m ((ar0 (F := Ideal)).peer c 1) + own m ((ar0 (F := Ideal)).peer c 2) + own m ((ar0 (F := Ideal)).peer c 3)
    + own m ((ar0 (F := Ideal)).peer c 4) + own m ((ar0 (F := Ideal)).peer c 5) + own m ((ar0 (F := Ideal)).peer c 6) + own m ((ar0 (F := Ideal)).peer c 7) = _
  simp only [hp]
  exact (Fin.sum_univ_eight (fun d : Fin 8 => own m d)).symm

end Cert.TotalRun
end
-- ==== Proof.TotalRef.lean ====
/- The loss over all devices: the reference, read number by number, against the sum of the devices' losses. -/
module

public import proofs.«01_k».proof.Proof.TotalValue
public import proofs.«01_k».proof.Proof.LossHeadRef
public import proofs.«01_k».proof.Proof.Gen.ReferenceTotalIdeal.Run

@[expose] public section

set_option maxRecDepth 16384

noncomputable section

namespace Cert.TotalRef
open Idealize.ShloMosaic Idealize.ShloMosaic.TcCoe Idealize.SL.Sem Cert.Rms Cert.Reals Cert.ReferenceTotalIdeal
open Cert.ReferenceTotalIdeal.Facts₀
open Cert.KernelLossIdeal.Gen (diff xr gr sr sqall lossall)

variable (x : FVec Ideal S65536x1024 .f32) (g : FVec Ideal S1024 .f32) (s : FVec Ideal S16x4096x1024 .f32)

/-! ## The reference's arrays -/

def X : FVec Ideal S16x4096x1024 .f32 := shapeCast _ x shapeCasts_S65536x1024_S16x4096x1024

def ms : FVec Ideal S16x4096x1 .f32 :=
  addf (Host.divf (broadcastInDim S16x4096x1 ![0, 1] bcast_S16x4096_S16x4096x1_0_1
      (Host.reduceAdd (mulf (X x) (X x)) (constant S_ .f32 0x00000000#32) reducesTo_S16x4096x1024_S16x4096_d2 h_S_))
      (broadcastInDim S16x4096x1 ![] bcast_S_S16x4096x1 (constant S_ .f32 0x44800000#32)))
    (broadcastInDim S16x4096x1 ![] bcast_S_S16x4096x1 (constant S_ .f32 0x358637BD#32))

def xn : FVec Ideal S16x4096x1024 .f32 := mulf (X x) (broadcastInDim S16x4096x1024 ![0, 1, 2] bcast_S16x4096x1_S16x4096x1024_0_1_2 (Host.rsqrt (ms x)))

def gs : FVec Ideal S16x4096x1024 .f32 :=
  broadcastInDim S16x4096x1024 ![0, 1, 2] bcast_S1x1x1024_S16x4096x1024_0_1_2 (broadcastInDim S1x1x1024 ![2] bcast_S1024_S1x1x1024_2 g)

def df : FVec Ideal S16x4096x1024 .f32 := subf (mulf (xn x) (gs g)) s

def er : FVec Ideal S16x4096 .f32 :=
  Host.divf (Host.reduceAdd (mulf (df x g s) (df x g s)) (constant S_ .f32 0x00000000#32) reducesTo_S16x4096x1024_S16x4096_d2 h_S_)
    (broadcastInDim S16x4096 ![] bcast_S_S16x4096 (constant S_ .f32 0x44800000#32))

def lossr : FVec Ideal S_ .f32 :=
  mulf (constant S_ .f32 0x3F000000#32) (Host.reduceAdd (er x g s) (constant S_ .f32 0x00000000#32) reducesTo_S16x4096_S_d0_1 h_S_)

/-! ## Number by number -/

/-- A row of the whole input. -/
def xw (r : Fin 65536) (j : Fin 1024) : EReal := x (ix2 r j)

/-- A row of the whole target. -/
def sw (r : Fin 65536) (j : Fin 1024) : EReal := s (ix3 ⟨r / 4096, by omega⟩ ⟨r % 4096, by omega⟩ j)

/-- Row `r` of sequence `q` among all rows. -/
abbrev row (q : Fin 16) (r : Fin 4096) : Fin 65536 := ⟨q * 4096 + r, by omega⟩

theorem X_at (q : Fin 16) (r : Fin 4096) (j : Fin 1024) : X x (ix3 q r j) = xw x (row q r) j := by
  unfold xw
  pointwise [X]

theorem ms_at (q : Fin 16) (r : Fin 4096) (i : Fin 1) : ms x (ix3 q r i)
    = Ideal.div (∑ k, xw x (row q r) k * xw x (row q r) k) (Ideal.ofBits .f32 0x44800000#32) + Ideal.ofBits .f32 0x358637BD#32 := by
  pointwise [ms, X_at]

theorem xn_at (q : Fin 16) (r : Fin 4096) (j : Fin 1024) : xn x (ix3 q r j) = xw x (row q r) j * rs (xw x (row q r)) := by
  pointwise [xn, X_at, ms_at, rs]

theorem gs_at (q : Fin 16) (r : Fin 4096) (j : Fin 1024) : gs g (ix3 q r j) = gr g j := by
  unfold gr
  pointwise [gs]

theorem s_at (q : Fin 16) (r : Fin 4096) (j : Fin 1024) : s (ix3 q r j) = sw s (row q r) j := by
  unfold sw
  blk_point []

theorem df_at (q : Fin 16) (r : Fin 4096) (j : Fin 1024) : df x g s (ix3 q r j) = diff (xw x (row q r)) (gr g) (sw s (row q r)) j := by
  refine (congrArg₂ (fun a b : EReal => a - b) (congrArg₂ (fun a b : EReal => a * b) (xn_at x q r j) (gs_at g q r j)) (s_at s q r j)).trans ?_
  rfl

theorem er_at (q : Fin 16) (r : Fin 4096) : er x g s (ix2 q r)
    = Ideal.div (∑ j, diff (xw x (row q r)) (gr g) (sw s (row q r)) j * diff (xw x (row q r)) (gr g) (sw s (row q r)) j) (Ideal.ofBits .f32 0x44800000#32) := by
  pointwise [er, df_at]

theorem lossr_at (i : S_.Idx) : lossr x g s i = Ideal.ofBits .f32 0x3F000000#32 * ∑ q : Fin 16, ∑ r : Fin 4096, er x g s (ix2 q r) := by
  obtain rfl : i = ix0 := funext fun a => a.elim0
  unfold lossr
  generalize er x g s = e
  pointwise []

/-! ## Device by device -/

/-- Device `c`'s rows of the input, and of the target. -/
abbrev xd (c : Fin 8) : FVec Ideal ⟨2, ![8192, 1024]⟩ .f32 := Layout.block ⟨2, ![8192, 1024]⟩ ⟨2, ![65536, 1024]⟩ 0 8 c x
abbrev sd (c : Fin 8) : FVec Ideal ⟨3, ![2, 4096, 1024]⟩ .f32 := Layout.block ⟨3, ![2, 4096, 1024]⟩ ⟨3, ![16, 4096, 1024]⟩ 0 8 c s

theorem xd_at (c : Fin 8) (r : Fin 8192) (h : c.val * 8192 + r.val < 65536) : xr (xd x c) r = xw x ⟨c.val * 8192 + r.val, h⟩ := by
  funext j
  unfold xr xw xd
  rw [Layout.block_apply]
  exact congrArg x (funext fun a => Fin.ext (by fin_cases a <;> rfl))

theorem sd_at (c : Fin 8) (r : Fin 8192) (h : c.val * 8192 + r.val < 65536) : sr (sd s c) r = sw s ⟨c.val * 8192 + r.val, h⟩ := by
  funext j
  unfold sr sw sd
  rw [Layout.block_apply]
  refine congrArg s (funext fun a => Fin.ext ?_)
  fin_cases a
  · show c.val * 2 + r.val / 4096 = (c.val * 8192 + r.val) / 4096
    omega
  · show r.val % 4096 = (c.val * 8192 + r.val) % 4096
    omega
  · rfl

theorem loss_eq (i : S_.Idx) : lossr x g s i = ∑ c : Fin 8, lossall (xd x c) g (sd s c) := by
  have hs : ∀ (f g s : Fin 1024 → EReal), 0 ≤ ∑ j, diff f g s j * diff f g s j := fun f g s => Finset.sum_nonneg fun j _ => square_nonneg _
  have e : ∀ c : Fin 8, lossall (xd x c) g (sd s c) = Ideal.ofBits .f32 0x3A000000#32
      * ∑ r : Fin 8192, ∑ j, diff (xr (xd x c) r) (gr g) (sr (sd s c) r) j * diff (xr (xd x c) r) (gr g) (sr (sd s c) r) j := fun c => by
    unfold lossall sqall
    rw [mul_comm, Finset.sum_comm]
  simp only [e]
  rw [← mul_sum_nonneg _ fun c => Finset.sum_nonneg fun r _ => hs _ _ _, lossr_at]
  simp only [er_at]
  rw [Fin.sum_mul_add_congr (L := 65536) (f := fun n => Ideal.div (∑ j, diff (xw x n) (gr g) (sw s n) j * diff (xw x n) (gr g) (sw s n) j) (Ideal.ofBits .f32 0x44800000#32))
    fun q r hl => rfl, Cert.LossHead.half_means]
  refine congrArg (_ * ·) (Fin.sum_mul_add_congr fun c r hl => ?_).symm
  rw [xd_at x c r hl, sd_at s c r hl]

end Cert.TotalRef
end
-- ==== Proof.TotalClaim.lean ====
/- The loss over all devices: the frames and the claim. -/
module

public import proofs.«01_k».proof.Proof.TotalRef
public import proofs.«01_k».proof.Proof.Gen.KernelTotal

@[expose] public section

set_option maxRecDepth 16384

noncomputable section

namespace Cert.TotalRun
open Cert.KernelTotalIdeal Cert.KernelTotalIdeal.Gen
open Idealize.ShloMosaic Idealize.ShloMosaic.TcCoe Idealize.SL.Sem

variable {F : FTy → Type} [FloatOps F] (m : (ℓ : Loc nD τ sig) → Buf (Elt F) ℓ)

/-- The sum writes no buffer but its own. -/
theorem sum_keeps (c : Dev nD) (b : Ref sig .tc) (h0 : b ≠ main_v5) (h1 : ∀ j, b ≠ ar0_stage j) :
    (ar0 (F := F)).after₀ (V₂ m) c (Proc.devRef .tc b) = V₂ m c (Proc.devRef .tc b) := by
  refine (ar0 (F := F)).after₀_of_notMem (V₂ m) c fun h => ?_
  rcases Finset.mem_insert.mp h with h | h
  · exact h0 (Proc.devRef_injective _ h)
  · obtain ⟨j, hj⟩ := (ar0 (F := F)).mem_stageRefs.mp h
    exact h1 j (Proc.devRef_injective _ hj)

/-- The call writes none of its inputs. -/
theorem call_keeps (c : Dev nD) (b : Ref sig .tc) (h : ∀ w, Pipeline.arrRef spec0 w = b → (cfg0.win w).isOut = false) :
    Vr m c (Proc.devRef .tc b) = V₁ m c (Proc.devRef .tc b) :=
  Pipeline.afterRegion_keeps (pdats m 0 c) (V₁ m c) launch0.win.arr_inj (fun w => A_eq _ _ _ _ w) b h

theorem kept (c : Dev nD) : (ar0 (F := F)).after₀ (V₂ m) c (Proc.devRef .tc main_arg0) = m ((c : Thread nD τ).loc main_arg0)
    ∧ (ar0 (F := F)).after₀ (V₂ m) c (Proc.devRef .tc main_arg1) = m ((c : Thread nD τ).loc main_arg1)
    ∧ (ar0 (F := F)).after₀ (V₂ m) c (Proc.devRef .tc main_arg2) = m ((c : Thread nD τ).loc main_arg2) := by
  refine ⟨(sum_keeps m c main_arg0 (by decide) (by decide)).trans ?_, (sum_keeps m c main_arg1 (by decide) (by decide)).trans ?_,
    (sum_keeps m c main_arg2 (by decide) (by decide)).trans ?_⟩
  · refine Eq.trans (b := Vr m c (Proc.devRef .tc main_arg0)) (by unfold V₂ hostOps1; after_results) ((call_keeps m c main_arg0 (by decide)).trans ?_)
    unfold V₁ hostOps0; after_results
  · refine Eq.trans (b := Vr m c (Proc.devRef .tc main_arg1)) (by unfold V₂ hostOps1; after_results) ((call_keeps m c main_arg1 (by decide)).trans ?_)
    unfold V₁ hostOps0; after_results
  · refine Eq.trans (b := Vr m c (Proc.devRef .tc main_arg2)) (by unfold V₂ hostOps1; after_results) ((call_keeps m c main_arg2 (by decide)).trans ?_)
    unfold V₁ hostOps0; after_results

/-- The frame, at either number type. -/
theorem run_frame (ρ : Dev nD → PrngReg) : θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun r h => ⟨fun c => ⟨(h.1 c main_arg0 (by decide)).trans (kept m c).1, (h.1 c main_arg1 (by decide)).trans (kept m c).2.1,
    (h.1 c main_arg2 (by decide)).trans (kept m c).2.2⟩, h.2⟩) (run_main m ρ)

theorem frame_ideal : Cert.quiescent_KernelTotalIdeal := fun m ρ _ => run_frame m ρ

/-- The two programs have the same tables. -/
theorem defs₀_eq : Cert.KernelTotal.defs₀ (F := Bits) = Cert.KernelTotalIdeal.defs₀ (F := Bits) := by
  unfold Cert.KernelTotal.defs₀ Cert.KernelTotalIdeal.defs₀
  refine congrArg Defs.onTc ?_
  funext l x
  match l, x with
  | 0, (t, s) => rfl
  | ⟨_ + 1, h⟩, _ => exact absurd h (Nat.not_lt.2 (Nat.le_add_left _ _))

theorem defs_eq : Cert.KernelTotal.defs (F := Bits) = Cert.KernelTotalIdeal.defs (F := Bits) :=
  congrArg (Pipeline.defs Cert.KernelTotalIdeal.pcfgs) defs₀_eq

theorem frame_kernel : Cert.quiescent_KernelTotal := fun m ρ _ => by
  rw [defs_eq]
  exact run_frame (F := Bits) m ρ

theorem frame_reference : Cert.quiescent_ReferenceTotalIdeal := fun m ρ _ =>
  (θ_run Cert.ReferenceTotalIdeal.defs _ _).mono (fun r h => ⟨fun c => (h c).2, Idealize.ShloMosaic.sem_eq_zero_of_no_sems (by decide) r.2⟩)
  (Cert.ReferenceTotalIdeal.Value.run (F := Ideal) m ρ)

theorem algebraic : Cert.algebraic_KernelTotalIdeal_ReferenceTotalIdeal := by
  intro m ρ m' ρ' _ hagree
  refine ⟨Cert.TotalRef.lossr (m' (((0 : Dev Cert.ReferenceTotalIdeal.nD) : Thread Cert.ReferenceTotalIdeal.nD Cert.ReferenceTotalIdeal.τ).loc Cert.ReferenceTotalIdeal.main_arg0))
    (m' (((0 : Dev Cert.ReferenceTotalIdeal.nD) : Thread Cert.ReferenceTotalIdeal.nD Cert.ReferenceTotalIdeal.τ).loc Cert.ReferenceTotalIdeal.main_arg1))
    (m' (((0 : Dev Cert.ReferenceTotalIdeal.nD) : Thread Cert.ReferenceTotalIdeal.nD Cert.ReferenceTotalIdeal.τ).loc Cert.ReferenceTotalIdeal.main_arg2)), ?_, ?_⟩
  · refine (θ_run Cert.KernelTotalIdeal.defs _ _).mono (fun r h c => ⟨(h.1 c main_v5 (by decide)).trans ((result m c).trans ?_),
      (h.1 c main_arg0 (by decide)).trans (kept m c).1, (h.1 c main_arg1 (by decide)).trans (kept m c).2.1,
      (h.1 c main_arg2 (by decide)).trans (kept m c).2.2⟩) (run_main m ρ)
    funext i
    refine Eq.trans ?_ (Cert.TotalRef.loss_eq _ _ _ i).symm
    refine Finset.sum_congr rfl fun d _ => ?_
    unfold own
    rw [(hagree d).1, (hagree d).2.1, (hagree d).2.2]
  · exact (θ_run Cert.ReferenceTotalIdeal.defs _ _).mono (fun r h => h 0) (Cert.ReferenceTotalIdeal.Value.run (F := Ideal) m' ρ')

end Cert.TotalRun
end
-- ==== Proof.Adam.lean ====
/- One AdamW step of one entry. -/
module

public import Idealize.ShloMosaic.PureOps.Ideal

@[expose] public section

noncomputable section

namespace Cert.Adam
open Idealize.ShloMosaic

/-- The first moment after the step. -/
def first (g m : EReal) : EReal := Ideal.ofBits .f32 0x3F666666#32 * m + Ideal.ofBits .f32 0x3DCCCCCD#32 * g

/-- The second moment after the step. -/
def second (g v : EReal) : EReal := Ideal.ofBits .f32 0x3F7FBE77#32 * v + Ideal.ofBits .f32 0x3A83126F#32 * (g * g)

/-- The change of the weight. -/
def delta (w g m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32)
    + Ideal.ofBits .f32 0x3C23D70A#32 * w)

theorem first_zero : first 0 0 = 0 := by simp [first]

theorem second_zero : second 0 0 = 0 := by simp [second]

theorem div_zero_left {y : EReal} (h : y ≠ 0) : Ideal.div 0 y = 0 := by simp [Ideal.div, h]

theorem sqrt_zero : Ideal.sqrt 0 = 0 := by
  show (if (0 : ℝ) < 0 then (⊥ : EReal) else (Real.sqrt 0 : EReal)) = 0
  simp

theorem correction_ne : Ideal.ofBits .f32 0x3F26BD02#32 ≠ 0 := by simp [Ideal.ofBits, Ideal.ieee]

theorem correction_ne' : Ideal.ofBits .f32 0x3C231ACC#32 ≠ 0 := by simp [Ideal.ofBits, Ideal.ieee]

theorem eps_ne : Ideal.ofBits .f32 0x322BCC77#32 ≠ 0 := by simp [Ideal.ofBits, Ideal.ieee]

/-- A weight, gradient and moments of zero stay zero. -/
theorem delta_zero : delta 0 0 0 0 = 0 := by
  rw [delta, first_zero, second_zero, div_zero_left correction_ne, div_zero_left correction_ne', sqrt_zero, zero_add, div_zero_left eps_ne]
  simp

end Cert.Adam
end
-- ==== Proof.UpdateIn.lean ====
/- The AdamW step of the weights of the products that lead into the mixers. -/
module

public import proofs.«01_k».proof.Defs
public import proofs.«01_k».proof.Proof.Adam
public import proofs.«01_k».proof.Proof.Gen.KernelUinIdeal.Value
public import proofs.«01_k».proof.Proof.Gen.ReferenceUinIdeal.Run
public import Idealize.ShloMosaic.Lib.Pointwise
public import Idealize.ShloMosaic.Lib.Pipeline.ReadBack
public import Idealize.ShloMosaic.Lib.Pipeline.ValueKit
public import Idealize.ShloMosaic.Lib.IdealHost

@[expose] public section

set_option maxRecDepth 16384

noncomputable section

namespace Cert.KernelUinIdeal.Gen
open Idealize.ShloMosaic Idealize.ShloMosaic.TcCoe Idealize.SL.Sem Cert.Adam

theorem out4 (w g m v : Vec Ideal S256x1536 .f32) (r : Fin 256) (j : Fin 1536) : out0_4 w g m v (ix2 r j) = g (ix2 r j) := by
  frame_out
  pointwise [k0_pay1]

theorem out5 (w g m v : Vec Ideal S256x1536 .f32) (r : Fin 256) (j : Fin 1536) : out0_5 w g m v (ix2 r j)
    = delta (w (ix2 r j)) (g (ix2 r j)) (m (ix2 r j)) (v (ix2 r j)) := by
  frame_out
  pointwise [k0_pay4, k0_pay3, k0_pay2, k0_pay1, delta, first, second]

theorem out6 (w g m v : Vec Ideal S256x1536 .f32) (r : Fin 256) (j : Fin 1536) : out0_6 w g m v (ix2 r j)
    = first (g (ix2 r j)) (m (ix2 r j)) := by
  frame_out
  pointwise [k0_pay2, k0_pay1, first]

theorem out7 (w g m v : Vec Ideal S256x1536 .f32) (r : Fin 256) (j : Fin 1536) : out0_7 w g m v (ix2 r j)
    = second (g (ix2 r j)) (v (ix2 r j)) := by
  frame_out
  pointwise [k0_pay3, k0_pay1, second]

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := (by decide +kernel : ∀ t : Fin grid0.N, _)

/-- An array's rows of all layers, one under another. -/
def rows (a : FVec Ideal S4x1024x1536 .f32) (r : Fin 4096) (j : Fin 1536) : EReal := a (ix3 ⟨r / 1024, by omega⟩ ⟨r % 1024, by omega⟩ j)

theorem rows_eq (a : FVec Ideal S4x1024x1536 .f32) (h) (r : Fin 4096) (j : Fin 1536) : shapeCast S4096x1536 a h (ix2 r j) = rows a r j := by
  pointwise [rows]

theorem row_lt (t : Fin cfg0.N) (r : Fin 256) : 256 * t.val + r.val < 4096 := by have := lt_of_lt_of_eq t.isLt N_0; omega

theorem blk0 (c : Dev nD) (t : Fin cfg0.N) (r : Fin 256) (j : Fin 1536) : iblk m c 0 t (ix2 r j)
    = rows (m ((c : Thread nD τ).loc main_arg0)) ⟨256 * t + r, row_lt t r⟩ j := by
  blk_point [iblk, V, idx t, rows]

theorem blk1 (c : Dev nD) (t : Fin cfg0.N) (r : Fin 256) (j : Fin 1536) : iblk m c 1 t (ix2 r j)
    = rows (m ((c : Thread nD τ).loc main_arg1)) ⟨256 * t + r, row_lt t r⟩ j := by
  blk_point [iblk, V, idx t, rows]

theorem blk2 (c : Dev nD) (t : Fin cfg0.N) (r : Fin 256) (j : Fin 1536) : iblk m c 2 t (ix2 r j)
    = rows (m ((c : Thread nD τ).loc main_arg2)) ⟨256 * t + r, row_lt t r⟩ j := by
  blk_point [iblk, V, idx t, rows]

theorem blk3 (c : Dev nD) (t : Fin cfg0.N) (r : Fin 256) (j : Fin 1536) : iblk m c 3 t (ix2 r j)
    = rows (m ((c : Thread nD τ).loc main_arg3)) ⟨256 * t + r, row_lt t r⟩ j := by
  blk_point [iblk, V, idx t, rows]

theorem final4 (c : Dev nD) : (dats m 0 c).arrAt 4 cfg0.N
    = fun y : S4096x1536.Idx => rows (m ((c : Thread nD τ).loc main_arg1)) (y 0) (y 1) := by
  refine (dats m 0 c).arrAt_eq_of_covers 4 _ (by decide +kernel) fun t hf y => ?_
  blk_simp
  rw [after0_4]
  obtain ⟨r, j, rfl⟩ : ∃ (r : Fin 256) (j : Fin 1536), y = ix2 r j := ⟨y 0, y 1, by blk_ext⟩
  rw [out4, blk1]
  have e : (win0_4.blk t).view.emb (ix2 r j) = ix2 ⟨256 * t + r, row_lt t r⟩ j := by blk_ext [idx t]
  rw [e]
  rfl

theorem final5 (c : Dev nD) : (dats m 0 c).arrAt 5 cfg0.N
    = fun y : S4096x1536.Idx => delta (rows (m ((c : Thread nD τ).loc main_arg0)) (y 0) (y 1)) (rows (m ((c : Thread nD τ).loc main_arg1)) (y 0) (y 1))
      (rows (m ((c : Thread nD τ).loc main_arg2)) (y 0) (y 1)) (rows (m ((c : Thread nD τ).loc main_arg3)) (y 0) (y 1)) := by
  refine (dats m 0 c).arrAt_eq_of_covers 5 _ (by decide +kernel) fun t hf y => ?_
  blk_simp
  rw [after0_5]
  obtain ⟨r, j, rfl⟩ : ∃ (r : Fin 256) (j : Fin 1536), y = ix2 r j := ⟨y 0, y 1, by blk_ext⟩
  rw [out5, blk0, blk1, blk2, blk3]
  have e : (win0_5.blk t).view.emb (ix2 r j) = ix2 ⟨256 * t + r, row_lt t r⟩ j := by blk_ext [idx t]
  rw [e]
  rfl

theorem final6 (c : Dev nD) : (dats m 0 c).arrAt 6 cfg0.N
    = fun y : S4096x1536.Idx => first (rows (m ((c : Thread nD τ).loc main_arg1)) (y 0) (y 1)) (rows (m ((c : Thread nD τ).loc main_arg2)) (y 0) (y 1)) := by
  refine (dats m 0 c).arrAt_eq_of_covers 6 _ (by decide +kernel) fun t hf y => ?_
  blk_simp
  rw [after0_6]
  obtain ⟨r, j, rfl⟩ : ∃ (r : Fin 256) (j : Fin 1536), y = ix2 r j := ⟨y 0, y 1, by blk_ext⟩
  rw [out6, blk1, blk2]
  have e : (win0_6.blk t).view.emb (ix2 r j) = ix2 ⟨256 * t + r, row_lt t r⟩ j := by blk_ext [idx t]
  rw [e]
  rfl

theorem final7 (c : Dev nD) : (dats m 0 c).arrAt 7 cfg0.N
    = fun y : S4096x1536.Idx => second (rows (m ((c : Thread nD τ).loc main_arg1)) (y 0) (y 1)) (rows (m ((c : Thread nD τ).loc main_arg3)) (y 0) (y 1)) := by
  refine (dats m 0 c).arrAt_eq_of_covers 7 _ (by decide +kernel) fun t hf y => ?_
  blk_simp
  rw [after0_7]
  obtain ⟨r, j, rfl⟩ : ∃ (r : Fin 256) (j : Fin 1536), y = ix2 r j := ⟨y 0, y 1, by blk_ext⟩
  rw [out7, blk1, blk3]
  have e : (win0_7.blk t).view.emb (ix2 r j) = ix2 ⟨256 * t + r, row_lt t r⟩ j := by blk_ext [idx t]
  rw [e]
  rfl

end Cert.KernelUinIdeal.Gen

namespace Cert.UpdateIn
open Idealize.ShloMosaic Idealize.ShloMosaic.TcCoe Idealize.SL.Sem Cert.Adam Cert.KernelUinIdeal.Gen

theorem algebraic : Cert.algebraic_KernelUinIdeal_ReferenceUinIdeal := by
  intro m ρ m' ρ' _ hagree
  refine ⟨fun c => (dats m 0 c).arrAt 4 Cert.KernelUinIdeal.cfg0.N, fun c => (dats m 0 c).arrAt 5 Cert.KernelUinIdeal.cfg0.N,
    fun c => (dats m 0 c).arrAt 6 Cert.KernelUinIdeal.cfg0.N, fun c => (dats m 0 c).arrAt 7 Cert.KernelUinIdeal.cfg0.N,
    Cert.KernelUinIdeal.Value.run_blocks m ρ, ?_⟩
  refine (θ_run Cert.ReferenceUinIdeal.defs _ _).mono (fun r h c => ⟨(h c).1.trans ?_, (h c).2.1.trans ?_, (h c).2.2.1.trans ?_,
    (h c).2.2.2.1.trans ?_, (h c).2.2.2.2⟩) (Cert.ReferenceUinIdeal.Value.run (F := Ideal) m' ρ')
  · refine Eq.trans ?_ (final4 m c).symm
    rw [(hagree c).2.1]
    funext y
    obtain ⟨r, j, rfl⟩ : ∃ (r : Fin 4096) (j : Fin 1536), y = ix2 r j := ⟨y 0, y 1, by blk_ext⟩
    exact (rows_eq _ _ r j).trans rfl
  · refine Eq.trans ?_ (final5 m c).symm
    rw [(hagree c).1, (hagree c).2.1, (hagree c).2.2.1, (hagree c).2.2.2]
    funext y
    obtain ⟨r, j, rfl⟩ : ∃ (r : Fin 4096) (j : Fin 1536), y = ix2 r j := ⟨y 0, y 1, by blk_ext⟩
    exact (rows_eq _ _ r j).trans rfl
  · refine Eq.trans ?_ (final6 m c).symm
    rw [(hagree c).2.1, (hagree c).2.2.1]
    funext y
    obtain ⟨r, j, rfl⟩ : ∃ (r : Fin 4096) (j : Fin 1536), y = ix2 r j := ⟨y 0, y 1, by blk_ext⟩
    exact (rows_eq _ _ r j).trans rfl
  · refine Eq.trans ?_ (final7 m c).symm
    rw [(hagree c).2.1, (hagree c).2.2.2]
    funext y
    obtain ⟨r, j, rfl⟩ : ∃ (r : Fin 4096) (j : Fin 1536), y = ix2 r j := ⟨y 0, y 1, by blk_ext⟩
    exact (rows_eq _ _ r j).trans rfl

end Cert.UpdateIn
end
-- ==== Proof.UpdateOut.lean ====
/- The AdamW step of the weights of the products that lead back. -/
module

public import proofs.«01_k».proof.Defs
public import proofs.«01_k».proof.Proof.Adam
public import proofs.«01_k».proof.Proof.Gen.KernelUoutIdeal.Value
public import proofs.«01_k».proof.Proof.Gen.ReferenceUoutIdeal.Run
public import Idealize.ShloMosaic.Lib.Pointwise
public import Idealize.ShloMosaic.Lib.Pipeline.ReadBack
public import Idealize.ShloMosaic.Lib.Pipeline.ValueKit
public import Idealize.ShloMosaic.Lib.IdealHost

@[expose] public section

set_option maxRecDepth 16384

noncomputable section

namespace Cert.KernelUoutIdeal.Gen
open Idealize.ShloMosaic Idealize.ShloMosaic.TcCoe Idealize.SL.Sem Cert.Adam

theorem out4 (w g m v : Vec Ideal S512x1024 .f32) (r : Fin 512) (j : Fin 1024) : out0_4 w g m v (ix2 r j) = g (ix2 r j) := by
  frame_out
  pointwise [k0_pay1]

theorem out5 (w g m v : Vec Ideal S512x1024 .f32) (r : Fin 512) (j : Fin 1024) : out0_5 w g m v (ix2 r j)
    = delta (w (ix2 r j)) (g (ix2 r j)) (m (ix2 r j)) (v (ix2 r j)) := by
  frame_out
  pointwise [k0_pay4, k0_pay3, k0_pay2, k0_pay1, delta, first, second]

theorem out6 (w g m v : Vec Ideal S512x1024 .f32) (r : Fin 512) (j : Fin 1024) : out0_6 w g m v (ix2 r j)
    = first (g (ix2 r j)) (m (ix2 r j)) := by
  frame_out
  pointwise [k0_pay2, k0_pay1, first]

theorem out7 (w g m v : Vec Ideal S512x1024 .f32) (r : Fin 512) (j : Fin 1024) : out0_7 w g m v (ix2 r j)
    = second (g (ix2 r j)) (v (ix2 r j)) := by
  frame_out
  pointwise [k0_pay3, k0_pay1, second]

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := (by decide +kernel : ∀ t : Fin grid0.N, _)

/-- An array's rows of all layers, one under another. -/
def rows (a : FVec Ideal S4x512x1024 .f32) (r : Fin 2048) (j : Fin 1024) : EReal := a (ix3 ⟨r / 512, by omega⟩ ⟨r % 512, by omega⟩ j)

theorem rows_eq (a : FVec Ideal S4x512x1024 .f32) (h) (r : Fin 2048) (j : Fin 1024) : shapeCast S2048x1024 a h (ix2 r j) = rows a r j := by
  pointwise [rows]

theorem row_lt (t : Fin cfg0.N) (r : Fin 512) : 512 * t.val + r.val < 2048 := by have := lt_of_lt_of_eq t.isLt N_0; omega

theorem blk0 (c : Dev nD) (t : Fin cfg0.N) (r : Fin 512) (j : Fin 1024) : iblk m c 0 t (ix2 r j)
    = rows (m ((c : Thread nD τ).loc main_arg0)) ⟨512 * t + r, row_lt t r⟩ j := by
  blk_point [iblk, V, idx t, rows]

theorem blk1 (c : Dev nD) (t : Fin cfg0.N) (r : Fin 512) (j : Fin 1024) : iblk m c 1 t (ix2 r j)
    = rows (m ((c : Thread nD τ).loc main_arg1)) ⟨512 * t + r, row_lt t r⟩ j := by
  blk_point [iblk, V, idx t, rows]

theorem blk2 (c : Dev nD) (t : Fin cfg0.N) (r : Fin 512) (j : Fin 1024) : iblk m c 2 t (ix2 r j)
    = rows (m ((c : Thread nD τ).loc main_arg2)) ⟨512 * t + r, row_lt t r⟩ j := by
  blk_point [iblk, V, idx t, rows]

theorem blk3 (c : Dev nD) (t : Fin cfg0.N) (r : Fin 512) (j : Fin 1024) : iblk m c 3 t (ix2 r j)
    = rows (m ((c : Thread nD τ).loc main_arg3)) ⟨512 * t + r, row_lt t r⟩ j := by
  blk_point [iblk, V, idx t, rows]

theorem final4 (c : Dev nD) : (dats m 0 c).arrAt 4 cfg0.N
    = fun y : S2048x1024.Idx => rows (m ((c : Thread nD τ).loc main_arg1)) (y 0) (y 1) := by
  refine (dats m 0 c).arrAt_eq_of_covers 4 _ (by decide +kernel) fun t hf y => ?_
  blk_simp
  rw [after0_4]
  obtain ⟨r, j, rfl⟩ : ∃ (r : Fin 512) (j : Fin 1024), y = ix2 r j := ⟨y 0, y 1, by blk_ext⟩
  rw [out4, blk1]
  have e : (win0_4.blk t).view.emb (ix2 r j) = ix2 ⟨512 * t + r, row_lt t r⟩ j := by blk_ext [idx t]
  rw [e]
  rfl

theorem final5 (c : Dev nD) : (dats m 0 c).arrAt 5 cfg0.N
    = fun y : S2048x1024.Idx => delta (rows (m ((c : Thread nD τ).loc main_arg0)) (y 0) (y 1)) (rows (m ((c : Thread nD τ).loc main_arg1)) (y 0) (y 1))
      (rows (m ((c : Thread nD τ).loc main_arg2)) (y 0) (y 1)) (rows (m ((c : Thread nD τ).loc main_arg3)) (y 0) (y 1)) := by
  refine (dats m 0 c).arrAt_eq_of_covers 5 _ (by decide +kernel) fun t hf y => ?_
  blk_simp
  rw [after0_5]
  obtain ⟨r, j, rfl⟩ : ∃ (r : Fin 512) (j : Fin 1024), y = ix2 r j := ⟨y 0, y 1, by blk_ext⟩
  rw [out5, blk0, blk1, blk2, blk3]
  have e : (win0_5.blk t).view.emb (ix2 r j) = ix2 ⟨512 * t + r, row_lt t r⟩ j := by blk_ext [idx t]
  rw [e]
  rfl

theorem final6 (c : Dev nD) : (dats m 0 c).arrAt 6 cfg0.N
    = fun y : S2048x1024.Idx => first (rows (m ((c : Thread nD τ).loc main_arg1)) (y 0) (y 1)) (rows (m ((c : Thread nD τ).loc main_arg2)) (y 0) (y 1)) := by
  refine (dats m 0 c).arrAt_eq_of_covers 6 _ (by decide +kernel) fun t hf y => ?_
  blk_simp
  rw [after0_6]
  obtain ⟨r, j, rfl⟩ : ∃ (r : Fin 512) (j : Fin 1024), y = ix2 r j := ⟨y 0, y 1, by blk_ext⟩
  rw [out6, blk1, blk2]
  have e : (win0_6.blk t).view.emb (ix2 r j) = ix2 ⟨512 * t + r, row_lt t r⟩ j := by blk_ext [idx t]
  rw [e]
  rfl

theorem final7 (c : Dev nD) : (dats m 0 c).arrAt 7 cfg0.N
    = fun y : S2048x1024.Idx => second (rows (m ((c : Thread nD τ).loc main_arg1)) (y 0) (y 1)) (rows (m ((c : Thread nD τ).loc main_arg3)) (y 0) (y 1)) := by
  refine (dats m 0 c).arrAt_eq_of_covers 7 _ (by decide +kernel) fun t hf y => ?_
  blk_simp
  rw [after0_7]
  obtain ⟨r, j, rfl⟩ : ∃ (r : Fin 512) (j : Fin 1024), y = ix2 r j := ⟨y 0, y 1, by blk_ext⟩
  rw [out7, blk1, blk3]
  have e : (win0_7.blk t).view.emb (ix2 r j) = ix2 ⟨512 * t + r, row_lt t r⟩ j := by blk_ext [idx t]
  rw [e]
  rfl

end Cert.KernelUoutIdeal.Gen

namespace Cert.UpdateOut
open Idealize.ShloMosaic Idealize.ShloMosaic.TcCoe Idealize.SL.Sem Cert.Adam Cert.KernelUoutIdeal.Gen

theorem algebraic : Cert.algebraic_KernelUoutIdeal_ReferenceUoutIdeal := by
  intro m ρ m' ρ' _ hagree
  refine ⟨fun c => (dats m 0 c).arrAt 4 Cert.KernelUoutIdeal.cfg0.N, fun c => (dats m 0 c).arrAt 5 Cert.KernelUoutIdeal.cfg0.N,
    fun c => (dats m 0 c).arrAt 6 Cert.KernelUoutIdeal.cfg0.N, fun c => (dats m 0 c).arrAt 7 Cert.KernelUoutIdeal.cfg0.N,
    Cert.KernelUoutIdeal.Value.run_blocks m ρ, ?_⟩
  refine (θ_run Cert.ReferenceUoutIdeal.defs _ _).mono (fun r h c => ⟨(h c).1.trans ?_, (h c).2.1.trans ?_, (h c).2.2.1.trans ?_,
    (h c).2.2.2.1.trans ?_, (h c).2.2.2.2⟩) (Cert.ReferenceUoutIdeal.Value.run (F := Ideal) m' ρ')
  · refine Eq.trans ?_ (final4 m c).symm
    rw [(hagree c).2.1]
    funext y
    obtain ⟨r, j, rfl⟩ : ∃ (r : Fin 2048) (j : Fin 1024), y = ix2 r j := ⟨y 0, y 1, by blk_ext⟩
    exact (rows_eq _ _ r j).trans rfl
  · refine Eq.trans ?_ (final5 m c).symm
    rw [(hagree c).1, (hagree c).2.1, (hagree c).2.2.1, (hagree c).2.2.2]
    funext y
    obtain ⟨r, j, rfl⟩ : ∃ (r : Fin 2048) (j : Fin 1024), y = ix2 r j := ⟨y 0, y 1, by blk_ext⟩
    exact (rows_eq _ _ r j).trans rfl
  · refine Eq.trans ?_ (final6 m c).symm
    rw [(hagree c).2.1, (hagree c).2.2.1]
    funext y
    obtain ⟨r, j, rfl⟩ : ∃ (r : Fin 2048) (j : Fin 1024), y = ix2 r j := ⟨y 0, y 1, by blk_ext⟩
    exact (rows_eq _ _ r j).trans rfl
  · refine Eq.trans ?_ (final7 m c).symm
    rw [(hagree c).2.1, (hagree c).2.2.2]
    funext y
    obtain ⟨r, j, rfl⟩ : ∃ (r : Fin 2048) (j : Fin 1024), y = ix2 r j := ⟨y 0, y 1, by blk_ext⟩
    exact (rows_eq _ _ r j).trans rfl

end Cert.UpdateOut
end
-- ==== Proof.UpdateGate.lean ====
/- The AdamW step of the weights of the gates. -/
module

public import proofs.«01_k».proof.Defs
public import proofs.«01_k».proof.Proof.Adam
public import proofs.«01_k».proof.Proof.Gen.KernelUgateIdeal.Value
public import proofs.«01_k».proof.Proof.Gen.ReferenceUgateIdeal.Run
public import Idealize.ShloMosaic.Lib.Pointwise
public import Idealize.ShloMosaic.Lib.Pipeline.ReadBack
public import Idealize.ShloMosaic.Lib.Pipeline.ValueKit
public import Idealize.ShloMosaic.Lib.IdealHost

@[expose] public section

set_option maxRecDepth 16384

noncomputable section

namespace Cert.KernelUgateIdeal.Gen
open Idealize.ShloMosaic Idealize.ShloMosaic.TcCoe Idealize.SL.Sem Cert.Adam

theorem out4 (w g m v : Vec Ideal S512x1024 .f32) (r : Fin 512) (j : Fin 1024) : out0_4 w g m v (ix2 r j) = g (ix2 r j) := by
  frame_out
  pointwise [k0_pay1]

theorem out5 (w g m v : Vec Ideal S512x1024 .f32) (r : Fin 512) (j : Fin 1024) : out0_5 w g m v (ix2 r j)
    = delta (w (ix2 r j)) (g (ix2 r j)) (m (ix2 r j)) (v (ix2 r j)) := by
  frame_out
  pointwise [k0_pay4, k0_pay3, k0_pay2, k0_pay1, delta, first, second]

theorem out6 (w g m v : Vec Ideal S512x1024 .f32) (r : Fin 512) (j : Fin 1024) : out0_6 w g m v (ix2 r j)
    = first (g (ix2 r j)) (m (ix2 r j)) := by
  frame_out
  pointwise [k0_pay2, k0_pay1, first]

theorem out7 (w g m v : Vec Ideal S512x1024 .f32) (r : Fin 512) (j : Fin 1024) : out0_7 w g m v (ix2 r j)
    = second (g (ix2 r j)) (v (ix2 r j)) := by
  frame_out
  pointwise [k0_pay3, k0_pay1, second]

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := (by decide +kernel : ∀ t : Fin grid0.N, _)

/-- An array's rows of all layers, one under another. -/
def rows (a : FVec Ideal S4x256x1024 .f32) (r : Fin 1024) (j : Fin 1024) : EReal := a (ix3 ⟨r / 256, by omega⟩ ⟨r % 256, by omega⟩ j)

theorem rows_eq (a : FVec Ideal S4x256x1024 .f32) (h) (r : Fin 1024) (j : Fin 1024) : shapeCast S1024x1024 a h (ix2 r j) = rows a r j := by
  pointwise [rows]

theorem row_lt (t : Fin cfg0.N) (r : Fin 512) : 512 * t.val + r.val < 1024 := by have := lt_of_lt_of_eq t.isLt N_0; omega

theorem blk0 (c : Dev nD) (t : Fin cfg0.N) (r : Fin 512) (j : Fin 1024) : iblk m c 0 t (ix2 r j)
    = rows (m ((c : Thread nD τ).loc main_arg0)) ⟨512 * t + r, row_lt t r⟩ j := by
  blk_point [iblk, V, idx t, rows]

theorem blk1 (c : Dev nD) (t : Fin cfg0.N) (r : Fin 512) (j : Fin 1024) : iblk m c 1 t (ix2 r j)
    = rows (m ((c : Thread nD τ).loc main_arg1)) ⟨512 * t + r, row_lt t r⟩ j := by
  blk_point [iblk, V, idx t, rows]

theorem blk2 (c : Dev nD) (t : Fin cfg0.N) (r : Fin 512) (j : Fin 1024) : iblk m c 2 t (ix2 r j)
    = rows (m ((c : Thread nD τ).loc main_arg2)) ⟨512 * t + r, row_lt t r⟩ j := by
  blk_point [iblk, V, idx t, rows]

theorem blk3 (c : Dev nD) (t : Fin cfg0.N) (r : Fin 512) (j : Fin 1024) : iblk m c 3 t (ix2 r j)
    = rows (m ((c : Thread nD τ).loc main_arg3)) ⟨512 * t + r, row_lt t r⟩ j := by
  blk_point [iblk, V, idx t, rows]

theorem final4 (c : Dev nD) : (dats m 0 c).arrAt 4 cfg0.N
    = fun y : S1024x1024.Idx => rows (m ((c : Thread nD τ).loc main_arg1)) (y 0) (y 1) := by
  refine (dats m 0 c).arrAt_eq_of_covers 4 _ (by decide +kernel) fun t hf y => ?_
  blk_simp
  rw [after0_4]
  obtain ⟨r, j, rfl⟩ : ∃ (r : Fin 512) (j : Fin 1024), y = ix2 r j := ⟨y 0, y 1, by blk_ext⟩
  rw [out4, blk1]
  have e : (win0_4.blk t).view.emb (ix2 r j) = ix2 ⟨512 * t + r, row_lt t r⟩ j := by blk_ext [idx t]
  rw [e]
  rfl

theorem final5 (c : Dev nD) : (dats m 0 c).arrAt 5 cfg0.N
    = fun y : S1024x1024.Idx => delta (rows (m ((c : Thread nD τ).loc main_arg0)) (y 0) (y 1)) (rows (m ((c : Thread nD τ).loc main_arg1)) (y 0) (y 1))
      (rows (m ((c : Thread nD τ).loc main_arg2)) (y 0) (y 1)) (rows (m ((c : Thread nD τ).loc main_arg3)) (y 0) (y 1)) := by
  refine (dats m 0 c).arrAt_eq_of_covers 5 _ (by decide +kernel) fun t hf y => ?_
  blk_simp
  rw [after0_5]
  obtain ⟨r, j, rfl⟩ : ∃ (r : Fin 512) (j : Fin 1024), y = ix2 r j := ⟨y 0, y 1, by blk_ext⟩
  rw [out5, blk0, blk1, blk2, blk3]
  have e : (win0_5.blk t).view.emb (ix2 r j) = ix2 ⟨512 * t + r, row_lt t r⟩ j := by blk_ext [idx t]
  rw [e]
  rfl

theorem final6 (c : Dev nD) : (dats m 0 c).arrAt 6 cfg0.N
    = fun y : S1024x1024.Idx => first (rows (m ((c : Thread nD τ).loc main_arg1)) (y 0) (y 1)) (rows (m ((c : Thread nD τ).loc main_arg2)) (y 0) (y 1)) := by
  refine (dats m 0 c).arrAt_eq_of_covers 6 _ (by decide +kernel) fun t hf y => ?_
  blk_simp
  rw [after0_6]
  obtain ⟨r, j, rfl⟩ : ∃ (r : Fin 512) (j : Fin 1024), y = ix2 r j := ⟨y 0, y 1, by blk_ext⟩
  rw [out6, blk1, blk2]
  have e : (win0_6.blk t).view.emb (ix2 r j) = ix2 ⟨512 * t + r, row_lt t r⟩ j := by blk_ext [idx t]
  rw [e]
  rfl

theorem final7 (c : Dev nD) : (dats m 0 c).arrAt 7 cfg0.N
    = fun y : S1024x1024.Idx => second (rows (m ((c : Thread nD τ).loc main_arg1)) (y 0) (y 1)) (rows (m ((c : Thread nD τ).loc main_arg3)) (y 0) (y 1)) := by
  refine (dats m 0 c).arrAt_eq_of_covers 7 _ (by decide +kernel) fun t hf y => ?_
  blk_simp
  rw [after0_7]
  obtain ⟨r, j, rfl⟩ : ∃ (r : Fin 512) (j : Fin 1024), y = ix2 r j := ⟨y 0, y 1, by blk_ext⟩
  rw [out7, blk1, blk3]
  have e : (win0_7.blk t).view.emb (ix2 r j) = ix2 ⟨512 * t + r, row_lt t r⟩ j := by blk_ext [idx t]
  rw [e]
  rfl

end Cert.KernelUgateIdeal.Gen

namespace Cert.UpdateGate
open Idealize.ShloMosaic Idealize.ShloMosaic.TcCoe Idealize.SL.Sem Cert.Adam Cert.KernelUgateIdeal.Gen

theorem algebraic : Cert.algebraic_KernelUgateIdeal_ReferenceUgateIdeal := by
  intro m ρ m' ρ' _ hagree
  refine ⟨fun c => (dats m 0 c).arrAt 4 Cert.KernelUgateIdeal.cfg0.N, fun c => (dats m 0 c).arrAt 5 Cert.KernelUgateIdeal.cfg0.N,
    fun c => (dats m 0 c).arrAt 6 Cert.KernelUgateIdeal.cfg0.N, fun c => (dats m 0 c).arrAt 7 Cert.KernelUgateIdeal.cfg0.N,
    Cert.KernelUgateIdeal.Value.run_blocks m ρ, ?_⟩
  refine (θ_run Cert.ReferenceUgateIdeal.defs _ _).mono (fun r h c => ⟨(h c).1.trans ?_, (h c).2.1.trans ?_, (h c).2.2.1.trans ?_,
    (h c).2.2.2.1.trans ?_, (h c).2.2.2.2⟩) (Cert.ReferenceUgateIdeal.Value.run (F := Ideal) m' ρ')
  · refine Eq.trans ?_ (final4 m c).symm
    rw [(hagree c).2.1]
    funext y
    obtain ⟨r, j, rfl⟩ : ∃ (r : Fin 1024) (j : Fin 1024), y = ix2 r j := ⟨y 0, y 1, by blk_ext⟩
    exact (rows_eq _ _ r j).trans rfl
  · refine Eq.trans ?_ (final5 m c).symm
    rw [(hagree c).1, (hagree c).2.1, (hagree c).2.2.1, (hagree c).2.2.2]
    funext y
    obtain ⟨r, j, rfl⟩ : ∃ (r : Fin 1024) (j : Fin 1024), y = ix2 r j := ⟨y 0, y 1, by blk_ext⟩
    exact (rows_eq _ _ r j).trans rfl
  · refine Eq.trans ?_ (final6 m c).symm
    rw [(hagree c).2.1, (hagree c).2.2.1]
    funext y
    obtain ⟨r, j, rfl⟩ : ∃ (r : Fin 1024) (j : Fin 1024), y = ix2 r j := ⟨y 0, y 1, by blk_ext⟩
    exact (rows_eq _ _ r j).trans rfl
  · refine Eq.trans ?_ (final7 m c).symm
    rw [(hagree c).2.1, (hagree c).2.2.2]
    funext y
    obtain ⟨r, j, rfl⟩ : ∃ (r : Fin 1024) (j : Fin 1024), y = ix2 r j := ⟨y 0, y 1, by blk_ext⟩
    exact (rows_eq _ _ r j).trans rfl

end Cert.UpdateGate
end
-- ==== Proof.UpdateProj.lean ====
/- The AdamW step of the weights of the products with the embeddings. -/
module

public import proofs.«01_k».proof.Defs
public import proofs.«01_k».proof.Proof.Adam
public import proofs.«01_k».proof.Proof.Gen.KernelUprojIdeal.Value
public import proofs.«01_k».proof.Proof.Gen.ReferenceUprojIdeal.Run
public import Idealize.ShloMosaic.Lib.Pointwise
public import Idealize.ShloMosaic.Lib.Pipeline.ReadBack
public import Idealize.ShloMosaic.Lib.Pipeline.ValueKit
public import Idealize.ShloMosaic.Lib.IdealHost

@[expose] public section

set_option maxRecDepth 16384

noncomputable section

namespace Cert.KernelUprojIdeal.Gen
open Idealize.ShloMosaic Idealize.ShloMosaic.TcCoe Idealize.SL.Sem Cert.Adam

theorem out4 (w g m v : Vec Ideal S1024x256 .f32) (r : Fin 1024) (j : Fin 256) : out0_4 w g m v (ix2 r j) = g (ix2 r j) := by
  frame_out
  pointwise [k0_pay1]

theorem out5 (w g m v : Vec Ideal S1024x256 .f32) (r : Fin 1024) (j : Fin 256) : out0_5 w g m v (ix2 r j)
    = delta (w (ix2 r j)) (g (ix2 r j)) (m (ix2 r j)) (v (ix2 r j)) := by
  frame_out
  pointwise [k0_pay4, k0_pay3, k0_pay2, k0_pay1, delta, first, second]

theorem out6 (w g m v : Vec Ideal S1024x256 .f32) (r : Fin 1024) (j : Fin 256) : out0_6 w g m v (ix2 r j)
    = first (g (ix2 r j)) (m (ix2 r j)) := by
  frame_out
  pointwise [k0_pay2, k0_pay1, first]

theorem out7 (w g m v : Vec Ideal S1024x256 .f32) (r : Fin 1024) (j : Fin 256) : out0_7 w g m v (ix2 r j)
    = second (g (ix2 r j)) (v (ix2 r j)) := by
  frame_out
  pointwise [k0_pay3, k0_pay1, second]

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := (by decide +kernel : ∀ t : Fin grid0.N, _)

/-- An array's rows of all layers, one under another. -/
def rows (a : FVec Ideal S4x256x256 .f32) (r : Fin 1024) (j : Fin 256) : EReal := a (ix3 ⟨r / 256, by omega⟩ ⟨r % 256, by omega⟩ j)

theorem rows_eq (a : FVec Ideal S4x256x256 .f32) (h) (r : Fin 1024) (j : Fin 256) : shapeCast S1024x256 a h (ix2 r j) = rows a r j := by
  pointwise [rows]

theorem row_lt (t : Fin cfg0.N) (r : Fin 1024) : 1024 * t.val + r.val < 1024 := by have := lt_of_lt_of_eq t.isLt N_0; omega

theorem blk0 (c : Dev nD) (t : Fin cfg0.N) (r : Fin 1024) (j : Fin 256) : iblk m c 0 t (ix2 r j)
    = rows (m ((c : Thread nD τ).loc main_arg0)) ⟨1024 * t + r, row_lt t r⟩ j := by
  blk_point [iblk, V, idx t, rows]

theorem blk1 (c : Dev nD) (t : Fin cfg0.N) (r : Fin 1024) (j : Fin 256) : iblk m c 1 t (ix2 r j)
    = rows (m ((c : Thread nD τ).loc main_arg1)) ⟨1024 * t + r, row_lt t r⟩ j := by
  blk_point [iblk, V, idx t, rows]

theorem blk2 (c : Dev nD) (t : Fin cfg0.N) (r : Fin 1024) (j : Fin 256) : iblk m c 2 t (ix2 r j)
    = rows (m ((c : Thread nD τ).loc main_arg2)) ⟨1024 * t + r, row_lt t r⟩ j := by
  blk_point [iblk, V, idx t, rows]

theorem blk3 (c : Dev nD) (t : Fin cfg0.N) (r : Fin 1024) (j : Fin 256) : iblk m c 3 t (ix2 r j)
    = rows (m ((c : Thread nD τ).loc main_arg3)) ⟨1024 * t + r, row_lt t r⟩ j := by
  blk_point [iblk, V, idx t, rows]

theorem final4 (c : Dev nD) : (dats m 0 c).arrAt 4 cfg0.N
    = fun y : S1024x256.Idx => rows (m ((c : Thread nD τ).loc main_arg1)) (y 0) (y 1) := by
  refine (dats m 0 c).arrAt_eq_of_covers 4 _ (by decide +kernel) fun t hf y => ?_
  blk_simp
  rw [after0_4]
  obtain ⟨r, j, rfl⟩ : ∃ (r : Fin 1024) (j : Fin 256), y = ix2 r j := ⟨y 0, y 1, by blk_ext⟩
  rw [out4, blk1]
  have e : (win0_4.blk t).view.emb (ix2 r j) = ix2 ⟨1024 * t + r, row_lt t r⟩ j := by blk_ext [idx t]
  rw [e]
  rfl

theorem final5 (c : Dev nD) : (dats m 0 c).arrAt 5 cfg0.N
    = fun y : S1024x256.Idx => delta (rows (m ((c : Thread nD τ).loc main_arg0)) (y 0) (y 1)) (rows (m ((c : Thread nD τ).loc main_arg1)) (y 0) (y 1))
      (rows (m ((c : Thread nD τ).loc main_arg2)) (y 0) (y 1)) (rows (m ((c : Thread nD τ).loc main_arg3)) (y 0) (y 1)) := by
  refine (dats m 0 c).arrAt_eq_of_covers 5 _ (by decide +kernel) fun t hf y => ?_
  blk_simp
  rw [after0_5]
  obtain ⟨r, j, rfl⟩ : ∃ (r : Fin 1024) (j : Fin 256), y = ix2 r j := ⟨y 0, y 1, by blk_ext⟩
  rw [out5, blk0, blk1, blk2, blk3]
  have e : (win0_5.blk t).view.emb (ix2 r j) = ix2 ⟨1024 * t + r, row_lt t r⟩ j := by blk_ext [idx t]
  rw [e]
  rfl

theorem final6 (c : Dev nD) : (dats m 0 c).arrAt 6 cfg0.N
    = fun y : S1024x256.Idx => first (rows (m ((c : Thread nD τ).loc main_arg1)) (y 0) (y 1)) (rows (m ((c : Thread nD τ).loc main_arg2)) (y 0) (y 1)) := by
  refine (dats m 0 c).arrAt_eq_of_covers 6 _ (by decide +kernel) fun t hf y => ?_
  blk_simp
  rw [after0_6]
  obtain ⟨r, j, rfl⟩ : ∃ (r : Fin 1024) (j : Fin 256), y = ix2 r j := ⟨y 0, y 1, by blk_ext⟩
  rw [out6, blk1, blk2]
  have e : (win0_6.blk t).view.emb (ix2 r j) = ix2 ⟨1024 * t + r, row_lt t r⟩ j := by blk_ext [idx t]
  rw [e]
  rfl

theorem final7 (c : Dev nD) : (dats m 0 c).arrAt 7 cfg0.N
    = fun y : S1024x256.Idx => second (rows (m ((c : Thread nD τ).loc main_arg1)) (y 0) (y 1)) (rows (m ((c : Thread nD τ).loc main_arg3)) (y 0) (y 1)) := by
  refine (dats m 0 c).arrAt_eq_of_covers 7 _ (by decide +kernel) fun t hf y => ?_
  blk_simp
  rw [after0_7]
  obtain ⟨r, j, rfl⟩ : ∃ (r : Fin 1024) (j : Fin 256), y = ix2 r j := ⟨y 0, y 1, by blk_ext⟩
  rw [out7, blk1, blk3]
  have e : (win0_7.blk t).view.emb (ix2 r j) = ix2 ⟨1024 * t + r, row_lt t r⟩ j := by blk_ext [idx t]
  rw [e]
  rfl

end Cert.KernelUprojIdeal.Gen

namespace Cert.UpdateProj
open Idealize.ShloMosaic Idealize.ShloMosaic.TcCoe Idealize.SL.Sem Cert.Adam Cert.KernelUprojIdeal.Gen

theorem algebraic : Cert.algebraic_KernelUprojIdeal_ReferenceUprojIdeal := by
  intro m ρ m' ρ' _ hagree
  refine ⟨fun c => (dats m 0 c).arrAt 4 Cert.KernelUprojIdeal.cfg0.N, fun c => (dats m 0 c).arrAt 5 Cert.KernelUprojIdeal.cfg0.N,
    fun c => (dats m 0 c).arrAt 6 Cert.KernelUprojIdeal.cfg0.N, fun c => (dats m 0 c).arrAt 7 Cert.KernelUprojIdeal.cfg0.N,
    Cert.KernelUprojIdeal.Value.run_blocks m ρ, ?_⟩
  refine (θ_run Cert.ReferenceUprojIdeal.defs _ _).mono (fun r h c => ⟨(h c).1.trans ?_, (h c).2.1.trans ?_, (h c).2.2.1.trans ?_,
    (h c).2.2.2.1.trans ?_, (h c).2.2.2.2⟩) (Cert.ReferenceUprojIdeal.Value.run (F := Ideal) m' ρ')
  · refine Eq.trans ?_ (final4 m c).symm
    rw [(hagree c).2.1]
    funext y
    obtain ⟨r, j, rfl⟩ : ∃ (r : Fin 1024) (j : Fin 256), y = ix2 r j := ⟨y 0, y 1, by blk_ext⟩
    exact (rows_eq _ _ r j).trans rfl
  · refine Eq.trans ?_ (final5 m c).symm
    rw [(hagree c).1, (hagree c).2.1, (hagree c).2.2.1, (hagree c).2.2.2]
    funext y
    obtain ⟨r, j, rfl⟩ : ∃ (r : Fin 1024) (j : Fin 256), y = ix2 r j := ⟨y 0, y 1, by blk_ext⟩
    exact (rows_eq _ _ r j).trans rfl
  · refine Eq.trans ?_ (final6 m c).symm
    rw [(hagree c).2.1, (hagree c).2.2.1]
    funext y
    obtain ⟨r, j, rfl⟩ : ∃ (r : Fin 1024) (j : Fin 256), y = ix2 r j := ⟨y 0, y 1, by blk_ext⟩
    exact (rows_eq _ _ r j).trans rfl
  · refine Eq.trans ?_ (final7 m c).symm
    rw [(hagree c).2.1, (hagree c).2.2.2]
    funext y
    obtain ⟨r, j, rfl⟩ : ∃ (r : Fin 1024) (j : Fin 256), y = ix2 r j := ⟨y 0, y 1, by blk_ext⟩
    exact (rows_eq _ _ r j).trans rfl

end Cert.UpdateProj
end
-- ==== Proof.Packing.lean ====
/- Small weights packed in rows of 512, one under another, each filled up to whole groups of eight rows. -/
module

public import proofs.«01_k».proof.Proof.Adam
public import proofs.«01_k».proof.KernelUsmallIdeal
public import Idealize.ShloMosaic.Lib.Pointwise
public import Idealize.ShloMosaic.Lib.IdealHost
public import Idealize.ShloMosaic.Lib.Pipeline.ReadBack
public import Idealize.ShloMosaic.Lib.Pipeline.ValueKit

@[expose] public section

set_option maxRecDepth 16384

noncomputable section

namespace Cert.Packing
open Idealize.ShloMosaic Idealize.ShloMosaic.TcCoe Cert.KernelUsmallIdeal

/-- One array for each small weight. -/
structure Weights where
  w0 : FVec Ideal S4x1024 .f32
  w1 : FVec Ideal S2x31x512 .f32
  w2 : FVec Ideal S2x2048 .f32
  w3 : FVec Ideal S2x2048 .f32
  w4 : FVec Ideal S2x2048 .f32
  w5 : FVec Ideal S2x512 .f32
  w6 : FVec Ideal S2x512 .f32
  w7 : FVec Ideal S2x8x128x128 .f32
  w8 : FVec Ideal S2x8x128 .f32
  w9 : FVec Ideal S4x1024 .f32
  w10 : FVec Ideal S1024 .f32

/-- A function of four numbers entry by entry. -/
def zip (f : EReal → EReal → EReal → EReal → EReal) (A B C D : Weights) : Weights :=
  ⟨fun i => f (A.w0 i) (B.w0 i) (C.w0 i) (D.w0 i), fun i => f (A.w1 i) (B.w1 i) (C.w1 i) (D.w1 i),
   fun i => f (A.w2 i) (B.w2 i) (C.w2 i) (D.w2 i), fun i => f (A.w3 i) (B.w3 i) (C.w3 i) (D.w3 i),
   fun i => f (A.w4 i) (B.w4 i) (C.w4 i) (D.w4 i), fun i => f (A.w5 i) (B.w5 i) (C.w5 i) (D.w5 i),
   fun i => f (A.w6 i) (B.w6 i) (C.w6 i) (D.w6 i), fun i => f (A.w7 i) (B.w7 i) (C.w7 i) (D.w7 i),
   fun i => f (A.w8 i) (B.w8 i) (C.w8 i) (D.w8 i), fun i => f (A.w9 i) (B.w9 i) (C.w9 i) (D.w9 i),
   fun i => f (A.w10 i) (B.w10 i) (C.w10 i) (D.w10 i)⟩

/-- Rows of zeros below. -/
def fill {n m : ℕ} (k : ℕ) (x : FVec Ideal ⟨2, ![n, 512]⟩ .f32) (h : Shape.Pads (⟨2, ![n, 512]⟩ : Shape) ![0, 0] ![k, 0] ![0, 0] ⟨2, ![m, 512]⟩) :
    FVec Ideal ⟨2, ![m, 512]⟩ .f32 :=
  pad ⟨2, ![m, 512]⟩ ![0, 0] ![k, 0] ![0, 0] x (sitofp .f32 (constantI S_ 32 0#32)) h (by decide)

theorem fill_zip {n m k : ℕ} (f : EReal → EReal → EReal → EReal → EReal) (hf : f 0 0 0 0 = 0) (a b c d : FVec Ideal ⟨2, ![n, 512]⟩ .f32) (h) :
    fill (m := m) k (fun i => f (a i) (b i) (c i) (d i)) h = fun i => f (fill k a h i) (fill k b h i) (fill k c h i) (fill k d h i) := by
  funext i
  simp only [fill, pad_apply]
  split
  · rfl
  · have z : ∀ j, sitofp (F := Ideal) .f32 (constantI S_ 32 0#32) j = 0 := fun j => by
      show ((((0#32 : BitVec 32).toInt : ℝ)) : EReal) = 0
      simp
    rw [z, hf]

theorem fill_none {n : ℕ} (x : FVec Ideal ⟨2, ![n, 512]⟩ .f32) (h) : fill (m := n) 0 x h = x := by
  funext i
  simp only [fill, pad_apply]
  rw [dif_pos]
  · refine congrArg x ?_
    rw [Shape.Idx.norm_def]
    funext a
    refine Fin.ext ?_
    fin_cases a
    · exact Nat.div_one _
    · exact Nat.div_one _
  · intro a
    fin_cases a
    · exact ⟨Nat.zero_le _, Nat.mod_one _, by simpa using (i 0).isLt⟩
    · exact ⟨Nat.zero_le _, Nat.mod_one _, by simpa using (i 1).isLt⟩

/-- A function of four numbers entry by entry commutes with a concatenation. -/
theorem concatenateAt_zip (f : EReal → EReal → EReal → EReal → EReal) (t : Shape) (a : Fin t.rank) (j : t.Idx) :
    ∀ (L : List ((s : Shape) × (Fin 4 → s.Idx → EReal)))
      (h : ∀ s ∈ (L.map fun p => (⟨p.1, fun i => f (p.2 0 i) (p.2 1 i) (p.2 2 i) (p.2 3 i)⟩ : (s : Shape) × (s.Idx → EReal))).map (·.1), s.FitsOff t a)
      (h' : ∀ k : Fin 4, ∀ s ∈ (L.map fun p => (⟨p.1, p.2 k⟩ : (s : Shape) × (s.Idx → EReal))).map (·.1), s.FitsOff t a) (c : ℕ) (hc)
      (hc' : ∀ k : Fin 4, c < (axisSizes t a (L.map fun p => (⟨p.1, p.2 k⟩ : (s : Shape) × (s.Idx → EReal)))).sum),
      concatenateAt t a j (L.map fun p => ⟨p.1, fun i => f (p.2 0 i) (p.2 1 i) (p.2 2 i) (p.2 3 i)⟩) h c hc
        = f (concatenateAt t a j (L.map fun p => ⟨p.1, p.2 0⟩) (h' 0) c (hc' 0)) (concatenateAt t a j (L.map fun p => ⟨p.1, p.2 1⟩) (h' 1) c (hc' 1))
          (concatenateAt t a j (L.map fun p => ⟨p.1, p.2 2⟩) (h' 2) c (hc' 2)) (concatenateAt t a j (L.map fun p => ⟨p.1, p.2 3⟩) (h' 3) c (hc' 3))
  | [], _, _, _, hc, _ => absurd hc (Nat.not_lt_zero _)
  | [p], _, _, _, _, _ => by simp only [List.map_cons, List.map_nil, concatenateAt]
  | p :: q :: xs, h, h', c, hc, hc' => by
    simp only [List.map_cons, concatenateAt]
    split
    · rfl
    · exact concatenateAt_zip f t a j (q :: xs) _ (fun k s hs => h' k s (List.mem_cons_of_mem _ hs)) _ _ (fun k => by
        have := hc' k
        rw [List.map_cons, List.map_cons, axisSizes_cons t a _ _ (h' k p.1 List.mem_cons_self), List.sum_cons] at this
        exact Nat.sub_lt_left_of_lt_add (Nat.le_of_not_lt ‹_›) this)

theorem concatenates : Shape.Concatenates [S8x512, S64x512, S8x512, S8x512, S8x512, S8x512, S8x512, S512x512, S8x512, S8x512, S8x512] S648x512 0 := by
  decide

/-- Eleven pieces one under another. -/
def stack (b0 : FVec Ideal S8x512 .f32) (b1 : FVec Ideal S64x512 .f32) (b2 b3 b4 b5 b6 : FVec Ideal S8x512 .f32) (b7 : FVec Ideal S512x512 .f32)
    (b8 b9 b10 : FVec Ideal S8x512 .f32) : FVec Ideal S648x512 .f32 :=
  concatenate S648x512 0 [⟨S8x512, b0⟩, ⟨S64x512, b1⟩, ⟨S8x512, b2⟩, ⟨S8x512, b3⟩, ⟨S8x512, b4⟩, ⟨S8x512, b5⟩, ⟨S8x512, b6⟩, ⟨S512x512, b7⟩,
    ⟨S8x512, b8⟩, ⟨S8x512, b9⟩, ⟨S8x512, b10⟩] concatenates

/-- A function of four numbers entry by entry commutes with stacking. -/
theorem stack_zip (f : EReal → EReal → EReal → EReal → EReal)
    (a0 b0 c0 d0 a2 b2 c2 d2 a3 b3 c3 d3 a4 b4 c4 d4 a5 b5 c5 d5 a6 b6 c6 d6 a8 b8 c8 d8 a9 b9 c9 d9 a10 b10 c10 d10 : FVec Ideal S8x512 .f32)
    (a1 b1 c1 d1 : FVec Ideal S64x512 .f32) (a7 b7 c7 d7 : FVec Ideal S512x512 .f32) (y : S648x512.Idx) :
    stack (fun i => f (a0 i) (b0 i) (c0 i) (d0 i)) (fun i => f (a1 i) (b1 i) (c1 i) (d1 i)) (fun i => f (a2 i) (b2 i) (c2 i) (d2 i))
      (fun i => f (a3 i) (b3 i) (c3 i) (d3 i)) (fun i => f (a4 i) (b4 i) (c4 i) (d4 i)) (fun i => f (a5 i) (b5 i) (c5 i) (d5 i))
      (fun i => f (a6 i) (b6 i) (c6 i) (d6 i)) (fun i => f (a7 i) (b7 i) (c7 i) (d7 i)) (fun i => f (a8 i) (b8 i) (c8 i) (d8 i))
      (fun i => f (a9 i) (b9 i) (c9 i) (d9 i)) (fun i => f (a10 i) (b10 i) (c10 i) (d10 i)) y
    = f (stack a0 a1 a2 a3 a4 a5 a6 a7 a8 a9 a10 y) (stack b0 b1 b2 b3 b4 b5 b6 b7 b8 b9 b10 y)
      (stack c0 c1 c2 c3 c4 c5 c6 c7 c8 c9 c10 y) (stack d0 d1 d2 d3 d4 d5 d6 d7 d8 d9 d10 y) := by
  unfold stack
  rw [concatenate_apply, concatenate_apply, concatenate_apply, concatenate_apply, concatenate_apply]
  exact concatenateAt_zip f S648x512 0 y [⟨S8x512, ![a0, b0, c0, d0]⟩, ⟨S64x512, ![a1, b1, c1, d1]⟩, ⟨S8x512, ![a2, b2, c2, d2]⟩,
    ⟨S8x512, ![a3, b3, c3, d3]⟩, ⟨S8x512, ![a4, b4, c4, d4]⟩, ⟨S8x512, ![a5, b5, c5, d5]⟩, ⟨S8x512, ![a6, b6, c6, d6]⟩,
    ⟨S512x512, ![a7, b7, c7, d7]⟩, ⟨S8x512, ![a8, b8, c8, d8]⟩, ⟨S8x512, ![a9, b9, c9, d9]⟩, ⟨S8x512, ![a10, b10, c10, d10]⟩]
    concatenates.2.1 (fun k => by fin_cases k <;> exact concatenates.2.1) _ (lt_of_lt_of_eq (y 0).isLt concatenates.2.2.symm)
    (fun k => lt_of_lt_of_eq (y 0).isLt concatenates.2.2.symm)

/-- The packed array. -/
def pack (A : Weights) : FVec Ideal S648x512 .f32 :=
  stack (fill 0 (shapeCast S8x512 A.w0 (by decide)) (by decide)) (fill 2 (shapeCast S62x512 A.w1 (by decide)) (by decide))
    (fill 0 (shapeCast S8x512 A.w2 (by decide)) (by decide)) (fill 0 (shapeCast S8x512 A.w3 (by decide)) (by decide))
    (fill 0 (shapeCast S8x512 A.w4 (by decide)) (by decide)) (fill 6 A.w5 (by decide)) (fill 6 A.w6 (by decide))
    (fill 0 (shapeCast S512x512 A.w7 (by decide)) (by decide)) (fill 4 (shapeCast S4x512 A.w8 (by decide)) (by decide))
    (fill 0 (shapeCast S8x512 A.w9 (by decide)) (by decide)) (fill 6 (shapeCast S2x512 A.w10 (by decide)) (by decide))

/-- Packing commutes with a function of four numbers that is zero at zeros. -/
theorem pack_zip (f : EReal → EReal → EReal → EReal → EReal) (hf : f 0 0 0 0 = 0) (A B C D : Weights) (y : S648x512.Idx) :
    pack (zip f A B C D) y = f (pack A y) (pack B y) (pack C y) (pack D y) := by
  unfold pack
  rw [← stack_zip f]
  refine congrFun ?_ y
  congr 1 <;> exact fill_zip f hf _ _ _ _ _

end Cert.Packing
end
-- ==== Proof.UpdateSmall.lean ====
/- The AdamW step of the small weights, packed. -/
module

public import proofs.«01_k».proof.Defs
public import proofs.«01_k».proof.Proof.Packing
public import proofs.«01_k».proof.Proof.Gen.KernelUsmallIdeal.Value
public import proofs.«01_k».proof.Proof.Gen.ReferenceUsmallIdeal.Run
public import Idealize.ShloMosaic.Lib.Pointwise
public import Idealize.ShloMosaic.Lib.Pipeline.ReadBack
public import Idealize.ShloMosaic.Lib.Pipeline.ValueKit
public import Idealize.ShloMosaic.Lib.IdealHost

@[expose] public section

set_option maxRecDepth 16384

noncomputable section

namespace Cert.KernelUsmallIdeal.Gen
open Idealize.ShloMosaic Idealize.ShloMosaic.TcCoe Idealize.SL.Sem Cert.Adam Cert.Packing

theorem out4 (w g m v : Vec Ideal S648x512 .f32) (r : Fin 648) (j : Fin 512) : out0_4 w g m v (ix2 r j) = g (ix2 r j) := by
  frame_out
  pointwise [k0_pay1]

theorem out5 (w g m v : Vec Ideal S648x512 .f32) (r : Fin 648) (j : Fin 512) : out0_5 w g m v (ix2 r j)
    = delta (w (ix2 r j)) (g (ix2 r j)) (m (ix2 r j)) (v (ix2 r j)) := by
  frame_out
  pointwise [k0_pay4, k0_pay3, k0_pay2, k0_pay1, delta, first, second]

theorem out6 (w g m v : Vec Ideal S648x512 .f32) (r : Fin 648) (j : Fin 512) : out0_6 w g m v (ix2 r j)
    = first (g (ix2 r j)) (m (ix2 r j)) := by
  frame_out
  pointwise [k0_pay2, k0_pay1, first]

theorem out7 (w g m v : Vec Ideal S648x512 .f32) (r : Fin 648) (j : Fin 512) : out0_7 w g m v (ix2 r j)
    = second (g (ix2 r j)) (v (ix2 r j)) := by
  frame_out
  pointwise [k0_pay3, k0_pay1, second]

/-- Packed without the pieces that need no zeros. -/
def packed (A : Weights) : FVec Ideal S648x512 .f32 :=
  stack (shapeCast S8x512 A.w0 (by decide)) (fill 2 (shapeCast S62x512 A.w1 (by decide)) (by decide))
    (shapeCast S8x512 A.w2 (by decide)) (shapeCast S8x512 A.w3 (by decide))
    (shapeCast S8x512 A.w4 (by decide)) (fill 6 A.w5 (by decide)) (fill 6 A.w6 (by decide))
    (shapeCast S512x512 A.w7 (by decide)) (fill 4 (shapeCast S4x512 A.w8 (by decide)) (by decide))
    (shapeCast S8x512 A.w9 (by decide)) (fill 6 (shapeCast S2x512 A.w10 (by decide)) (by decide))

theorem pack_eq (A : Weights) : pack A = packed A := by
  unfold pack packed
  simp only [fill_none]

variable (m : (ℓ : Loc nD τ sig) → Buf (Elt Ideal) ℓ)

/-- The weights. -/
def weights (c : Dev nD) : Weights :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10)⟩

/-- Their gradients. -/
def grads (c : Dev nD) : Weights :=
  ⟨m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21)⟩

/-- Their first moments. -/
def firsts (c : Dev nD) : Weights :=
  ⟨m ((c : Thread nD τ).loc main_arg22), m ((c : Thread nD τ).loc main_arg23), m ((c : Thread nD τ).loc main_arg24), m ((c : Thread nD τ).loc main_arg25), m ((c : Thread nD τ).loc main_arg26), m ((c : Thread nD τ).loc main_arg27), m ((c : Thread nD τ).loc main_arg28), m ((c : Thread nD τ).loc main_arg29), m ((c : Thread nD τ).loc main_arg30), m ((c : Thread nD τ).loc main_arg31), m ((c : Thread nD τ).loc main_arg32)⟩

/-- Their second moments. -/
def seconds (c : Dev nD) : Weights :=
  ⟨m ((c : Thread nD τ).loc main_arg33), m ((c : Thread nD τ).loc main_arg34), m ((c : Thread nD τ).loc main_arg35), m ((c : Thread nD τ).loc main_arg36), m ((c : Thread nD τ).loc main_arg37), m ((c : Thread nD τ).loc main_arg38), m ((c : Thread nD τ).loc main_arg39), m ((c : Thread nD τ).loc main_arg40), m ((c : Thread nD τ).loc main_arg41), m ((c : Thread nD τ).loc main_arg42), m ((c : Thread nD τ).loc main_arg43)⟩

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] := (by decide +kernel : ∀ t : Fin grid0.N, _)

theorem V0 (c : Dev nD) : V m c main_v14 = packed (weights m c) := by
  rfl

theorem blk0 (c : Dev nD) (t : Fin cfg0.N) (r : Fin 648) (j : Fin 512) : iblk m c 0 t (ix2 r j) = pack (weights m c) (ix2 r j) := by
  rw [pack_eq, ← V0]
  generalize hV : V m c = U
  unfold iblk
  rw [hV]
  have e : (win0_0.blk t).view.emb (ix2 r j) = ix2 r j := by blk_ext [idx t]
  exact congrArg (U main_v14) e

theorem V1 (c : Dev nD) : V m c main_v29 = packed (grads m c) := by
  rfl

theorem blk1 (c : Dev nD) (t : Fin cfg0.N) (r : Fin 648) (j : Fin 512) : iblk m c 1 t (ix2 r j) = pack (grads m c) (ix2 r j) := by
  rw [pack_eq, ← V1]
  generalize hV : V m c = U
  unfold iblk
  rw [hV]
  have e : (win0_1.blk t).view.emb (ix2 r j) = ix2 r j := by blk_ext [idx t]
  exact congrArg (U main_v29) e

theorem V2 (c : Dev nD) : V m c main_v44 = packed (firsts m c) := by
  rfl

theorem blk2 (c : Dev nD) (t : Fin cfg0.N) (r : Fin 648) (j : Fin 512) : iblk m c 2 t (ix2 r j) = pack (firsts m c) (ix2 r j) := by
  rw [pack_eq, ← V2]
  generalize hV : V m c = U
  unfold iblk
  rw [hV]
  have e : (win0_2.blk t).view.emb (ix2 r j) = ix2 r j := by blk_ext [idx t]
  exact congrArg (U main_v44) e

theorem V3 (c : Dev nD) : V m c main_v59 = packed (seconds m c) := by
  rfl

theorem blk3 (c : Dev nD) (t : Fin cfg0.N) (r : Fin 648) (j : Fin 512) : iblk m c 3 t (ix2 r j) = pack (seconds m c) (ix2 r j) := by
  rw [pack_eq, ← V3]
  generalize hV : V m c = U
  unfold iblk
  rw [hV]
  have e : (win0_3.blk t).view.emb (ix2 r j) = ix2 r j := by blk_ext [idx t]
  exact congrArg (U main_v59) e

theorem final4 (c : Dev nD) : (dats m 0 c).arrAt 4 cfg0.N = pack (grads m c) := by
  refine (dats m 0 c).arrAt_eq_of_covers 4 _ (by decide +kernel) fun t hf y => ?_
  blk_simp
  rw [after0_4]
  obtain ⟨r, j, rfl⟩ : ∃ (r : Fin 648) (j : Fin 512), y = ix2 r j := ⟨y 0, y 1, by blk_ext⟩
  rw [out4, blk1]
  have e : (win0_4.blk t).view.emb (ix2 r j) = ix2 r j := by blk_ext [idx t]
  rw [e]

theorem final5 (c : Dev nD) : (dats m 0 c).arrAt 5 cfg0.N = fun y => delta (pack (weights m c) y) (pack (grads m c) y) (pack (firsts m c) y) (pack (seconds m c) y) := by
  refine (dats m 0 c).arrAt_eq_of_covers 5 _ (by decide +kernel) fun t hf y => ?_
  blk_simp
  rw [after0_5]
  obtain ⟨r, j, rfl⟩ : ∃ (r : Fin 648) (j : Fin 512), y = ix2 r j := ⟨y 0, y 1, by blk_ext⟩
  rw [out5, blk0, blk1, blk2, blk3]
  have e : (win0_5.blk t).view.emb (ix2 r j) = ix2 r j := by blk_ext [idx t]
  rw [e]

theorem final6 (c : Dev nD) : (dats m 0 c).arrAt 6 cfg0.N = fun y => first (pack (grads m c) y) (pack (firsts m c) y) := by
  refine (dats m 0 c).arrAt_eq_of_covers 6 _ (by decide +kernel) fun t hf y => ?_
  blk_simp
  rw [after0_6]
  obtain ⟨r, j, rfl⟩ : ∃ (r : Fin 648) (j : Fin 512), y = ix2 r j := ⟨y 0, y 1, by blk_ext⟩
  rw [out6, blk1, blk2]
  have e : (win0_6.blk t).view.emb (ix2 r j) = ix2 r j := by blk_ext [idx t]
  rw [e]

theorem final7 (c : Dev nD) : (dats m 0 c).arrAt 7 cfg0.N = fun y => second (pack (grads m c) y) (pack (seconds m c) y) := by
  refine (dats m 0 c).arrAt_eq_of_covers 7 _ (by decide +kernel) fun t hf y => ?_
  blk_simp
  rw [after0_7]
  obtain ⟨r, j, rfl⟩ : ∃ (r : Fin 648) (j : Fin 512), y = ix2 r j := ⟨y 0, y 1, by blk_ext⟩
  rw [out7, blk1, blk3]
  have e : (win0_7.blk t).view.emb (ix2 r j) = ix2 r j := by blk_ext [idx t]
  rw [e]

end Cert.KernelUsmallIdeal.Gen

namespace Cert.UpdateSmall
open Idealize.ShloMosaic Idealize.ShloMosaic.TcCoe Idealize.SL.Sem Cert.Adam Cert.Packing Cert.KernelUsmallIdeal.Gen

section
open Cert.ReferenceUsmallIdeal
variable (m : (ℓ : Loc nD τ sig) → Buf (Elt Ideal) ℓ)

/-- The weights. -/
def given_weights (c : Dev nD) : Weights :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10)⟩

/-- Their gradients. -/
def given_grads (c : Dev nD) : Weights :=
  ⟨m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21)⟩

/-- Their first moments. -/
def given_firsts (c : Dev nD) : Weights :=
  ⟨m ((c : Thread nD τ).loc main_arg22), m ((c : Thread nD τ).loc main_arg23), m ((c : Thread nD τ).loc main_arg24), m ((c : Thread nD τ).loc main_arg25), m ((c : Thread nD τ).loc main_arg26), m ((c : Thread nD τ).loc main_arg27), m ((c : Thread nD τ).loc main_arg28), m ((c : Thread nD τ).loc main_arg29), m ((c : Thread nD τ).loc main_arg30), m ((c : Thread nD τ).loc main_arg31), m ((c : Thread nD τ).loc main_arg32)⟩

/-- Their second moments. -/
def given_seconds (c : Dev nD) : Weights :=
  ⟨m ((c : Thread nD τ).loc main_arg33), m ((c : Thread nD τ).loc main_arg34), m ((c : Thread nD τ).loc main_arg35), m ((c : Thread nD τ).loc main_arg36), m ((c : Thread nD τ).loc main_arg37), m ((c : Thread nD τ).loc main_arg38), m ((c : Thread nD τ).loc main_arg39), m ((c : Thread nD τ).loc main_arg40), m ((c : Thread nD τ).loc main_arg41), m ((c : Thread nD τ).loc main_arg42), m ((c : Thread nD τ).loc main_arg43)⟩

end

theorem algebraic : Cert.algebraic_KernelUsmallIdeal_ReferenceUsmallIdeal := by
  intro m ρ m' ρ' _ hagree
  refine ⟨fun c => (dats m 0 c).arrAt 4 Cert.KernelUsmallIdeal.cfg0.N, fun c => (dats m 0 c).arrAt 5 Cert.KernelUsmallIdeal.cfg0.N,
    fun c => (dats m 0 c).arrAt 6 Cert.KernelUsmallIdeal.cfg0.N, fun c => (dats m 0 c).arrAt 7 Cert.KernelUsmallIdeal.cfg0.N,
    Cert.KernelUsmallIdeal.Value.run_blocks m ρ, ?_⟩
  have agree : ∀ c, given_weights m' c = weights m c ∧ given_grads m' c = grads m c ∧ given_firsts m' c = firsts m c
      ∧ given_seconds m' c = seconds m c := by
    intro c
    obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43⟩ := hagree c
    unfold given_weights given_grads given_firsts given_seconds weights grads firsts seconds
    rw [h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43]
    exact ⟨rfl, rfl, rfl, rfl⟩
  refine (θ_run Cert.ReferenceUsmallIdeal.defs _ _).mono (fun r h c => ⟨(h c).1.trans ?_, (h c).2.1.trans ?_, (h c).2.2.1.trans ?_,
    (h c).2.2.2.1.trans ?_, (h c).2.2.2.2⟩) (Cert.ReferenceUsmallIdeal.Value.run (F := Ideal) m' ρ')
  · refine Eq.trans (b := pack (given_grads m' c)) rfl ?_
    rw [(agree c).2.1]
    exact (final4 m c).symm
  · refine Eq.trans (b := pack (zip delta (given_weights m' c) (given_grads m' c) (given_firsts m' c) (given_seconds m' c))) rfl ?_
    rw [(agree c).1, (agree c).2.1, (agree c).2.2.1, (agree c).2.2.2]
    exact (funext (pack_zip delta delta_zero _ _ _ _)).trans (final5 m c).symm
  · refine Eq.trans (b := pack (zip (fun _ g m _ => first g m) (given_weights m' c) (given_grads m' c) (given_firsts m' c) (given_seconds m' c))) rfl ?_
    rw [(agree c).1, (agree c).2.1, (agree c).2.2.1, (agree c).2.2.2]
    exact (funext (pack_zip (fun _ g m _ => first g m) first_zero _ _ _ _)).trans (final6 m c).symm
  · refine Eq.trans (b := pack (zip (fun _ g _ v => second g v) (given_weights m' c) (given_grads m' c) (given_firsts m' c) (given_seconds m' c))) rfl ?_
    rw [(agree c).1, (agree c).2.1, (agree c).2.2.1, (agree c).2.2.2]
    exact (funext (pack_zip (fun _ g _ v => second g v) second_zero _ _ _ _)).trans (final7 m c).symm

end Cert.UpdateSmall
end
-- ==== Proof.Pair.lean ====
/- The sum of one half of an array of two halves and an array of one half. -/
module

public import Idealize.ShloMosaic.Lib.Pointwise
public import Idealize.ShloMosaic.Lib.IdealHost
public import Idealize.ShloMosaic.Lib.Pipeline.ReadBack
public import Idealize.ShloMosaic.Lib.Pipeline.ValueKit

@[expose] public section

noncomputable section

namespace Cert.Pair
open Idealize.ShloMosaic

variable {k h d : ℕ}

/-- A sum of two numbers. -/
def plus (x y : EReal) : EReal := x + y

/-- The first half and the other array, added. -/
def total (g : FVec Ideal ⟨4, ![k, 2, h, d]⟩ .f32) (r : FVec Ideal ⟨4, ![k, 1, h, d]⟩ .f32) : (⟨3, ![k, h, d]⟩ : Shape).Idx → EReal :=
  fun y => plus (g (ix4 (y 0) 0 (y 1) (y 2))) (r (ix4 (y 0) 0 (y 1) (y 2)))

theorem split (y : (⟨3, ![k, h, d]⟩ : Shape).Idx) : ∃ (a : Fin k) (b : Fin h) (c : Fin d), y = ix3 a b c :=
  ⟨y 0, y 1, y 2, by funext a; fin_cases a <;> rfl⟩

/-- An axis of one element taken away. -/
theorem drop_at (x : FVec Ideal ⟨4, ![k, 1, h, d]⟩ .f32) (hc : Shape.ShapeCasts (⟨4, ![k, 1, h, d]⟩ : Shape) ⟨3, ![k, h, d]⟩) (a : Fin k) (b : Fin h) (c : Fin d) :
    shapeCast ⟨3, ![k, h, d]⟩ x hc (ix3 a b c) = x (ix4 a 0 b c) := by
  refine shapeCast_apply _ _ _ _ ?_
  rw [Shape.rowMajor_val_three, Shape.rowMajor_val_four]
  show ((a.val * 1 + 0) * h + b.val) * d + c.val = (a.val * h + b.val) * d + c.val
  rw [Nat.mul_one, Nat.add_zero]

/-- The plain sum. -/
theorem total_eq (g : FVec Ideal ⟨4, ![k, 2, h, d]⟩ .f32) (r : FVec Ideal ⟨4, ![k, 1, h, d]⟩ .f32)
    (hs : Shape.Slices (⟨4, ![k, 2, h, d]⟩ : Shape) ![0, 0, 0, 0] ⟨4, ![k, 1, h, d]⟩) (hc : Shape.ShapeCasts (⟨4, ![k, 1, h, d]⟩ : Shape) ⟨3, ![k, h, d]⟩) :
    addf (F := Ideal) (φ := .f32) (shapeCast ⟨3, ![k, h, d]⟩ (extractStridedSlice ⟨4, ![k, 1, h, d]⟩ ![0, 0, 0, 0] g hs) hc) (shapeCast ⟨3, ![k, h, d]⟩ r hc) = total g r := by
  funext y
  obtain ⟨a, b, c, rfl⟩ := split y
  show plus (shapeCast ⟨3, ![k, h, d]⟩ (extractStridedSlice ⟨4, ![k, 1, h, d]⟩ ![0, 0, 0, 0] g hs) hc (ix3 a b c)) (shapeCast ⟨3, ![k, h, d]⟩ r hc (ix3 a b c)) = _
  rw [drop_at, drop_at]
  refine congrArg (fun z => plus z (r (ix4 a 0 b c))) ?_
  show g _ = g _
  refine congrArg g ?_
  funext e
  refine Fin.ext ?_
  fin_cases e <;> simp [ix4]

/-- The sum of two blocks, as the kernel lays them out. -/
theorem block_at (x y : FVec Ideal ⟨4, ![1, 1, h, d]⟩ .f32) (hx : Shape.ShapeCasts (⟨4, ![1, 1, h, d]⟩ : Shape) ⟨2, ![h, d]⟩)
    (ho : Shape.ShapeCasts (⟨2, ![h, d]⟩ : Shape) ⟨3, ![1, h, d]⟩) (a : Fin 1) (b : Fin h) (c : Fin d) :
    shapeCast ⟨3, ![1, h, d]⟩ (addf (F := Ideal) (φ := .f32) (shapeCast ⟨2, ![h, d]⟩ x hx) (shapeCast ⟨2, ![h, d]⟩ y hx)) ho (ix3 a b c)
      = plus (x (ix4 0 0 b c)) (y (ix4 0 0 b c)) := by
  have e : ∀ x : FVec Ideal ⟨4, ![1, 1, h, d]⟩ .f32, shapeCast ⟨2, ![h, d]⟩ x hx (ix2 b c) = x (ix4 0 0 b c) := fun x => by
    refine shapeCast_apply _ _ _ _ ?_
    rw [Shape.rowMajor_val_two, Shape.rowMajor_val_four]
    show ((0 * 1 + 0) * h + b.val) * d + c.val = b.val * d + c.val
    rw [Nat.zero_mul, Nat.zero_add]
  refine (shapeCast_apply _ _ _ (ix2 b c) ?_).trans (congrArg₂ plus (e x) (e y))
  rw [Shape.rowMajor_val_three, Shape.rowMajor_val_two]
  show b.val * d + c.val = (a.val * h + b.val) * d + c.val
  rw [Nat.lt_one_iff.mp a.isLt, Nat.zero_mul, Nat.zero_add]

end Cert.Pair
end
-- ==== Proof.PairSums.lean ====
/- The weights' gradients of two cores added (`KernelPair`): the table names the half to add to the other core's. -/
module

public import proofs.«01_k».proof.Defs
public import proofs.«01_k».proof.Proof.Pair
public import proofs.«01_k».proof.Proof.Gen.KernelPair.Frame
public import proofs.«01_k».proof.Proof.Gen.KernelPairIdeal.Frame
public import proofs.«01_k».proof.Proof.Gen.ReferencePairIdeal.Run

@[expose] public section

set_option maxRecDepth 16384

noncomputable section

namespace Cert.KernelPair.Gen
open Idealize.ShloMosaic Idealize.ShloMosaic.TcCoe

section
variable {F : FTy → Type} [FloatOps F] (m : (ℓ : Loc nD τ sig) → Buf (Elt F) ℓ)

set_option backward.proofsInPublic true in
/-- A table of zeros. -/
def zeroTable : pre0.Contents (Elt F) := fun | ⟨0, _⟩ => (fun _ => 0#32 : S1.Idx → BitVec 32) | ⟨_ + 1, h⟩ => absurd h (by simp)

/-- At zeros every block lies in its array. -/
theorem ok_zero : ok0 (F := F) zeroTable :=
  ⟨fun i => ⟨(by decide : ∀ (i : grid0.Coords) a, (cc0_transform_1 i a + 1) * S1x1x256x1536.size a ≤ S4x2x512x1536.size a) i, .inl rfl⟩,
   fun i => ⟨(by decide : ∀ (i : grid0.Coords) a, (cc0_transform_3 i a + 1) * S1x1x128x1024.size a ≤ S4x2x256x1024.size a) i, .inl rfl⟩,
   fun i => ⟨(by decide : ∀ (i : grid0.Coords) a, (cc0_transform_5 i a + 1) * S1x1x64x1024.size a ≤ S4x2x128x1024.size a) i, .inl rfl⟩,
   fun i => ⟨(by decide : ∀ (i : grid0.Coords) a, (cc0_transform_7 i a + 1) * S1x1x64x256.size a ≤ S4x2x128x256.size a) i, .inl rfl⟩⟩

/-- The table's word is zero. -/
theorem tbl_zero : tbl m = zeroTable := by
  funext j
  match j with
  | ⟨0, _⟩ =>
    show StableHlo.after (hostOps0 (F := F)) (fun b => m (0, b)) (Proc.devRef .tc main_v0) = _
    unfold hostOps0
    after_results
    rfl

theorem ok : Ok m := by
  unfold Ok
  rw [tbl_zero]
  exact ok_zero

end

end Cert.KernelPair.Gen

namespace Cert.KernelPairIdeal.Gen
open Idealize.ShloMosaic Idealize.ShloMosaic.TcCoe Idealize.SL.Sem Cert.Pair

section
variable {F : FTy → Type} [FloatOps F] (m : (ℓ : Loc nD τ sig) → Buf (Elt F) ℓ)

set_option backward.proofsInPublic true in
/-- A table of zeros. -/
def zeroTable : pre0.Contents (Elt F) := fun | ⟨0, _⟩ => (fun _ => 0#32 : S1.Idx → BitVec 32) | ⟨_ + 1, h⟩ => absurd h (by simp)

/-- At zeros every block lies in its array. -/
theorem ok_zero : ok0 (F := F) zeroTable :=
  ⟨fun i => ⟨(by decide : ∀ (i : grid0.Coords) a, (cc0_transform_1 i a + 1) * S1x1x256x1536.size a ≤ S4x2x512x1536.size a) i, .inl rfl⟩,
   fun i => ⟨(by decide : ∀ (i : grid0.Coords) a, (cc0_transform_3 i a + 1) * S1x1x128x1024.size a ≤ S4x2x256x1024.size a) i, .inl rfl⟩,
   fun i => ⟨(by decide : ∀ (i : grid0.Coords) a, (cc0_transform_5 i a + 1) * S1x1x64x1024.size a ≤ S4x2x128x1024.size a) i, .inl rfl⟩,
   fun i => ⟨(by decide : ∀ (i : grid0.Coords) a, (cc0_transform_7 i a + 1) * S1x1x64x256.size a ≤ S4x2x128x256.size a) i, .inl rfl⟩⟩

/-- The table's word is zero. -/
theorem tbl_zero : tbl m = zeroTable := by
  funext j
  match j with
  | ⟨0, _⟩ =>
    show StableHlo.after (hostOps0 (F := F)) (fun b => m (0, b)) (Proc.devRef .tc main_v0) = _
    unfold hostOps0
    after_results
    rfl

theorem ok : Ok m := by
  unfold Ok
  rw [tbl_zero]
  exact ok_zero

end

variable (m : (ℓ : Loc nD τ sig) → Buf (Elt Ideal) ℓ)

/-- Point `t` is row block `t % 2` of array `t / 2`. -/
theorem idx : ∀ t : Fin grid0.N, cc0_transform_1 (grid0.coords t) = ![t.val / 2, 0, t.val % 2, 0] ∧ cc0_transform_3 (grid0.coords t) = ![t.val / 2, 0, t.val % 2, 0] ∧ cc0_transform_5 (grid0.coords t) = ![t.val / 2, 0, t.val % 2, 0] ∧ cc0_transform_7 (grid0.coords t) = ![t.val / 2, 0, t.val % 2, 0] ∧ cc0_transform_8 (grid0.coords t) = ![t.val / 2, t.val % 2, 0] ∧ cc0_transform_9 (grid0.coords t) = ![t.val / 2, t.val % 2, 0] ∧ cc0_transform_10 (grid0.coords t) = ![t.val / 2, t.val % 2, 0] ∧ cc0_transform_11 (grid0.coords t) = ![t.val / 2, t.val % 2, 0] := by
  decide +kernel

theorem pos (t : Fin grid0.N) : t.val / 2 < 4 := by have := lt_of_lt_of_eq t.isLt N_0; omega

theorem idx_0 (t : Fin (cfgM m (ok m)).N) : ((cfgM m (ok m)).win 0).index t = ![t.val / 2, 0, t.val % 2, 0] := by
  show cc0_transform_0 inb_S1_S1_0 numel1_S1 (tbl m) (grid0.coords t) = _
  rw [tbl_zero]
  exact (idx t).1
theorem idx_1 (t : Fin (cfgM m (ok m)).N) : ((cfgM m (ok m)).win 1).index t = ![t.val / 2, 0, t.val % 2, 0] := (idx t).1
theorem idx_8 (t : Fin (cfgM m (ok m)).N) : ((cfgM m (ok m)).win 8).index t = ![t.val / 2, t.val % 2, 0] := (idx t).2.2.2.2.1

theorem out_8 (c : Dev nD) (t : Fin (cfgM m (ok m)).N) (i : Fin 1) (r : Fin 256) (j : Fin 1536) :
    (outsAt0 m (ok m) c t).1 (ix3 i r j) = plus (iblk m (ok m) c 0 t (ix4 0 0 r j)) (iblk m (ok m) c 1 t (ix4 0 0 r j)) := by
  unfold outsAt0
  generalize iblk m (ok m) c 0 t = x, iblk m (ok m) c 1 t = y
  frame_out
  exact (congrArg₂ (fun x y => k0_pay3 x y (ix3 i r j)) ((hs0_0 m (ok m) t).read_unread x) ((hs0_1 m (ok m) t).read_unread y)).trans (block_at x y _ _ i r j)

theorem final_8 (c : Dev nD) : (dats m (ok m) 0 c).arrAt 8 (cfgM m (ok m)).N
    = total (k := 4) (h := 512) (d := 1536) (m ((c : Thread nD τ).loc main_arg0)) (m ((c : Thread nD τ).loc main_arg4)) := by
  refine (dats m (ok m) 0 c).arrAt_eq_of_covers 8 _ (by decide +kernel : ((cfg0 ⟨zeroTable (F := Ideal), ok_zero⟩).win 8).Covers) fun t hf y => ?_
  blk_simp
  rw [after0_8]
  obtain ⟨i, r, j, rfl⟩ := split (k := 1) (h := 256) (d := 1536) y
  have a : iblk m (ok m) c 0 t (ix4 0 0 r j) = m ((c : Thread nD τ).loc main_arg0) (ix4 ⟨t.val / 2, pos t⟩ 0 ⟨256 * (t.val % 2) + r, by omega⟩ j) := by
    blk_point [iblk, V, idx_0 m t]
  have b : iblk m (ok m) c 1 t (ix4 0 0 r j) = m ((c : Thread nD τ).loc main_arg4) (ix4 ⟨t.val / 2, pos t⟩ 0 ⟨256 * (t.val % 2) + r, by omega⟩ j) := by
    blk_point [iblk, V, idx_1 m t]
  have e : (((cfgM m (ok m)).win 8).blk t).view.emb (ix3 i r j) = ix3 ⟨t.val / 2, pos t⟩ ⟨256 * (t.val % 2) + r, by omega⟩ j := by
    blk_ext [idx_8 m t]
  rw [out_8, a, b, e]
  rfl

theorem idx_2 (t : Fin (cfgM m (ok m)).N) : ((cfgM m (ok m)).win 2).index t = ![t.val / 2, 0, t.val % 2, 0] := by
  show cc0_transform_2 inb_S1_S1_0 numel1_S1 (tbl m) (grid0.coords t) = _
  rw [tbl_zero]
  exact (idx t).2.1
theorem idx_3 (t : Fin (cfgM m (ok m)).N) : ((cfgM m (ok m)).win 3).index t = ![t.val / 2, 0, t.val % 2, 0] := (idx t).2.1
theorem idx_9 (t : Fin (cfgM m (ok m)).N) : ((cfgM m (ok m)).win 9).index t = ![t.val / 2, t.val % 2, 0] := (idx t).2.2.2.2.2.1

theorem out_9 (c : Dev nD) (t : Fin (cfgM m (ok m)).N) (i : Fin 1) (r : Fin 128) (j : Fin 1024) :
    (outsAt0 m (ok m) c t).2.1 (ix3 i r j) = plus (iblk m (ok m) c 2 t (ix4 0 0 r j)) (iblk m (ok m) c 3 t (ix4 0 0 r j)) := by
  unfold outsAt0
  generalize iblk m (ok m) c 2 t = x, iblk m (ok m) c 3 t = y
  frame_out
  exact (congrArg₂ (fun x y => k0_pay4 x y (ix3 i r j)) ((hs0_2 m (ok m) t).read_unread x) ((hs0_3 m (ok m) t).read_unread y)).trans (block_at x y _ _ i r j)

theorem final_9 (c : Dev nD) : (dats m (ok m) 0 c).arrAt 9 (cfgM m (ok m)).N
    = total (k := 4) (h := 256) (d := 1024) (m ((c : Thread nD τ).loc main_arg1)) (m ((c : Thread nD τ).loc main_arg5)) := by
  refine (dats m (ok m) 0 c).arrAt_eq_of_covers 9 _ (by decide +kernel : ((cfg0 ⟨zeroTable (F := Ideal), ok_zero⟩).win 9).Covers) fun t hf y => ?_
  blk_simp
  rw [after0_9]
  obtain ⟨i, r, j, rfl⟩ := split (k := 1) (h := 128) (d := 1024) y
  have a : iblk m (ok m) c 2 t (ix4 0 0 r j) = m ((c : Thread nD τ).loc main_arg1) (ix4 ⟨t.val / 2, pos t⟩ 0 ⟨128 * (t.val % 2) + r, by omega⟩ j) := by
    blk_point [iblk, V, idx_2 m t]
  have b : iblk m (ok m) c 3 t (ix4 0 0 r j) = m ((c : Thread nD τ).loc main_arg5) (ix4 ⟨t.val / 2, pos t⟩ 0 ⟨128 * (t.val % 2) + r, by omega⟩ j) := by
    blk_point [iblk, V, idx_3 m t]
  have e : (((cfgM m (ok m)).win 9).blk t).view.emb (ix3 i r j) = ix3 ⟨t.val / 2, pos t⟩ ⟨128 * (t.val % 2) + r, by omega⟩ j := by
    blk_ext [idx_9 m t]
  rw [out_9, a, b, e]
  rfl

theorem idx_4 (t : Fin (cfgM m (ok m)).N) : ((cfgM m (ok m)).win 4).index t = ![t.val / 2, 0, t.val % 2, 0] := by
  show cc0_transform_4 inb_S1_S1_0 numel1_S1 (tbl m) (grid0.coords t) = _
  rw [tbl_zero]
  exact (idx t).2.2.1
theorem idx_5 (t : Fin (cfgM m (ok m)).N) : ((cfgM m (ok m)).win 5).index t = ![t.val / 2, 0, t.val % 2, 0] := (idx t).2.2.1
theorem idx_10 (t : Fin (cfgM m (ok m)).N) : ((cfgM m (ok m)).win 10).index t = ![t.val / 2, t.val % 2, 0] := (idx t).2.2.2.2.2.2.1

theorem out_10 (c : Dev nD) (t : Fin (cfgM m (ok m)).N) (i : Fin 1) (r : Fin 64) (j : Fin 1024) :
    (outsAt0 m (ok m) c t).2.2.1 (ix3 i r j) = plus (iblk m (ok m) c 4 t (ix4 0 0 r j)) (iblk m (ok m) c 5 t (ix4 0 0 r j)) := by
  unfold outsAt0
  generalize iblk m (ok m) c 4 t = x, iblk m (ok m) c 5 t = y
  frame_out
  exact (congrArg₂ (fun x y => k0_pay1 (k0_pay5 x y) (ix3 i r j)) ((hs0_4 m (ok m) t).read_unread x) ((hs0_5 m (ok m) t).read_unread y)).trans (block_at x y _ _ i r j)

theorem final_10 (c : Dev nD) : (dats m (ok m) 0 c).arrAt 10 (cfgM m (ok m)).N
    = total (k := 4) (h := 128) (d := 1024) (m ((c : Thread nD τ).loc main_arg2)) (m ((c : Thread nD τ).loc main_arg6)) := by
  refine (dats m (ok m) 0 c).arrAt_eq_of_covers 10 _ (by decide +kernel : ((cfg0 ⟨zeroTable (F := Ideal), ok_zero⟩).win 10).Covers) fun t hf y => ?_
  blk_simp
  rw [after0_10]
  obtain ⟨i, r, j, rfl⟩ := split (k := 1) (h := 64) (d := 1024) y
  have a : iblk m (ok m) c 4 t (ix4 0 0 r j) = m ((c : Thread nD τ).loc main_arg2) (ix4 ⟨t.val / 2, pos t⟩ 0 ⟨64 * (t.val % 2) + r, by omega⟩ j) := by
    blk_point [iblk, V, idx_4 m t]
  have b : iblk m (ok m) c 5 t (ix4 0 0 r j) = m ((c : Thread nD τ).loc main_arg6) (ix4 ⟨t.val / 2, pos t⟩ 0 ⟨64 * (t.val % 2) + r, by omega⟩ j) := by
    blk_point [iblk, V, idx_5 m t]
  have e : (((cfgM m (ok m)).win 10).blk t).view.emb (ix3 i r j) = ix3 ⟨t.val / 2, pos t⟩ ⟨64 * (t.val % 2) + r, by omega⟩ j := by
    blk_ext [idx_10 m t]
  rw [out_10, a, b, e]
  rfl

theorem idx_6 (t : Fin (cfgM m (ok m)).N) : ((cfgM m (ok m)).win 6).index t = ![t.val / 2, 0, t.val % 2, 0] := by
  show cc0_transform_6 inb_S1_S1_0 numel1_S1 (tbl m) (grid0.coords t) = _
  rw [tbl_zero]
  exact (idx t).2.2.2.1
theorem idx_7 (t : Fin (cfgM m (ok m)).N) : ((cfgM m (ok m)).win 7).index t = ![t.val / 2, 0, t.val % 2, 0] := (idx t).2.2.2.1
theorem idx_11 (t : Fin (cfgM m (ok m)).N) : ((cfgM m (ok m)).win 11).index t = ![t.val / 2, t.val % 2, 0] := (idx t).2.2.2.2.2.2.2

theorem out_11 (c : Dev nD) (t : Fin (cfgM m (ok m)).N) (i : Fin 1) (r : Fin 64) (j : Fin 256) :
    (outsAt0 m (ok m) c t).2.2.2 (ix3 i r j) = plus (iblk m (ok m) c 6 t (ix4 0 0 r j)) (iblk m (ok m) c 7 t (ix4 0 0 r j)) := by
  unfold outsAt0
  generalize iblk m (ok m) c 6 t = x, iblk m (ok m) c 7 t = y
  frame_out
  exact (congrArg₂ (fun x y => k0_pay2 x y (ix3 i r j)) ((hs0_6 m (ok m) t).read_unread x) ((hs0_7 m (ok m) t).read_unread y)).trans (block_at x y _ _ i r j)

theorem final_11 (c : Dev nD) : (dats m (ok m) 0 c).arrAt 11 (cfgM m (ok m)).N
    = total (k := 4) (h := 128) (d := 256) (m ((c : Thread nD τ).loc main_arg3)) (m ((c : Thread nD τ).loc main_arg7)) := by
  refine (dats m (ok m) 0 c).arrAt_eq_of_covers 11 _ (by decide +kernel : ((cfg0 ⟨zeroTable (F := Ideal), ok_zero⟩).win 11).Covers) fun t hf y => ?_
  blk_simp
  rw [after0_11]
  obtain ⟨i, r, j, rfl⟩ := split (k := 1) (h := 64) (d := 256) y
  have a : iblk m (ok m) c 6 t (ix4 0 0 r j) = m ((c : Thread nD τ).loc main_arg3) (ix4 ⟨t.val / 2, pos t⟩ 0 ⟨64 * (t.val % 2) + r, by omega⟩ j) := by
    blk_point [iblk, V, idx_6 m t]
  have b : iblk m (ok m) c 7 t (ix4 0 0 r j) = m ((c : Thread nD τ).loc main_arg7) (ix4 ⟨t.val / 2, pos t⟩ 0 ⟨64 * (t.val % 2) + r, by omega⟩ j) := by
    blk_point [iblk, V, idx_7 m t]
  have e : (((cfgM m (ok m)).win 11).blk t).view.emb (ix3 i r j) = ix3 ⟨t.val / 2, pos t⟩ ⟨64 * (t.val % 2) + r, by omega⟩ j := by
    blk_ext [idx_11 m t]
  rw [out_11, a, b, e]
  rfl

/-- What a run leaves. -/
theorem run (ρ : Dev nD → PrngReg) :
    θ_run defs (onTc (τ := τ) (main (F := Ideal))) ⟨m, fun _ => 0, ρ⟩ fun r => ∀ c : Dev nD,
      r.2.mem ((c.tc : Thread nD τ).loc main_v1_0) = (dats m (ok m) 0 c).arrAt 8 (cfgM m (ok m)).N
      ∧ r.2.mem ((c.tc : Thread nD τ).loc main_v1_1) = (dats m (ok m) 0 c).arrAt 9 (cfgM m (ok m)).N
      ∧ r.2.mem ((c.tc : Thread nD τ).loc main_v1_2) = (dats m (ok m) 0 c).arrAt 10 (cfgM m (ok m)).N
      ∧ r.2.mem ((c.tc : Thread nD τ).loc main_v1_3) = (dats m (ok m) 0 c).arrAt 11 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h.1 c).1 8, (h.1 c).1 9, (h.1 c).1 10, (h.1 c).1 11, h.2 c⟩) (θ_run_and (run_main m ρ (ok m)) (unchanged m ρ (ok m)))

end Cert.KernelPairIdeal.Gen

namespace Cert.PairSums
open Idealize.ShloMosaic Idealize.ShloMosaic.TcCoe Idealize.SL.Sem Cert.Pair

open Cert.KernelPairIdeal Cert.KernelPairIdeal.Gen in
theorem algebraic : Cert.algebraic_KernelPairIdeal_ReferencePairIdeal := by
  intro m ρ m' ρ' _ hagree
  refine ⟨fun c => (dats m (ok m) 0 c).arrAt 8 (cfgM m (ok m)).N, fun c => (dats m (ok m) 0 c).arrAt 9 (cfgM m (ok m)).N, fun c => (dats m (ok m) 0 c).arrAt 10 (cfgM m (ok m)).N, fun c => (dats m (ok m) 0 c).arrAt 11 (cfgM m (ok m)).N, run m ρ, ?_⟩
  refine (θ_run Cert.ReferencePairIdeal.defs _ _).mono (fun r h c => ⟨(h c).1.trans ?_, (h c).2.1.trans ?_, (h c).2.2.1.trans ?_, (h c).2.2.2.1.trans ?_, (h c).2.2.2.2⟩)
    (Cert.ReferencePairIdeal.Value.run (F := Ideal) m' ρ')
  · refine Eq.trans ?_ (final_8 m c).symm
    rw [(hagree c).1, (hagree c).2.2.2.2.1]
    exact total_eq _ _ _ _
  · refine Eq.trans ?_ (final_9 m c).symm
    rw [(hagree c).2.1, (hagree c).2.2.2.2.2.1]
    exact total_eq _ _ _ _
  · refine Eq.trans ?_ (final_10 m c).symm
    rw [(hagree c).2.2.1, (hagree c).2.2.2.2.2.2.1]
    exact total_eq _ _ _ _
  · refine Eq.trans ?_ (final_11 m c).symm
    rw [(hagree c).2.2.2.1, (hagree c).2.2.2.2.2.2.2]
    exact total_eq _ _ _ _

end Cert.PairSums
end
-- ==== Proof.PairSmall.lean ====
/- The small gradients of two cores added (`KernelPairSmall`): the table names the half to add to the other core's. -/
module

public import proofs.«01_k».proof.Defs
public import proofs.«01_k».proof.Proof.Pair
public import proofs.«01_k».proof.Proof.Gen.KernelPairSmall.Frame
public import proofs.«01_k».proof.Proof.Gen.KernelPairSmallIdeal.Frame
public import proofs.«01_k».proof.Proof.Gen.ReferencePairSmallIdeal.Run

@[expose] public section

set_option maxRecDepth 16384

noncomputable section

namespace Cert.KernelPairSmall.Gen
open Idealize.ShloMosaic Idealize.ShloMosaic.TcCoe

section
variable {F : FTy → Type} [FloatOps F] (m : (ℓ : Loc nD τ sig) → Buf (Elt F) ℓ)

set_option backward.proofsInPublic true in
/-- A table of zeros. -/
def zeroTable : pre0.Contents (Elt F) := fun | ⟨0, _⟩ => (fun _ => 0#32 : S1.Idx → BitVec 32) | ⟨_ + 1, h⟩ => absurd h (by simp)

/-- At zeros every block lies in its array. -/
theorem ok_zero : ok0 (F := F) zeroTable :=
  fun i => ⟨(by decide : ∀ (i : grid0.Coords) a, (cc0_transform_1 i a + 1) * S1x1x32x1024.size a ≤ S4x2x64x1024.size a) i, .inl rfl⟩

/-- The table's word is zero. -/
theorem tbl_zero : tbl m = zeroTable := by
  funext j
  match j with
  | ⟨0, _⟩ =>
    show StableHlo.after (hostOps0 (F := F)) (fun b => m (0, b)) (Proc.devRef .tc main_v0) = _
    unfold hostOps0
    after_results
    rfl

theorem ok : Ok m := by
  unfold Ok
  rw [tbl_zero]
  exact ok_zero

end

end Cert.KernelPairSmall.Gen

namespace Cert.KernelPairSmallIdeal.Gen
open Idealize.ShloMosaic Idealize.ShloMosaic.TcCoe Idealize.SL.Sem Cert.Pair

section
variable {F : FTy → Type} [FloatOps F] (m : (ℓ : Loc nD τ sig) → Buf (Elt F) ℓ)

set_option backward.proofsInPublic true in
/-- A table of zeros. -/
def zeroTable : pre0.Contents (Elt F) := fun | ⟨0, _⟩ => (fun _ => 0#32 : S1.Idx → BitVec 32) | ⟨_ + 1, h⟩ => absurd h (by simp)

/-- At zeros every block lies in its array. -/
theorem ok_zero : ok0 (F := F) zeroTable :=
  fun i => ⟨(by decide : ∀ (i : grid0.Coords) a, (cc0_transform_1 i a + 1) * S1x1x32x1024.size a ≤ S4x2x64x1024.size a) i, .inl rfl⟩

/-- The table's word is zero. -/
theorem tbl_zero : tbl m = zeroTable := by
  funext j
  match j with
  | ⟨0, _⟩ =>
    show StableHlo.after (hostOps0 (F := F)) (fun b => m (0, b)) (Proc.devRef .tc main_v0) = _
    unfold hostOps0
    after_results
    rfl

theorem ok : Ok m := by
  unfold Ok
  rw [tbl_zero]
  exact ok_zero

end

variable (m : (ℓ : Loc nD τ sig) → Buf (Elt Ideal) ℓ)

/-- Point `t` is row block `t % 2` of array `t / 2`. -/
theorem idx : ∀ t : Fin grid0.N, cc0_transform_1 (grid0.coords t) = ![t.val / 2, 0, t.val % 2, 0] ∧ cc0_transform_2 (grid0.coords t) = ![t.val / 2, t.val % 2, 0] := by
  decide +kernel

theorem pos (t : Fin grid0.N) : t.val / 2 < 4 := by have := lt_of_lt_of_eq t.isLt N_0; omega

theorem idx_0 (t : Fin (cfgM m (ok m)).N) : ((cfgM m (ok m)).win 0).index t = ![t.val / 2, 0, t.val % 2, 0] := by
  show cc0_transform_0 inb_S1_S1_0 numel1_S1 (tbl m) (grid0.coords t) = _
  rw [tbl_zero]
  exact (idx t).1
theorem idx_1 (t : Fin (cfgM m (ok m)).N) : ((cfgM m (ok m)).win 1).index t = ![t.val / 2, 0, t.val % 2, 0] := (idx t).1
theorem idx_2 (t : Fin (cfgM m (ok m)).N) : ((cfgM m (ok m)).win 2).index t = ![t.val / 2, t.val % 2, 0] := (idx t).2

theorem out_2 (c : Dev nD) (t : Fin (cfgM m (ok m)).N) (i : Fin 1) (r : Fin 32) (j : Fin 1024) :
    (outsAt0 m (ok m) c t) (ix3 i r j) = plus (iblk m (ok m) c 0 t (ix4 0 0 r j)) (iblk m (ok m) c 1 t (ix4 0 0 r j)) := by
  unfold outsAt0
  generalize iblk m (ok m) c 0 t = x, iblk m (ok m) c 1 t = y
  frame_out
  exact (congrArg₂ (fun x y => k0_pay1 x y (ix3 i r j)) ((hs0_0 m (ok m) t).read_unread x) ((hs0_1 m (ok m) t).read_unread y)).trans (block_at x y _ _ i r j)

theorem final_2 (c : Dev nD) : (dats m (ok m) 0 c).arrAt 2 (cfgM m (ok m)).N
    = total (k := 4) (h := 64) (d := 1024) (m ((c : Thread nD τ).loc main_arg0)) (m ((c : Thread nD τ).loc main_arg1)) := by
  refine (dats m (ok m) 0 c).arrAt_eq_of_covers 2 _ (by decide +kernel : ((cfg0 ⟨zeroTable (F := Ideal), ok_zero⟩).win 2).Covers) fun t hf y => ?_
  blk_simp
  rw [after0_2]
  obtain ⟨i, r, j, rfl⟩ := split (k := 1) (h := 32) (d := 1024) y
  have a : iblk m (ok m) c 0 t (ix4 0 0 r j) = m ((c : Thread nD τ).loc main_arg0) (ix4 ⟨t.val / 2, pos t⟩ 0 ⟨32 * (t.val % 2) + r, by omega⟩ j) := by
    blk_point [iblk, V, idx_0 m t]
  have b : iblk m (ok m) c 1 t (ix4 0 0 r j) = m ((c : Thread nD τ).loc main_arg1) (ix4 ⟨t.val / 2, pos t⟩ 0 ⟨32 * (t.val % 2) + r, by omega⟩ j) := by
    blk_point [iblk, V, idx_1 m t]
  have e : (((cfgM m (ok m)).win 2).blk t).view.emb (ix3 i r j) = ix3 ⟨t.val / 2, pos t⟩ ⟨32 * (t.val % 2) + r, by omega⟩ j := by
    blk_ext [idx_2 m t]
  rw [out_2, a, b, e]
  rfl

/-- What a run leaves. -/
theorem run (ρ : Dev nD → PrngReg) :
    θ_run defs (onTc (τ := τ) (main (F := Ideal))) ⟨m, fun _ => 0, ρ⟩ fun r => ∀ c : Dev nD,
      r.2.mem ((c.tc : Thread nD τ).loc main_v1) = (dats m (ok m) 0 c).arrAt 2 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h.1 c).1 2, h.2 c⟩) (θ_run_and (run_main m ρ (ok m)) (unchanged m ρ (ok m)))

end Cert.KernelPairSmallIdeal.Gen

namespace Cert.PairSmall
open Idealize.ShloMosaic Idealize.ShloMosaic.TcCoe Idealize.SL.Sem Cert.Pair

open Cert.KernelPairSmallIdeal Cert.KernelPairSmallIdeal.Gen in
theorem algebraic : Cert.algebraic_KernelPairSmallIdeal_ReferencePairSmallIdeal := by
  intro m ρ m' ρ' _ hagree
  refine ⟨fun c => (dats m (ok m) 0 c).arrAt 2 (cfgM m (ok m)).N, run m ρ, ?_⟩
  refine (θ_run Cert.ReferencePairSmallIdeal.defs _ _).mono (fun r h c => ⟨(h c).1.trans ?_, (h c).2⟩)
    (Cert.ReferencePairSmallIdeal.Value.run (F := Ideal) m' ρ')
  refine Eq.trans ?_ (final_2 m c).symm
  rw [(hagree c).1, (hagree c).2]
  exact total_eq _ _ _ _

end Cert.PairSmall
end
-- ==== Proof.lean ====
/- All claims, put together. -/
module

public import proofs.«01_k».proof.Defs
public import proofs.«01_k».proof.Proof.Gen.KernelPair
public import proofs.«01_k».proof.Proof.Gen.KernelPair.Skeleton
public import proofs.«01_k».proof.Proof.Gen.KernelPair.Launch
public import proofs.«01_k».proof.Proof.Gen.KernelPair.Points
public import proofs.«01_k».proof.Proof.Gen.KernelPair.Frame
public import proofs.«01_k».proof.Proof.Gen.KernelPairIdeal
public import proofs.«01_k».proof.Proof.Gen.KernelPairIdeal.Skeleton
public import proofs.«01_k».proof.Proof.Gen.KernelPairIdeal.Launch
public import proofs.«01_k».proof.Proof.Gen.KernelPairIdeal.Points
public import proofs.«01_k».proof.Proof.Gen.KernelPairIdeal.Frame
public import proofs.«01_k».proof.Proof.Gen.ReferencePairIdeal
public import proofs.«01_k».proof.Proof.Gen.ReferencePairIdeal.Run
public import proofs.«01_k».proof.Proof.Gen.KernelPairSmall
public import proofs.«01_k».proof.Proof.Gen.KernelPairSmall.Skeleton
public import proofs.«01_k».proof.Proof.Gen.KernelPairSmall.Launch
public import proofs.«01_k».proof.Proof.Gen.KernelPairSmall.Points
public import proofs.«01_k».proof.Proof.Gen.KernelPairSmall.Frame
public import proofs.«01_k».proof.Proof.Gen.KernelPairSmallIdeal
public import proofs.«01_k».proof.Proof.Gen.KernelPairSmallIdeal.Skeleton
public import proofs.«01_k».proof.Proof.Gen.KernelPairSmallIdeal.Launch
public import proofs.«01_k».proof.Proof.Gen.KernelPairSmallIdeal.Points
public import proofs.«01_k».proof.Proof.Gen.KernelPairSmallIdeal.Frame
public import proofs.«01_k».proof.Proof.Gen.ReferencePairSmallIdeal
public import proofs.«01_k».proof.Proof.Gen.ReferencePairSmallIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.KernelWin
public import proofs.«01_k».proof.Proof.Gen.KernelWin.Skeleton
public import proofs.«01_k».proof.Proof.Gen.KernelWin.Launch
public import proofs.«01_k».proof.Proof.Gen.KernelWin.Points
public import proofs.«01_k».proof.Proof.Gen.KernelWin.Frame
public import proofs.«01_k».proof.Proof.Gen.KernelWinIdeal
public import proofs.«01_k».proof.Proof.Gen.KernelWinIdeal.Skeleton
public import proofs.«01_k».proof.Proof.Gen.KernelWinIdeal.Launch
public import proofs.«01_k».proof.Proof.Gen.KernelWinIdeal.Points
public import proofs.«01_k».proof.Proof.Gen.KernelWinIdeal.Frame
public import proofs.«01_k».proof.Proof.Gen.KernelWinIdeal.Value
public import proofs.«01_k».proof.Proof.Gen.ReferenceWinIdeal
public import proofs.«01_k».proof.Proof.Gen.ReferenceWinIdeal.Run
public import proofs.«01_k».proof.Proof.Gen.KernelWout
public import proofs.«01_k».proof.Proof.Gen.KernelWout.Skeleton
public import proofs.«01_k».proof.Proof.Gen.KernelWout.Launch
public import proofs.«01_k».proof.Proof.Gen.KernelWout.Points
public import proofs.«01_k».proof.Proof.Gen.KernelWout.Frame
public import proofs.«01_k».proof.Proof.Gen.KernelWoutIdeal
public import proofs.«01_k».proof.Proof.Gen.KernelWoutIdeal.Skeleton
public import proofs.«01_k».proof.Proof.Gen.KernelWoutIdeal.Launch
public import proofs.«01_k».proof.Proof.Gen.KernelWoutIdeal.Points
public import proofs.«01_k».proof.Proof.Gen.KernelWoutIdeal.Frame
public import proofs.«01_k».proof.Proof.Gen.KernelWoutIdeal.Value
public import proofs.«01_k».proof.Proof.Gen.ReferenceWoutIdeal
public import proofs.«01_k».proof.Proof.Gen.ReferenceWoutIdeal.Run
public import proofs.«01_k».proof.Proof.Gen.KernelWgate
public import proofs.«01_k».proof.Proof.Gen.KernelWgate.Skeleton
public import proofs.«01_k».proof.Proof.Gen.KernelWgate.Launch
public import proofs.«01_k».proof.Proof.Gen.KernelWgate.Points
public import proofs.«01_k».proof.Proof.Gen.KernelWgate.Frame
public import proofs.«01_k».proof.Proof.Gen.KernelWgateIdeal
public import proofs.«01_k».proof.Proof.Gen.KernelWgateIdeal.Skeleton
public import proofs.«01_k».proof.Proof.Gen.KernelWgateIdeal.Launch
public import proofs.«01_k».proof.Proof.Gen.KernelWgateIdeal.Points
public import proofs.«01_k».proof.Proof.Gen.KernelWgateIdeal.Frame
public import proofs.«01_k».proof.Proof.Gen.KernelWgateIdeal.Value
public import proofs.«01_k».proof.Proof.Gen.ReferenceWgateIdeal
public import proofs.«01_k».proof.Proof.Gen.ReferenceWgateIdeal.Run
public import proofs.«01_k».proof.Proof.Gen.KernelWproj
public import proofs.«01_k».proof.Proof.Gen.KernelWproj.Skeleton
public import proofs.«01_k».proof.Proof.Gen.KernelWproj.Launch
public import proofs.«01_k».proof.Proof.Gen.KernelWproj.Points
public import proofs.«01_k».proof.Proof.Gen.KernelWproj.Frame
public import proofs.«01_k».proof.Proof.Gen.KernelWprojIdeal
public import proofs.«01_k».proof.Proof.Gen.KernelWprojIdeal.Skeleton
public import proofs.«01_k».proof.Proof.Gen.KernelWprojIdeal.Launch
public import proofs.«01_k».proof.Proof.Gen.KernelWprojIdeal.Points
public import proofs.«01_k».proof.Proof.Gen.KernelWprojIdeal.Frame
public import proofs.«01_k».proof.Proof.Gen.KernelWprojIdeal.Value
public import proofs.«01_k».proof.Proof.Gen.ReferenceWprojIdeal
public import proofs.«01_k».proof.Proof.Gen.ReferenceWprojIdeal.Run
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.KernelBin
public import proofs.«01_k».proof.Proof.Gen.KernelBin.Skeleton
public import proofs.«01_k».proof.Proof.Gen.KernelBin.Launch
public import proofs.«01_k».proof.Proof.Gen.KernelBin.Points
public import proofs.«01_k».proof.Proof.Gen.KernelBin.Frame
public import proofs.«01_k».proof.Proof.Gen.KernelBinIdeal
public import proofs.«01_k».proof.Proof.Gen.KernelBinIdeal.Skeleton
public import proofs.«01_k».proof.Proof.Gen.KernelBinIdeal.Launch
public import proofs.«01_k».proof.Proof.Gen.KernelBinIdeal.Points
public import proofs.«01_k».proof.Proof.Gen.KernelBinIdeal.Frame
public import proofs.«01_k».proof.Proof.Gen.KernelBinIdeal.Value
public import proofs.«01_k».proof.Proof.Gen.ReferenceBinIdeal
public import proofs.«01_k».proof.Proof.Gen.ReferenceBinIdeal.Run
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.KernelUin
public import proofs.«01_k».proof.Proof.Gen.KernelUin.Skeleton
public import proofs.«01_k».proof.Proof.Gen.KernelUin.Launch
public import proofs.«01_k».proof.Proof.Gen.KernelUin.Points
public import proofs.«01_k».proof.Proof.Gen.KernelUin.Frame
public import proofs.«01_k».proof.Proof.Gen.KernelUinIdeal
public import proofs.«01_k».proof.Proof.Gen.KernelUinIdeal.Skeleton
public import proofs.«01_k».proof.Proof.Gen.KernelUinIdeal.Launch
public import proofs.«01_k».proof.Proof.Gen.KernelUinIdeal.Points
public import proofs.«01_k».proof.Proof.Gen.KernelUinIdeal.Frame
public import proofs.«01_k».proof.Proof.Gen.KernelUinIdeal.Value
public import proofs.«01_k».proof.Proof.Gen.ReferenceUinIdeal
public import proofs.«01_k».proof.Proof.Gen.ReferenceUinIdeal.Run
public import proofs.«01_k».proof.Proof.Gen.KernelUout
public import proofs.«01_k».proof.Proof.Gen.KernelUout.Skeleton
public import proofs.«01_k».proof.Proof.Gen.KernelUout.Launch
public import proofs.«01_k».proof.Proof.Gen.KernelUout.Points
public import proofs.«01_k».proof.Proof.Gen.KernelUout.Frame
public import proofs.«01_k».proof.Proof.Gen.KernelUoutIdeal
public import proofs.«01_k».proof.Proof.Gen.KernelUoutIdeal.Skeleton
public import proofs.«01_k».proof.Proof.Gen.KernelUoutIdeal.Launch
public import proofs.«01_k».proof.Proof.Gen.KernelUoutIdeal.Points
public import proofs.«01_k».proof.Proof.Gen.KernelUoutIdeal.Frame
public import proofs.«01_k».proof.Proof.Gen.KernelUoutIdeal.Value
public import proofs.«01_k».proof.Proof.Gen.ReferenceUoutIdeal
public import proofs.«01_k».proof.Proof.Gen.ReferenceUoutIdeal.Run
public import proofs.«01_k».proof.Proof.Gen.KernelUgate
public import proofs.«01_k».proof.Proof.Gen.KernelUgate.Skeleton
public import proofs.«01_k».proof.Proof.Gen.KernelUgate.Launch
public import proofs.«01_k».proof.Proof.Gen.KernelUgate.Points
public import proofs.«01_k».proof.Proof.Gen.KernelUgate.Frame
public import proofs.«01_k».proof.Proof.Gen.KernelUgateIdeal
public import proofs.«01_k».proof.Proof.Gen.KernelUgateIdeal.Skeleton
public import proofs.«01_k».proof.Proof.Gen.KernelUgateIdeal.Launch
public import proofs.«01_k».proof.Proof.Gen.KernelUgateIdeal.Points
public import proofs.«01_k».proof.Proof.Gen.KernelUgateIdeal.Frame
public import proofs.«01_k».proof.Proof.Gen.KernelUgateIdeal.Value
public import proofs.«01_k».proof.Proof.Gen.ReferenceUgateIdeal
public import proofs.«01_k».proof.Proof.Gen.ReferenceUgateIdeal.Run
public import proofs.«01_k».proof.Proof.Gen.KernelUproj
public import proofs.«01_k».proof.Proof.Gen.KernelUproj.Skeleton
public import proofs.«01_k».proof.Proof.Gen.KernelUproj.Launch
public import proofs.«01_k».proof.Proof.Gen.KernelUproj.Points
public import proofs.«01_k».proof.Proof.Gen.KernelUproj.Frame
public import proofs.«01_k».proof.Proof.Gen.KernelUprojIdeal
public import proofs.«01_k».proof.Proof.Gen.KernelUprojIdeal.Skeleton
public import proofs.«01_k».proof.Proof.Gen.KernelUprojIdeal.Launch
public import proofs.«01_k».proof.Proof.Gen.KernelUprojIdeal.Points
public import proofs.«01_k».proof.Proof.Gen.KernelUprojIdeal.Frame
public import proofs.«01_k».proof.Proof.Gen.KernelUprojIdeal.Value
public import proofs.«01_k».proof.Proof.Gen.ReferenceUprojIdeal
public import proofs.«01_k».proof.Proof.Gen.ReferenceUprojIdeal.Run
public import proofs.«01_k».proof.Proof.Gen.KernelUsmall
public import proofs.«01_k».proof.Proof.Gen.KernelUsmall.Skeleton
public import proofs.«01_k».proof.Proof.Gen.KernelUsmall.Launch
public import proofs.«01_k».proof.Proof.Gen.KernelUsmall.Points
public import proofs.«01_k».proof.Proof.Gen.KernelUsmall.Frame
public import proofs.«01_k».proof.Proof.Gen.KernelUsmallIdeal
public import proofs.«01_k».proof.Proof.Gen.KernelUsmallIdeal.Skeleton
public import proofs.«01_k».proof.Proof.Gen.KernelUsmallIdeal.Launch
public import proofs.«01_k».proof.Proof.Gen.KernelUsmallIdeal.Points
public import proofs.«01_k».proof.Proof.Gen.KernelUsmallIdeal.Frame
public import proofs.«01_k».proof.Proof.Gen.KernelUsmallIdeal.Value
public import proofs.«01_k».proof.Proof.Gen.ReferenceUsmallIdeal
public import proofs.«01_k».proof.Proof.Gen.ReferenceUsmallIdeal.Run
public import proofs.«01_k».proof.Proof.Gen.KernelBout
public import proofs.«01_k».proof.Proof.Gen.KernelBout.Skeleton
public import proofs.«01_k».proof.Proof.Gen.KernelBout.Launch
public import proofs.«01_k».proof.Proof.Gen.KernelBout.Points
public import proofs.«01_k».proof.Proof.Gen.KernelBout.Frame
public import proofs.«01_k».proof.Proof.Gen.KernelBoutIdeal
public import proofs.«01_k».proof.Proof.Gen.KernelBoutIdeal.Skeleton
public import proofs.«01_k».proof.Proof.Gen.KernelBoutIdeal.Launch
public import proofs.«01_k».proof.Proof.Gen.KernelBoutIdeal.Points
public import proofs.«01_k».proof.Proof.Gen.KernelBoutIdeal.Frame
public import proofs.«01_k».proof.Proof.Gen.KernelBoutIdeal.Value
public import proofs.«01_k».proof.Proof.Gen.ReferenceBoutIdeal
public import proofs.«01_k».proof.Proof.Gen.ReferenceBoutIdeal.Run
public import proofs.«01_k».proof.Proof.Gen.KernelMix
public import proofs.«01_k».proof.Proof.Gen.KernelMix.Skeleton
public import proofs.«01_k».proof.Proof.Gen.KernelMix.Launch
public import proofs.«01_k».proof.Proof.Gen.KernelMix.Points
public import proofs.«01_k».proof.Proof.Gen.KernelMix.Frame
public import proofs.«01_k».proof.Proof.Gen.KernelMixIdeal
public import proofs.«01_k».proof.Proof.Gen.KernelMixIdeal.Skeleton
public import proofs.«01_k».proof.Proof.Gen.KernelMixIdeal.Launch
public import proofs.«01_k».proof.Proof.Gen.KernelMixIdeal.Points
public import proofs.«01_k».proof.Proof.Gen.KernelMixIdeal.Frame
public import proofs.«01_k».proof.Proof.Gen.KernelMixIdeal.Value
public import proofs.«01_k».proof.Proof.Gen.ReferenceMixIdeal
public import proofs.«01_k».proof.Proof.Gen.ReferenceMixIdeal.Run
public import proofs.«01_k».proof.Proof.Gen.KernelLoss
public import proofs.«01_k».proof.Proof.Gen.KernelLoss.Skeleton
public import proofs.«01_k».proof.Proof.Gen.KernelLoss.Launch
public import proofs.«01_k».proof.Proof.Gen.KernelLoss.Points
public import proofs.«01_k».proof.Proof.Gen.KernelLoss.Frame
public import proofs.«01_k».proof.Proof.Gen.KernelLossIdeal
public import proofs.«01_k».proof.Proof.Gen.KernelLossIdeal.Skeleton
public import proofs.«01_k».proof.Proof.Gen.KernelLossIdeal.Launch
public import proofs.«01_k».proof.Proof.Gen.KernelLossIdeal.Points
public import proofs.«01_k».proof.Proof.Gen.KernelLossIdeal.Frame
public import proofs.«01_k».proof.Proof.Gen.KernelLossIdeal.Value
public import proofs.«01_k».proof.Proof.Gen.ReferenceLossIdeal
public import proofs.«01_k».proof.Proof.Gen.ReferenceLossIdeal.Run
public import proofs.«01_k».proof.Proof.Gen.KernelTotal
public import proofs.«01_k».proof.Proof.Gen.KernelTotal.Skeleton
public import proofs.«01_k».proof.Proof.Gen.KernelTotal.Launch
public import proofs.«01_k».proof.Proof.Gen.KernelTotal.Points
public import proofs.«01_k».proof.Proof.Gen.KernelTotalIdeal
public import proofs.«01_k».proof.Proof.Gen.KernelTotalIdeal.Skeleton
public import proofs.«01_k».proof.Proof.Gen.KernelTotalIdeal.Launch
public import proofs.«01_k».proof.Proof.Gen.KernelTotalIdeal.Points
public import proofs.«01_k».proof.Proof.Gen.ReferenceTotalIdeal
public import proofs.«01_k».proof.Proof.Gen.ReferenceTotalIdeal.Run
public import proofs.«01_k».proof.Proof.Sgu
public import proofs.«01_k».proof.Proof.WgradIn
public import proofs.«01_k».proof.Proof.WgradOut
public import proofs.«01_k».proof.Proof.WgradGate
public import proofs.«01_k».proof.Proof.WgradProj
public import proofs.«01_k».proof.Proof.FwdIn
public import proofs.«01_k».proof.Proof.BwdIn
public import proofs.«01_k».proof.Proof.FwdOut
public import proofs.«01_k».proof.Proof.BwdOut
public import proofs.«01_k».proof.Proof.FwdSgu
public import proofs.«01_k».proof.Proof.LossHeadRef
public import proofs.«01_k».proof.Proof.TotalClaim
public import proofs.«01_k».proof.Proof.UpdateIn
public import proofs.«01_k».proof.Proof.UpdateOut
public import proofs.«01_k».proof.Proof.UpdateGate
public import proofs.«01_k».proof.Proof.UpdateProj
public import proofs.«01_k».proof.Proof.UpdateSmall
public import proofs.«01_k».proof.Proof.PairSums
public import proofs.«01_k».proof.Proof.PairSmall
public import Idealize.ShloMosaic.Adequacy
public import Idealize.ShloMosaic.Init
public import Idealize.ShloMosaic.Lib.Quiescent

@[expose] public section

noncomputable section

namespace Cert.Proof

open Idealize.ShloMosaic Idealize.SL.Sem Cert.Kernel

theorem preserves : Cert.preserves_Kernel_KernelIdeal :=
  ⟨IdealRules.named_const.statement Cert.KernelIdeal.κ "inv_sqrt2" .f32 0x3F3504F3#32 (((Real.sqrt 2)⁻¹ : ℝ) : EReal) rfl,
    IdealRules.named_const.statement Cert.KernelIdeal.κ "neg_half_log2e" .f32 0xBF38AA3B#32 ((-((2 * (Real.log 2))⁻¹) : ℝ) : EReal) rfl,
    IdealRules.named_const.statement Cert.KernelIdeal.κ "inv_sqrt_2pi" .f32 0x3ECC422A#32 (((Real.sqrt (2 * Real.pi))⁻¹ : ℝ) : EReal) rfl⟩

theorem mix_preserves : Cert.preserves_KernelMix_KernelMixIdeal :=
  IdealRules.named_const.statement Cert.KernelMixIdeal.κ "inv_sqrt2" .f32 0x3F3504F3#32 (((Real.sqrt 2)⁻¹ : ℝ) : EReal) rfl

theorem reference_quiescent : Cert.quiescent_ReferenceIdeal := fun m ρ _ =>
  (θ_run Cert.ReferenceIdeal.defs _ _).mono (fun r h => ⟨fun c => (h c).2.2.2.2.2,
    Idealize.ShloMosaic.sem_eq_zero_of_no_sems (by decide) r.2⟩)
  (Cert.ReferenceIdeal.Value.run (F := Ideal) m ρ)

theorem win_quiescent : Cert.quiescent_ReferenceWinIdeal := fun m ρ _ =>
  (θ_run Cert.ReferenceWinIdeal.defs _ _).mono (fun r h => ⟨fun c => (h c).2,
    Idealize.ShloMosaic.sem_eq_zero_of_no_sems (by decide) r.2⟩)
  (Cert.ReferenceWinIdeal.Value.run (F := Ideal) m ρ)

theorem wout_quiescent : Cert.quiescent_ReferenceWoutIdeal := fun m ρ _ =>
  (θ_run Cert.ReferenceWoutIdeal.defs _ _).mono (fun r h => ⟨fun c => (h c).2,
    Idealize.ShloMosaic.sem_eq_zero_of_no_sems (by decide) r.2⟩)
  (Cert.ReferenceWoutIdeal.Value.run (F := Ideal) m ρ)

theorem wgate_quiescent : Cert.quiescent_ReferenceWgateIdeal := fun m ρ _ =>
  (θ_run Cert.ReferenceWgateIdeal.defs _ _).mono (fun r h => ⟨fun c => (h c).2,
    Idealize.ShloMosaic.sem_eq_zero_of_no_sems (by decide) r.2⟩)
  (Cert.ReferenceWgateIdeal.Value.run (F := Ideal) m ρ)

theorem wproj_quiescent : Cert.quiescent_ReferenceWprojIdeal := fun m ρ _ =>
  (θ_run Cert.ReferenceWprojIdeal.defs _ _).mono (fun r h => ⟨fun c => (h c).2,
    Idealize.ShloMosaic.sem_eq_zero_of_no_sems (by decide) r.2⟩)
  (Cert.ReferenceWprojIdeal.Value.run (F := Ideal) m ρ)

theorem in_quiescent : Cert.quiescent_ReferenceInIdeal := fun m ρ _ =>
  (θ_run Cert.ReferenceInIdeal.defs _ _).mono (fun r h => ⟨fun c => (h c).2.2,
    Idealize.ShloMosaic.sem_eq_zero_of_no_sems (by decide) r.2⟩)
  (Cert.ReferenceInIdeal.Value.run (F := Ideal) m ρ)

theorem bin_quiescent : Cert.quiescent_ReferenceBinIdeal := fun m ρ _ =>
  (θ_run Cert.ReferenceBinIdeal.defs _ _).mono (fun r h => ⟨fun c => (h c).2.2,
    Idealize.ShloMosaic.sem_eq_zero_of_no_sems (by decide) r.2⟩)
  (Cert.ReferenceBinIdeal.Value.run (F := Ideal) m ρ)

theorem out_quiescent : Cert.quiescent_ReferenceOutIdeal := fun m ρ _ =>
  (θ_run Cert.ReferenceOutIdeal.defs _ _).mono (fun r h => ⟨fun c => (h c).2.2,
    Idealize.ShloMosaic.sem_eq_zero_of_no_sems (by decide) r.2⟩)
  (Cert.ReferenceOutIdeal.Value.run (F := Ideal) m ρ)

theorem bout_quiescent : Cert.quiescent_ReferenceBoutIdeal := fun m ρ _ =>
  (θ_run Cert.ReferenceBoutIdeal.defs _ _).mono (fun r h => ⟨fun c => (h c).2.2.2.2.2.2,
    Idealize.ShloMosaic.sem_eq_zero_of_no_sems (by decide) r.2⟩)
  (Cert.ReferenceBoutIdeal.Value.run (F := Ideal) m ρ)

theorem mix_quiescent : Cert.quiescent_ReferenceMixIdeal := fun m ρ _ =>
  (θ_run Cert.ReferenceMixIdeal.defs _ _).mono (fun r h => ⟨fun c => (h c).2,
    Idealize.ShloMosaic.sem_eq_zero_of_no_sems (by decide) r.2⟩)
  (Cert.ReferenceMixIdeal.Value.run (F := Ideal) m ρ)

theorem loss_quiescent : Cert.quiescent_ReferenceLossIdeal := fun m ρ _ =>
  (θ_run Cert.ReferenceLossIdeal.defs _ _).mono (fun r h => ⟨fun c => (h c).2.2.2,
    Idealize.ShloMosaic.sem_eq_zero_of_no_sems (by decide) r.2⟩)
  (Cert.ReferenceLossIdeal.Value.run (F := Ideal) m ρ)

theorem uin_quiescent : Cert.quiescent_ReferenceUinIdeal := fun m ρ _ =>
  (θ_run Cert.ReferenceUinIdeal.defs _ _).mono (fun r h => ⟨fun c => (h c).2.2.2.2,
    Idealize.ShloMosaic.sem_eq_zero_of_no_sems (by decide) r.2⟩)
  (Cert.ReferenceUinIdeal.Value.run (F := Ideal) m ρ)

theorem uout_quiescent : Cert.quiescent_ReferenceUoutIdeal := fun m ρ _ =>
  (θ_run Cert.ReferenceUoutIdeal.defs _ _).mono (fun r h => ⟨fun c => (h c).2.2.2.2,
    Idealize.ShloMosaic.sem_eq_zero_of_no_sems (by decide) r.2⟩)
  (Cert.ReferenceUoutIdeal.Value.run (F := Ideal) m ρ)

theorem ugate_quiescent : Cert.quiescent_ReferenceUgateIdeal := fun m ρ _ =>
  (θ_run Cert.ReferenceUgateIdeal.defs _ _).mono (fun r h => ⟨fun c => (h c).2.2.2.2,
    Idealize.ShloMosaic.sem_eq_zero_of_no_sems (by decide) r.2⟩)
  (Cert.ReferenceUgateIdeal.Value.run (F := Ideal) m ρ)

theorem uproj_quiescent : Cert.quiescent_ReferenceUprojIdeal := fun m ρ _ =>
  (θ_run Cert.ReferenceUprojIdeal.defs _ _).mono (fun r h => ⟨fun c => (h c).2.2.2.2,
    Idealize.ShloMosaic.sem_eq_zero_of_no_sems (by decide) r.2⟩)
  (Cert.ReferenceUprojIdeal.Value.run (F := Ideal) m ρ)

theorem usmall_quiescent : Cert.quiescent_ReferenceUsmallIdeal := fun m ρ _ =>
  (θ_run Cert.ReferenceUsmallIdeal.defs _ _).mono (fun r h => ⟨fun c => (h c).2.2.2.2,
    Idealize.ShloMosaic.sem_eq_zero_of_no_sems (by decide) r.2⟩)
  (Cert.ReferenceUsmallIdeal.Value.run (F := Ideal) m ρ)

theorem pair_quiescent : Cert.quiescent_ReferencePairIdeal := fun m ρ _ =>
  (θ_run Cert.ReferencePairIdeal.defs _ _).mono (fun r h => ⟨fun c => (h c).2.2.2.2,
    Idealize.ShloMosaic.sem_eq_zero_of_no_sems (by decide) r.2⟩)
  (Cert.ReferencePairIdeal.Value.run (F := Ideal) m ρ)

theorem pair_small_quiescent : Cert.quiescent_ReferencePairSmallIdeal := fun m ρ _ =>
  (θ_run Cert.ReferencePairSmallIdeal.defs _ _).mono (fun r h => ⟨fun c => (h c).2,
    Idealize.ShloMosaic.sem_eq_zero_of_no_sems (by decide) r.2⟩)
  (Cert.ReferencePairSmallIdeal.Value.run (F := Ideal) m ρ)

theorem claim : Cert.Claim :=
  ⟨Cert.Kernel.Gen.facts, Cert.KernelIdeal.Gen.facts, Cert.ReferenceIdeal.Gen.facts,
    Cert.KernelWin.Gen.facts, Cert.KernelWinIdeal.Gen.facts, Cert.ReferenceWinIdeal.Gen.facts,
    Cert.KernelWout.Gen.facts, Cert.KernelWoutIdeal.Gen.facts, Cert.ReferenceWoutIdeal.Gen.facts,
    Cert.KernelWgate.Gen.facts, Cert.KernelWgateIdeal.Gen.facts, Cert.ReferenceWgateIdeal.Gen.facts,
    Cert.KernelWproj.Gen.facts, Cert.KernelWprojIdeal.Gen.facts, Cert.ReferenceWprojIdeal.Gen.facts,
    Cert.KernelIn.Gen.facts, Cert.KernelInIdeal.Gen.facts, Cert.ReferenceInIdeal.Gen.facts,
    Cert.KernelBin.Gen.facts, Cert.KernelBinIdeal.Gen.facts, Cert.ReferenceBinIdeal.Gen.facts,
    Cert.KernelOut.Gen.facts, Cert.KernelOutIdeal.Gen.facts, Cert.ReferenceOutIdeal.Gen.facts,
    Cert.KernelBout.Gen.facts, Cert.KernelBoutIdeal.Gen.facts, Cert.ReferenceBoutIdeal.Gen.facts,
    Cert.KernelMix.Gen.facts, Cert.KernelMixIdeal.Gen.facts, Cert.ReferenceMixIdeal.Gen.facts,
    Cert.KernelLoss.Gen.facts, Cert.KernelLossIdeal.Gen.facts, Cert.ReferenceLossIdeal.Gen.facts,
    Cert.KernelTotal.Gen.facts, Cert.KernelTotalIdeal.Gen.facts, Cert.ReferenceTotalIdeal.Gen.facts,
    Cert.KernelUin.Gen.facts, Cert.KernelUinIdeal.Gen.facts, Cert.ReferenceUinIdeal.Gen.facts,
    Cert.KernelUout.Gen.facts, Cert.KernelUoutIdeal.Gen.facts, Cert.ReferenceUoutIdeal.Gen.facts,
    Cert.KernelUgate.Gen.facts, Cert.KernelUgateIdeal.Gen.facts, Cert.ReferenceUgateIdeal.Gen.facts,
    Cert.KernelUproj.Gen.facts, Cert.KernelUprojIdeal.Gen.facts, Cert.ReferenceUprojIdeal.Gen.facts,
    Cert.KernelUsmall.Gen.facts, Cert.KernelUsmallIdeal.Gen.facts, Cert.ReferenceUsmallIdeal.Gen.facts,
    Cert.KernelPair.Gen.facts, Cert.KernelPairIdeal.Gen.facts, Cert.ReferencePairIdeal.Gen.facts,
    Cert.KernelPairSmall.Gen.facts, Cert.KernelPairSmallIdeal.Gen.facts, Cert.ReferencePairSmallIdeal.Gen.facts,
    Cert.Finite.facts,
    fun m ρ _ => Cert.Kernel.Gen.frame m ρ,
    fun m ρ _ => Cert.KernelIdeal.Gen.frame m ρ,
    fun m ρ _ => Cert.KernelIdeal.Gen.frame m ρ,
    reference_quiescent,
    fun m ρ _ => reference_quiescent m ρ trivial,
    fun m ρ _ => Cert.KernelWin.Gen.frame m ρ,
    fun m ρ _ => Cert.KernelWinIdeal.Gen.frame m ρ,
    win_quiescent,
    fun m ρ _ => Cert.KernelWout.Gen.frame m ρ,
    fun m ρ _ => Cert.KernelWoutIdeal.Gen.frame m ρ,
    wout_quiescent,
    fun m ρ _ => Cert.KernelWgate.Gen.frame m ρ,
    fun m ρ _ => Cert.KernelWgateIdeal.Gen.frame m ρ,
    wgate_quiescent,
    fun m ρ _ => Cert.KernelWproj.Gen.frame m ρ,
    fun m ρ _ => Cert.KernelWprojIdeal.Gen.frame m ρ,
    wproj_quiescent,
    fun m ρ _ => Cert.KernelIn.Gen.frame m ρ,
    fun m ρ _ => Cert.KernelInIdeal.Gen.frame m ρ,
    in_quiescent,
    fun m ρ _ => Cert.KernelBin.Gen.frame m ρ,
    fun m ρ _ => Cert.KernelBinIdeal.Gen.frame m ρ,
    bin_quiescent,
    fun m ρ _ => Cert.KernelOut.Gen.frame m ρ,
    fun m ρ _ => Cert.KernelOutIdeal.Gen.frame m ρ,
    out_quiescent,
    fun m ρ _ => Cert.KernelBout.Gen.frame m ρ,
    fun m ρ _ => Cert.KernelBoutIdeal.Gen.frame m ρ,
    bout_quiescent,
    fun m ρ _ => Cert.KernelMix.Gen.frame m ρ,
    fun m ρ _ => Cert.KernelMixIdeal.Gen.frame m ρ,
    mix_quiescent,
    fun m ρ _ => Cert.KernelLoss.Gen.frame m ρ,
    fun m ρ _ => Cert.KernelLossIdeal.Gen.frame m ρ,
    loss_quiescent,
    Cert.TotalRun.frame_kernel,
    Cert.TotalRun.frame_ideal,
    Cert.TotalRun.frame_reference,
    fun m ρ _ => Cert.KernelUin.Gen.frame m ρ,
    fun m ρ _ => Cert.KernelUinIdeal.Gen.frame m ρ,
    uin_quiescent,
    fun m ρ _ => Cert.KernelUout.Gen.frame m ρ,
    fun m ρ _ => Cert.KernelUoutIdeal.Gen.frame m ρ,
    uout_quiescent,
    fun m ρ _ => Cert.KernelUgate.Gen.frame m ρ,
    fun m ρ _ => Cert.KernelUgateIdeal.Gen.frame m ρ,
    ugate_quiescent,
    fun m ρ _ => Cert.KernelUproj.Gen.frame m ρ,
    fun m ρ _ => Cert.KernelUprojIdeal.Gen.frame m ρ,
    uproj_quiescent,
    fun m ρ _ => Cert.KernelUsmall.Gen.frame m ρ,
    fun m ρ _ => Cert.KernelUsmallIdeal.Gen.frame m ρ,
    usmall_quiescent,
    fun m ρ _ => Cert.KernelPair.Gen.frame m ρ (Cert.KernelPair.Gen.ok m),
    fun m ρ _ => Cert.KernelPairIdeal.Gen.frame m ρ (Cert.KernelPairIdeal.Gen.ok m),
    pair_quiescent,
    fun m ρ _ => Cert.KernelPairSmall.Gen.frame m ρ (Cert.KernelPairSmall.Gen.ok m),
    fun m ρ _ => Cert.KernelPairSmallIdeal.Gen.frame m ρ (Cert.KernelPairSmallIdeal.Gen.ok m),
    pair_small_quiescent,
    preserves,
    Cert.Sgu.algebraic,
    trivial,
    Cert.WgradIn.algebraic,
    trivial,
    Cert.WgradOut.algebraic,
    trivial,
    Cert.WgradGate.algebraic,
    trivial,
    Cert.WgradProj.algebraic,
    trivial,
    Cert.FwdIn.algebraic,
    trivial,
    Cert.BwdIn.algebraic,
    trivial,
    Cert.FwdOut.algebraic,
    trivial,
    Cert.BwdOut.algebraic,
    mix_preserves,
    Cert.FwdSgu.algebraic,
    trivial,
    Cert.LossHead.algebraic,
    trivial,
    Cert.TotalRun.algebraic,
    trivial,
    Cert.UpdateIn.algebraic,
    trivial,
    Cert.UpdateOut.algebraic,
    trivial,
    Cert.UpdateGate.algebraic,
    trivial,
    Cert.UpdateProj.algebraic,
    trivial,
    Cert.UpdateSmall.algebraic,
    trivial,
    Cert.PairSums.algebraic,
    trivial,
    Cert.PairSmall.algebraic⟩

end Cert.Proof

end
